-- ==== Defs.lean ====
def Pre_Kernel [hPre_documents_in_tiles : Cert.Pre_documents_in_tiles.Facts] (m : (ℓ : Loc Cert.Kernel.nD Cert.Kernel.τ Cert.Kernel.sig) → Buf (Elt Bits) ℓ) : Prop :=
  ∀ c : Dev Cert.Kernel.nD,
    (Cert.Pre_documents_in_tiles.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_documents_in_tiles : Cert.Pre_documents_in_tiles.Facts] (m : (ℓ : Loc Cert.KernelIdeal.nD Cert.KernelIdeal.τ Cert.KernelIdeal.sig) → Buf (Elt Ideal) ℓ) : Prop :=
  ∀ c : Dev Cert.KernelIdeal.nD,
    (Cert.Pre_documents_in_tiles.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_documents_in_tiles : Cert.Pre_documents_in_tiles.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_documents_in_tiles.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_documents_in_tiles : Cert.Pre_documents_in_tiles.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_documents_in_tiles : Cert.Pre_documents_in_tiles.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_documents_in_tiles : Cert.Pre_documents_in_tiles.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_documents_in_tiles : Cert.Pre_documents_in_tiles.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_documents_in_tiles : Cert.Pre_documents_in_tiles.Facts),
    quiescent_Kernel (hKernel := hKernel) (hPre_documents_in_tiles := hPre_documents_in_tiles)
    ∧ quiescent_KernelIdeal (hKernelIdeal := hKernelIdeal) (hPre_documents_in_tiles := hPre_documents_in_tiles)
    ∧ quiescent_ReferenceIdeal (hReferenceIdeal := hReferenceIdeal) (hPre_documents_in_tiles := hPre_documents_in_tiles)
    ∧ preserves_Kernel_KernelIdeal
    ∧ algebraic_KernelIdeal_ReferenceIdeal (hKernelIdeal := hKernelIdeal) (hReferenceIdeal := hReferenceIdeal) (hPre_documents_in_tiles := hPre_documents_in_tiles)
-- ==== Pre_documents_in_tiles.lean ====
abbrev S8192x1024 : Shape := ⟨2, ![8192, 1024]⟩
abbrev S9 : Shape := ⟨1, ![9]⟩
abbrev S1024x1024 : Shape := ⟨2, ![1024, 1024]⟩
abbrev S1024 : Shape := ⟨1, ![1024]⟩
abbrev S8 : Shape := ⟨1, ![8]⟩
abbrev S_ : Shape := ⟨0, ![]⟩
abbrev S1 : Shape := ⟨1, ![1]⟩

class Facts : Prop where
  slices_S9_S8_0 : S9.Slices ![0] S8
  slices_S9_S8_1 : S9.Slices ![1] S8
  bcast_S_S8 : S_.BroadcastsInDim S8 (![] : Fin 0 → Fin S8.rank)
  slices_S9_S1_0 : S9.Slices ![0] S1
  shapeCasts_S1_S_ : S1.ShapeCasts S_
  slices_S9_S1_8 : S9.Slices ![8] S1

variable [Facts]

def fn_part1 {F : FTy → Type} [FloatOps F] (main_v16 : IVec S8 1) (main_v18 : IVec S_ 32) (main_c_3 : IVec S_ 32) : IVec S8 1 :=
  let main_v19 : IVec S_ 1 := cmpi .eq main_v18 main_c_3
  let main_v20 : IVec S8 1 := broadcastInDim S8 ![] bcast_S_S8 main_v19
  let main_v21 : IVec S8 1 := andi main_v16 main_v20
  main_v21

def fn {F : FTy → Type} [FloatOps F] (main_arg0 : FVec F S8192x1024 .f32) (main_arg1 : IVec S9 32) (main_arg2 : FVec F S1024x1024 .f32) (main_arg3 : FVec F S1024 .f32) : IVec S8 1 :=
  let main_v0 : IVec S8 32 := (extractStridedSlice S8 ![0] · slices_S9_S8_0) main_arg1
  let main_v1 : IVec S8 32 := (extractStridedSlice S8 ![1] · slices_S9_S8_1) main_arg1
  let main_v2 : IVec S8 1 := cmpi .sle main_v0 main_v1
  let main_v3 : IVec S8 32 := subi main_v1 main_v0
  let main_c : IVec S_ 32 := constantI S_ 32 2048#32
  let main_v4 : IVec S8 32 := broadcastInDim S8 ![] bcast_S_S8 main_c
  let main_v5 : IVec S8 1 := cmpi .sle main_v3 main_v4
  let main_v6 : IVec S8 1 := andi main_v2 main_v5
  let main_c_0 : IVec S_ 32 := constantI S_ 32 127#32
  let main_v7 : IVec S8 32 := broadcastInDim S8 ![] bcast_S_S8 main_c_0
  let main_v8 : IVec S8 32 := andi main_v1 main_v7
  let main_c_1 : IVec S_ 32 := constantI S_ 32 0#32
  let main_v9 : IVec S8 32 := broadcastInDim S8 ![] bcast_S_S8 main_c_1
  let main_v10 : IVec S8 1 := cmpi .eq main_v8 main_v9
  let main_v11 : IVec S8 1 := andi main_v6 main_v10
  let main_v12 : IVec S1 32 := (extractStridedSlice S1 ![0] · slices_S9_S1_0) main_arg1
  let main_v13 : IVec S_ 32 := shapeCast S_ main_v12 shapeCasts_S1_S_
  let main_c_2 : IVec S_ 32 := constantI S_ 32 0#32
  let main_v14 : IVec S_ 1 := cmpi .eq main_v13 main_c_2
  let main_v15 : IVec S8 1 := broadcastInDim S8 ![] bcast_S_S8 main_v14
  let main_v16 : IVec S8 1 := andi main_v11 main_v15
  let main_v17 : IVec S1 32 := (extractStridedSlice S1 ![8] · slices_S9_S1_8) main_arg1
  let main_v18 : IVec S_ 32 := shapeCast S_ main_v17 shapeCasts_S1_S_
  let main_c_3 : IVec S_ 32 := constantI S_ 32 8192#32
  fn_part1 (F := F) main_v16 main_v18 main_c_3
-- ==== Kernel.lean ====
abbrev S8192x1024 : Shape := ⟨2, ![8192, 1024]⟩
abbrev S9 : Shape := ⟨1, ![9]⟩
abbrev S1024x1024 : Shape := ⟨2, ![1024, 1024]⟩
abbrev S1024 : Shape := ⟨1, ![1024]⟩
abbrev S1x1024 : Shape := ⟨2, ![1, 1024]⟩
abbrev S8x2048x1024 : Shape := ⟨3, ![8, 2048, 1024]⟩
abbrev S32x1x512 : Shape := ⟨3, ![32, 1, 512]⟩
abbrev S10x512x1024 : Shape := ⟨3, ![10, 512, 1024]⟩
abbrev S_ : Shape := ⟨0, ![]⟩
abbrev S10 : Shape := ⟨1, ![10]⟩
abbrev S1 : Shape := ⟨1, ![1]⟩
abbrev S1x512x1024 : Shape := ⟨3, ![1, 512, 1024]⟩
abbrev S512x1024 : Shape := ⟨2, ![512, 1024]⟩
abbrev S1x128x1024 : Shape := ⟨3, ![1, 128, 1024]⟩
abbrev S128x1024 : Shape := ⟨2, ![128, 1024]⟩
abbrev S512x1 : Shape := ⟨2, ![512, 1]⟩
abbrev S1x512 : Shape := ⟨2, ![1, 512]⟩
abbrev S1x1x512 : Shape := ⟨3, ![1, 1, 512]⟩
abbrev S8x2048 : Shape := ⟨2, ![8, 2048]⟩

abbrev nBuf : Space → Nat
  | .hbm => 12
  | .vmem => 5
  | .smem => 1
  | _ => 0

abbrev bufTy : (tb : Table) → Fin (tcTables nBuf tb) → BufTy
  | .hbm, ⟨0, _⟩ => ⟨S8192x1024, .f32⟩
  | .hbm, ⟨1, _⟩ => ⟨S9, .i32⟩
  | .hbm, ⟨2, _⟩ => ⟨S1024x1024, .f32⟩
  | .hbm, ⟨3, _⟩ => ⟨S1024, .f32⟩
  | .hbm, ⟨4, _⟩ => ⟨S1x1024, .f32⟩
  | .hbm, ⟨5, _⟩ => ⟨S8x2048x1024, .f32⟩
  | .hbm, ⟨6, _⟩ => ⟨S32x1x512, .i32⟩
  | .hbm, ⟨7, _⟩ => ⟨S_, .i32⟩
  | .hbm, ⟨8, _⟩ => ⟨S32x1x512, .i32⟩
  | .hbm, ⟨9, _⟩ => ⟨S32x1x512, .i1⟩
  | .hbm, ⟨10, _⟩ => ⟨S32x1x512, .i1⟩
  | .hbm, ⟨11, _⟩ => ⟨S8x2048, .i1⟩
  | .local _ .vmem, ⟨0, _⟩ => ⟨S1x1024, .f32⟩
  | .local _ .vmem, ⟨1, _⟩ => ⟨S32x1x512, .i32⟩
  | .local _ .vmem, ⟨2, _⟩ => ⟨S10x512x1024, .f32⟩
  | .local _ .vmem, ⟨3, _⟩ => ⟨S10x512x1024, .f32⟩
  | .local _ .vmem, ⟨4, _⟩ => ⟨S1024x1024, .f32⟩
  | .local _ .smem, ⟨0, _⟩ => ⟨S9, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_mult1 (v0 : BitVec 32) : BitVec 32 :=
  let c0_i32_1732 : BitVec 32 := 0#32
  let v2752 : BitVec 32 := Scalar.addi v0 c0_i32_1732
  v2752
def k0_cond1 (v0 : BitVec 32) (v1 : BitVec 32) : BitVec 1 :=
  let v2 : BitVec 32 := Scalar.subi v1 v0
  let c512_i32 : BitVec 32 := 512#32
  let v3 : BitVec 1 := Scalar.cmpi .sge v2 c512_i32
  let v7 : BitVec 32 := Scalar.extui v3
  let c0_i32_0 : BitVec 32 := 0#32
  let v8 : BitVec 1 := Scalar.cmpi .ne v7 c0_i32_0
  v8

def k0_off1 (v0 : BitVec 32) : Fin 2 → Nat :=
  let c0_i32_1732 : BitVec 32 := 0#32
  let v2752 : BitVec 32 := Scalar.addi v0 c0_i32_1732
  let v2753 : BitVec 32 := v2752
  let c0_i32_1737 : BitVec 32 := 0#32
  ![v2753.toNat, 0]
def k0_mult2 (v0 : BitVec 32) : BitVec 32 :=
  let c0_i32_1732 : BitVec 32 := 0#32
  let v2752 : BitVec 32 := Scalar.addi v0 c0_i32_1732
  v2752
def k0_cond2 (v0 : BitVec 32) (v1 : BitVec 32) : BitVec 1 :=
  let v2 : BitVec 32 := Scalar.subi v1 v0
  let c0_i32 : BitVec 32 := 0#32
  let v4 : BitVec 1 := Scalar.cmpi .sgt v2 c0_i32
  let c512_i32 : BitVec 32 := 512#32
  let v3 : BitVec 1 := Scalar.cmpi .sge v2 c512_i32
  let v_true : BitVec 1 := 1#1
  let v5 : BitVec 1 := Scalar.xori v3 v_true
  let v6 : BitVec 1 := Scalar.andi v4 v5
  let c0_i32_1 : BitVec 32 := 0#32
  let v9 : BitVec 1 := Scalar.cmpi .sgt v2 c0_i32_1
  let v10 : BitVec 1 := Scalar.andi v6 v9
  let v11 : BitVec 32 := Scalar.extui v10
  let c0_i32_2 : BitVec 32 := 0#32
  let v12 : BitVec 1 := Scalar.cmpi .ne v11 c0_i32_2
  v12

def k0_off2 (v0 : BitVec 32) : Fin 2 → Nat :=
  let c0_i32_1732 : BitVec 32 := 0#32
  let v2752 : BitVec 32 := Scalar.addi v0 c0_i32_1732
  let v2753 : BitVec 32 := v2752
  let c0_i32_1737 : BitVec 32 := 0#32
  ![v2753.toNat, 0]
def k0_mult3 (v0 : BitVec 32) : BitVec 32 :=
  let c128_i32_1732 : BitVec 32 := 128#32
  let v2752 : BitVec 32 := Scalar.addi v0 c128_i32_1732
  v2752
def k0_cond3 (v0 : BitVec 32) (v1 : BitVec 32) : BitVec 1 :=
  let v2 : BitVec 32 := Scalar.subi v1 v0
  let c0_i32 : BitVec 32 := 0#32
  let v4 : BitVec 1 := Scalar.cmpi .sgt v2 c0_i32
  let c512_i32 : BitVec 32 := 512#32
  let v3 : BitVec 1 := Scalar.cmpi .sge v2 c512_i32
  let v_true : BitVec 1 := 1#1
  let v5 : BitVec 1 := Scalar.xori v3 v_true
  let v6 : BitVec 1 := Scalar.andi v4 v5
  let c128_i32 : BitVec 32 := 128#32
  let v13 : BitVec 1 := Scalar.cmpi .sgt v2 c128_i32
  let v14 : BitVec 1 := Scalar.andi v6 v13
  let v15 : BitVec 32 := Scalar.extui v14
  let c0_i32_3 : BitVec 32 := 0#32
  let v16 : BitVec 1 := Scalar.cmpi .ne v15 c0_i32_3
  v16

def k0_off3 (v0 : BitVec 32) : Fin 2 → Nat :=
  let c128_i32_1732 : BitVec 32 := 128#32
  let v2752 : BitVec 32 := Scalar.addi v0 c128_i32_1732
  let v2753 : BitVec 32 := v2752
  let c0_i32_1737 : BitVec 32 := 0#32
  ![v2753.toNat, 0]
def k0_mult4 (v0 : BitVec 32) : BitVec 32 :=
  let c256_i32_1732 : BitVec 32 := 256#32
  let v2752 : BitVec 32 := Scalar.addi v0 c256_i32_1732
  v2752
def k0_cond4 (v0 : BitVec 32) (v1 : BitVec 32) : BitVec 1 :=
  let v2 : BitVec 32 := Scalar.subi v1 v0
  let c0_i32 : BitVec 32 := 0#32
  let v4 : BitVec 1 := Scalar.cmpi .sgt v2 c0_i32
  let c512_i32 : BitVec 32 := 512#32
  let v3 : BitVec 1 := Scalar.cmpi .sge v2 c512_i32
  let v_true : BitVec 1 := 1#1
  let v5 : BitVec 1 := Scalar.xori v3 v_true
  let v6 : BitVec 1 := Scalar.andi v4 v5
  let c256_i32 : BitVec 32 := 256#32
  let v17 : BitVec 1 := Scalar.cmpi .sgt v2 c256_i32
  let v18 : BitVec 1 := Scalar.andi v6 v17
  let v19 : BitVec 32 := Scalar.extui v18
  let c0_i32_4 : BitVec 32 := 0#32
  let v20 : BitVec 1 := Scalar.cmpi .ne v19 c0_i32_4
  v20

def k0_off4 (v0 : BitVec 32) : Fin 2 → Nat :=
  let c256_i32_1732 : BitVec 32 := 256#32
  let v2752 : BitVec 32 := Scalar.addi v0 c256_i32_1732
  let v2753 : BitVec 32 := v2752
  let c0_i32_1737 : BitVec 32 := 0#32
  ![v2753.toNat, 0]
def k0_mult5 (v0 : BitVec 32) : BitVec 32 :=
  let c384_i32_1732 : BitVec 32 := 384#32
  let v2752 : BitVec 32 := Scalar.addi v0 c384_i32_1732
  v2752
def k0_cond5 (v0 : BitVec 32) (v1 : BitVec 32) : BitVec 1 :=
  let v2 : BitVec 32 := Scalar.subi v1 v0
  let c0_i32 : BitVec 32 := 0#32
  let v4 : BitVec 1 := Scalar.cmpi .sgt v2 c0_i32
  let c512_i32 : BitVec 32 := 512#32
  let v3 : BitVec 1 := Scalar.cmpi .sge v2 c512_i32
  let v_true : BitVec 1 := 1#1
  let v5 : BitVec 1 := Scalar.xori v3 v_true
  let v6 : BitVec 1 := Scalar.andi v4 v5
  let c384_i32 : BitVec 32 := 384#32
  let v21 : BitVec 1 := Scalar.cmpi .sgt v2 c384_i32
  let v22 : BitVec 1 := Scalar.andi v6 v21
  let v23 : BitVec 32 := Scalar.extui v22
  let c0_i32_5 : BitVec 32 := 0#32
  let v24 : BitVec 1 := Scalar.cmpi .ne v23 c0_i32_5
  v24

def k0_off5 (v0 : BitVec 32) : Fin 2 → Nat :=
  let c384_i32_1732 : BitVec 32 := 384#32
  let v2752 : BitVec 32 := Scalar.addi v0 c384_i32_1732
  let v2753 : BitVec 32 := v2752
  let c0_i32_1737 : BitVec 32 := 0#32
  ![v2753.toNat, 0]

def k0_chk1 (v0 : BitVec 32) (v1 : BitVec 32) : Prop :=
  (∀ (k0_h1 : k0_cond1 v0 v1 = 1#1), 128 ∣ (k0_mult1 v0).toNat) ∧
  (∀ (k0_h1 : k0_cond1 v0 v1 = 1#1), ∀ a, (k0_off1 v0) a + S512x1024.size a ≤ S8192x1024.size a) ∧
  (∀ (k0_h2 : k0_cond2 v0 v1 = 1#1), 128 ∣ (k0_mult2 v0).toNat) ∧
  (∀ (k0_h2 : k0_cond2 v0 v1 = 1#1), ∀ a, (k0_off2 v0) a + S128x1024.size a ≤ S8192x1024.size a) ∧
  (∀ (k0_h3 : k0_cond3 v0 v1 = 1#1), 128 ∣ (k0_mult3 v0).toNat) ∧
  (∀ (k0_h3 : k0_cond3 v0 v1 = 1#1), ∀ a, (k0_off3 v0) a + S128x1024.size a ≤ S8192x1024.size a) ∧
  (∀ (k0_h4 : k0_cond4 v0 v1 = 1#1), 128 ∣ (k0_mult4 v0).toNat) ∧
  (∀ (k0_h4 : k0_cond4 v0 v1 = 1#1), ∀ a, (k0_off4 v0) a + S128x1024.size a ≤ S8192x1024.size a) ∧
  (∀ (k0_h5 : k0_cond5 v0 v1 = 1#1), 128 ∣ (k0_mult5 v0).toNat) ∧
  (∀ (k0_h5 : k0_cond5 v0 v1 = 1#1), ∀ a, (k0_off5 v0) a + S128x1024.size a ≤ S8192x1024.size a)
theorem k0_mult1_dvd : ∀ (v0 : BitVec 32) (v1 : BitVec 32) (k0_hw1 : k0_chk1 v0 v1), ∀ (k0_h1 : k0_cond1 v0 v1 = 1#1), 128 ∣ (k0_mult1 v0).toNat := fun v0 v1 k0_hw1 k0_h1 => k0_hw1.1 k0_h1
theorem k0_off1_inb : ∀ (v0 : BitVec 32) (v1 : BitVec 32) (k0_hw1 : k0_chk1 v0 v1), ∀ (k0_h1 : k0_cond1 v0 v1 = 1#1), ∀ a, (k0_off1 v0) a + S512x1024.size a ≤ S8192x1024.size a := fun v0 v1 k0_hw1 k0_h1 => k0_hw1.2.1 k0_h1
theorem k0_mult2_dvd : ∀ (v0 : BitVec 32) (v1 : BitVec 32) (k0_hw1 : k0_chk1 v0 v1), ∀ (k0_h2 : k0_cond2 v0 v1 = 1#1), 128 ∣ (k0_mult2 v0).toNat := fun v0 v1 k0_hw1 k0_h2 => k0_hw1.2.2.1 k0_h2
theorem k0_off2_inb : ∀ (v0 : BitVec 32) (v1 : BitVec 32) (k0_hw1 : k0_chk1 v0 v1), ∀ (k0_h2 : k0_cond2 v0 v1 = 1#1), ∀ a, (k0_off2 v0) a + S128x1024.size a ≤ S8192x1024.size a := fun v0 v1 k0_hw1 k0_h2 => k0_hw1.2.2.2.1 k0_h2
theorem k0_mult3_dvd : ∀ (v0 : BitVec 32) (v1 : BitVec 32) (k0_hw1 : k0_chk1 v0 v1), ∀ (k0_h3 : k0_cond3 v0 v1 = 1#1), 128 ∣ (k0_mult3 v0).toNat := fun v0 v1 k0_hw1 k0_h3 => k0_hw1.2.2.2.2.1 k0_h3
theorem k0_off3_inb : ∀ (v0 : BitVec 32) (v1 : BitVec 32) (k0_hw1 : k0_chk1 v0 v1), ∀ (k0_h3 : k0_cond3 v0 v1 = 1#1), ∀ a, (k0_off3 v0) a + S128x1024.size a ≤ S8192x1024.size a := fun v0 v1 k0_hw1 k0_h3 => k0_hw1.2.2.2.2.2.1 k0_h3
theorem k0_mult4_dvd : ∀ (v0 : BitVec 32) (v1 : BitVec 32) (k0_hw1 : k0_chk1 v0 v1), ∀ (k0_h4 : k0_cond4 v0 v1 = 1#1), 128 ∣ (k0_mult4 v0).toNat := fun v0 v1 k0_hw1 k0_h4 => k0_hw1.2.2.2.2.2.2.1 k0_h4
theorem k0_off4_inb : ∀ (v0 : BitVec 32) (v1 : BitVec 32) (k0_hw1 : k0_chk1 v0 v1), ∀ (k0_h4 : k0_cond4 v0 v1 = 1#1), ∀ a, (k0_off4 v0) a + S128x1024.size a ≤ S8192x1024.size a := fun v0 v1 k0_hw1 k0_h4 => k0_hw1.2.2.2.2.2.2.2.1 k0_h4
theorem k0_mult5_dvd : ∀ (v0 : BitVec 32) (v1 : BitVec 32) (k0_hw1 : k0_chk1 v0 v1), ∀ (k0_h5 : k0_cond5 v0 v1 = 1#1), 128 ∣ (k0_mult5 v0).toNat := fun v0 v1 k0_hw1 k0_h5 => k0_hw1.2.2.2.2.2.2.2.2.1 k0_h5
theorem k0_off5_inb : ∀ (v0 : BitVec 32) (v1 : BitVec 32) (k0_hw1 : k0_chk1 v0 v1), ∀ (k0_h5 : k0_cond5 v0 v1 = 1#1), ∀ a, (k0_off5 v0) a + S128x1024.size a ≤ S8192x1024.size a := fun v0 v1 k0_hw1 k0_h5 => k0_hw1.2.2.2.2.2.2.2.2.2 k0_h5

def k0_mult6 (v25 : BitVec 32) : BitVec 32 :=
  let c512_i32_1732 : BitVec 32 := 512#32
  let v2752 : BitVec 32 := Scalar.addi v25 c512_i32_1732
  v2752
def k0_cond6 (v25 : BitVec 32) (v26 : BitVec 32) : BitVec 1 :=
  let v27 : BitVec 32 := Scalar.subi v26 v25
  let c1024_i32 : BitVec 32 := 1024#32
  let v28 : BitVec 1 := Scalar.cmpi .sge v27 c1024_i32
  let v32 : BitVec 32 := Scalar.extui v28
  let c0_i32_10 : BitVec 32 := 0#32
  let v33 : BitVec 1 := Scalar.cmpi .ne v32 c0_i32_10
  v33

def k0_off6 (v25 : BitVec 32) : Fin 2 → Nat :=
  let c512_i32_1732 : BitVec 32 := 512#32
  let v2752 : BitVec 32 := Scalar.addi v25 c512_i32_1732
  let v2753 : BitVec 32 := v2752
  let c0_i32_1737 : BitVec 32 := 0#32
  ![v2753.toNat, 0]
def k0_mult7 (v25 : BitVec 32) : BitVec 32 :=
  let c512_i32_1732 : BitVec 32 := 512#32
  let v2752 : BitVec 32 := Scalar.addi v25 c512_i32_1732
  v2752
def k0_cond7 (v25 : BitVec 32) (v26 : BitVec 32) : BitVec 1 :=
  let v27 : BitVec 32 := Scalar.subi v26 v25
  let c512_i32_8 : BitVec 32 := 512#32
  let v29 : BitVec 1 := Scalar.cmpi .sgt v27 c512_i32_8
  let c1024_i32 : BitVec 32 := 1024#32
  let v28 : BitVec 1 := Scalar.cmpi .sge v27 c1024_i32
  let true_9 : BitVec 1 := 1#1
  let v30 : BitVec 1 := Scalar.xori v28 true_9
  let v31 : BitVec 1 := Scalar.andi v29 v30
  let c512_i32_11 : BitVec 32 := 512#32
  let v34 : BitVec 1 := Scalar.cmpi .sgt v27 c512_i32_11
  let v35 : BitVec 1 := Scalar.andi v31 v34
  let v36 : BitVec 32 := Scalar.extui v35
  let c0_i32_12 : BitVec 32 := 0#32
  let v37 : BitVec 1 := Scalar.cmpi .ne v36 c0_i32_12
  v37

def k0_off7 (v25 : BitVec 32) : Fin 2 → Nat :=
  let c512_i32_1732 : BitVec 32 := 512#32
  let v2752 : BitVec 32 := Scalar.addi v25 c512_i32_1732
  let v2753 : BitVec 32 := v2752
  let c0_i32_1737 : BitVec 32 := 0#32
  ![v2753.toNat, 0]
def k0_mult8 (v25 : BitVec 32) : BitVec 32 :=
  let c640_i32_1732 : BitVec 32 := 640#32
  let v2752 : BitVec 32 := Scalar.addi v25 c640_i32_1732
  v2752
def k0_cond8 (v25 : BitVec 32) (v26 : BitVec 32) : BitVec 1 :=
  let v27 : BitVec 32 := Scalar.subi v26 v25
  let c512_i32_8 : BitVec 32 := 512#32
  let v29 : BitVec 1 := Scalar.cmpi .sgt v27 c512_i32_8
  let c1024_i32 : BitVec 32 := 1024#32
  let v28 : BitVec 1 := Scalar.cmpi .sge v27 c1024_i32
  let true_9 : BitVec 1 := 1#1
  let v30 : BitVec 1 := Scalar.xori v28 true_9
  let v31 : BitVec 1 := Scalar.andi v29 v30
  let c640_i32 : BitVec 32 := 640#32
  let v38 : BitVec 1 := Scalar.cmpi .sgt v27 c640_i32
  let v39 : BitVec 1 := Scalar.andi v31 v38
  let v40 : BitVec 32 := Scalar.extui v39
  let c0_i32_13 : BitVec 32 := 0#32
  let v41 : BitVec 1 := Scalar.cmpi .ne v40 c0_i32_13
  v41

def k0_off8 (v25 : BitVec 32) : Fin 2 → Nat :=
  let c640_i32_1732 : BitVec 32 := 640#32
  let v2752 : BitVec 32 := Scalar.addi v25 c640_i32_1732
  let v2753 : BitVec 32 := v2752
  let c0_i32_1737 : BitVec 32 := 0#32
  ![v2753.toNat, 0]
def k0_mult9 (v25 : BitVec 32) : BitVec 32 :=
  let c768_i32_1732 : BitVec 32 := 768#32
  let v2752 : BitVec 32 := Scalar.addi v25 c768_i32_1732
  v2752
def k0_cond9 (v25 : BitVec 32) (v26 : BitVec 32) : BitVec 1 :=
  let v27 : BitVec 32 := Scalar.subi v26 v25
  let c512_i32_8 : BitVec 32 := 512#32
  let v29 : BitVec 1 := Scalar.cmpi .sgt v27 c512_i32_8
  let c1024_i32 : BitVec 32 := 1024#32
  let v28 : BitVec 1 := Scalar.cmpi .sge v27 c1024_i32
  let true_9 : BitVec 1 := 1#1
  let v30 : BitVec 1 := Scalar.xori v28 true_9
  let v31 : BitVec 1 := Scalar.andi v29 v30
  let c768_i32 : BitVec 32 := 768#32
  let v42 : BitVec 1 := Scalar.cmpi .sgt v27 c768_i32
  let v43 : BitVec 1 := Scalar.andi v31 v42
  let v44 : BitVec 32 := Scalar.extui v43
  let c0_i32_14 : BitVec 32 := 0#32
  let v45 : BitVec 1 := Scalar.cmpi .ne v44 c0_i32_14
  v45

def k0_off9 (v25 : BitVec 32) : Fin 2 → Nat :=
  let c768_i32_1732 : BitVec 32 := 768#32
  let v2752 : BitVec 32 := Scalar.addi v25 c768_i32_1732
  let v2753 : BitVec 32 := v2752
  let c0_i32_1737 : BitVec 32 := 0#32
  ![v2753.toNat, 0]
def k0_mult10 (v25 : BitVec 32) : BitVec 32 :=
  let c896_i32_1732 : BitVec 32 := 896#32
  let v2752 : BitVec 32 := Scalar.addi v25 c896_i32_1732
  v2752
def k0_cond10 (v25 : BitVec 32) (v26 : BitVec 32) : BitVec 1 :=
  let v27 : BitVec 32 := Scalar.subi v26 v25
  let c512_i32_8 : BitVec 32 := 512#32
  let v29 : BitVec 1 := Scalar.cmpi .sgt v27 c512_i32_8
  let c1024_i32 : BitVec 32 := 1024#32
  let v28 : BitVec 1 := Scalar.cmpi .sge v27 c1024_i32
  let true_9 : BitVec 1 := 1#1
  let v30 : BitVec 1 := Scalar.xori v28 true_9
  let v31 : BitVec 1 := Scalar.andi v29 v30
  let c896_i32 : BitVec 32 := 896#32
  let v46 : BitVec 1 := Scalar.cmpi .sgt v27 c896_i32
  let v47 : BitVec 1 := Scalar.andi v31 v46
  let v48 : BitVec 32 := Scalar.extui v47
  let c0_i32_15 : BitVec 32 := 0#32
  let v49 : BitVec 1 := Scalar.cmpi .ne v48 c0_i32_15
  v49

def k0_off10 (v25 : BitVec 32) : Fin 2 → Nat :=
  let c896_i32_1732 : BitVec 32 := 896#32
  let v2752 : BitVec 32 := Scalar.addi v25 c896_i32_1732
  let v2753 : BitVec 32 := v2752
  let c0_i32_1737 : BitVec 32 := 0#32
  ![v2753.toNat, 0]

def k0_chk2 (v25 : BitVec 32) (v26 : BitVec 32) : Prop :=
  (∀ (k0_h6 : k0_cond6 v25 v26 = 1#1), 128 ∣ (k0_mult6 v25).toNat) ∧
  (∀ (k0_h6 : k0_cond6 v25 v26 = 1#1), ∀ a, (k0_off6 v25) a + S512x1024.size a ≤ S8192x1024.size a) ∧
  (∀ (k0_h7 : k0_cond7 v25 v26 = 1#1), 128 ∣ (k0_mult7 v25).toNat) ∧
  (∀ (k0_h7 : k0_cond7 v25 v26 = 1#1), ∀ a, (k0_off7 v25) a + S128x1024.size a ≤ S8192x1024.size a) ∧
  (∀ (k0_h8 : k0_cond8 v25 v26 = 1#1), 128 ∣ (k0_mult8 v25).toNat) ∧
  (∀ (k0_h8 : k0_cond8 v25 v26 = 1#1), ∀ a, (k0_off8 v25) a + S128x1024.size a ≤ S8192x1024.size a) ∧
  (∀ (k0_h9 : k0_cond9 v25 v26 = 1#1), 128 ∣ (k0_mult9 v25).toNat) ∧
  (∀ (k0_h9 : k0_cond9 v25 v26 = 1#1), ∀ a, (k0_off9 v25) a + S128x1024.size a ≤ S8192x1024.size a) ∧
  (∀ (k0_h10 : k0_cond10 v25 v26 = 1#1), 128 ∣ (k0_mult10 v25).toNat) ∧
  (∀ (k0_h10 : k0_cond10 v25 v26 = 1#1), ∀ a, (k0_off10 v25) a + S128x1024.size a ≤ S8192x1024.size a)
theorem k0_mult6_dvd : ∀ (v25 : BitVec 32) (v26 : BitVec 32) (k0_hw2 : k0_chk2 v25 v26), ∀ (k0_h6 : k0_cond6 v25 v26 = 1#1), 128 ∣ (k0_mult6 v25).toNat := fun v25 v26 k0_hw2 k0_h6 => k0_hw2.1 k0_h6
theorem k0_off6_inb : ∀ (v25 : BitVec 32) (v26 : BitVec 32) (k0_hw2 : k0_chk2 v25 v26), ∀ (k0_h6 : k0_cond6 v25 v26 = 1#1), ∀ a, (k0_off6 v25) a + S512x1024.size a ≤ S8192x1024.size a := fun v25 v26 k0_hw2 k0_h6 => k0_hw2.2.1 k0_h6
theorem k0_mult7_dvd : ∀ (v25 : BitVec 32) (v26 : BitVec 32) (k0_hw2 : k0_chk2 v25 v26), ∀ (k0_h7 : k0_cond7 v25 v26 = 1#1), 128 ∣ (k0_mult7 v25).toNat := fun v25 v26 k0_hw2 k0_h7 => k0_hw2.2.2.1 k0_h7
theorem k0_off7_inb : ∀ (v25 : BitVec 32) (v26 : BitVec 32) (k0_hw2 : k0_chk2 v25 v26), ∀ (k0_h7 : k0_cond7 v25 v26 = 1#1), ∀ a, (k0_off7 v25) a + S128x1024.size a ≤ S8192x1024.size a := fun v25 v26 k0_hw2 k0_h7 => k0_hw2.2.2.2.1 k0_h7
theorem k0_mult8_dvd : ∀ (v25 : BitVec 32) (v26 : BitVec 32) (k0_hw2 : k0_chk2 v25 v26), ∀ (k0_h8 : k0_cond8 v25 v26 = 1#1), 128 ∣ (k0_mult8 v25).toNat := fun v25 v26 k0_hw2 k0_h8 => k0_hw2.2.2.2.2.1 k0_h8
theorem k0_off8_inb : ∀ (v25 : BitVec 32) (v26 : BitVec 32) (k0_hw2 : k0_chk2 v25 v26), ∀ (k0_h8 : k0_cond8 v25 v26 = 1#1), ∀ a, (k0_off8 v25) a + S128x1024.size a ≤ S8192x1024.size a := fun v25 v26 k0_hw2 k0_h8 => k0_hw2.2.2.2.2.2.1 k0_h8
theorem k0_mult9_dvd : ∀ (v25 : BitVec 32) (v26 : BitVec 32) (k0_hw2 : k0_chk2 v25 v26), ∀ (k0_h9 : k0_cond9 v25 v26 = 1#1), 128 ∣ (k0_mult9 v25).toNat := fun v25 v26 k0_hw2 k0_h9 => k0_hw2.2.2.2.2.2.2.1 k0_h9
theorem k0_off9_inb : ∀ (v25 : BitVec 32) (v26 : BitVec 32) (k0_hw2 : k0_chk2 v25 v26), ∀ (k0_h9 : k0_cond9 v25 v26 = 1#1), ∀ a, (k0_off9 v25) a + S128x1024.size a ≤ S8192x1024.size a := fun v25 v26 k0_hw2 k0_h9 => k0_hw2.2.2.2.2.2.2.2.1 k0_h9
theorem k0_mult10_dvd : ∀ (v25 : BitVec 32) (v26 : BitVec 32) (k0_hw2 : k0_chk2 v25 v26), ∀ (k0_h10 : k0_cond10 v25 v26 = 1#1), 128 ∣ (k0_mult10 v25).toNat := fun v25 v26 k0_hw2 k0_h10 => k0_hw2.2.2.2.2.2.2.2.2.1 k0_h10
theorem k0_off10_inb : ∀ (v25 : BitVec 32) (v26 : BitVec 32) (k0_hw2 : k0_chk2 v25 v26), ∀ (k0_h10 : k0_cond10 v25 v26 = 1#1), ∀ a, (k0_off10 v25) a + S128x1024.size a ≤ S8192x1024.size a := fun v25 v26 k0_hw2 k0_h10 => k0_hw2.2.2.2.2.2.2.2.2.2 k0_h10

def k0_mult11 (v50 : BitVec 32) : BitVec 32 :=
  let c1024_i32_1732 : BitVec 32 := 1024#32
  let v2752 : BitVec 32 := Scalar.addi v50 c1024_i32_1732
  v2752
def k0_cond11 (v50 : BitVec 32) (v51 : BitVec 32) : BitVec 1 :=
  let v52 : BitVec 32 := Scalar.subi v51 v50
  let c1536_i32 : BitVec 32 := 1536#32
  let v53 : BitVec 1 := Scalar.cmpi .sge v52 c1536_i32
  let v57 : BitVec 32 := Scalar.extui v53
  let c0_i32_20 : BitVec 32 := 0#32
  let v58 : BitVec 1 := Scalar.cmpi .ne v57 c0_i32_20
  v58

def k0_off11 (v50 : BitVec 32) : Fin 2 → Nat :=
  let c1024_i32_1732 : BitVec 32 := 1024#32
  let v2752 : BitVec 32 := Scalar.addi v50 c1024_i32_1732
  let v2753 : BitVec 32 := v2752
  let c0_i32_1737 : BitVec 32 := 0#32
  ![v2753.toNat, 0]
def k0_mult12 (v50 : BitVec 32) : BitVec 32 :=
  let c1024_i32_1732 : BitVec 32 := 1024#32
  let v2752 : BitVec 32 := Scalar.addi v50 c1024_i32_1732
  v2752
def k0_cond12 (v50 : BitVec 32) (v51 : BitVec 32) : BitVec 1 :=
  let v52 : BitVec 32 := Scalar.subi v51 v50
  let c1024_i32_18 : BitVec 32 := 1024#32
  let v54 : BitVec 1 := Scalar.cmpi .sgt v52 c1024_i32_18
  let c1536_i32 : BitVec 32 := 1536#32
  let v53 : BitVec 1 := Scalar.cmpi .sge v52 c1536_i32
  let true_19 : BitVec 1 := 1#1
  let v55 : BitVec 1 := Scalar.xori v53 true_19
  let v56 : BitVec 1 := Scalar.andi v54 v55
  let c1024_i32_21 : BitVec 32 := 1024#32
  let v59 : BitVec 1 := Scalar.cmpi .sgt v52 c1024_i32_21
  let v60 : BitVec 1 := Scalar.andi v56 v59
  let v61 : BitVec 32 := Scalar.extui v60
  let c0_i32_22 : BitVec 32 := 0#32
  let v62 : BitVec 1 := Scalar.cmpi .ne v61 c0_i32_22
  v62

def k0_off12 (v50 : BitVec 32) : Fin 2 → Nat :=
  let c1024_i32_1732 : BitVec 32 := 1024#32
  let v2752 : BitVec 32 := Scalar.addi v50 c1024_i32_1732
  let v2753 : BitVec 32 := v2752
  let c0_i32_1737 : BitVec 32 := 0#32
  ![v2753.toNat, 0]
def k0_mult13 (v50 : BitVec 32) : BitVec 32 :=
  let c1152_i32_1732 : BitVec 32 := 1152#32
  let v2752 : BitVec 32 := Scalar.addi v50 c1152_i32_1732
  v2752
def k0_cond13 (v50 : BitVec 32) (v51 : BitVec 32) : BitVec 1 :=
  let v52 : BitVec 32 := Scalar.subi v51 v50
  let c1024_i32_18 : BitVec 32 := 1024#32
  let v54 : BitVec 1 := Scalar.cmpi .sgt v52 c1024_i32_18
  let c1536_i32 : BitVec 32 := 1536#32
  let v53 : BitVec 1 := Scalar.cmpi .sge v52 c1536_i32
  let true_19 : BitVec 1 := 1#1
  let v55 : BitVec 1 := Scalar.xori v53 true_19
  let v56 : BitVec 1 := Scalar.andi v54 v55
  let c1152_i32 : BitVec 32 := 1152#32
  let v63 : BitVec 1 := Scalar.cmpi .sgt v52 c1152_i32
  let v64 : BitVec 1 := Scalar.andi v56 v63
  let v65 : BitVec 32 := Scalar.extui v64
  let c0_i32_23 : BitVec 32 := 0#32
  let v66 : BitVec 1 := Scalar.cmpi .ne v65 c0_i32_23
  v66

def k0_off13 (v50 : BitVec 32) : Fin 2 → Nat :=
  let c1152_i32_1732 : BitVec 32 := 1152#32
  let v2752 : BitVec 32 := Scalar.addi v50 c1152_i32_1732
  let v2753 : BitVec 32 := v2752
  let c0_i32_1737 : BitVec 32 := 0#32
  ![v2753.toNat, 0]
def k0_mult14 (v50 : BitVec 32) : BitVec 32 :=
  let c1280_i32_1732 : BitVec 32 := 1280#32
  let v2752 : BitVec 32 := Scalar.addi v50 c1280_i32_1732
  v2752
def k0_cond14 (v50 : BitVec 32) (v51 : BitVec 32) : BitVec 1 :=
  let v52 : BitVec 32 := Scalar.subi v51 v50
  let c1024_i32_18 : BitVec 32 := 1024#32
  let v54 : BitVec 1 := Scalar.cmpi .sgt v52 c1024_i32_18
  let c1536_i32 : BitVec 32 := 1536#32
  let v53 : BitVec 1 := Scalar.cmpi .sge v52 c1536_i32
  let true_19 : BitVec 1 := 1#1
  let v55 : BitVec 1 := Scalar.xori v53 true_19
  let v56 : BitVec 1 := Scalar.andi v54 v55
  let c1280_i32 : BitVec 32 := 1280#32
  let v67 : BitVec 1 := Scalar.cmpi .sgt v52 c1280_i32
  let v68 : BitVec 1 := Scalar.andi v56 v67
  let v69 : BitVec 32 := Scalar.extui v68
  let c0_i32_24 : BitVec 32 := 0#32
  let v70 : BitVec 1 := Scalar.cmpi .ne v69 c0_i32_24
  v70

def k0_off14 (v50 : BitVec 32) : Fin 2 → Nat :=
  let c1280_i32_1732 : BitVec 32 := 1280#32
  let v2752 : BitVec 32 := Scalar.addi v50 c1280_i32_1732
  let v2753 : BitVec 32 := v2752
  let c0_i32_1737 : BitVec 32 := 0#32
  ![v2753.toNat, 0]
def k0_mult15 (v50 : BitVec 32) : BitVec 32 :=
  let c1408_i32_1732 : BitVec 32 := 1408#32
  let v2752 : BitVec 32 := Scalar.addi v50 c1408_i32_1732
  v2752
def k0_cond15 (v50 : BitVec 32) (v51 : BitVec 32) : BitVec 1 :=
  let v52 : BitVec 32 := Scalar.subi v51 v50
  let c1024_i32_18 : BitVec 32 := 1024#32
  let v54 : BitVec 1 := Scalar.cmpi .sgt v52 c1024_i32_18
  let c1536_i32 : BitVec 32 := 1536#32
  let v53 : BitVec 1 := Scalar.cmpi .sge v52 c1536_i32
  let true_19 : BitVec 1 := 1#1
  let v55 : BitVec 1 := Scalar.xori v53 true_19
  let v56 : BitVec 1 := Scalar.andi v54 v55
  let c1408_i32 : BitVec 32 := 1408#32
  let v71 : BitVec 1 := Scalar.cmpi .sgt v52 c1408_i32
  let v72 : BitVec 1 := Scalar.andi v56 v71
  let v73 : BitVec 32 := Scalar.extui v72
  let c0_i32_25 : BitVec 32 := 0#32
  let v74 : BitVec 1 := Scalar.cmpi .ne v73 c0_i32_25
  v74

def k0_off15 (v50 : BitVec 32) : Fin 2 → Nat :=
  let c1408_i32_1732 : BitVec 32 := 1408#32
  let v2752 : BitVec 32 := Scalar.addi v50 c1408_i32_1732
  let v2753 : BitVec 32 := v2752
  let c0_i32_1737 : BitVec 32 := 0#32
  ![v2753.toNat, 0]

def k0_chk3 (v50 : BitVec 32) (v51 : BitVec 32) : Prop :=
  (∀ (k0_h11 : k0_cond11 v50 v51 = 1#1), 128 ∣ (k0_mult11 v50).toNat) ∧
  (∀ (k0_h11 : k0_cond11 v50 v51 = 1#1), ∀ a, (k0_off11 v50) a + S512x1024.size a ≤ S8192x1024.size a) ∧
  (∀ (k0_h12 : k0_cond12 v50 v51 = 1#1), 128 ∣ (k0_mult12 v50).toNat) ∧
  (∀ (k0_h12 : k0_cond12 v50 v51 = 1#1), ∀ a, (k0_off12 v50) a + S128x1024.size a ≤ S8192x1024.size a) ∧
  (∀ (k0_h13 : k0_cond13 v50 v51 = 1#1), 128 ∣ (k0_mult13 v50).toNat) ∧
  (∀ (k0_h13 : k0_cond13 v50 v51 = 1#1), ∀ a, (k0_off13 v50) a + S128x1024.size a ≤ S8192x1024.size a) ∧
  (∀ (k0_h14 : k0_cond14 v50 v51 = 1#1), 128 ∣ (k0_mult14 v50).toNat) ∧
  (∀ (k0_h14 : k0_cond14 v50 v51 = 1#1), ∀ a, (k0_off14 v50) a + S128x1024.size a ≤ S8192x1024.size a) ∧
  (∀ (k0_h15 : k0_cond15 v50 v51 = 1#1), 128 ∣ (k0_mult15 v50).toNat) ∧
  (∀ (k0_h15 : k0_cond15 v50 v51 = 1#1), ∀ a, (k0_off15 v50) a + S128x1024.size a ≤ S8192x1024.size a)
theorem k0_mult11_dvd : ∀ (v50 : BitVec 32) (v51 : BitVec 32) (k0_hw3 : k0_chk3 v50 v51), ∀ (k0_h11 : k0_cond11 v50 v51 = 1#1), 128 ∣ (k0_mult11 v50).toNat := fun v50 v51 k0_hw3 k0_h11 => k0_hw3.1 k0_h11
theorem k0_off11_inb : ∀ (v50 : BitVec 32) (v51 : BitVec 32) (k0_hw3 : k0_chk3 v50 v51), ∀ (k0_h11 : k0_cond11 v50 v51 = 1#1), ∀ a, (k0_off11 v50) a + S512x1024.size a ≤ S8192x1024.size a := fun v50 v51 k0_hw3 k0_h11 => k0_hw3.2.1 k0_h11
theorem k0_mult12_dvd : ∀ (v50 : BitVec 32) (v51 : BitVec 32) (k0_hw3 : k0_chk3 v50 v51), ∀ (k0_h12 : k0_cond12 v50 v51 = 1#1), 128 ∣ (k0_mult12 v50).toNat := fun v50 v51 k0_hw3 k0_h12 => k0_hw3.2.2.1 k0_h12
theorem k0_off12_inb : ∀ (v50 : BitVec 32) (v51 : BitVec 32) (k0_hw3 : k0_chk3 v50 v51), ∀ (k0_h12 : k0_cond12 v50 v51 = 1#1), ∀ a, (k0_off12 v50) a + S128x1024.size a ≤ S8192x1024.size a := fun v50 v51 k0_hw3 k0_h12 => k0_hw3.2.2.2.1 k0_h12
theorem k0_mult13_dvd : ∀ (v50 : BitVec 32) (v51 : BitVec 32) (k0_hw3 : k0_chk3 v50 v51), ∀ (k0_h13 : k0_cond13 v50 v51 = 1#1), 128 ∣ (k0_mult13 v50).toNat := fun v50 v51 k0_hw3 k0_h13 => k0_hw3.2.2.2.2.1 k0_h13
theorem k0_off13_inb : ∀ (v50 : BitVec 32) (v51 : BitVec 32) (k0_hw3 : k0_chk3 v50 v51), ∀ (k0_h13 : k0_cond13 v50 v51 = 1#1), ∀ a, (k0_off13 v50) a + S128x1024.size a ≤ S8192x1024.size a := fun v50 v51 k0_hw3 k0_h13 => k0_hw3.2.2.2.2.2.1 k0_h13
theorem k0_mult14_dvd : ∀ (v50 : BitVec 32) (v51 : BitVec 32) (k0_hw3 : k0_chk3 v50 v51), ∀ (k0_h14 : k0_cond14 v50 v51 = 1#1), 128 ∣ (k0_mult14 v50).toNat := fun v50 v51 k0_hw3 k0_h14 => k0_hw3.2.2.2.2.2.2.1 k0_h14
theorem k0_off14_inb : ∀ (v50 : BitVec 32) (v51 : BitVec 32) (k0_hw3 : k0_chk3 v50 v51), ∀ (k0_h14 : k0_cond14 v50 v51 = 1#1), ∀ a, (k0_off14 v50) a + S128x1024.size a ≤ S8192x1024.size a := fun v50 v51 k0_hw3 k0_h14 => k0_hw3.2.2.2.2.2.2.2.1 k0_h14
theorem k0_mult15_dvd : ∀ (v50 : BitVec 32) (v51 : BitVec 32) (k0_hw3 : k0_chk3 v50 v51), ∀ (k0_h15 : k0_cond15 v50 v51 = 1#1), 128 ∣ (k0_mult15 v50).toNat := fun v50 v51 k0_hw3 k0_h15 => k0_hw3.2.2.2.2.2.2.2.2.1 k0_h15
theorem k0_off15_inb : ∀ (v50 : BitVec 32) (v51 : BitVec 32) (k0_hw3 : k0_chk3 v50 v51), ∀ (k0_h15 : k0_cond15 v50 v51 = 1#1), ∀ a, (k0_off15 v50) a + S128x1024.size a ≤ S8192x1024.size a := fun v50 v51 k0_hw3 k0_h15 => k0_hw3.2.2.2.2.2.2.2.2.2 k0_h15

def k0_mult16 (v75 : BitVec 32) : BitVec 32 :=
  let c1536_i32_1732 : BitVec 32 := 1536#32
  let v2752 : BitVec 32 := Scalar.addi v75 c1536_i32_1732
  v2752
def k0_cond16 (v75 : BitVec 32) (v76 : BitVec 32) : BitVec 1 :=
  let v77 : BitVec 32 := Scalar.subi v76 v75
  let c2048_i32 : BitVec 32 := 2048#32
  let v78 : BitVec 1 := Scalar.cmpi .sge v77 c2048_i32
  let v82 : BitVec 32 := Scalar.extui v78
  let c0_i32_30 : BitVec 32 := 0#32
  let v83 : BitVec 1 := Scalar.cmpi .ne v82 c0_i32_30
  v83

def k0_off16 (v75 : BitVec 32) : Fin 2 → Nat :=
  let c1536_i32_1732 : BitVec 32 := 1536#32
  let v2752 : BitVec 32 := Scalar.addi v75 c1536_i32_1732
  let v2753 : BitVec 32 := v2752
  let c0_i32_1737 : BitVec 32 := 0#32
  ![v2753.toNat, 0]
def k0_mult17 (v75 : BitVec 32) : BitVec 32 :=
  let c1536_i32_1732 : BitVec 32 := 1536#32
  let v2752 : BitVec 32 := Scalar.addi v75 c1536_i32_1732
  v2752
def k0_cond17 (v75 : BitVec 32) (v76 : BitVec 32) : BitVec 1 :=
  let v77 : BitVec 32 := Scalar.subi v76 v75
  let c1536_i32_28 : BitVec 32 := 1536#32
  let v79 : BitVec 1 := Scalar.cmpi .sgt v77 c1536_i32_28
  let c2048_i32 : BitVec 32 := 2048#32
  let v78 : BitVec 1 := Scalar.cmpi .sge v77 c2048_i32
  let true_29 : BitVec 1 := 1#1
  let v80 : BitVec 1 := Scalar.xori v78 true_29
  let v81 : BitVec 1 := Scalar.andi v79 v80
  let c1536_i32_31 : BitVec 32 := 1536#32
  let v84 : BitVec 1 := Scalar.cmpi .sgt v77 c1536_i32_31
  let v85 : BitVec 1 := Scalar.andi v81 v84
  let v86 : BitVec 32 := Scalar.extui v85
  let c0_i32_32 : BitVec 32 := 0#32
  let v87 : BitVec 1 := Scalar.cmpi .ne v86 c0_i32_32
  v87

def k0_off17 (v75 : BitVec 32) : Fin 2 → Nat :=
  let c1536_i32_1732 : BitVec 32 := 1536#32
  let v2752 : BitVec 32 := Scalar.addi v75 c1536_i32_1732
  let v2753 : BitVec 32 := v2752
  let c0_i32_1737 : BitVec 32 := 0#32
  ![v2753.toNat, 0]
def k0_mult18 (v75 : BitVec 32) : BitVec 32 :=
  let c1664_i32_1732 : BitVec 32 := 1664#32
  let v2752 : BitVec 32 := Scalar.addi v75 c1664_i32_1732
  v2752
def k0_cond18 (v75 : BitVec 32) (v76 : BitVec 32) : BitVec 1 :=
  let v77 : BitVec 32 := Scalar.subi v76 v75
  let c1536_i32_28 : BitVec 32 := 1536#32
  let v79 : BitVec 1 := Scalar.cmpi .sgt v77 c1536_i32_28
  let c2048_i32 : BitVec 32 := 2048#32
  let v78 : BitVec 1 := Scalar.cmpi .sge v77 c2048_i32
  let true_29 : BitVec 1 := 1#1
  let v80 : BitVec 1 := Scalar.xori v78 true_29
  let v81 : BitVec 1 := Scalar.andi v79 v80
  let c1664_i32 : BitVec 32 := 1664#32
  let v88 : BitVec 1 := Scalar.cmpi .sgt v77 c1664_i32
  let v89 : BitVec 1 := Scalar.andi v81 v88
  let v90 : BitVec 32 := Scalar.extui v89
  let c0_i32_33 : BitVec 32 := 0#32
  let v91 : BitVec 1 := Scalar.cmpi .ne v90 c0_i32_33
  v91

def k0_off18 (v75 : BitVec 32) : Fin 2 → Nat :=
  let c1664_i32_1732 : BitVec 32 := 1664#32
  let v2752 : BitVec 32 := Scalar.addi v75 c1664_i32_1732
  let v2753 : BitVec 32 := v2752
  let c0_i32_1737 : BitVec 32 := 0#32
  ![v2753.toNat, 0]
def k0_mult19 (v75 : BitVec 32) : BitVec 32 :=
  let c1792_i32_1732 : BitVec 32 := 1792#32
  let v2752 : BitVec 32 := Scalar.addi v75 c1792_i32_1732
  v2752
def k0_cond19 (v75 : BitVec 32) (v76 : BitVec 32) : BitVec 1 :=
  let v77 : BitVec 32 := Scalar.subi v76 v75
  let c1536_i32_28 : BitVec 32 := 1536#32
  let v79 : BitVec 1 := Scalar.cmpi .sgt v77 c1536_i32_28
  let c2048_i32 : BitVec 32 := 2048#32
  let v78 : BitVec 1 := Scalar.cmpi .sge v77 c2048_i32
  let true_29 : BitVec 1 := 1#1
  let v80 : BitVec 1 := Scalar.xori v78 true_29
  let v81 : BitVec 1 := Scalar.andi v79 v80
  let c1792_i32 : BitVec 32 := 1792#32
  let v92 : BitVec 1 := Scalar.cmpi .sgt v77 c1792_i32
  let v93 : BitVec 1 := Scalar.andi v81 v92
  let v94 : BitVec 32 := Scalar.extui v93
  let c0_i32_34 : BitVec 32 := 0#32
  let v95 : BitVec 1 := Scalar.cmpi .ne v94 c0_i32_34
  v95

def k0_off19 (v75 : BitVec 32) : Fin 2 → Nat :=
  let c1792_i32_1732 : BitVec 32 := 1792#32
  let v2752 : BitVec 32 := Scalar.addi v75 c1792_i32_1732
  let v2753 : BitVec 32 := v2752
  let c0_i32_1737 : BitVec 32 := 0#32
  ![v2753.toNat, 0]
def k0_mult20 (v75 : BitVec 32) : BitVec 32 :=
  let c1920_i32_1732 : BitVec 32 := 1920#32
  let v2752 : BitVec 32 := Scalar.addi v75 c1920_i32_1732
  v2752
def k0_cond20 (v75 : BitVec 32) (v76 : BitVec 32) : BitVec 1 :=
  let v77 : BitVec 32 := Scalar.subi v76 v75
  let c1536_i32_28 : BitVec 32 := 1536#32
  let v79 : BitVec 1 := Scalar.cmpi .sgt v77 c1536_i32_28
  let c2048_i32 : BitVec 32 := 2048#32
  let v78 : BitVec 1 := Scalar.cmpi .sge v77 c2048_i32
  let true_29 : BitVec 1 := 1#1
  let v80 : BitVec 1 := Scalar.xori v78 true_29
  let v81 : BitVec 1 := Scalar.andi v79 v80
  let c1920_i32 : BitVec 32 := 1920#32
  let v96 : BitVec 1 := Scalar.cmpi .sgt v77 c1920_i32
  let v97 : BitVec 1 := Scalar.andi v81 v96
  let v98 : BitVec 32 := Scalar.extui v97
  let c0_i32_35 : BitVec 32 := 0#32
  let v99 : BitVec 1 := Scalar.cmpi .ne v98 c0_i32_35
  v99

def k0_off20 (v75 : BitVec 32) : Fin 2 → Nat :=
  let c1920_i32_1732 : BitVec 32 := 1920#32
  let v2752 : BitVec 32 := Scalar.addi v75 c1920_i32_1732
  let v2753 : BitVec 32 := v2752
  let c0_i32_1737 : BitVec 32 := 0#32
  ![v2753.toNat, 0]

def k0_chk4 (v75 : BitVec 32) (v76 : BitVec 32) : Prop :=
  (∀ (k0_h16 : k0_cond16 v75 v76 = 1#1), 128 ∣ (k0_mult16 v75).toNat) ∧
  (∀ (k0_h16 : k0_cond16 v75 v76 = 1#1), ∀ a, (k0_off16 v75) a + S512x1024.size a ≤ S8192x1024.size a) ∧
  (∀ (k0_h17 : k0_cond17 v75 v76 = 1#1), 128 ∣ (k0_mult17 v75).toNat) ∧
  (∀ (k0_h17 : k0_cond17 v75 v76 = 1#1), ∀ a, (k0_off17 v75) a + S128x1024.size a ≤ S8192x1024.size a) ∧
  (∀ (k0_h18 : k0_cond18 v75 v76 = 1#1), 128 ∣ (k0_mult18 v75).toNat) ∧
  (∀ (k0_h18 : k0_cond18 v75 v76 = 1#1), ∀ a, (k0_off18 v75) a + S128x1024.size a ≤ S8192x1024.size a) ∧
  (∀ (k0_h19 : k0_cond19 v75 v76 = 1#1), 128 ∣ (k0_mult19 v75).toNat) ∧
  (∀ (k0_h19 : k0_cond19 v75 v76 = 1#1), ∀ a, (k0_off19 v75) a + S128x1024.size a ≤ S8192x1024.size a) ∧
  (∀ (k0_h20 : k0_cond20 v75 v76 = 1#1), 128 ∣ (k0_mult20 v75).toNat) ∧
  (∀ (k0_h20 : k0_cond20 v75 v76 = 1#1), ∀ a, (k0_off20 v75) a + S128x1024.size a ≤ S8192x1024.size a)
theorem k0_mult16_dvd : ∀ (v75 : BitVec 32) (v76 : BitVec 32) (k0_hw4 : k0_chk4 v75 v76), ∀ (k0_h16 : k0_cond16 v75 v76 = 1#1), 128 ∣ (k0_mult16 v75).toNat := fun v75 v76 k0_hw4 k0_h16 => k0_hw4.1 k0_h16
theorem k0_off16_inb : ∀ (v75 : BitVec 32) (v76 : BitVec 32) (k0_hw4 : k0_chk4 v75 v76), ∀ (k0_h16 : k0_cond16 v75 v76 = 1#1), ∀ a, (k0_off16 v75) a + S512x1024.size a ≤ S8192x1024.size a := fun v75 v76 k0_hw4 k0_h16 => k0_hw4.2.1 k0_h16
theorem k0_mult17_dvd : ∀ (v75 : BitVec 32) (v76 : BitVec 32) (k0_hw4 : k0_chk4 v75 v76), ∀ (k0_h17 : k0_cond17 v75 v76 = 1#1), 128 ∣ (k0_mult17 v75).toNat := fun v75 v76 k0_hw4 k0_h17 => k0_hw4.2.2.1 k0_h17
theorem k0_off17_inb : ∀ (v75 : BitVec 32) (v76 : BitVec 32) (k0_hw4 : k0_chk4 v75 v76), ∀ (k0_h17 : k0_cond17 v75 v76 = 1#1), ∀ a, (k0_off17 v75) a + S128x1024.size a ≤ S8192x1024.size a := fun v75 v76 k0_hw4 k0_h17 => k0_hw4.2.2.2.1 k0_h17
theorem k0_mult18_dvd : ∀ (v75 : BitVec 32) (v76 : BitVec 32) (k0_hw4 : k0_chk4 v75 v76), ∀ (k0_h18 : k0_cond18 v75 v76 = 1#1), 128 ∣ (k0_mult18 v75).toNat := fun v75 v76 k0_hw4 k0_h18 => k0_hw4.2.2.2.2.1 k0_h18
theorem k0_off18_inb : ∀ (v75 : BitVec 32) (v76 : BitVec 32) (k0_hw4 : k0_chk4 v75 v76), ∀ (k0_h18 : k0_cond18 v75 v76 = 1#1), ∀ a, (k0_off18 v75) a + S128x1024.size a ≤ S8192x1024.size a := fun v75 v76 k0_hw4 k0_h18 => k0_hw4.2.2.2.2.2.1 k0_h18
theorem k0_mult19_dvd : ∀ (v75 : BitVec 32) (v76 : BitVec 32) (k0_hw4 : k0_chk4 v75 v76), ∀ (k0_h19 : k0_cond19 v75 v76 = 1#1), 128 ∣ (k0_mult19 v75).toNat := fun v75 v76 k0_hw4 k0_h19 => k0_hw4.2.2.2.2.2.2.1 k0_h19
theorem k0_off19_inb : ∀ (v75 : BitVec 32) (v76 : BitVec 32) (k0_hw4 : k0_chk4 v75 v76), ∀ (k0_h19 : k0_cond19 v75 v76 = 1#1), ∀ a, (k0_off19 v75) a + S128x1024.size a ≤ S8192x1024.size a := fun v75 v76 k0_hw4 k0_h19 => k0_hw4.2.2.2.2.2.2.2.1 k0_h19
theorem k0_mult20_dvd : ∀ (v75 : BitVec 32) (v76 : BitVec 32) (k0_hw4 : k0_chk4 v75 v76), ∀ (k0_h20 : k0_cond20 v75 v76 = 1#1), 128 ∣ (k0_mult20 v75).toNat := fun v75 v76 k0_hw4 k0_h20 => k0_hw4.2.2.2.2.2.2.2.2.1 k0_h20
theorem k0_off20_inb : ∀ (v75 : BitVec 32) (v76 : BitVec 32) (k0_hw4 : k0_chk4 v75 v76), ∀ (k0_h20 : k0_cond20 v75 v76 = 1#1), ∀ a, (k0_off20 v75) a + S128x1024.size a ≤ S8192x1024.size a := fun v75 v76 k0_hw4 k0_h20 => k0_hw4.2.2.2.2.2.2.2.2.2 k0_h20

def k0_mult21 (v100 : BitVec 32) : BitVec 32 :=
  let c0_i32_1732 : BitVec 32 := 0#32
  let v2752 : BitVec 32 := Scalar.addi v100 c0_i32_1732
  v2752
def k0_cond21 (v100 : BitVec 32) (v101 : BitVec 32) : BitVec 1 :=
  let v102 : BitVec 32 := Scalar.subi v101 v100
  let c512_i32_37 : BitVec 32 := 512#32
  let v103 : BitVec 1 := Scalar.cmpi .sge v102 c512_i32_37
  let v107 : BitVec 32 := Scalar.extui v103
  let c0_i32_40 : BitVec 32 := 0#32
  let v108 : BitVec 1 := Scalar.cmpi .ne v107 c0_i32_40
  v108

def k0_off21 (v100 : BitVec 32) : Fin 2 → Nat :=
  let c0_i32_1732 : BitVec 32 := 0#32
  let v2752 : BitVec 32 := Scalar.addi v100 c0_i32_1732
  let v2753 : BitVec 32 := v2752
  let c0_i32_1737 : BitVec 32 := 0#32
  ![v2753.toNat, 0]
def k0_mult22 (v100 : BitVec 32) : BitVec 32 :=
  let c0_i32_1732 : BitVec 32 := 0#32
  let v2752 : BitVec 32 := Scalar.addi v100 c0_i32_1732
  v2752
def k0_cond22 (v100 : BitVec 32) (v101 : BitVec 32) : BitVec 1 :=
  let v102 : BitVec 32 := Scalar.subi v101 v100
  let c0_i32_38 : BitVec 32 := 0#32
  let v104 : BitVec 1 := Scalar.cmpi .sgt v102 c0_i32_38
  let c512_i32_37 : BitVec 32 := 512#32
  let v103 : BitVec 1 := Scalar.cmpi .sge v102 c512_i32_37
  let true_39 : BitVec 1 := 1#1
  let v105 : BitVec 1 := Scalar.xori v103 true_39
  let v106 : BitVec 1 := Scalar.andi v104 v105
  let c0_i32_41 : BitVec 32 := 0#32
  let v109 : BitVec 1 := Scalar.cmpi .sgt v102 c0_i32_41
  let v110 : BitVec 1 := Scalar.andi v106 v109
  let v111 : BitVec 32 := Scalar.extui v110
  let c0_i32_42 : BitVec 32 := 0#32
  let v112 : BitVec 1 := Scalar.cmpi .ne v111 c0_i32_42
  v112

def k0_off22 (v100 : BitVec 32) : Fin 2 → Nat :=
  let c0_i32_1732 : BitVec 32 := 0#32
  let v2752 : BitVec 32 := Scalar.addi v100 c0_i32_1732
  let v2753 : BitVec 32 := v2752
  let c0_i32_1737 : BitVec 32 := 0#32
  ![v2753.toNat, 0]
def k0_mult23 (v100 : BitVec 32) : BitVec 32 :=
  let c128_i32_1732 : BitVec 32 := 128#32
  let v2752 : BitVec 32 := Scalar.addi v100 c128_i32_1732
  v2752
def k0_cond23 (v100 : BitVec 32) (v101 : BitVec 32) : BitVec 1 :=
  let v102 : BitVec 32 := Scalar.subi v101 v100
  let c0_i32_38 : BitVec 32 := 0#32
  let v104 : BitVec 1 := Scalar.cmpi .sgt v102 c0_i32_38
  let c512_i32_37 : BitVec 32 := 512#32
  let v103 : BitVec 1 := Scalar.cmpi .sge v102 c512_i32_37
  let true_39 : BitVec 1 := 1#1
  let v105 : BitVec 1 := Scalar.xori v103 true_39
  let v106 : BitVec 1 := Scalar.andi v104 v105
  let c128_i32_43 : BitVec 32 := 128#32
  let v113 : BitVec 1 := Scalar.cmpi .sgt v102 c128_i32_43
  let v114 : BitVec 1 := Scalar.andi v106 v113
  let v115 : BitVec 32 := Scalar.extui v114
  let c0_i32_44 : BitVec 32 := 0#32
  let v116 : BitVec 1 := Scalar.cmpi .ne v115 c0_i32_44
  v116

def k0_off23 (v100 : BitVec 32) : Fin 2 → Nat :=
  let c128_i32_1732 : BitVec 32 := 128#32
  let v2752 : BitVec 32 := Scalar.addi v100 c128_i32_1732
  let v2753 : BitVec 32 := v2752
  let c0_i32_1737 : BitVec 32 := 0#32
  ![v2753.toNat, 0]
def k0_mult24 (v100 : BitVec 32) : BitVec 32 :=
  let c256_i32_1732 : BitVec 32 := 256#32
  let v2752 : BitVec 32 := Scalar.addi v100 c256_i32_1732
  v2752
def k0_cond24 (v100 : BitVec 32) (v101 : BitVec 32) : BitVec 1 :=
  let v102 : BitVec 32 := Scalar.subi v101 v100
  let c0_i32_38 : BitVec 32 := 0#32
  let v104 : BitVec 1 := Scalar.cmpi .sgt v102 c0_i32_38
  let c512_i32_37 : BitVec 32 := 512#32
  let v103 : BitVec 1 := Scalar.cmpi .sge v102 c512_i32_37
  let true_39 : BitVec 1 := 1#1
  let v105 : BitVec 1 := Scalar.xori v103 true_39
  let v106 : BitVec 1 := Scalar.andi v104 v105
  let c256_i32_45 : BitVec 32 := 256#32
  let v117 : BitVec 1 := Scalar.cmpi .sgt v102 c256_i32_45
  let v118 : BitVec 1 := Scalar.andi v106 v117
  let v119 : BitVec 32 := Scalar.extui v118
  let c0_i32_46 : BitVec 32 := 0#32
  let v120 : BitVec 1 := Scalar.cmpi .ne v119 c0_i32_46
  v120

def k0_off24 (v100 : BitVec 32) : Fin 2 → Nat :=
  let c256_i32_1732 : BitVec 32 := 256#32
  let v2752 : BitVec 32 := Scalar.addi v100 c256_i32_1732
  let v2753 : BitVec 32 := v2752
  let c0_i32_1737 : BitVec 32 := 0#32
  ![v2753.toNat, 0]
def k0_mult25 (v100 : BitVec 32) : BitVec 32 :=
  let c384_i32_1732 : BitVec 32 := 384#32
  let v2752 : BitVec 32 := Scalar.addi v100 c384_i32_1732
  v2752
def k0_cond25 (v100 : BitVec 32) (v101 : BitVec 32) : BitVec 1 :=
  let v102 : BitVec 32 := Scalar.subi v101 v100
  let c0_i32_38 : BitVec 32 := 0#32
  let v104 : BitVec 1 := Scalar.cmpi .sgt v102 c0_i32_38
  let c512_i32_37 : BitVec 32 := 512#32
  let v103 : BitVec 1 := Scalar.cmpi .sge v102 c512_i32_37
  let true_39 : BitVec 1 := 1#1
  let v105 : BitVec 1 := Scalar.xori v103 true_39
  let v106 : BitVec 1 := Scalar.andi v104 v105
  let c384_i32_47 : BitVec 32 := 384#32
  let v121 : BitVec 1 := Scalar.cmpi .sgt v102 c384_i32_47
  let v122 : BitVec 1 := Scalar.andi v106 v121
  let v123 : BitVec 32 := Scalar.extui v122
  let c0_i32_48 : BitVec 32 := 0#32
  let v124 : BitVec 1 := Scalar.cmpi .ne v123 c0_i32_48
  v124

def k0_off25 (v100 : BitVec 32) : Fin 2 → Nat :=
  let c384_i32_1732 : BitVec 32 := 384#32
  let v2752 : BitVec 32 := Scalar.addi v100 c384_i32_1732
  let v2753 : BitVec 32 := v2752
  let c0_i32_1737 : BitVec 32 := 0#32
  ![v2753.toNat, 0]

def k0_chk5 (v100 : BitVec 32) (v101 : BitVec 32) : Prop :=
  (∀ (k0_h21 : k0_cond21 v100 v101 = 1#1), 128 ∣ (k0_mult21 v100).toNat) ∧
  (∀ (k0_h21 : k0_cond21 v100 v101 = 1#1), ∀ a, (k0_off21 v100) a + S512x1024.size a ≤ S8192x1024.size a) ∧
  (∀ (k0_h22 : k0_cond22 v100 v101 = 1#1), 128 ∣ (k0_mult22 v100).toNat) ∧
  (∀ (k0_h22 : k0_cond22 v100 v101 = 1#1), ∀ a, (k0_off22 v100) a + S128x1024.size a ≤ S8192x1024.size a) ∧
  (∀ (k0_h23 : k0_cond23 v100 v101 = 1#1), 128 ∣ (k0_mult23 v100).toNat) ∧
  (∀ (k0_h23 : k0_cond23 v100 v101 = 1#1), ∀ a, (k0_off23 v100) a + S128x1024.size a ≤ S8192x1024.size a) ∧
  (∀ (k0_h24 : k0_cond24 v100 v101 = 1#1), 128 ∣ (k0_mult24 v100).toNat) ∧
  (∀ (k0_h24 : k0_cond24 v100 v101 = 1#1), ∀ a, (k0_off24 v100) a + S128x1024.size a ≤ S8192x1024.size a) ∧
  (∀ (k0_h25 : k0_cond25 v100 v101 = 1#1), 128 ∣ (k0_mult25 v100).toNat) ∧
  (∀ (k0_h25 : k0_cond25 v100 v101 = 1#1), ∀ a, (k0_off25 v100) a + S128x1024.size a ≤ S8192x1024.size a)
theorem k0_mult21_dvd : ∀ (v100 : BitVec 32) (v101 : BitVec 32) (k0_hw5 : k0_chk5 v100 v101), ∀ (k0_h21 : k0_cond21 v100 v101 = 1#1), 128 ∣ (k0_mult21 v100).toNat := fun v100 v101 k0_hw5 k0_h21 => k0_hw5.1 k0_h21
theorem k0_off21_inb : ∀ (v100 : BitVec 32) (v101 : BitVec 32) (k0_hw5 : k0_chk5 v100 v101), ∀ (k0_h21 : k0_cond21 v100 v101 = 1#1), ∀ a, (k0_off21 v100) a + S512x1024.size a ≤ S8192x1024.size a := fun v100 v101 k0_hw5 k0_h21 => k0_hw5.2.1 k0_h21
theorem k0_mult22_dvd : ∀ (v100 : BitVec 32) (v101 : BitVec 32) (k0_hw5 : k0_chk5 v100 v101), ∀ (k0_h22 : k0_cond22 v100 v101 = 1#1), 128 ∣ (k0_mult22 v100).toNat := fun v100 v101 k0_hw5 k0_h22 => k0_hw5.2.2.1 k0_h22
theorem k0_off22_inb : ∀ (v100 : BitVec 32) (v101 : BitVec 32) (k0_hw5 : k0_chk5 v100 v101), ∀ (k0_h22 : k0_cond22 v100 v101 = 1#1), ∀ a, (k0_off22 v100) a + S128x1024.size a ≤ S8192x1024.size a := fun v100 v101 k0_hw5 k0_h22 => k0_hw5.2.2.2.1 k0_h22
theorem k0_mult23_dvd : ∀ (v100 : BitVec 32) (v101 : BitVec 32) (k0_hw5 : k0_chk5 v100 v101), ∀ (k0_h23 : k0_cond23 v100 v101 = 1#1), 128 ∣ (k0_mult23 v100).toNat := fun v100 v101 k0_hw5 k0_h23 => k0_hw5.2.2.2.2.1 k0_h23
theorem k0_off23_inb : ∀ (v100 : BitVec 32) (v101 : BitVec 32) (k0_hw5 : k0_chk5 v100 v101), ∀ (k0_h23 : k0_cond23 v100 v101 = 1#1), ∀ a, (k0_off23 v100) a + S128x1024.size a ≤ S8192x1024.size a := fun v100 v101 k0_hw5 k0_h23 => k0_hw5.2.2.2.2.2.1 k0_h23
theorem k0_mult24_dvd : ∀ (v100 : BitVec 32) (v101 : BitVec 32) (k0_hw5 : k0_chk5 v100 v101), ∀ (k0_h24 : k0_cond24 v100 v101 = 1#1), 128 ∣ (k0_mult24 v100).toNat := fun v100 v101 k0_hw5 k0_h24 => k0_hw5.2.2.2.2.2.2.1 k0_h24
theorem k0_off24_inb : ∀ (v100 : BitVec 32) (v101 : BitVec 32) (k0_hw5 : k0_chk5 v100 v101), ∀ (k0_h24 : k0_cond24 v100 v101 = 1#1), ∀ a, (k0_off24 v100) a + S128x1024.size a ≤ S8192x1024.size a := fun v100 v101 k0_hw5 k0_h24 => k0_hw5.2.2.2.2.2.2.2.1 k0_h24
theorem k0_mult25_dvd : ∀ (v100 : BitVec 32) (v101 : BitVec 32) (k0_hw5 : k0_chk5 v100 v101), ∀ (k0_h25 : k0_cond25 v100 v101 = 1#1), 128 ∣ (k0_mult25 v100).toNat := fun v100 v101 k0_hw5 k0_h25 => k0_hw5.2.2.2.2.2.2.2.2.1 k0_h25
theorem k0_off25_inb : ∀ (v100 : BitVec 32) (v101 : BitVec 32) (k0_hw5 : k0_chk5 v100 v101), ∀ (k0_h25 : k0_cond25 v100 v101 = 1#1), ∀ a, (k0_off25 v100) a + S128x1024.size a ≤ S8192x1024.size a := fun v100 v101 k0_hw5 k0_h25 => k0_hw5.2.2.2.2.2.2.2.2.2 k0_h25

def k0_mult26 (v125 : BitVec 32) : BitVec 32 :=
  let c512_i32_1732 : BitVec 32 := 512#32
  let v2752 : BitVec 32 := Scalar.addi v125 c512_i32_1732
  v2752
def k0_cond26 (v125 : BitVec 32) (v126 : BitVec 32) : BitVec 1 :=
  let v127 : BitVec 32 := Scalar.subi v126 v125
  let c1024_i32_51 : BitVec 32 := 1024#32
  let v128 : BitVec 1 := Scalar.cmpi .sge v127 c1024_i32_51
  let v132 : BitVec 32 := Scalar.extui v128
  let c0_i32_54 : BitVec 32 := 0#32
  let v133 : BitVec 1 := Scalar.cmpi .ne v132 c0_i32_54
  v133

def k0_off26 (v125 : BitVec 32) : Fin 2 → Nat :=
  let c512_i32_1732 : BitVec 32 := 512#32
  let v2752 : BitVec 32 := Scalar.addi v125 c512_i32_1732
  let v2753 : BitVec 32 := v2752
  let c0_i32_1737 : BitVec 32 := 0#32
  ![v2753.toNat, 0]
def k0_mult27 (v125 : BitVec 32) : BitVec 32 :=
  let c512_i32_1732 : BitVec 32 := 512#32
  let v2752 : BitVec 32 := Scalar.addi v125 c512_i32_1732
  v2752
def k0_cond27 (v125 : BitVec 32) (v126 : BitVec 32) : BitVec 1 :=
  let v127 : BitVec 32 := Scalar.subi v126 v125
  let c512_i32_52 : BitVec 32 := 512#32
  let v129 : BitVec 1 := Scalar.cmpi .sgt v127 c512_i32_52
  let c1024_i32_51 : BitVec 32 := 1024#32
  let v128 : BitVec 1 := Scalar.cmpi .sge v127 c1024_i32_51
  let true_53 : BitVec 1 := 1#1
  let v130 : BitVec 1 := Scalar.xori v128 true_53
  let v131 : BitVec 1 := Scalar.andi v129 v130
  let c512_i32_55 : BitVec 32 := 512#32
  let v134 : BitVec 1 := Scalar.cmpi .sgt v127 c512_i32_55
  let v135 : BitVec 1 := Scalar.andi v131 v134
  let v136 : BitVec 32 := Scalar.extui v135
  let c0_i32_56 : BitVec 32 := 0#32
  let v137 : BitVec 1 := Scalar.cmpi .ne v136 c0_i32_56
  v137

def k0_off27 (v125 : BitVec 32) : Fin 2 → Nat :=
  let c512_i32_1732 : BitVec 32 := 512#32
  let v2752 : BitVec 32 := Scalar.addi v125 c512_i32_1732
  let v2753 : BitVec 32 := v2752
  let c0_i32_1737 : BitVec 32 := 0#32
  ![v2753.toNat, 0]
def k0_mult28 (v125 : BitVec 32) : BitVec 32 :=
  let c640_i32_1732 : BitVec 32 := 640#32
  let v2752 : BitVec 32 := Scalar.addi v125 c640_i32_1732
  v2752
def k0_cond28 (v125 : BitVec 32) (v126 : BitVec 32) : BitVec 1 :=
  let v127 : BitVec 32 := Scalar.subi v126 v125
  let c512_i32_52 : BitVec 32 := 512#32
  let v129 : BitVec 1 := Scalar.cmpi .sgt v127 c512_i32_52
  let c1024_i32_51 : BitVec 32 := 1024#32
  let v128 : BitVec 1 := Scalar.cmpi .sge v127 c1024_i32_51
  let true_53 : BitVec 1 := 1#1
  let v130 : BitVec 1 := Scalar.xori v128 true_53
  let v131 : BitVec 1 := Scalar.andi v129 v130
  let c640_i32_57 : BitVec 32 := 640#32
  let v138 : BitVec 1 := Scalar.cmpi .sgt v127 c640_i32_57
  let v139 : BitVec 1 := Scalar.andi v131 v138
  let v140 : BitVec 32 := Scalar.extui v139
  let c0_i32_58 : BitVec 32 := 0#32
  let v141 : BitVec 1 := Scalar.cmpi .ne v140 c0_i32_58
  v141

def k0_off28 (v125 : BitVec 32) : Fin 2 → Nat :=
  let c640_i32_1732 : BitVec 32 := 640#32
  let v2752 : BitVec 32 := Scalar.addi v125 c640_i32_1732
  let v2753 : BitVec 32 := v2752
  let c0_i32_1737 : BitVec 32 := 0#32
  ![v2753.toNat, 0]
def k0_mult29 (v125 : BitVec 32) : BitVec 32 :=
  let c768_i32_1732 : BitVec 32 := 768#32
  let v2752 : BitVec 32 := Scalar.addi v125 c768_i32_1732
  v2752
def k0_cond29 (v125 : BitVec 32) (v126 : BitVec 32) : BitVec 1 :=
  let v127 : BitVec 32 := Scalar.subi v126 v125
  let c512_i32_52 : BitVec 32 := 512#32
  let v129 : BitVec 1 := Scalar.cmpi .sgt v127 c512_i32_52
  let c1024_i32_51 : BitVec 32 := 1024#32
  let v128 : BitVec 1 := Scalar.cmpi .sge v127 c1024_i32_51
  let true_53 : BitVec 1 := 1#1
  let v130 : BitVec 1 := Scalar.xori v128 true_53
  let v131 : BitVec 1 := Scalar.andi v129 v130
  let c768_i32_59 : BitVec 32 := 768#32
  let v142 : BitVec 1 := Scalar.cmpi .sgt v127 c768_i32_59
  let v143 : BitVec 1 := Scalar.andi v131 v142
  let v144 : BitVec 32 := Scalar.extui v143
  let c0_i32_60 : BitVec 32 := 0#32
  let v145 : BitVec 1 := Scalar.cmpi .ne v144 c0_i32_60
  v145

def k0_off29 (v125 : BitVec 32) : Fin 2 → Nat :=
  let c768_i32_1732 : BitVec 32 := 768#32
  let v2752 : BitVec 32 := Scalar.addi v125 c768_i32_1732
  let v2753 : BitVec 32 := v2752
  let c0_i32_1737 : BitVec 32 := 0#32
  ![v2753.toNat, 0]
def k0_mult30 (v125 : BitVec 32) : BitVec 32 :=
  let c896_i32_1732 : BitVec 32 := 896#32
  let v2752 : BitVec 32 := Scalar.addi v125 c896_i32_1732
  v2752
def k0_cond30 (v125 : BitVec 32) (v126 : BitVec 32) : BitVec 1 :=
  let v127 : BitVec 32 := Scalar.subi v126 v125
  let c512_i32_52 : BitVec 32 := 512#32
  let v129 : BitVec 1 := Scalar.cmpi .sgt v127 c512_i32_52
  let c1024_i32_51 : BitVec 32 := 1024#32
  let v128 : BitVec 1 := Scalar.cmpi .sge v127 c1024_i32_51
  let true_53 : BitVec 1 := 1#1
  let v130 : BitVec 1 := Scalar.xori v128 true_53
  let v131 : BitVec 1 := Scalar.andi v129 v130
  let c896_i32_61 : BitVec 32 := 896#32
  let v146 : BitVec 1 := Scalar.cmpi .sgt v127 c896_i32_61
  let v147 : BitVec 1 := Scalar.andi v131 v146
  let v148 : BitVec 32 := Scalar.extui v147
  let c0_i32_62 : BitVec 32 := 0#32
  let v149 : BitVec 1 := Scalar.cmpi .ne v148 c0_i32_62
  v149

def k0_off30 (v125 : BitVec 32) : Fin 2 → Nat :=
  let c896_i32_1732 : BitVec 32 := 896#32
  let v2752 : BitVec 32 := Scalar.addi v125 c896_i32_1732
  let v2753 : BitVec 32 := v2752
  let c0_i32_1737 : BitVec 32 := 0#32
  ![v2753.toNat, 0]

def k0_chk6 (v125 : BitVec 32) (v126 : BitVec 32) : Prop :=
  (∀ (k0_h26 : k0_cond26 v125 v126 = 1#1), 128 ∣ (k0_mult26 v125).toNat) ∧
  (∀ (k0_h26 : k0_cond26 v125 v126 = 1#1), ∀ a, (k0_off26 v125) a + S512x1024.size a ≤ S8192x1024.size a) ∧
  (∀ (k0_h27 : k0_cond27 v125 v126 = 1#1), 128 ∣ (k0_mult27 v125).toNat) ∧
  (∀ (k0_h27 : k0_cond27 v125 v126 = 1#1), ∀ a, (k0_off27 v125) a + S128x1024.size a ≤ S8192x1024.size a) ∧
  (∀ (k0_h28 : k0_cond28 v125 v126 = 1#1), 128 ∣ (k0_mult28 v125).toNat) ∧
  (∀ (k0_h28 : k0_cond28 v125 v126 = 1#1), ∀ a, (k0_off28 v125) a + S128x1024.size a ≤ S8192x1024.size a) ∧
  (∀ (k0_h29 : k0_cond29 v125 v126 = 1#1), 128 ∣ (k0_mult29 v125).toNat) ∧
  (∀ (k0_h29 : k0_cond29 v125 v126 = 1#1), ∀ a, (k0_off29 v125) a + S128x1024.size a ≤ S8192x1024.size a) ∧
  (∀ (k0_h30 : k0_cond30 v125 v126 = 1#1), 128 ∣ (k0_mult30 v125).toNat) ∧
  (∀ (k0_h30 : k0_cond30 v125 v126 = 1#1), ∀ a, (k0_off30 v125) a + S128x1024.size a ≤ S8192x1024.size a)
theorem k0_mult26_dvd : ∀ (v125 : BitVec 32) (v126 : BitVec 32) (k0_hw6 : k0_chk6 v125 v126), ∀ (k0_h26 : k0_cond26 v125 v126 = 1#1), 128 ∣ (k0_mult26 v125).toNat := fun v125 v126 k0_hw6 k0_h26 => k0_hw6.1 k0_h26
theorem k0_off26_inb : ∀ (v125 : BitVec 32) (v126 : BitVec 32) (k0_hw6 : k0_chk6 v125 v126), ∀ (k0_h26 : k0_cond26 v125 v126 = 1#1), ∀ a, (k0_off26 v125) a + S512x1024.size a ≤ S8192x1024.size a := fun v125 v126 k0_hw6 k0_h26 => k0_hw6.2.1 k0_h26
theorem k0_mult27_dvd : ∀ (v125 : BitVec 32) (v126 : BitVec 32) (k0_hw6 : k0_chk6 v125 v126), ∀ (k0_h27 : k0_cond27 v125 v126 = 1#1), 128 ∣ (k0_mult27 v125).toNat := fun v125 v126 k0_hw6 k0_h27 => k0_hw6.2.2.1 k0_h27
theorem k0_off27_inb : ∀ (v125 : BitVec 32) (v126 : BitVec 32) (k0_hw6 : k0_chk6 v125 v126), ∀ (k0_h27 : k0_cond27 v125 v126 = 1#1), ∀ a, (k0_off27 v125) a + S128x1024.size a ≤ S8192x1024.size a := fun v125 v126 k0_hw6 k0_h27 => k0_hw6.2.2.2.1 k0_h27
theorem k0_mult28_dvd : ∀ (v125 : BitVec 32) (v126 : BitVec 32) (k0_hw6 : k0_chk6 v125 v126), ∀ (k0_h28 : k0_cond28 v125 v126 = 1#1), 128 ∣ (k0_mult28 v125).toNat := fun v125 v126 k0_hw6 k0_h28 => k0_hw6.2.2.2.2.1 k0_h28
theorem k0_off28_inb : ∀ (v125 : BitVec 32) (v126 : BitVec 32) (k0_hw6 : k0_chk6 v125 v126), ∀ (k0_h28 : k0_cond28 v125 v126 = 1#1), ∀ a, (k0_off28 v125) a + S128x1024.size a ≤ S8192x1024.size a := fun v125 v126 k0_hw6 k0_h28 => k0_hw6.2.2.2.2.2.1 k0_h28
theorem k0_mult29_dvd : ∀ (v125 : BitVec 32) (v126 : BitVec 32) (k0_hw6 : k0_chk6 v125 v126), ∀ (k0_h29 : k0_cond29 v125 v126 = 1#1), 128 ∣ (k0_mult29 v125).toNat := fun v125 v126 k0_hw6 k0_h29 => k0_hw6.2.2.2.2.2.2.1 k0_h29
theorem k0_off29_inb : ∀ (v125 : BitVec 32) (v126 : BitVec 32) (k0_hw6 : k0_chk6 v125 v126), ∀ (k0_h29 : k0_cond29 v125 v126 = 1#1), ∀ a, (k0_off29 v125) a + S128x1024.size a ≤ S8192x1024.size a := fun v125 v126 k0_hw6 k0_h29 => k0_hw6.2.2.2.2.2.2.2.1 k0_h29
theorem k0_mult30_dvd : ∀ (v125 : BitVec 32) (v126 : BitVec 32) (k0_hw6 : k0_chk6 v125 v126), ∀ (k0_h30 : k0_cond30 v125 v126 = 1#1), 128 ∣ (k0_mult30 v125).toNat := fun v125 v126 k0_hw6 k0_h30 => k0_hw6.2.2.2.2.2.2.2.2.1 k0_h30
theorem k0_off30_inb : ∀ (v125 : BitVec 32) (v126 : BitVec 32) (k0_hw6 : k0_chk6 v125 v126), ∀ (k0_h30 : k0_cond30 v125 v126 = 1#1), ∀ a, (k0_off30 v125) a + S128x1024.size a ≤ S8192x1024.size a := fun v125 v126 k0_hw6 k0_h30 => k0_hw6.2.2.2.2.2.2.2.2.2 k0_h30

def k0_mult31 (v150 : BitVec 32) : BitVec 32 :=
  let c1024_i32_1732 : BitVec 32 := 1024#32
  let v2752 : BitVec 32 := Scalar.addi v150 c1024_i32_1732
  v2752
def k0_cond31 (v150 : BitVec 32) (v151 : BitVec 32) : BitVec 1 :=
  let v152 : BitVec 32 := Scalar.subi v151 v150
  let c1536_i32_65 : BitVec 32 := 1536#32
  let v153 : BitVec 1 := Scalar.cmpi .sge v152 c1536_i32_65
  let v157 : BitVec 32 := Scalar.extui v153
  let c0_i32_68 : BitVec 32 := 0#32
  let v158 : BitVec 1 := Scalar.cmpi .ne v157 c0_i32_68
  v158

def k0_off31 (v150 : BitVec 32) : Fin 2 → Nat :=
  let c1024_i32_1732 : BitVec 32 := 1024#32
  let v2752 : BitVec 32 := Scalar.addi v150 c1024_i32_1732
  let v2753 : BitVec 32 := v2752
  let c0_i32_1737 : BitVec 32 := 0#32
  ![v2753.toNat, 0]
def k0_mult32 (v150 : BitVec 32) : BitVec 32 :=
  let c1024_i32_1732 : BitVec 32 := 1024#32
  let v2752 : BitVec 32 := Scalar.addi v150 c1024_i32_1732
  v2752
def k0_cond32 (v150 : BitVec 32) (v151 : BitVec 32) : BitVec 1 :=
  let v152 : BitVec 32 := Scalar.subi v151 v150
  let c1024_i32_66 : BitVec 32 := 1024#32
  let v154 : BitVec 1 := Scalar.cmpi .sgt v152 c1024_i32_66
  let c1536_i32_65 : BitVec 32 := 1536#32
  let v153 : BitVec 1 := Scalar.cmpi .sge v152 c1536_i32_65
  let true_67 : BitVec 1 := 1#1
  let v155 : BitVec 1 := Scalar.xori v153 true_67
  let v156 : BitVec 1 := Scalar.andi v154 v155
  let c1024_i32_69 : BitVec 32 := 1024#32
  let v159 : BitVec 1 := Scalar.cmpi .sgt v152 c1024_i32_69
  let v160 : BitVec 1 := Scalar.andi v156 v159
  let v161 : BitVec 32 := Scalar.extui v160
  let c0_i32_70 : BitVec 32 := 0#32
  let v162 : BitVec 1 := Scalar.cmpi .ne v161 c0_i32_70
  v162

def k0_off32 (v150 : BitVec 32) : Fin 2 → Nat :=
  let c1024_i32_1732 : BitVec 32 := 1024#32
  let v2752 : BitVec 32 := Scalar.addi v150 c1024_i32_1732
  let v2753 : BitVec 32 := v2752
  let c0_i32_1737 : BitVec 32 := 0#32
  ![v2753.toNat, 0]
def k0_mult33 (v150 : BitVec 32) : BitVec 32 :=
  let c1152_i32_1732 : BitVec 32 := 1152#32
  let v2752 : BitVec 32 := Scalar.addi v150 c1152_i32_1732
  v2752
def k0_cond33 (v150 : BitVec 32) (v151 : BitVec 32) : BitVec 1 :=
  let v152 : BitVec 32 := Scalar.subi v151 v150
  let c1024_i32_66 : BitVec 32 := 1024#32
  let v154 : BitVec 1 := Scalar.cmpi .sgt v152 c1024_i32_66
  let c1536_i32_65 : BitVec 32 := 1536#32
  let v153 : BitVec 1 := Scalar.cmpi .sge v152 c1536_i32_65
  let true_67 : BitVec 1 := 1#1
  let v155 : BitVec 1 := Scalar.xori v153 true_67
  let v156 : BitVec 1 := Scalar.andi v154 v155
  let c1152_i32_71 : BitVec 32 := 1152#32
  let v163 : BitVec 1 := Scalar.cmpi .sgt v152 c1152_i32_71
  let v164 : BitVec 1 := Scalar.andi v156 v163
  let v165 : BitVec 32 := Scalar.extui v164
  let c0_i32_72 : BitVec 32 := 0#32
  let v166 : BitVec 1 := Scalar.cmpi .ne v165 c0_i32_72
  v166

def k0_off33 (v150 : BitVec 32) : Fin 2 → Nat :=
  let c1152_i32_1732 : BitVec 32 := 1152#32
  let v2752 : BitVec 32 := Scalar.addi v150 c1152_i32_1732
  let v2753 : BitVec 32 := v2752
  let c0_i32_1737 : BitVec 32 := 0#32
  ![v2753.toNat, 0]
def k0_mult34 (v150 : BitVec 32) : BitVec 32 :=
  let c1280_i32_1732 : BitVec 32 := 1280#32
  let v2752 : BitVec 32 := Scalar.addi v150 c1280_i32_1732
  v2752
def k0_cond34 (v150 : BitVec 32) (v151 : BitVec 32) : BitVec 1 :=
  let v152 : BitVec 32 := Scalar.subi v151 v150
  let c1024_i32_66 : BitVec 32 := 1024#32
  let v154 : BitVec 1 := Scalar.cmpi .sgt v152 c1024_i32_66
  let c1536_i32_65 : BitVec 32 := 1536#32
  let v153 : BitVec 1 := Scalar.cmpi .sge v152 c1536_i32_65
  let true_67 : BitVec 1 := 1#1
  let v155 : BitVec 1 := Scalar.xori v153 true_67
  let v156 : BitVec 1 := Scalar.andi v154 v155
  let c1280_i32_73 : BitVec 32 := 1280#32
  let v167 : BitVec 1 := Scalar.cmpi .sgt v152 c1280_i32_73
  let v168 : BitVec 1 := Scalar.andi v156 v167
  let v169 : BitVec 32 := Scalar.extui v168
  let c0_i32_74 : BitVec 32 := 0#32
  let v170 : BitVec 1 := Scalar.cmpi .ne v169 c0_i32_74
  v170

def k0_off34 (v150 : BitVec 32) : Fin 2 → Nat :=
  let c1280_i32_1732 : BitVec 32 := 1280#32
  let v2752 : BitVec 32 := Scalar.addi v150 c1280_i32_1732
  let v2753 : BitVec 32 := v2752
  let c0_i32_1737 : BitVec 32 := 0#32
  ![v2753.toNat, 0]
def k0_mult35 (v150 : BitVec 32) : BitVec 32 :=
  let c1408_i32_1732 : BitVec 32 := 1408#32
  let v2752 : BitVec 32 := Scalar.addi v150 c1408_i32_1732
  v2752
def k0_cond35 (v150 : BitVec 32) (v151 : BitVec 32) : BitVec 1 :=
  let v152 : BitVec 32 := Scalar.subi v151 v150
  let c1024_i32_66 : BitVec 32 := 1024#32
  let v154 : BitVec 1 := Scalar.cmpi .sgt v152 c1024_i32_66
  let c1536_i32_65 : BitVec 32 := 1536#32
  let v153 : BitVec 1 := Scalar.cmpi .sge v152 c1536_i32_65
  let true_67 : BitVec 1 := 1#1
  let v155 : BitVec 1 := Scalar.xori v153 true_67
  let v156 : BitVec 1 := Scalar.andi v154 v155
  let c1408_i32_75 : BitVec 32 := 1408#32
  let v171 : BitVec 1 := Scalar.cmpi .sgt v152 c1408_i32_75
  let v172 : BitVec 1 := Scalar.andi v156 v171
  let v173 : BitVec 32 := Scalar.extui v172
  let c0_i32_76 : BitVec 32 := 0#32
  let v174 : BitVec 1 := Scalar.cmpi .ne v173 c0_i32_76
  v174

def k0_off35 (v150 : BitVec 32) : Fin 2 → Nat :=
  let c1408_i32_1732 : BitVec 32 := 1408#32
  let v2752 : BitVec 32 := Scalar.addi v150 c1408_i32_1732
  let v2753 : BitVec 32 := v2752
  let c0_i32_1737 : BitVec 32 := 0#32
  ![v2753.toNat, 0]

def k0_chk7 (v150 : BitVec 32) (v151 : BitVec 32) : Prop :=
  (∀ (k0_h31 : k0_cond31 v150 v151 = 1#1), 128 ∣ (k0_mult31 v150).toNat) ∧
  (∀ (k0_h31 : k0_cond31 v150 v151 = 1#1), ∀ a, (k0_off31 v150) a + S512x1024.size a ≤ S8192x1024.size a) ∧
  (∀ (k0_h32 : k0_cond32 v150 v151 = 1#1), 128 ∣ (k0_mult32 v150).toNat) ∧
  (∀ (k0_h32 : k0_cond32 v150 v151 = 1#1), ∀ a, (k0_off32 v150) a + S128x1024.size a ≤ S8192x1024.size a) ∧
  (∀ (k0_h33 : k0_cond33 v150 v151 = 1#1), 128 ∣ (k0_mult33 v150).toNat) ∧
  (∀ (k0_h33 : k0_cond33 v150 v151 = 1#1), ∀ a, (k0_off33 v150) a + S128x1024.size a ≤ S8192x1024.size a) ∧
  (∀ (k0_h34 : k0_cond34 v150 v151 = 1#1), 128 ∣ (k0_mult34 v150).toNat) ∧
  (∀ (k0_h34 : k0_cond34 v150 v151 = 1#1), ∀ a, (k0_off34 v150) a + S128x1024.size a ≤ S8192x1024.size a) ∧
  (∀ (k0_h35 : k0_cond35 v150 v151 = 1#1), 128 ∣ (k0_mult35 v150).toNat) ∧
  (∀ (k0_h35 : k0_cond35 v150 v151 = 1#1), ∀ a, (k0_off35 v150) a + S128x1024.size a ≤ S8192x1024.size a)
theorem k0_mult31_dvd : ∀ (v150 : BitVec 32) (v151 : BitVec 32) (k0_hw7 : k0_chk7 v150 v151), ∀ (k0_h31 : k0_cond31 v150 v151 = 1#1), 128 ∣ (k0_mult31 v150).toNat := fun v150 v151 k0_hw7 k0_h31 => k0_hw7.1 k0_h31
theorem k0_off31_inb : ∀ (v150 : BitVec 32) (v151 : BitVec 32) (k0_hw7 : k0_chk7 v150 v151), ∀ (k0_h31 : k0_cond31 v150 v151 = 1#1), ∀ a, (k0_off31 v150) a + S512x1024.size a ≤ S8192x1024.size a := fun v150 v151 k0_hw7 k0_h31 => k0_hw7.2.1 k0_h31
theorem k0_mult32_dvd : ∀ (v150 : BitVec 32) (v151 : BitVec 32) (k0_hw7 : k0_chk7 v150 v151), ∀ (k0_h32 : k0_cond32 v150 v151 = 1#1), 128 ∣ (k0_mult32 v150).toNat := fun v150 v151 k0_hw7 k0_h32 => k0_hw7.2.2.1 k0_h32
theorem k0_off32_inb : ∀ (v150 : BitVec 32) (v151 : BitVec 32) (k0_hw7 : k0_chk7 v150 v151), ∀ (k0_h32 : k0_cond32 v150 v151 = 1#1), ∀ a, (k0_off32 v150) a + S128x1024.size a ≤ S8192x1024.size a := fun v150 v151 k0_hw7 k0_h32 => k0_hw7.2.2.2.1 k0_h32
theorem k0_mult33_dvd : ∀ (v150 : BitVec 32) (v151 : BitVec 32) (k0_hw7 : k0_chk7 v150 v151), ∀ (k0_h33 : k0_cond33 v150 v151 = 1#1), 128 ∣ (k0_mult33 v150).toNat := fun v150 v151 k0_hw7 k0_h33 => k0_hw7.2.2.2.2.1 k0_h33
theorem k0_off33_inb : ∀ (v150 : BitVec 32) (v151 : BitVec 32) (k0_hw7 : k0_chk7 v150 v151), ∀ (k0_h33 : k0_cond33 v150 v151 = 1#1), ∀ a, (k0_off33 v150) a + S128x1024.size a ≤ S8192x1024.size a := fun v150 v151 k0_hw7 k0_h33 => k0_hw7.2.2.2.2.2.1 k0_h33
theorem k0_mult34_dvd : ∀ (v150 : BitVec 32) (v151 : BitVec 32) (k0_hw7 : k0_chk7 v150 v151), ∀ (k0_h34 : k0_cond34 v150 v151 = 1#1), 128 ∣ (k0_mult34 v150).toNat := fun v150 v151 k0_hw7 k0_h34 => k0_hw7.2.2.2.2.2.2.1 k0_h34
theorem k0_off34_inb : ∀ (v150 : BitVec 32) (v151 : BitVec 32) (k0_hw7 : k0_chk7 v150 v151), ∀ (k0_h34 : k0_cond34 v150 v151 = 1#1), ∀ a, (k0_off34 v150) a + S128x1024.size a ≤ S8192x1024.size a := fun v150 v151 k0_hw7 k0_h34 => k0_hw7.2.2.2.2.2.2.2.1 k0_h34
theorem k0_mult35_dvd : ∀ (v150 : BitVec 32) (v151 : BitVec 32) (k0_hw7 : k0_chk7 v150 v151), ∀ (k0_h35 : k0_cond35 v150 v151 = 1#1), 128 ∣ (k0_mult35 v150).toNat := fun v150 v151 k0_hw7 k0_h35 => k0_hw7.2.2.2.2.2.2.2.2.1 k0_h35
theorem k0_off35_inb : ∀ (v150 : BitVec 32) (v151 : BitVec 32) (k0_hw7 : k0_chk7 v150 v151), ∀ (k0_h35 : k0_cond35 v150 v151 = 1#1), ∀ a, (k0_off35 v150) a + S128x1024.size a ≤ S8192x1024.size a := fun v150 v151 k0_hw7 k0_h35 => k0_hw7.2.2.2.2.2.2.2.2.2 k0_h35

def k0_mult36 (v175 : BitVec 32) : BitVec 32 :=
  let c1536_i32_1732 : BitVec 32 := 1536#32
  let v2752 : BitVec 32 := Scalar.addi v175 c1536_i32_1732
  v2752
def k0_cond36 (v175 : BitVec 32) (v176 : BitVec 32) : BitVec 1 :=
  let v177 : BitVec 32 := Scalar.subi v176 v175
  let c2048_i32_79 : BitVec 32 := 2048#32
  let v178 : BitVec 1 := Scalar.cmpi .sge v177 c2048_i32_79
  let v182 : BitVec 32 := Scalar.extui v178
  let c0_i32_82 : BitVec 32 := 0#32
  let v183 : BitVec 1 := Scalar.cmpi .ne v182 c0_i32_82
  v183

def k0_off36 (v175 : BitVec 32) : Fin 2 → Nat :=
  let c1536_i32_1732 : BitVec 32 := 1536#32
  let v2752 : BitVec 32 := Scalar.addi v175 c1536_i32_1732
  let v2753 : BitVec 32 := v2752
  let c0_i32_1737 : BitVec 32 := 0#32
  ![v2753.toNat, 0]
def k0_mult37 (v175 : BitVec 32) : BitVec 32 :=
  let c1536_i32_1732 : BitVec 32 := 1536#32
  let v2752 : BitVec 32 := Scalar.addi v175 c1536_i32_1732
  v2752
def k0_cond37 (v175 : BitVec 32) (v176 : BitVec 32) : BitVec 1 :=
  let v177 : BitVec 32 := Scalar.subi v176 v175
  let c1536_i32_80 : BitVec 32 := 1536#32
  let v179 : BitVec 1 := Scalar.cmpi .sgt v177 c1536_i32_80
  let c2048_i32_79 : BitVec 32 := 2048#32
  let v178 : BitVec 1 := Scalar.cmpi .sge v177 c2048_i32_79
  let true_81 : BitVec 1 := 1#1
  let v180 : BitVec 1 := Scalar.xori v178 true_81
  let v181 : BitVec 1 := Scalar.andi v179 v180
  let c1536_i32_83 : BitVec 32 := 1536#32
  let v184 : BitVec 1 := Scalar.cmpi .sgt v177 c1536_i32_83
  let v185 : BitVec 1 := Scalar.andi v181 v184
  let v186 : BitVec 32 := Scalar.extui v185
  let c0_i32_84 : BitVec 32 := 0#32
  let v187 : BitVec 1 := Scalar.cmpi .ne v186 c0_i32_84
  v187

def k0_off37 (v175 : BitVec 32) : Fin 2 → Nat :=
  let c1536_i32_1732 : BitVec 32 := 1536#32
  let v2752 : BitVec 32 := Scalar.addi v175 c1536_i32_1732
  let v2753 : BitVec 32 := v2752
  let c0_i32_1737 : BitVec 32 := 0#32
  ![v2753.toNat, 0]
def k0_mult38 (v175 : BitVec 32) : BitVec 32 :=
  let c1664_i32_1732 : BitVec 32 := 1664#32
  let v2752 : BitVec 32 := Scalar.addi v175 c1664_i32_1732
  v2752
def k0_cond38 (v175 : BitVec 32) (v176 : BitVec 32) : BitVec 1 :=
  let v177 : BitVec 32 := Scalar.subi v176 v175
  let c1536_i32_80 : BitVec 32 := 1536#32
  let v179 : BitVec 1 := Scalar.cmpi .sgt v177 c1536_i32_80
  let c2048_i32_79 : BitVec 32 := 2048#32
  let v178 : BitVec 1 := Scalar.cmpi .sge v177 c2048_i32_79
  let true_81 : BitVec 1 := 1#1
  let v180 : BitVec 1 := Scalar.xori v178 true_81
  let v181 : BitVec 1 := Scalar.andi v179 v180
  let c1664_i32_85 : BitVec 32 := 1664#32
  let v188 : BitVec 1 := Scalar.cmpi .sgt v177 c1664_i32_85
  let v189 : BitVec 1 := Scalar.andi v181 v188
  let v190 : BitVec 32 := Scalar.extui v189
  let c0_i32_86 : BitVec 32 := 0#32
  let v191 : BitVec 1 := Scalar.cmpi .ne v190 c0_i32_86
  v191

def k0_off38 (v175 : BitVec 32) : Fin 2 → Nat :=
  let c1664_i32_1732 : BitVec 32 := 1664#32
  let v2752 : BitVec 32 := Scalar.addi v175 c1664_i32_1732
  let v2753 : BitVec 32 := v2752
  let c0_i32_1737 : BitVec 32 := 0#32
  ![v2753.toNat, 0]
def k0_mult39 (v175 : BitVec 32) : BitVec 32 :=
  let c1792_i32_1732 : BitVec 32 := 1792#32
  let v2752 : BitVec 32 := Scalar.addi v175 c1792_i32_1732
  v2752
def k0_cond39 (v175 : BitVec 32) (v176 : BitVec 32) : BitVec 1 :=
  let v177 : BitVec 32 := Scalar.subi v176 v175
  let c1536_i32_80 : BitVec 32 := 1536#32
  let v179 : BitVec 1 := Scalar.cmpi .sgt v177 c1536_i32_80
  let c2048_i32_79 : BitVec 32 := 2048#32
  let v178 : BitVec 1 := Scalar.cmpi .sge v177 c2048_i32_79
  let true_81 : BitVec 1 := 1#1
  let v180 : BitVec 1 := Scalar.xori v178 true_81
  let v181 : BitVec 1 := Scalar.andi v179 v180
  let c1792_i32_87 : BitVec 32 := 1792#32
  let v192 : BitVec 1 := Scalar.cmpi .sgt v177 c1792_i32_87
  let v193 : BitVec 1 := Scalar.andi v181 v192
  let v194 : BitVec 32 := Scalar.extui v193
  let c0_i32_88 : BitVec 32 := 0#32
  let v195 : BitVec 1 := Scalar.cmpi .ne v194 c0_i32_88
  v195

def k0_off39 (v175 : BitVec 32) : Fin 2 → Nat :=
  let c1792_i32_1732 : BitVec 32 := 1792#32
  let v2752 : BitVec 32 := Scalar.addi v175 c1792_i32_1732
  let v2753 : BitVec 32 := v2752
  let c0_i32_1737 : BitVec 32 := 0#32
  ![v2753.toNat, 0]
def k0_mult40 (v175 : BitVec 32) : BitVec 32 :=
  let c1920_i32_1732 : BitVec 32 := 1920#32
  let v2752 : BitVec 32 := Scalar.addi v175 c1920_i32_1732
  v2752
def k0_cond40 (v175 : BitVec 32) (v176 : BitVec 32) : BitVec 1 :=
  let v177 : BitVec 32 := Scalar.subi v176 v175
  let c1536_i32_80 : BitVec 32 := 1536#32
  let v179 : BitVec 1 := Scalar.cmpi .sgt v177 c1536_i32_80
  let c2048_i32_79 : BitVec 32 := 2048#32
  let v178 : BitVec 1 := Scalar.cmpi .sge v177 c2048_i32_79
  let true_81 : BitVec 1 := 1#1
  let v180 : BitVec 1 := Scalar.xori v178 true_81
  let v181 : BitVec 1 := Scalar.andi v179 v180
  let c1920_i32_89 : BitVec 32 := 1920#32
  let v196 : BitVec 1 := Scalar.cmpi .sgt v177 c1920_i32_89
  let v197 : BitVec 1 := Scalar.andi v181 v196
  let v198 : BitVec 32 := Scalar.extui v197
  let c0_i32_90 : BitVec 32 := 0#32
  let v199 : BitVec 1 := Scalar.cmpi .ne v198 c0_i32_90
  v199

def k0_off40 (v175 : BitVec 32) : Fin 2 → Nat :=
  let c1920_i32_1732 : BitVec 32 := 1920#32
  let v2752 : BitVec 32 := Scalar.addi v175 c1920_i32_1732
  let v2753 : BitVec 32 := v2752
  let c0_i32_1737 : BitVec 32 := 0#32
  ![v2753.toNat, 0]

def k0_chk8 (v175 : BitVec 32) (v176 : BitVec 32) : Prop :=
  (∀ (k0_h36 : k0_cond36 v175 v176 = 1#1), 128 ∣ (k0_mult36 v175).toNat) ∧
  (∀ (k0_h36 : k0_cond36 v175 v176 = 1#1), ∀ a, (k0_off36 v175) a + S512x1024.size a ≤ S8192x1024.size a) ∧
  (∀ (k0_h37 : k0_cond37 v175 v176 = 1#1), 128 ∣ (k0_mult37 v175).toNat) ∧
  (∀ (k0_h37 : k0_cond37 v175 v176 = 1#1), ∀ a, (k0_off37 v175) a + S128x1024.size a ≤ S8192x1024.size a) ∧
  (∀ (k0_h38 : k0_cond38 v175 v176 = 1#1), 128 ∣ (k0_mult38 v175).toNat) ∧
  (∀ (k0_h38 : k0_cond38 v175 v176 = 1#1), ∀ a, (k0_off38 v175) a + S128x1024.size a ≤ S8192x1024.size a) ∧
  (∀ (k0_h39 : k0_cond39 v175 v176 = 1#1), 128 ∣ (k0_mult39 v175).toNat) ∧
  (∀ (k0_h39 : k0_cond39 v175 v176 = 1#1), ∀ a, (k0_off39 v175) a + S128x1024.size a ≤ S8192x1024.size a) ∧
  (∀ (k0_h40 : k0_cond40 v175 v176 = 1#1), 128 ∣ (k0_mult40 v175).toNat) ∧
  (∀ (k0_h40 : k0_cond40 v175 v176 = 1#1), ∀ a, (k0_off40 v175) a + S128x1024.size a ≤ S8192x1024.size a)
theorem k0_mult36_dvd : ∀ (v175 : BitVec 32) (v176 : BitVec 32) (k0_hw8 : k0_chk8 v175 v176), ∀ (k0_h36 : k0_cond36 v175 v176 = 1#1), 128 ∣ (k0_mult36 v175).toNat := fun v175 v176 k0_hw8 k0_h36 => k0_hw8.1 k0_h36
theorem k0_off36_inb : ∀ (v175 : BitVec 32) (v176 : BitVec 32) (k0_hw8 : k0_chk8 v175 v176), ∀ (k0_h36 : k0_cond36 v175 v176 = 1#1), ∀ a, (k0_off36 v175) a + S512x1024.size a ≤ S8192x1024.size a := fun v175 v176 k0_hw8 k0_h36 => k0_hw8.2.1 k0_h36
theorem k0_mult37_dvd : ∀ (v175 : BitVec 32) (v176 : BitVec 32) (k0_hw8 : k0_chk8 v175 v176), ∀ (k0_h37 : k0_cond37 v175 v176 = 1#1), 128 ∣ (k0_mult37 v175).toNat := fun v175 v176 k0_hw8 k0_h37 => k0_hw8.2.2.1 k0_h37
theorem k0_off37_inb : ∀ (v175 : BitVec 32) (v176 : BitVec 32) (k0_hw8 : k0_chk8 v175 v176), ∀ (k0_h37 : k0_cond37 v175 v176 = 1#1), ∀ a, (k0_off37 v175) a + S128x1024.size a ≤ S8192x1024.size a := fun v175 v176 k0_hw8 k0_h37 => k0_hw8.2.2.2.1 k0_h37
theorem k0_mult38_dvd : ∀ (v175 : BitVec 32) (v176 : BitVec 32) (k0_hw8 : k0_chk8 v175 v176), ∀ (k0_h38 : k0_cond38 v175 v176 = 1#1), 128 ∣ (k0_mult38 v175).toNat := fun v175 v176 k0_hw8 k0_h38 => k0_hw8.2.2.2.2.1 k0_h38
theorem k0_off38_inb : ∀ (v175 : BitVec 32) (v176 : BitVec 32) (k0_hw8 : k0_chk8 v175 v176), ∀ (k0_h38 : k0_cond38 v175 v176 = 1#1), ∀ a, (k0_off38 v175) a + S128x1024.size a ≤ S8192x1024.size a := fun v175 v176 k0_hw8 k0_h38 => k0_hw8.2.2.2.2.2.1 k0_h38
theorem k0_mult39_dvd : ∀ (v175 : BitVec 32) (v176 : BitVec 32) (k0_hw8 : k0_chk8 v175 v176), ∀ (k0_h39 : k0_cond39 v175 v176 = 1#1), 128 ∣ (k0_mult39 v175).toNat := fun v175 v176 k0_hw8 k0_h39 => k0_hw8.2.2.2.2.2.2.1 k0_h39
theorem k0_off39_inb : ∀ (v175 : BitVec 32) (v176 : BitVec 32) (k0_hw8 : k0_chk8 v175 v176), ∀ (k0_h39 : k0_cond39 v175 v176 = 1#1), ∀ a, (k0_off39 v175) a + S128x1024.size a ≤ S8192x1024.size a := fun v175 v176 k0_hw8 k0_h39 => k0_hw8.2.2.2.2.2.2.2.1 k0_h39
theorem k0_mult40_dvd : ∀ (v175 : BitVec 32) (v176 : BitVec 32) (k0_hw8 : k0_chk8 v175 v176), ∀ (k0_h40 : k0_cond40 v175 v176 = 1#1), 128 ∣ (k0_mult40 v175).toNat := fun v175 v176 k0_hw8 k0_h40 => k0_hw8.2.2.2.2.2.2.2.2.1 k0_h40
theorem k0_off40_inb : ∀ (v175 : BitVec 32) (v176 : BitVec 32) (k0_hw8 : k0_chk8 v175 v176), ∀ (k0_h40 : k0_cond40 v175 v176 = 1#1), ∀ a, (k0_off40 v175) a + S128x1024.size a ≤ S8192x1024.size a := fun v175 v176 k0_hw8 k0_h40 => k0_hw8.2.2.2.2.2.2.2.2.2 k0_h40

def k0_mult41 (v200 : BitVec 32) : BitVec 32 :=
  let c0_i32_1732 : BitVec 32 := 0#32
  let v2752 : BitVec 32 := Scalar.addi v200 c0_i32_1732
  v2752
def k0_cond41 (v200 : BitVec 32) (v201 : BitVec 32) : BitVec 1 :=
  let v202 : BitVec 32 := Scalar.subi v201 v200
  let c512_i32_92 : BitVec 32 := 512#32
  let v203 : BitVec 1 := Scalar.cmpi .sge v202 c512_i32_92
  let v207 : BitVec 32 := Scalar.extui v203
  let c0_i32_95 : BitVec 32 := 0#32
  let v208 : BitVec 1 := Scalar.cmpi .ne v207 c0_i32_95
  v208

def k0_off41 (v200 : BitVec 32) : Fin 2 → Nat :=
  let c0_i32_1732 : BitVec 32 := 0#32
  let v2752 : BitVec 32 := Scalar.addi v200 c0_i32_1732
  let v2753 : BitVec 32 := v2752
  let c0_i32_1737 : BitVec 32 := 0#32
  ![v2753.toNat, 0]
def k0_mult42 (v200 : BitVec 32) : BitVec 32 :=
  let c0_i32_1732 : BitVec 32 := 0#32
  let v2752 : BitVec 32 := Scalar.addi v200 c0_i32_1732
  v2752
def k0_cond42 (v200 : BitVec 32) (v201 : BitVec 32) : BitVec 1 :=
  let v202 : BitVec 32 := Scalar.subi v201 v200
  let c0_i32_93 : BitVec 32 := 0#32
  let v204 : BitVec 1 := Scalar.cmpi .sgt v202 c0_i32_93
  let c512_i32_92 : BitVec 32 := 512#32
  let v203 : BitVec 1 := Scalar.cmpi .sge v202 c512_i32_92
  let true_94 : BitVec 1 := 1#1
  let v205 : BitVec 1 := Scalar.xori v203 true_94
  let v206 : BitVec 1 := Scalar.andi v204 v205
  let c0_i32_96 : BitVec 32 := 0#32
  let v209 : BitVec 1 := Scalar.cmpi .sgt v202 c0_i32_96
  let v210 : BitVec 1 := Scalar.andi v206 v209
  let v211 : BitVec 32 := Scalar.extui v210
  let c0_i32_97 : BitVec 32 := 0#32
  let v212 : BitVec 1 := Scalar.cmpi .ne v211 c0_i32_97
  v212

def k0_off42 (v200 : BitVec 32) : Fin 2 → Nat :=
  let c0_i32_1732 : BitVec 32 := 0#32
  let v2752 : BitVec 32 := Scalar.addi v200 c0_i32_1732
  let v2753 : BitVec 32 := v2752
  let c0_i32_1737 : BitVec 32 := 0#32
  ![v2753.toNat, 0]
def k0_mult43 (v200 : BitVec 32) : BitVec 32 :=
  let c128_i32_1732 : BitVec 32 := 128#32
  let v2752 : BitVec 32 := Scalar.addi v200 c128_i32_1732
  v2752
def k0_cond43 (v200 : BitVec 32) (v201 : BitVec 32) : BitVec 1 :=
  let v202 : BitVec 32 := Scalar.subi v201 v200
  let c0_i32_93 : BitVec 32 := 0#32
  let v204 : BitVec 1 := Scalar.cmpi .sgt v202 c0_i32_93
  let c512_i32_92 : BitVec 32 := 512#32
  let v203 : BitVec 1 := Scalar.cmpi .sge v202 c512_i32_92
  let true_94 : BitVec 1 := 1#1
  let v205 : BitVec 1 := Scalar.xori v203 true_94
  let v206 : BitVec 1 := Scalar.andi v204 v205
  let c128_i32_98 : BitVec 32 := 128#32
  let v213 : BitVec 1 := Scalar.cmpi .sgt v202 c128_i32_98
  let v214 : BitVec 1 := Scalar.andi v206 v213
  let v215 : BitVec 32 := Scalar.extui v214
  let c0_i32_99 : BitVec 32 := 0#32
  let v216 : BitVec 1 := Scalar.cmpi .ne v215 c0_i32_99
  v216

def k0_off43 (v200 : BitVec 32) : Fin 2 → Nat :=
  let c128_i32_1732 : BitVec 32 := 128#32
  let v2752 : BitVec 32 := Scalar.addi v200 c128_i32_1732
  let v2753 : BitVec 32 := v2752
  let c0_i32_1737 : BitVec 32 := 0#32
  ![v2753.toNat, 0]
def k0_mult44 (v200 : BitVec 32) : BitVec 32 :=
  let c256_i32_1732 : BitVec 32 := 256#32
  let v2752 : BitVec 32 := Scalar.addi v200 c256_i32_1732
  v2752
def k0_cond44 (v200 : BitVec 32) (v201 : BitVec 32) : BitVec 1 :=
  let v202 : BitVec 32 := Scalar.subi v201 v200
  let c0_i32_93 : BitVec 32 := 0#32
  let v204 : BitVec 1 := Scalar.cmpi .sgt v202 c0_i32_93
  let c512_i32_92 : BitVec 32 := 512#32
  let v203 : BitVec 1 := Scalar.cmpi .sge v202 c512_i32_92
  let true_94 : BitVec 1 := 1#1
  let v205 : BitVec 1 := Scalar.xori v203 true_94
  let v206 : BitVec 1 := Scalar.andi v204 v205
  let c256_i32_100 : BitVec 32 := 256#32
  let v217 : BitVec 1 := Scalar.cmpi .sgt v202 c256_i32_100
  let v218 : BitVec 1 := Scalar.andi v206 v217
  let v219 : BitVec 32 := Scalar.extui v218
  let c0_i32_101 : BitVec 32 := 0#32
  let v220 : BitVec 1 := Scalar.cmpi .ne v219 c0_i32_101
  v220

def k0_off44 (v200 : BitVec 32) : Fin 2 → Nat :=
  let c256_i32_1732 : BitVec 32 := 256#32
  let v2752 : BitVec 32 := Scalar.addi v200 c256_i32_1732
  let v2753 : BitVec 32 := v2752
  let c0_i32_1737 : BitVec 32 := 0#32
  ![v2753.toNat, 0]
def k0_mult45 (v200 : BitVec 32) : BitVec 32 :=
  let c384_i32_1732 : BitVec 32 := 384#32
  let v2752 : BitVec 32 := Scalar.addi v200 c384_i32_1732
  v2752
def k0_cond45 (v200 : BitVec 32) (v201 : BitVec 32) : BitVec 1 :=
  let v202 : BitVec 32 := Scalar.subi v201 v200
  let c0_i32_93 : BitVec 32 := 0#32
  let v204 : BitVec 1 := Scalar.cmpi .sgt v202 c0_i32_93
  let c512_i32_92 : BitVec 32 := 512#32
  let v203 : BitVec 1 := Scalar.cmpi .sge v202 c512_i32_92
  let true_94 : BitVec 1 := 1#1
  let v205 : BitVec 1 := Scalar.xori v203 true_94
  let v206 : BitVec 1 := Scalar.andi v204 v205
  let c384_i32_102 : BitVec 32 := 384#32
  let v221 : BitVec 1 := Scalar.cmpi .sgt v202 c384_i32_102
  let v222 : BitVec 1 := Scalar.andi v206 v221
  let v223 : BitVec 32 := Scalar.extui v222
  let c0_i32_103 : BitVec 32 := 0#32
  let v224 : BitVec 1 := Scalar.cmpi .ne v223 c0_i32_103
  v224

def k0_off45 (v200 : BitVec 32) : Fin 2 → Nat :=
  let c384_i32_1732 : BitVec 32 := 384#32
  let v2752 : BitVec 32 := Scalar.addi v200 c384_i32_1732
  let v2753 : BitVec 32 := v2752
  let c0_i32_1737 : BitVec 32 := 0#32
  ![v2753.toNat, 0]

def k0_chk9 (v200 : BitVec 32) (v201 : BitVec 32) : Prop :=
  (∀ (k0_h41 : k0_cond41 v200 v201 = 1#1), 128 ∣ (k0_mult41 v200).toNat) ∧
  (∀ (k0_h41 : k0_cond41 v200 v201 = 1#1), ∀ a, (k0_off41 v200) a + S512x1024.size a ≤ S8192x1024.size a) ∧
  (∀ (k0_h42 : k0_cond42 v200 v201 = 1#1), 128 ∣ (k0_mult42 v200).toNat) ∧
  (∀ (k0_h42 : k0_cond42 v200 v201 = 1#1), ∀ a, (k0_off42 v200) a + S128x1024.size a ≤ S8192x1024.size a) ∧
  (∀ (k0_h43 : k0_cond43 v200 v201 = 1#1), 128 ∣ (k0_mult43 v200).toNat) ∧
  (∀ (k0_h43 : k0_cond43 v200 v201 = 1#1), ∀ a, (k0_off43 v200) a + S128x1024.size a ≤ S8192x1024.size a) ∧
  (∀ (k0_h44 : k0_cond44 v200 v201 = 1#1), 128 ∣ (k0_mult44 v200).toNat) ∧
  (∀ (k0_h44 : k0_cond44 v200 v201 = 1#1), ∀ a, (k0_off44 v200) a + S128x1024.size a ≤ S8192x1024.size a) ∧
  (∀ (k0_h45 : k0_cond45 v200 v201 = 1#1), 128 ∣ (k0_mult45 v200).toNat) ∧
  (∀ (k0_h45 : k0_cond45 v200 v201 = 1#1), ∀ a, (k0_off45 v200) a + S128x1024.size a ≤ S8192x1024.size a)
theorem k0_mult41_dvd : ∀ (v200 : BitVec 32) (v201 : BitVec 32) (k0_hw9 : k0_chk9 v200 v201), ∀ (k0_h41 : k0_cond41 v200 v201 = 1#1), 128 ∣ (k0_mult41 v200).toNat := fun v200 v201 k0_hw9 k0_h41 => k0_hw9.1 k0_h41
theorem k0_off41_inb : ∀ (v200 : BitVec 32) (v201 : BitVec 32) (k0_hw9 : k0_chk9 v200 v201), ∀ (k0_h41 : k0_cond41 v200 v201 = 1#1), ∀ a, (k0_off41 v200) a + S512x1024.size a ≤ S8192x1024.size a := fun v200 v201 k0_hw9 k0_h41 => k0_hw9.2.1 k0_h41
theorem k0_mult42_dvd : ∀ (v200 : BitVec 32) (v201 : BitVec 32) (k0_hw9 : k0_chk9 v200 v201), ∀ (k0_h42 : k0_cond42 v200 v201 = 1#1), 128 ∣ (k0_mult42 v200).toNat := fun v200 v201 k0_hw9 k0_h42 => k0_hw9.2.2.1 k0_h42
theorem k0_off42_inb : ∀ (v200 : BitVec 32) (v201 : BitVec 32) (k0_hw9 : k0_chk9 v200 v201), ∀ (k0_h42 : k0_cond42 v200 v201 = 1#1), ∀ a, (k0_off42 v200) a + S128x1024.size a ≤ S8192x1024.size a := fun v200 v201 k0_hw9 k0_h42 => k0_hw9.2.2.2.1 k0_h42
theorem k0_mult43_dvd : ∀ (v200 : BitVec 32) (v201 : BitVec 32) (k0_hw9 : k0_chk9 v200 v201), ∀ (k0_h43 : k0_cond43 v200 v201 = 1#1), 128 ∣ (k0_mult43 v200).toNat := fun v200 v201 k0_hw9 k0_h43 => k0_hw9.2.2.2.2.1 k0_h43
theorem k0_off43_inb : ∀ (v200 : BitVec 32) (v201 : BitVec 32) (k0_hw9 : k0_chk9 v200 v201), ∀ (k0_h43 : k0_cond43 v200 v201 = 1#1), ∀ a, (k0_off43 v200) a + S128x1024.size a ≤ S8192x1024.size a := fun v200 v201 k0_hw9 k0_h43 => k0_hw9.2.2.2.2.2.1 k0_h43
theorem k0_mult44_dvd : ∀ (v200 : BitVec 32) (v201 : BitVec 32) (k0_hw9 : k0_chk9 v200 v201), ∀ (k0_h44 : k0_cond44 v200 v201 = 1#1), 128 ∣ (k0_mult44 v200).toNat := fun v200 v201 k0_hw9 k0_h44 => k0_hw9.2.2.2.2.2.2.1 k0_h44
theorem k0_off44_inb : ∀ (v200 : BitVec 32) (v201 : BitVec 32) (k0_hw9 : k0_chk9 v200 v201), ∀ (k0_h44 : k0_cond44 v200 v201 = 1#1), ∀ a, (k0_off44 v200) a + S128x1024.size a ≤ S8192x1024.size a := fun v200 v201 k0_hw9 k0_h44 => k0_hw9.2.2.2.2.2.2.2.1 k0_h44
theorem k0_mult45_dvd : ∀ (v200 : BitVec 32) (v201 : BitVec 32) (k0_hw9 : k0_chk9 v200 v201), ∀ (k0_h45 : k0_cond45 v200 v201 = 1#1), 128 ∣ (k0_mult45 v200).toNat := fun v200 v201 k0_hw9 k0_h45 => k0_hw9.2.2.2.2.2.2.2.2.1 k0_h45
theorem k0_off45_inb : ∀ (v200 : BitVec 32) (v201 : BitVec 32) (k0_hw9 : k0_chk9 v200 v201), ∀ (k0_h45 : k0_cond45 v200 v201 = 1#1), ∀ a, (k0_off45 v200) a + S128x1024.size a ≤ S8192x1024.size a := fun v200 v201 k0_hw9 k0_h45 => k0_hw9.2.2.2.2.2.2.2.2.2 k0_h45

def k0_mult46 (v230 : BitVec 32) : BitVec 32 :=
  let c0_i32_1732 : BitVec 32 := 0#32
  let v2752 : BitVec 32 := Scalar.addi v230 c0_i32_1732
  v2752
def k0_cond46 (v230 : BitVec 32) (v231 : BitVec 32) : BitVec 1 :=
  let v232 : BitVec 32 := Scalar.subi v231 v230
  let c512_i32_110 : BitVec 32 := 512#32
  let v233 : BitVec 1 := Scalar.cmpi .sge v232 c512_i32_110
  let v237 : BitVec 32 := Scalar.extui v233
  let c0_i32_113 : BitVec 32 := 0#32
  let v238 : BitVec 1 := Scalar.cmpi .ne v237 c0_i32_113
  v238

def k0_off46 (v230 : BitVec 32) : Fin 2 → Nat :=
  let c0_i32_1732 : BitVec 32 := 0#32
  let v2752 : BitVec 32 := Scalar.addi v230 c0_i32_1732
  let v2753 : BitVec 32 := v2752
  let c0_i32_1737 : BitVec 32 := 0#32
  ![v2753.toNat, 0]
def k0_mult47 (v230 : BitVec 32) : BitVec 32 :=
  let c0_i32_1732 : BitVec 32 := 0#32
  let v2752 : BitVec 32 := Scalar.addi v230 c0_i32_1732
  v2752
def k0_cond47 (v230 : BitVec 32) (v231 : BitVec 32) : BitVec 1 :=
  let v232 : BitVec 32 := Scalar.subi v231 v230
  let c0_i32_111 : BitVec 32 := 0#32
  let v234 : BitVec 1 := Scalar.cmpi .sgt v232 c0_i32_111
  let c512_i32_110 : BitVec 32 := 512#32
  let v233 : BitVec 1 := Scalar.cmpi .sge v232 c512_i32_110
  let true_112 : BitVec 1 := 1#1
  let v235 : BitVec 1 := Scalar.xori v233 true_112
  let v236 : BitVec 1 := Scalar.andi v234 v235
  let c0_i32_114 : BitVec 32 := 0#32
  let v239 : BitVec 1 := Scalar.cmpi .sgt v232 c0_i32_114
  let v240 : BitVec 1 := Scalar.andi v236 v239
  let v241 : BitVec 32 := Scalar.extui v240
  let c0_i32_115 : BitVec 32 := 0#32
  let v242 : BitVec 1 := Scalar.cmpi .ne v241 c0_i32_115
  v242

def k0_off47 (v230 : BitVec 32) : Fin 2 → Nat :=
  let c0_i32_1732 : BitVec 32 := 0#32
  let v2752 : BitVec 32 := Scalar.addi v230 c0_i32_1732
  let v2753 : BitVec 32 := v2752
  let c0_i32_1737 : BitVec 32 := 0#32
  ![v2753.toNat, 0]
def k0_mult48 (v230 : BitVec 32) : BitVec 32 :=
  let c128_i32_1732 : BitVec 32 := 128#32
  let v2752 : BitVec 32 := Scalar.addi v230 c128_i32_1732
  v2752
def k0_cond48 (v230 : BitVec 32) (v231 : BitVec 32) : BitVec 1 :=
  let v232 : BitVec 32 := Scalar.subi v231 v230
  let c0_i32_111 : BitVec 32 := 0#32
  let v234 : BitVec 1 := Scalar.cmpi .sgt v232 c0_i32_111
  let c512_i32_110 : BitVec 32 := 512#32
  let v233 : BitVec 1 := Scalar.cmpi .sge v232 c512_i32_110
  let true_112 : BitVec 1 := 1#1
  let v235 : BitVec 1 := Scalar.xori v233 true_112
  let v236 : BitVec 1 := Scalar.andi v234 v235
  let c128_i32_116 : BitVec 32 := 128#32
  let v243 : BitVec 1 := Scalar.cmpi .sgt v232 c128_i32_116
  let v244 : BitVec 1 := Scalar.andi v236 v243
  let v245 : BitVec 32 := Scalar.extui v244
  let c0_i32_117 : BitVec 32 := 0#32
  let v246 : BitVec 1 := Scalar.cmpi .ne v245 c0_i32_117
  v246

def k0_off48 (v230 : BitVec 32) : Fin 2 → Nat :=
  let c128_i32_1732 : BitVec 32 := 128#32
  let v2752 : BitVec 32 := Scalar.addi v230 c128_i32_1732
  let v2753 : BitVec 32 := v2752
  let c0_i32_1737 : BitVec 32 := 0#32
  ![v2753.toNat, 0]
def k0_mult49 (v230 : BitVec 32) : BitVec 32 :=
  let c256_i32_1732 : BitVec 32 := 256#32
  let v2752 : BitVec 32 := Scalar.addi v230 c256_i32_1732
  v2752
def k0_cond49 (v230 : BitVec 32) (v231 : BitVec 32) : BitVec 1 :=
  let v232 : BitVec 32 := Scalar.subi v231 v230
  let c0_i32_111 : BitVec 32 := 0#32
  let v234 : BitVec 1 := Scalar.cmpi .sgt v232 c0_i32_111
  let c512_i32_110 : BitVec 32 := 512#32
  let v233 : BitVec 1 := Scalar.cmpi .sge v232 c512_i32_110
  let true_112 : BitVec 1 := 1#1
  let v235 : BitVec 1 := Scalar.xori v233 true_112
  let v236 : BitVec 1 := Scalar.andi v234 v235
  let c256_i32_118 : BitVec 32 := 256#32
  let v247 : BitVec 1 := Scalar.cmpi .sgt v232 c256_i32_118
  let v248 : BitVec 1 := Scalar.andi v236 v247
  let v249 : BitVec 32 := Scalar.extui v248
  let c0_i32_119 : BitVec 32 := 0#32
  let v250 : BitVec 1 := Scalar.cmpi .ne v249 c0_i32_119
  v250

def k0_off49 (v230 : BitVec 32) : Fin 2 → Nat :=
  let c256_i32_1732 : BitVec 32 := 256#32
  let v2752 : BitVec 32 := Scalar.addi v230 c256_i32_1732
  let v2753 : BitVec 32 := v2752
  let c0_i32_1737 : BitVec 32 := 0#32
  ![v2753.toNat, 0]
def k0_mult50 (v230 : BitVec 32) : BitVec 32 :=
  let c384_i32_1732 : BitVec 32 := 384#32
  let v2752 : BitVec 32 := Scalar.addi v230 c384_i32_1732
  v2752
def k0_cond50 (v230 : BitVec 32) (v231 : BitVec 32) : BitVec 1 :=
  let v232 : BitVec 32 := Scalar.subi v231 v230
  let c0_i32_111 : BitVec 32 := 0#32
  let v234 : BitVec 1 := Scalar.cmpi .sgt v232 c0_i32_111
  let c512_i32_110 : BitVec 32 := 512#32
  let v233 : BitVec 1 := Scalar.cmpi .sge v232 c512_i32_110
  let true_112 : BitVec 1 := 1#1
  let v235 : BitVec 1 := Scalar.xori v233 true_112
  let v236 : BitVec 1 := Scalar.andi v234 v235
  let c384_i32_120 : BitVec 32 := 384#32
  let v251 : BitVec 1 := Scalar.cmpi .sgt v232 c384_i32_120
  let v252 : BitVec 1 := Scalar.andi v236 v251
  let v253 : BitVec 32 := Scalar.extui v252
  let c0_i32_121 : BitVec 32 := 0#32
  let v254 : BitVec 1 := Scalar.cmpi .ne v253 c0_i32_121
  v254

def k0_off50 (v230 : BitVec 32) : Fin 2 → Nat :=
  let c384_i32_1732 : BitVec 32 := 384#32
  let v2752 : BitVec 32 := Scalar.addi v230 c384_i32_1732
  let v2753 : BitVec 32 := v2752
  let c0_i32_1737 : BitVec 32 := 0#32
  ![v2753.toNat, 0]

def k0_chk10 (v230 : BitVec 32) (v231 : BitVec 32) : Prop :=
  (∀ (k0_h46 : k0_cond46 v230 v231 = 1#1), 128 ∣ (k0_mult46 v230).toNat) ∧
  (∀ (k0_h46 : k0_cond46 v230 v231 = 1#1), ∀ a, (k0_off46 v230) a + S512x1024.size a ≤ S8192x1024.size a) ∧
  (∀ (k0_h47 : k0_cond47 v230 v231 = 1#1), 128 ∣ (k0_mult47 v230).toNat) ∧
  (∀ (k0_h47 : k0_cond47 v230 v231 = 1#1), ∀ a, (k0_off47 v230) a + S128x1024.size a ≤ S8192x1024.size a) ∧
  (∀ (k0_h48 : k0_cond48 v230 v231 = 1#1), 128 ∣ (k0_mult48 v230).toNat) ∧
  (∀ (k0_h48 : k0_cond48 v230 v231 = 1#1), ∀ a, (k0_off48 v230) a + S128x1024.size a ≤ S8192x1024.size a) ∧
  (∀ (k0_h49 : k0_cond49 v230 v231 = 1#1), 128 ∣ (k0_mult49 v230).toNat) ∧
  (∀ (k0_h49 : k0_cond49 v230 v231 = 1#1), ∀ a, (k0_off49 v230) a + S128x1024.size a ≤ S8192x1024.size a) ∧
  (∀ (k0_h50 : k0_cond50 v230 v231 = 1#1), 128 ∣ (k0_mult50 v230).toNat) ∧
  (∀ (k0_h50 : k0_cond50 v230 v231 = 1#1), ∀ a, (k0_off50 v230) a + S128x1024.size a ≤ S8192x1024.size a)
theorem k0_mult46_dvd : ∀ (v230 : BitVec 32) (v231 : BitVec 32) (k0_hw10 : k0_chk10 v230 v231), ∀ (k0_h46 : k0_cond46 v230 v231 = 1#1), 128 ∣ (k0_mult46 v230).toNat := fun v230 v231 k0_hw10 k0_h46 => k0_hw10.1 k0_h46
theorem k0_off46_inb : ∀ (v230 : BitVec 32) (v231 : BitVec 32) (k0_hw10 : k0_chk10 v230 v231), ∀ (k0_h46 : k0_cond46 v230 v231 = 1#1), ∀ a, (k0_off46 v230) a + S512x1024.size a ≤ S8192x1024.size a := fun v230 v231 k0_hw10 k0_h46 => k0_hw10.2.1 k0_h46
theorem k0_mult47_dvd : ∀ (v230 : BitVec 32) (v231 : BitVec 32) (k0_hw10 : k0_chk10 v230 v231), ∀ (k0_h47 : k0_cond47 v230 v231 = 1#1), 128 ∣ (k0_mult47 v230).toNat := fun v230 v231 k0_hw10 k0_h47 => k0_hw10.2.2.1 k0_h47
theorem k0_off47_inb : ∀ (v230 : BitVec 32) (v231 : BitVec 32) (k0_hw10 : k0_chk10 v230 v231), ∀ (k0_h47 : k0_cond47 v230 v231 = 1#1), ∀ a, (k0_off47 v230) a + S128x1024.size a ≤ S8192x1024.size a := fun v230 v231 k0_hw10 k0_h47 => k0_hw10.2.2.2.1 k0_h47
theorem k0_mult48_dvd : ∀ (v230 : BitVec 32) (v231 : BitVec 32) (k0_hw10 : k0_chk10 v230 v231), ∀ (k0_h48 : k0_cond48 v230 v231 = 1#1), 128 ∣ (k0_mult48 v230).toNat := fun v230 v231 k0_hw10 k0_h48 => k0_hw10.2.2.2.2.1 k0_h48
theorem k0_off48_inb : ∀ (v230 : BitVec 32) (v231 : BitVec 32) (k0_hw10 : k0_chk10 v230 v231), ∀ (k0_h48 : k0_cond48 v230 v231 = 1#1), ∀ a, (k0_off48 v230) a + S128x1024.size a ≤ S8192x1024.size a := fun v230 v231 k0_hw10 k0_h48 => k0_hw10.2.2.2.2.2.1 k0_h48
theorem k0_mult49_dvd : ∀ (v230 : BitVec 32) (v231 : BitVec 32) (k0_hw10 : k0_chk10 v230 v231), ∀ (k0_h49 : k0_cond49 v230 v231 = 1#1), 128 ∣ (k0_mult49 v230).toNat := fun v230 v231 k0_hw10 k0_h49 => k0_hw10.2.2.2.2.2.2.1 k0_h49
theorem k0_off49_inb : ∀ (v230 : BitVec 32) (v231 : BitVec 32) (k0_hw10 : k0_chk10 v230 v231), ∀ (k0_h49 : k0_cond49 v230 v231 = 1#1), ∀ a, (k0_off49 v230) a + S128x1024.size a ≤ S8192x1024.size a := fun v230 v231 k0_hw10 k0_h49 => k0_hw10.2.2.2.2.2.2.2.1 k0_h49
theorem k0_mult50_dvd : ∀ (v230 : BitVec 32) (v231 : BitVec 32) (k0_hw10 : k0_chk10 v230 v231), ∀ (k0_h50 : k0_cond50 v230 v231 = 1#1), 128 ∣ (k0_mult50 v230).toNat := fun v230 v231 k0_hw10 k0_h50 => k0_hw10.2.2.2.2.2.2.2.2.1 k0_h50
theorem k0_off50_inb : ∀ (v230 : BitVec 32) (v231 : BitVec 32) (k0_hw10 : k0_chk10 v230 v231), ∀ (k0_h50 : k0_cond50 v230 v231 = 1#1), ∀ a, (k0_off50 v230) a + S128x1024.size a ≤ S8192x1024.size a := fun v230 v231 k0_hw10 k0_h50 => k0_hw10.2.2.2.2.2.2.2.2.2 k0_h50

def k0_mult51 (v270 : BitVec 32) : BitVec 32 :=
  let c512_i32_1732 : BitVec 32 := 512#32
  let v2752 : BitVec 32 := Scalar.addi v270 c512_i32_1732
  v2752
def k0_cond54 (v270 : BitVec 32) (v271 : BitVec 32) : BitVec 1 :=
  let v272 : BitVec 32 := Scalar.subi v271 v270
  let c1024_i32_136 : BitVec 32 := 1024#32
  let v273 : BitVec 1 := Scalar.cmpi .sge v272 c1024_i32_136
  let v277 : BitVec 32 := Scalar.extui v273
  let c0_i32_139 : BitVec 32 := 0#32
  let v278 : BitVec 1 := Scalar.cmpi .ne v277 c0_i32_139
  v278

def k0_off51 (v270 : BitVec 32) : Fin 2 → Nat :=
  let c512_i32_1732 : BitVec 32 := 512#32
  let v2752 : BitVec 32 := Scalar.addi v270 c512_i32_1732
  let v2753 : BitVec 32 := v2752
  let c0_i32_1737 : BitVec 32 := 0#32
  ![v2753.toNat, 0]
def k0_mult52 (v270 : BitVec 32) : BitVec 32 :=
  let c512_i32_1732 : BitVec 32 := 512#32
  let v2752 : BitVec 32 := Scalar.addi v270 c512_i32_1732
  v2752
def k0_cond55 (v270 : BitVec 32) (v271 : BitVec 32) : BitVec 1 :=
  let v272 : BitVec 32 := Scalar.subi v271 v270
  let c512_i32_137 : BitVec 32 := 512#32
  let v274 : BitVec 1 := Scalar.cmpi .sgt v272 c512_i32_137
  let c1024_i32_136 : BitVec 32 := 1024#32
  let v273 : BitVec 1 := Scalar.cmpi .sge v272 c1024_i32_136
  let true_138 : BitVec 1 := 1#1
  let v275 : BitVec 1 := Scalar.xori v273 true_138
  let v276 : BitVec 1 := Scalar.andi v274 v275
  let c512_i32_140 : BitVec 32 := 512#32
  let v279 : BitVec 1 := Scalar.cmpi .sgt v272 c512_i32_140
  let v280 : BitVec 1 := Scalar.andi v276 v279
  let v281 : BitVec 32 := Scalar.extui v280
  let c0_i32_141 : BitVec 32 := 0#32
  let v282 : BitVec 1 := Scalar.cmpi .ne v281 c0_i32_141
  v282

def k0_off52 (v270 : BitVec 32) : Fin 2 → Nat :=
  let c512_i32_1732 : BitVec 32 := 512#32
  let v2752 : BitVec 32 := Scalar.addi v270 c512_i32_1732
  let v2753 : BitVec 32 := v2752
  let c0_i32_1737 : BitVec 32 := 0#32
  ![v2753.toNat, 0]
def k0_mult53 (v270 : BitVec 32) : BitVec 32 :=
  let c640_i32_1732 : BitVec 32 := 640#32
  let v2752 : BitVec 32 := Scalar.addi v270 c640_i32_1732
  v2752
def k0_cond56 (v270 : BitVec 32) (v271 : BitVec 32) : BitVec 1 :=
  let v272 : BitVec 32 := Scalar.subi v271 v270
  let c512_i32_137 : BitVec 32 := 512#32
  let v274 : BitVec 1 := Scalar.cmpi .sgt v272 c512_i32_137
  let c1024_i32_136 : BitVec 32 := 1024#32
  let v273 : BitVec 1 := Scalar.cmpi .sge v272 c1024_i32_136
  let true_138 : BitVec 1 := 1#1
  let v275 : BitVec 1 := Scalar.xori v273 true_138
  let v276 : BitVec 1 := Scalar.andi v274 v275
  let c640_i32_142 : BitVec 32 := 640#32
  let v283 : BitVec 1 := Scalar.cmpi .sgt v272 c640_i32_142
  let v284 : BitVec 1 := Scalar.andi v276 v283
  let v285 : BitVec 32 := Scalar.extui v284
  let c0_i32_143 : BitVec 32 := 0#32
  let v286 : BitVec 1 := Scalar.cmpi .ne v285 c0_i32_143
  v286

def k0_off53 (v270 : BitVec 32) : Fin 2 → Nat :=
  let c640_i32_1732 : BitVec 32 := 640#32
  let v2752 : BitVec 32 := Scalar.addi v270 c640_i32_1732
  let v2753 : BitVec 32 := v2752
  let c0_i32_1737 : BitVec 32 := 0#32
  ![v2753.toNat, 0]
def k0_mult54 (v270 : BitVec 32) : BitVec 32 :=
  let c768_i32_1732 : BitVec 32 := 768#32
  let v2752 : BitVec 32 := Scalar.addi v270 c768_i32_1732
  v2752
def k0_cond57 (v270 : BitVec 32) (v271 : BitVec 32) : BitVec 1 :=
  let v272 : BitVec 32 := Scalar.subi v271 v270
  let c512_i32_137 : BitVec 32 := 512#32
  let v274 : BitVec 1 := Scalar.cmpi .sgt v272 c512_i32_137
  let c1024_i32_136 : BitVec 32 := 1024#32
  let v273 : BitVec 1 := Scalar.cmpi .sge v272 c1024_i32_136
  let true_138 : BitVec 1 := 1#1
  let v275 : BitVec 1 := Scalar.xori v273 true_138
  let v276 : BitVec 1 := Scalar.andi v274 v275
  let c768_i32_144 : BitVec 32 := 768#32
  let v287 : BitVec 1 := Scalar.cmpi .sgt v272 c768_i32_144
  let v288 : BitVec 1 := Scalar.andi v276 v287
  let v289 : BitVec 32 := Scalar.extui v288
  let c0_i32_145 : BitVec 32 := 0#32
  let v290 : BitVec 1 := Scalar.cmpi .ne v289 c0_i32_145
  v290

def k0_off54 (v270 : BitVec 32) : Fin 2 → Nat :=
  let c768_i32_1732 : BitVec 32 := 768#32
  let v2752 : BitVec 32 := Scalar.addi v270 c768_i32_1732
  let v2753 : BitVec 32 := v2752
  let c0_i32_1737 : BitVec 32 := 0#32
  ![v2753.toNat, 0]
def k0_mult55 (v270 : BitVec 32) : BitVec 32 :=
  let c896_i32_1732 : BitVec 32 := 896#32
  let v2752 : BitVec 32 := Scalar.addi v270 c896_i32_1732
  v2752
def k0_cond58 (v270 : BitVec 32) (v271 : BitVec 32) : BitVec 1 :=
  let v272 : BitVec 32 := Scalar.subi v271 v270
  let c512_i32_137 : BitVec 32 := 512#32
  let v274 : BitVec 1 := Scalar.cmpi .sgt v272 c512_i32_137
  let c1024_i32_136 : BitVec 32 := 1024#32
  let v273 : BitVec 1 := Scalar.cmpi .sge v272 c1024_i32_136
  let true_138 : BitVec 1 := 1#1
  let v275 : BitVec 1 := Scalar.xori v273 true_138
  let v276 : BitVec 1 := Scalar.andi v274 v275
  let c896_i32_146 : BitVec 32 := 896#32
  let v291 : BitVec 1 := Scalar.cmpi .sgt v272 c896_i32_146
  let v292 : BitVec 1 := Scalar.andi v276 v291
  let v293 : BitVec 32 := Scalar.extui v292
  let c0_i32_147 : BitVec 32 := 0#32
  let v294 : BitVec 1 := Scalar.cmpi .ne v293 c0_i32_147
  v294

def k0_off55 (v270 : BitVec 32) : Fin 2 → Nat :=
  let c896_i32_1732 : BitVec 32 := 896#32
  let v2752 : BitVec 32 := Scalar.addi v270 c896_i32_1732
  let v2753 : BitVec 32 := v2752
  let c0_i32_1737 : BitVec 32 := 0#32
  ![v2753.toNat, 0]

def k0_chk11 (v270 : BitVec 32) (v271 : BitVec 32) : Prop :=
  (∀ (k0_h54 : k0_cond54 v270 v271 = 1#1), 128 ∣ (k0_mult51 v270).toNat) ∧
  (∀ (k0_h54 : k0_cond54 v270 v271 = 1#1), ∀ a, (k0_off51 v270) a + S512x1024.size a ≤ S8192x1024.size a) ∧
  (∀ (k0_h55 : k0_cond55 v270 v271 = 1#1), 128 ∣ (k0_mult52 v270).toNat) ∧
  (∀ (k0_h55 : k0_cond55 v270 v271 = 1#1), ∀ a, (k0_off52 v270) a + S128x1024.size a ≤ S8192x1024.size a) ∧
  (∀ (k0_h56 : k0_cond56 v270 v271 = 1#1), 128 ∣ (k0_mult53 v270).toNat) ∧
  (∀ (k0_h56 : k0_cond56 v270 v271 = 1#1), ∀ a, (k0_off53 v270) a + S128x1024.size a ≤ S8192x1024.size a) ∧
  (∀ (k0_h57 : k0_cond57 v270 v271 = 1#1), 128 ∣ (k0_mult54 v270).toNat) ∧
  (∀ (k0_h57 : k0_cond57 v270 v271 = 1#1), ∀ a, (k0_off54 v270) a + S128x1024.size a ≤ S8192x1024.size a) ∧
  (∀ (k0_h58 : k0_cond58 v270 v271 = 1#1), 128 ∣ (k0_mult55 v270).toNat) ∧
  (∀ (k0_h58 : k0_cond58 v270 v271 = 1#1), ∀ a, (k0_off55 v270) a + S128x1024.size a ≤ S8192x1024.size a)
theorem k0_mult51_dvd : ∀ (v270 : BitVec 32) (v271 : BitVec 32) (k0_hw11 : k0_chk11 v270 v271), ∀ (k0_h54 : k0_cond54 v270 v271 = 1#1), 128 ∣ (k0_mult51 v270).toNat := fun v270 v271 k0_hw11 k0_h54 => k0_hw11.1 k0_h54
theorem k0_off51_inb : ∀ (v270 : BitVec 32) (v271 : BitVec 32) (k0_hw11 : k0_chk11 v270 v271), ∀ (k0_h54 : k0_cond54 v270 v271 = 1#1), ∀ a, (k0_off51 v270) a + S512x1024.size a ≤ S8192x1024.size a := fun v270 v271 k0_hw11 k0_h54 => k0_hw11.2.1 k0_h54
theorem k0_mult52_dvd : ∀ (v270 : BitVec 32) (v271 : BitVec 32) (k0_hw11 : k0_chk11 v270 v271), ∀ (k0_h55 : k0_cond55 v270 v271 = 1#1), 128 ∣ (k0_mult52 v270).toNat := fun v270 v271 k0_hw11 k0_h55 => k0_hw11.2.2.1 k0_h55
theorem k0_off52_inb : ∀ (v270 : BitVec 32) (v271 : BitVec 32) (k0_hw11 : k0_chk11 v270 v271), ∀ (k0_h55 : k0_cond55 v270 v271 = 1#1), ∀ a, (k0_off52 v270) a + S128x1024.size a ≤ S8192x1024.size a := fun v270 v271 k0_hw11 k0_h55 => k0_hw11.2.2.2.1 k0_h55
theorem k0_mult53_dvd : ∀ (v270 : BitVec 32) (v271 : BitVec 32) (k0_hw11 : k0_chk11 v270 v271), ∀ (k0_h56 : k0_cond56 v270 v271 = 1#1), 128 ∣ (k0_mult53 v270).toNat := fun v270 v271 k0_hw11 k0_h56 => k0_hw11.2.2.2.2.1 k0_h56
theorem k0_off53_inb : ∀ (v270 : BitVec 32) (v271 : BitVec 32) (k0_hw11 : k0_chk11 v270 v271), ∀ (k0_h56 : k0_cond56 v270 v271 = 1#1), ∀ a, (k0_off53 v270) a + S128x1024.size a ≤ S8192x1024.size a := fun v270 v271 k0_hw11 k0_h56 => k0_hw11.2.2.2.2.2.1 k0_h56
theorem k0_mult54_dvd : ∀ (v270 : BitVec 32) (v271 : BitVec 32) (k0_hw11 : k0_chk11 v270 v271), ∀ (k0_h57 : k0_cond57 v270 v271 = 1#1), 128 ∣ (k0_mult54 v270).toNat := fun v270 v271 k0_hw11 k0_h57 => k0_hw11.2.2.2.2.2.2.1 k0_h57
theorem k0_off54_inb : ∀ (v270 : BitVec 32) (v271 : BitVec 32) (k0_hw11 : k0_chk11 v270 v271), ∀ (k0_h57 : k0_cond57 v270 v271 = 1#1), ∀ a, (k0_off54 v270) a + S128x1024.size a ≤ S8192x1024.size a := fun v270 v271 k0_hw11 k0_h57 => k0_hw11.2.2.2.2.2.2.2.1 k0_h57
theorem k0_mult55_dvd : ∀ (v270 : BitVec 32) (v271 : BitVec 32) (k0_hw11 : k0_chk11 v270 v271), ∀ (k0_h58 : k0_cond58 v270 v271 = 1#1), 128 ∣ (k0_mult55 v270).toNat := fun v270 v271 k0_hw11 k0_h58 => k0_hw11.2.2.2.2.2.2.2.2.1 k0_h58
theorem k0_off55_inb : ∀ (v270 : BitVec 32) (v271 : BitVec 32) (k0_hw11 : k0_chk11 v270 v271), ∀ (k0_h58 : k0_cond58 v270 v271 = 1#1), ∀ a, (k0_off55 v270) a + S128x1024.size a ≤ S8192x1024.size a := fun v270 v271 k0_hw11 k0_h58 => k0_hw11.2.2.2.2.2.2.2.2.2 k0_h58

def k0_mult56 (v310 : BitVec 32) : BitVec 32 :=
  let c512_i32_1732 : BitVec 32 := 512#32
  let v2752 : BitVec 32 := Scalar.addi v310 c512_i32_1732
  v2752
def k0_cond59 (v310 : BitVec 32) (v311 : BitVec 32) : BitVec 1 :=
  let v312 : BitVec 32 := Scalar.subi v311 v310
  let c1024_i32_158 : BitVec 32 := 1024#32
  let v313 : BitVec 1 := Scalar.cmpi .sge v312 c1024_i32_158
  let v317 : BitVec 32 := Scalar.extui v313
  let c0_i32_161 : BitVec 32 := 0#32
  let v318 : BitVec 1 := Scalar.cmpi .ne v317 c0_i32_161
  v318

def k0_off56 (v310 : BitVec 32) : Fin 2 → Nat :=
  let c512_i32_1732 : BitVec 32 := 512#32
  let v2752 : BitVec 32 := Scalar.addi v310 c512_i32_1732
  let v2753 : BitVec 32 := v2752
  let c0_i32_1737 : BitVec 32 := 0#32
  ![v2753.toNat, 0]
def k0_mult57 (v310 : BitVec 32) : BitVec 32 :=
  let c512_i32_1732 : BitVec 32 := 512#32
  let v2752 : BitVec 32 := Scalar.addi v310 c512_i32_1732
  v2752
def k0_cond60 (v310 : BitVec 32) (v311 : BitVec 32) : BitVec 1 :=
  let v312 : BitVec 32 := Scalar.subi v311 v310
  let c512_i32_159 : BitVec 32 := 512#32
  let v314 : BitVec 1 := Scalar.cmpi .sgt v312 c512_i32_159
  let c1024_i32_158 : BitVec 32 := 1024#32
  let v313 : BitVec 1 := Scalar.cmpi .sge v312 c1024_i32_158
  let true_160 : BitVec 1 := 1#1
  let v315 : BitVec 1 := Scalar.xori v313 true_160
  let v316 : BitVec 1 := Scalar.andi v314 v315
  let c512_i32_162 : BitVec 32 := 512#32
  let v319 : BitVec 1 := Scalar.cmpi .sgt v312 c512_i32_162
  let v320 : BitVec 1 := Scalar.andi v316 v319
  let v321 : BitVec 32 := Scalar.extui v320
  let c0_i32_163 : BitVec 32 := 0#32
  let v322 : BitVec 1 := Scalar.cmpi .ne v321 c0_i32_163
  v322

def k0_off57 (v310 : BitVec 32) : Fin 2 → Nat :=
  let c512_i32_1732 : BitVec 32 := 512#32
  let v2752 : BitVec 32 := Scalar.addi v310 c512_i32_1732
  let v2753 : BitVec 32 := v2752
  let c0_i32_1737 : BitVec 32 := 0#32
  ![v2753.toNat, 0]
def k0_mult58 (v310 : BitVec 32) : BitVec 32 :=
  let c640_i32_1732 : BitVec 32 := 640#32
  let v2752 : BitVec 32 := Scalar.addi v310 c640_i32_1732
  v2752
def k0_cond61 (v310 : BitVec 32) (v311 : BitVec 32) : BitVec 1 :=
  let v312 : BitVec 32 := Scalar.subi v311 v310
  let c512_i32_159 : BitVec 32 := 512#32
  let v314 : BitVec 1 := Scalar.cmpi .sgt v312 c512_i32_159
  let c1024_i32_158 : BitVec 32 := 1024#32
  let v313 : BitVec 1 := Scalar.cmpi .sge v312 c1024_i32_158
  let true_160 : BitVec 1 := 1#1
  let v315 : BitVec 1 := Scalar.xori v313 true_160
  let v316 : BitVec 1 := Scalar.andi v314 v315
  let c640_i32_164 : BitVec 32 := 640#32
  let v323 : BitVec 1 := Scalar.cmpi .sgt v312 c640_i32_164
  let v324 : BitVec 1 := Scalar.andi v316 v323
  let v325 : BitVec 32 := Scalar.extui v324
  let c0_i32_165 : BitVec 32 := 0#32
  let v326 : BitVec 1 := Scalar.cmpi .ne v325 c0_i32_165
  v326

def k0_off58 (v310 : BitVec 32) : Fin 2 → Nat :=
  let c640_i32_1732 : BitVec 32 := 640#32
  let v2752 : BitVec 32 := Scalar.addi v310 c640_i32_1732
  let v2753 : BitVec 32 := v2752
  let c0_i32_1737 : BitVec 32 := 0#32
  ![v2753.toNat, 0]
def k0_mult59 (v310 : BitVec 32) : BitVec 32 :=
  let c768_i32_1732 : BitVec 32 := 768#32
  let v2752 : BitVec 32 := Scalar.addi v310 c768_i32_1732
  v2752
def k0_cond62 (v310 : BitVec 32) (v311 : BitVec 32) : BitVec 1 :=
  let v312 : BitVec 32 := Scalar.subi v311 v310
  let c512_i32_159 : BitVec 32 := 512#32
  let v314 : BitVec 1 := Scalar.cmpi .sgt v312 c512_i32_159
  let c1024_i32_158 : BitVec 32 := 1024#32
  let v313 : BitVec 1 := Scalar.cmpi .sge v312 c1024_i32_158
  let true_160 : BitVec 1 := 1#1
  let v315 : BitVec 1 := Scalar.xori v313 true_160
  let v316 : BitVec 1 := Scalar.andi v314 v315
  let c768_i32_166 : BitVec 32 := 768#32
  let v327 : BitVec 1 := Scalar.cmpi .sgt v312 c768_i32_166
  let v328 : BitVec 1 := Scalar.andi v316 v327
  let v329 : BitVec 32 := Scalar.extui v328
  let c0_i32_167 : BitVec 32 := 0#32
  let v330 : BitVec 1 := Scalar.cmpi .ne v329 c0_i32_167
  v330

def k0_off59 (v310 : BitVec 32) : Fin 2 → Nat :=
  let c768_i32_1732 : BitVec 32 := 768#32
  let v2752 : BitVec 32 := Scalar.addi v310 c768_i32_1732
  let v2753 : BitVec 32 := v2752
  let c0_i32_1737 : BitVec 32 := 0#32
  ![v2753.toNat, 0]
def k0_mult60 (v310 : BitVec 32) : BitVec 32 :=
  let c896_i32_1732 : BitVec 32 := 896#32
  let v2752 : BitVec 32 := Scalar.addi v310 c896_i32_1732
  v2752
def k0_cond63 (v310 : BitVec 32) (v311 : BitVec 32) : BitVec 1 :=
  let v312 : BitVec 32 := Scalar.subi v311 v310
  let c512_i32_159 : BitVec 32 := 512#32
  let v314 : BitVec 1 := Scalar.cmpi .sgt v312 c512_i32_159
  let c1024_i32_158 : BitVec 32 := 1024#32
  let v313 : BitVec 1 := Scalar.cmpi .sge v312 c1024_i32_158
  let true_160 : BitVec 1 := 1#1
  let v315 : BitVec 1 := Scalar.xori v313 true_160
  let v316 : BitVec 1 := Scalar.andi v314 v315
  let c896_i32_168 : BitVec 32 := 896#32
  let v331 : BitVec 1 := Scalar.cmpi .sgt v312 c896_i32_168
  let v332 : BitVec 1 := Scalar.andi v316 v331
  let v333 : BitVec 32 := Scalar.extui v332
  let c0_i32_169 : BitVec 32 := 0#32
  let v334 : BitVec 1 := Scalar.cmpi .ne v333 c0_i32_169
  v334

def k0_off60 (v310 : BitVec 32) : Fin 2 → Nat :=
  let c896_i32_1732 : BitVec 32 := 896#32
  let v2752 : BitVec 32 := Scalar.addi v310 c896_i32_1732
  let v2753 : BitVec 32 := v2752
  let c0_i32_1737 : BitVec 32 := 0#32
  ![v2753.toNat, 0]

def k0_chk12 (v310 : BitVec 32) (v311 : BitVec 32) : Prop :=
  (∀ (k0_h59 : k0_cond59 v310 v311 = 1#1), 128 ∣ (k0_mult56 v310).toNat) ∧
  (∀ (k0_h59 : k0_cond59 v310 v311 = 1#1), ∀ a, (k0_off56 v310) a + S512x1024.size a ≤ S8192x1024.size a) ∧
  (∀ (k0_h60 : k0_cond60 v310 v311 = 1#1), 128 ∣ (k0_mult57 v310).toNat) ∧
  (∀ (k0_h60 : k0_cond60 v310 v311 = 1#1), ∀ a, (k0_off57 v310) a + S128x1024.size a ≤ S8192x1024.size a) ∧
  (∀ (k0_h61 : k0_cond61 v310 v311 = 1#1), 128 ∣ (k0_mult58 v310).toNat) ∧
  (∀ (k0_h61 : k0_cond61 v310 v311 = 1#1), ∀ a, (k0_off58 v310) a + S128x1024.size a ≤ S8192x1024.size a) ∧
  (∀ (k0_h62 : k0_cond62 v310 v311 = 1#1), 128 ∣ (k0_mult59 v310).toNat) ∧
  (∀ (k0_h62 : k0_cond62 v310 v311 = 1#1), ∀ a, (k0_off59 v310) a + S128x1024.size a ≤ S8192x1024.size a) ∧
  (∀ (k0_h63 : k0_cond63 v310 v311 = 1#1), 128 ∣ (k0_mult60 v310).toNat) ∧
  (∀ (k0_h63 : k0_cond63 v310 v311 = 1#1), ∀ a, (k0_off60 v310) a + S128x1024.size a ≤ S8192x1024.size a)
theorem k0_mult56_dvd : ∀ (v310 : BitVec 32) (v311 : BitVec 32) (k0_hw12 : k0_chk12 v310 v311), ∀ (k0_h59 : k0_cond59 v310 v311 = 1#1), 128 ∣ (k0_mult56 v310).toNat := fun v310 v311 k0_hw12 k0_h59 => k0_hw12.1 k0_h59
theorem k0_off56_inb : ∀ (v310 : BitVec 32) (v311 : BitVec 32) (k0_hw12 : k0_chk12 v310 v311), ∀ (k0_h59 : k0_cond59 v310 v311 = 1#1), ∀ a, (k0_off56 v310) a + S512x1024.size a ≤ S8192x1024.size a := fun v310 v311 k0_hw12 k0_h59 => k0_hw12.2.1 k0_h59
theorem k0_mult57_dvd : ∀ (v310 : BitVec 32) (v311 : BitVec 32) (k0_hw12 : k0_chk12 v310 v311), ∀ (k0_h60 : k0_cond60 v310 v311 = 1#1), 128 ∣ (k0_mult57 v310).toNat := fun v310 v311 k0_hw12 k0_h60 => k0_hw12.2.2.1 k0_h60
theorem k0_off57_inb : ∀ (v310 : BitVec 32) (v311 : BitVec 32) (k0_hw12 : k0_chk12 v310 v311), ∀ (k0_h60 : k0_cond60 v310 v311 = 1#1), ∀ a, (k0_off57 v310) a + S128x1024.size a ≤ S8192x1024.size a := fun v310 v311 k0_hw12 k0_h60 => k0_hw12.2.2.2.1 k0_h60
theorem k0_mult58_dvd : ∀ (v310 : BitVec 32) (v311 : BitVec 32) (k0_hw12 : k0_chk12 v310 v311), ∀ (k0_h61 : k0_cond61 v310 v311 = 1#1), 128 ∣ (k0_mult58 v310).toNat := fun v310 v311 k0_hw12 k0_h61 => k0_hw12.2.2.2.2.1 k0_h61
theorem k0_off58_inb : ∀ (v310 : BitVec 32) (v311 : BitVec 32) (k0_hw12 : k0_chk12 v310 v311), ∀ (k0_h61 : k0_cond61 v310 v311 = 1#1), ∀ a, (k0_off58 v310) a + S128x1024.size a ≤ S8192x1024.size a := fun v310 v311 k0_hw12 k0_h61 => k0_hw12.2.2.2.2.2.1 k0_h61
theorem k0_mult59_dvd : ∀ (v310 : BitVec 32) (v311 : BitVec 32) (k0_hw12 : k0_chk12 v310 v311), ∀ (k0_h62 : k0_cond62 v310 v311 = 1#1), 128 ∣ (k0_mult59 v310).toNat := fun v310 v311 k0_hw12 k0_h62 => k0_hw12.2.2.2.2.2.2.1 k0_h62
theorem k0_off59_inb : ∀ (v310 : BitVec 32) (v311 : BitVec 32) (k0_hw12 : k0_chk12 v310 v311), ∀ (k0_h62 : k0_cond62 v310 v311 = 1#1), ∀ a, (k0_off59 v310) a + S128x1024.size a ≤ S8192x1024.size a := fun v310 v311 k0_hw12 k0_h62 => k0_hw12.2.2.2.2.2.2.2.1 k0_h62
theorem k0_mult60_dvd : ∀ (v310 : BitVec 32) (v311 : BitVec 32) (k0_hw12 : k0_chk12 v310 v311), ∀ (k0_h63 : k0_cond63 v310 v311 = 1#1), 128 ∣ (k0_mult60 v310).toNat := fun v310 v311 k0_hw12 k0_h63 => k0_hw12.2.2.2.2.2.2.2.2.1 k0_h63
theorem k0_off60_inb : ∀ (v310 : BitVec 32) (v311 : BitVec 32) (k0_hw12 : k0_chk12 v310 v311), ∀ (k0_h63 : k0_cond63 v310 v311 = 1#1), ∀ a, (k0_off60 v310) a + S128x1024.size a ≤ S8192x1024.size a := fun v310 v311 k0_hw12 k0_h63 => k0_hw12.2.2.2.2.2.2.2.2.2 k0_h63

def k0_mult61 (v350 : BitVec 32) : BitVec 32 :=
  let c1024_i32_1732 : BitVec 32 := 1024#32
  let v2752 : BitVec 32 := Scalar.addi v350 c1024_i32_1732
  v2752
def k0_cond67 (v350 : BitVec 32) (v351 : BitVec 32) : BitVec 1 :=
  let v352 : BitVec 32 := Scalar.subi v351 v350
  let c1536_i32_183 : BitVec 32 := 1536#32
  let v353 : BitVec 1 := Scalar.cmpi .sge v352 c1536_i32_183
  let v357 : BitVec 32 := Scalar.extui v353
  let c0_i32_186 : BitVec 32 := 0#32
  let v358 : BitVec 1 := Scalar.cmpi .ne v357 c0_i32_186
  v358

def k0_off61 (v350 : BitVec 32) : Fin 2 → Nat :=
  let c1024_i32_1732 : BitVec 32 := 1024#32
  let v2752 : BitVec 32 := Scalar.addi v350 c1024_i32_1732
  let v2753 : BitVec 32 := v2752
  let c0_i32_1737 : BitVec 32 := 0#32
  ![v2753.toNat, 0]
def k0_mult62 (v350 : BitVec 32) : BitVec 32 :=
  let c1024_i32_1732 : BitVec 32 := 1024#32
  let v2752 : BitVec 32 := Scalar.addi v350 c1024_i32_1732
  v2752
def k0_cond68 (v350 : BitVec 32) (v351 : BitVec 32) : BitVec 1 :=
  let v352 : BitVec 32 := Scalar.subi v351 v350
  let c1024_i32_184 : BitVec 32 := 1024#32
  let v354 : BitVec 1 := Scalar.cmpi .sgt v352 c1024_i32_184
  let c1536_i32_183 : BitVec 32 := 1536#32
  let v353 : BitVec 1 := Scalar.cmpi .sge v352 c1536_i32_183
  let true_185 : BitVec 1 := 1#1
  let v355 : BitVec 1 := Scalar.xori v353 true_185
  let v356 : BitVec 1 := Scalar.andi v354 v355
  let c1024_i32_187 : BitVec 32 := 1024#32
  let v359 : BitVec 1 := Scalar.cmpi .sgt v352 c1024_i32_187
  let v360 : BitVec 1 := Scalar.andi v356 v359
  let v361 : BitVec 32 := Scalar.extui v360
  let c0_i32_188 : BitVec 32 := 0#32
  let v362 : BitVec 1 := Scalar.cmpi .ne v361 c0_i32_188
  v362

def k0_off62 (v350 : BitVec 32) : Fin 2 → Nat :=
  let c1024_i32_1732 : BitVec 32 := 1024#32
  let v2752 : BitVec 32 := Scalar.addi v350 c1024_i32_1732
  let v2753 : BitVec 32 := v2752
  let c0_i32_1737 : BitVec 32 := 0#32
  ![v2753.toNat, 0]
def k0_mult63 (v350 : BitVec 32) : BitVec 32 :=
  let c1152_i32_1732 : BitVec 32 := 1152#32
  let v2752 : BitVec 32 := Scalar.addi v350 c1152_i32_1732
  v2752
def k0_cond69 (v350 : BitVec 32) (v351 : BitVec 32) : BitVec 1 :=
  let v352 : BitVec 32 := Scalar.subi v351 v350
  let c1024_i32_184 : BitVec 32 := 1024#32
  let v354 : BitVec 1 := Scalar.cmpi .sgt v352 c1024_i32_184
  let c1536_i32_183 : BitVec 32 := 1536#32
  let v353 : BitVec 1 := Scalar.cmpi .sge v352 c1536_i32_183
  let true_185 : BitVec 1 := 1#1
  let v355 : BitVec 1 := Scalar.xori v353 true_185
  let v356 : BitVec 1 := Scalar.andi v354 v355
  let c1152_i32_189 : BitVec 32 := 1152#32
  let v363 : BitVec 1 := Scalar.cmpi .sgt v352 c1152_i32_189
  let v364 : BitVec 1 := Scalar.andi v356 v363
  let v365 : BitVec 32 := Scalar.extui v364
  let c0_i32_190 : BitVec 32 := 0#32
  let v366 : BitVec 1 := Scalar.cmpi .ne v365 c0_i32_190
  v366

def k0_off63 (v350 : BitVec 32) : Fin 2 → Nat :=
  let c1152_i32_1732 : BitVec 32 := 1152#32
  let v2752 : BitVec 32 := Scalar.addi v350 c1152_i32_1732
  let v2753 : BitVec 32 := v2752
  let c0_i32_1737 : BitVec 32 := 0#32
  ![v2753.toNat, 0]
def k0_mult64 (v350 : BitVec 32) : BitVec 32 :=
  let c1280_i32_1732 : BitVec 32 := 1280#32
  let v2752 : BitVec 32 := Scalar.addi v350 c1280_i32_1732
  v2752
def k0_cond70 (v350 : BitVec 32) (v351 : BitVec 32) : BitVec 1 :=
  let v352 : BitVec 32 := Scalar.subi v351 v350
  let c1024_i32_184 : BitVec 32 := 1024#32
  let v354 : BitVec 1 := Scalar.cmpi .sgt v352 c1024_i32_184
  let c1536_i32_183 : BitVec 32 := 1536#32
  let v353 : BitVec 1 := Scalar.cmpi .sge v352 c1536_i32_183
  let true_185 : BitVec 1 := 1#1
  let v355 : BitVec 1 := Scalar.xori v353 true_185
  let v356 : BitVec 1 := Scalar.andi v354 v355
  let c1280_i32_191 : BitVec 32 := 1280#32
  let v367 : BitVec 1 := Scalar.cmpi .sgt v352 c1280_i32_191
  let v368 : BitVec 1 := Scalar.andi v356 v367
  let v369 : BitVec 32 := Scalar.extui v368
  let c0_i32_192 : BitVec 32 := 0#32
  let v370 : BitVec 1 := Scalar.cmpi .ne v369 c0_i32_192
  v370

def k0_off64 (v350 : BitVec 32) : Fin 2 → Nat :=
  let c1280_i32_1732 : BitVec 32 := 1280#32
  let v2752 : BitVec 32 := Scalar.addi v350 c1280_i32_1732
  let v2753 : BitVec 32 := v2752
  let c0_i32_1737 : BitVec 32 := 0#32
  ![v2753.toNat, 0]
def k0_mult65 (v350 : BitVec 32) : BitVec 32 :=
  let c1408_i32_1732 : BitVec 32 := 1408#32
  let v2752 : BitVec 32 := Scalar.addi v350 c1408_i32_1732
  v2752
def k0_cond71 (v350 : BitVec 32) (v351 : BitVec 32) : BitVec 1 :=
  let v352 : BitVec 32 := Scalar.subi v351 v350
  let c1024_i32_184 : BitVec 32 := 1024#32
  let v354 : BitVec 1 := Scalar.cmpi .sgt v352 c1024_i32_184
  let c1536_i32_183 : BitVec 32 := 1536#32
  let v353 : BitVec 1 := Scalar.cmpi .sge v352 c1536_i32_183
  let true_185 : BitVec 1 := 1#1
  let v355 : BitVec 1 := Scalar.xori v353 true_185
  let v356 : BitVec 1 := Scalar.andi v354 v355
  let c1408_i32_193 : BitVec 32 := 1408#32
  let v371 : BitVec 1 := Scalar.cmpi .sgt v352 c1408_i32_193
  let v372 : BitVec 1 := Scalar.andi v356 v371
  let v373 : BitVec 32 := Scalar.extui v372
  let c0_i32_194 : BitVec 32 := 0#32
  let v374 : BitVec 1 := Scalar.cmpi .ne v373 c0_i32_194
  v374

def k0_off65 (v350 : BitVec 32) : Fin 2 → Nat :=
  let c1408_i32_1732 : BitVec 32 := 1408#32
  let v2752 : BitVec 32 := Scalar.addi v350 c1408_i32_1732
  let v2753 : BitVec 32 := v2752
  let c0_i32_1737 : BitVec 32 := 0#32
  ![v2753.toNat, 0]

def k0_chk13 (v350 : BitVec 32) (v351 : BitVec 32) : Prop :=
  (∀ (k0_h67 : k0_cond67 v350 v351 = 1#1), 128 ∣ (k0_mult61 v350).toNat) ∧
  (∀ (k0_h67 : k0_cond67 v350 v351 = 1#1), ∀ a, (k0_off61 v350) a + S512x1024.size a ≤ S8192x1024.size a) ∧
  (∀ (k0_h68 : k0_cond68 v350 v351 = 1#1), 128 ∣ (k0_mult62 v350).toNat) ∧
  (∀ (k0_h68 : k0_cond68 v350 v351 = 1#1), ∀ a, (k0_off62 v350) a + S128x1024.size a ≤ S8192x1024.size a) ∧
  (∀ (k0_h69 : k0_cond69 v350 v351 = 1#1), 128 ∣ (k0_mult63 v350).toNat) ∧
  (∀ (k0_h69 : k0_cond69 v350 v351 = 1#1), ∀ a, (k0_off63 v350) a + S128x1024.size a ≤ S8192x1024.size a) ∧
  (∀ (k0_h70 : k0_cond70 v350 v351 = 1#1), 128 ∣ (k0_mult64 v350).toNat) ∧
  (∀ (k0_h70 : k0_cond70 v350 v351 = 1#1), ∀ a, (k0_off64 v350) a + S128x1024.size a ≤ S8192x1024.size a) ∧
  (∀ (k0_h71 : k0_cond71 v350 v351 = 1#1), 128 ∣ (k0_mult65 v350).toNat) ∧
  (∀ (k0_h71 : k0_cond71 v350 v351 = 1#1), ∀ a, (k0_off65 v350) a + S128x1024.size a ≤ S8192x1024.size a)
theorem k0_mult61_dvd : ∀ (v350 : BitVec 32) (v351 : BitVec 32) (k0_hw13 : k0_chk13 v350 v351), ∀ (k0_h67 : k0_cond67 v350 v351 = 1#1), 128 ∣ (k0_mult61 v350).toNat := fun v350 v351 k0_hw13 k0_h67 => k0_hw13.1 k0_h67
theorem k0_off61_inb : ∀ (v350 : BitVec 32) (v351 : BitVec 32) (k0_hw13 : k0_chk13 v350 v351), ∀ (k0_h67 : k0_cond67 v350 v351 = 1#1), ∀ a, (k0_off61 v350) a + S512x1024.size a ≤ S8192x1024.size a := fun v350 v351 k0_hw13 k0_h67 => k0_hw13.2.1 k0_h67
theorem k0_mult62_dvd : ∀ (v350 : BitVec 32) (v351 : BitVec 32) (k0_hw13 : k0_chk13 v350 v351), ∀ (k0_h68 : k0_cond68 v350 v351 = 1#1), 128 ∣ (k0_mult62 v350).toNat := fun v350 v351 k0_hw13 k0_h68 => k0_hw13.2.2.1 k0_h68
theorem k0_off62_inb : ∀ (v350 : BitVec 32) (v351 : BitVec 32) (k0_hw13 : k0_chk13 v350 v351), ∀ (k0_h68 : k0_cond68 v350 v351 = 1#1), ∀ a, (k0_off62 v350) a + S128x1024.size a ≤ S8192x1024.size a := fun v350 v351 k0_hw13 k0_h68 => k0_hw13.2.2.2.1 k0_h68
theorem k0_mult63_dvd : ∀ (v350 : BitVec 32) (v351 : BitVec 32) (k0_hw13 : k0_chk13 v350 v351), ∀ (k0_h69 : k0_cond69 v350 v351 = 1#1), 128 ∣ (k0_mult63 v350).toNat := fun v350 v351 k0_hw13 k0_h69 => k0_hw13.2.2.2.2.1 k0_h69
theorem k0_off63_inb : ∀ (v350 : BitVec 32) (v351 : BitVec 32) (k0_hw13 : k0_chk13 v350 v351), ∀ (k0_h69 : k0_cond69 v350 v351 = 1#1), ∀ a, (k0_off63 v350) a + S128x1024.size a ≤ S8192x1024.size a := fun v350 v351 k0_hw13 k0_h69 => k0_hw13.2.2.2.2.2.1 k0_h69
theorem k0_mult64_dvd : ∀ (v350 : BitVec 32) (v351 : BitVec 32) (k0_hw13 : k0_chk13 v350 v351), ∀ (k0_h70 : k0_cond70 v350 v351 = 1#1), 128 ∣ (k0_mult64 v350).toNat := fun v350 v351 k0_hw13 k0_h70 => k0_hw13.2.2.2.2.2.2.1 k0_h70
theorem k0_off64_inb : ∀ (v350 : BitVec 32) (v351 : BitVec 32) (k0_hw13 : k0_chk13 v350 v351), ∀ (k0_h70 : k0_cond70 v350 v351 = 1#1), ∀ a, (k0_off64 v350) a + S128x1024.size a ≤ S8192x1024.size a := fun v350 v351 k0_hw13 k0_h70 => k0_hw13.2.2.2.2.2.2.2.1 k0_h70
theorem k0_mult65_dvd : ∀ (v350 : BitVec 32) (v351 : BitVec 32) (k0_hw13 : k0_chk13 v350 v351), ∀ (k0_h71 : k0_cond71 v350 v351 = 1#1), 128 ∣ (k0_mult65 v350).toNat := fun v350 v351 k0_hw13 k0_h71 => k0_hw13.2.2.2.2.2.2.2.2.1 k0_h71
theorem k0_off65_inb : ∀ (v350 : BitVec 32) (v351 : BitVec 32) (k0_hw13 : k0_chk13 v350 v351), ∀ (k0_h71 : k0_cond71 v350 v351 = 1#1), ∀ a, (k0_off65 v350) a + S128x1024.size a ≤ S8192x1024.size a := fun v350 v351 k0_hw13 k0_h71 => k0_hw13.2.2.2.2.2.2.2.2.2 k0_h71

def k0_mult66 (v390 : BitVec 32) : BitVec 32 :=
  let c1024_i32_1732 : BitVec 32 := 1024#32
  let v2752 : BitVec 32 := Scalar.addi v390 c1024_i32_1732
  v2752
def k0_cond72 (v390 : BitVec 32) (v391 : BitVec 32) : BitVec 1 :=
  let v392 : BitVec 32 := Scalar.subi v391 v390
  let c1536_i32_206 : BitVec 32 := 1536#32
  let v393 : BitVec 1 := Scalar.cmpi .sge v392 c1536_i32_206
  let v397 : BitVec 32 := Scalar.extui v393
  let c0_i32_209 : BitVec 32 := 0#32
  let v398 : BitVec 1 := Scalar.cmpi .ne v397 c0_i32_209
  v398

def k0_off66 (v390 : BitVec 32) : Fin 2 → Nat :=
  let c1024_i32_1732 : BitVec 32 := 1024#32
  let v2752 : BitVec 32 := Scalar.addi v390 c1024_i32_1732
  let v2753 : BitVec 32 := v2752
  let c0_i32_1737 : BitVec 32 := 0#32
  ![v2753.toNat, 0]
def k0_mult67 (v390 : BitVec 32) : BitVec 32 :=
  let c1024_i32_1732 : BitVec 32 := 1024#32
  let v2752 : BitVec 32 := Scalar.addi v390 c1024_i32_1732
  v2752
def k0_cond73 (v390 : BitVec 32) (v391 : BitVec 32) : BitVec 1 :=
  let v392 : BitVec 32 := Scalar.subi v391 v390
  let c1024_i32_207 : BitVec 32 := 1024#32
  let v394 : BitVec 1 := Scalar.cmpi .sgt v392 c1024_i32_207
  let c1536_i32_206 : BitVec 32 := 1536#32
  let v393 : BitVec 1 := Scalar.cmpi .sge v392 c1536_i32_206
  let true_208 : BitVec 1 := 1#1
  let v395 : BitVec 1 := Scalar.xori v393 true_208
  let v396 : BitVec 1 := Scalar.andi v394 v395
  let c1024_i32_210 : BitVec 32 := 1024#32
  let v399 : BitVec 1 := Scalar.cmpi .sgt v392 c1024_i32_210
  let v400 : BitVec 1 := Scalar.andi v396 v399
  let v401 : BitVec 32 := Scalar.extui v400
  let c0_i32_211 : BitVec 32 := 0#32
  let v402 : BitVec 1 := Scalar.cmpi .ne v401 c0_i32_211
  v402

def k0_off67 (v390 : BitVec 32) : Fin 2 → Nat :=
  let c1024_i32_1732 : BitVec 32 := 1024#32
  let v2752 : BitVec 32 := Scalar.addi v390 c1024_i32_1732
  let v2753 : BitVec 32 := v2752
  let c0_i32_1737 : BitVec 32 := 0#32
  ![v2753.toNat, 0]
def k0_mult68 (v390 : BitVec 32) : BitVec 32 :=
  let c1152_i32_1732 : BitVec 32 := 1152#32
  let v2752 : BitVec 32 := Scalar.addi v390 c1152_i32_1732
  v2752
def k0_cond74 (v390 : BitVec 32) (v391 : BitVec 32) : BitVec 1 :=
  let v392 : BitVec 32 := Scalar.subi v391 v390
  let c1024_i32_207 : BitVec 32 := 1024#32
  let v394 : BitVec 1 := Scalar.cmpi .sgt v392 c1024_i32_207
  let c1536_i32_206 : BitVec 32 := 1536#32
  let v393 : BitVec 1 := Scalar.cmpi .sge v392 c1536_i32_206
  let true_208 : BitVec 1 := 1#1
  let v395 : BitVec 1 := Scalar.xori v393 true_208
  let v396 : BitVec 1 := Scalar.andi v394 v395
  let c1152_i32_212 : BitVec 32 := 1152#32
  let v403 : BitVec 1 := Scalar.cmpi .sgt v392 c1152_i32_212
  let v404 : BitVec 1 := Scalar.andi v396 v403
  let v405 : BitVec 32 := Scalar.extui v404
  let c0_i32_213 : BitVec 32 := 0#32
  let v406 : BitVec 1 := Scalar.cmpi .ne v405 c0_i32_213
  v406

def k0_off68 (v390 : BitVec 32) : Fin 2 → Nat :=
  let c1152_i32_1732 : BitVec 32 := 1152#32
  let v2752 : BitVec 32 := Scalar.addi v390 c1152_i32_1732
  let v2753 : BitVec 32 := v2752
  let c0_i32_1737 : BitVec 32 := 0#32
  ![v2753.toNat, 0]
def k0_mult69 (v390 : BitVec 32) : BitVec 32 :=
  let c1280_i32_1732 : BitVec 32 := 1280#32
  let v2752 : BitVec 32 := Scalar.addi v390 c1280_i32_1732
  v2752
def k0_cond75 (v390 : BitVec 32) (v391 : BitVec 32) : BitVec 1 :=
  let v392 : BitVec 32 := Scalar.subi v391 v390
  let c1024_i32_207 : BitVec 32 := 1024#32
  let v394 : BitVec 1 := Scalar.cmpi .sgt v392 c1024_i32_207
  let c1536_i32_206 : BitVec 32 := 1536#32
  let v393 : BitVec 1 := Scalar.cmpi .sge v392 c1536_i32_206
  let true_208 : BitVec 1 := 1#1
  let v395 : BitVec 1 := Scalar.xori v393 true_208
  let v396 : BitVec 1 := Scalar.andi v394 v395
  let c1280_i32_214 : BitVec 32 := 1280#32
  let v407 : BitVec 1 := Scalar.cmpi .sgt v392 c1280_i32_214
  let v408 : BitVec 1 := Scalar.andi v396 v407
  let v409 : BitVec 32 := Scalar.extui v408
  let c0_i32_215 : BitVec 32 := 0#32
  let v410 : BitVec 1 := Scalar.cmpi .ne v409 c0_i32_215
  v410

def k0_off69 (v390 : BitVec 32) : Fin 2 → Nat :=
  let c1280_i32_1732 : BitVec 32 := 1280#32
  let v2752 : BitVec 32 := Scalar.addi v390 c1280_i32_1732
  let v2753 : BitVec 32 := v2752
  let c0_i32_1737 : BitVec 32 := 0#32
  ![v2753.toNat, 0]
def k0_mult70 (v390 : BitVec 32) : BitVec 32 :=
  let c1408_i32_1732 : BitVec 32 := 1408#32
  let v2752 : BitVec 32 := Scalar.addi v390 c1408_i32_1732
  v2752
def k0_cond76 (v390 : BitVec 32) (v391 : BitVec 32) : BitVec 1 :=
  let v392 : BitVec 32 := Scalar.subi v391 v390
  let c1024_i32_207 : BitVec 32 := 1024#32
  let v394 : BitVec 1 := Scalar.cmpi .sgt v392 c1024_i32_207
  let c1536_i32_206 : BitVec 32 := 1536#32
  let v393 : BitVec 1 := Scalar.cmpi .sge v392 c1536_i32_206
  let true_208 : BitVec 1 := 1#1
  let v395 : BitVec 1 := Scalar.xori v393 true_208
  let v396 : BitVec 1 := Scalar.andi v394 v395
  let c1408_i32_216 : BitVec 32 := 1408#32
  let v411 : BitVec 1 := Scalar.cmpi .sgt v392 c1408_i32_216
  let v412 : BitVec 1 := Scalar.andi v396 v411
  let v413 : BitVec 32 := Scalar.extui v412
  let c0_i32_217 : BitVec 32 := 0#32
  let v414 : BitVec 1 := Scalar.cmpi .ne v413 c0_i32_217
  v414

def k0_off70 (v390 : BitVec 32) : Fin 2 → Nat :=
  let c1408_i32_1732 : BitVec 32 := 1408#32
  let v2752 : BitVec 32 := Scalar.addi v390 c1408_i32_1732
  let v2753 : BitVec 32 := v2752
  let c0_i32_1737 : BitVec 32 := 0#32
  ![v2753.toNat, 0]

def k0_chk14 (v390 : BitVec 32) (v391 : BitVec 32) : Prop :=
  (∀ (k0_h72 : k0_cond72 v390 v391 = 1#1), 128 ∣ (k0_mult66 v390).toNat) ∧
  (∀ (k0_h72 : k0_cond72 v390 v391 = 1#1), ∀ a, (k0_off66 v390) a + S512x1024.size a ≤ S8192x1024.size a) ∧
  (∀ (k0_h73 : k0_cond73 v390 v391 = 1#1), 128 ∣ (k0_mult67 v390).toNat) ∧
  (∀ (k0_h73 : k0_cond73 v390 v391 = 1#1), ∀ a, (k0_off67 v390) a + S128x1024.size a ≤ S8192x1024.size a) ∧
  (∀ (k0_h74 : k0_cond74 v390 v391 = 1#1), 128 ∣ (k0_mult68 v390).toNat) ∧
  (∀ (k0_h74 : k0_cond74 v390 v391 = 1#1), ∀ a, (k0_off68 v390) a + S128x1024.size a ≤ S8192x1024.size a) ∧
  (∀ (k0_h75 : k0_cond75 v390 v391 = 1#1), 128 ∣ (k0_mult69 v390).toNat) ∧
  (∀ (k0_h75 : k0_cond75 v390 v391 = 1#1), ∀ a, (k0_off69 v390) a + S128x1024.size a ≤ S8192x1024.size a) ∧
  (∀ (k0_h76 : k0_cond76 v390 v391 = 1#1), 128 ∣ (k0_mult70 v390).toNat) ∧
  (∀ (k0_h76 : k0_cond76 v390 v391 = 1#1), ∀ a, (k0_off70 v390) a + S128x1024.size a ≤ S8192x1024.size a)
theorem k0_mult66_dvd : ∀ (v390 : BitVec 32) (v391 : BitVec 32) (k0_hw14 : k0_chk14 v390 v391), ∀ (k0_h72 : k0_cond72 v390 v391 = 1#1), 128 ∣ (k0_mult66 v390).toNat := fun v390 v391 k0_hw14 k0_h72 => k0_hw14.1 k0_h72
theorem k0_off66_inb : ∀ (v390 : BitVec 32) (v391 : BitVec 32) (k0_hw14 : k0_chk14 v390 v391), ∀ (k0_h72 : k0_cond72 v390 v391 = 1#1), ∀ a, (k0_off66 v390) a + S512x1024.size a ≤ S8192x1024.size a := fun v390 v391 k0_hw14 k0_h72 => k0_hw14.2.1 k0_h72
theorem k0_mult67_dvd : ∀ (v390 : BitVec 32) (v391 : BitVec 32) (k0_hw14 : k0_chk14 v390 v391), ∀ (k0_h73 : k0_cond73 v390 v391 = 1#1), 128 ∣ (k0_mult67 v390).toNat := fun v390 v391 k0_hw14 k0_h73 => k0_hw14.2.2.1 k0_h73
theorem k0_off67_inb : ∀ (v390 : BitVec 32) (v391 : BitVec 32) (k0_hw14 : k0_chk14 v390 v391), ∀ (k0_h73 : k0_cond73 v390 v391 = 1#1), ∀ a, (k0_off67 v390) a + S128x1024.size a ≤ S8192x1024.size a := fun v390 v391 k0_hw14 k0_h73 => k0_hw14.2.2.2.1 k0_h73
theorem k0_mult68_dvd : ∀ (v390 : BitVec 32) (v391 : BitVec 32) (k0_hw14 : k0_chk14 v390 v391), ∀ (k0_h74 : k0_cond74 v390 v391 = 1#1), 128 ∣ (k0_mult68 v390).toNat := fun v390 v391 k0_hw14 k0_h74 => k0_hw14.2.2.2.2.1 k0_h74
theorem k0_off68_inb : ∀ (v390 : BitVec 32) (v391 : BitVec 32) (k0_hw14 : k0_chk14 v390 v391), ∀ (k0_h74 : k0_cond74 v390 v391 = 1#1), ∀ a, (k0_off68 v390) a + S128x1024.size a ≤ S8192x1024.size a := fun v390 v391 k0_hw14 k0_h74 => k0_hw14.2.2.2.2.2.1 k0_h74
theorem k0_mult69_dvd : ∀ (v390 : BitVec 32) (v391 : BitVec 32) (k0_hw14 : k0_chk14 v390 v391), ∀ (k0_h75 : k0_cond75 v390 v391 = 1#1), 128 ∣ (k0_mult69 v390).toNat := fun v390 v391 k0_hw14 k0_h75 => k0_hw14.2.2.2.2.2.2.1 k0_h75
theorem k0_off69_inb : ∀ (v390 : BitVec 32) (v391 : BitVec 32) (k0_hw14 : k0_chk14 v390 v391), ∀ (k0_h75 : k0_cond75 v390 v391 = 1#1), ∀ a, (k0_off69 v390) a + S128x1024.size a ≤ S8192x1024.size a := fun v390 v391 k0_hw14 k0_h75 => k0_hw14.2.2.2.2.2.2.2.1 k0_h75
theorem k0_mult70_dvd : ∀ (v390 : BitVec 32) (v391 : BitVec 32) (k0_hw14 : k0_chk14 v390 v391), ∀ (k0_h76 : k0_cond76 v390 v391 = 1#1), 128 ∣ (k0_mult70 v390).toNat := fun v390 v391 k0_hw14 k0_h76 => k0_hw14.2.2.2.2.2.2.2.2.1 k0_h76
theorem k0_off70_inb : ∀ (v390 : BitVec 32) (v391 : BitVec 32) (k0_hw14 : k0_chk14 v390 v391), ∀ (k0_h76 : k0_cond76 v390 v391 = 1#1), ∀ a, (k0_off70 v390) a + S128x1024.size a ≤ S8192x1024.size a := fun v390 v391 k0_hw14 k0_h76 => k0_hw14.2.2.2.2.2.2.2.2.2 k0_h76

def k0_mult71 (v430 : BitVec 32) : BitVec 32 :=
  let c1536_i32_1732 : BitVec 32 := 1536#32
  let v2752 : BitVec 32 := Scalar.addi v430 c1536_i32_1732
  v2752
def k0_cond80 (v430 : BitVec 32) (v431 : BitVec 32) : BitVec 1 :=
  let v432 : BitVec 32 := Scalar.subi v431 v430
  let c2048_i32_231 : BitVec 32 := 2048#32
  let v433 : BitVec 1 := Scalar.cmpi .sge v432 c2048_i32_231
  let v437 : BitVec 32 := Scalar.extui v433
  let c0_i32_234 : BitVec 32 := 0#32
  let v438 : BitVec 1 := Scalar.cmpi .ne v437 c0_i32_234
  v438

def k0_off71 (v430 : BitVec 32) : Fin 2 → Nat :=
  let c1536_i32_1732 : BitVec 32 := 1536#32
  let v2752 : BitVec 32 := Scalar.addi v430 c1536_i32_1732
  let v2753 : BitVec 32 := v2752
  let c0_i32_1737 : BitVec 32 := 0#32
  ![v2753.toNat, 0]
def k0_mult72 (v430 : BitVec 32) : BitVec 32 :=
  let c1536_i32_1732 : BitVec 32 := 1536#32
  let v2752 : BitVec 32 := Scalar.addi v430 c1536_i32_1732
  v2752
def k0_cond81 (v430 : BitVec 32) (v431 : BitVec 32) : BitVec 1 :=
  let v432 : BitVec 32 := Scalar.subi v431 v430
  let c1536_i32_232 : BitVec 32 := 1536#32
  let v434 : BitVec 1 := Scalar.cmpi .sgt v432 c1536_i32_232
  let c2048_i32_231 : BitVec 32 := 2048#32
  let v433 : BitVec 1 := Scalar.cmpi .sge v432 c2048_i32_231
  let true_233 : BitVec 1 := 1#1
  let v435 : BitVec 1 := Scalar.xori v433 true_233
  let v436 : BitVec 1 := Scalar.andi v434 v435
  let c1536_i32_235 : BitVec 32 := 1536#32
  let v439 : BitVec 1 := Scalar.cmpi .sgt v432 c1536_i32_235
  let v440 : BitVec 1 := Scalar.andi v436 v439
  let v441 : BitVec 32 := Scalar.extui v440
  let c0_i32_236 : BitVec 32 := 0#32
  let v442 : BitVec 1 := Scalar.cmpi .ne v441 c0_i32_236
  v442

def k0_off72 (v430 : BitVec 32) : Fin 2 → Nat :=
  let c1536_i32_1732 : BitVec 32 := 1536#32
  let v2752 : BitVec 32 := Scalar.addi v430 c1536_i32_1732
  let v2753 : BitVec 32 := v2752
  let c0_i32_1737 : BitVec 32 := 0#32
  ![v2753.toNat, 0]
def k0_mult73 (v430 : BitVec 32) : BitVec 32 :=
  let c1664_i32_1732 : BitVec 32 := 1664#32
  let v2752 : BitVec 32 := Scalar.addi v430 c1664_i32_1732
  v2752
def k0_cond82 (v430 : BitVec 32) (v431 : BitVec 32) : BitVec 1 :=
  let v432 : BitVec 32 := Scalar.subi v431 v430
  let c1536_i32_232 : BitVec 32 := 1536#32
  let v434 : BitVec 1 := Scalar.cmpi .sgt v432 c1536_i32_232
  let c2048_i32_231 : BitVec 32 := 2048#32
  let v433 : BitVec 1 := Scalar.cmpi .sge v432 c2048_i32_231
  let true_233 : BitVec 1 := 1#1
  let v435 : BitVec 1 := Scalar.xori v433 true_233
  let v436 : BitVec 1 := Scalar.andi v434 v435
  let c1664_i32_237 : BitVec 32 := 1664#32
  let v443 : BitVec 1 := Scalar.cmpi .sgt v432 c1664_i32_237
  let v444 : BitVec 1 := Scalar.andi v436 v443
  let v445 : BitVec 32 := Scalar.extui v444
  let c0_i32_238 : BitVec 32 := 0#32
  let v446 : BitVec 1 := Scalar.cmpi .ne v445 c0_i32_238
  v446

def k0_off73 (v430 : BitVec 32) : Fin 2 → Nat :=
  let c1664_i32_1732 : BitVec 32 := 1664#32
  let v2752 : BitVec 32 := Scalar.addi v430 c1664_i32_1732
  let v2753 : BitVec 32 := v2752
  let c0_i32_1737 : BitVec 32 := 0#32
  ![v2753.toNat, 0]
def k0_mult74 (v430 : BitVec 32) : BitVec 32 :=
  let c1792_i32_1732 : BitVec 32 := 1792#32
  let v2752 : BitVec 32 := Scalar.addi v430 c1792_i32_1732
  v2752
def k0_cond83 (v430 : BitVec 32) (v431 : BitVec 32) : BitVec 1 :=
  let v432 : BitVec 32 := Scalar.subi v431 v430
  let c1536_i32_232 : BitVec 32 := 1536#32
  let v434 : BitVec 1 := Scalar.cmpi .sgt v432 c1536_i32_232
  let c2048_i32_231 : BitVec 32 := 2048#32
  let v433 : BitVec 1 := Scalar.cmpi .sge v432 c2048_i32_231
  let true_233 : BitVec 1 := 1#1
  let v435 : BitVec 1 := Scalar.xori v433 true_233
  let v436 : BitVec 1 := Scalar.andi v434 v435
  let c1792_i32_239 : BitVec 32 := 1792#32
  let v447 : BitVec 1 := Scalar.cmpi .sgt v432 c1792_i32_239
  let v448 : BitVec 1 := Scalar.andi v436 v447
  let v449 : BitVec 32 := Scalar.extui v448
  let c0_i32_240 : BitVec 32 := 0#32
  let v450 : BitVec 1 := Scalar.cmpi .ne v449 c0_i32_240
  v450

def k0_off74 (v430 : BitVec 32) : Fin 2 → Nat :=
  let c1792_i32_1732 : BitVec 32 := 1792#32
  let v2752 : BitVec 32 := Scalar.addi v430 c1792_i32_1732
  let v2753 : BitVec 32 := v2752
  let c0_i32_1737 : BitVec 32 := 0#32
  ![v2753.toNat, 0]
def k0_mult75 (v430 : BitVec 32) : BitVec 32 :=
  let c1920_i32_1732 : BitVec 32 := 1920#32
  let v2752 : BitVec 32 := Scalar.addi v430 c1920_i32_1732
  v2752
def k0_cond84 (v430 : BitVec 32) (v431 : BitVec 32) : BitVec 1 :=
  let v432 : BitVec 32 := Scalar.subi v431 v430
  let c1536_i32_232 : BitVec 32 := 1536#32
  let v434 : BitVec 1 := Scalar.cmpi .sgt v432 c1536_i32_232
  let c2048_i32_231 : BitVec 32 := 2048#32
  let v433 : BitVec 1 := Scalar.cmpi .sge v432 c2048_i32_231
  let true_233 : BitVec 1 := 1#1
  let v435 : BitVec 1 := Scalar.xori v433 true_233
  let v436 : BitVec 1 := Scalar.andi v434 v435
  let c1920_i32_241 : BitVec 32 := 1920#32
  let v451 : BitVec 1 := Scalar.cmpi .sgt v432 c1920_i32_241
  let v452 : BitVec 1 := Scalar.andi v436 v451
  let v453 : BitVec 32 := Scalar.extui v452
  let c0_i32_242 : BitVec 32 := 0#32
  let v454 : BitVec 1 := Scalar.cmpi .ne v453 c0_i32_242
  v454

def k0_off75 (v430 : BitVec 32) : Fin 2 → Nat :=
  let c1920_i32_1732 : BitVec 32 := 1920#32
  let v2752 : BitVec 32 := Scalar.addi v430 c1920_i32_1732
  let v2753 : BitVec 32 := v2752
  let c0_i32_1737 : BitVec 32 := 0#32
  ![v2753.toNat, 0]

def k0_chk15 (v430 : BitVec 32) (v431 : BitVec 32) : Prop :=
  (∀ (k0_h80 : k0_cond80 v430 v431 = 1#1), 128 ∣ (k0_mult71 v430).toNat) ∧
  (∀ (k0_h80 : k0_cond80 v430 v431 = 1#1), ∀ a, (k0_off71 v430) a + S512x1024.size a ≤ S8192x1024.size a) ∧
  (∀ (k0_h81 : k0_cond81 v430 v431 = 1#1), 128 ∣ (k0_mult72 v430).toNat) ∧
  (∀ (k0_h81 : k0_cond81 v430 v431 = 1#1), ∀ a, (k0_off72 v430) a + S128x1024.size a ≤ S8192x1024.size a) ∧
  (∀ (k0_h82 : k0_cond82 v430 v431 = 1#1), 128 ∣ (k0_mult73 v430).toNat) ∧
  (∀ (k0_h82 : k0_cond82 v430 v431 = 1#1), ∀ a, (k0_off73 v430) a + S128x1024.size a ≤ S8192x1024.size a) ∧
  (∀ (k0_h83 : k0_cond83 v430 v431 = 1#1), 128 ∣ (k0_mult74 v430).toNat) ∧
  (∀ (k0_h83 : k0_cond83 v430 v431 = 1#1), ∀ a, (k0_off74 v430) a + S128x1024.size a ≤ S8192x1024.size a) ∧
  (∀ (k0_h84 : k0_cond84 v430 v431 = 1#1), 128 ∣ (k0_mult75 v430).toNat) ∧
  (∀ (k0_h84 : k0_cond84 v430 v431 = 1#1), ∀ a, (k0_off75 v430) a + S128x1024.size a ≤ S8192x1024.size a)
theorem k0_mult71_dvd : ∀ (v430 : BitVec 32) (v431 : BitVec 32) (k0_hw15 : k0_chk15 v430 v431), ∀ (k0_h80 : k0_cond80 v430 v431 = 1#1), 128 ∣ (k0_mult71 v430).toNat := fun v430 v431 k0_hw15 k0_h80 => k0_hw15.1 k0_h80
theorem k0_off71_inb : ∀ (v430 : BitVec 32) (v431 : BitVec 32) (k0_hw15 : k0_chk15 v430 v431), ∀ (k0_h80 : k0_cond80 v430 v431 = 1#1), ∀ a, (k0_off71 v430) a + S512x1024.size a ≤ S8192x1024.size a := fun v430 v431 k0_hw15 k0_h80 => k0_hw15.2.1 k0_h80
theorem k0_mult72_dvd : ∀ (v430 : BitVec 32) (v431 : BitVec 32) (k0_hw15 : k0_chk15 v430 v431), ∀ (k0_h81 : k0_cond81 v430 v431 = 1#1), 128 ∣ (k0_mult72 v430).toNat := fun v430 v431 k0_hw15 k0_h81 => k0_hw15.2.2.1 k0_h81
theorem k0_off72_inb : ∀ (v430 : BitVec 32) (v431 : BitVec 32) (k0_hw15 : k0_chk15 v430 v431), ∀ (k0_h81 : k0_cond81 v430 v431 = 1#1), ∀ a, (k0_off72 v430) a + S128x1024.size a ≤ S8192x1024.size a := fun v430 v431 k0_hw15 k0_h81 => k0_hw15.2.2.2.1 k0_h81
theorem k0_mult73_dvd : ∀ (v430 : BitVec 32) (v431 : BitVec 32) (k0_hw15 : k0_chk15 v430 v431), ∀ (k0_h82 : k0_cond82 v430 v431 = 1#1), 128 ∣ (k0_mult73 v430).toNat := fun v430 v431 k0_hw15 k0_h82 => k0_hw15.2.2.2.2.1 k0_h82
theorem k0_off73_inb : ∀ (v430 : BitVec 32) (v431 : BitVec 32) (k0_hw15 : k0_chk15 v430 v431), ∀ (k0_h82 : k0_cond82 v430 v431 = 1#1), ∀ a, (k0_off73 v430) a + S128x1024.size a ≤ S8192x1024.size a := fun v430 v431 k0_hw15 k0_h82 => k0_hw15.2.2.2.2.2.1 k0_h82
theorem k0_mult74_dvd : ∀ (v430 : BitVec 32) (v431 : BitVec 32) (k0_hw15 : k0_chk15 v430 v431), ∀ (k0_h83 : k0_cond83 v430 v431 = 1#1), 128 ∣ (k0_mult74 v430).toNat := fun v430 v431 k0_hw15 k0_h83 => k0_hw15.2.2.2.2.2.2.1 k0_h83
theorem k0_off74_inb : ∀ (v430 : BitVec 32) (v431 : BitVec 32) (k0_hw15 : k0_chk15 v430 v431), ∀ (k0_h83 : k0_cond83 v430 v431 = 1#1), ∀ a, (k0_off74 v430) a + S128x1024.size a ≤ S8192x1024.size a := fun v430 v431 k0_hw15 k0_h83 => k0_hw15.2.2.2.2.2.2.2.1 k0_h83
theorem k0_mult75_dvd : ∀ (v430 : BitVec 32) (v431 : BitVec 32) (k0_hw15 : k0_chk15 v430 v431), ∀ (k0_h84 : k0_cond84 v430 v431 = 1#1), 128 ∣ (k0_mult75 v430).toNat := fun v430 v431 k0_hw15 k0_h84 => k0_hw15.2.2.2.2.2.2.2.2.1 k0_h84
theorem k0_off75_inb : ∀ (v430 : BitVec 32) (v431 : BitVec 32) (k0_hw15 : k0_chk15 v430 v431), ∀ (k0_h84 : k0_cond84 v430 v431 = 1#1), ∀ a, (k0_off75 v430) a + S128x1024.size a ≤ S8192x1024.size a := fun v430 v431 k0_hw15 k0_h84 => k0_hw15.2.2.2.2.2.2.2.2.2 k0_h84

def k0_mult76 (v470 : BitVec 32) : BitVec 32 :=
  let c1536_i32_1732 : BitVec 32 := 1536#32
  let v2752 : BitVec 32 := Scalar.addi v470 c1536_i32_1732
  v2752
def k0_cond85 (v470 : BitVec 32) (v471 : BitVec 32) : BitVec 1 :=
  let v472 : BitVec 32 := Scalar.subi v471 v470
  let c2048_i32_254 : BitVec 32 := 2048#32
  let v473 : BitVec 1 := Scalar.cmpi .sge v472 c2048_i32_254
  let v477 : BitVec 32 := Scalar.extui v473
  let c0_i32_257 : BitVec 32 := 0#32
  let v478 : BitVec 1 := Scalar.cmpi .ne v477 c0_i32_257
  v478

def k0_off76 (v470 : BitVec 32) : Fin 2 → Nat :=
  let c1536_i32_1732 : BitVec 32 := 1536#32
  let v2752 : BitVec 32 := Scalar.addi v470 c1536_i32_1732
  let v2753 : BitVec 32 := v2752
  let c0_i32_1737 : BitVec 32 := 0#32
  ![v2753.toNat, 0]
def k0_mult77 (v470 : BitVec 32) : BitVec 32 :=
  let c1536_i32_1732 : BitVec 32 := 1536#32
  let v2752 : BitVec 32 := Scalar.addi v470 c1536_i32_1732
  v2752
def k0_cond86 (v470 : BitVec 32) (v471 : BitVec 32) : BitVec 1 :=
  let v472 : BitVec 32 := Scalar.subi v471 v470
  let c1536_i32_255 : BitVec 32 := 1536#32
  let v474 : BitVec 1 := Scalar.cmpi .sgt v472 c1536_i32_255
  let c2048_i32_254 : BitVec 32 := 2048#32
  let v473 : BitVec 1 := Scalar.cmpi .sge v472 c2048_i32_254
  let true_256 : BitVec 1 := 1#1
  let v475 : BitVec 1 := Scalar.xori v473 true_256
  let v476 : BitVec 1 := Scalar.andi v474 v475
  let c1536_i32_258 : BitVec 32 := 1536#32
  let v479 : BitVec 1 := Scalar.cmpi .sgt v472 c1536_i32_258
  let v480 : BitVec 1 := Scalar.andi v476 v479
  let v481 : BitVec 32 := Scalar.extui v480
  let c0_i32_259 : BitVec 32 := 0#32
  let v482 : BitVec 1 := Scalar.cmpi .ne v481 c0_i32_259
  v482

def k0_off77 (v470 : BitVec 32) : Fin 2 → Nat :=
  let c1536_i32_1732 : BitVec 32 := 1536#32
  let v2752 : BitVec 32 := Scalar.addi v470 c1536_i32_1732
  let v2753 : BitVec 32 := v2752
  let c0_i32_1737 : BitVec 32 := 0#32
  ![v2753.toNat, 0]
def k0_mult78 (v470 : BitVec 32) : BitVec 32 :=
  let c1664_i32_1732 : BitVec 32 := 1664#32
  let v2752 : BitVec 32 := Scalar.addi v470 c1664_i32_1732
  v2752
def k0_cond87 (v470 : BitVec 32) (v471 : BitVec 32) : BitVec 1 :=
  let v472 : BitVec 32 := Scalar.subi v471 v470
  let c1536_i32_255 : BitVec 32 := 1536#32
  let v474 : BitVec 1 := Scalar.cmpi .sgt v472 c1536_i32_255
  let c2048_i32_254 : BitVec 32 := 2048#32
  let v473 : BitVec 1 := Scalar.cmpi .sge v472 c2048_i32_254
  let true_256 : BitVec 1 := 1#1
  let v475 : BitVec 1 := Scalar.xori v473 true_256
  let v476 : BitVec 1 := Scalar.andi v474 v475
  let c1664_i32_260 : BitVec 32 := 1664#32
  let v483 : BitVec 1 := Scalar.cmpi .sgt v472 c1664_i32_260
  let v484 : BitVec 1 := Scalar.andi v476 v483
  let v485 : BitVec 32 := Scalar.extui v484
  let c0_i32_261 : BitVec 32 := 0#32
  let v486 : BitVec 1 := Scalar.cmpi .ne v485 c0_i32_261
  v486

def k0_off78 (v470 : BitVec 32) : Fin 2 → Nat :=
  let c1664_i32_1732 : BitVec 32 := 1664#32
  let v2752 : BitVec 32 := Scalar.addi v470 c1664_i32_1732
  let v2753 : BitVec 32 := v2752
  let c0_i32_1737 : BitVec 32 := 0#32
  ![v2753.toNat, 0]
def k0_mult79 (v470 : BitVec 32) : BitVec 32 :=
  let c1792_i32_1732 : BitVec 32 := 1792#32
  let v2752 : BitVec 32 := Scalar.addi v470 c1792_i32_1732
  v2752
def k0_cond88 (v470 : BitVec 32) (v471 : BitVec 32) : BitVec 1 :=
  let v472 : BitVec 32 := Scalar.subi v471 v470
  let c1536_i32_255 : BitVec 32 := 1536#32
  let v474 : BitVec 1 := Scalar.cmpi .sgt v472 c1536_i32_255
  let c2048_i32_254 : BitVec 32 := 2048#32
  let v473 : BitVec 1 := Scalar.cmpi .sge v472 c2048_i32_254
  let true_256 : BitVec 1 := 1#1
  let v475 : BitVec 1 := Scalar.xori v473 true_256
  let v476 : BitVec 1 := Scalar.andi v474 v475
  let c1792_i32_262 : BitVec 32 := 1792#32
  let v487 : BitVec 1 := Scalar.cmpi .sgt v472 c1792_i32_262
  let v488 : BitVec 1 := Scalar.andi v476 v487
  let v489 : BitVec 32 := Scalar.extui v488
  let c0_i32_263 : BitVec 32 := 0#32
  let v490 : BitVec 1 := Scalar.cmpi .ne v489 c0_i32_263
  v490

def k0_off79 (v470 : BitVec 32) : Fin 2 → Nat :=
  let c1792_i32_1732 : BitVec 32 := 1792#32
  let v2752 : BitVec 32 := Scalar.addi v470 c1792_i32_1732
  let v2753 : BitVec 32 := v2752
  let c0_i32_1737 : BitVec 32 := 0#32
  ![v2753.toNat, 0]
def k0_mult80 (v470 : BitVec 32) : BitVec 32 :=
  let c1920_i32_1732 : BitVec 32 := 1920#32
  let v2752 : BitVec 32 := Scalar.addi v470 c1920_i32_1732
  v2752
def k0_cond89 (v470 : BitVec 32) (v471 : BitVec 32) : BitVec 1 :=
  let v472 : BitVec 32 := Scalar.subi v471 v470
  let c1536_i32_255 : BitVec 32 := 1536#32
  let v474 : BitVec 1 := Scalar.cmpi .sgt v472 c1536_i32_255
  let c2048_i32_254 : BitVec 32 := 2048#32
  let v473 : BitVec 1 := Scalar.cmpi .sge v472 c2048_i32_254
  let true_256 : BitVec 1 := 1#1
  let v475 : BitVec 1 := Scalar.xori v473 true_256
  let v476 : BitVec 1 := Scalar.andi v474 v475
  let c1920_i32_264 : BitVec 32 := 1920#32
  let v491 : BitVec 1 := Scalar.cmpi .sgt v472 c1920_i32_264
  let v492 : BitVec 1 := Scalar.andi v476 v491
  let v493 : BitVec 32 := Scalar.extui v492
  let c0_i32_265 : BitVec 32 := 0#32
  let v494 : BitVec 1 := Scalar.cmpi .ne v493 c0_i32_265
  v494

def k0_off80 (v470 : BitVec 32) : Fin 2 → Nat :=
  let c1920_i32_1732 : BitVec 32 := 1920#32
  let v2752 : BitVec 32 := Scalar.addi v470 c1920_i32_1732
  let v2753 : BitVec 32 := v2752
  let c0_i32_1737 : BitVec 32 := 0#32
  ![v2753.toNat, 0]

def k0_chk16 (v470 : BitVec 32) (v471 : BitVec 32) : Prop :=
  (∀ (k0_h85 : k0_cond85 v470 v471 = 1#1), 128 ∣ (k0_mult76 v470).toNat) ∧
  (∀ (k0_h85 : k0_cond85 v470 v471 = 1#1), ∀ a, (k0_off76 v470) a + S512x1024.size a ≤ S8192x1024.size a) ∧
  (∀ (k0_h86 : k0_cond86 v470 v471 = 1#1), 128 ∣ (k0_mult77 v470).toNat) ∧
  (∀ (k0_h86 : k0_cond86 v470 v471 = 1#1), ∀ a, (k0_off77 v470) a + S128x1024.size a ≤ S8192x1024.size a) ∧
  (∀ (k0_h87 : k0_cond87 v470 v471 = 1#1), 128 ∣ (k0_mult78 v470).toNat) ∧
  (∀ (k0_h87 : k0_cond87 v470 v471 = 1#1), ∀ a, (k0_off78 v470) a + S128x1024.size a ≤ S8192x1024.size a) ∧
  (∀ (k0_h88 : k0_cond88 v470 v471 = 1#1), 128 ∣ (k0_mult79 v470).toNat) ∧
  (∀ (k0_h88 : k0_cond88 v470 v471 = 1#1), ∀ a, (k0_off79 v470) a + S128x1024.size a ≤ S8192x1024.size a) ∧
  (∀ (k0_h89 : k0_cond89 v470 v471 = 1#1), 128 ∣ (k0_mult80 v470).toNat) ∧
  (∀ (k0_h89 : k0_cond89 v470 v471 = 1#1), ∀ a, (k0_off80 v470) a + S128x1024.size a ≤ S8192x1024.size a)
theorem k0_mult76_dvd : ∀ (v470 : BitVec 32) (v471 : BitVec 32) (k0_hw16 : k0_chk16 v470 v471), ∀ (k0_h85 : k0_cond85 v470 v471 = 1#1), 128 ∣ (k0_mult76 v470).toNat := fun v470 v471 k0_hw16 k0_h85 => k0_hw16.1 k0_h85
theorem k0_off76_inb : ∀ (v470 : BitVec 32) (v471 : BitVec 32) (k0_hw16 : k0_chk16 v470 v471), ∀ (k0_h85 : k0_cond85 v470 v471 = 1#1), ∀ a, (k0_off76 v470) a + S512x1024.size a ≤ S8192x1024.size a := fun v470 v471 k0_hw16 k0_h85 => k0_hw16.2.1 k0_h85
theorem k0_mult77_dvd : ∀ (v470 : BitVec 32) (v471 : BitVec 32) (k0_hw16 : k0_chk16 v470 v471), ∀ (k0_h86 : k0_cond86 v470 v471 = 1#1), 128 ∣ (k0_mult77 v470).toNat := fun v470 v471 k0_hw16 k0_h86 => k0_hw16.2.2.1 k0_h86
theorem k0_off77_inb : ∀ (v470 : BitVec 32) (v471 : BitVec 32) (k0_hw16 : k0_chk16 v470 v471), ∀ (k0_h86 : k0_cond86 v470 v471 = 1#1), ∀ a, (k0_off77 v470) a + S128x1024.size a ≤ S8192x1024.size a := fun v470 v471 k0_hw16 k0_h86 => k0_hw16.2.2.2.1 k0_h86
theorem k0_mult78_dvd : ∀ (v470 : BitVec 32) (v471 : BitVec 32) (k0_hw16 : k0_chk16 v470 v471), ∀ (k0_h87 : k0_cond87 v470 v471 = 1#1), 128 ∣ (k0_mult78 v470).toNat := fun v470 v471 k0_hw16 k0_h87 => k0_hw16.2.2.2.2.1 k0_h87
theorem k0_off78_inb : ∀ (v470 : BitVec 32) (v471 : BitVec 32) (k0_hw16 : k0_chk16 v470 v471), ∀ (k0_h87 : k0_cond87 v470 v471 = 1#1), ∀ a, (k0_off78 v470) a + S128x1024.size a ≤ S8192x1024.size a := fun v470 v471 k0_hw16 k0_h87 => k0_hw16.2.2.2.2.2.1 k0_h87
theorem k0_mult79_dvd : ∀ (v470 : BitVec 32) (v471 : BitVec 32) (k0_hw16 : k0_chk16 v470 v471), ∀ (k0_h88 : k0_cond88 v470 v471 = 1#1), 128 ∣ (k0_mult79 v470).toNat := fun v470 v471 k0_hw16 k0_h88 => k0_hw16.2.2.2.2.2.2.1 k0_h88
theorem k0_off79_inb : ∀ (v470 : BitVec 32) (v471 : BitVec 32) (k0_hw16 : k0_chk16 v470 v471), ∀ (k0_h88 : k0_cond88 v470 v471 = 1#1), ∀ a, (k0_off79 v470) a + S128x1024.size a ≤ S8192x1024.size a := fun v470 v471 k0_hw16 k0_h88 => k0_hw16.2.2.2.2.2.2.2.1 k0_h88
theorem k0_mult80_dvd : ∀ (v470 : BitVec 32) (v471 : BitVec 32) (k0_hw16 : k0_chk16 v470 v471), ∀ (k0_h89 : k0_cond89 v470 v471 = 1#1), 128 ∣ (k0_mult80 v470).toNat := fun v470 v471 k0_hw16 k0_h89 => k0_hw16.2.2.2.2.2.2.2.2.1 k0_h89
theorem k0_off80_inb : ∀ (v470 : BitVec 32) (v471 : BitVec 32) (k0_hw16 : k0_chk16 v470 v471), ∀ (k0_h89 : k0_cond89 v470 v471 = 1#1), ∀ a, (k0_off80 v470) a + S128x1024.size a ≤ S8192x1024.size a := fun v470 v471 k0_hw16 k0_h89 => k0_hw16.2.2.2.2.2.2.2.2.2 k0_h89

def k0_mult81 (v510 : BitVec 32) : BitVec 32 :=
  let c0_i32_1732 : BitVec 32 := 0#32
  let v2752 : BitVec 32 := Scalar.addi v510 c0_i32_1732
  v2752
def k0_cond93 (v510 : BitVec 32) (v511 : BitVec 32) : BitVec 1 :=
  let v512 : BitVec 32 := Scalar.subi v511 v510
  let c512_i32_278 : BitVec 32 := 512#32
  let v513 : BitVec 1 := Scalar.cmpi .sge v512 c512_i32_278
  let v517 : BitVec 32 := Scalar.extui v513
  let c0_i32_281 : BitVec 32 := 0#32
  let v518 : BitVec 1 := Scalar.cmpi .ne v517 c0_i32_281
  v518

def k0_off81 (v510 : BitVec 32) : Fin 2 → Nat :=
  let c0_i32_1732 : BitVec 32 := 0#32
  let v2752 : BitVec 32 := Scalar.addi v510 c0_i32_1732
  let v2753 : BitVec 32 := v2752
  let c0_i32_1737 : BitVec 32 := 0#32
  ![v2753.toNat, 0]
def k0_mult82 (v510 : BitVec 32) : BitVec 32 :=
  let c0_i32_1732 : BitVec 32 := 0#32
  let v2752 : BitVec 32 := Scalar.addi v510 c0_i32_1732
  v2752
def k0_cond94 (v510 : BitVec 32) (v511 : BitVec 32) : BitVec 1 :=
  let v512 : BitVec 32 := Scalar.subi v511 v510
  let c0_i32_279 : BitVec 32 := 0#32
  let v514 : BitVec 1 := Scalar.cmpi .sgt v512 c0_i32_279
  let c512_i32_278 : BitVec 32 := 512#32
  let v513 : BitVec 1 := Scalar.cmpi .sge v512 c512_i32_278
  let true_280 : BitVec 1 := 1#1
  let v515 : BitVec 1 := Scalar.xori v513 true_280
  let v516 : BitVec 1 := Scalar.andi v514 v515
  let c0_i32_282 : BitVec 32 := 0#32
  let v519 : BitVec 1 := Scalar.cmpi .sgt v512 c0_i32_282
  let v520 : BitVec 1 := Scalar.andi v516 v519
  let v521 : BitVec 32 := Scalar.extui v520
  let c0_i32_283 : BitVec 32 := 0#32
  let v522 : BitVec 1 := Scalar.cmpi .ne v521 c0_i32_283
  v522

def k0_off82 (v510 : BitVec 32) : Fin 2 → Nat :=
  let c0_i32_1732 : BitVec 32 := 0#32
  let v2752 : BitVec 32 := Scalar.addi v510 c0_i32_1732
  let v2753 : BitVec 32 := v2752
  let c0_i32_1737 : BitVec 32 := 0#32
  ![v2753.toNat, 0]
def k0_mult83 (v510 : BitVec 32) : BitVec 32 :=
  let c128_i32_1732 : BitVec 32 := 128#32
  let v2752 : BitVec 32 := Scalar.addi v510 c128_i32_1732
  v2752
def k0_cond95 (v510 : BitVec 32) (v511 : BitVec 32) : BitVec 1 :=
  let v512 : BitVec 32 := Scalar.subi v511 v510
  let c0_i32_279 : BitVec 32 := 0#32
  let v514 : BitVec 1 := Scalar.cmpi .sgt v512 c0_i32_279
  let c512_i32_278 : BitVec 32 := 512#32
  let v513 : BitVec 1 := Scalar.cmpi .sge v512 c512_i32_278
  let true_280 : BitVec 1 := 1#1
  let v515 : BitVec 1 := Scalar.xori v513 true_280
  let v516 : BitVec 1 := Scalar.andi v514 v515
  let c128_i32_284 : BitVec 32 := 128#32
  let v523 : BitVec 1 := Scalar.cmpi .sgt v512 c128_i32_284
  let v524 : BitVec 1 := Scalar.andi v516 v523
  let v525 : BitVec 32 := Scalar.extui v524
  let c0_i32_285 : BitVec 32 := 0#32
  let v526 : BitVec 1 := Scalar.cmpi .ne v525 c0_i32_285
  v526

def k0_off83 (v510 : BitVec 32) : Fin 2 → Nat :=
  let c128_i32_1732 : BitVec 32 := 128#32
  let v2752 : BitVec 32 := Scalar.addi v510 c128_i32_1732
  let v2753 : BitVec 32 := v2752
  let c0_i32_1737 : BitVec 32 := 0#32
  ![v2753.toNat, 0]
def k0_mult84 (v510 : BitVec 32) : BitVec 32 :=
  let c256_i32_1732 : BitVec 32 := 256#32
  let v2752 : BitVec 32 := Scalar.addi v510 c256_i32_1732
  v2752
def k0_cond96 (v510 : BitVec 32) (v511 : BitVec 32) : BitVec 1 :=
  let v512 : BitVec 32 := Scalar.subi v511 v510
  let c0_i32_279 : BitVec 32 := 0#32
  let v514 : BitVec 1 := Scalar.cmpi .sgt v512 c0_i32_279
  let c512_i32_278 : BitVec 32 := 512#32
  let v513 : BitVec 1 := Scalar.cmpi .sge v512 c512_i32_278
  let true_280 : BitVec 1 := 1#1
  let v515 : BitVec 1 := Scalar.xori v513 true_280
  let v516 : BitVec 1 := Scalar.andi v514 v515
  let c256_i32_286 : BitVec 32 := 256#32
  let v527 : BitVec 1 := Scalar.cmpi .sgt v512 c256_i32_286
  let v528 : BitVec 1 := Scalar.andi v516 v527
  let v529 : BitVec 32 := Scalar.extui v528
  let c0_i32_287 : BitVec 32 := 0#32
  let v530 : BitVec 1 := Scalar.cmpi .ne v529 c0_i32_287
  v530

def k0_off84 (v510 : BitVec 32) : Fin 2 → Nat :=
  let c256_i32_1732 : BitVec 32 := 256#32
  let v2752 : BitVec 32 := Scalar.addi v510 c256_i32_1732
  let v2753 : BitVec 32 := v2752
  let c0_i32_1737 : BitVec 32 := 0#32
  ![v2753.toNat, 0]
def k0_mult85 (v510 : BitVec 32) : BitVec 32 :=
  let c384_i32_1732 : BitVec 32 := 384#32
  let v2752 : BitVec 32 := Scalar.addi v510 c384_i32_1732
  v2752
def k0_cond97 (v510 : BitVec 32) (v511 : BitVec 32) : BitVec 1 :=
  let v512 : BitVec 32 := Scalar.subi v511 v510
  let c0_i32_279 : BitVec 32 := 0#32
  let v514 : BitVec 1 := Scalar.cmpi .sgt v512 c0_i32_279
  let c512_i32_278 : BitVec 32 := 512#32
  let v513 : BitVec 1 := Scalar.cmpi .sge v512 c512_i32_278
  let true_280 : BitVec 1 := 1#1
  let v515 : BitVec 1 := Scalar.xori v513 true_280
  let v516 : BitVec 1 := Scalar.andi v514 v515
  let c384_i32_288 : BitVec 32 := 384#32
  let v531 : BitVec 1 := Scalar.cmpi .sgt v512 c384_i32_288
  let v532 : BitVec 1 := Scalar.andi v516 v531
  let v533 : BitVec 32 := Scalar.extui v532
  let c0_i32_289 : BitVec 32 := 0#32
  let v534 : BitVec 1 := Scalar.cmpi .ne v533 c0_i32_289
  v534

def k0_off85 (v510 : BitVec 32) : Fin 2 → Nat :=
  let c384_i32_1732 : BitVec 32 := 384#32
  let v2752 : BitVec 32 := Scalar.addi v510 c384_i32_1732
  let v2753 : BitVec 32 := v2752
  let c0_i32_1737 : BitVec 32 := 0#32
  ![v2753.toNat, 0]

def k0_chk17 (v510 : BitVec 32) (v511 : BitVec 32) : Prop :=
  (∀ (k0_h93 : k0_cond93 v510 v511 = 1#1), 128 ∣ (k0_mult81 v510).toNat) ∧
  (∀ (k0_h93 : k0_cond93 v510 v511 = 1#1), ∀ a, (k0_off81 v510) a + S512x1024.size a ≤ S8192x1024.size a) ∧
  (∀ (k0_h94 : k0_cond94 v510 v511 = 1#1), 128 ∣ (k0_mult82 v510).toNat) ∧
  (∀ (k0_h94 : k0_cond94 v510 v511 = 1#1), ∀ a, (k0_off82 v510) a + S128x1024.size a ≤ S8192x1024.size a) ∧
  (∀ (k0_h95 : k0_cond95 v510 v511 = 1#1), 128 ∣ (k0_mult83 v510).toNat) ∧
  (∀ (k0_h95 : k0_cond95 v510 v511 = 1#1), ∀ a, (k0_off83 v510) a + S128x1024.size a ≤ S8192x1024.size a) ∧
  (∀ (k0_h96 : k0_cond96 v510 v511 = 1#1), 128 ∣ (k0_mult84 v510).toNat) ∧
  (∀ (k0_h96 : k0_cond96 v510 v511 = 1#1), ∀ a, (k0_off84 v510) a + S128x1024.size a ≤ S8192x1024.size a) ∧
  (∀ (k0_h97 : k0_cond97 v510 v511 = 1#1), 128 ∣ (k0_mult85 v510).toNat) ∧
  (∀ (k0_h97 : k0_cond97 v510 v511 = 1#1), ∀ a, (k0_off85 v510) a + S128x1024.size a ≤ S8192x1024.size a)
theorem k0_mult81_dvd : ∀ (v510 : BitVec 32) (v511 : BitVec 32) (k0_hw17 : k0_chk17 v510 v511), ∀ (k0_h93 : k0_cond93 v510 v511 = 1#1), 128 ∣ (k0_mult81 v510).toNat := fun v510 v511 k0_hw17 k0_h93 => k0_hw17.1 k0_h93
theorem k0_off81_inb : ∀ (v510 : BitVec 32) (v511 : BitVec 32) (k0_hw17 : k0_chk17 v510 v511), ∀ (k0_h93 : k0_cond93 v510 v511 = 1#1), ∀ a, (k0_off81 v510) a + S512x1024.size a ≤ S8192x1024.size a := fun v510 v511 k0_hw17 k0_h93 => k0_hw17.2.1 k0_h93
theorem k0_mult82_dvd : ∀ (v510 : BitVec 32) (v511 : BitVec 32) (k0_hw17 : k0_chk17 v510 v511), ∀ (k0_h94 : k0_cond94 v510 v511 = 1#1), 128 ∣ (k0_mult82 v510).toNat := fun v510 v511 k0_hw17 k0_h94 => k0_hw17.2.2.1 k0_h94
theorem k0_off82_inb : ∀ (v510 : BitVec 32) (v511 : BitVec 32) (k0_hw17 : k0_chk17 v510 v511), ∀ (k0_h94 : k0_cond94 v510 v511 = 1#1), ∀ a, (k0_off82 v510) a + S128x1024.size a ≤ S8192x1024.size a := fun v510 v511 k0_hw17 k0_h94 => k0_hw17.2.2.2.1 k0_h94
theorem k0_mult83_dvd : ∀ (v510 : BitVec 32) (v511 : BitVec 32) (k0_hw17 : k0_chk17 v510 v511), ∀ (k0_h95 : k0_cond95 v510 v511 = 1#1), 128 ∣ (k0_mult83 v510).toNat := fun v510 v511 k0_hw17 k0_h95 => k0_hw17.2.2.2.2.1 k0_h95
theorem k0_off83_inb : ∀ (v510 : BitVec 32) (v511 : BitVec 32) (k0_hw17 : k0_chk17 v510 v511), ∀ (k0_h95 : k0_cond95 v510 v511 = 1#1), ∀ a, (k0_off83 v510) a + S128x1024.size a ≤ S8192x1024.size a := fun v510 v511 k0_hw17 k0_h95 => k0_hw17.2.2.2.2.2.1 k0_h95
theorem k0_mult84_dvd : ∀ (v510 : BitVec 32) (v511 : BitVec 32) (k0_hw17 : k0_chk17 v510 v511), ∀ (k0_h96 : k0_cond96 v510 v511 = 1#1), 128 ∣ (k0_mult84 v510).toNat := fun v510 v511 k0_hw17 k0_h96 => k0_hw17.2.2.2.2.2.2.1 k0_h96
theorem k0_off84_inb : ∀ (v510 : BitVec 32) (v511 : BitVec 32) (k0_hw17 : k0_chk17 v510 v511), ∀ (k0_h96 : k0_cond96 v510 v511 = 1#1), ∀ a, (k0_off84 v510) a + S128x1024.size a ≤ S8192x1024.size a := fun v510 v511 k0_hw17 k0_h96 => k0_hw17.2.2.2.2.2.2.2.1 k0_h96
theorem k0_mult85_dvd : ∀ (v510 : BitVec 32) (v511 : BitVec 32) (k0_hw17 : k0_chk17 v510 v511), ∀ (k0_h97 : k0_cond97 v510 v511 = 1#1), 128 ∣ (k0_mult85 v510).toNat := fun v510 v511 k0_hw17 k0_h97 => k0_hw17.2.2.2.2.2.2.2.2.1 k0_h97
theorem k0_off85_inb : ∀ (v510 : BitVec 32) (v511 : BitVec 32) (k0_hw17 : k0_chk17 v510 v511), ∀ (k0_h97 : k0_cond97 v510 v511 = 1#1), ∀ a, (k0_off85 v510) a + S128x1024.size a ≤ S8192x1024.size a := fun v510 v511 k0_hw17 k0_h97 => k0_hw17.2.2.2.2.2.2.2.2.2 k0_h97

def k0_mult86 (v550 : BitVec 32) : BitVec 32 :=
  let c0_i32_1732 : BitVec 32 := 0#32
  let v2752 : BitVec 32 := Scalar.addi v550 c0_i32_1732
  v2752
def k0_cond98 (v550 : BitVec 32) (v551 : BitVec 32) : BitVec 1 :=
  let v552 : BitVec 32 := Scalar.subi v551 v550
  let c512_i32_301 : BitVec 32 := 512#32
  let v553 : BitVec 1 := Scalar.cmpi .sge v552 c512_i32_301
  let v557 : BitVec 32 := Scalar.extui v553
  let c0_i32_304 : BitVec 32 := 0#32
  let v558 : BitVec 1 := Scalar.cmpi .ne v557 c0_i32_304
  v558

def k0_off86 (v550 : BitVec 32) : Fin 2 → Nat :=
  let c0_i32_1732 : BitVec 32 := 0#32
  let v2752 : BitVec 32 := Scalar.addi v550 c0_i32_1732
  let v2753 : BitVec 32 := v2752
  let c0_i32_1737 : BitVec 32 := 0#32
  ![v2753.toNat, 0]
def k0_mult87 (v550 : BitVec 32) : BitVec 32 :=
  let c0_i32_1732 : BitVec 32 := 0#32
  let v2752 : BitVec 32 := Scalar.addi v550 c0_i32_1732
  v2752
def k0_cond99 (v550 : BitVec 32) (v551 : BitVec 32) : BitVec 1 :=
  let v552 : BitVec 32 := Scalar.subi v551 v550
  let c0_i32_302 : BitVec 32 := 0#32
  let v554 : BitVec 1 := Scalar.cmpi .sgt v552 c0_i32_302
  let c512_i32_301 : BitVec 32 := 512#32
  let v553 : BitVec 1 := Scalar.cmpi .sge v552 c512_i32_301
  let true_303 : BitVec 1 := 1#1
  let v555 : BitVec 1 := Scalar.xori v553 true_303
  let v556 : BitVec 1 := Scalar.andi v554 v555
  let c0_i32_305 : BitVec 32 := 0#32
  let v559 : BitVec 1 := Scalar.cmpi .sgt v552 c0_i32_305
  let v560 : BitVec 1 := Scalar.andi v556 v559
  let v561 : BitVec 32 := Scalar.extui v560
  let c0_i32_306 : BitVec 32 := 0#32
  let v562 : BitVec 1 := Scalar.cmpi .ne v561 c0_i32_306
  v562

def k0_off87 (v550 : BitVec 32) : Fin 2 → Nat :=
  let c0_i32_1732 : BitVec 32 := 0#32
  let v2752 : BitVec 32 := Scalar.addi v550 c0_i32_1732
  let v2753 : BitVec 32 := v2752
  let c0_i32_1737 : BitVec 32 := 0#32
  ![v2753.toNat, 0]
def k0_mult88 (v550 : BitVec 32) : BitVec 32 :=
  let c128_i32_1732 : BitVec 32 := 128#32
  let v2752 : BitVec 32 := Scalar.addi v550 c128_i32_1732
  v2752
def k0_cond100 (v550 : BitVec 32) (v551 : BitVec 32) : BitVec 1 :=
  let v552 : BitVec 32 := Scalar.subi v551 v550
  let c0_i32_302 : BitVec 32 := 0#32
  let v554 : BitVec 1 := Scalar.cmpi .sgt v552 c0_i32_302
  let c512_i32_301 : BitVec 32 := 512#32
  let v553 : BitVec 1 := Scalar.cmpi .sge v552 c512_i32_301
  let true_303 : BitVec 1 := 1#1
  let v555 : BitVec 1 := Scalar.xori v553 true_303
  let v556 : BitVec 1 := Scalar.andi v554 v555
  let c128_i32_307 : BitVec 32 := 128#32
  let v563 : BitVec 1 := Scalar.cmpi .sgt v552 c128_i32_307
  let v564 : BitVec 1 := Scalar.andi v556 v563
  let v565 : BitVec 32 := Scalar.extui v564
  let c0_i32_308 : BitVec 32 := 0#32
  let v566 : BitVec 1 := Scalar.cmpi .ne v565 c0_i32_308
  v566

def k0_off88 (v550 : BitVec 32) : Fin 2 → Nat :=
  let c128_i32_1732 : BitVec 32 := 128#32
  let v2752 : BitVec 32 := Scalar.addi v550 c128_i32_1732
  let v2753 : BitVec 32 := v2752
  let c0_i32_1737 : BitVec 32 := 0#32
  ![v2753.toNat, 0]
def k0_mult89 (v550 : BitVec 32) : BitVec 32 :=
  let c256_i32_1732 : BitVec 32 := 256#32
  let v2752 : BitVec 32 := Scalar.addi v550 c256_i32_1732
  v2752
def k0_cond101 (v550 : BitVec 32) (v551 : BitVec 32) : BitVec 1 :=
  let v552 : BitVec 32 := Scalar.subi v551 v550
  let c0_i32_302 : BitVec 32 := 0#32
  let v554 : BitVec 1 := Scalar.cmpi .sgt v552 c0_i32_302
  let c512_i32_301 : BitVec 32 := 512#32
  let v553 : BitVec 1 := Scalar.cmpi .sge v552 c512_i32_301
  let true_303 : BitVec 1 := 1#1
  let v555 : BitVec 1 := Scalar.xori v553 true_303
  let v556 : BitVec 1 := Scalar.andi v554 v555
  let c256_i32_309 : BitVec 32 := 256#32
  let v567 : BitVec 1 := Scalar.cmpi .sgt v552 c256_i32_309
  let v568 : BitVec 1 := Scalar.andi v556 v567
  let v569 : BitVec 32 := Scalar.extui v568
  let c0_i32_310 : BitVec 32 := 0#32
  let v570 : BitVec 1 := Scalar.cmpi .ne v569 c0_i32_310
  v570

def k0_off89 (v550 : BitVec 32) : Fin 2 → Nat :=
  let c256_i32_1732 : BitVec 32 := 256#32
  let v2752 : BitVec 32 := Scalar.addi v550 c256_i32_1732
  let v2753 : BitVec 32 := v2752
  let c0_i32_1737 : BitVec 32 := 0#32
  ![v2753.toNat, 0]
def k0_mult90 (v550 : BitVec 32) : BitVec 32 :=
  let c384_i32_1732 : BitVec 32 := 384#32
  let v2752 : BitVec 32 := Scalar.addi v550 c384_i32_1732
  v2752
def k0_cond102 (v550 : BitVec 32) (v551 : BitVec 32) : BitVec 1 :=
  let v552 : BitVec 32 := Scalar.subi v551 v550
  let c0_i32_302 : BitVec 32 := 0#32
  let v554 : BitVec 1 := Scalar.cmpi .sgt v552 c0_i32_302
  let c512_i32_301 : BitVec 32 := 512#32
  let v553 : BitVec 1 := Scalar.cmpi .sge v552 c512_i32_301
  let true_303 : BitVec 1 := 1#1
  let v555 : BitVec 1 := Scalar.xori v553 true_303
  let v556 : BitVec 1 := Scalar.andi v554 v555
  let c384_i32_311 : BitVec 32 := 384#32
  let v571 : BitVec 1 := Scalar.cmpi .sgt v552 c384_i32_311
  let v572 : BitVec 1 := Scalar.andi v556 v571
  let v573 : BitVec 32 := Scalar.extui v572
  let c0_i32_312 : BitVec 32 := 0#32
  let v574 : BitVec 1 := Scalar.cmpi .ne v573 c0_i32_312
  v574

def k0_off90 (v550 : BitVec 32) : Fin 2 → Nat :=
  let c384_i32_1732 : BitVec 32 := 384#32
  let v2752 : BitVec 32 := Scalar.addi v550 c384_i32_1732
  let v2753 : BitVec 32 := v2752
  let c0_i32_1737 : BitVec 32 := 0#32
  ![v2753.toNat, 0]

def k0_chk18 (v550 : BitVec 32) (v551 : BitVec 32) : Prop :=
  (∀ (k0_h98 : k0_cond98 v550 v551 = 1#1), 128 ∣ (k0_mult86 v550).toNat) ∧
  (∀ (k0_h98 : k0_cond98 v550 v551 = 1#1), ∀ a, (k0_off86 v550) a + S512x1024.size a ≤ S8192x1024.size a) ∧
  (∀ (k0_h99 : k0_cond99 v550 v551 = 1#1), 128 ∣ (k0_mult87 v550).toNat) ∧
  (∀ (k0_h99 : k0_cond99 v550 v551 = 1#1), ∀ a, (k0_off87 v550) a + S128x1024.size a ≤ S8192x1024.size a) ∧
  (∀ (k0_h100 : k0_cond100 v550 v551 = 1#1), 128 ∣ (k0_mult88 v550).toNat) ∧
  (∀ (k0_h100 : k0_cond100 v550 v551 = 1#1), ∀ a, (k0_off88 v550) a + S128x1024.size a ≤ S8192x1024.size a) ∧
  (∀ (k0_h101 : k0_cond101 v550 v551 = 1#1), 128 ∣ (k0_mult89 v550).toNat) ∧
  (∀ (k0_h101 : k0_cond101 v550 v551 = 1#1), ∀ a, (k0_off89 v550) a + S128x1024.size a ≤ S8192x1024.size a) ∧
  (∀ (k0_h102 : k0_cond102 v550 v551 = 1#1), 128 ∣ (k0_mult90 v550).toNat) ∧
  (∀ (k0_h102 : k0_cond102 v550 v551 = 1#1), ∀ a, (k0_off90 v550) a + S128x1024.size a ≤ S8192x1024.size a)
theorem k0_mult86_dvd : ∀ (v550 : BitVec 32) (v551 : BitVec 32) (k0_hw18 : k0_chk18 v550 v551), ∀ (k0_h98 : k0_cond98 v550 v551 = 1#1), 128 ∣ (k0_mult86 v550).toNat := fun v550 v551 k0_hw18 k0_h98 => k0_hw18.1 k0_h98
theorem k0_off86_inb : ∀ (v550 : BitVec 32) (v551 : BitVec 32) (k0_hw18 : k0_chk18 v550 v551), ∀ (k0_h98 : k0_cond98 v550 v551 = 1#1), ∀ a, (k0_off86 v550) a + S512x1024.size a ≤ S8192x1024.size a := fun v550 v551 k0_hw18 k0_h98 => k0_hw18.2.1 k0_h98
theorem k0_mult87_dvd : ∀ (v550 : BitVec 32) (v551 : BitVec 32) (k0_hw18 : k0_chk18 v550 v551), ∀ (k0_h99 : k0_cond99 v550 v551 = 1#1), 128 ∣ (k0_mult87 v550).toNat := fun v550 v551 k0_hw18 k0_h99 => k0_hw18.2.2.1 k0_h99
theorem k0_off87_inb : ∀ (v550 : BitVec 32) (v551 : BitVec 32) (k0_hw18 : k0_chk18 v550 v551), ∀ (k0_h99 : k0_cond99 v550 v551 = 1#1), ∀ a, (k0_off87 v550) a + S128x1024.size a ≤ S8192x1024.size a := fun v550 v551 k0_hw18 k0_h99 => k0_hw18.2.2.2.1 k0_h99
theorem k0_mult88_dvd : ∀ (v550 : BitVec 32) (v551 : BitVec 32) (k0_hw18 : k0_chk18 v550 v551), ∀ (k0_h100 : k0_cond100 v550 v551 = 1#1), 128 ∣ (k0_mult88 v550).toNat := fun v550 v551 k0_hw18 k0_h100 => k0_hw18.2.2.2.2.1 k0_h100
theorem k0_off88_inb : ∀ (v550 : BitVec 32) (v551 : BitVec 32) (k0_hw18 : k0_chk18 v550 v551), ∀ (k0_h100 : k0_cond100 v550 v551 = 1#1), ∀ a, (k0_off88 v550) a + S128x1024.size a ≤ S8192x1024.size a := fun v550 v551 k0_hw18 k0_h100 => k0_hw18.2.2.2.2.2.1 k0_h100
theorem k0_mult89_dvd : ∀ (v550 : BitVec 32) (v551 : BitVec 32) (k0_hw18 : k0_chk18 v550 v551), ∀ (k0_h101 : k0_cond101 v550 v551 = 1#1), 128 ∣ (k0_mult89 v550).toNat := fun v550 v551 k0_hw18 k0_h101 => k0_hw18.2.2.2.2.2.2.1 k0_h101
theorem k0_off89_inb : ∀ (v550 : BitVec 32) (v551 : BitVec 32) (k0_hw18 : k0_chk18 v550 v551), ∀ (k0_h101 : k0_cond101 v550 v551 = 1#1), ∀ a, (k0_off89 v550) a + S128x1024.size a ≤ S8192x1024.size a := fun v550 v551 k0_hw18 k0_h101 => k0_hw18.2.2.2.2.2.2.2.1 k0_h101
theorem k0_mult90_dvd : ∀ (v550 : BitVec 32) (v551 : BitVec 32) (k0_hw18 : k0_chk18 v550 v551), ∀ (k0_h102 : k0_cond102 v550 v551 = 1#1), 128 ∣ (k0_mult90 v550).toNat := fun v550 v551 k0_hw18 k0_h102 => k0_hw18.2.2.2.2.2.2.2.2.1 k0_h102
theorem k0_off90_inb : ∀ (v550 : BitVec 32) (v551 : BitVec 32) (k0_hw18 : k0_chk18 v550 v551), ∀ (k0_h102 : k0_cond102 v550 v551 = 1#1), ∀ a, (k0_off90 v550) a + S128x1024.size a ≤ S8192x1024.size a := fun v550 v551 k0_hw18 k0_h102 => k0_hw18.2.2.2.2.2.2.2.2.2 k0_h102

def k0_mult91 (v590 : BitVec 32) : BitVec 32 :=
  let c512_i32_1732 : BitVec 32 := 512#32
  let v2752 : BitVec 32 := Scalar.addi v590 c512_i32_1732
  v2752
def k0_cond106 (v590 : BitVec 32) (v591 : BitVec 32) : BitVec 1 :=
  let v592 : BitVec 32 := Scalar.subi v591 v590
  let c1024_i32_326 : BitVec 32 := 1024#32
  let v593 : BitVec 1 := Scalar.cmpi .sge v592 c1024_i32_326
  let v597 : BitVec 32 := Scalar.extui v593
  let c0_i32_329 : BitVec 32 := 0#32
  let v598 : BitVec 1 := Scalar.cmpi .ne v597 c0_i32_329
  v598

def k0_off91 (v590 : BitVec 32) : Fin 2 → Nat :=
  let c512_i32_1732 : BitVec 32 := 512#32
  let v2752 : BitVec 32 := Scalar.addi v590 c512_i32_1732
  let v2753 : BitVec 32 := v2752
  let c0_i32_1737 : BitVec 32 := 0#32
  ![v2753.toNat, 0]
def k0_mult92 (v590 : BitVec 32) : BitVec 32 :=
  let c512_i32_1732 : BitVec 32 := 512#32
  let v2752 : BitVec 32 := Scalar.addi v590 c512_i32_1732
  v2752
def k0_cond107 (v590 : BitVec 32) (v591 : BitVec 32) : BitVec 1 :=
  let v592 : BitVec 32 := Scalar.subi v591 v590
  let c512_i32_327 : BitVec 32 := 512#32
  let v594 : BitVec 1 := Scalar.cmpi .sgt v592 c512_i32_327
  let c1024_i32_326 : BitVec 32 := 1024#32
  let v593 : BitVec 1 := Scalar.cmpi .sge v592 c1024_i32_326
  let true_328 : BitVec 1 := 1#1
  let v595 : BitVec 1 := Scalar.xori v593 true_328
  let v596 : BitVec 1 := Scalar.andi v594 v595
  let c512_i32_330 : BitVec 32 := 512#32
  let v599 : BitVec 1 := Scalar.cmpi .sgt v592 c512_i32_330
  let v600 : BitVec 1 := Scalar.andi v596 v599
  let v601 : BitVec 32 := Scalar.extui v600
  let c0_i32_331 : BitVec 32 := 0#32
  let v602 : BitVec 1 := Scalar.cmpi .ne v601 c0_i32_331
  v602

def k0_off92 (v590 : BitVec 32) : Fin 2 → Nat :=
  let c512_i32_1732 : BitVec 32 := 512#32
  let v2752 : BitVec 32 := Scalar.addi v590 c512_i32_1732
  let v2753 : BitVec 32 := v2752
  let c0_i32_1737 : BitVec 32 := 0#32
  ![v2753.toNat, 0]
def k0_mult93 (v590 : BitVec 32) : BitVec 32 :=
  let c640_i32_1732 : BitVec 32 := 640#32
  let v2752 : BitVec 32 := Scalar.addi v590 c640_i32_1732
  v2752
def k0_cond108 (v590 : BitVec 32) (v591 : BitVec 32) : BitVec 1 :=
  let v592 : BitVec 32 := Scalar.subi v591 v590
  let c512_i32_327 : BitVec 32 := 512#32
  let v594 : BitVec 1 := Scalar.cmpi .sgt v592 c512_i32_327
  let c1024_i32_326 : BitVec 32 := 1024#32
  let v593 : BitVec 1 := Scalar.cmpi .sge v592 c1024_i32_326
  let true_328 : BitVec 1 := 1#1
  let v595 : BitVec 1 := Scalar.xori v593 true_328
  let v596 : BitVec 1 := Scalar.andi v594 v595
  let c640_i32_332 : BitVec 32 := 640#32
  let v603 : BitVec 1 := Scalar.cmpi .sgt v592 c640_i32_332
  let v604 : BitVec 1 := Scalar.andi v596 v603
  let v605 : BitVec 32 := Scalar.extui v604
  let c0_i32_333 : BitVec 32 := 0#32
  let v606 : BitVec 1 := Scalar.cmpi .ne v605 c0_i32_333
  v606

def k0_off93 (v590 : BitVec 32) : Fin 2 → Nat :=
  let c640_i32_1732 : BitVec 32 := 640#32
  let v2752 : BitVec 32 := Scalar.addi v590 c640_i32_1732
  let v2753 : BitVec 32 := v2752
  let c0_i32_1737 : BitVec 32 := 0#32
  ![v2753.toNat, 0]
def k0_mult94 (v590 : BitVec 32) : BitVec 32 :=
  let c768_i32_1732 : BitVec 32 := 768#32
  let v2752 : BitVec 32 := Scalar.addi v590 c768_i32_1732
  v2752
def k0_cond109 (v590 : BitVec 32) (v591 : BitVec 32) : BitVec 1 :=
  let v592 : BitVec 32 := Scalar.subi v591 v590
  let c512_i32_327 : BitVec 32 := 512#32
  let v594 : BitVec 1 := Scalar.cmpi .sgt v592 c512_i32_327
  let c1024_i32_326 : BitVec 32 := 1024#32
  let v593 : BitVec 1 := Scalar.cmpi .sge v592 c1024_i32_326
  let true_328 : BitVec 1 := 1#1
  let v595 : BitVec 1 := Scalar.xori v593 true_328
  let v596 : BitVec 1 := Scalar.andi v594 v595
  let c768_i32_334 : BitVec 32 := 768#32
  let v607 : BitVec 1 := Scalar.cmpi .sgt v592 c768_i32_334
  let v608 : BitVec 1 := Scalar.andi v596 v607
  let v609 : BitVec 32 := Scalar.extui v608
  let c0_i32_335 : BitVec 32 := 0#32
  let v610 : BitVec 1 := Scalar.cmpi .ne v609 c0_i32_335
  v610

def k0_off94 (v590 : BitVec 32) : Fin 2 → Nat :=
  let c768_i32_1732 : BitVec 32 := 768#32
  let v2752 : BitVec 32 := Scalar.addi v590 c768_i32_1732
  let v2753 : BitVec 32 := v2752
  let c0_i32_1737 : BitVec 32 := 0#32
  ![v2753.toNat, 0]
def k0_mult95 (v590 : BitVec 32) : BitVec 32 :=
  let c896_i32_1732 : BitVec 32 := 896#32
  let v2752 : BitVec 32 := Scalar.addi v590 c896_i32_1732
  v2752
def k0_cond110 (v590 : BitVec 32) (v591 : BitVec 32) : BitVec 1 :=
  let v592 : BitVec 32 := Scalar.subi v591 v590
  let c512_i32_327 : BitVec 32 := 512#32
  let v594 : BitVec 1 := Scalar.cmpi .sgt v592 c512_i32_327
  let c1024_i32_326 : BitVec 32 := 1024#32
  let v593 : BitVec 1 := Scalar.cmpi .sge v592 c1024_i32_326
  let true_328 : BitVec 1 := 1#1
  let v595 : BitVec 1 := Scalar.xori v593 true_328
  let v596 : BitVec 1 := Scalar.andi v594 v595
  let c896_i32_336 : BitVec 32 := 896#32
  let v611 : BitVec 1 := Scalar.cmpi .sgt v592 c896_i32_336
  let v612 : BitVec 1 := Scalar.andi v596 v611
  let v613 : BitVec 32 := Scalar.extui v612
  let c0_i32_337 : BitVec 32 := 0#32
  let v614 : BitVec 1 := Scalar.cmpi .ne v613 c0_i32_337
  v614

def k0_off95 (v590 : BitVec 32) : Fin 2 → Nat :=
  let c896_i32_1732 : BitVec 32 := 896#32
  let v2752 : BitVec 32 := Scalar.addi v590 c896_i32_1732
  let v2753 : BitVec 32 := v2752
  let c0_i32_1737 : BitVec 32 := 0#32
  ![v2753.toNat, 0]

def k0_chk19 (v590 : BitVec 32) (v591 : BitVec 32) : Prop :=
  (∀ (k0_h106 : k0_cond106 v590 v591 = 1#1), 128 ∣ (k0_mult91 v590).toNat) ∧
  (∀ (k0_h106 : k0_cond106 v590 v591 = 1#1), ∀ a, (k0_off91 v590) a + S512x1024.size a ≤ S8192x1024.size a) ∧
  (∀ (k0_h107 : k0_cond107 v590 v591 = 1#1), 128 ∣ (k0_mult92 v590).toNat) ∧
  (∀ (k0_h107 : k0_cond107 v590 v591 = 1#1), ∀ a, (k0_off92 v590) a + S128x1024.size a ≤ S8192x1024.size a) ∧
  (∀ (k0_h108 : k0_cond108 v590 v591 = 1#1), 128 ∣ (k0_mult93 v590).toNat) ∧
  (∀ (k0_h108 : k0_cond108 v590 v591 = 1#1), ∀ a, (k0_off93 v590) a + S128x1024.size a ≤ S8192x1024.size a) ∧
  (∀ (k0_h109 : k0_cond109 v590 v591 = 1#1), 128 ∣ (k0_mult94 v590).toNat) ∧
  (∀ (k0_h109 : k0_cond109 v590 v591 = 1#1), ∀ a, (k0_off94 v590) a + S128x1024.size a ≤ S8192x1024.size a) ∧
  (∀ (k0_h110 : k0_cond110 v590 v591 = 1#1), 128 ∣ (k0_mult95 v590).toNat) ∧
  (∀ (k0_h110 : k0_cond110 v590 v591 = 1#1), ∀ a, (k0_off95 v590) a + S128x1024.size a ≤ S8192x1024.size a)
theorem k0_mult91_dvd : ∀ (v590 : BitVec 32) (v591 : BitVec 32) (k0_hw19 : k0_chk19 v590 v591), ∀ (k0_h106 : k0_cond106 v590 v591 = 1#1), 128 ∣ (k0_mult91 v590).toNat := fun v590 v591 k0_hw19 k0_h106 => k0_hw19.1 k0_h106
theorem k0_off91_inb : ∀ (v590 : BitVec 32) (v591 : BitVec 32) (k0_hw19 : k0_chk19 v590 v591), ∀ (k0_h106 : k0_cond106 v590 v591 = 1#1), ∀ a, (k0_off91 v590) a + S512x1024.size a ≤ S8192x1024.size a := fun v590 v591 k0_hw19 k0_h106 => k0_hw19.2.1 k0_h106
theorem k0_mult92_dvd : ∀ (v590 : BitVec 32) (v591 : BitVec 32) (k0_hw19 : k0_chk19 v590 v591), ∀ (k0_h107 : k0_cond107 v590 v591 = 1#1), 128 ∣ (k0_mult92 v590).toNat := fun v590 v591 k0_hw19 k0_h107 => k0_hw19.2.2.1 k0_h107
theorem k0_off92_inb : ∀ (v590 : BitVec 32) (v591 : BitVec 32) (k0_hw19 : k0_chk19 v590 v591), ∀ (k0_h107 : k0_cond107 v590 v591 = 1#1), ∀ a, (k0_off92 v590) a + S128x1024.size a ≤ S8192x1024.size a := fun v590 v591 k0_hw19 k0_h107 => k0_hw19.2.2.2.1 k0_h107
theorem k0_mult93_dvd : ∀ (v590 : BitVec 32) (v591 : BitVec 32) (k0_hw19 : k0_chk19 v590 v591), ∀ (k0_h108 : k0_cond108 v590 v591 = 1#1), 128 ∣ (k0_mult93 v590).toNat := fun v590 v591 k0_hw19 k0_h108 => k0_hw19.2.2.2.2.1 k0_h108
theorem k0_off93_inb : ∀ (v590 : BitVec 32) (v591 : BitVec 32) (k0_hw19 : k0_chk19 v590 v591), ∀ (k0_h108 : k0_cond108 v590 v591 = 1#1), ∀ a, (k0_off93 v590) a + S128x1024.size a ≤ S8192x1024.size a := fun v590 v591 k0_hw19 k0_h108 => k0_hw19.2.2.2.2.2.1 k0_h108
theorem k0_mult94_dvd : ∀ (v590 : BitVec 32) (v591 : BitVec 32) (k0_hw19 : k0_chk19 v590 v591), ∀ (k0_h109 : k0_cond109 v590 v591 = 1#1), 128 ∣ (k0_mult94 v590).toNat := fun v590 v591 k0_hw19 k0_h109 => k0_hw19.2.2.2.2.2.2.1 k0_h109
theorem k0_off94_inb : ∀ (v590 : BitVec 32) (v591 : BitVec 32) (k0_hw19 : k0_chk19 v590 v591), ∀ (k0_h109 : k0_cond109 v590 v591 = 1#1), ∀ a, (k0_off94 v590) a + S128x1024.size a ≤ S8192x1024.size a := fun v590 v591 k0_hw19 k0_h109 => k0_hw19.2.2.2.2.2.2.2.1 k0_h109
theorem k0_mult95_dvd : ∀ (v590 : BitVec 32) (v591 : BitVec 32) (k0_hw19 : k0_chk19 v590 v591), ∀ (k0_h110 : k0_cond110 v590 v591 = 1#1), 128 ∣ (k0_mult95 v590).toNat := fun v590 v591 k0_hw19 k0_h110 => k0_hw19.2.2.2.2.2.2.2.2.1 k0_h110
theorem k0_off95_inb : ∀ (v590 : BitVec 32) (v591 : BitVec 32) (k0_hw19 : k0_chk19 v590 v591), ∀ (k0_h110 : k0_cond110 v590 v591 = 1#1), ∀ a, (k0_off95 v590) a + S128x1024.size a ≤ S8192x1024.size a := fun v590 v591 k0_hw19 k0_h110 => k0_hw19.2.2.2.2.2.2.2.2.2 k0_h110

def k0_mult96 (v630 : BitVec 32) : BitVec 32 :=
  let c512_i32_1732 : BitVec 32 := 512#32
  let v2752 : BitVec 32 := Scalar.addi v630 c512_i32_1732
  v2752
def k0_cond111 (v630 : BitVec 32) (v631 : BitVec 32) : BitVec 1 :=
  let v632 : BitVec 32 := Scalar.subi v631 v630
  let c1024_i32_349 : BitVec 32 := 1024#32
  let v633 : BitVec 1 := Scalar.cmpi .sge v632 c1024_i32_349
  let v637 : BitVec 32 := Scalar.extui v633
  let c0_i32_352 : BitVec 32 := 0#32
  let v638 : BitVec 1 := Scalar.cmpi .ne v637 c0_i32_352
  v638

def k0_off96 (v630 : BitVec 32) : Fin 2 → Nat :=
  let c512_i32_1732 : BitVec 32 := 512#32
  let v2752 : BitVec 32 := Scalar.addi v630 c512_i32_1732
  let v2753 : BitVec 32 := v2752
  let c0_i32_1737 : BitVec 32 := 0#32
  ![v2753.toNat, 0]
def k0_mult97 (v630 : BitVec 32) : BitVec 32 :=
  let c512_i32_1732 : BitVec 32 := 512#32
  let v2752 : BitVec 32 := Scalar.addi v630 c512_i32_1732
  v2752
def k0_cond112 (v630 : BitVec 32) (v631 : BitVec 32) : BitVec 1 :=
  let v632 : BitVec 32 := Scalar.subi v631 v630
  let c512_i32_350 : BitVec 32 := 512#32
  let v634 : BitVec 1 := Scalar.cmpi .sgt v632 c512_i32_350
  let c1024_i32_349 : BitVec 32 := 1024#32
  let v633 : BitVec 1 := Scalar.cmpi .sge v632 c1024_i32_349
  let true_351 : BitVec 1 := 1#1
  let v635 : BitVec 1 := Scalar.xori v633 true_351
  let v636 : BitVec 1 := Scalar.andi v634 v635
  let c512_i32_353 : BitVec 32 := 512#32
  let v639 : BitVec 1 := Scalar.cmpi .sgt v632 c512_i32_353
  let v640 : BitVec 1 := Scalar.andi v636 v639
  let v641 : BitVec 32 := Scalar.extui v640
  let c0_i32_354 : BitVec 32 := 0#32
  let v642 : BitVec 1 := Scalar.cmpi .ne v641 c0_i32_354
  v642

def k0_off97 (v630 : BitVec 32) : Fin 2 → Nat :=
  let c512_i32_1732 : BitVec 32 := 512#32
  let v2752 : BitVec 32 := Scalar.addi v630 c512_i32_1732
  let v2753 : BitVec 32 := v2752
  let c0_i32_1737 : BitVec 32 := 0#32
  ![v2753.toNat, 0]
def k0_mult98 (v630 : BitVec 32) : BitVec 32 :=
  let c640_i32_1732 : BitVec 32 := 640#32
  let v2752 : BitVec 32 := Scalar.addi v630 c640_i32_1732
  v2752
def k0_cond113 (v630 : BitVec 32) (v631 : BitVec 32) : BitVec 1 :=
  let v632 : BitVec 32 := Scalar.subi v631 v630
  let c512_i32_350 : BitVec 32 := 512#32
  let v634 : BitVec 1 := Scalar.cmpi .sgt v632 c512_i32_350
  let c1024_i32_349 : BitVec 32 := 1024#32
  let v633 : BitVec 1 := Scalar.cmpi .sge v632 c1024_i32_349
  let true_351 : BitVec 1 := 1#1
  let v635 : BitVec 1 := Scalar.xori v633 true_351
  let v636 : BitVec 1 := Scalar.andi v634 v635
  let c640_i32_355 : BitVec 32 := 640#32
  let v643 : BitVec 1 := Scalar.cmpi .sgt v632 c640_i32_355
  let v644 : BitVec 1 := Scalar.andi v636 v643
  let v645 : BitVec 32 := Scalar.extui v644
  let c0_i32_356 : BitVec 32 := 0#32
  let v646 : BitVec 1 := Scalar.cmpi .ne v645 c0_i32_356
  v646

def k0_off98 (v630 : BitVec 32) : Fin 2 → Nat :=
  let c640_i32_1732 : BitVec 32 := 640#32
  let v2752 : BitVec 32 := Scalar.addi v630 c640_i32_1732
  let v2753 : BitVec 32 := v2752
  let c0_i32_1737 : BitVec 32 := 0#32
  ![v2753.toNat, 0]
def k0_mult99 (v630 : BitVec 32) : BitVec 32 :=
  let c768_i32_1732 : BitVec 32 := 768#32
  let v2752 : BitVec 32 := Scalar.addi v630 c768_i32_1732
  v2752
def k0_cond114 (v630 : BitVec 32) (v631 : BitVec 32) : BitVec 1 :=
  let v632 : BitVec 32 := Scalar.subi v631 v630
  let c512_i32_350 : BitVec 32 := 512#32
  let v634 : BitVec 1 := Scalar.cmpi .sgt v632 c512_i32_350
  let c1024_i32_349 : BitVec 32 := 1024#32
  let v633 : BitVec 1 := Scalar.cmpi .sge v632 c1024_i32_349
  let true_351 : BitVec 1 := 1#1
  let v635 : BitVec 1 := Scalar.xori v633 true_351
  let v636 : BitVec 1 := Scalar.andi v634 v635
  let c768_i32_357 : BitVec 32 := 768#32
  let v647 : BitVec 1 := Scalar.cmpi .sgt v632 c768_i32_357
  let v648 : BitVec 1 := Scalar.andi v636 v647
  let v649 : BitVec 32 := Scalar.extui v648
  let c0_i32_358 : BitVec 32 := 0#32
  let v650 : BitVec 1 := Scalar.cmpi .ne v649 c0_i32_358
  v650

def k0_off99 (v630 : BitVec 32) : Fin 2 → Nat :=
  let c768_i32_1732 : BitVec 32 := 768#32
  let v2752 : BitVec 32 := Scalar.addi v630 c768_i32_1732
  let v2753 : BitVec 32 := v2752
  let c0_i32_1737 : BitVec 32 := 0#32
  ![v2753.toNat, 0]
def k0_mult100 (v630 : BitVec 32) : BitVec 32 :=
  let c896_i32_1732 : BitVec 32 := 896#32
  let v2752 : BitVec 32 := Scalar.addi v630 c896_i32_1732
  v2752
def k0_cond115 (v630 : BitVec 32) (v631 : BitVec 32) : BitVec 1 :=
  let v632 : BitVec 32 := Scalar.subi v631 v630
  let c512_i32_350 : BitVec 32 := 512#32
  let v634 : BitVec 1 := Scalar.cmpi .sgt v632 c512_i32_350
  let c1024_i32_349 : BitVec 32 := 1024#32
  let v633 : BitVec 1 := Scalar.cmpi .sge v632 c1024_i32_349
  let true_351 : BitVec 1 := 1#1
  let v635 : BitVec 1 := Scalar.xori v633 true_351
  let v636 : BitVec 1 := Scalar.andi v634 v635
  let c896_i32_359 : BitVec 32 := 896#32
  let v651 : BitVec 1 := Scalar.cmpi .sgt v632 c896_i32_359
  let v652 : BitVec 1 := Scalar.andi v636 v651
  let v653 : BitVec 32 := Scalar.extui v652
  let c0_i32_360 : BitVec 32 := 0#32
  let v654 : BitVec 1 := Scalar.cmpi .ne v653 c0_i32_360
  v654

def k0_off100 (v630 : BitVec 32) : Fin 2 → Nat :=
  let c896_i32_1732 : BitVec 32 := 896#32
  let v2752 : BitVec 32 := Scalar.addi v630 c896_i32_1732
  let v2753 : BitVec 32 := v2752
  let c0_i32_1737 : BitVec 32 := 0#32
  ![v2753.toNat, 0]

def k0_chk20 (v630 : BitVec 32) (v631 : BitVec 32) : Prop :=
  (∀ (k0_h111 : k0_cond111 v630 v631 = 1#1), 128 ∣ (k0_mult96 v630).toNat) ∧
  (∀ (k0_h111 : k0_cond111 v630 v631 = 1#1), ∀ a, (k0_off96 v630) a + S512x1024.size a ≤ S8192x1024.size a) ∧
  (∀ (k0_h112 : k0_cond112 v630 v631 = 1#1), 128 ∣ (k0_mult97 v630).toNat) ∧
  (∀ (k0_h112 : k0_cond112 v630 v631 = 1#1), ∀ a, (k0_off97 v630) a + S128x1024.size a ≤ S8192x1024.size a) ∧
  (∀ (k0_h113 : k0_cond113 v630 v631 = 1#1), 128 ∣ (k0_mult98 v630).toNat) ∧
  (∀ (k0_h113 : k0_cond113 v630 v631 = 1#1), ∀ a, (k0_off98 v630) a + S128x1024.size a ≤ S8192x1024.size a) ∧
  (∀ (k0_h114 : k0_cond114 v630 v631 = 1#1), 128 ∣ (k0_mult99 v630).toNat) ∧
  (∀ (k0_h114 : k0_cond114 v630 v631 = 1#1), ∀ a, (k0_off99 v630) a + S128x1024.size a ≤ S8192x1024.size a) ∧
  (∀ (k0_h115 : k0_cond115 v630 v631 = 1#1), 128 ∣ (k0_mult100 v630).toNat) ∧
  (∀ (k0_h115 : k0_cond115 v630 v631 = 1#1), ∀ a, (k0_off100 v630) a + S128x1024.size a ≤ S8192x1024.size a)
theorem k0_mult96_dvd : ∀ (v630 : BitVec 32) (v631 : BitVec 32) (k0_hw20 : k0_chk20 v630 v631), ∀ (k0_h111 : k0_cond111 v630 v631 = 1#1), 128 ∣ (k0_mult96 v630).toNat := fun v630 v631 k0_hw20 k0_h111 => k0_hw20.1 k0_h111
theorem k0_off96_inb : ∀ (v630 : BitVec 32) (v631 : BitVec 32) (k0_hw20 : k0_chk20 v630 v631), ∀ (k0_h111 : k0_cond111 v630 v631 = 1#1), ∀ a, (k0_off96 v630) a + S512x1024.size a ≤ S8192x1024.size a := fun v630 v631 k0_hw20 k0_h111 => k0_hw20.2.1 k0_h111
theorem k0_mult97_dvd : ∀ (v630 : BitVec 32) (v631 : BitVec 32) (k0_hw20 : k0_chk20 v630 v631), ∀ (k0_h112 : k0_cond112 v630 v631 = 1#1), 128 ∣ (k0_mult97 v630).toNat := fun v630 v631 k0_hw20 k0_h112 => k0_hw20.2.2.1 k0_h112
theorem k0_off97_inb : ∀ (v630 : BitVec 32) (v631 : BitVec 32) (k0_hw20 : k0_chk20 v630 v631), ∀ (k0_h112 : k0_cond112 v630 v631 = 1#1), ∀ a, (k0_off97 v630) a + S128x1024.size a ≤ S8192x1024.size a := fun v630 v631 k0_hw20 k0_h112 => k0_hw20.2.2.2.1 k0_h112
theorem k0_mult98_dvd : ∀ (v630 : BitVec 32) (v631 : BitVec 32) (k0_hw20 : k0_chk20 v630 v631), ∀ (k0_h113 : k0_cond113 v630 v631 = 1#1), 128 ∣ (k0_mult98 v630).toNat := fun v630 v631 k0_hw20 k0_h113 => k0_hw20.2.2.2.2.1 k0_h113
theorem k0_off98_inb : ∀ (v630 : BitVec 32) (v631 : BitVec 32) (k0_hw20 : k0_chk20 v630 v631), ∀ (k0_h113 : k0_cond113 v630 v631 = 1#1), ∀ a, (k0_off98 v630) a + S128x1024.size a ≤ S8192x1024.size a := fun v630 v631 k0_hw20 k0_h113 => k0_hw20.2.2.2.2.2.1 k0_h113
theorem k0_mult99_dvd : ∀ (v630 : BitVec 32) (v631 : BitVec 32) (k0_hw20 : k0_chk20 v630 v631), ∀ (k0_h114 : k0_cond114 v630 v631 = 1#1), 128 ∣ (k0_mult99 v630).toNat := fun v630 v631 k0_hw20 k0_h114 => k0_hw20.2.2.2.2.2.2.1 k0_h114
theorem k0_off99_inb : ∀ (v630 : BitVec 32) (v631 : BitVec 32) (k0_hw20 : k0_chk20 v630 v631), ∀ (k0_h114 : k0_cond114 v630 v631 = 1#1), ∀ a, (k0_off99 v630) a + S128x1024.size a ≤ S8192x1024.size a := fun v630 v631 k0_hw20 k0_h114 => k0_hw20.2.2.2.2.2.2.2.1 k0_h114
theorem k0_mult100_dvd : ∀ (v630 : BitVec 32) (v631 : BitVec 32) (k0_hw20 : k0_chk20 v630 v631), ∀ (k0_h115 : k0_cond115 v630 v631 = 1#1), 128 ∣ (k0_mult100 v630).toNat := fun v630 v631 k0_hw20 k0_h115 => k0_hw20.2.2.2.2.2.2.2.2.1 k0_h115
theorem k0_off100_inb : ∀ (v630 : BitVec 32) (v631 : BitVec 32) (k0_hw20 : k0_chk20 v630 v631), ∀ (k0_h115 : k0_cond115 v630 v631 = 1#1), ∀ a, (k0_off100 v630) a + S128x1024.size a ≤ S8192x1024.size a := fun v630 v631 k0_hw20 k0_h115 => k0_hw20.2.2.2.2.2.2.2.2.2 k0_h115

def k0_mult101 (v670 : BitVec 32) : BitVec 32 :=
  let c1024_i32_1732 : BitVec 32 := 1024#32
  let v2752 : BitVec 32 := Scalar.addi v670 c1024_i32_1732
  v2752
def k0_cond119 (v670 : BitVec 32) (v671 : BitVec 32) : BitVec 1 :=
  let v672 : BitVec 32 := Scalar.subi v671 v670
  let c1536_i32_374 : BitVec 32 := 1536#32
  let v673 : BitVec 1 := Scalar.cmpi .sge v672 c1536_i32_374
  let v677 : BitVec 32 := Scalar.extui v673
  let c0_i32_377 : BitVec 32 := 0#32
  let v678 : BitVec 1 := Scalar.cmpi .ne v677 c0_i32_377
  v678

def k0_off101 (v670 : BitVec 32) : Fin 2 → Nat :=
  let c1024_i32_1732 : BitVec 32 := 1024#32
  let v2752 : BitVec 32 := Scalar.addi v670 c1024_i32_1732
  let v2753 : BitVec 32 := v2752
  let c0_i32_1737 : BitVec 32 := 0#32
  ![v2753.toNat, 0]
def k0_mult102 (v670 : BitVec 32) : BitVec 32 :=
  let c1024_i32_1732 : BitVec 32 := 1024#32
  let v2752 : BitVec 32 := Scalar.addi v670 c1024_i32_1732
  v2752
def k0_cond120 (v670 : BitVec 32) (v671 : BitVec 32) : BitVec 1 :=
  let v672 : BitVec 32 := Scalar.subi v671 v670
  let c1024_i32_375 : BitVec 32 := 1024#32
  let v674 : BitVec 1 := Scalar.cmpi .sgt v672 c1024_i32_375
  let c1536_i32_374 : BitVec 32 := 1536#32
  let v673 : BitVec 1 := Scalar.cmpi .sge v672 c1536_i32_374
  let true_376 : BitVec 1 := 1#1
  let v675 : BitVec 1 := Scalar.xori v673 true_376
  let v676 : BitVec 1 := Scalar.andi v674 v675
  let c1024_i32_378 : BitVec 32 := 1024#32
  let v679 : BitVec 1 := Scalar.cmpi .sgt v672 c1024_i32_378
  let v680 : BitVec 1 := Scalar.andi v676 v679
  let v681 : BitVec 32 := Scalar.extui v680
  let c0_i32_379 : BitVec 32 := 0#32
  let v682 : BitVec 1 := Scalar.cmpi .ne v681 c0_i32_379
  v682

def k0_off102 (v670 : BitVec 32) : Fin 2 → Nat :=
  let c1024_i32_1732 : BitVec 32 := 1024#32
  let v2752 : BitVec 32 := Scalar.addi v670 c1024_i32_1732
  let v2753 : BitVec 32 := v2752
  let c0_i32_1737 : BitVec 32 := 0#32
  ![v2753.toNat, 0]
def k0_mult103 (v670 : BitVec 32) : BitVec 32 :=
  let c1152_i32_1732 : BitVec 32 := 1152#32
  let v2752 : BitVec 32 := Scalar.addi v670 c1152_i32_1732
  v2752
def k0_cond121 (v670 : BitVec 32) (v671 : BitVec 32) : BitVec 1 :=
  let v672 : BitVec 32 := Scalar.subi v671 v670
  let c1024_i32_375 : BitVec 32 := 1024#32
  let v674 : BitVec 1 := Scalar.cmpi .sgt v672 c1024_i32_375
  let c1536_i32_374 : BitVec 32 := 1536#32
  let v673 : BitVec 1 := Scalar.cmpi .sge v672 c1536_i32_374
  let true_376 : BitVec 1 := 1#1
  let v675 : BitVec 1 := Scalar.xori v673 true_376
  let v676 : BitVec 1 := Scalar.andi v674 v675
  let c1152_i32_380 : BitVec 32 := 1152#32
  let v683 : BitVec 1 := Scalar.cmpi .sgt v672 c1152_i32_380
  let v684 : BitVec 1 := Scalar.andi v676 v683
  let v685 : BitVec 32 := Scalar.extui v684
  let c0_i32_381 : BitVec 32 := 0#32
  let v686 : BitVec 1 := Scalar.cmpi .ne v685 c0_i32_381
  v686

def k0_off103 (v670 : BitVec 32) : Fin 2 → Nat :=
  let c1152_i32_1732 : BitVec 32 := 1152#32
  let v2752 : BitVec 32 := Scalar.addi v670 c1152_i32_1732
  let v2753 : BitVec 32 := v2752
  let c0_i32_1737 : BitVec 32 := 0#32
  ![v2753.toNat, 0]
def k0_mult104 (v670 : BitVec 32) : BitVec 32 :=
  let c1280_i32_1732 : BitVec 32 := 1280#32
  let v2752 : BitVec 32 := Scalar.addi v670 c1280_i32_1732
  v2752
def k0_cond122 (v670 : BitVec 32) (v671 : BitVec 32) : BitVec 1 :=
  let v672 : BitVec 32 := Scalar.subi v671 v670
  let c1024_i32_375 : BitVec 32 := 1024#32
  let v674 : BitVec 1 := Scalar.cmpi .sgt v672 c1024_i32_375
  let c1536_i32_374 : BitVec 32 := 1536#32
  let v673 : BitVec 1 := Scalar.cmpi .sge v672 c1536_i32_374
  let true_376 : BitVec 1 := 1#1
  let v675 : BitVec 1 := Scalar.xori v673 true_376
  let v676 : BitVec 1 := Scalar.andi v674 v675
  let c1280_i32_382 : BitVec 32 := 1280#32
  let v687 : BitVec 1 := Scalar.cmpi .sgt v672 c1280_i32_382
  let v688 : BitVec 1 := Scalar.andi v676 v687
  let v689 : BitVec 32 := Scalar.extui v688
  let c0_i32_383 : BitVec 32 := 0#32
  let v690 : BitVec 1 := Scalar.cmpi .ne v689 c0_i32_383
  v690

def k0_off104 (v670 : BitVec 32) : Fin 2 → Nat :=
  let c1280_i32_1732 : BitVec 32 := 1280#32
  let v2752 : BitVec 32 := Scalar.addi v670 c1280_i32_1732
  let v2753 : BitVec 32 := v2752
  let c0_i32_1737 : BitVec 32 := 0#32
  ![v2753.toNat, 0]
def k0_mult105 (v670 : BitVec 32) : BitVec 32 :=
  let c1408_i32_1732 : BitVec 32 := 1408#32
  let v2752 : BitVec 32 := Scalar.addi v670 c1408_i32_1732
  v2752
def k0_cond123 (v670 : BitVec 32) (v671 : BitVec 32) : BitVec 1 :=
  let v672 : BitVec 32 := Scalar.subi v671 v670
  let c1024_i32_375 : BitVec 32 := 1024#32
  let v674 : BitVec 1 := Scalar.cmpi .sgt v672 c1024_i32_375
  let c1536_i32_374 : BitVec 32 := 1536#32
  let v673 : BitVec 1 := Scalar.cmpi .sge v672 c1536_i32_374
  let true_376 : BitVec 1 := 1#1
  let v675 : BitVec 1 := Scalar.xori v673 true_376
  let v676 : BitVec 1 := Scalar.andi v674 v675
  let c1408_i32_384 : BitVec 32 := 1408#32
  let v691 : BitVec 1 := Scalar.cmpi .sgt v672 c1408_i32_384
  let v692 : BitVec 1 := Scalar.andi v676 v691
  let v693 : BitVec 32 := Scalar.extui v692
  let c0_i32_385 : BitVec 32 := 0#32
  let v694 : BitVec 1 := Scalar.cmpi .ne v693 c0_i32_385
  v694

def k0_off105 (v670 : BitVec 32) : Fin 2 → Nat :=
  let c1408_i32_1732 : BitVec 32 := 1408#32
  let v2752 : BitVec 32 := Scalar.addi v670 c1408_i32_1732
  let v2753 : BitVec 32 := v2752
  let c0_i32_1737 : BitVec 32 := 0#32
  ![v2753.toNat, 0]

def k0_chk21 (v670 : BitVec 32) (v671 : BitVec 32) : Prop :=
  (∀ (k0_h119 : k0_cond119 v670 v671 = 1#1), 128 ∣ (k0_mult101 v670).toNat) ∧
  (∀ (k0_h119 : k0_cond119 v670 v671 = 1#1), ∀ a, (k0_off101 v670) a + S512x1024.size a ≤ S8192x1024.size a) ∧
  (∀ (k0_h120 : k0_cond120 v670 v671 = 1#1), 128 ∣ (k0_mult102 v670).toNat) ∧
  (∀ (k0_h120 : k0_cond120 v670 v671 = 1#1), ∀ a, (k0_off102 v670) a + S128x1024.size a ≤ S8192x1024.size a) ∧
  (∀ (k0_h121 : k0_cond121 v670 v671 = 1#1), 128 ∣ (k0_mult103 v670).toNat) ∧
  (∀ (k0_h121 : k0_cond121 v670 v671 = 1#1), ∀ a, (k0_off103 v670) a + S128x1024.size a ≤ S8192x1024.size a) ∧
  (∀ (k0_h122 : k0_cond122 v670 v671 = 1#1), 128 ∣ (k0_mult104 v670).toNat) ∧
  (∀ (k0_h122 : k0_cond122 v670 v671 = 1#1), ∀ a, (k0_off104 v670) a + S128x1024.size a ≤ S8192x1024.size a) ∧
  (∀ (k0_h123 : k0_cond123 v670 v671 = 1#1), 128 ∣ (k0_mult105 v670).toNat) ∧
  (∀ (k0_h123 : k0_cond123 v670 v671 = 1#1), ∀ a, (k0_off105 v670) a + S128x1024.size a ≤ S8192x1024.size a)
theorem k0_mult101_dvd : ∀ (v670 : BitVec 32) (v671 : BitVec 32) (k0_hw21 : k0_chk21 v670 v671), ∀ (k0_h119 : k0_cond119 v670 v671 = 1#1), 128 ∣ (k0_mult101 v670).toNat := fun v670 v671 k0_hw21 k0_h119 => k0_hw21.1 k0_h119
theorem k0_off101_inb : ∀ (v670 : BitVec 32) (v671 : BitVec 32) (k0_hw21 : k0_chk21 v670 v671), ∀ (k0_h119 : k0_cond119 v670 v671 = 1#1), ∀ a, (k0_off101 v670) a + S512x1024.size a ≤ S8192x1024.size a := fun v670 v671 k0_hw21 k0_h119 => k0_hw21.2.1 k0_h119
theorem k0_mult102_dvd : ∀ (v670 : BitVec 32) (v671 : BitVec 32) (k0_hw21 : k0_chk21 v670 v671), ∀ (k0_h120 : k0_cond120 v670 v671 = 1#1), 128 ∣ (k0_mult102 v670).toNat := fun v670 v671 k0_hw21 k0_h120 => k0_hw21.2.2.1 k0_h120
theorem k0_off102_inb : ∀ (v670 : BitVec 32) (v671 : BitVec 32) (k0_hw21 : k0_chk21 v670 v671), ∀ (k0_h120 : k0_cond120 v670 v671 = 1#1), ∀ a, (k0_off102 v670) a + S128x1024.size a ≤ S8192x1024.size a := fun v670 v671 k0_hw21 k0_h120 => k0_hw21.2.2.2.1 k0_h120
theorem k0_mult103_dvd : ∀ (v670 : BitVec 32) (v671 : BitVec 32) (k0_hw21 : k0_chk21 v670 v671), ∀ (k0_h121 : k0_cond121 v670 v671 = 1#1), 128 ∣ (k0_mult103 v670).toNat := fun v670 v671 k0_hw21 k0_h121 => k0_hw21.2.2.2.2.1 k0_h121
theorem k0_off103_inb : ∀ (v670 : BitVec 32) (v671 : BitVec 32) (k0_hw21 : k0_chk21 v670 v671), ∀ (k0_h121 : k0_cond121 v670 v671 = 1#1), ∀ a, (k0_off103 v670) a + S128x1024.size a ≤ S8192x1024.size a := fun v670 v671 k0_hw21 k0_h121 => k0_hw21.2.2.2.2.2.1 k0_h121
theorem k0_mult104_dvd : ∀ (v670 : BitVec 32) (v671 : BitVec 32) (k0_hw21 : k0_chk21 v670 v671), ∀ (k0_h122 : k0_cond122 v670 v671 = 1#1), 128 ∣ (k0_mult104 v670).toNat := fun v670 v671 k0_hw21 k0_h122 => k0_hw21.2.2.2.2.2.2.1 k0_h122
theorem k0_off104_inb : ∀ (v670 : BitVec 32) (v671 : BitVec 32) (k0_hw21 : k0_chk21 v670 v671), ∀ (k0_h122 : k0_cond122 v670 v671 = 1#1), ∀ a, (k0_off104 v670) a + S128x1024.size a ≤ S8192x1024.size a := fun v670 v671 k0_hw21 k0_h122 => k0_hw21.2.2.2.2.2.2.2.1 k0_h122
theorem k0_mult105_dvd : ∀ (v670 : BitVec 32) (v671 : BitVec 32) (k0_hw21 : k0_chk21 v670 v671), ∀ (k0_h123 : k0_cond123 v670 v671 = 1#1), 128 ∣ (k0_mult105 v670).toNat := fun v670 v671 k0_hw21 k0_h123 => k0_hw21.2.2.2.2.2.2.2.2.1 k0_h123
theorem k0_off105_inb : ∀ (v670 : BitVec 32) (v671 : BitVec 32) (k0_hw21 : k0_chk21 v670 v671), ∀ (k0_h123 : k0_cond123 v670 v671 = 1#1), ∀ a, (k0_off105 v670) a + S128x1024.size a ≤ S8192x1024.size a := fun v670 v671 k0_hw21 k0_h123 => k0_hw21.2.2.2.2.2.2.2.2.2 k0_h123

def k0_mult106 (v710 : BitVec 32) : BitVec 32 :=
  let c1024_i32_1732 : BitVec 32 := 1024#32
  let v2752 : BitVec 32 := Scalar.addi v710 c1024_i32_1732
  v2752
def k0_cond124 (v710 : BitVec 32) (v711 : BitVec 32) : BitVec 1 :=
  let v712 : BitVec 32 := Scalar.subi v711 v710
  let c1536_i32_396 : BitVec 32 := 1536#32
  let v713 : BitVec 1 := Scalar.cmpi .sge v712 c1536_i32_396
  let v717 : BitVec 32 := Scalar.extui v713
  let c0_i32_399 : BitVec 32 := 0#32
  let v718 : BitVec 1 := Scalar.cmpi .ne v717 c0_i32_399
  v718

def k0_off106 (v710 : BitVec 32) : Fin 2 → Nat :=
  let c1024_i32_1732 : BitVec 32 := 1024#32
  let v2752 : BitVec 32 := Scalar.addi v710 c1024_i32_1732
  let v2753 : BitVec 32 := v2752
  let c0_i32_1737 : BitVec 32 := 0#32
  ![v2753.toNat, 0]
def k0_mult107 (v710 : BitVec 32) : BitVec 32 :=
  let c1024_i32_1732 : BitVec 32 := 1024#32
  let v2752 : BitVec 32 := Scalar.addi v710 c1024_i32_1732
  v2752
def k0_cond125 (v710 : BitVec 32) (v711 : BitVec 32) : BitVec 1 :=
  let v712 : BitVec 32 := Scalar.subi v711 v710
  let c1024_i32_397 : BitVec 32 := 1024#32
  let v714 : BitVec 1 := Scalar.cmpi .sgt v712 c1024_i32_397
  let c1536_i32_396 : BitVec 32 := 1536#32
  let v713 : BitVec 1 := Scalar.cmpi .sge v712 c1536_i32_396
  let true_398 : BitVec 1 := 1#1
  let v715 : BitVec 1 := Scalar.xori v713 true_398
  let v716 : BitVec 1 := Scalar.andi v714 v715
  let c1024_i32_400 : BitVec 32 := 1024#32
  let v719 : BitVec 1 := Scalar.cmpi .sgt v712 c1024_i32_400
  let v720 : BitVec 1 := Scalar.andi v716 v719
  let v721 : BitVec 32 := Scalar.extui v720
  let c0_i32_401 : BitVec 32 := 0#32
  let v722 : BitVec 1 := Scalar.cmpi .ne v721 c0_i32_401
  v722

def k0_off107 (v710 : BitVec 32) : Fin 2 → Nat :=
  let c1024_i32_1732 : BitVec 32 := 1024#32
  let v2752 : BitVec 32 := Scalar.addi v710 c1024_i32_1732
  let v2753 : BitVec 32 := v2752
  let c0_i32_1737 : BitVec 32 := 0#32
  ![v2753.toNat, 0]
def k0_mult108 (v710 : BitVec 32) : BitVec 32 :=
  let c1152_i32_1732 : BitVec 32 := 1152#32
  let v2752 : BitVec 32 := Scalar.addi v710 c1152_i32_1732
  v2752
def k0_cond126 (v710 : BitVec 32) (v711 : BitVec 32) : BitVec 1 :=
  let v712 : BitVec 32 := Scalar.subi v711 v710
  let c1024_i32_397 : BitVec 32 := 1024#32
  let v714 : BitVec 1 := Scalar.cmpi .sgt v712 c1024_i32_397
  let c1536_i32_396 : BitVec 32 := 1536#32
  let v713 : BitVec 1 := Scalar.cmpi .sge v712 c1536_i32_396
  let true_398 : BitVec 1 := 1#1
  let v715 : BitVec 1 := Scalar.xori v713 true_398
  let v716 : BitVec 1 := Scalar.andi v714 v715
  let c1152_i32_402 : BitVec 32 := 1152#32
  let v723 : BitVec 1 := Scalar.cmpi .sgt v712 c1152_i32_402
  let v724 : BitVec 1 := Scalar.andi v716 v723
  let v725 : BitVec 32 := Scalar.extui v724
  let c0_i32_403 : BitVec 32 := 0#32
  let v726 : BitVec 1 := Scalar.cmpi .ne v725 c0_i32_403
  v726

def k0_off108 (v710 : BitVec 32) : Fin 2 → Nat :=
  let c1152_i32_1732 : BitVec 32 := 1152#32
  let v2752 : BitVec 32 := Scalar.addi v710 c1152_i32_1732
  let v2753 : BitVec 32 := v2752
  let c0_i32_1737 : BitVec 32 := 0#32
  ![v2753.toNat, 0]
def k0_mult109 (v710 : BitVec 32) : BitVec 32 :=
  let c1280_i32_1732 : BitVec 32 := 1280#32
  let v2752 : BitVec 32 := Scalar.addi v710 c1280_i32_1732
  v2752
def k0_cond127 (v710 : BitVec 32) (v711 : BitVec 32) : BitVec 1 :=
  let v712 : BitVec 32 := Scalar.subi v711 v710
  let c1024_i32_397 : BitVec 32 := 1024#32
  let v714 : BitVec 1 := Scalar.cmpi .sgt v712 c1024_i32_397
  let c1536_i32_396 : BitVec 32 := 1536#32
  let v713 : BitVec 1 := Scalar.cmpi .sge v712 c1536_i32_396
  let true_398 : BitVec 1 := 1#1
  let v715 : BitVec 1 := Scalar.xori v713 true_398
  let v716 : BitVec 1 := Scalar.andi v714 v715
  let c1280_i32_404 : BitVec 32 := 1280#32
  let v727 : BitVec 1 := Scalar.cmpi .sgt v712 c1280_i32_404
  let v728 : BitVec 1 := Scalar.andi v716 v727
  let v729 : BitVec 32 := Scalar.extui v728
  let c0_i32_405 : BitVec 32 := 0#32
  let v730 : BitVec 1 := Scalar.cmpi .ne v729 c0_i32_405
  v730

def k0_off109 (v710 : BitVec 32) : Fin 2 → Nat :=
  let c1280_i32_1732 : BitVec 32 := 1280#32
  let v2752 : BitVec 32 := Scalar.addi v710 c1280_i32_1732
  let v2753 : BitVec 32 := v2752
  let c0_i32_1737 : BitVec 32 := 0#32
  ![v2753.toNat, 0]
def k0_mult110 (v710 : BitVec 32) : BitVec 32 :=
  let c1408_i32_1732 : BitVec 32 := 1408#32
  let v2752 : BitVec 32 := Scalar.addi v710 c1408_i32_1732
  v2752
def k0_cond128 (v710 : BitVec 32) (v711 : BitVec 32) : BitVec 1 :=
  let v712 : BitVec 32 := Scalar.subi v711 v710
  let c1024_i32_397 : BitVec 32 := 1024#32
  let v714 : BitVec 1 := Scalar.cmpi .sgt v712 c1024_i32_397
  let c1536_i32_396 : BitVec 32 := 1536#32
  let v713 : BitVec 1 := Scalar.cmpi .sge v712 c1536_i32_396
  let true_398 : BitVec 1 := 1#1
  let v715 : BitVec 1 := Scalar.xori v713 true_398
  let v716 : BitVec 1 := Scalar.andi v714 v715
  let c1408_i32_406 : BitVec 32 := 1408#32
  let v731 : BitVec 1 := Scalar.cmpi .sgt v712 c1408_i32_406
  let v732 : BitVec 1 := Scalar.andi v716 v731
  let v733 : BitVec 32 := Scalar.extui v732
  let c0_i32_407 : BitVec 32 := 0#32
  let v734 : BitVec 1 := Scalar.cmpi .ne v733 c0_i32_407
  v734

def k0_off110 (v710 : BitVec 32) : Fin 2 → Nat :=
  let c1408_i32_1732 : BitVec 32 := 1408#32
  let v2752 : BitVec 32 := Scalar.addi v710 c1408_i32_1732
  let v2753 : BitVec 32 := v2752
  let c0_i32_1737 : BitVec 32 := 0#32
  ![v2753.toNat, 0]

def k0_chk22 (v710 : BitVec 32) (v711 : BitVec 32) : Prop :=
  (∀ (k0_h124 : k0_cond124 v710 v711 = 1#1), 128 ∣ (k0_mult106 v710).toNat) ∧
  (∀ (k0_h124 : k0_cond124 v710 v711 = 1#1), ∀ a, (k0_off106 v710) a + S512x1024.size a ≤ S8192x1024.size a) ∧
  (∀ (k0_h125 : k0_cond125 v710 v711 = 1#1), 128 ∣ (k0_mult107 v710).toNat) ∧
  (∀ (k0_h125 : k0_cond125 v710 v711 = 1#1), ∀ a, (k0_off107 v710) a + S128x1024.size a ≤ S8192x1024.size a) ∧
  (∀ (k0_h126 : k0_cond126 v710 v711 = 1#1), 128 ∣ (k0_mult108 v710).toNat) ∧
  (∀ (k0_h126 : k0_cond126 v710 v711 = 1#1), ∀ a, (k0_off108 v710) a + S128x1024.size a ≤ S8192x1024.size a) ∧
  (∀ (k0_h127 : k0_cond127 v710 v711 = 1#1), 128 ∣ (k0_mult109 v710).toNat) ∧
  (∀ (k0_h127 : k0_cond127 v710 v711 = 1#1), ∀ a, (k0_off109 v710) a + S128x1024.size a ≤ S8192x1024.size a) ∧
  (∀ (k0_h128 : k0_cond128 v710 v711 = 1#1), 128 ∣ (k0_mult110 v710).toNat) ∧
  (∀ (k0_h128 : k0_cond128 v710 v711 = 1#1), ∀ a, (k0_off110 v710) a + S128x1024.size a ≤ S8192x1024.size a)
theorem k0_mult106_dvd : ∀ (v710 : BitVec 32) (v711 : BitVec 32) (k0_hw22 : k0_chk22 v710 v711), ∀ (k0_h124 : k0_cond124 v710 v711 = 1#1), 128 ∣ (k0_mult106 v710).toNat := fun v710 v711 k0_hw22 k0_h124 => k0_hw22.1 k0_h124
theorem k0_off106_inb : ∀ (v710 : BitVec 32) (v711 : BitVec 32) (k0_hw22 : k0_chk22 v710 v711), ∀ (k0_h124 : k0_cond124 v710 v711 = 1#1), ∀ a, (k0_off106 v710) a + S512x1024.size a ≤ S8192x1024.size a := fun v710 v711 k0_hw22 k0_h124 => k0_hw22.2.1 k0_h124
theorem k0_mult107_dvd : ∀ (v710 : BitVec 32) (v711 : BitVec 32) (k0_hw22 : k0_chk22 v710 v711), ∀ (k0_h125 : k0_cond125 v710 v711 = 1#1), 128 ∣ (k0_mult107 v710).toNat := fun v710 v711 k0_hw22 k0_h125 => k0_hw22.2.2.1 k0_h125
theorem k0_off107_inb : ∀ (v710 : BitVec 32) (v711 : BitVec 32) (k0_hw22 : k0_chk22 v710 v711), ∀ (k0_h125 : k0_cond125 v710 v711 = 1#1), ∀ a, (k0_off107 v710) a + S128x1024.size a ≤ S8192x1024.size a := fun v710 v711 k0_hw22 k0_h125 => k0_hw22.2.2.2.1 k0_h125
theorem k0_mult108_dvd : ∀ (v710 : BitVec 32) (v711 : BitVec 32) (k0_hw22 : k0_chk22 v710 v711), ∀ (k0_h126 : k0_cond126 v710 v711 = 1#1), 128 ∣ (k0_mult108 v710).toNat := fun v710 v711 k0_hw22 k0_h126 => k0_hw22.2.2.2.2.1 k0_h126
theorem k0_off108_inb : ∀ (v710 : BitVec 32) (v711 : BitVec 32) (k0_hw22 : k0_chk22 v710 v711), ∀ (k0_h126 : k0_cond126 v710 v711 = 1#1), ∀ a, (k0_off108 v710) a + S128x1024.size a ≤ S8192x1024.size a := fun v710 v711 k0_hw22 k0_h126 => k0_hw22.2.2.2.2.2.1 k0_h126
theorem k0_mult109_dvd : ∀ (v710 : BitVec 32) (v711 : BitVec 32) (k0_hw22 : k0_chk22 v710 v711), ∀ (k0_h127 : k0_cond127 v710 v711 = 1#1), 128 ∣ (k0_mult109 v710).toNat := fun v710 v711 k0_hw22 k0_h127 => k0_hw22.2.2.2.2.2.2.1 k0_h127
theorem k0_off109_inb : ∀ (v710 : BitVec 32) (v711 : BitVec 32) (k0_hw22 : k0_chk22 v710 v711), ∀ (k0_h127 : k0_cond127 v710 v711 = 1#1), ∀ a, (k0_off109 v710) a + S128x1024.size a ≤ S8192x1024.size a := fun v710 v711 k0_hw22 k0_h127 => k0_hw22.2.2.2.2.2.2.2.1 k0_h127
theorem k0_mult110_dvd : ∀ (v710 : BitVec 32) (v711 : BitVec 32) (k0_hw22 : k0_chk22 v710 v711), ∀ (k0_h128 : k0_cond128 v710 v711 = 1#1), 128 ∣ (k0_mult110 v710).toNat := fun v710 v711 k0_hw22 k0_h128 => k0_hw22.2.2.2.2.2.2.2.2.1 k0_h128
theorem k0_off110_inb : ∀ (v710 : BitVec 32) (v711 : BitVec 32) (k0_hw22 : k0_chk22 v710 v711), ∀ (k0_h128 : k0_cond128 v710 v711 = 1#1), ∀ a, (k0_off110 v710) a + S128x1024.size a ≤ S8192x1024.size a := fun v710 v711 k0_hw22 k0_h128 => k0_hw22.2.2.2.2.2.2.2.2.2 k0_h128

def k0_mult111 (v750 : BitVec 32) : BitVec 32 :=
  let c1536_i32_1732 : BitVec 32 := 1536#32
  let v2752 : BitVec 32 := Scalar.addi v750 c1536_i32_1732
  v2752
def k0_cond132 (v750 : BitVec 32) (v751 : BitVec 32) : BitVec 1 :=
  let v752 : BitVec 32 := Scalar.subi v751 v750
  let c2048_i32_421 : BitVec 32 := 2048#32
  let v753 : BitVec 1 := Scalar.cmpi .sge v752 c2048_i32_421
  let v757 : BitVec 32 := Scalar.extui v753
  let c0_i32_424 : BitVec 32 := 0#32
  let v758 : BitVec 1 := Scalar.cmpi .ne v757 c0_i32_424
  v758

def k0_off111 (v750 : BitVec 32) : Fin 2 → Nat :=
  let c1536_i32_1732 : BitVec 32 := 1536#32
  let v2752 : BitVec 32 := Scalar.addi v750 c1536_i32_1732
  let v2753 : BitVec 32 := v2752
  let c0_i32_1737 : BitVec 32 := 0#32
  ![v2753.toNat, 0]
def k0_mult112 (v750 : BitVec 32) : BitVec 32 :=
  let c1536_i32_1732 : BitVec 32 := 1536#32
  let v2752 : BitVec 32 := Scalar.addi v750 c1536_i32_1732
  v2752
def k0_cond133 (v750 : BitVec 32) (v751 : BitVec 32) : BitVec 1 :=
  let v752 : BitVec 32 := Scalar.subi v751 v750
  let c1536_i32_422 : BitVec 32 := 1536#32
  let v754 : BitVec 1 := Scalar.cmpi .sgt v752 c1536_i32_422
  let c2048_i32_421 : BitVec 32 := 2048#32
  let v753 : BitVec 1 := Scalar.cmpi .sge v752 c2048_i32_421
  let true_423 : BitVec 1 := 1#1
  let v755 : BitVec 1 := Scalar.xori v753 true_423
  let v756 : BitVec 1 := Scalar.andi v754 v755
  let c1536_i32_425 : BitVec 32 := 1536#32
  let v759 : BitVec 1 := Scalar.cmpi .sgt v752 c1536_i32_425
  let v760 : BitVec 1 := Scalar.andi v756 v759
  let v761 : BitVec 32 := Scalar.extui v760
  let c0_i32_426 : BitVec 32 := 0#32
  let v762 : BitVec 1 := Scalar.cmpi .ne v761 c0_i32_426
  v762

def k0_off112 (v750 : BitVec 32) : Fin 2 → Nat :=
  let c1536_i32_1732 : BitVec 32 := 1536#32
  let v2752 : BitVec 32 := Scalar.addi v750 c1536_i32_1732
  let v2753 : BitVec 32 := v2752
  let c0_i32_1737 : BitVec 32 := 0#32
  ![v2753.toNat, 0]
def k0_mult113 (v750 : BitVec 32) : BitVec 32 :=
  let c1664_i32_1732 : BitVec 32 := 1664#32
  let v2752 : BitVec 32 := Scalar.addi v750 c1664_i32_1732
  v2752
def k0_cond134 (v750 : BitVec 32) (v751 : BitVec 32) : BitVec 1 :=
  let v752 : BitVec 32 := Scalar.subi v751 v750
  let c1536_i32_422 : BitVec 32 := 1536#32
  let v754 : BitVec 1 := Scalar.cmpi .sgt v752 c1536_i32_422
  let c2048_i32_421 : BitVec 32 := 2048#32
  let v753 : BitVec 1 := Scalar.cmpi .sge v752 c2048_i32_421
  let true_423 : BitVec 1 := 1#1
  let v755 : BitVec 1 := Scalar.xori v753 true_423
  let v756 : BitVec 1 := Scalar.andi v754 v755
  let c1664_i32_427 : BitVec 32 := 1664#32
  let v763 : BitVec 1 := Scalar.cmpi .sgt v752 c1664_i32_427
  let v764 : BitVec 1 := Scalar.andi v756 v763
  let v765 : BitVec 32 := Scalar.extui v764
  let c0_i32_428 : BitVec 32 := 0#32
  let v766 : BitVec 1 := Scalar.cmpi .ne v765 c0_i32_428
  v766

def k0_off113 (v750 : BitVec 32) : Fin 2 → Nat :=
  let c1664_i32_1732 : BitVec 32 := 1664#32
  let v2752 : BitVec 32 := Scalar.addi v750 c1664_i32_1732
  let v2753 : BitVec 32 := v2752
  let c0_i32_1737 : BitVec 32 := 0#32
  ![v2753.toNat, 0]
def k0_mult114 (v750 : BitVec 32) : BitVec 32 :=
  let c1792_i32_1732 : BitVec 32 := 1792#32
  let v2752 : BitVec 32 := Scalar.addi v750 c1792_i32_1732
  v2752
def k0_cond135 (v750 : BitVec 32) (v751 : BitVec 32) : BitVec 1 :=
  let v752 : BitVec 32 := Scalar.subi v751 v750
  let c1536_i32_422 : BitVec 32 := 1536#32
  let v754 : BitVec 1 := Scalar.cmpi .sgt v752 c1536_i32_422
  let c2048_i32_421 : BitVec 32 := 2048#32
  let v753 : BitVec 1 := Scalar.cmpi .sge v752 c2048_i32_421
  let true_423 : BitVec 1 := 1#1
  let v755 : BitVec 1 := Scalar.xori v753 true_423
  let v756 : BitVec 1 := Scalar.andi v754 v755
  let c1792_i32_429 : BitVec 32 := 1792#32
  let v767 : BitVec 1 := Scalar.cmpi .sgt v752 c1792_i32_429
  let v768 : BitVec 1 := Scalar.andi v756 v767
  let v769 : BitVec 32 := Scalar.extui v768
  let c0_i32_430 : BitVec 32 := 0#32
  let v770 : BitVec 1 := Scalar.cmpi .ne v769 c0_i32_430
  v770

def k0_off114 (v750 : BitVec 32) : Fin 2 → Nat :=
  let c1792_i32_1732 : BitVec 32 := 1792#32
  let v2752 : BitVec 32 := Scalar.addi v750 c1792_i32_1732
  let v2753 : BitVec 32 := v2752
  let c0_i32_1737 : BitVec 32 := 0#32
  ![v2753.toNat, 0]
def k0_mult115 (v750 : BitVec 32) : BitVec 32 :=
  let c1920_i32_1732 : BitVec 32 := 1920#32
  let v2752 : BitVec 32 := Scalar.addi v750 c1920_i32_1732
  v2752
def k0_cond136 (v750 : BitVec 32) (v751 : BitVec 32) : BitVec 1 :=
  let v752 : BitVec 32 := Scalar.subi v751 v750
  let c1536_i32_422 : BitVec 32 := 1536#32
  let v754 : BitVec 1 := Scalar.cmpi .sgt v752 c1536_i32_422
  let c2048_i32_421 : BitVec 32 := 2048#32
  let v753 : BitVec 1 := Scalar.cmpi .sge v752 c2048_i32_421
  let true_423 : BitVec 1 := 1#1
  let v755 : BitVec 1 := Scalar.xori v753 true_423
  let v756 : BitVec 1 := Scalar.andi v754 v755
  let c1920_i32_431 : BitVec 32 := 1920#32
  let v771 : BitVec 1 := Scalar.cmpi .sgt v752 c1920_i32_431
  let v772 : BitVec 1 := Scalar.andi v756 v771
  let v773 : BitVec 32 := Scalar.extui v772
  let c0_i32_432 : BitVec 32 := 0#32
  let v774 : BitVec 1 := Scalar.cmpi .ne v773 c0_i32_432
  v774

def k0_off115 (v750 : BitVec 32) : Fin 2 → Nat :=
  let c1920_i32_1732 : BitVec 32 := 1920#32
  let v2752 : BitVec 32 := Scalar.addi v750 c1920_i32_1732
  let v2753 : BitVec 32 := v2752
  let c0_i32_1737 : BitVec 32 := 0#32
  ![v2753.toNat, 0]

def k0_chk23 (v750 : BitVec 32) (v751 : BitVec 32) : Prop :=
  (∀ (k0_h132 : k0_cond132 v750 v751 = 1#1), 128 ∣ (k0_mult111 v750).toNat) ∧
  (∀ (k0_h132 : k0_cond132 v750 v751 = 1#1), ∀ a, (k0_off111 v750) a + S512x1024.size a ≤ S8192x1024.size a) ∧
  (∀ (k0_h133 : k0_cond133 v750 v751 = 1#1), 128 ∣ (k0_mult112 v750).toNat) ∧
  (∀ (k0_h133 : k0_cond133 v750 v751 = 1#1), ∀ a, (k0_off112 v750) a + S128x1024.size a ≤ S8192x1024.size a) ∧
  (∀ (k0_h134 : k0_cond134 v750 v751 = 1#1), 128 ∣ (k0_mult113 v750).toNat) ∧
  (∀ (k0_h134 : k0_cond134 v750 v751 = 1#1), ∀ a, (k0_off113 v750) a + S128x1024.size a ≤ S8192x1024.size a) ∧
  (∀ (k0_h135 : k0_cond135 v750 v751 = 1#1), 128 ∣ (k0_mult114 v750).toNat) ∧
  (∀ (k0_h135 : k0_cond135 v750 v751 = 1#1), ∀ a, (k0_off114 v750) a + S128x1024.size a ≤ S8192x1024.size a) ∧
  (∀ (k0_h136 : k0_cond136 v750 v751 = 1#1), 128 ∣ (k0_mult115 v750).toNat) ∧
  (∀ (k0_h136 : k0_cond136 v750 v751 = 1#1), ∀ a, (k0_off115 v750) a + S128x1024.size a ≤ S8192x1024.size a)
theorem k0_mult111_dvd : ∀ (v750 : BitVec 32) (v751 : BitVec 32) (k0_hw23 : k0_chk23 v750 v751), ∀ (k0_h132 : k0_cond132 v750 v751 = 1#1), 128 ∣ (k0_mult111 v750).toNat := fun v750 v751 k0_hw23 k0_h132 => k0_hw23.1 k0_h132
theorem k0_off111_inb : ∀ (v750 : BitVec 32) (v751 : BitVec 32) (k0_hw23 : k0_chk23 v750 v751), ∀ (k0_h132 : k0_cond132 v750 v751 = 1#1), ∀ a, (k0_off111 v750) a + S512x1024.size a ≤ S8192x1024.size a := fun v750 v751 k0_hw23 k0_h132 => k0_hw23.2.1 k0_h132
theorem k0_mult112_dvd : ∀ (v750 : BitVec 32) (v751 : BitVec 32) (k0_hw23 : k0_chk23 v750 v751), ∀ (k0_h133 : k0_cond133 v750 v751 = 1#1), 128 ∣ (k0_mult112 v750).toNat := fun v750 v751 k0_hw23 k0_h133 => k0_hw23.2.2.1 k0_h133
theorem k0_off112_inb : ∀ (v750 : BitVec 32) (v751 : BitVec 32) (k0_hw23 : k0_chk23 v750 v751), ∀ (k0_h133 : k0_cond133 v750 v751 = 1#1), ∀ a, (k0_off112 v750) a + S128x1024.size a ≤ S8192x1024.size a := fun v750 v751 k0_hw23 k0_h133 => k0_hw23.2.2.2.1 k0_h133
theorem k0_mult113_dvd : ∀ (v750 : BitVec 32) (v751 : BitVec 32) (k0_hw23 : k0_chk23 v750 v751), ∀ (k0_h134 : k0_cond134 v750 v751 = 1#1), 128 ∣ (k0_mult113 v750).toNat := fun v750 v751 k0_hw23 k0_h134 => k0_hw23.2.2.2.2.1 k0_h134
theorem k0_off113_inb : ∀ (v750 : BitVec 32) (v751 : BitVec 32) (k0_hw23 : k0_chk23 v750 v751), ∀ (k0_h134 : k0_cond134 v750 v751 = 1#1), ∀ a, (k0_off113 v750) a + S128x1024.size a ≤ S8192x1024.size a := fun v750 v751 k0_hw23 k0_h134 => k0_hw23.2.2.2.2.2.1 k0_h134
theorem k0_mult114_dvd : ∀ (v750 : BitVec 32) (v751 : BitVec 32) (k0_hw23 : k0_chk23 v750 v751), ∀ (k0_h135 : k0_cond135 v750 v751 = 1#1), 128 ∣ (k0_mult114 v750).toNat := fun v750 v751 k0_hw23 k0_h135 => k0_hw23.2.2.2.2.2.2.1 k0_h135
theorem k0_off114_inb : ∀ (v750 : BitVec 32) (v751 : BitVec 32) (k0_hw23 : k0_chk23 v750 v751), ∀ (k0_h135 : k0_cond135 v750 v751 = 1#1), ∀ a, (k0_off114 v750) a + S128x1024.size a ≤ S8192x1024.size a := fun v750 v751 k0_hw23 k0_h135 => k0_hw23.2.2.2.2.2.2.2.1 k0_h135
theorem k0_mult115_dvd : ∀ (v750 : BitVec 32) (v751 : BitVec 32) (k0_hw23 : k0_chk23 v750 v751), ∀ (k0_h136 : k0_cond136 v750 v751 = 1#1), 128 ∣ (k0_mult115 v750).toNat := fun v750 v751 k0_hw23 k0_h136 => k0_hw23.2.2.2.2.2.2.2.2.1 k0_h136
theorem k0_off115_inb : ∀ (v750 : BitVec 32) (v751 : BitVec 32) (k0_hw23 : k0_chk23 v750 v751), ∀ (k0_h136 : k0_cond136 v750 v751 = 1#1), ∀ a, (k0_off115 v750) a + S128x1024.size a ≤ S8192x1024.size a := fun v750 v751 k0_hw23 k0_h136 => k0_hw23.2.2.2.2.2.2.2.2.2 k0_h136

def k0_mult116 (v790 : BitVec 32) : BitVec 32 :=
  let c1536_i32_1732 : BitVec 32 := 1536#32
  let v2752 : BitVec 32 := Scalar.addi v790 c1536_i32_1732
  v2752
def k0_cond137 (v790 : BitVec 32) (v791 : BitVec 32) : BitVec 1 :=
  let v792 : BitVec 32 := Scalar.subi v791 v790
  let c2048_i32_443 : BitVec 32 := 2048#32
  let v793 : BitVec 1 := Scalar.cmpi .sge v792 c2048_i32_443
  let v797 : BitVec 32 := Scalar.extui v793
  let c0_i32_446 : BitVec 32 := 0#32
  let v798 : BitVec 1 := Scalar.cmpi .ne v797 c0_i32_446
  v798

def k0_off116 (v790 : BitVec 32) : Fin 2 → Nat :=
  let c1536_i32_1732 : BitVec 32 := 1536#32
  let v2752 : BitVec 32 := Scalar.addi v790 c1536_i32_1732
  let v2753 : BitVec 32 := v2752
  let c0_i32_1737 : BitVec 32 := 0#32
  ![v2753.toNat, 0]
def k0_mult117 (v790 : BitVec 32) : BitVec 32 :=
  let c1536_i32_1732 : BitVec 32 := 1536#32
  let v2752 : BitVec 32 := Scalar.addi v790 c1536_i32_1732
  v2752
def k0_cond138 (v790 : BitVec 32) (v791 : BitVec 32) : BitVec 1 :=
  let v792 : BitVec 32 := Scalar.subi v791 v790
  let c1536_i32_444 : BitVec 32 := 1536#32
  let v794 : BitVec 1 := Scalar.cmpi .sgt v792 c1536_i32_444
  let c2048_i32_443 : BitVec 32 := 2048#32
  let v793 : BitVec 1 := Scalar.cmpi .sge v792 c2048_i32_443
  let true_445 : BitVec 1 := 1#1
  let v795 : BitVec 1 := Scalar.xori v793 true_445
  let v796 : BitVec 1 := Scalar.andi v794 v795
  let c1536_i32_447 : BitVec 32 := 1536#32
  let v799 : BitVec 1 := Scalar.cmpi .sgt v792 c1536_i32_447
  let v800 : BitVec 1 := Scalar.andi v796 v799
  let v801 : BitVec 32 := Scalar.extui v800
  let c0_i32_448 : BitVec 32 := 0#32
  let v802 : BitVec 1 := Scalar.cmpi .ne v801 c0_i32_448
  v802

def k0_off117 (v790 : BitVec 32) : Fin 2 → Nat :=
  let c1536_i32_1732 : BitVec 32 := 1536#32
  let v2752 : BitVec 32 := Scalar.addi v790 c1536_i32_1732
  let v2753 : BitVec 32 := v2752
  let c0_i32_1737 : BitVec 32 := 0#32
  ![v2753.toNat, 0]
def k0_mult118 (v790 : BitVec 32) : BitVec 32 :=
  let c1664_i32_1732 : BitVec 32 := 1664#32
  let v2752 : BitVec 32 := Scalar.addi v790 c1664_i32_1732
  v2752
def k0_cond139 (v790 : BitVec 32) (v791 : BitVec 32) : BitVec 1 :=
  let v792 : BitVec 32 := Scalar.subi v791 v790
  let c1536_i32_444 : BitVec 32 := 1536#32
  let v794 : BitVec 1 := Scalar.cmpi .sgt v792 c1536_i32_444
  let c2048_i32_443 : BitVec 32 := 2048#32
  let v793 : BitVec 1 := Scalar.cmpi .sge v792 c2048_i32_443
  let true_445 : BitVec 1 := 1#1
  let v795 : BitVec 1 := Scalar.xori v793 true_445
  let v796 : BitVec 1 := Scalar.andi v794 v795
  let c1664_i32_449 : BitVec 32 := 1664#32
  let v803 : BitVec 1 := Scalar.cmpi .sgt v792 c1664_i32_449
  let v804 : BitVec 1 := Scalar.andi v796 v803
  let v805 : BitVec 32 := Scalar.extui v804
  let c0_i32_450 : BitVec 32 := 0#32
  let v806 : BitVec 1 := Scalar.cmpi .ne v805 c0_i32_450
  v806

def k0_off118 (v790 : BitVec 32) : Fin 2 → Nat :=
  let c1664_i32_1732 : BitVec 32 := 1664#32
  let v2752 : BitVec 32 := Scalar.addi v790 c1664_i32_1732
  let v2753 : BitVec 32 := v2752
  let c0_i32_1737 : BitVec 32 := 0#32
  ![v2753.toNat, 0]
def k0_mult119 (v790 : BitVec 32) : BitVec 32 :=
  let c1792_i32_1732 : BitVec 32 := 1792#32
  let v2752 : BitVec 32 := Scalar.addi v790 c1792_i32_1732
  v2752
def k0_cond140 (v790 : BitVec 32) (v791 : BitVec 32) : BitVec 1 :=
  let v792 : BitVec 32 := Scalar.subi v791 v790
  let c1536_i32_444 : BitVec 32 := 1536#32
  let v794 : BitVec 1 := Scalar.cmpi .sgt v792 c1536_i32_444
  let c2048_i32_443 : BitVec 32 := 2048#32
  let v793 : BitVec 1 := Scalar.cmpi .sge v792 c2048_i32_443
  let true_445 : BitVec 1 := 1#1
  let v795 : BitVec 1 := Scalar.xori v793 true_445
  let v796 : BitVec 1 := Scalar.andi v794 v795
  let c1792_i32_451 : BitVec 32 := 1792#32
  let v807 : BitVec 1 := Scalar.cmpi .sgt v792 c1792_i32_451
  let v808 : BitVec 1 := Scalar.andi v796 v807
  let v809 : BitVec 32 := Scalar.extui v808
  let c0_i32_452 : BitVec 32 := 0#32
  let v810 : BitVec 1 := Scalar.cmpi .ne v809 c0_i32_452
  v810

def k0_off119 (v790 : BitVec 32) : Fin 2 → Nat :=
  let c1792_i32_1732 : BitVec 32 := 1792#32
  let v2752 : BitVec 32 := Scalar.addi v790 c1792_i32_1732
  let v2753 : BitVec 32 := v2752
  let c0_i32_1737 : BitVec 32 := 0#32
  ![v2753.toNat, 0]
def k0_mult120 (v790 : BitVec 32) : BitVec 32 :=
  let c1920_i32_1732 : BitVec 32 := 1920#32
  let v2752 : BitVec 32 := Scalar.addi v790 c1920_i32_1732
  v2752
def k0_cond141 (v790 : BitVec 32) (v791 : BitVec 32) : BitVec 1 :=
  let v792 : BitVec 32 := Scalar.subi v791 v790
  let c1536_i32_444 : BitVec 32 := 1536#32
  let v794 : BitVec 1 := Scalar.cmpi .sgt v792 c1536_i32_444
  let c2048_i32_443 : BitVec 32 := 2048#32
  let v793 : BitVec 1 := Scalar.cmpi .sge v792 c2048_i32_443
  let true_445 : BitVec 1 := 1#1
  let v795 : BitVec 1 := Scalar.xori v793 true_445
  let v796 : BitVec 1 := Scalar.andi v794 v795
  let c1920_i32_453 : BitVec 32 := 1920#32
  let v811 : BitVec 1 := Scalar.cmpi .sgt v792 c1920_i32_453
  let v812 : BitVec 1 := Scalar.andi v796 v811
  let v813 : BitVec 32 := Scalar.extui v812
  let c0_i32_454 : BitVec 32 := 0#32
  let v814 : BitVec 1 := Scalar.cmpi .ne v813 c0_i32_454
  v814

def k0_off120 (v790 : BitVec 32) : Fin 2 → Nat :=
  let c1920_i32_1732 : BitVec 32 := 1920#32
  let v2752 : BitVec 32 := Scalar.addi v790 c1920_i32_1732
  let v2753 : BitVec 32 := v2752
  let c0_i32_1737 : BitVec 32 := 0#32
  ![v2753.toNat, 0]

def k0_chk24 (v790 : BitVec 32) (v791 : BitVec 32) : Prop :=
  (∀ (k0_h137 : k0_cond137 v790 v791 = 1#1), 128 ∣ (k0_mult116 v790).toNat) ∧
  (∀ (k0_h137 : k0_cond137 v790 v791 = 1#1), ∀ a, (k0_off116 v790) a + S512x1024.size a ≤ S8192x1024.size a) ∧
  (∀ (k0_h138 : k0_cond138 v790 v791 = 1#1), 128 ∣ (k0_mult117 v790).toNat) ∧
  (∀ (k0_h138 : k0_cond138 v790 v791 = 1#1), ∀ a, (k0_off117 v790) a + S128x1024.size a ≤ S8192x1024.size a) ∧
  (∀ (k0_h139 : k0_cond139 v790 v791 = 1#1), 128 ∣ (k0_mult118 v790).toNat) ∧
  (∀ (k0_h139 : k0_cond139 v790 v791 = 1#1), ∀ a, (k0_off118 v790) a + S128x1024.size a ≤ S8192x1024.size a) ∧
  (∀ (k0_h140 : k0_cond140 v790 v791 = 1#1), 128 ∣ (k0_mult119 v790).toNat) ∧
  (∀ (k0_h140 : k0_cond140 v790 v791 = 1#1), ∀ a, (k0_off119 v790) a + S128x1024.size a ≤ S8192x1024.size a) ∧
  (∀ (k0_h141 : k0_cond141 v790 v791 = 1#1), 128 ∣ (k0_mult120 v790).toNat) ∧
  (∀ (k0_h141 : k0_cond141 v790 v791 = 1#1), ∀ a, (k0_off120 v790) a + S128x1024.size a ≤ S8192x1024.size a)
theorem k0_mult116_dvd : ∀ (v790 : BitVec 32) (v791 : BitVec 32) (k0_hw24 : k0_chk24 v790 v791), ∀ (k0_h137 : k0_cond137 v790 v791 = 1#1), 128 ∣ (k0_mult116 v790).toNat := fun v790 v791 k0_hw24 k0_h137 => k0_hw24.1 k0_h137
theorem k0_off116_inb : ∀ (v790 : BitVec 32) (v791 : BitVec 32) (k0_hw24 : k0_chk24 v790 v791), ∀ (k0_h137 : k0_cond137 v790 v791 = 1#1), ∀ a, (k0_off116 v790) a + S512x1024.size a ≤ S8192x1024.size a := fun v790 v791 k0_hw24 k0_h137 => k0_hw24.2.1 k0_h137
theorem k0_mult117_dvd : ∀ (v790 : BitVec 32) (v791 : BitVec 32) (k0_hw24 : k0_chk24 v790 v791), ∀ (k0_h138 : k0_cond138 v790 v791 = 1#1), 128 ∣ (k0_mult117 v790).toNat := fun v790 v791 k0_hw24 k0_h138 => k0_hw24.2.2.1 k0_h138
theorem k0_off117_inb : ∀ (v790 : BitVec 32) (v791 : BitVec 32) (k0_hw24 : k0_chk24 v790 v791), ∀ (k0_h138 : k0_cond138 v790 v791 = 1#1), ∀ a, (k0_off117 v790) a + S128x1024.size a ≤ S8192x1024.size a := fun v790 v791 k0_hw24 k0_h138 => k0_hw24.2.2.2.1 k0_h138
theorem k0_mult118_dvd : ∀ (v790 : BitVec 32) (v791 : BitVec 32) (k0_hw24 : k0_chk24 v790 v791), ∀ (k0_h139 : k0_cond139 v790 v791 = 1#1), 128 ∣ (k0_mult118 v790).toNat := fun v790 v791 k0_hw24 k0_h139 => k0_hw24.2.2.2.2.1 k0_h139
theorem k0_off118_inb : ∀ (v790 : BitVec 32) (v791 : BitVec 32) (k0_hw24 : k0_chk24 v790 v791), ∀ (k0_h139 : k0_cond139 v790 v791 = 1#1), ∀ a, (k0_off118 v790) a + S128x1024.size a ≤ S8192x1024.size a := fun v790 v791 k0_hw24 k0_h139 => k0_hw24.2.2.2.2.2.1 k0_h139
theorem k0_mult119_dvd : ∀ (v790 : BitVec 32) (v791 : BitVec 32) (k0_hw24 : k0_chk24 v790 v791), ∀ (k0_h140 : k0_cond140 v790 v791 = 1#1), 128 ∣ (k0_mult119 v790).toNat := fun v790 v791 k0_hw24 k0_h140 => k0_hw24.2.2.2.2.2.2.1 k0_h140
theorem k0_off119_inb : ∀ (v790 : BitVec 32) (v791 : BitVec 32) (k0_hw24 : k0_chk24 v790 v791), ∀ (k0_h140 : k0_cond140 v790 v791 = 1#1), ∀ a, (k0_off119 v790) a + S128x1024.size a ≤ S8192x1024.size a := fun v790 v791 k0_hw24 k0_h140 => k0_hw24.2.2.2.2.2.2.2.1 k0_h140
theorem k0_mult120_dvd : ∀ (v790 : BitVec 32) (v791 : BitVec 32) (k0_hw24 : k0_chk24 v790 v791), ∀ (k0_h141 : k0_cond141 v790 v791 = 1#1), 128 ∣ (k0_mult120 v790).toNat := fun v790 v791 k0_hw24 k0_h141 => k0_hw24.2.2.2.2.2.2.2.2.1 k0_h141
theorem k0_off120_inb : ∀ (v790 : BitVec 32) (v791 : BitVec 32) (k0_hw24 : k0_chk24 v790 v791), ∀ (k0_h141 : k0_cond141 v790 v791 = 1#1), ∀ a, (k0_off120 v790) a + S128x1024.size a ≤ S8192x1024.size a := fun v790 v791 k0_hw24 k0_h141 => k0_hw24.2.2.2.2.2.2.2.2.2 k0_h141

def k0_mult121 (v830 : BitVec 32) : BitVec 32 :=
  let c0_i32_1732 : BitVec 32 := 0#32
  let v2752 : BitVec 32 := Scalar.addi v830 c0_i32_1732
  v2752
def k0_cond145 (v830 : BitVec 32) (v831 : BitVec 32) : BitVec 1 :=
  let v832 : BitVec 32 := Scalar.subi v831 v830
  let c512_i32_468 : BitVec 32 := 512#32
  let v833 : BitVec 1 := Scalar.cmpi .sge v832 c512_i32_468
  let v837 : BitVec 32 := Scalar.extui v833
  let c0_i32_471 : BitVec 32 := 0#32
  let v838 : BitVec 1 := Scalar.cmpi .ne v837 c0_i32_471
  v838

def k0_off121 (v830 : BitVec 32) : Fin 2 → Nat :=
  let c0_i32_1732 : BitVec 32 := 0#32
  let v2752 : BitVec 32 := Scalar.addi v830 c0_i32_1732
  let v2753 : BitVec 32 := v2752
  let c0_i32_1737 : BitVec 32 := 0#32
  ![v2753.toNat, 0]
def k0_mult122 (v830 : BitVec 32) : BitVec 32 :=
  let c0_i32_1732 : BitVec 32 := 0#32
  let v2752 : BitVec 32 := Scalar.addi v830 c0_i32_1732
  v2752
def k0_cond146 (v830 : BitVec 32) (v831 : BitVec 32) : BitVec 1 :=
  let v832 : BitVec 32 := Scalar.subi v831 v830
  let c0_i32_469 : BitVec 32 := 0#32
  let v834 : BitVec 1 := Scalar.cmpi .sgt v832 c0_i32_469
  let c512_i32_468 : BitVec 32 := 512#32
  let v833 : BitVec 1 := Scalar.cmpi .sge v832 c512_i32_468
  let true_470 : BitVec 1 := 1#1
  let v835 : BitVec 1 := Scalar.xori v833 true_470
  let v836 : BitVec 1 := Scalar.andi v834 v835
  let c0_i32_472 : BitVec 32 := 0#32
  let v839 : BitVec 1 := Scalar.cmpi .sgt v832 c0_i32_472
  let v840 : BitVec 1 := Scalar.andi v836 v839
  let v841 : BitVec 32 := Scalar.extui v840
  let c0_i32_473 : BitVec 32 := 0#32
  let v842 : BitVec 1 := Scalar.cmpi .ne v841 c0_i32_473
  v842

def k0_off122 (v830 : BitVec 32) : Fin 2 → Nat :=
  let c0_i32_1732 : BitVec 32 := 0#32
  let v2752 : BitVec 32 := Scalar.addi v830 c0_i32_1732
  let v2753 : BitVec 32 := v2752
  let c0_i32_1737 : BitVec 32 := 0#32
  ![v2753.toNat, 0]
def k0_mult123 (v830 : BitVec 32) : BitVec 32 :=
  let c128_i32_1732 : BitVec 32 := 128#32
  let v2752 : BitVec 32 := Scalar.addi v830 c128_i32_1732
  v2752
def k0_cond147 (v830 : BitVec 32) (v831 : BitVec 32) : BitVec 1 :=
  let v832 : BitVec 32 := Scalar.subi v831 v830
  let c0_i32_469 : BitVec 32 := 0#32
  let v834 : BitVec 1 := Scalar.cmpi .sgt v832 c0_i32_469
  let c512_i32_468 : BitVec 32 := 512#32
  let v833 : BitVec 1 := Scalar.cmpi .sge v832 c512_i32_468
  let true_470 : BitVec 1 := 1#1
  let v835 : BitVec 1 := Scalar.xori v833 true_470
  let v836 : BitVec 1 := Scalar.andi v834 v835
  let c128_i32_474 : BitVec 32 := 128#32
  let v843 : BitVec 1 := Scalar.cmpi .sgt v832 c128_i32_474
  let v844 : BitVec 1 := Scalar.andi v836 v843
  let v845 : BitVec 32 := Scalar.extui v844
  let c0_i32_475 : BitVec 32 := 0#32
  let v846 : BitVec 1 := Scalar.cmpi .ne v845 c0_i32_475
  v846

def k0_off123 (v830 : BitVec 32) : Fin 2 → Nat :=
  let c128_i32_1732 : BitVec 32 := 128#32
  let v2752 : BitVec 32 := Scalar.addi v830 c128_i32_1732
  let v2753 : BitVec 32 := v2752
  let c0_i32_1737 : BitVec 32 := 0#32
  ![v2753.toNat, 0]
def k0_mult124 (v830 : BitVec 32) : BitVec 32 :=
  let c256_i32_1732 : BitVec 32 := 256#32
  let v2752 : BitVec 32 := Scalar.addi v830 c256_i32_1732
  v2752
def k0_cond148 (v830 : BitVec 32) (v831 : BitVec 32) : BitVec 1 :=
  let v832 : BitVec 32 := Scalar.subi v831 v830
  let c0_i32_469 : BitVec 32 := 0#32
  let v834 : BitVec 1 := Scalar.cmpi .sgt v832 c0_i32_469
  let c512_i32_468 : BitVec 32 := 512#32
  let v833 : BitVec 1 := Scalar.cmpi .sge v832 c512_i32_468
  let true_470 : BitVec 1 := 1#1
  let v835 : BitVec 1 := Scalar.xori v833 true_470
  let v836 : BitVec 1 := Scalar.andi v834 v835
  let c256_i32_476 : BitVec 32 := 256#32
  let v847 : BitVec 1 := Scalar.cmpi .sgt v832 c256_i32_476
  let v848 : BitVec 1 := Scalar.andi v836 v847
  let v849 : BitVec 32 := Scalar.extui v848
  let c0_i32_477 : BitVec 32 := 0#32
  let v850 : BitVec 1 := Scalar.cmpi .ne v849 c0_i32_477
  v850

def k0_off124 (v830 : BitVec 32) : Fin 2 → Nat :=
  let c256_i32_1732 : BitVec 32 := 256#32
  let v2752 : BitVec 32 := Scalar.addi v830 c256_i32_1732
  let v2753 : BitVec 32 := v2752
  let c0_i32_1737 : BitVec 32 := 0#32
  ![v2753.toNat, 0]
def k0_mult125 (v830 : BitVec 32) : BitVec 32 :=
  let c384_i32_1732 : BitVec 32 := 384#32
  let v2752 : BitVec 32 := Scalar.addi v830 c384_i32_1732
  v2752
def k0_cond149 (v830 : BitVec 32) (v831 : BitVec 32) : BitVec 1 :=
  let v832 : BitVec 32 := Scalar.subi v831 v830
  let c0_i32_469 : BitVec 32 := 0#32
  let v834 : BitVec 1 := Scalar.cmpi .sgt v832 c0_i32_469
  let c512_i32_468 : BitVec 32 := 512#32
  let v833 : BitVec 1 := Scalar.cmpi .sge v832 c512_i32_468
  let true_470 : BitVec 1 := 1#1
  let v835 : BitVec 1 := Scalar.xori v833 true_470
  let v836 : BitVec 1 := Scalar.andi v834 v835
  let c384_i32_478 : BitVec 32 := 384#32
  let v851 : BitVec 1 := Scalar.cmpi .sgt v832 c384_i32_478
  let v852 : BitVec 1 := Scalar.andi v836 v851
  let v853 : BitVec 32 := Scalar.extui v852
  let c0_i32_479 : BitVec 32 := 0#32
  let v854 : BitVec 1 := Scalar.cmpi .ne v853 c0_i32_479
  v854

def k0_off125 (v830 : BitVec 32) : Fin 2 → Nat :=
  let c384_i32_1732 : BitVec 32 := 384#32
  let v2752 : BitVec 32 := Scalar.addi v830 c384_i32_1732
  let v2753 : BitVec 32 := v2752
  let c0_i32_1737 : BitVec 32 := 0#32
  ![v2753.toNat, 0]

def k0_chk25 (v830 : BitVec 32) (v831 : BitVec 32) : Prop :=
  (∀ (k0_h145 : k0_cond145 v830 v831 = 1#1), 128 ∣ (k0_mult121 v830).toNat) ∧
  (∀ (k0_h145 : k0_cond145 v830 v831 = 1#1), ∀ a, (k0_off121 v830) a + S512x1024.size a ≤ S8192x1024.size a) ∧
  (∀ (k0_h146 : k0_cond146 v830 v831 = 1#1), 128 ∣ (k0_mult122 v830).toNat) ∧
  (∀ (k0_h146 : k0_cond146 v830 v831 = 1#1), ∀ a, (k0_off122 v830) a + S128x1024.size a ≤ S8192x1024.size a) ∧
  (∀ (k0_h147 : k0_cond147 v830 v831 = 1#1), 128 ∣ (k0_mult123 v830).toNat) ∧
  (∀ (k0_h147 : k0_cond147 v830 v831 = 1#1), ∀ a, (k0_off123 v830) a + S128x1024.size a ≤ S8192x1024.size a) ∧
  (∀ (k0_h148 : k0_cond148 v830 v831 = 1#1), 128 ∣ (k0_mult124 v830).toNat) ∧
  (∀ (k0_h148 : k0_cond148 v830 v831 = 1#1), ∀ a, (k0_off124 v830) a + S128x1024.size a ≤ S8192x1024.size a) ∧
  (∀ (k0_h149 : k0_cond149 v830 v831 = 1#1), 128 ∣ (k0_mult125 v830).toNat) ∧
  (∀ (k0_h149 : k0_cond149 v830 v831 = 1#1), ∀ a, (k0_off125 v830) a + S128x1024.size a ≤ S8192x1024.size a)
theorem k0_mult121_dvd : ∀ (v830 : BitVec 32) (v831 : BitVec 32) (k0_hw25 : k0_chk25 v830 v831), ∀ (k0_h145 : k0_cond145 v830 v831 = 1#1), 128 ∣ (k0_mult121 v830).toNat := fun v830 v831 k0_hw25 k0_h145 => k0_hw25.1 k0_h145
theorem k0_off121_inb : ∀ (v830 : BitVec 32) (v831 : BitVec 32) (k0_hw25 : k0_chk25 v830 v831), ∀ (k0_h145 : k0_cond145 v830 v831 = 1#1), ∀ a, (k0_off121 v830) a + S512x1024.size a ≤ S8192x1024.size a := fun v830 v831 k0_hw25 k0_h145 => k0_hw25.2.1 k0_h145
theorem k0_mult122_dvd : ∀ (v830 : BitVec 32) (v831 : BitVec 32) (k0_hw25 : k0_chk25 v830 v831), ∀ (k0_h146 : k0_cond146 v830 v831 = 1#1), 128 ∣ (k0_mult122 v830).toNat := fun v830 v831 k0_hw25 k0_h146 => k0_hw25.2.2.1 k0_h146
theorem k0_off122_inb : ∀ (v830 : BitVec 32) (v831 : BitVec 32) (k0_hw25 : k0_chk25 v830 v831), ∀ (k0_h146 : k0_cond146 v830 v831 = 1#1), ∀ a, (k0_off122 v830) a + S128x1024.size a ≤ S8192x1024.size a := fun v830 v831 k0_hw25 k0_h146 => k0_hw25.2.2.2.1 k0_h146
theorem k0_mult123_dvd : ∀ (v830 : BitVec 32) (v831 : BitVec 32) (k0_hw25 : k0_chk25 v830 v831), ∀ (k0_h147 : k0_cond147 v830 v831 = 1#1), 128 ∣ (k0_mult123 v830).toNat := fun v830 v831 k0_hw25 k0_h147 => k0_hw25.2.2.2.2.1 k0_h147
theorem k0_off123_inb : ∀ (v830 : BitVec 32) (v831 : BitVec 32) (k0_hw25 : k0_chk25 v830 v831), ∀ (k0_h147 : k0_cond147 v830 v831 = 1#1), ∀ a, (k0_off123 v830) a + S128x1024.size a ≤ S8192x1024.size a := fun v830 v831 k0_hw25 k0_h147 => k0_hw25.2.2.2.2.2.1 k0_h147
theorem k0_mult124_dvd : ∀ (v830 : BitVec 32) (v831 : BitVec 32) (k0_hw25 : k0_chk25 v830 v831), ∀ (k0_h148 : k0_cond148 v830 v831 = 1#1), 128 ∣ (k0_mult124 v830).toNat := fun v830 v831 k0_hw25 k0_h148 => k0_hw25.2.2.2.2.2.2.1 k0_h148
theorem k0_off124_inb : ∀ (v830 : BitVec 32) (v831 : BitVec 32) (k0_hw25 : k0_chk25 v830 v831), ∀ (k0_h148 : k0_cond148 v830 v831 = 1#1), ∀ a, (k0_off124 v830) a + S128x1024.size a ≤ S8192x1024.size a := fun v830 v831 k0_hw25 k0_h148 => k0_hw25.2.2.2.2.2.2.2.1 k0_h148
theorem k0_mult125_dvd : ∀ (v830 : BitVec 32) (v831 : BitVec 32) (k0_hw25 : k0_chk25 v830 v831), ∀ (k0_h149 : k0_cond149 v830 v831 = 1#1), 128 ∣ (k0_mult125 v830).toNat := fun v830 v831 k0_hw25 k0_h149 => k0_hw25.2.2.2.2.2.2.2.2.1 k0_h149
theorem k0_off125_inb : ∀ (v830 : BitVec 32) (v831 : BitVec 32) (k0_hw25 : k0_chk25 v830 v831), ∀ (k0_h149 : k0_cond149 v830 v831 = 1#1), ∀ a, (k0_off125 v830) a + S128x1024.size a ≤ S8192x1024.size a := fun v830 v831 k0_hw25 k0_h149 => k0_hw25.2.2.2.2.2.2.2.2.2 k0_h149

def k0_mult126 (v870 : BitVec 32) : BitVec 32 :=
  let c0_i32_1732 : BitVec 32 := 0#32
  let v2752 : BitVec 32 := Scalar.addi v870 c0_i32_1732
  v2752
def k0_cond150 (v870 : BitVec 32) (v871 : BitVec 32) : BitVec 1 :=
  let v872 : BitVec 32 := Scalar.subi v871 v870
  let c512_i32_490 : BitVec 32 := 512#32
  let v873 : BitVec 1 := Scalar.cmpi .sge v872 c512_i32_490
  let v877 : BitVec 32 := Scalar.extui v873
  let c0_i32_493 : BitVec 32 := 0#32
  let v878 : BitVec 1 := Scalar.cmpi .ne v877 c0_i32_493
  v878

def k0_off126 (v870 : BitVec 32) : Fin 2 → Nat :=
  let c0_i32_1732 : BitVec 32 := 0#32
  let v2752 : BitVec 32 := Scalar.addi v870 c0_i32_1732
  let v2753 : BitVec 32 := v2752
  let c0_i32_1737 : BitVec 32 := 0#32
  ![v2753.toNat, 0]
def k0_mult127 (v870 : BitVec 32) : BitVec 32 :=
  let c0_i32_1732 : BitVec 32 := 0#32
  let v2752 : BitVec 32 := Scalar.addi v870 c0_i32_1732
  v2752
def k0_cond151 (v870 : BitVec 32) (v871 : BitVec 32) : BitVec 1 :=
  let v872 : BitVec 32 := Scalar.subi v871 v870
  let c0_i32_491 : BitVec 32 := 0#32
  let v874 : BitVec 1 := Scalar.cmpi .sgt v872 c0_i32_491
  let c512_i32_490 : BitVec 32 := 512#32
  let v873 : BitVec 1 := Scalar.cmpi .sge v872 c512_i32_490
  let true_492 : BitVec 1 := 1#1
  let v875 : BitVec 1 := Scalar.xori v873 true_492
  let v876 : BitVec 1 := Scalar.andi v874 v875
  let c0_i32_494 : BitVec 32 := 0#32
  let v879 : BitVec 1 := Scalar.cmpi .sgt v872 c0_i32_494
  let v880 : BitVec 1 := Scalar.andi v876 v879
  let v881 : BitVec 32 := Scalar.extui v880
  let c0_i32_495 : BitVec 32 := 0#32
  let v882 : BitVec 1 := Scalar.cmpi .ne v881 c0_i32_495
  v882

def k0_off127 (v870 : BitVec 32) : Fin 2 → Nat :=
  let c0_i32_1732 : BitVec 32 := 0#32
  let v2752 : BitVec 32 := Scalar.addi v870 c0_i32_1732
  let v2753 : BitVec 32 := v2752
  let c0_i32_1737 : BitVec 32 := 0#32
  ![v2753.toNat, 0]
def k0_mult128 (v870 : BitVec 32) : BitVec 32 :=
  let c128_i32_1732 : BitVec 32 := 128#32
  let v2752 : BitVec 32 := Scalar.addi v870 c128_i32_1732
  v2752
def k0_cond152 (v870 : BitVec 32) (v871 : BitVec 32) : BitVec 1 :=
  let v872 : BitVec 32 := Scalar.subi v871 v870
  let c0_i32_491 : BitVec 32 := 0#32
  let v874 : BitVec 1 := Scalar.cmpi .sgt v872 c0_i32_491
  let c512_i32_490 : BitVec 32 := 512#32
  let v873 : BitVec 1 := Scalar.cmpi .sge v872 c512_i32_490
  let true_492 : BitVec 1 := 1#1
  let v875 : BitVec 1 := Scalar.xori v873 true_492
  let v876 : BitVec 1 := Scalar.andi v874 v875
  let c128_i32_496 : BitVec 32 := 128#32
  let v883 : BitVec 1 := Scalar.cmpi .sgt v872 c128_i32_496
  let v884 : BitVec 1 := Scalar.andi v876 v883
  let v885 : BitVec 32 := Scalar.extui v884
  let c0_i32_497 : BitVec 32 := 0#32
  let v886 : BitVec 1 := Scalar.cmpi .ne v885 c0_i32_497
  v886

def k0_off128 (v870 : BitVec 32) : Fin 2 → Nat :=
  let c128_i32_1732 : BitVec 32 := 128#32
  let v2752 : BitVec 32 := Scalar.addi v870 c128_i32_1732
  let v2753 : BitVec 32 := v2752
  let c0_i32_1737 : BitVec 32 := 0#32
  ![v2753.toNat, 0]
def k0_mult129 (v870 : BitVec 32) : BitVec 32 :=
  let c256_i32_1732 : BitVec 32 := 256#32
  let v2752 : BitVec 32 := Scalar.addi v870 c256_i32_1732
  v2752
def k0_cond153 (v870 : BitVec 32) (v871 : BitVec 32) : BitVec 1 :=
  let v872 : BitVec 32 := Scalar.subi v871 v870
  let c0_i32_491 : BitVec 32 := 0#32
  let v874 : BitVec 1 := Scalar.cmpi .sgt v872 c0_i32_491
  let c512_i32_490 : BitVec 32 := 512#32
  let v873 : BitVec 1 := Scalar.cmpi .sge v872 c512_i32_490
  let true_492 : BitVec 1 := 1#1
  let v875 : BitVec 1 := Scalar.xori v873 true_492
  let v876 : BitVec 1 := Scalar.andi v874 v875
  let c256_i32_498 : BitVec 32 := 256#32
  let v887 : BitVec 1 := Scalar.cmpi .sgt v872 c256_i32_498
  let v888 : BitVec 1 := Scalar.andi v876 v887
  let v889 : BitVec 32 := Scalar.extui v888
  let c0_i32_499 : BitVec 32 := 0#32
  let v890 : BitVec 1 := Scalar.cmpi .ne v889 c0_i32_499
  v890

def k0_off129 (v870 : BitVec 32) : Fin 2 → Nat :=
  let c256_i32_1732 : BitVec 32 := 256#32
  let v2752 : BitVec 32 := Scalar.addi v870 c256_i32_1732
  let v2753 : BitVec 32 := v2752
  let c0_i32_1737 : BitVec 32 := 0#32
  ![v2753.toNat, 0]
def k0_mult130 (v870 : BitVec 32) : BitVec 32 :=
  let c384_i32_1732 : BitVec 32 := 384#32
  let v2752 : BitVec 32 := Scalar.addi v870 c384_i32_1732
  v2752
def k0_cond154 (v870 : BitVec 32) (v871 : BitVec 32) : BitVec 1 :=
  let v872 : BitVec 32 := Scalar.subi v871 v870
  let c0_i32_491 : BitVec 32 := 0#32
  let v874 : BitVec 1 := Scalar.cmpi .sgt v872 c0_i32_491
  let c512_i32_490 : BitVec 32 := 512#32
  let v873 : BitVec 1 := Scalar.cmpi .sge v872 c512_i32_490
  let true_492 : BitVec 1 := 1#1
  let v875 : BitVec 1 := Scalar.xori v873 true_492
  let v876 : BitVec 1 := Scalar.andi v874 v875
  let c384_i32_500 : BitVec 32 := 384#32
  let v891 : BitVec 1 := Scalar.cmpi .sgt v872 c384_i32_500
  let v892 : BitVec 1 := Scalar.andi v876 v891
  let v893 : BitVec 32 := Scalar.extui v892
  let c0_i32_501 : BitVec 32 := 0#32
  let v894 : BitVec 1 := Scalar.cmpi .ne v893 c0_i32_501
  v894

def k0_off130 (v870 : BitVec 32) : Fin 2 → Nat :=
  let c384_i32_1732 : BitVec 32 := 384#32
  let v2752 : BitVec 32 := Scalar.addi v870 c384_i32_1732
  let v2753 : BitVec 32 := v2752
  let c0_i32_1737 : BitVec 32 := 0#32
  ![v2753.toNat, 0]

def k0_chk26 (v870 : BitVec 32) (v871 : BitVec 32) : Prop :=
  (∀ (k0_h150 : k0_cond150 v870 v871 = 1#1), 128 ∣ (k0_mult126 v870).toNat) ∧
  (∀ (k0_h150 : k0_cond150 v870 v871 = 1#1), ∀ a, (k0_off126 v870) a + S512x1024.size a ≤ S8192x1024.size a) ∧
  (∀ (k0_h151 : k0_cond151 v870 v871 = 1#1), 128 ∣ (k0_mult127 v870).toNat) ∧
  (∀ (k0_h151 : k0_cond151 v870 v871 = 1#1), ∀ a, (k0_off127 v870) a + S128x1024.size a ≤ S8192x1024.size a) ∧
  (∀ (k0_h152 : k0_cond152 v870 v871 = 1#1), 128 ∣ (k0_mult128 v870).toNat) ∧
  (∀ (k0_h152 : k0_cond152 v870 v871 = 1#1), ∀ a, (k0_off128 v870) a + S128x1024.size a ≤ S8192x1024.size a) ∧
  (∀ (k0_h153 : k0_cond153 v870 v871 = 1#1), 128 ∣ (k0_mult129 v870).toNat) ∧
  (∀ (k0_h153 : k0_cond153 v870 v871 = 1#1), ∀ a, (k0_off129 v870) a + S128x1024.size a ≤ S8192x1024.size a) ∧
  (∀ (k0_h154 : k0_cond154 v870 v871 = 1#1), 128 ∣ (k0_mult130 v870).toNat) ∧
  (∀ (k0_h154 : k0_cond154 v870 v871 = 1#1), ∀ a, (k0_off130 v870) a + S128x1024.size a ≤ S8192x1024.size a)
theorem k0_mult126_dvd : ∀ (v870 : BitVec 32) (v871 : BitVec 32) (k0_hw26 : k0_chk26 v870 v871), ∀ (k0_h150 : k0_cond150 v870 v871 = 1#1), 128 ∣ (k0_mult126 v870).toNat := fun v870 v871 k0_hw26 k0_h150 => k0_hw26.1 k0_h150
theorem k0_off126_inb : ∀ (v870 : BitVec 32) (v871 : BitVec 32) (k0_hw26 : k0_chk26 v870 v871), ∀ (k0_h150 : k0_cond150 v870 v871 = 1#1), ∀ a, (k0_off126 v870) a + S512x1024.size a ≤ S8192x1024.size a := fun v870 v871 k0_hw26 k0_h150 => k0_hw26.2.1 k0_h150
theorem k0_mult127_dvd : ∀ (v870 : BitVec 32) (v871 : BitVec 32) (k0_hw26 : k0_chk26 v870 v871), ∀ (k0_h151 : k0_cond151 v870 v871 = 1#1), 128 ∣ (k0_mult127 v870).toNat := fun v870 v871 k0_hw26 k0_h151 => k0_hw26.2.2.1 k0_h151
theorem k0_off127_inb : ∀ (v870 : BitVec 32) (v871 : BitVec 32) (k0_hw26 : k0_chk26 v870 v871), ∀ (k0_h151 : k0_cond151 v870 v871 = 1#1), ∀ a, (k0_off127 v870) a + S128x1024.size a ≤ S8192x1024.size a := fun v870 v871 k0_hw26 k0_h151 => k0_hw26.2.2.2.1 k0_h151
theorem k0_mult128_dvd : ∀ (v870 : BitVec 32) (v871 : BitVec 32) (k0_hw26 : k0_chk26 v870 v871), ∀ (k0_h152 : k0_cond152 v870 v871 = 1#1), 128 ∣ (k0_mult128 v870).toNat := fun v870 v871 k0_hw26 k0_h152 => k0_hw26.2.2.2.2.1 k0_h152
theorem k0_off128_inb : ∀ (v870 : BitVec 32) (v871 : BitVec 32) (k0_hw26 : k0_chk26 v870 v871), ∀ (k0_h152 : k0_cond152 v870 v871 = 1#1), ∀ a, (k0_off128 v870) a + S128x1024.size a ≤ S8192x1024.size a := fun v870 v871 k0_hw26 k0_h152 => k0_hw26.2.2.2.2.2.1 k0_h152
theorem k0_mult129_dvd : ∀ (v870 : BitVec 32) (v871 : BitVec 32) (k0_hw26 : k0_chk26 v870 v871), ∀ (k0_h153 : k0_cond153 v870 v871 = 1#1), 128 ∣ (k0_mult129 v870).toNat := fun v870 v871 k0_hw26 k0_h153 => k0_hw26.2.2.2.2.2.2.1 k0_h153
theorem k0_off129_inb : ∀ (v870 : BitVec 32) (v871 : BitVec 32) (k0_hw26 : k0_chk26 v870 v871), ∀ (k0_h153 : k0_cond153 v870 v871 = 1#1), ∀ a, (k0_off129 v870) a + S128x1024.size a ≤ S8192x1024.size a := fun v870 v871 k0_hw26 k0_h153 => k0_hw26.2.2.2.2.2.2.2.1 k0_h153
theorem k0_mult130_dvd : ∀ (v870 : BitVec 32) (v871 : BitVec 32) (k0_hw26 : k0_chk26 v870 v871), ∀ (k0_h154 : k0_cond154 v870 v871 = 1#1), 128 ∣ (k0_mult130 v870).toNat := fun v870 v871 k0_hw26 k0_h154 => k0_hw26.2.2.2.2.2.2.2.2.1 k0_h154
theorem k0_off130_inb : ∀ (v870 : BitVec 32) (v871 : BitVec 32) (k0_hw26 : k0_chk26 v870 v871), ∀ (k0_h154 : k0_cond154 v870 v871 = 1#1), ∀ a, (k0_off130 v870) a + S128x1024.size a ≤ S8192x1024.size a := fun v870 v871 k0_hw26 k0_h154 => k0_hw26.2.2.2.2.2.2.2.2.2 k0_h154

def k0_mult131 (v910 : BitVec 32) : BitVec 32 :=
  let c512_i32_1732 : BitVec 32 := 512#32
  let v2752 : BitVec 32 := Scalar.addi v910 c512_i32_1732
  v2752
def k0_cond158 (v910 : BitVec 32) (v911 : BitVec 32) : BitVec 1 :=
  let v912 : BitVec 32 := Scalar.subi v911 v910
  let c1024_i32_515 : BitVec 32 := 1024#32
  let v913 : BitVec 1 := Scalar.cmpi .sge v912 c1024_i32_515
  let v917 : BitVec 32 := Scalar.extui v913
  let c0_i32_518 : BitVec 32 := 0#32
  let v918 : BitVec 1 := Scalar.cmpi .ne v917 c0_i32_518
  v918

def k0_off131 (v910 : BitVec 32) : Fin 2 → Nat :=
  let c512_i32_1732 : BitVec 32 := 512#32
  let v2752 : BitVec 32 := Scalar.addi v910 c512_i32_1732
  let v2753 : BitVec 32 := v2752
  let c0_i32_1737 : BitVec 32 := 0#32
  ![v2753.toNat, 0]
def k0_mult132 (v910 : BitVec 32) : BitVec 32 :=
  let c512_i32_1732 : BitVec 32 := 512#32
  let v2752 : BitVec 32 := Scalar.addi v910 c512_i32_1732
  v2752
def k0_cond159 (v910 : BitVec 32) (v911 : BitVec 32) : BitVec 1 :=
  let v912 : BitVec 32 := Scalar.subi v911 v910
  let c512_i32_516 : BitVec 32 := 512#32
  let v914 : BitVec 1 := Scalar.cmpi .sgt v912 c512_i32_516
  let c1024_i32_515 : BitVec 32 := 1024#32
  let v913 : BitVec 1 := Scalar.cmpi .sge v912 c1024_i32_515
  let true_517 : BitVec 1 := 1#1
  let v915 : BitVec 1 := Scalar.xori v913 true_517
  let v916 : BitVec 1 := Scalar.andi v914 v915
  let c512_i32_519 : BitVec 32 := 512#32
  let v919 : BitVec 1 := Scalar.cmpi .sgt v912 c512_i32_519
  let v920 : BitVec 1 := Scalar.andi v916 v919
  let v921 : BitVec 32 := Scalar.extui v920
  let c0_i32_520 : BitVec 32 := 0#32
  let v922 : BitVec 1 := Scalar.cmpi .ne v921 c0_i32_520
  v922

def k0_off132 (v910 : BitVec 32) : Fin 2 → Nat :=
  let c512_i32_1732 : BitVec 32 := 512#32
  let v2752 : BitVec 32 := Scalar.addi v910 c512_i32_1732
  let v2753 : BitVec 32 := v2752
  let c0_i32_1737 : BitVec 32 := 0#32
  ![v2753.toNat, 0]
def k0_mult133 (v910 : BitVec 32) : BitVec 32 :=
  let c640_i32_1732 : BitVec 32 := 640#32
  let v2752 : BitVec 32 := Scalar.addi v910 c640_i32_1732
  v2752
def k0_cond160 (v910 : BitVec 32) (v911 : BitVec 32) : BitVec 1 :=
  let v912 : BitVec 32 := Scalar.subi v911 v910
  let c512_i32_516 : BitVec 32 := 512#32
  let v914 : BitVec 1 := Scalar.cmpi .sgt v912 c512_i32_516
  let c1024_i32_515 : BitVec 32 := 1024#32
  let v913 : BitVec 1 := Scalar.cmpi .sge v912 c1024_i32_515
  let true_517 : BitVec 1 := 1#1
  let v915 : BitVec 1 := Scalar.xori v913 true_517
  let v916 : BitVec 1 := Scalar.andi v914 v915
  let c640_i32_521 : BitVec 32 := 640#32
  let v923 : BitVec 1 := Scalar.cmpi .sgt v912 c640_i32_521
  let v924 : BitVec 1 := Scalar.andi v916 v923
  let v925 : BitVec 32 := Scalar.extui v924
  let c0_i32_522 : BitVec 32 := 0#32
  let v926 : BitVec 1 := Scalar.cmpi .ne v925 c0_i32_522
  v926

def k0_off133 (v910 : BitVec 32) : Fin 2 → Nat :=
  let c640_i32_1732 : BitVec 32 := 640#32
  let v2752 : BitVec 32 := Scalar.addi v910 c640_i32_1732
  let v2753 : BitVec 32 := v2752
  let c0_i32_1737 : BitVec 32 := 0#32
  ![v2753.toNat, 0]
def k0_mult134 (v910 : BitVec 32) : BitVec 32 :=
  let c768_i32_1732 : BitVec 32 := 768#32
  let v2752 : BitVec 32 := Scalar.addi v910 c768_i32_1732
  v2752
def k0_cond161 (v910 : BitVec 32) (v911 : BitVec 32) : BitVec 1 :=
  let v912 : BitVec 32 := Scalar.subi v911 v910
  let c512_i32_516 : BitVec 32 := 512#32
  let v914 : BitVec 1 := Scalar.cmpi .sgt v912 c512_i32_516
  let c1024_i32_515 : BitVec 32 := 1024#32
  let v913 : BitVec 1 := Scalar.cmpi .sge v912 c1024_i32_515
  let true_517 : BitVec 1 := 1#1
  let v915 : BitVec 1 := Scalar.xori v913 true_517
  let v916 : BitVec 1 := Scalar.andi v914 v915
  let c768_i32_523 : BitVec 32 := 768#32
  let v927 : BitVec 1 := Scalar.cmpi .sgt v912 c768_i32_523
  let v928 : BitVec 1 := Scalar.andi v916 v927
  let v929 : BitVec 32 := Scalar.extui v928
  let c0_i32_524 : BitVec 32 := 0#32
  let v930 : BitVec 1 := Scalar.cmpi .ne v929 c0_i32_524
  v930

def k0_off134 (v910 : BitVec 32) : Fin 2 → Nat :=
  let c768_i32_1732 : BitVec 32 := 768#32
  let v2752 : BitVec 32 := Scalar.addi v910 c768_i32_1732
  let v2753 : BitVec 32 := v2752
  let c0_i32_1737 : BitVec 32 := 0#32
  ![v2753.toNat, 0]
def k0_mult135 (v910 : BitVec 32) : BitVec 32 :=
  let c896_i32_1732 : BitVec 32 := 896#32
  let v2752 : BitVec 32 := Scalar.addi v910 c896_i32_1732
  v2752
def k0_cond162 (v910 : BitVec 32) (v911 : BitVec 32) : BitVec 1 :=
  let v912 : BitVec 32 := Scalar.subi v911 v910
  let c512_i32_516 : BitVec 32 := 512#32
  let v914 : BitVec 1 := Scalar.cmpi .sgt v912 c512_i32_516
  let c1024_i32_515 : BitVec 32 := 1024#32
  let v913 : BitVec 1 := Scalar.cmpi .sge v912 c1024_i32_515
  let true_517 : BitVec 1 := 1#1
  let v915 : BitVec 1 := Scalar.xori v913 true_517
  let v916 : BitVec 1 := Scalar.andi v914 v915
  let c896_i32_525 : BitVec 32 := 896#32
  let v931 : BitVec 1 := Scalar.cmpi .sgt v912 c896_i32_525
  let v932 : BitVec 1 := Scalar.andi v916 v931
  let v933 : BitVec 32 := Scalar.extui v932
  let c0_i32_526 : BitVec 32 := 0#32
  let v934 : BitVec 1 := Scalar.cmpi .ne v933 c0_i32_526
  v934

def k0_off135 (v910 : BitVec 32) : Fin 2 → Nat :=
  let c896_i32_1732 : BitVec 32 := 896#32
  let v2752 : BitVec 32 := Scalar.addi v910 c896_i32_1732
  let v2753 : BitVec 32 := v2752
  let c0_i32_1737 : BitVec 32 := 0#32
  ![v2753.toNat, 0]

def k0_chk27 (v910 : BitVec 32) (v911 : BitVec 32) : Prop :=
  (∀ (k0_h158 : k0_cond158 v910 v911 = 1#1), 128 ∣ (k0_mult131 v910).toNat) ∧
  (∀ (k0_h158 : k0_cond158 v910 v911 = 1#1), ∀ a, (k0_off131 v910) a + S512x1024.size a ≤ S8192x1024.size a) ∧
  (∀ (k0_h159 : k0_cond159 v910 v911 = 1#1), 128 ∣ (k0_mult132 v910).toNat) ∧
  (∀ (k0_h159 : k0_cond159 v910 v911 = 1#1), ∀ a, (k0_off132 v910) a + S128x1024.size a ≤ S8192x1024.size a) ∧
  (∀ (k0_h160 : k0_cond160 v910 v911 = 1#1), 128 ∣ (k0_mult133 v910).toNat) ∧
  (∀ (k0_h160 : k0_cond160 v910 v911 = 1#1), ∀ a, (k0_off133 v910) a + S128x1024.size a ≤ S8192x1024.size a) ∧
  (∀ (k0_h161 : k0_cond161 v910 v911 = 1#1), 128 ∣ (k0_mult134 v910).toNat) ∧
  (∀ (k0_h161 : k0_cond161 v910 v911 = 1#1), ∀ a, (k0_off134 v910) a + S128x1024.size a ≤ S8192x1024.size a) ∧
  (∀ (k0_h162 : k0_cond162 v910 v911 = 1#1), 128 ∣ (k0_mult135 v910).toNat) ∧
  (∀ (k0_h162 : k0_cond162 v910 v911 = 1#1), ∀ a, (k0_off135 v910) a + S128x1024.size a ≤ S8192x1024.size a)
theorem k0_mult131_dvd : ∀ (v910 : BitVec 32) (v911 : BitVec 32) (k0_hw27 : k0_chk27 v910 v911), ∀ (k0_h158 : k0_cond158 v910 v911 = 1#1), 128 ∣ (k0_mult131 v910).toNat := fun v910 v911 k0_hw27 k0_h158 => k0_hw27.1 k0_h158
theorem k0_off131_inb : ∀ (v910 : BitVec 32) (v911 : BitVec 32) (k0_hw27 : k0_chk27 v910 v911), ∀ (k0_h158 : k0_cond158 v910 v911 = 1#1), ∀ a, (k0_off131 v910) a + S512x1024.size a ≤ S8192x1024.size a := fun v910 v911 k0_hw27 k0_h158 => k0_hw27.2.1 k0_h158
theorem k0_mult132_dvd : ∀ (v910 : BitVec 32) (v911 : BitVec 32) (k0_hw27 : k0_chk27 v910 v911), ∀ (k0_h159 : k0_cond159 v910 v911 = 1#1), 128 ∣ (k0_mult132 v910).toNat := fun v910 v911 k0_hw27 k0_h159 => k0_hw27.2.2.1 k0_h159
theorem k0_off132_inb : ∀ (v910 : BitVec 32) (v911 : BitVec 32) (k0_hw27 : k0_chk27 v910 v911), ∀ (k0_h159 : k0_cond159 v910 v911 = 1#1), ∀ a, (k0_off132 v910) a + S128x1024.size a ≤ S8192x1024.size a := fun v910 v911 k0_hw27 k0_h159 => k0_hw27.2.2.2.1 k0_h159
theorem k0_mult133_dvd : ∀ (v910 : BitVec 32) (v911 : BitVec 32) (k0_hw27 : k0_chk27 v910 v911), ∀ (k0_h160 : k0_cond160 v910 v911 = 1#1), 128 ∣ (k0_mult133 v910).toNat := fun v910 v911 k0_hw27 k0_h160 => k0_hw27.2.2.2.2.1 k0_h160
theorem k0_off133_inb : ∀ (v910 : BitVec 32) (v911 : BitVec 32) (k0_hw27 : k0_chk27 v910 v911), ∀ (k0_h160 : k0_cond160 v910 v911 = 1#1), ∀ a, (k0_off133 v910) a + S128x1024.size a ≤ S8192x1024.size a := fun v910 v911 k0_hw27 k0_h160 => k0_hw27.2.2.2.2.2.1 k0_h160
theorem k0_mult134_dvd : ∀ (v910 : BitVec 32) (v911 : BitVec 32) (k0_hw27 : k0_chk27 v910 v911), ∀ (k0_h161 : k0_cond161 v910 v911 = 1#1), 128 ∣ (k0_mult134 v910).toNat := fun v910 v911 k0_hw27 k0_h161 => k0_hw27.2.2.2.2.2.2.1 k0_h161
theorem k0_off134_inb : ∀ (v910 : BitVec 32) (v911 : BitVec 32) (k0_hw27 : k0_chk27 v910 v911), ∀ (k0_h161 : k0_cond161 v910 v911 = 1#1), ∀ a, (k0_off134 v910) a + S128x1024.size a ≤ S8192x1024.size a := fun v910 v911 k0_hw27 k0_h161 => k0_hw27.2.2.2.2.2.2.2.1 k0_h161
theorem k0_mult135_dvd : ∀ (v910 : BitVec 32) (v911 : BitVec 32) (k0_hw27 : k0_chk27 v910 v911), ∀ (k0_h162 : k0_cond162 v910 v911 = 1#1), 128 ∣ (k0_mult135 v910).toNat := fun v910 v911 k0_hw27 k0_h162 => k0_hw27.2.2.2.2.2.2.2.2.1 k0_h162
theorem k0_off135_inb : ∀ (v910 : BitVec 32) (v911 : BitVec 32) (k0_hw27 : k0_chk27 v910 v911), ∀ (k0_h162 : k0_cond162 v910 v911 = 1#1), ∀ a, (k0_off135 v910) a + S128x1024.size a ≤ S8192x1024.size a := fun v910 v911 k0_hw27 k0_h162 => k0_hw27.2.2.2.2.2.2.2.2.2 k0_h162

def k0_mult136 (v950 : BitVec 32) : BitVec 32 :=
  let c512_i32_1732 : BitVec 32 := 512#32
  let v2752 : BitVec 32 := Scalar.addi v950 c512_i32_1732
  v2752
def k0_cond163 (v950 : BitVec 32) (v951 : BitVec 32) : BitVec 1 :=
  let v952 : BitVec 32 := Scalar.subi v951 v950
  let c1024_i32_537 : BitVec 32 := 1024#32
  let v953 : BitVec 1 := Scalar.cmpi .sge v952 c1024_i32_537
  let v957 : BitVec 32 := Scalar.extui v953
  let c0_i32_540 : BitVec 32 := 0#32
  let v958 : BitVec 1 := Scalar.cmpi .ne v957 c0_i32_540
  v958

def k0_off136 (v950 : BitVec 32) : Fin 2 → Nat :=
  let c512_i32_1732 : BitVec 32 := 512#32
  let v2752 : BitVec 32 := Scalar.addi v950 c512_i32_1732
  let v2753 : BitVec 32 := v2752
  let c0_i32_1737 : BitVec 32 := 0#32
  ![v2753.toNat, 0]
def k0_mult137 (v950 : BitVec 32) : BitVec 32 :=
  let c512_i32_1732 : BitVec 32 := 512#32
  let v2752 : BitVec 32 := Scalar.addi v950 c512_i32_1732
  v2752
def k0_cond164 (v950 : BitVec 32) (v951 : BitVec 32) : BitVec 1 :=
  let v952 : BitVec 32 := Scalar.subi v951 v950
  let c512_i32_538 : BitVec 32 := 512#32
  let v954 : BitVec 1 := Scalar.cmpi .sgt v952 c512_i32_538
  let c1024_i32_537 : BitVec 32 := 1024#32
  let v953 : BitVec 1 := Scalar.cmpi .sge v952 c1024_i32_537
  let true_539 : BitVec 1 := 1#1
  let v955 : BitVec 1 := Scalar.xori v953 true_539
  let v956 : BitVec 1 := Scalar.andi v954 v955
  let c512_i32_541 : BitVec 32 := 512#32
  let v959 : BitVec 1 := Scalar.cmpi .sgt v952 c512_i32_541
  let v960 : BitVec 1 := Scalar.andi v956 v959
  let v961 : BitVec 32 := Scalar.extui v960
  let c0_i32_542 : BitVec 32 := 0#32
  let v962 : BitVec 1 := Scalar.cmpi .ne v961 c0_i32_542
  v962

def k0_off137 (v950 : BitVec 32) : Fin 2 → Nat :=
  let c512_i32_1732 : BitVec 32 := 512#32
  let v2752 : BitVec 32 := Scalar.addi v950 c512_i32_1732
  let v2753 : BitVec 32 := v2752
  let c0_i32_1737 : BitVec 32 := 0#32
  ![v2753.toNat, 0]
def k0_mult138 (v950 : BitVec 32) : BitVec 32 :=
  let c640_i32_1732 : BitVec 32 := 640#32
  let v2752 : BitVec 32 := Scalar.addi v950 c640_i32_1732
  v2752
def k0_cond165 (v950 : BitVec 32) (v951 : BitVec 32) : BitVec 1 :=
  let v952 : BitVec 32 := Scalar.subi v951 v950
  let c512_i32_538 : BitVec 32 := 512#32
  let v954 : BitVec 1 := Scalar.cmpi .sgt v952 c512_i32_538
  let c1024_i32_537 : BitVec 32 := 1024#32
  let v953 : BitVec 1 := Scalar.cmpi .sge v952 c1024_i32_537
  let true_539 : BitVec 1 := 1#1
  let v955 : BitVec 1 := Scalar.xori v953 true_539
  let v956 : BitVec 1 := Scalar.andi v954 v955
  let c640_i32_543 : BitVec 32 := 640#32
  let v963 : BitVec 1 := Scalar.cmpi .sgt v952 c640_i32_543
  let v964 : BitVec 1 := Scalar.andi v956 v963
  let v965 : BitVec 32 := Scalar.extui v964
  let c0_i32_544 : BitVec 32 := 0#32
  let v966 : BitVec 1 := Scalar.cmpi .ne v965 c0_i32_544
  v966

def k0_off138 (v950 : BitVec 32) : Fin 2 → Nat :=
  let c640_i32_1732 : BitVec 32 := 640#32
  let v2752 : BitVec 32 := Scalar.addi v950 c640_i32_1732
  let v2753 : BitVec 32 := v2752
  let c0_i32_1737 : BitVec 32 := 0#32
  ![v2753.toNat, 0]
def k0_mult139 (v950 : BitVec 32) : BitVec 32 :=
  let c768_i32_1732 : BitVec 32 := 768#32
  let v2752 : BitVec 32 := Scalar.addi v950 c768_i32_1732
  v2752
def k0_cond166 (v950 : BitVec 32) (v951 : BitVec 32) : BitVec 1 :=
  let v952 : BitVec 32 := Scalar.subi v951 v950
  let c512_i32_538 : BitVec 32 := 512#32
  let v954 : BitVec 1 := Scalar.cmpi .sgt v952 c512_i32_538
  let c1024_i32_537 : BitVec 32 := 1024#32
  let v953 : BitVec 1 := Scalar.cmpi .sge v952 c1024_i32_537
  let true_539 : BitVec 1 := 1#1
  let v955 : BitVec 1 := Scalar.xori v953 true_539
  let v956 : BitVec 1 := Scalar.andi v954 v955
  let c768_i32_545 : BitVec 32 := 768#32
  let v967 : BitVec 1 := Scalar.cmpi .sgt v952 c768_i32_545
  let v968 : BitVec 1 := Scalar.andi v956 v967
  let v969 : BitVec 32 := Scalar.extui v968
  let c0_i32_546 : BitVec 32 := 0#32
  let v970 : BitVec 1 := Scalar.cmpi .ne v969 c0_i32_546
  v970

def k0_off139 (v950 : BitVec 32) : Fin 2 → Nat :=
  let c768_i32_1732 : BitVec 32 := 768#32
  let v2752 : BitVec 32 := Scalar.addi v950 c768_i32_1732
  let v2753 : BitVec 32 := v2752
  let c0_i32_1737 : BitVec 32 := 0#32
  ![v2753.toNat, 0]
def k0_mult140 (v950 : BitVec 32) : BitVec 32 :=
  let c896_i32_1732 : BitVec 32 := 896#32
  let v2752 : BitVec 32 := Scalar.addi v950 c896_i32_1732
  v2752
def k0_cond167 (v950 : BitVec 32) (v951 : BitVec 32) : BitVec 1 :=
  let v952 : BitVec 32 := Scalar.subi v951 v950
  let c512_i32_538 : BitVec 32 := 512#32
  let v954 : BitVec 1 := Scalar.cmpi .sgt v952 c512_i32_538
  let c1024_i32_537 : BitVec 32 := 1024#32
  let v953 : BitVec 1 := Scalar.cmpi .sge v952 c1024_i32_537
  let true_539 : BitVec 1 := 1#1
  let v955 : BitVec 1 := Scalar.xori v953 true_539
  let v956 : BitVec 1 := Scalar.andi v954 v955
  let c896_i32_547 : BitVec 32 := 896#32
  let v971 : BitVec 1 := Scalar.cmpi .sgt v952 c896_i32_547
  let v972 : BitVec 1 := Scalar.andi v956 v971
  let v973 : BitVec 32 := Scalar.extui v972
  let c0_i32_548 : BitVec 32 := 0#32
  let v974 : BitVec 1 := Scalar.cmpi .ne v973 c0_i32_548
  v974

def k0_off140 (v950 : BitVec 32) : Fin 2 → Nat :=
  let c896_i32_1732 : BitVec 32 := 896#32
  let v2752 : BitVec 32 := Scalar.addi v950 c896_i32_1732
  let v2753 : BitVec 32 := v2752
  let c0_i32_1737 : BitVec 32 := 0#32
  ![v2753.toNat, 0]

def k0_chk28 (v950 : BitVec 32) (v951 : BitVec 32) : Prop :=
  (∀ (k0_h163 : k0_cond163 v950 v951 = 1#1), 128 ∣ (k0_mult136 v950).toNat) ∧
  (∀ (k0_h163 : k0_cond163 v950 v951 = 1#1), ∀ a, (k0_off136 v950) a + S512x1024.size a ≤ S8192x1024.size a) ∧
  (∀ (k0_h164 : k0_cond164 v950 v951 = 1#1), 128 ∣ (k0_mult137 v950).toNat) ∧
  (∀ (k0_h164 : k0_cond164 v950 v951 = 1#1), ∀ a, (k0_off137 v950) a + S128x1024.size a ≤ S8192x1024.size a) ∧
  (∀ (k0_h165 : k0_cond165 v950 v951 = 1#1), 128 ∣ (k0_mult138 v950).toNat) ∧
  (∀ (k0_h165 : k0_cond165 v950 v951 = 1#1), ∀ a, (k0_off138 v950) a + S128x1024.size a ≤ S8192x1024.size a) ∧
  (∀ (k0_h166 : k0_cond166 v950 v951 = 1#1), 128 ∣ (k0_mult139 v950).toNat) ∧
  (∀ (k0_h166 : k0_cond166 v950 v951 = 1#1), ∀ a, (k0_off139 v950) a + S128x1024.size a ≤ S8192x1024.size a) ∧
  (∀ (k0_h167 : k0_cond167 v950 v951 = 1#1), 128 ∣ (k0_mult140 v950).toNat) ∧
  (∀ (k0_h167 : k0_cond167 v950 v951 = 1#1), ∀ a, (k0_off140 v950) a + S128x1024.size a ≤ S8192x1024.size a)
theorem k0_mult136_dvd : ∀ (v950 : BitVec 32) (v951 : BitVec 32) (k0_hw28 : k0_chk28 v950 v951), ∀ (k0_h163 : k0_cond163 v950 v951 = 1#1), 128 ∣ (k0_mult136 v950).toNat := fun v950 v951 k0_hw28 k0_h163 => k0_hw28.1 k0_h163
theorem k0_off136_inb : ∀ (v950 : BitVec 32) (v951 : BitVec 32) (k0_hw28 : k0_chk28 v950 v951), ∀ (k0_h163 : k0_cond163 v950 v951 = 1#1), ∀ a, (k0_off136 v950) a + S512x1024.size a ≤ S8192x1024.size a := fun v950 v951 k0_hw28 k0_h163 => k0_hw28.2.1 k0_h163
theorem k0_mult137_dvd : ∀ (v950 : BitVec 32) (v951 : BitVec 32) (k0_hw28 : k0_chk28 v950 v951), ∀ (k0_h164 : k0_cond164 v950 v951 = 1#1), 128 ∣ (k0_mult137 v950).toNat := fun v950 v951 k0_hw28 k0_h164 => k0_hw28.2.2.1 k0_h164
theorem k0_off137_inb : ∀ (v950 : BitVec 32) (v951 : BitVec 32) (k0_hw28 : k0_chk28 v950 v951), ∀ (k0_h164 : k0_cond164 v950 v951 = 1#1), ∀ a, (k0_off137 v950) a + S128x1024.size a ≤ S8192x1024.size a := fun v950 v951 k0_hw28 k0_h164 => k0_hw28.2.2.2.1 k0_h164
theorem k0_mult138_dvd : ∀ (v950 : BitVec 32) (v951 : BitVec 32) (k0_hw28 : k0_chk28 v950 v951), ∀ (k0_h165 : k0_cond165 v950 v951 = 1#1), 128 ∣ (k0_mult138 v950).toNat := fun v950 v951 k0_hw28 k0_h165 => k0_hw28.2.2.2.2.1 k0_h165
theorem k0_off138_inb : ∀ (v950 : BitVec 32) (v951 : BitVec 32) (k0_hw28 : k0_chk28 v950 v951), ∀ (k0_h165 : k0_cond165 v950 v951 = 1#1), ∀ a, (k0_off138 v950) a + S128x1024.size a ≤ S8192x1024.size a := fun v950 v951 k0_hw28 k0_h165 => k0_hw28.2.2.2.2.2.1 k0_h165
theorem k0_mult139_dvd : ∀ (v950 : BitVec 32) (v951 : BitVec 32) (k0_hw28 : k0_chk28 v950 v951), ∀ (k0_h166 : k0_cond166 v950 v951 = 1#1), 128 ∣ (k0_mult139 v950).toNat := fun v950 v951 k0_hw28 k0_h166 => k0_hw28.2.2.2.2.2.2.1 k0_h166
theorem k0_off139_inb : ∀ (v950 : BitVec 32) (v951 : BitVec 32) (k0_hw28 : k0_chk28 v950 v951), ∀ (k0_h166 : k0_cond166 v950 v951 = 1#1), ∀ a, (k0_off139 v950) a + S128x1024.size a ≤ S8192x1024.size a := fun v950 v951 k0_hw28 k0_h166 => k0_hw28.2.2.2.2.2.2.2.1 k0_h166
theorem k0_mult140_dvd : ∀ (v950 : BitVec 32) (v951 : BitVec 32) (k0_hw28 : k0_chk28 v950 v951), ∀ (k0_h167 : k0_cond167 v950 v951 = 1#1), 128 ∣ (k0_mult140 v950).toNat := fun v950 v951 k0_hw28 k0_h167 => k0_hw28.2.2.2.2.2.2.2.2.1 k0_h167
theorem k0_off140_inb : ∀ (v950 : BitVec 32) (v951 : BitVec 32) (k0_hw28 : k0_chk28 v950 v951), ∀ (k0_h167 : k0_cond167 v950 v951 = 1#1), ∀ a, (k0_off140 v950) a + S128x1024.size a ≤ S8192x1024.size a := fun v950 v951 k0_hw28 k0_h167 => k0_hw28.2.2.2.2.2.2.2.2.2 k0_h167

def k0_mult141 (v990 : BitVec 32) : BitVec 32 :=
  let c1024_i32_1732 : BitVec 32 := 1024#32
  let v2752 : BitVec 32 := Scalar.addi v990 c1024_i32_1732
  v2752
def k0_cond171 (v990 : BitVec 32) (v991 : BitVec 32) : BitVec 1 :=
  let v992 : BitVec 32 := Scalar.subi v991 v990
  let c1536_i32_562 : BitVec 32 := 1536#32
  let v993 : BitVec 1 := Scalar.cmpi .sge v992 c1536_i32_562
  let v997 : BitVec 32 := Scalar.extui v993
  let c0_i32_565 : BitVec 32 := 0#32
  let v998 : BitVec 1 := Scalar.cmpi .ne v997 c0_i32_565
  v998

def k0_off141 (v990 : BitVec 32) : Fin 2 → Nat :=
  let c1024_i32_1732 : BitVec 32 := 1024#32
  let v2752 : BitVec 32 := Scalar.addi v990 c1024_i32_1732
  let v2753 : BitVec 32 := v2752
  let c0_i32_1737 : BitVec 32 := 0#32
  ![v2753.toNat, 0]
def k0_mult142 (v990 : BitVec 32) : BitVec 32 :=
  let c1024_i32_1732 : BitVec 32 := 1024#32
  let v2752 : BitVec 32 := Scalar.addi v990 c1024_i32_1732
  v2752
def k0_cond172 (v990 : BitVec 32) (v991 : BitVec 32) : BitVec 1 :=
  let v992 : BitVec 32 := Scalar.subi v991 v990
  let c1024_i32_563 : BitVec 32 := 1024#32
  let v994 : BitVec 1 := Scalar.cmpi .sgt v992 c1024_i32_563
  let c1536_i32_562 : BitVec 32 := 1536#32
  let v993 : BitVec 1 := Scalar.cmpi .sge v992 c1536_i32_562
  let true_564 : BitVec 1 := 1#1
  let v995 : BitVec 1 := Scalar.xori v993 true_564
  let v996 : BitVec 1 := Scalar.andi v994 v995
  let c1024_i32_566 : BitVec 32 := 1024#32
  let v999 : BitVec 1 := Scalar.cmpi .sgt v992 c1024_i32_566
  let v1000 : BitVec 1 := Scalar.andi v996 v999
  let v1001 : BitVec 32 := Scalar.extui v1000
  let c0_i32_567 : BitVec 32 := 0#32
  let v1002 : BitVec 1 := Scalar.cmpi .ne v1001 c0_i32_567
  v1002

def k0_off142 (v990 : BitVec 32) : Fin 2 → Nat :=
  let c1024_i32_1732 : BitVec 32 := 1024#32
  let v2752 : BitVec 32 := Scalar.addi v990 c1024_i32_1732
  let v2753 : BitVec 32 := v2752
  let c0_i32_1737 : BitVec 32 := 0#32
  ![v2753.toNat, 0]
def k0_mult143 (v990 : BitVec 32) : BitVec 32 :=
  let c1152_i32_1732 : BitVec 32 := 1152#32
  let v2752 : BitVec 32 := Scalar.addi v990 c1152_i32_1732
  v2752
def k0_cond173 (v990 : BitVec 32) (v991 : BitVec 32) : BitVec 1 :=
  let v992 : BitVec 32 := Scalar.subi v991 v990
  let c1024_i32_563 : BitVec 32 := 1024#32
  let v994 : BitVec 1 := Scalar.cmpi .sgt v992 c1024_i32_563
  let c1536_i32_562 : BitVec 32 := 1536#32
  let v993 : BitVec 1 := Scalar.cmpi .sge v992 c1536_i32_562
  let true_564 : BitVec 1 := 1#1
  let v995 : BitVec 1 := Scalar.xori v993 true_564
  let v996 : BitVec 1 := Scalar.andi v994 v995
  let c1152_i32_568 : BitVec 32 := 1152#32
  let v1003 : BitVec 1 := Scalar.cmpi .sgt v992 c1152_i32_568
  let v1004 : BitVec 1 := Scalar.andi v996 v1003
  let v1005 : BitVec 32 := Scalar.extui v1004
  let c0_i32_569 : BitVec 32 := 0#32
  let v1006 : BitVec 1 := Scalar.cmpi .ne v1005 c0_i32_569
  v1006

def k0_off143 (v990 : BitVec 32) : Fin 2 → Nat :=
  let c1152_i32_1732 : BitVec 32 := 1152#32
  let v2752 : BitVec 32 := Scalar.addi v990 c1152_i32_1732
  let v2753 : BitVec 32 := v2752
  let c0_i32_1737 : BitVec 32 := 0#32
  ![v2753.toNat, 0]
def k0_mult144 (v990 : BitVec 32) : BitVec 32 :=
  let c1280_i32_1732 : BitVec 32 := 1280#32
  let v2752 : BitVec 32 := Scalar.addi v990 c1280_i32_1732
  v2752
def k0_cond174 (v990 : BitVec 32) (v991 : BitVec 32) : BitVec 1 :=
  let v992 : BitVec 32 := Scalar.subi v991 v990
  let c1024_i32_563 : BitVec 32 := 1024#32
  let v994 : BitVec 1 := Scalar.cmpi .sgt v992 c1024_i32_563
  let c1536_i32_562 : BitVec 32 := 1536#32
  let v993 : BitVec 1 := Scalar.cmpi .sge v992 c1536_i32_562
  let true_564 : BitVec 1 := 1#1
  let v995 : BitVec 1 := Scalar.xori v993 true_564
  let v996 : BitVec 1 := Scalar.andi v994 v995
  let c1280_i32_570 : BitVec 32 := 1280#32
  let v1007 : BitVec 1 := Scalar.cmpi .sgt v992 c1280_i32_570
  let v1008 : BitVec 1 := Scalar.andi v996 v1007
  let v1009 : BitVec 32 := Scalar.extui v1008
  let c0_i32_571 : BitVec 32 := 0#32
  let v1010 : BitVec 1 := Scalar.cmpi .ne v1009 c0_i32_571
  v1010

def k0_off144 (v990 : BitVec 32) : Fin 2 → Nat :=
  let c1280_i32_1732 : BitVec 32 := 1280#32
  let v2752 : BitVec 32 := Scalar.addi v990 c1280_i32_1732
  let v2753 : BitVec 32 := v2752
  let c0_i32_1737 : BitVec 32 := 0#32
  ![v2753.toNat, 0]
def k0_mult145 (v990 : BitVec 32) : BitVec 32 :=
  let c1408_i32_1732 : BitVec 32 := 1408#32
  let v2752 : BitVec 32 := Scalar.addi v990 c1408_i32_1732
  v2752
def k0_cond175 (v990 : BitVec 32) (v991 : BitVec 32) : BitVec 1 :=
  let v992 : BitVec 32 := Scalar.subi v991 v990
  let c1024_i32_563 : BitVec 32 := 1024#32
  let v994 : BitVec 1 := Scalar.cmpi .sgt v992 c1024_i32_563
  let c1536_i32_562 : BitVec 32 := 1536#32
  let v993 : BitVec 1 := Scalar.cmpi .sge v992 c1536_i32_562
  let true_564 : BitVec 1 := 1#1
  let v995 : BitVec 1 := Scalar.xori v993 true_564
  let v996 : BitVec 1 := Scalar.andi v994 v995
  let c1408_i32_572 : BitVec 32 := 1408#32
  let v1011 : BitVec 1 := Scalar.cmpi .sgt v992 c1408_i32_572
  let v1012 : BitVec 1 := Scalar.andi v996 v1011
  let v1013 : BitVec 32 := Scalar.extui v1012
  let c0_i32_573 : BitVec 32 := 0#32
  let v1014 : BitVec 1 := Scalar.cmpi .ne v1013 c0_i32_573
  v1014

def k0_off145 (v990 : BitVec 32) : Fin 2 → Nat :=
  let c1408_i32_1732 : BitVec 32 := 1408#32
  let v2752 : BitVec 32 := Scalar.addi v990 c1408_i32_1732
  let v2753 : BitVec 32 := v2752
  let c0_i32_1737 : BitVec 32 := 0#32
  ![v2753.toNat, 0]

def k0_chk29 (v990 : BitVec 32) (v991 : BitVec 32) : Prop :=
  (∀ (k0_h171 : k0_cond171 v990 v991 = 1#1), 128 ∣ (k0_mult141 v990).toNat) ∧
  (∀ (k0_h171 : k0_cond171 v990 v991 = 1#1), ∀ a, (k0_off141 v990) a + S512x1024.size a ≤ S8192x1024.size a) ∧
  (∀ (k0_h172 : k0_cond172 v990 v991 = 1#1), 128 ∣ (k0_mult142 v990).toNat) ∧
  (∀ (k0_h172 : k0_cond172 v990 v991 = 1#1), ∀ a, (k0_off142 v990) a + S128x1024.size a ≤ S8192x1024.size a) ∧
  (∀ (k0_h173 : k0_cond173 v990 v991 = 1#1), 128 ∣ (k0_mult143 v990).toNat) ∧
  (∀ (k0_h173 : k0_cond173 v990 v991 = 1#1), ∀ a, (k0_off143 v990) a + S128x1024.size a ≤ S8192x1024.size a) ∧
  (∀ (k0_h174 : k0_cond174 v990 v991 = 1#1), 128 ∣ (k0_mult144 v990).toNat) ∧
  (∀ (k0_h174 : k0_cond174 v990 v991 = 1#1), ∀ a, (k0_off144 v990) a + S128x1024.size a ≤ S8192x1024.size a) ∧
  (∀ (k0_h175 : k0_cond175 v990 v991 = 1#1), 128 ∣ (k0_mult145 v990).toNat) ∧
  (∀ (k0_h175 : k0_cond175 v990 v991 = 1#1), ∀ a, (k0_off145 v990) a + S128x1024.size a ≤ S8192x1024.size a)
theorem k0_mult141_dvd : ∀ (v990 : BitVec 32) (v991 : BitVec 32) (k0_hw29 : k0_chk29 v990 v991), ∀ (k0_h171 : k0_cond171 v990 v991 = 1#1), 128 ∣ (k0_mult141 v990).toNat := fun v990 v991 k0_hw29 k0_h171 => k0_hw29.1 k0_h171
theorem k0_off141_inb : ∀ (v990 : BitVec 32) (v991 : BitVec 32) (k0_hw29 : k0_chk29 v990 v991), ∀ (k0_h171 : k0_cond171 v990 v991 = 1#1), ∀ a, (k0_off141 v990) a + S512x1024.size a ≤ S8192x1024.size a := fun v990 v991 k0_hw29 k0_h171 => k0_hw29.2.1 k0_h171
theorem k0_mult142_dvd : ∀ (v990 : BitVec 32) (v991 : BitVec 32) (k0_hw29 : k0_chk29 v990 v991), ∀ (k0_h172 : k0_cond172 v990 v991 = 1#1), 128 ∣ (k0_mult142 v990).toNat := fun v990 v991 k0_hw29 k0_h172 => k0_hw29.2.2.1 k0_h172
theorem k0_off142_inb : ∀ (v990 : BitVec 32) (v991 : BitVec 32) (k0_hw29 : k0_chk29 v990 v991), ∀ (k0_h172 : k0_cond172 v990 v991 = 1#1), ∀ a, (k0_off142 v990) a + S128x1024.size a ≤ S8192x1024.size a := fun v990 v991 k0_hw29 k0_h172 => k0_hw29.2.2.2.1 k0_h172
theorem k0_mult143_dvd : ∀ (v990 : BitVec 32) (v991 : BitVec 32) (k0_hw29 : k0_chk29 v990 v991), ∀ (k0_h173 : k0_cond173 v990 v991 = 1#1), 128 ∣ (k0_mult143 v990).toNat := fun v990 v991 k0_hw29 k0_h173 => k0_hw29.2.2.2.2.1 k0_h173
theorem k0_off143_inb : ∀ (v990 : BitVec 32) (v991 : BitVec 32) (k0_hw29 : k0_chk29 v990 v991), ∀ (k0_h173 : k0_cond173 v990 v991 = 1#1), ∀ a, (k0_off143 v990) a + S128x1024.size a ≤ S8192x1024.size a := fun v990 v991 k0_hw29 k0_h173 => k0_hw29.2.2.2.2.2.1 k0_h173
theorem k0_mult144_dvd : ∀ (v990 : BitVec 32) (v991 : BitVec 32) (k0_hw29 : k0_chk29 v990 v991), ∀ (k0_h174 : k0_cond174 v990 v991 = 1#1), 128 ∣ (k0_mult144 v990).toNat := fun v990 v991 k0_hw29 k0_h174 => k0_hw29.2.2.2.2.2.2.1 k0_h174
theorem k0_off144_inb : ∀ (v990 : BitVec 32) (v991 : BitVec 32) (k0_hw29 : k0_chk29 v990 v991), ∀ (k0_h174 : k0_cond174 v990 v991 = 1#1), ∀ a, (k0_off144 v990) a + S128x1024.size a ≤ S8192x1024.size a := fun v990 v991 k0_hw29 k0_h174 => k0_hw29.2.2.2.2.2.2.2.1 k0_h174
theorem k0_mult145_dvd : ∀ (v990 : BitVec 32) (v991 : BitVec 32) (k0_hw29 : k0_chk29 v990 v991), ∀ (k0_h175 : k0_cond175 v990 v991 = 1#1), 128 ∣ (k0_mult145 v990).toNat := fun v990 v991 k0_hw29 k0_h175 => k0_hw29.2.2.2.2.2.2.2.2.1 k0_h175
theorem k0_off145_inb : ∀ (v990 : BitVec 32) (v991 : BitVec 32) (k0_hw29 : k0_chk29 v990 v991), ∀ (k0_h175 : k0_cond175 v990 v991 = 1#1), ∀ a, (k0_off145 v990) a + S128x1024.size a ≤ S8192x1024.size a := fun v990 v991 k0_hw29 k0_h175 => k0_hw29.2.2.2.2.2.2.2.2.2 k0_h175

def k0_mult146 (v1036 : BitVec 32) : BitVec 32 :=
  let c1024_i32_1732 : BitVec 32 := 1024#32
  let v2752 : BitVec 32 := Scalar.addi v1036 c1024_i32_1732
  v2752
def k0_cond176 (v1036 : BitVec 32) (v1037 : BitVec 32) : BitVec 1 :=
  let v1038 : BitVec 32 := Scalar.subi v1037 v1036
  let c1536_i32_591 : BitVec 32 := 1536#32
  let v1039 : BitVec 1 := Scalar.cmpi .sge v1038 c1536_i32_591
  let v1043 : BitVec 32 := Scalar.extui v1039
  let c0_i32_594 : BitVec 32 := 0#32
  let v1044 : BitVec 1 := Scalar.cmpi .ne v1043 c0_i32_594
  v1044

def k0_off146 (v1036 : BitVec 32) : Fin 2 → Nat :=
  let c1024_i32_1732 : BitVec 32 := 1024#32
  let v2752 : BitVec 32 := Scalar.addi v1036 c1024_i32_1732
  let v2753 : BitVec 32 := v2752
  let c0_i32_1737 : BitVec 32 := 0#32
  ![v2753.toNat, 0]
def k0_mult147 (v1036 : BitVec 32) : BitVec 32 :=
  let c1024_i32_1732 : BitVec 32 := 1024#32
  let v2752 : BitVec 32 := Scalar.addi v1036 c1024_i32_1732
  v2752
def k0_cond177 (v1036 : BitVec 32) (v1037 : BitVec 32) : BitVec 1 :=
  let v1038 : BitVec 32 := Scalar.subi v1037 v1036
  let c1024_i32_592 : BitVec 32 := 1024#32
  let v1040 : BitVec 1 := Scalar.cmpi .sgt v1038 c1024_i32_592
  let c1536_i32_591 : BitVec 32 := 1536#32
  let v1039 : BitVec 1 := Scalar.cmpi .sge v1038 c1536_i32_591
  let true_593 : BitVec 1 := 1#1
  let v1041 : BitVec 1 := Scalar.xori v1039 true_593
  let v1042 : BitVec 1 := Scalar.andi v1040 v1041
  let c1024_i32_595 : BitVec 32 := 1024#32
  let v1045 : BitVec 1 := Scalar.cmpi .sgt v1038 c1024_i32_595
  let v1046 : BitVec 1 := Scalar.andi v1042 v1045
  let v1047 : BitVec 32 := Scalar.extui v1046
  let c0_i32_596 : BitVec 32 := 0#32
  let v1048 : BitVec 1 := Scalar.cmpi .ne v1047 c0_i32_596
  v1048

def k0_off147 (v1036 : BitVec 32) : Fin 2 → Nat :=
  let c1024_i32_1732 : BitVec 32 := 1024#32
  let v2752 : BitVec 32 := Scalar.addi v1036 c1024_i32_1732
  let v2753 : BitVec 32 := v2752
  let c0_i32_1737 : BitVec 32 := 0#32
  ![v2753.toNat, 0]
def k0_mult148 (v1036 : BitVec 32) : BitVec 32 :=
  let c1152_i32_1732 : BitVec 32 := 1152#32
  let v2752 : BitVec 32 := Scalar.addi v1036 c1152_i32_1732
  v2752
def k0_cond178 (v1036 : BitVec 32) (v1037 : BitVec 32) : BitVec 1 :=
  let v1038 : BitVec 32 := Scalar.subi v1037 v1036
  let c1024_i32_592 : BitVec 32 := 1024#32
  let v1040 : BitVec 1 := Scalar.cmpi .sgt v1038 c1024_i32_592
  let c1536_i32_591 : BitVec 32 := 1536#32
  let v1039 : BitVec 1 := Scalar.cmpi .sge v1038 c1536_i32_591
  let true_593 : BitVec 1 := 1#1
  let v1041 : BitVec 1 := Scalar.xori v1039 true_593
  let v1042 : BitVec 1 := Scalar.andi v1040 v1041
  let c1152_i32_597 : BitVec 32 := 1152#32
  let v1049 : BitVec 1 := Scalar.cmpi .sgt v1038 c1152_i32_597
  let v1050 : BitVec 1 := Scalar.andi v1042 v1049
  let v1051 : BitVec 32 := Scalar.extui v1050
  let c0_i32_598 : BitVec 32 := 0#32
  let v1052 : BitVec 1 := Scalar.cmpi .ne v1051 c0_i32_598
  v1052

def k0_off148 (v1036 : BitVec 32) : Fin 2 → Nat :=
  let c1152_i32_1732 : BitVec 32 := 1152#32
  let v2752 : BitVec 32 := Scalar.addi v1036 c1152_i32_1732
  let v2753 : BitVec 32 := v2752
  let c0_i32_1737 : BitVec 32 := 0#32
  ![v2753.toNat, 0]
def k0_mult149 (v1036 : BitVec 32) : BitVec 32 :=
  let c1280_i32_1732 : BitVec 32 := 1280#32
  let v2752 : BitVec 32 := Scalar.addi v1036 c1280_i32_1732
  v2752
def k0_cond179 (v1036 : BitVec 32) (v1037 : BitVec 32) : BitVec 1 :=
  let v1038 : BitVec 32 := Scalar.subi v1037 v1036
  let c1024_i32_592 : BitVec 32 := 1024#32
  let v1040 : BitVec 1 := Scalar.cmpi .sgt v1038 c1024_i32_592
  let c1536_i32_591 : BitVec 32 := 1536#32
  let v1039 : BitVec 1 := Scalar.cmpi .sge v1038 c1536_i32_591
  let true_593 : BitVec 1 := 1#1
  let v1041 : BitVec 1 := Scalar.xori v1039 true_593
  let v1042 : BitVec 1 := Scalar.andi v1040 v1041
  let c1280_i32_599 : BitVec 32 := 1280#32
  let v1053 : BitVec 1 := Scalar.cmpi .sgt v1038 c1280_i32_599
  let v1054 : BitVec 1 := Scalar.andi v1042 v1053
  let v1055 : BitVec 32 := Scalar.extui v1054
  let c0_i32_600 : BitVec 32 := 0#32
  let v1056 : BitVec 1 := Scalar.cmpi .ne v1055 c0_i32_600
  v1056

def k0_off149 (v1036 : BitVec 32) : Fin 2 → Nat :=
  let c1280_i32_1732 : BitVec 32 := 1280#32
  let v2752 : BitVec 32 := Scalar.addi v1036 c1280_i32_1732
  let v2753 : BitVec 32 := v2752
  let c0_i32_1737 : BitVec 32 := 0#32
  ![v2753.toNat, 0]
def k0_mult150 (v1036 : BitVec 32) : BitVec 32 :=
  let c1408_i32_1732 : BitVec 32 := 1408#32
  let v2752 : BitVec 32 := Scalar.addi v1036 c1408_i32_1732
  v2752
def k0_cond180 (v1036 : BitVec 32) (v1037 : BitVec 32) : BitVec 1 :=
  let v1038 : BitVec 32 := Scalar.subi v1037 v1036
  let c1024_i32_592 : BitVec 32 := 1024#32
  let v1040 : BitVec 1 := Scalar.cmpi .sgt v1038 c1024_i32_592
  let c1536_i32_591 : BitVec 32 := 1536#32
  let v1039 : BitVec 1 := Scalar.cmpi .sge v1038 c1536_i32_591
  let true_593 : BitVec 1 := 1#1
  let v1041 : BitVec 1 := Scalar.xori v1039 true_593
  let v1042 : BitVec 1 := Scalar.andi v1040 v1041
  let c1408_i32_601 : BitVec 32 := 1408#32
  let v1057 : BitVec 1 := Scalar.cmpi .sgt v1038 c1408_i32_601
  let v1058 : BitVec 1 := Scalar.andi v1042 v1057
  let v1059 : BitVec 32 := Scalar.extui v1058
  let c0_i32_602 : BitVec 32 := 0#32
  let v1060 : BitVec 1 := Scalar.cmpi .ne v1059 c0_i32_602
  v1060

def k0_off150 (v1036 : BitVec 32) : Fin 2 → Nat :=
  let c1408_i32_1732 : BitVec 32 := 1408#32
  let v2752 : BitVec 32 := Scalar.addi v1036 c1408_i32_1732
  let v2753 : BitVec 32 := v2752
  let c0_i32_1737 : BitVec 32 := 0#32
  ![v2753.toNat, 0]

def k0_chk30 (v1036 : BitVec 32) (v1037 : BitVec 32) : Prop :=
  (∀ (k0_h176 : k0_cond176 v1036 v1037 = 1#1), 128 ∣ (k0_mult146 v1036).toNat) ∧
  (∀ (k0_h176 : k0_cond176 v1036 v1037 = 1#1), ∀ a, (k0_off146 v1036) a + S512x1024.size a ≤ S8192x1024.size a) ∧
  (∀ (k0_h177 : k0_cond177 v1036 v1037 = 1#1), 128 ∣ (k0_mult147 v1036).toNat) ∧
  (∀ (k0_h177 : k0_cond177 v1036 v1037 = 1#1), ∀ a, (k0_off147 v1036) a + S128x1024.size a ≤ S8192x1024.size a) ∧
  (∀ (k0_h178 : k0_cond178 v1036 v1037 = 1#1), 128 ∣ (k0_mult148 v1036).toNat) ∧
  (∀ (k0_h178 : k0_cond178 v1036 v1037 = 1#1), ∀ a, (k0_off148 v1036) a + S128x1024.size a ≤ S8192x1024.size a) ∧
  (∀ (k0_h179 : k0_cond179 v1036 v1037 = 1#1), 128 ∣ (k0_mult149 v1036).toNat) ∧
  (∀ (k0_h179 : k0_cond179 v1036 v1037 = 1#1), ∀ a, (k0_off149 v1036) a + S128x1024.size a ≤ S8192x1024.size a) ∧
  (∀ (k0_h180 : k0_cond180 v1036 v1037 = 1#1), 128 ∣ (k0_mult150 v1036).toNat) ∧
  (∀ (k0_h180 : k0_cond180 v1036 v1037 = 1#1), ∀ a, (k0_off150 v1036) a + S128x1024.size a ≤ S8192x1024.size a)
theorem k0_mult146_dvd : ∀ (v1036 : BitVec 32) (v1037 : BitVec 32) (k0_hw30 : k0_chk30 v1036 v1037), ∀ (k0_h176 : k0_cond176 v1036 v1037 = 1#1), 128 ∣ (k0_mult146 v1036).toNat := fun v1036 v1037 k0_hw30 k0_h176 => k0_hw30.1 k0_h176
theorem k0_off146_inb : ∀ (v1036 : BitVec 32) (v1037 : BitVec 32) (k0_hw30 : k0_chk30 v1036 v1037), ∀ (k0_h176 : k0_cond176 v1036 v1037 = 1#1), ∀ a, (k0_off146 v1036) a + S512x1024.size a ≤ S8192x1024.size a := fun v1036 v1037 k0_hw30 k0_h176 => k0_hw30.2.1 k0_h176
theorem k0_mult147_dvd : ∀ (v1036 : BitVec 32) (v1037 : BitVec 32) (k0_hw30 : k0_chk30 v1036 v1037), ∀ (k0_h177 : k0_cond177 v1036 v1037 = 1#1), 128 ∣ (k0_mult147 v1036).toNat := fun v1036 v1037 k0_hw30 k0_h177 => k0_hw30.2.2.1 k0_h177
theorem k0_off147_inb : ∀ (v1036 : BitVec 32) (v1037 : BitVec 32) (k0_hw30 : k0_chk30 v1036 v1037), ∀ (k0_h177 : k0_cond177 v1036 v1037 = 1#1), ∀ a, (k0_off147 v1036) a + S128x1024.size a ≤ S8192x1024.size a := fun v1036 v1037 k0_hw30 k0_h177 => k0_hw30.2.2.2.1 k0_h177
theorem k0_mult148_dvd : ∀ (v1036 : BitVec 32) (v1037 : BitVec 32) (k0_hw30 : k0_chk30 v1036 v1037), ∀ (k0_h178 : k0_cond178 v1036 v1037 = 1#1), 128 ∣ (k0_mult148 v1036).toNat := fun v1036 v1037 k0_hw30 k0_h178 => k0_hw30.2.2.2.2.1 k0_h178
theorem k0_off148_inb : ∀ (v1036 : BitVec 32) (v1037 : BitVec 32) (k0_hw30 : k0_chk30 v1036 v1037), ∀ (k0_h178 : k0_cond178 v1036 v1037 = 1#1), ∀ a, (k0_off148 v1036) a + S128x1024.size a ≤ S8192x1024.size a := fun v1036 v1037 k0_hw30 k0_h178 => k0_hw30.2.2.2.2.2.1 k0_h178
theorem k0_mult149_dvd : ∀ (v1036 : BitVec 32) (v1037 : BitVec 32) (k0_hw30 : k0_chk30 v1036 v1037), ∀ (k0_h179 : k0_cond179 v1036 v1037 = 1#1), 128 ∣ (k0_mult149 v1036).toNat := fun v1036 v1037 k0_hw30 k0_h179 => k0_hw30.2.2.2.2.2.2.1 k0_h179
theorem k0_off149_inb : ∀ (v1036 : BitVec 32) (v1037 : BitVec 32) (k0_hw30 : k0_chk30 v1036 v1037), ∀ (k0_h179 : k0_cond179 v1036 v1037 = 1#1), ∀ a, (k0_off149 v1036) a + S128x1024.size a ≤ S8192x1024.size a := fun v1036 v1037 k0_hw30 k0_h179 => k0_hw30.2.2.2.2.2.2.2.1 k0_h179
theorem k0_mult150_dvd : ∀ (v1036 : BitVec 32) (v1037 : BitVec 32) (k0_hw30 : k0_chk30 v1036 v1037), ∀ (k0_h180 : k0_cond180 v1036 v1037 = 1#1), 128 ∣ (k0_mult150 v1036).toNat := fun v1036 v1037 k0_hw30 k0_h180 => k0_hw30.2.2.2.2.2.2.2.2.1 k0_h180
theorem k0_off150_inb : ∀ (v1036 : BitVec 32) (v1037 : BitVec 32) (k0_hw30 : k0_chk30 v1036 v1037), ∀ (k0_h180 : k0_cond180 v1036 v1037 = 1#1), ∀ a, (k0_off150 v1036) a + S128x1024.size a ≤ S8192x1024.size a := fun v1036 v1037 k0_hw30 k0_h180 => k0_hw30.2.2.2.2.2.2.2.2.2 k0_h180

def k0_mult151 (v1076 : BitVec 32) : BitVec 32 :=
  let c1536_i32_1732 : BitVec 32 := 1536#32
  let v2752 : BitVec 32 := Scalar.addi v1076 c1536_i32_1732
  v2752
def k0_cond184 (v1076 : BitVec 32) (v1077 : BitVec 32) : BitVec 1 :=
  let v1078 : BitVec 32 := Scalar.subi v1077 v1076
  let c2048_i32_617 : BitVec 32 := 2048#32
  let v1079 : BitVec 1 := Scalar.cmpi .sge v1078 c2048_i32_617
  let v1083 : BitVec 32 := Scalar.extui v1079
  let c0_i32_620 : BitVec 32 := 0#32
  let v1084 : BitVec 1 := Scalar.cmpi .ne v1083 c0_i32_620
  v1084

def k0_off151 (v1076 : BitVec 32) : Fin 2 → Nat :=
  let c1536_i32_1732 : BitVec 32 := 1536#32
  let v2752 : BitVec 32 := Scalar.addi v1076 c1536_i32_1732
  let v2753 : BitVec 32 := v2752
  let c0_i32_1737 : BitVec 32 := 0#32
  ![v2753.toNat, 0]
def k0_mult152 (v1076 : BitVec 32) : BitVec 32 :=
  let c1536_i32_1732 : BitVec 32 := 1536#32
  let v2752 : BitVec 32 := Scalar.addi v1076 c1536_i32_1732
  v2752
def k0_cond185 (v1076 : BitVec 32) (v1077 : BitVec 32) : BitVec 1 :=
  let v1078 : BitVec 32 := Scalar.subi v1077 v1076
  let c1536_i32_618 : BitVec 32 := 1536#32
  let v1080 : BitVec 1 := Scalar.cmpi .sgt v1078 c1536_i32_618
  let c2048_i32_617 : BitVec 32 := 2048#32
  let v1079 : BitVec 1 := Scalar.cmpi .sge v1078 c2048_i32_617
  let true_619 : BitVec 1 := 1#1
  let v1081 : BitVec 1 := Scalar.xori v1079 true_619
  let v1082 : BitVec 1 := Scalar.andi v1080 v1081
  let c1536_i32_621 : BitVec 32 := 1536#32
  let v1085 : BitVec 1 := Scalar.cmpi .sgt v1078 c1536_i32_621
  let v1086 : BitVec 1 := Scalar.andi v1082 v1085
  let v1087 : BitVec 32 := Scalar.extui v1086
  let c0_i32_622 : BitVec 32 := 0#32
  let v1088 : BitVec 1 := Scalar.cmpi .ne v1087 c0_i32_622
  v1088

def k0_off152 (v1076 : BitVec 32) : Fin 2 → Nat :=
  let c1536_i32_1732 : BitVec 32 := 1536#32
  let v2752 : BitVec 32 := Scalar.addi v1076 c1536_i32_1732
  let v2753 : BitVec 32 := v2752
  let c0_i32_1737 : BitVec 32 := 0#32
  ![v2753.toNat, 0]
def k0_mult153 (v1076 : BitVec 32) : BitVec 32 :=
  let c1664_i32_1732 : BitVec 32 := 1664#32
  let v2752 : BitVec 32 := Scalar.addi v1076 c1664_i32_1732
  v2752
def k0_cond186 (v1076 : BitVec 32) (v1077 : BitVec 32) : BitVec 1 :=
  let v1078 : BitVec 32 := Scalar.subi v1077 v1076
  let c1536_i32_618 : BitVec 32 := 1536#32
  let v1080 : BitVec 1 := Scalar.cmpi .sgt v1078 c1536_i32_618
  let c2048_i32_617 : BitVec 32 := 2048#32
  let v1079 : BitVec 1 := Scalar.cmpi .sge v1078 c2048_i32_617
  let true_619 : BitVec 1 := 1#1
  let v1081 : BitVec 1 := Scalar.xori v1079 true_619
  let v1082 : BitVec 1 := Scalar.andi v1080 v1081
  let c1664_i32_623 : BitVec 32 := 1664#32
  let v1089 : BitVec 1 := Scalar.cmpi .sgt v1078 c1664_i32_623
  let v1090 : BitVec 1 := Scalar.andi v1082 v1089
  let v1091 : BitVec 32 := Scalar.extui v1090
  let c0_i32_624 : BitVec 32 := 0#32
  let v1092 : BitVec 1 := Scalar.cmpi .ne v1091 c0_i32_624
  v1092

def k0_off153 (v1076 : BitVec 32) : Fin 2 → Nat :=
  let c1664_i32_1732 : BitVec 32 := 1664#32
  let v2752 : BitVec 32 := Scalar.addi v1076 c1664_i32_1732
  let v2753 : BitVec 32 := v2752
  let c0_i32_1737 : BitVec 32 := 0#32
  ![v2753.toNat, 0]
def k0_mult154 (v1076 : BitVec 32) : BitVec 32 :=
  let c1792_i32_1732 : BitVec 32 := 1792#32
  let v2752 : BitVec 32 := Scalar.addi v1076 c1792_i32_1732
  v2752
def k0_cond187 (v1076 : BitVec 32) (v1077 : BitVec 32) : BitVec 1 :=
  let v1078 : BitVec 32 := Scalar.subi v1077 v1076
  let c1536_i32_618 : BitVec 32 := 1536#32
  let v1080 : BitVec 1 := Scalar.cmpi .sgt v1078 c1536_i32_618
  let c2048_i32_617 : BitVec 32 := 2048#32
  let v1079 : BitVec 1 := Scalar.cmpi .sge v1078 c2048_i32_617
  let true_619 : BitVec 1 := 1#1
  let v1081 : BitVec 1 := Scalar.xori v1079 true_619
  let v1082 : BitVec 1 := Scalar.andi v1080 v1081
  let c1792_i32_625 : BitVec 32 := 1792#32
  let v1093 : BitVec 1 := Scalar.cmpi .sgt v1078 c1792_i32_625
  let v1094 : BitVec 1 := Scalar.andi v1082 v1093
  let v1095 : BitVec 32 := Scalar.extui v1094
  let c0_i32_626 : BitVec 32 := 0#32
  let v1096 : BitVec 1 := Scalar.cmpi .ne v1095 c0_i32_626
  v1096

def k0_off154 (v1076 : BitVec 32) : Fin 2 → Nat :=
  let c1792_i32_1732 : BitVec 32 := 1792#32
  let v2752 : BitVec 32 := Scalar.addi v1076 c1792_i32_1732
  let v2753 : BitVec 32 := v2752
  let c0_i32_1737 : BitVec 32 := 0#32
  ![v2753.toNat, 0]
def k0_mult155 (v1076 : BitVec 32) : BitVec 32 :=
  let c1920_i32_1732 : BitVec 32 := 1920#32
  let v2752 : BitVec 32 := Scalar.addi v1076 c1920_i32_1732
  v2752
def k0_cond188 (v1076 : BitVec 32) (v1077 : BitVec 32) : BitVec 1 :=
  let v1078 : BitVec 32 := Scalar.subi v1077 v1076
  let c1536_i32_618 : BitVec 32 := 1536#32
  let v1080 : BitVec 1 := Scalar.cmpi .sgt v1078 c1536_i32_618
  let c2048_i32_617 : BitVec 32 := 2048#32
  let v1079 : BitVec 1 := Scalar.cmpi .sge v1078 c2048_i32_617
  let true_619 : BitVec 1 := 1#1
  let v1081 : BitVec 1 := Scalar.xori v1079 true_619
  let v1082 : BitVec 1 := Scalar.andi v1080 v1081
  let c1920_i32_627 : BitVec 32 := 1920#32
  let v1097 : BitVec 1 := Scalar.cmpi .sgt v1078 c1920_i32_627
  let v1098 : BitVec 1 := Scalar.andi v1082 v1097
  let v1099 : BitVec 32 := Scalar.extui v1098
  let c0_i32_628 : BitVec 32 := 0#32
  let v1100 : BitVec 1 := Scalar.cmpi .ne v1099 c0_i32_628
  v1100

def k0_off155 (v1076 : BitVec 32) : Fin 2 → Nat :=
  let c1920_i32_1732 : BitVec 32 := 1920#32
  let v2752 : BitVec 32 := Scalar.addi v1076 c1920_i32_1732
  let v2753 : BitVec 32 := v2752
  let c0_i32_1737 : BitVec 32 := 0#32
  ![v2753.toNat, 0]

def k0_chk31 (v1076 : BitVec 32) (v1077 : BitVec 32) : Prop :=
  (∀ (k0_h184 : k0_cond184 v1076 v1077 = 1#1), 128 ∣ (k0_mult151 v1076).toNat) ∧
  (∀ (k0_h184 : k0_cond184 v1076 v1077 = 1#1), ∀ a, (k0_off151 v1076) a + S512x1024.size a ≤ S8192x1024.size a) ∧
  (∀ (k0_h185 : k0_cond185 v1076 v1077 = 1#1), 128 ∣ (k0_mult152 v1076).toNat) ∧
  (∀ (k0_h185 : k0_cond185 v1076 v1077 = 1#1), ∀ a, (k0_off152 v1076) a + S128x1024.size a ≤ S8192x1024.size a) ∧
  (∀ (k0_h186 : k0_cond186 v1076 v1077 = 1#1), 128 ∣ (k0_mult153 v1076).toNat) ∧
  (∀ (k0_h186 : k0_cond186 v1076 v1077 = 1#1), ∀ a, (k0_off153 v1076) a + S128x1024.size a ≤ S8192x1024.size a) ∧
  (∀ (k0_h187 : k0_cond187 v1076 v1077 = 1#1), 128 ∣ (k0_mult154 v1076).toNat) ∧
  (∀ (k0_h187 : k0_cond187 v1076 v1077 = 1#1), ∀ a, (k0_off154 v1076) a + S128x1024.size a ≤ S8192x1024.size a) ∧
  (∀ (k0_h188 : k0_cond188 v1076 v1077 = 1#1), 128 ∣ (k0_mult155 v1076).toNat) ∧
  (∀ (k0_h188 : k0_cond188 v1076 v1077 = 1#1), ∀ a, (k0_off155 v1076) a + S128x1024.size a ≤ S8192x1024.size a)
theorem k0_mult151_dvd : ∀ (v1076 : BitVec 32) (v1077 : BitVec 32) (k0_hw31 : k0_chk31 v1076 v1077), ∀ (k0_h184 : k0_cond184 v1076 v1077 = 1#1), 128 ∣ (k0_mult151 v1076).toNat := fun v1076 v1077 k0_hw31 k0_h184 => k0_hw31.1 k0_h184
theorem k0_off151_inb : ∀ (v1076 : BitVec 32) (v1077 : BitVec 32) (k0_hw31 : k0_chk31 v1076 v1077), ∀ (k0_h184 : k0_cond184 v1076 v1077 = 1#1), ∀ a, (k0_off151 v1076) a + S512x1024.size a ≤ S8192x1024.size a := fun v1076 v1077 k0_hw31 k0_h184 => k0_hw31.2.1 k0_h184
theorem k0_mult152_dvd : ∀ (v1076 : BitVec 32) (v1077 : BitVec 32) (k0_hw31 : k0_chk31 v1076 v1077), ∀ (k0_h185 : k0_cond185 v1076 v1077 = 1#1), 128 ∣ (k0_mult152 v1076).toNat := fun v1076 v1077 k0_hw31 k0_h185 => k0_hw31.2.2.1 k0_h185
theorem k0_off152_inb : ∀ (v1076 : BitVec 32) (v1077 : BitVec 32) (k0_hw31 : k0_chk31 v1076 v1077), ∀ (k0_h185 : k0_cond185 v1076 v1077 = 1#1), ∀ a, (k0_off152 v1076) a + S128x1024.size a ≤ S8192x1024.size a := fun v1076 v1077 k0_hw31 k0_h185 => k0_hw31.2.2.2.1 k0_h185
theorem k0_mult153_dvd : ∀ (v1076 : BitVec 32) (v1077 : BitVec 32) (k0_hw31 : k0_chk31 v1076 v1077), ∀ (k0_h186 : k0_cond186 v1076 v1077 = 1#1), 128 ∣ (k0_mult153 v1076).toNat := fun v1076 v1077 k0_hw31 k0_h186 => k0_hw31.2.2.2.2.1 k0_h186
theorem k0_off153_inb : ∀ (v1076 : BitVec 32) (v1077 : BitVec 32) (k0_hw31 : k0_chk31 v1076 v1077), ∀ (k0_h186 : k0_cond186 v1076 v1077 = 1#1), ∀ a, (k0_off153 v1076) a + S128x1024.size a ≤ S8192x1024.size a := fun v1076 v1077 k0_hw31 k0_h186 => k0_hw31.2.2.2.2.2.1 k0_h186
theorem k0_mult154_dvd : ∀ (v1076 : BitVec 32) (v1077 : BitVec 32) (k0_hw31 : k0_chk31 v1076 v1077), ∀ (k0_h187 : k0_cond187 v1076 v1077 = 1#1), 128 ∣ (k0_mult154 v1076).toNat := fun v1076 v1077 k0_hw31 k0_h187 => k0_hw31.2.2.2.2.2.2.1 k0_h187
theorem k0_off154_inb : ∀ (v1076 : BitVec 32) (v1077 : BitVec 32) (k0_hw31 : k0_chk31 v1076 v1077), ∀ (k0_h187 : k0_cond187 v1076 v1077 = 1#1), ∀ a, (k0_off154 v1076) a + S128x1024.size a ≤ S8192x1024.size a := fun v1076 v1077 k0_hw31 k0_h187 => k0_hw31.2.2.2.2.2.2.2.1 k0_h187
theorem k0_mult155_dvd : ∀ (v1076 : BitVec 32) (v1077 : BitVec 32) (k0_hw31 : k0_chk31 v1076 v1077), ∀ (k0_h188 : k0_cond188 v1076 v1077 = 1#1), 128 ∣ (k0_mult155 v1076).toNat := fun v1076 v1077 k0_hw31 k0_h188 => k0_hw31.2.2.2.2.2.2.2.2.1 k0_h188
theorem k0_off155_inb : ∀ (v1076 : BitVec 32) (v1077 : BitVec 32) (k0_hw31 : k0_chk31 v1076 v1077), ∀ (k0_h188 : k0_cond188 v1076 v1077 = 1#1), ∀ a, (k0_off155 v1076) a + S128x1024.size a ≤ S8192x1024.size a := fun v1076 v1077 k0_hw31 k0_h188 => k0_hw31.2.2.2.2.2.2.2.2.2 k0_h188

def k0_mult156 (v1122 : BitVec 32) : BitVec 32 :=
  let c1536_i32_1732 : BitVec 32 := 1536#32
  let v2752 : BitVec 32 := Scalar.addi v1122 c1536_i32_1732
  v2752
def k0_cond189 (v1122 : BitVec 32) (v1123 : BitVec 32) : BitVec 1 :=
  let v1124 : BitVec 32 := Scalar.subi v1123 v1122
  let c2048_i32_646 : BitVec 32 := 2048#32
  let v1125 : BitVec 1 := Scalar.cmpi .sge v1124 c2048_i32_646
  let v1129 : BitVec 32 := Scalar.extui v1125
  let c0_i32_649 : BitVec 32 := 0#32
  let v1130 : BitVec 1 := Scalar.cmpi .ne v1129 c0_i32_649
  v1130

def k0_off156 (v1122 : BitVec 32) : Fin 2 → Nat :=
  let c1536_i32_1732 : BitVec 32 := 1536#32
  let v2752 : BitVec 32 := Scalar.addi v1122 c1536_i32_1732
  let v2753 : BitVec 32 := v2752
  let c0_i32_1737 : BitVec 32 := 0#32
  ![v2753.toNat, 0]
def k0_mult157 (v1122 : BitVec 32) : BitVec 32 :=
  let c1536_i32_1732 : BitVec 32 := 1536#32
  let v2752 : BitVec 32 := Scalar.addi v1122 c1536_i32_1732
  v2752
def k0_cond190 (v1122 : BitVec 32) (v1123 : BitVec 32) : BitVec 1 :=
  let v1124 : BitVec 32 := Scalar.subi v1123 v1122
  let c1536_i32_647 : BitVec 32 := 1536#32
  let v1126 : BitVec 1 := Scalar.cmpi .sgt v1124 c1536_i32_647
  let c2048_i32_646 : BitVec 32 := 2048#32
  let v1125 : BitVec 1 := Scalar.cmpi .sge v1124 c2048_i32_646
  let true_648 : BitVec 1 := 1#1
  let v1127 : BitVec 1 := Scalar.xori v1125 true_648
  let v1128 : BitVec 1 := Scalar.andi v1126 v1127
  let c1536_i32_650 : BitVec 32 := 1536#32
  let v1131 : BitVec 1 := Scalar.cmpi .sgt v1124 c1536_i32_650
  let v1132 : BitVec 1 := Scalar.andi v1128 v1131
  let v1133 : BitVec 32 := Scalar.extui v1132
  let c0_i32_651 : BitVec 32 := 0#32
  let v1134 : BitVec 1 := Scalar.cmpi .ne v1133 c0_i32_651
  v1134

def k0_off157 (v1122 : BitVec 32) : Fin 2 → Nat :=
  let c1536_i32_1732 : BitVec 32 := 1536#32
  let v2752 : BitVec 32 := Scalar.addi v1122 c1536_i32_1732
  let v2753 : BitVec 32 := v2752
  let c0_i32_1737 : BitVec 32 := 0#32
  ![v2753.toNat, 0]
def k0_mult158 (v1122 : BitVec 32) : BitVec 32 :=
  let c1664_i32_1732 : BitVec 32 := 1664#32
  let v2752 : BitVec 32 := Scalar.addi v1122 c1664_i32_1732
  v2752
def k0_cond191 (v1122 : BitVec 32) (v1123 : BitVec 32) : BitVec 1 :=
  let v1124 : BitVec 32 := Scalar.subi v1123 v1122
  let c1536_i32_647 : BitVec 32 := 1536#32
  let v1126 : BitVec 1 := Scalar.cmpi .sgt v1124 c1536_i32_647
  let c2048_i32_646 : BitVec 32 := 2048#32
  let v1125 : BitVec 1 := Scalar.cmpi .sge v1124 c2048_i32_646
  let true_648 : BitVec 1 := 1#1
  let v1127 : BitVec 1 := Scalar.xori v1125 true_648
  let v1128 : BitVec 1 := Scalar.andi v1126 v1127
  let c1664_i32_652 : BitVec 32 := 1664#32
  let v1135 : BitVec 1 := Scalar.cmpi .sgt v1124 c1664_i32_652
  let v1136 : BitVec 1 := Scalar.andi v1128 v1135
  let v1137 : BitVec 32 := Scalar.extui v1136
  let c0_i32_653 : BitVec 32 := 0#32
  let v1138 : BitVec 1 := Scalar.cmpi .ne v1137 c0_i32_653
  v1138

def k0_off158 (v1122 : BitVec 32) : Fin 2 → Nat :=
  let c1664_i32_1732 : BitVec 32 := 1664#32
  let v2752 : BitVec 32 := Scalar.addi v1122 c1664_i32_1732
  let v2753 : BitVec 32 := v2752
  let c0_i32_1737 : BitVec 32 := 0#32
  ![v2753.toNat, 0]
def k0_mult159 (v1122 : BitVec 32) : BitVec 32 :=
  let c1792_i32_1732 : BitVec 32 := 1792#32
  let v2752 : BitVec 32 := Scalar.addi v1122 c1792_i32_1732
  v2752
def k0_cond192 (v1122 : BitVec 32) (v1123 : BitVec 32) : BitVec 1 :=
  let v1124 : BitVec 32 := Scalar.subi v1123 v1122
  let c1536_i32_647 : BitVec 32 := 1536#32
  let v1126 : BitVec 1 := Scalar.cmpi .sgt v1124 c1536_i32_647
  let c2048_i32_646 : BitVec 32 := 2048#32
  let v1125 : BitVec 1 := Scalar.cmpi .sge v1124 c2048_i32_646
  let true_648 : BitVec 1 := 1#1
  let v1127 : BitVec 1 := Scalar.xori v1125 true_648
  let v1128 : BitVec 1 := Scalar.andi v1126 v1127
  let c1792_i32_654 : BitVec 32 := 1792#32
  let v1139 : BitVec 1 := Scalar.cmpi .sgt v1124 c1792_i32_654
  let v1140 : BitVec 1 := Scalar.andi v1128 v1139
  let v1141 : BitVec 32 := Scalar.extui v1140
  let c0_i32_655 : BitVec 32 := 0#32
  let v1142 : BitVec 1 := Scalar.cmpi .ne v1141 c0_i32_655
  v1142

def k0_off159 (v1122 : BitVec 32) : Fin 2 → Nat :=
  let c1792_i32_1732 : BitVec 32 := 1792#32
  let v2752 : BitVec 32 := Scalar.addi v1122 c1792_i32_1732
  let v2753 : BitVec 32 := v2752
  let c0_i32_1737 : BitVec 32 := 0#32
  ![v2753.toNat, 0]
def k0_mult160 (v1122 : BitVec 32) : BitVec 32 :=
  let c1920_i32_1732 : BitVec 32 := 1920#32
  let v2752 : BitVec 32 := Scalar.addi v1122 c1920_i32_1732
  v2752
def k0_cond193 (v1122 : BitVec 32) (v1123 : BitVec 32) : BitVec 1 :=
  let v1124 : BitVec 32 := Scalar.subi v1123 v1122
  let c1536_i32_647 : BitVec 32 := 1536#32
  let v1126 : BitVec 1 := Scalar.cmpi .sgt v1124 c1536_i32_647
  let c2048_i32_646 : BitVec 32 := 2048#32
  let v1125 : BitVec 1 := Scalar.cmpi .sge v1124 c2048_i32_646
  let true_648 : BitVec 1 := 1#1
  let v1127 : BitVec 1 := Scalar.xori v1125 true_648
  let v1128 : BitVec 1 := Scalar.andi v1126 v1127
  let c1920_i32_656 : BitVec 32 := 1920#32
  let v1143 : BitVec 1 := Scalar.cmpi .sgt v1124 c1920_i32_656
  let v1144 : BitVec 1 := Scalar.andi v1128 v1143
  let v1145 : BitVec 32 := Scalar.extui v1144
  let c0_i32_657 : BitVec 32 := 0#32
  let v1146 : BitVec 1 := Scalar.cmpi .ne v1145 c0_i32_657
  v1146

def k0_off160 (v1122 : BitVec 32) : Fin 2 → Nat :=
  let c1920_i32_1732 : BitVec 32 := 1920#32
  let v2752 : BitVec 32 := Scalar.addi v1122 c1920_i32_1732
  let v2753 : BitVec 32 := v2752
  let c0_i32_1737 : BitVec 32 := 0#32
  ![v2753.toNat, 0]

def k0_chk32 (v1122 : BitVec 32) (v1123 : BitVec 32) : Prop :=
  (∀ (k0_h189 : k0_cond189 v1122 v1123 = 1#1), 128 ∣ (k0_mult156 v1122).toNat) ∧
  (∀ (k0_h189 : k0_cond189 v1122 v1123 = 1#1), ∀ a, (k0_off156 v1122) a + S512x1024.size a ≤ S8192x1024.size a) ∧
  (∀ (k0_h190 : k0_cond190 v1122 v1123 = 1#1), 128 ∣ (k0_mult157 v1122).toNat) ∧
  (∀ (k0_h190 : k0_cond190 v1122 v1123 = 1#1), ∀ a, (k0_off157 v1122) a + S128x1024.size a ≤ S8192x1024.size a) ∧
  (∀ (k0_h191 : k0_cond191 v1122 v1123 = 1#1), 128 ∣ (k0_mult158 v1122).toNat) ∧
  (∀ (k0_h191 : k0_cond191 v1122 v1123 = 1#1), ∀ a, (k0_off158 v1122) a + S128x1024.size a ≤ S8192x1024.size a) ∧
  (∀ (k0_h192 : k0_cond192 v1122 v1123 = 1#1), 128 ∣ (k0_mult159 v1122).toNat) ∧
  (∀ (k0_h192 : k0_cond192 v1122 v1123 = 1#1), ∀ a, (k0_off159 v1122) a + S128x1024.size a ≤ S8192x1024.size a) ∧
  (∀ (k0_h193 : k0_cond193 v1122 v1123 = 1#1), 128 ∣ (k0_mult160 v1122).toNat) ∧
  (∀ (k0_h193 : k0_cond193 v1122 v1123 = 1#1), ∀ a, (k0_off160 v1122) a + S128x1024.size a ≤ S8192x1024.size a)
theorem k0_mult156_dvd : ∀ (v1122 : BitVec 32) (v1123 : BitVec 32) (k0_hw32 : k0_chk32 v1122 v1123), ∀ (k0_h189 : k0_cond189 v1122 v1123 = 1#1), 128 ∣ (k0_mult156 v1122).toNat := fun v1122 v1123 k0_hw32 k0_h189 => k0_hw32.1 k0_h189
theorem k0_off156_inb : ∀ (v1122 : BitVec 32) (v1123 : BitVec 32) (k0_hw32 : k0_chk32 v1122 v1123), ∀ (k0_h189 : k0_cond189 v1122 v1123 = 1#1), ∀ a, (k0_off156 v1122) a + S512x1024.size a ≤ S8192x1024.size a := fun v1122 v1123 k0_hw32 k0_h189 => k0_hw32.2.1 k0_h189
theorem k0_mult157_dvd : ∀ (v1122 : BitVec 32) (v1123 : BitVec 32) (k0_hw32 : k0_chk32 v1122 v1123), ∀ (k0_h190 : k0_cond190 v1122 v1123 = 1#1), 128 ∣ (k0_mult157 v1122).toNat := fun v1122 v1123 k0_hw32 k0_h190 => k0_hw32.2.2.1 k0_h190
theorem k0_off157_inb : ∀ (v1122 : BitVec 32) (v1123 : BitVec 32) (k0_hw32 : k0_chk32 v1122 v1123), ∀ (k0_h190 : k0_cond190 v1122 v1123 = 1#1), ∀ a, (k0_off157 v1122) a + S128x1024.size a ≤ S8192x1024.size a := fun v1122 v1123 k0_hw32 k0_h190 => k0_hw32.2.2.2.1 k0_h190
theorem k0_mult158_dvd : ∀ (v1122 : BitVec 32) (v1123 : BitVec 32) (k0_hw32 : k0_chk32 v1122 v1123), ∀ (k0_h191 : k0_cond191 v1122 v1123 = 1#1), 128 ∣ (k0_mult158 v1122).toNat := fun v1122 v1123 k0_hw32 k0_h191 => k0_hw32.2.2.2.2.1 k0_h191
theorem k0_off158_inb : ∀ (v1122 : BitVec 32) (v1123 : BitVec 32) (k0_hw32 : k0_chk32 v1122 v1123), ∀ (k0_h191 : k0_cond191 v1122 v1123 = 1#1), ∀ a, (k0_off158 v1122) a + S128x1024.size a ≤ S8192x1024.size a := fun v1122 v1123 k0_hw32 k0_h191 => k0_hw32.2.2.2.2.2.1 k0_h191
theorem k0_mult159_dvd : ∀ (v1122 : BitVec 32) (v1123 : BitVec 32) (k0_hw32 : k0_chk32 v1122 v1123), ∀ (k0_h192 : k0_cond192 v1122 v1123 = 1#1), 128 ∣ (k0_mult159 v1122).toNat := fun v1122 v1123 k0_hw32 k0_h192 => k0_hw32.2.2.2.2.2.2.1 k0_h192
theorem k0_off159_inb : ∀ (v1122 : BitVec 32) (v1123 : BitVec 32) (k0_hw32 : k0_chk32 v1122 v1123), ∀ (k0_h192 : k0_cond192 v1122 v1123 = 1#1), ∀ a, (k0_off159 v1122) a + S128x1024.size a ≤ S8192x1024.size a := fun v1122 v1123 k0_hw32 k0_h192 => k0_hw32.2.2.2.2.2.2.2.1 k0_h192
theorem k0_mult160_dvd : ∀ (v1122 : BitVec 32) (v1123 : BitVec 32) (k0_hw32 : k0_chk32 v1122 v1123), ∀ (k0_h193 : k0_cond193 v1122 v1123 = 1#1), 128 ∣ (k0_mult160 v1122).toNat := fun v1122 v1123 k0_hw32 k0_h193 => k0_hw32.2.2.2.2.2.2.2.2.1 k0_h193
theorem k0_off160_inb : ∀ (v1122 : BitVec 32) (v1123 : BitVec 32) (k0_hw32 : k0_chk32 v1122 v1123), ∀ (k0_h193 : k0_cond193 v1122 v1123 = 1#1), ∀ a, (k0_off160 v1122) a + S128x1024.size a ≤ S8192x1024.size a := fun v1122 v1123 k0_hw32 k0_h193 => k0_hw32.2.2.2.2.2.2.2.2.2 k0_h193

def k0_mult161 (v1162 : BitVec 32) : BitVec 32 :=
  let c0_i32_1732 : BitVec 32 := 0#32
  let v2752 : BitVec 32 := Scalar.addi v1162 c0_i32_1732
  v2752
def k0_cond197 (v1162 : BitVec 32) (v1163 : BitVec 32) : BitVec 1 :=
  let v1164 : BitVec 32 := Scalar.subi v1163 v1162
  let c512_i32_672 : BitVec 32 := 512#32
  let v1165 : BitVec 1 := Scalar.cmpi .sge v1164 c512_i32_672
  let v1169 : BitVec 32 := Scalar.extui v1165
  let c0_i32_675 : BitVec 32 := 0#32
  let v1170 : BitVec 1 := Scalar.cmpi .ne v1169 c0_i32_675
  v1170

def k0_off161 (v1162 : BitVec 32) : Fin 2 → Nat :=
  let c0_i32_1732 : BitVec 32 := 0#32
  let v2752 : BitVec 32 := Scalar.addi v1162 c0_i32_1732
  let v2753 : BitVec 32 := v2752
  let c0_i32_1737 : BitVec 32 := 0#32
  ![v2753.toNat, 0]
def k0_mult162 (v1162 : BitVec 32) : BitVec 32 :=
  let c0_i32_1732 : BitVec 32 := 0#32
  let v2752 : BitVec 32 := Scalar.addi v1162 c0_i32_1732
  v2752
def k0_cond198 (v1162 : BitVec 32) (v1163 : BitVec 32) : BitVec 1 :=
  let v1164 : BitVec 32 := Scalar.subi v1163 v1162
  let c0_i32_673 : BitVec 32 := 0#32
  let v1166 : BitVec 1 := Scalar.cmpi .sgt v1164 c0_i32_673
  let c512_i32_672 : BitVec 32 := 512#32
  let v1165 : BitVec 1 := Scalar.cmpi .sge v1164 c512_i32_672
  let true_674 : BitVec 1 := 1#1
  let v1167 : BitVec 1 := Scalar.xori v1165 true_674
  let v1168 : BitVec 1 := Scalar.andi v1166 v1167
  let c0_i32_676 : BitVec 32 := 0#32
  let v1171 : BitVec 1 := Scalar.cmpi .sgt v1164 c0_i32_676
  let v1172 : BitVec 1 := Scalar.andi v1168 v1171
  let v1173 : BitVec 32 := Scalar.extui v1172
  let c0_i32_677 : BitVec 32 := 0#32
  let v1174 : BitVec 1 := Scalar.cmpi .ne v1173 c0_i32_677
  v1174

def k0_off162 (v1162 : BitVec 32) : Fin 2 → Nat :=
  let c0_i32_1732 : BitVec 32 := 0#32
  let v2752 : BitVec 32 := Scalar.addi v1162 c0_i32_1732
  let v2753 : BitVec 32 := v2752
  let c0_i32_1737 : BitVec 32 := 0#32
  ![v2753.toNat, 0]
def k0_mult163 (v1162 : BitVec 32) : BitVec 32 :=
  let c128_i32_1732 : BitVec 32 := 128#32
  let v2752 : BitVec 32 := Scalar.addi v1162 c128_i32_1732
  v2752
def k0_cond199 (v1162 : BitVec 32) (v1163 : BitVec 32) : BitVec 1 :=
  let v1164 : BitVec 32 := Scalar.subi v1163 v1162
  let c0_i32_673 : BitVec 32 := 0#32
  let v1166 : BitVec 1 := Scalar.cmpi .sgt v1164 c0_i32_673
  let c512_i32_672 : BitVec 32 := 512#32
  let v1165 : BitVec 1 := Scalar.cmpi .sge v1164 c512_i32_672
  let true_674 : BitVec 1 := 1#1
  let v1167 : BitVec 1 := Scalar.xori v1165 true_674
  let v1168 : BitVec 1 := Scalar.andi v1166 v1167
  let c128_i32_678 : BitVec 32 := 128#32
  let v1175 : BitVec 1 := Scalar.cmpi .sgt v1164 c128_i32_678
  let v1176 : BitVec 1 := Scalar.andi v1168 v1175
  let v1177 : BitVec 32 := Scalar.extui v1176
  let c0_i32_679 : BitVec 32 := 0#32
  let v1178 : BitVec 1 := Scalar.cmpi .ne v1177 c0_i32_679
  v1178

def k0_off163 (v1162 : BitVec 32) : Fin 2 → Nat :=
  let c128_i32_1732 : BitVec 32 := 128#32
  let v2752 : BitVec 32 := Scalar.addi v1162 c128_i32_1732
  let v2753 : BitVec 32 := v2752
  let c0_i32_1737 : BitVec 32 := 0#32
  ![v2753.toNat, 0]
def k0_mult164 (v1162 : BitVec 32) : BitVec 32 :=
  let c256_i32_1732 : BitVec 32 := 256#32
  let v2752 : BitVec 32 := Scalar.addi v1162 c256_i32_1732
  v2752
def k0_cond200 (v1162 : BitVec 32) (v1163 : BitVec 32) : BitVec 1 :=
  let v1164 : BitVec 32 := Scalar.subi v1163 v1162
  let c0_i32_673 : BitVec 32 := 0#32
  let v1166 : BitVec 1 := Scalar.cmpi .sgt v1164 c0_i32_673
  let c512_i32_672 : BitVec 32 := 512#32
  let v1165 : BitVec 1 := Scalar.cmpi .sge v1164 c512_i32_672
  let true_674 : BitVec 1 := 1#1
  let v1167 : BitVec 1 := Scalar.xori v1165 true_674
  let v1168 : BitVec 1 := Scalar.andi v1166 v1167
  let c256_i32_680 : BitVec 32 := 256#32
  let v1179 : BitVec 1 := Scalar.cmpi .sgt v1164 c256_i32_680
  let v1180 : BitVec 1 := Scalar.andi v1168 v1179
  let v1181 : BitVec 32 := Scalar.extui v1180
  let c0_i32_681 : BitVec 32 := 0#32
  let v1182 : BitVec 1 := Scalar.cmpi .ne v1181 c0_i32_681
  v1182

def k0_off164 (v1162 : BitVec 32) : Fin 2 → Nat :=
  let c256_i32_1732 : BitVec 32 := 256#32
  let v2752 : BitVec 32 := Scalar.addi v1162 c256_i32_1732
  let v2753 : BitVec 32 := v2752
  let c0_i32_1737 : BitVec 32 := 0#32
  ![v2753.toNat, 0]
def k0_mult165 (v1162 : BitVec 32) : BitVec 32 :=
  let c384_i32_1732 : BitVec 32 := 384#32
  let v2752 : BitVec 32 := Scalar.addi v1162 c384_i32_1732
  v2752
def k0_cond201 (v1162 : BitVec 32) (v1163 : BitVec 32) : BitVec 1 :=
  let v1164 : BitVec 32 := Scalar.subi v1163 v1162
  let c0_i32_673 : BitVec 32 := 0#32
  let v1166 : BitVec 1 := Scalar.cmpi .sgt v1164 c0_i32_673
  let c512_i32_672 : BitVec 32 := 512#32
  let v1165 : BitVec 1 := Scalar.cmpi .sge v1164 c512_i32_672
  let true_674 : BitVec 1 := 1#1
  let v1167 : BitVec 1 := Scalar.xori v1165 true_674
  let v1168 : BitVec 1 := Scalar.andi v1166 v1167
  let c384_i32_682 : BitVec 32 := 384#32
  let v1183 : BitVec 1 := Scalar.cmpi .sgt v1164 c384_i32_682
  let v1184 : BitVec 1 := Scalar.andi v1168 v1183
  let v1185 : BitVec 32 := Scalar.extui v1184
  let c0_i32_683 : BitVec 32 := 0#32
  let v1186 : BitVec 1 := Scalar.cmpi .ne v1185 c0_i32_683
  v1186

def k0_off165 (v1162 : BitVec 32) : Fin 2 → Nat :=
  let c384_i32_1732 : BitVec 32 := 384#32
  let v2752 : BitVec 32 := Scalar.addi v1162 c384_i32_1732
  let v2753 : BitVec 32 := v2752
  let c0_i32_1737 : BitVec 32 := 0#32
  ![v2753.toNat, 0]

def k0_chk33 (v1162 : BitVec 32) (v1163 : BitVec 32) : Prop :=
  (∀ (k0_h197 : k0_cond197 v1162 v1163 = 1#1), 128 ∣ (k0_mult161 v1162).toNat) ∧
  (∀ (k0_h197 : k0_cond197 v1162 v1163 = 1#1), ∀ a, (k0_off161 v1162) a + S512x1024.size a ≤ S8192x1024.size a) ∧
  (∀ (k0_h198 : k0_cond198 v1162 v1163 = 1#1), 128 ∣ (k0_mult162 v1162).toNat) ∧
  (∀ (k0_h198 : k0_cond198 v1162 v1163 = 1#1), ∀ a, (k0_off162 v1162) a + S128x1024.size a ≤ S8192x1024.size a) ∧
  (∀ (k0_h199 : k0_cond199 v1162 v1163 = 1#1), 128 ∣ (k0_mult163 v1162).toNat) ∧
  (∀ (k0_h199 : k0_cond199 v1162 v1163 = 1#1), ∀ a, (k0_off163 v1162) a + S128x1024.size a ≤ S8192x1024.size a) ∧
  (∀ (k0_h200 : k0_cond200 v1162 v1163 = 1#1), 128 ∣ (k0_mult164 v1162).toNat) ∧
  (∀ (k0_h200 : k0_cond200 v1162 v1163 = 1#1), ∀ a, (k0_off164 v1162) a + S128x1024.size a ≤ S8192x1024.size a) ∧
  (∀ (k0_h201 : k0_cond201 v1162 v1163 = 1#1), 128 ∣ (k0_mult165 v1162).toNat) ∧
  (∀ (k0_h201 : k0_cond201 v1162 v1163 = 1#1), ∀ a, (k0_off165 v1162) a + S128x1024.size a ≤ S8192x1024.size a)
theorem k0_mult161_dvd : ∀ (v1162 : BitVec 32) (v1163 : BitVec 32) (k0_hw33 : k0_chk33 v1162 v1163), ∀ (k0_h197 : k0_cond197 v1162 v1163 = 1#1), 128 ∣ (k0_mult161 v1162).toNat := fun v1162 v1163 k0_hw33 k0_h197 => k0_hw33.1 k0_h197
theorem k0_off161_inb : ∀ (v1162 : BitVec 32) (v1163 : BitVec 32) (k0_hw33 : k0_chk33 v1162 v1163), ∀ (k0_h197 : k0_cond197 v1162 v1163 = 1#1), ∀ a, (k0_off161 v1162) a + S512x1024.size a ≤ S8192x1024.size a := fun v1162 v1163 k0_hw33 k0_h197 => k0_hw33.2.1 k0_h197
theorem k0_mult162_dvd : ∀ (v1162 : BitVec 32) (v1163 : BitVec 32) (k0_hw33 : k0_chk33 v1162 v1163), ∀ (k0_h198 : k0_cond198 v1162 v1163 = 1#1), 128 ∣ (k0_mult162 v1162).toNat := fun v1162 v1163 k0_hw33 k0_h198 => k0_hw33.2.2.1 k0_h198
theorem k0_off162_inb : ∀ (v1162 : BitVec 32) (v1163 : BitVec 32) (k0_hw33 : k0_chk33 v1162 v1163), ∀ (k0_h198 : k0_cond198 v1162 v1163 = 1#1), ∀ a, (k0_off162 v1162) a + S128x1024.size a ≤ S8192x1024.size a := fun v1162 v1163 k0_hw33 k0_h198 => k0_hw33.2.2.2.1 k0_h198
theorem k0_mult163_dvd : ∀ (v1162 : BitVec 32) (v1163 : BitVec 32) (k0_hw33 : k0_chk33 v1162 v1163), ∀ (k0_h199 : k0_cond199 v1162 v1163 = 1#1), 128 ∣ (k0_mult163 v1162).toNat := fun v1162 v1163 k0_hw33 k0_h199 => k0_hw33.2.2.2.2.1 k0_h199
theorem k0_off163_inb : ∀ (v1162 : BitVec 32) (v1163 : BitVec 32) (k0_hw33 : k0_chk33 v1162 v1163), ∀ (k0_h199 : k0_cond199 v1162 v1163 = 1#1), ∀ a, (k0_off163 v1162) a + S128x1024.size a ≤ S8192x1024.size a := fun v1162 v1163 k0_hw33 k0_h199 => k0_hw33.2.2.2.2.2.1 k0_h199
theorem k0_mult164_dvd : ∀ (v1162 : BitVec 32) (v1163 : BitVec 32) (k0_hw33 : k0_chk33 v1162 v1163), ∀ (k0_h200 : k0_cond200 v1162 v1163 = 1#1), 128 ∣ (k0_mult164 v1162).toNat := fun v1162 v1163 k0_hw33 k0_h200 => k0_hw33.2.2.2.2.2.2.1 k0_h200
theorem k0_off164_inb : ∀ (v1162 : BitVec 32) (v1163 : BitVec 32) (k0_hw33 : k0_chk33 v1162 v1163), ∀ (k0_h200 : k0_cond200 v1162 v1163 = 1#1), ∀ a, (k0_off164 v1162) a + S128x1024.size a ≤ S8192x1024.size a := fun v1162 v1163 k0_hw33 k0_h200 => k0_hw33.2.2.2.2.2.2.2.1 k0_h200
theorem k0_mult165_dvd : ∀ (v1162 : BitVec 32) (v1163 : BitVec 32) (k0_hw33 : k0_chk33 v1162 v1163), ∀ (k0_h201 : k0_cond201 v1162 v1163 = 1#1), 128 ∣ (k0_mult165 v1162).toNat := fun v1162 v1163 k0_hw33 k0_h201 => k0_hw33.2.2.2.2.2.2.2.2.1 k0_h201
theorem k0_off165_inb : ∀ (v1162 : BitVec 32) (v1163 : BitVec 32) (k0_hw33 : k0_chk33 v1162 v1163), ∀ (k0_h201 : k0_cond201 v1162 v1163 = 1#1), ∀ a, (k0_off165 v1162) a + S128x1024.size a ≤ S8192x1024.size a := fun v1162 v1163 k0_hw33 k0_h201 => k0_hw33.2.2.2.2.2.2.2.2.2 k0_h201

def k0_mult166 (v1208 : BitVec 32) : BitVec 32 :=
  let c0_i32_1732 : BitVec 32 := 0#32
  let v2752 : BitVec 32 := Scalar.addi v1208 c0_i32_1732
  v2752
def k0_cond202 (v1208 : BitVec 32) (v1209 : BitVec 32) : BitVec 1 :=
  let v1210 : BitVec 32 := Scalar.subi v1209 v1208
  let c512_i32_701 : BitVec 32 := 512#32
  let v1211 : BitVec 1 := Scalar.cmpi .sge v1210 c512_i32_701
  let v1215 : BitVec 32 := Scalar.extui v1211
  let c0_i32_704 : BitVec 32 := 0#32
  let v1216 : BitVec 1 := Scalar.cmpi .ne v1215 c0_i32_704
  v1216

def k0_off166 (v1208 : BitVec 32) : Fin 2 → Nat :=
  let c0_i32_1732 : BitVec 32 := 0#32
  let v2752 : BitVec 32 := Scalar.addi v1208 c0_i32_1732
  let v2753 : BitVec 32 := v2752
  let c0_i32_1737 : BitVec 32 := 0#32
  ![v2753.toNat, 0]
def k0_mult167 (v1208 : BitVec 32) : BitVec 32 :=
  let c0_i32_1732 : BitVec 32 := 0#32
  let v2752 : BitVec 32 := Scalar.addi v1208 c0_i32_1732
  v2752
def k0_cond203 (v1208 : BitVec 32) (v1209 : BitVec 32) : BitVec 1 :=
  let v1210 : BitVec 32 := Scalar.subi v1209 v1208
  let c0_i32_702 : BitVec 32 := 0#32
  let v1212 : BitVec 1 := Scalar.cmpi .sgt v1210 c0_i32_702
  let c512_i32_701 : BitVec 32 := 512#32
  let v1211 : BitVec 1 := Scalar.cmpi .sge v1210 c512_i32_701
  let true_703 : BitVec 1 := 1#1
  let v1213 : BitVec 1 := Scalar.xori v1211 true_703
  let v1214 : BitVec 1 := Scalar.andi v1212 v1213
  let c0_i32_705 : BitVec 32 := 0#32
  let v1217 : BitVec 1 := Scalar.cmpi .sgt v1210 c0_i32_705
  let v1218 : BitVec 1 := Scalar.andi v1214 v1217
  let v1219 : BitVec 32 := Scalar.extui v1218
  let c0_i32_706 : BitVec 32 := 0#32
  let v1220 : BitVec 1 := Scalar.cmpi .ne v1219 c0_i32_706
  v1220

def k0_off167 (v1208 : BitVec 32) : Fin 2 → Nat :=
  let c0_i32_1732 : BitVec 32 := 0#32
  let v2752 : BitVec 32 := Scalar.addi v1208 c0_i32_1732
  let v2753 : BitVec 32 := v2752
  let c0_i32_1737 : BitVec 32 := 0#32
  ![v2753.toNat, 0]
def k0_mult168 (v1208 : BitVec 32) : BitVec 32 :=
  let c128_i32_1732 : BitVec 32 := 128#32
  let v2752 : BitVec 32 := Scalar.addi v1208 c128_i32_1732
  v2752
def k0_cond204 (v1208 : BitVec 32) (v1209 : BitVec 32) : BitVec 1 :=
  let v1210 : BitVec 32 := Scalar.subi v1209 v1208
  let c0_i32_702 : BitVec 32 := 0#32
  let v1212 : BitVec 1 := Scalar.cmpi .sgt v1210 c0_i32_702
  let c512_i32_701 : BitVec 32 := 512#32
  let v1211 : BitVec 1 := Scalar.cmpi .sge v1210 c512_i32_701
  let true_703 : BitVec 1 := 1#1
  let v1213 : BitVec 1 := Scalar.xori v1211 true_703
  let v1214 : BitVec 1 := Scalar.andi v1212 v1213
  let c128_i32_707 : BitVec 32 := 128#32
  let v1221 : BitVec 1 := Scalar.cmpi .sgt v1210 c128_i32_707
  let v1222 : BitVec 1 := Scalar.andi v1214 v1221
  let v1223 : BitVec 32 := Scalar.extui v1222
  let c0_i32_708 : BitVec 32 := 0#32
  let v1224 : BitVec 1 := Scalar.cmpi .ne v1223 c0_i32_708
  v1224

def k0_off168 (v1208 : BitVec 32) : Fin 2 → Nat :=
  let c128_i32_1732 : BitVec 32 := 128#32
  let v2752 : BitVec 32 := Scalar.addi v1208 c128_i32_1732
  let v2753 : BitVec 32 := v2752
  let c0_i32_1737 : BitVec 32 := 0#32
  ![v2753.toNat, 0]
def k0_mult169 (v1208 : BitVec 32) : BitVec 32 :=
  let c256_i32_1732 : BitVec 32 := 256#32
  let v2752 : BitVec 32 := Scalar.addi v1208 c256_i32_1732
  v2752
def k0_cond205 (v1208 : BitVec 32) (v1209 : BitVec 32) : BitVec 1 :=
  let v1210 : BitVec 32 := Scalar.subi v1209 v1208
  let c0_i32_702 : BitVec 32 := 0#32
  let v1212 : BitVec 1 := Scalar.cmpi .sgt v1210 c0_i32_702
  let c512_i32_701 : BitVec 32 := 512#32
  let v1211 : BitVec 1 := Scalar.cmpi .sge v1210 c512_i32_701
  let true_703 : BitVec 1 := 1#1
  let v1213 : BitVec 1 := Scalar.xori v1211 true_703
  let v1214 : BitVec 1 := Scalar.andi v1212 v1213
  let c256_i32_709 : BitVec 32 := 256#32
  let v1225 : BitVec 1 := Scalar.cmpi .sgt v1210 c256_i32_709
  let v1226 : BitVec 1 := Scalar.andi v1214 v1225
  let v1227 : BitVec 32 := Scalar.extui v1226
  let c0_i32_710 : BitVec 32 := 0#32
  let v1228 : BitVec 1 := Scalar.cmpi .ne v1227 c0_i32_710
  v1228

def k0_off169 (v1208 : BitVec 32) : Fin 2 → Nat :=
  let c256_i32_1732 : BitVec 32 := 256#32
  let v2752 : BitVec 32 := Scalar.addi v1208 c256_i32_1732
  let v2753 : BitVec 32 := v2752
  let c0_i32_1737 : BitVec 32 := 0#32
  ![v2753.toNat, 0]
def k0_mult170 (v1208 : BitVec 32) : BitVec 32 :=
  let c384_i32_1732 : BitVec 32 := 384#32
  let v2752 : BitVec 32 := Scalar.addi v1208 c384_i32_1732
  v2752
def k0_cond206 (v1208 : BitVec 32) (v1209 : BitVec 32) : BitVec 1 :=
  let v1210 : BitVec 32 := Scalar.subi v1209 v1208
  let c0_i32_702 : BitVec 32 := 0#32
  let v1212 : BitVec 1 := Scalar.cmpi .sgt v1210 c0_i32_702
  let c512_i32_701 : BitVec 32 := 512#32
  let v1211 : BitVec 1 := Scalar.cmpi .sge v1210 c512_i32_701
  let true_703 : BitVec 1 := 1#1
  let v1213 : BitVec 1 := Scalar.xori v1211 true_703
  let v1214 : BitVec 1 := Scalar.andi v1212 v1213
  let c384_i32_711 : BitVec 32 := 384#32
  let v1229 : BitVec 1 := Scalar.cmpi .sgt v1210 c384_i32_711
  let v1230 : BitVec 1 := Scalar.andi v1214 v1229
  let v1231 : BitVec 32 := Scalar.extui v1230
  let c0_i32_712 : BitVec 32 := 0#32
  let v1232 : BitVec 1 := Scalar.cmpi .ne v1231 c0_i32_712
  v1232

def k0_off170 (v1208 : BitVec 32) : Fin 2 → Nat :=
  let c384_i32_1732 : BitVec 32 := 384#32
  let v2752 : BitVec 32 := Scalar.addi v1208 c384_i32_1732
  let v2753 : BitVec 32 := v2752
  let c0_i32_1737 : BitVec 32 := 0#32
  ![v2753.toNat, 0]

def k0_chk34 (v1208 : BitVec 32) (v1209 : BitVec 32) : Prop :=
  (∀ (k0_h202 : k0_cond202 v1208 v1209 = 1#1), 128 ∣ (k0_mult166 v1208).toNat) ∧
  (∀ (k0_h202 : k0_cond202 v1208 v1209 = 1#1), ∀ a, (k0_off166 v1208) a + S512x1024.size a ≤ S8192x1024.size a) ∧
  (∀ (k0_h203 : k0_cond203 v1208 v1209 = 1#1), 128 ∣ (k0_mult167 v1208).toNat) ∧
  (∀ (k0_h203 : k0_cond203 v1208 v1209 = 1#1), ∀ a, (k0_off167 v1208) a + S128x1024.size a ≤ S8192x1024.size a) ∧
  (∀ (k0_h204 : k0_cond204 v1208 v1209 = 1#1), 128 ∣ (k0_mult168 v1208).toNat) ∧
  (∀ (k0_h204 : k0_cond204 v1208 v1209 = 1#1), ∀ a, (k0_off168 v1208) a + S128x1024.size a ≤ S8192x1024.size a) ∧
  (∀ (k0_h205 : k0_cond205 v1208 v1209 = 1#1), 128 ∣ (k0_mult169 v1208).toNat) ∧
  (∀ (k0_h205 : k0_cond205 v1208 v1209 = 1#1), ∀ a, (k0_off169 v1208) a + S128x1024.size a ≤ S8192x1024.size a) ∧
  (∀ (k0_h206 : k0_cond206 v1208 v1209 = 1#1), 128 ∣ (k0_mult170 v1208).toNat) ∧
  (∀ (k0_h206 : k0_cond206 v1208 v1209 = 1#1), ∀ a, (k0_off170 v1208) a + S128x1024.size a ≤ S8192x1024.size a)
theorem k0_mult166_dvd : ∀ (v1208 : BitVec 32) (v1209 : BitVec 32) (k0_hw34 : k0_chk34 v1208 v1209), ∀ (k0_h202 : k0_cond202 v1208 v1209 = 1#1), 128 ∣ (k0_mult166 v1208).toNat := fun v1208 v1209 k0_hw34 k0_h202 => k0_hw34.1 k0_h202
theorem k0_off166_inb : ∀ (v1208 : BitVec 32) (v1209 : BitVec 32) (k0_hw34 : k0_chk34 v1208 v1209), ∀ (k0_h202 : k0_cond202 v1208 v1209 = 1#1), ∀ a, (k0_off166 v1208) a + S512x1024.size a ≤ S8192x1024.size a := fun v1208 v1209 k0_hw34 k0_h202 => k0_hw34.2.1 k0_h202
theorem k0_mult167_dvd : ∀ (v1208 : BitVec 32) (v1209 : BitVec 32) (k0_hw34 : k0_chk34 v1208 v1209), ∀ (k0_h203 : k0_cond203 v1208 v1209 = 1#1), 128 ∣ (k0_mult167 v1208).toNat := fun v1208 v1209 k0_hw34 k0_h203 => k0_hw34.2.2.1 k0_h203
theorem k0_off167_inb : ∀ (v1208 : BitVec 32) (v1209 : BitVec 32) (k0_hw34 : k0_chk34 v1208 v1209), ∀ (k0_h203 : k0_cond203 v1208 v1209 = 1#1), ∀ a, (k0_off167 v1208) a + S128x1024.size a ≤ S8192x1024.size a := fun v1208 v1209 k0_hw34 k0_h203 => k0_hw34.2.2.2.1 k0_h203
theorem k0_mult168_dvd : ∀ (v1208 : BitVec 32) (v1209 : BitVec 32) (k0_hw34 : k0_chk34 v1208 v1209), ∀ (k0_h204 : k0_cond204 v1208 v1209 = 1#1), 128 ∣ (k0_mult168 v1208).toNat := fun v1208 v1209 k0_hw34 k0_h204 => k0_hw34.2.2.2.2.1 k0_h204
theorem k0_off168_inb : ∀ (v1208 : BitVec 32) (v1209 : BitVec 32) (k0_hw34 : k0_chk34 v1208 v1209), ∀ (k0_h204 : k0_cond204 v1208 v1209 = 1#1), ∀ a, (k0_off168 v1208) a + S128x1024.size a ≤ S8192x1024.size a := fun v1208 v1209 k0_hw34 k0_h204 => k0_hw34.2.2.2.2.2.1 k0_h204
theorem k0_mult169_dvd : ∀ (v1208 : BitVec 32) (v1209 : BitVec 32) (k0_hw34 : k0_chk34 v1208 v1209), ∀ (k0_h205 : k0_cond205 v1208 v1209 = 1#1), 128 ∣ (k0_mult169 v1208).toNat := fun v1208 v1209 k0_hw34 k0_h205 => k0_hw34.2.2.2.2.2.2.1 k0_h205
theorem k0_off169_inb : ∀ (v1208 : BitVec 32) (v1209 : BitVec 32) (k0_hw34 : k0_chk34 v1208 v1209), ∀ (k0_h205 : k0_cond205 v1208 v1209 = 1#1), ∀ a, (k0_off169 v1208) a + S128x1024.size a ≤ S8192x1024.size a := fun v1208 v1209 k0_hw34 k0_h205 => k0_hw34.2.2.2.2.2.2.2.1 k0_h205
theorem k0_mult170_dvd : ∀ (v1208 : BitVec 32) (v1209 : BitVec 32) (k0_hw34 : k0_chk34 v1208 v1209), ∀ (k0_h206 : k0_cond206 v1208 v1209 = 1#1), 128 ∣ (k0_mult170 v1208).toNat := fun v1208 v1209 k0_hw34 k0_h206 => k0_hw34.2.2.2.2.2.2.2.2.1 k0_h206
theorem k0_off170_inb : ∀ (v1208 : BitVec 32) (v1209 : BitVec 32) (k0_hw34 : k0_chk34 v1208 v1209), ∀ (k0_h206 : k0_cond206 v1208 v1209 = 1#1), ∀ a, (k0_off170 v1208) a + S128x1024.size a ≤ S8192x1024.size a := fun v1208 v1209 k0_hw34 k0_h206 => k0_hw34.2.2.2.2.2.2.2.2.2 k0_h206

def k0_mult171 (v1248 : BitVec 32) : BitVec 32 :=
  let c512_i32_1732 : BitVec 32 := 512#32
  let v2752 : BitVec 32 := Scalar.addi v1248 c512_i32_1732
  v2752
def k0_cond210 (v1248 : BitVec 32) (v1249 : BitVec 32) : BitVec 1 :=
  let v1250 : BitVec 32 := Scalar.subi v1249 v1248
  let c1024_i32_727 : BitVec 32 := 1024#32
  let v1251 : BitVec 1 := Scalar.cmpi .sge v1250 c1024_i32_727
  let v1255 : BitVec 32 := Scalar.extui v1251
  let c0_i32_730 : BitVec 32 := 0#32
  let v1256 : BitVec 1 := Scalar.cmpi .ne v1255 c0_i32_730
  v1256

def k0_off171 (v1248 : BitVec 32) : Fin 2 → Nat :=
  let c512_i32_1732 : BitVec 32 := 512#32
  let v2752 : BitVec 32 := Scalar.addi v1248 c512_i32_1732
  let v2753 : BitVec 32 := v2752
  let c0_i32_1737 : BitVec 32 := 0#32
  ![v2753.toNat, 0]
def k0_mult172 (v1248 : BitVec 32) : BitVec 32 :=
  let c512_i32_1732 : BitVec 32 := 512#32
  let v2752 : BitVec 32 := Scalar.addi v1248 c512_i32_1732
  v2752
def k0_cond211 (v1248 : BitVec 32) (v1249 : BitVec 32) : BitVec 1 :=
  let v1250 : BitVec 32 := Scalar.subi v1249 v1248
  let c512_i32_728 : BitVec 32 := 512#32
  let v1252 : BitVec 1 := Scalar.cmpi .sgt v1250 c512_i32_728
  let c1024_i32_727 : BitVec 32 := 1024#32
  let v1251 : BitVec 1 := Scalar.cmpi .sge v1250 c1024_i32_727
  let true_729 : BitVec 1 := 1#1
  let v1253 : BitVec 1 := Scalar.xori v1251 true_729
  let v1254 : BitVec 1 := Scalar.andi v1252 v1253
  let c512_i32_731 : BitVec 32 := 512#32
  let v1257 : BitVec 1 := Scalar.cmpi .sgt v1250 c512_i32_731
  let v1258 : BitVec 1 := Scalar.andi v1254 v1257
  let v1259 : BitVec 32 := Scalar.extui v1258
  let c0_i32_732 : BitVec 32 := 0#32
  let v1260 : BitVec 1 := Scalar.cmpi .ne v1259 c0_i32_732
  v1260

def k0_off172 (v1248 : BitVec 32) : Fin 2 → Nat :=
  let c512_i32_1732 : BitVec 32 := 512#32
  let v2752 : BitVec 32 := Scalar.addi v1248 c512_i32_1732
  let v2753 : BitVec 32 := v2752
  let c0_i32_1737 : BitVec 32 := 0#32
  ![v2753.toNat, 0]
def k0_mult173 (v1248 : BitVec 32) : BitVec 32 :=
  let c640_i32_1732 : BitVec 32 := 640#32
  let v2752 : BitVec 32 := Scalar.addi v1248 c640_i32_1732
  v2752
def k0_cond212 (v1248 : BitVec 32) (v1249 : BitVec 32) : BitVec 1 :=
  let v1250 : BitVec 32 := Scalar.subi v1249 v1248
  let c512_i32_728 : BitVec 32 := 512#32
  let v1252 : BitVec 1 := Scalar.cmpi .sgt v1250 c512_i32_728
  let c1024_i32_727 : BitVec 32 := 1024#32
  let v1251 : BitVec 1 := Scalar.cmpi .sge v1250 c1024_i32_727
  let true_729 : BitVec 1 := 1#1
  let v1253 : BitVec 1 := Scalar.xori v1251 true_729
  let v1254 : BitVec 1 := Scalar.andi v1252 v1253
  let c640_i32_733 : BitVec 32 := 640#32
  let v1261 : BitVec 1 := Scalar.cmpi .sgt v1250 c640_i32_733
  let v1262 : BitVec 1 := Scalar.andi v1254 v1261
  let v1263 : BitVec 32 := Scalar.extui v1262
  let c0_i32_734 : BitVec 32 := 0#32
  let v1264 : BitVec 1 := Scalar.cmpi .ne v1263 c0_i32_734
  v1264

def k0_off173 (v1248 : BitVec 32) : Fin 2 → Nat :=
  let c640_i32_1732 : BitVec 32 := 640#32
  let v2752 : BitVec 32 := Scalar.addi v1248 c640_i32_1732
  let v2753 : BitVec 32 := v2752
  let c0_i32_1737 : BitVec 32 := 0#32
  ![v2753.toNat, 0]
def k0_mult174 (v1248 : BitVec 32) : BitVec 32 :=
  let c768_i32_1732 : BitVec 32 := 768#32
  let v2752 : BitVec 32 := Scalar.addi v1248 c768_i32_1732
  v2752
def k0_cond213 (v1248 : BitVec 32) (v1249 : BitVec 32) : BitVec 1 :=
  let v1250 : BitVec 32 := Scalar.subi v1249 v1248
  let c512_i32_728 : BitVec 32 := 512#32
  let v1252 : BitVec 1 := Scalar.cmpi .sgt v1250 c512_i32_728
  let c1024_i32_727 : BitVec 32 := 1024#32
  let v1251 : BitVec 1 := Scalar.cmpi .sge v1250 c1024_i32_727
  let true_729 : BitVec 1 := 1#1
  let v1253 : BitVec 1 := Scalar.xori v1251 true_729
  let v1254 : BitVec 1 := Scalar.andi v1252 v1253
  let c768_i32_735 : BitVec 32 := 768#32
  let v1265 : BitVec 1 := Scalar.cmpi .sgt v1250 c768_i32_735
  let v1266 : BitVec 1 := Scalar.andi v1254 v1265
  let v1267 : BitVec 32 := Scalar.extui v1266
  let c0_i32_736 : BitVec 32 := 0#32
  let v1268 : BitVec 1 := Scalar.cmpi .ne v1267 c0_i32_736
  v1268

def k0_off174 (v1248 : BitVec 32) : Fin 2 → Nat :=
  let c768_i32_1732 : BitVec 32 := 768#32
  let v2752 : BitVec 32 := Scalar.addi v1248 c768_i32_1732
  let v2753 : BitVec 32 := v2752
  let c0_i32_1737 : BitVec 32 := 0#32
  ![v2753.toNat, 0]
def k0_mult175 (v1248 : BitVec 32) : BitVec 32 :=
  let c896_i32_1732 : BitVec 32 := 896#32
  let v2752 : BitVec 32 := Scalar.addi v1248 c896_i32_1732
  v2752
def k0_cond214 (v1248 : BitVec 32) (v1249 : BitVec 32) : BitVec 1 :=
  let v1250 : BitVec 32 := Scalar.subi v1249 v1248
  let c512_i32_728 : BitVec 32 := 512#32
  let v1252 : BitVec 1 := Scalar.cmpi .sgt v1250 c512_i32_728
  let c1024_i32_727 : BitVec 32 := 1024#32
  let v1251 : BitVec 1 := Scalar.cmpi .sge v1250 c1024_i32_727
  let true_729 : BitVec 1 := 1#1
  let v1253 : BitVec 1 := Scalar.xori v1251 true_729
  let v1254 : BitVec 1 := Scalar.andi v1252 v1253
  let c896_i32_737 : BitVec 32 := 896#32
  let v1269 : BitVec 1 := Scalar.cmpi .sgt v1250 c896_i32_737
  let v1270 : BitVec 1 := Scalar.andi v1254 v1269
  let v1271 : BitVec 32 := Scalar.extui v1270
  let c0_i32_738 : BitVec 32 := 0#32
  let v1272 : BitVec 1 := Scalar.cmpi .ne v1271 c0_i32_738
  v1272

def k0_off175 (v1248 : BitVec 32) : Fin 2 → Nat :=
  let c896_i32_1732 : BitVec 32 := 896#32
  let v2752 : BitVec 32 := Scalar.addi v1248 c896_i32_1732
  let v2753 : BitVec 32 := v2752
  let c0_i32_1737 : BitVec 32 := 0#32
  ![v2753.toNat, 0]

def k0_chk35 (v1248 : BitVec 32) (v1249 : BitVec 32) : Prop :=
  (∀ (k0_h210 : k0_cond210 v1248 v1249 = 1#1), 128 ∣ (k0_mult171 v1248).toNat) ∧
  (∀ (k0_h210 : k0_cond210 v1248 v1249 = 1#1), ∀ a, (k0_off171 v1248) a + S512x1024.size a ≤ S8192x1024.size a) ∧
  (∀ (k0_h211 : k0_cond211 v1248 v1249 = 1#1), 128 ∣ (k0_mult172 v1248).toNat) ∧
  (∀ (k0_h211 : k0_cond211 v1248 v1249 = 1#1), ∀ a, (k0_off172 v1248) a + S128x1024.size a ≤ S8192x1024.size a) ∧
  (∀ (k0_h212 : k0_cond212 v1248 v1249 = 1#1), 128 ∣ (k0_mult173 v1248).toNat) ∧
  (∀ (k0_h212 : k0_cond212 v1248 v1249 = 1#1), ∀ a, (k0_off173 v1248) a + S128x1024.size a ≤ S8192x1024.size a) ∧
  (∀ (k0_h213 : k0_cond213 v1248 v1249 = 1#1), 128 ∣ (k0_mult174 v1248).toNat) ∧
  (∀ (k0_h213 : k0_cond213 v1248 v1249 = 1#1), ∀ a, (k0_off174 v1248) a + S128x1024.size a ≤ S8192x1024.size a) ∧
  (∀ (k0_h214 : k0_cond214 v1248 v1249 = 1#1), 128 ∣ (k0_mult175 v1248).toNat) ∧
  (∀ (k0_h214 : k0_cond214 v1248 v1249 = 1#1), ∀ a, (k0_off175 v1248) a + S128x1024.size a ≤ S8192x1024.size a)
theorem k0_mult171_dvd : ∀ (v1248 : BitVec 32) (v1249 : BitVec 32) (k0_hw35 : k0_chk35 v1248 v1249), ∀ (k0_h210 : k0_cond210 v1248 v1249 = 1#1), 128 ∣ (k0_mult171 v1248).toNat := fun v1248 v1249 k0_hw35 k0_h210 => k0_hw35.1 k0_h210
theorem k0_off171_inb : ∀ (v1248 : BitVec 32) (v1249 : BitVec 32) (k0_hw35 : k0_chk35 v1248 v1249), ∀ (k0_h210 : k0_cond210 v1248 v1249 = 1#1), ∀ a, (k0_off171 v1248) a + S512x1024.size a ≤ S8192x1024.size a := fun v1248 v1249 k0_hw35 k0_h210 => k0_hw35.2.1 k0_h210
theorem k0_mult172_dvd : ∀ (v1248 : BitVec 32) (v1249 : BitVec 32) (k0_hw35 : k0_chk35 v1248 v1249), ∀ (k0_h211 : k0_cond211 v1248 v1249 = 1#1), 128 ∣ (k0_mult172 v1248).toNat := fun v1248 v1249 k0_hw35 k0_h211 => k0_hw35.2.2.1 k0_h211
theorem k0_off172_inb : ∀ (v1248 : BitVec 32) (v1249 : BitVec 32) (k0_hw35 : k0_chk35 v1248 v1249), ∀ (k0_h211 : k0_cond211 v1248 v1249 = 1#1), ∀ a, (k0_off172 v1248) a + S128x1024.size a ≤ S8192x1024.size a := fun v1248 v1249 k0_hw35 k0_h211 => k0_hw35.2.2.2.1 k0_h211
theorem k0_mult173_dvd : ∀ (v1248 : BitVec 32) (v1249 : BitVec 32) (k0_hw35 : k0_chk35 v1248 v1249), ∀ (k0_h212 : k0_cond212 v1248 v1249 = 1#1), 128 ∣ (k0_mult173 v1248).toNat := fun v1248 v1249 k0_hw35 k0_h212 => k0_hw35.2.2.2.2.1 k0_h212
theorem k0_off173_inb : ∀ (v1248 : BitVec 32) (v1249 : BitVec 32) (k0_hw35 : k0_chk35 v1248 v1249), ∀ (k0_h212 : k0_cond212 v1248 v1249 = 1#1), ∀ a, (k0_off173 v1248) a + S128x1024.size a ≤ S8192x1024.size a := fun v1248 v1249 k0_hw35 k0_h212 => k0_hw35.2.2.2.2.2.1 k0_h212
theorem k0_mult174_dvd : ∀ (v1248 : BitVec 32) (v1249 : BitVec 32) (k0_hw35 : k0_chk35 v1248 v1249), ∀ (k0_h213 : k0_cond213 v1248 v1249 = 1#1), 128 ∣ (k0_mult174 v1248).toNat := fun v1248 v1249 k0_hw35 k0_h213 => k0_hw35.2.2.2.2.2.2.1 k0_h213
theorem k0_off174_inb : ∀ (v1248 : BitVec 32) (v1249 : BitVec 32) (k0_hw35 : k0_chk35 v1248 v1249), ∀ (k0_h213 : k0_cond213 v1248 v1249 = 1#1), ∀ a, (k0_off174 v1248) a + S128x1024.size a ≤ S8192x1024.size a := fun v1248 v1249 k0_hw35 k0_h213 => k0_hw35.2.2.2.2.2.2.2.1 k0_h213
theorem k0_mult175_dvd : ∀ (v1248 : BitVec 32) (v1249 : BitVec 32) (k0_hw35 : k0_chk35 v1248 v1249), ∀ (k0_h214 : k0_cond214 v1248 v1249 = 1#1), 128 ∣ (k0_mult175 v1248).toNat := fun v1248 v1249 k0_hw35 k0_h214 => k0_hw35.2.2.2.2.2.2.2.2.1 k0_h214
theorem k0_off175_inb : ∀ (v1248 : BitVec 32) (v1249 : BitVec 32) (k0_hw35 : k0_chk35 v1248 v1249), ∀ (k0_h214 : k0_cond214 v1248 v1249 = 1#1), ∀ a, (k0_off175 v1248) a + S128x1024.size a ≤ S8192x1024.size a := fun v1248 v1249 k0_hw35 k0_h214 => k0_hw35.2.2.2.2.2.2.2.2.2 k0_h214

def k0_mult176 (v1294 : BitVec 32) : BitVec 32 :=
  let c512_i32_1732 : BitVec 32 := 512#32
  let v2752 : BitVec 32 := Scalar.addi v1294 c512_i32_1732
  v2752
def k0_cond215 (v1294 : BitVec 32) (v1295 : BitVec 32) : BitVec 1 :=
  let v1296 : BitVec 32 := Scalar.subi v1295 v1294
  let c1024_i32_756 : BitVec 32 := 1024#32
  let v1297 : BitVec 1 := Scalar.cmpi .sge v1296 c1024_i32_756
  let v1301 : BitVec 32 := Scalar.extui v1297
  let c0_i32_759 : BitVec 32 := 0#32
  let v1302 : BitVec 1 := Scalar.cmpi .ne v1301 c0_i32_759
  v1302

def k0_off176 (v1294 : BitVec 32) : Fin 2 → Nat :=
  let c512_i32_1732 : BitVec 32 := 512#32
  let v2752 : BitVec 32 := Scalar.addi v1294 c512_i32_1732
  let v2753 : BitVec 32 := v2752
  let c0_i32_1737 : BitVec 32 := 0#32
  ![v2753.toNat, 0]
def k0_mult177 (v1294 : BitVec 32) : BitVec 32 :=
  let c512_i32_1732 : BitVec 32 := 512#32
  let v2752 : BitVec 32 := Scalar.addi v1294 c512_i32_1732
  v2752
def k0_cond216 (v1294 : BitVec 32) (v1295 : BitVec 32) : BitVec 1 :=
  let v1296 : BitVec 32 := Scalar.subi v1295 v1294
  let c512_i32_757 : BitVec 32 := 512#32
  let v1298 : BitVec 1 := Scalar.cmpi .sgt v1296 c512_i32_757
  let c1024_i32_756 : BitVec 32 := 1024#32
  let v1297 : BitVec 1 := Scalar.cmpi .sge v1296 c1024_i32_756
  let true_758 : BitVec 1 := 1#1
  let v1299 : BitVec 1 := Scalar.xori v1297 true_758
  let v1300 : BitVec 1 := Scalar.andi v1298 v1299
  let c512_i32_760 : BitVec 32 := 512#32
  let v1303 : BitVec 1 := Scalar.cmpi .sgt v1296 c512_i32_760
  let v1304 : BitVec 1 := Scalar.andi v1300 v1303
  let v1305 : BitVec 32 := Scalar.extui v1304
  let c0_i32_761 : BitVec 32 := 0#32
  let v1306 : BitVec 1 := Scalar.cmpi .ne v1305 c0_i32_761
  v1306

def k0_off177 (v1294 : BitVec 32) : Fin 2 → Nat :=
  let c512_i32_1732 : BitVec 32 := 512#32
  let v2752 : BitVec 32 := Scalar.addi v1294 c512_i32_1732
  let v2753 : BitVec 32 := v2752
  let c0_i32_1737 : BitVec 32 := 0#32
  ![v2753.toNat, 0]
def k0_mult178 (v1294 : BitVec 32) : BitVec 32 :=
  let c640_i32_1732 : BitVec 32 := 640#32
  let v2752 : BitVec 32 := Scalar.addi v1294 c640_i32_1732
  v2752
def k0_cond217 (v1294 : BitVec 32) (v1295 : BitVec 32) : BitVec 1 :=
  let v1296 : BitVec 32 := Scalar.subi v1295 v1294
  let c512_i32_757 : BitVec 32 := 512#32
  let v1298 : BitVec 1 := Scalar.cmpi .sgt v1296 c512_i32_757
  let c1024_i32_756 : BitVec 32 := 1024#32
  let v1297 : BitVec 1 := Scalar.cmpi .sge v1296 c1024_i32_756
  let true_758 : BitVec 1 := 1#1
  let v1299 : BitVec 1 := Scalar.xori v1297 true_758
  let v1300 : BitVec 1 := Scalar.andi v1298 v1299
  let c640_i32_762 : BitVec 32 := 640#32
  let v1307 : BitVec 1 := Scalar.cmpi .sgt v1296 c640_i32_762
  let v1308 : BitVec 1 := Scalar.andi v1300 v1307
  let v1309 : BitVec 32 := Scalar.extui v1308
  let c0_i32_763 : BitVec 32 := 0#32
  let v1310 : BitVec 1 := Scalar.cmpi .ne v1309 c0_i32_763
  v1310

def k0_off178 (v1294 : BitVec 32) : Fin 2 → Nat :=
  let c640_i32_1732 : BitVec 32 := 640#32
  let v2752 : BitVec 32 := Scalar.addi v1294 c640_i32_1732
  let v2753 : BitVec 32 := v2752
  let c0_i32_1737 : BitVec 32 := 0#32
  ![v2753.toNat, 0]
def k0_mult179 (v1294 : BitVec 32) : BitVec 32 :=
  let c768_i32_1732 : BitVec 32 := 768#32
  let v2752 : BitVec 32 := Scalar.addi v1294 c768_i32_1732
  v2752
def k0_cond218 (v1294 : BitVec 32) (v1295 : BitVec 32) : BitVec 1 :=
  let v1296 : BitVec 32 := Scalar.subi v1295 v1294
  let c512_i32_757 : BitVec 32 := 512#32
  let v1298 : BitVec 1 := Scalar.cmpi .sgt v1296 c512_i32_757
  let c1024_i32_756 : BitVec 32 := 1024#32
  let v1297 : BitVec 1 := Scalar.cmpi .sge v1296 c1024_i32_756
  let true_758 : BitVec 1 := 1#1
  let v1299 : BitVec 1 := Scalar.xori v1297 true_758
  let v1300 : BitVec 1 := Scalar.andi v1298 v1299
  let c768_i32_764 : BitVec 32 := 768#32
  let v1311 : BitVec 1 := Scalar.cmpi .sgt v1296 c768_i32_764
  let v1312 : BitVec 1 := Scalar.andi v1300 v1311
  let v1313 : BitVec 32 := Scalar.extui v1312
  let c0_i32_765 : BitVec 32 := 0#32
  let v1314 : BitVec 1 := Scalar.cmpi .ne v1313 c0_i32_765
  v1314

def k0_off179 (v1294 : BitVec 32) : Fin 2 → Nat :=
  let c768_i32_1732 : BitVec 32 := 768#32
  let v2752 : BitVec 32 := Scalar.addi v1294 c768_i32_1732
  let v2753 : BitVec 32 := v2752
  let c0_i32_1737 : BitVec 32 := 0#32
  ![v2753.toNat, 0]
def k0_mult180 (v1294 : BitVec 32) : BitVec 32 :=
  let c896_i32_1732 : BitVec 32 := 896#32
  let v2752 : BitVec 32 := Scalar.addi v1294 c896_i32_1732
  v2752
def k0_cond219 (v1294 : BitVec 32) (v1295 : BitVec 32) : BitVec 1 :=
  let v1296 : BitVec 32 := Scalar.subi v1295 v1294
  let c512_i32_757 : BitVec 32 := 512#32
  let v1298 : BitVec 1 := Scalar.cmpi .sgt v1296 c512_i32_757
  let c1024_i32_756 : BitVec 32 := 1024#32
  let v1297 : BitVec 1 := Scalar.cmpi .sge v1296 c1024_i32_756
  let true_758 : BitVec 1 := 1#1
  let v1299 : BitVec 1 := Scalar.xori v1297 true_758
  let v1300 : BitVec 1 := Scalar.andi v1298 v1299
  let c896_i32_766 : BitVec 32 := 896#32
  let v1315 : BitVec 1 := Scalar.cmpi .sgt v1296 c896_i32_766
  let v1316 : BitVec 1 := Scalar.andi v1300 v1315
  let v1317 : BitVec 32 := Scalar.extui v1316
  let c0_i32_767 : BitVec 32 := 0#32
  let v1318 : BitVec 1 := Scalar.cmpi .ne v1317 c0_i32_767
  v1318

def k0_off180 (v1294 : BitVec 32) : Fin 2 → Nat :=
  let c896_i32_1732 : BitVec 32 := 896#32
  let v2752 : BitVec 32 := Scalar.addi v1294 c896_i32_1732
  let v2753 : BitVec 32 := v2752
  let c0_i32_1737 : BitVec 32 := 0#32
  ![v2753.toNat, 0]

def k0_chk36 (v1294 : BitVec 32) (v1295 : BitVec 32) : Prop :=
  (∀ (k0_h215 : k0_cond215 v1294 v1295 = 1#1), 128 ∣ (k0_mult176 v1294).toNat) ∧
  (∀ (k0_h215 : k0_cond215 v1294 v1295 = 1#1), ∀ a, (k0_off176 v1294) a + S512x1024.size a ≤ S8192x1024.size a) ∧
  (∀ (k0_h216 : k0_cond216 v1294 v1295 = 1#1), 128 ∣ (k0_mult177 v1294).toNat) ∧
  (∀ (k0_h216 : k0_cond216 v1294 v1295 = 1#1), ∀ a, (k0_off177 v1294) a + S128x1024.size a ≤ S8192x1024.size a) ∧
  (∀ (k0_h217 : k0_cond217 v1294 v1295 = 1#1), 128 ∣ (k0_mult178 v1294).toNat) ∧
  (∀ (k0_h217 : k0_cond217 v1294 v1295 = 1#1), ∀ a, (k0_off178 v1294) a + S128x1024.size a ≤ S8192x1024.size a) ∧
  (∀ (k0_h218 : k0_cond218 v1294 v1295 = 1#1), 128 ∣ (k0_mult179 v1294).toNat) ∧
  (∀ (k0_h218 : k0_cond218 v1294 v1295 = 1#1), ∀ a, (k0_off179 v1294) a + S128x1024.size a ≤ S8192x1024.size a) ∧
  (∀ (k0_h219 : k0_cond219 v1294 v1295 = 1#1), 128 ∣ (k0_mult180 v1294).toNat) ∧
  (∀ (k0_h219 : k0_cond219 v1294 v1295 = 1#1), ∀ a, (k0_off180 v1294) a + S128x1024.size a ≤ S8192x1024.size a)
theorem k0_mult176_dvd : ∀ (v1294 : BitVec 32) (v1295 : BitVec 32) (k0_hw36 : k0_chk36 v1294 v1295), ∀ (k0_h215 : k0_cond215 v1294 v1295 = 1#1), 128 ∣ (k0_mult176 v1294).toNat := fun v1294 v1295 k0_hw36 k0_h215 => k0_hw36.1 k0_h215
theorem k0_off176_inb : ∀ (v1294 : BitVec 32) (v1295 : BitVec 32) (k0_hw36 : k0_chk36 v1294 v1295), ∀ (k0_h215 : k0_cond215 v1294 v1295 = 1#1), ∀ a, (k0_off176 v1294) a + S512x1024.size a ≤ S8192x1024.size a := fun v1294 v1295 k0_hw36 k0_h215 => k0_hw36.2.1 k0_h215
theorem k0_mult177_dvd : ∀ (v1294 : BitVec 32) (v1295 : BitVec 32) (k0_hw36 : k0_chk36 v1294 v1295), ∀ (k0_h216 : k0_cond216 v1294 v1295 = 1#1), 128 ∣ (k0_mult177 v1294).toNat := fun v1294 v1295 k0_hw36 k0_h216 => k0_hw36.2.2.1 k0_h216
theorem k0_off177_inb : ∀ (v1294 : BitVec 32) (v1295 : BitVec 32) (k0_hw36 : k0_chk36 v1294 v1295), ∀ (k0_h216 : k0_cond216 v1294 v1295 = 1#1), ∀ a, (k0_off177 v1294) a + S128x1024.size a ≤ S8192x1024.size a := fun v1294 v1295 k0_hw36 k0_h216 => k0_hw36.2.2.2.1 k0_h216
theorem k0_mult178_dvd : ∀ (v1294 : BitVec 32) (v1295 : BitVec 32) (k0_hw36 : k0_chk36 v1294 v1295), ∀ (k0_h217 : k0_cond217 v1294 v1295 = 1#1), 128 ∣ (k0_mult178 v1294).toNat := fun v1294 v1295 k0_hw36 k0_h217 => k0_hw36.2.2.2.2.1 k0_h217
theorem k0_off178_inb : ∀ (v1294 : BitVec 32) (v1295 : BitVec 32) (k0_hw36 : k0_chk36 v1294 v1295), ∀ (k0_h217 : k0_cond217 v1294 v1295 = 1#1), ∀ a, (k0_off178 v1294) a + S128x1024.size a ≤ S8192x1024.size a := fun v1294 v1295 k0_hw36 k0_h217 => k0_hw36.2.2.2.2.2.1 k0_h217
theorem k0_mult179_dvd : ∀ (v1294 : BitVec 32) (v1295 : BitVec 32) (k0_hw36 : k0_chk36 v1294 v1295), ∀ (k0_h218 : k0_cond218 v1294 v1295 = 1#1), 128 ∣ (k0_mult179 v1294).toNat := fun v1294 v1295 k0_hw36 k0_h218 => k0_hw36.2.2.2.2.2.2.1 k0_h218
theorem k0_off179_inb : ∀ (v1294 : BitVec 32) (v1295 : BitVec 32) (k0_hw36 : k0_chk36 v1294 v1295), ∀ (k0_h218 : k0_cond218 v1294 v1295 = 1#1), ∀ a, (k0_off179 v1294) a + S128x1024.size a ≤ S8192x1024.size a := fun v1294 v1295 k0_hw36 k0_h218 => k0_hw36.2.2.2.2.2.2.2.1 k0_h218
theorem k0_mult180_dvd : ∀ (v1294 : BitVec 32) (v1295 : BitVec 32) (k0_hw36 : k0_chk36 v1294 v1295), ∀ (k0_h219 : k0_cond219 v1294 v1295 = 1#1), 128 ∣ (k0_mult180 v1294).toNat := fun v1294 v1295 k0_hw36 k0_h219 => k0_hw36.2.2.2.2.2.2.2.2.1 k0_h219
theorem k0_off180_inb : ∀ (v1294 : BitVec 32) (v1295 : BitVec 32) (k0_hw36 : k0_chk36 v1294 v1295), ∀ (k0_h219 : k0_cond219 v1294 v1295 = 1#1), ∀ a, (k0_off180 v1294) a + S128x1024.size a ≤ S8192x1024.size a := fun v1294 v1295 k0_hw36 k0_h219 => k0_hw36.2.2.2.2.2.2.2.2.2 k0_h219

def k0_mult181 (v1334 : BitVec 32) : BitVec 32 :=
  let c1024_i32_1732 : BitVec 32 := 1024#32
  let v2752 : BitVec 32 := Scalar.addi v1334 c1024_i32_1732
  v2752
def k0_cond223 (v1334 : BitVec 32) (v1335 : BitVec 32) : BitVec 1 :=
  let v1336 : BitVec 32 := Scalar.subi v1335 v1334
  let c1536_i32_782 : BitVec 32 := 1536#32
  let v1337 : BitVec 1 := Scalar.cmpi .sge v1336 c1536_i32_782
  let v1341 : BitVec 32 := Scalar.extui v1337
  let c0_i32_785 : BitVec 32 := 0#32
  let v1342 : BitVec 1 := Scalar.cmpi .ne v1341 c0_i32_785
  v1342

def k0_off181 (v1334 : BitVec 32) : Fin 2 → Nat :=
  let c1024_i32_1732 : BitVec 32 := 1024#32
  let v2752 : BitVec 32 := Scalar.addi v1334 c1024_i32_1732
  let v2753 : BitVec 32 := v2752
  let c0_i32_1737 : BitVec 32 := 0#32
  ![v2753.toNat, 0]
def k0_mult182 (v1334 : BitVec 32) : BitVec 32 :=
  let c1024_i32_1732 : BitVec 32 := 1024#32
  let v2752 : BitVec 32 := Scalar.addi v1334 c1024_i32_1732
  v2752
def k0_cond224 (v1334 : BitVec 32) (v1335 : BitVec 32) : BitVec 1 :=
  let v1336 : BitVec 32 := Scalar.subi v1335 v1334
  let c1024_i32_783 : BitVec 32 := 1024#32
  let v1338 : BitVec 1 := Scalar.cmpi .sgt v1336 c1024_i32_783
  let c1536_i32_782 : BitVec 32 := 1536#32
  let v1337 : BitVec 1 := Scalar.cmpi .sge v1336 c1536_i32_782
  let true_784 : BitVec 1 := 1#1
  let v1339 : BitVec 1 := Scalar.xori v1337 true_784
  let v1340 : BitVec 1 := Scalar.andi v1338 v1339
  let c1024_i32_786 : BitVec 32 := 1024#32
  let v1343 : BitVec 1 := Scalar.cmpi .sgt v1336 c1024_i32_786
  let v1344 : BitVec 1 := Scalar.andi v1340 v1343
  let v1345 : BitVec 32 := Scalar.extui v1344
  let c0_i32_787 : BitVec 32 := 0#32
  let v1346 : BitVec 1 := Scalar.cmpi .ne v1345 c0_i32_787
  v1346

def k0_off182 (v1334 : BitVec 32) : Fin 2 → Nat :=
  let c1024_i32_1732 : BitVec 32 := 1024#32
  let v2752 : BitVec 32 := Scalar.addi v1334 c1024_i32_1732
  let v2753 : BitVec 32 := v2752
  let c0_i32_1737 : BitVec 32 := 0#32
  ![v2753.toNat, 0]
def k0_mult183 (v1334 : BitVec 32) : BitVec 32 :=
  let c1152_i32_1732 : BitVec 32 := 1152#32
  let v2752 : BitVec 32 := Scalar.addi v1334 c1152_i32_1732
  v2752
def k0_cond225 (v1334 : BitVec 32) (v1335 : BitVec 32) : BitVec 1 :=
  let v1336 : BitVec 32 := Scalar.subi v1335 v1334
  let c1024_i32_783 : BitVec 32 := 1024#32
  let v1338 : BitVec 1 := Scalar.cmpi .sgt v1336 c1024_i32_783
  let c1536_i32_782 : BitVec 32 := 1536#32
  let v1337 : BitVec 1 := Scalar.cmpi .sge v1336 c1536_i32_782
  let true_784 : BitVec 1 := 1#1
  let v1339 : BitVec 1 := Scalar.xori v1337 true_784
  let v1340 : BitVec 1 := Scalar.andi v1338 v1339
  let c1152_i32_788 : BitVec 32 := 1152#32
  let v1347 : BitVec 1 := Scalar.cmpi .sgt v1336 c1152_i32_788
  let v1348 : BitVec 1 := Scalar.andi v1340 v1347
  let v1349 : BitVec 32 := Scalar.extui v1348
  let c0_i32_789 : BitVec 32 := 0#32
  let v1350 : BitVec 1 := Scalar.cmpi .ne v1349 c0_i32_789
  v1350

def k0_off183 (v1334 : BitVec 32) : Fin 2 → Nat :=
  let c1152_i32_1732 : BitVec 32 := 1152#32
  let v2752 : BitVec 32 := Scalar.addi v1334 c1152_i32_1732
  let v2753 : BitVec 32 := v2752
  let c0_i32_1737 : BitVec 32 := 0#32
  ![v2753.toNat, 0]
def k0_mult184 (v1334 : BitVec 32) : BitVec 32 :=
  let c1280_i32_1732 : BitVec 32 := 1280#32
  let v2752 : BitVec 32 := Scalar.addi v1334 c1280_i32_1732
  v2752
def k0_cond226 (v1334 : BitVec 32) (v1335 : BitVec 32) : BitVec 1 :=
  let v1336 : BitVec 32 := Scalar.subi v1335 v1334
  let c1024_i32_783 : BitVec 32 := 1024#32
  let v1338 : BitVec 1 := Scalar.cmpi .sgt v1336 c1024_i32_783
  let c1536_i32_782 : BitVec 32 := 1536#32
  let v1337 : BitVec 1 := Scalar.cmpi .sge v1336 c1536_i32_782
  let true_784 : BitVec 1 := 1#1
  let v1339 : BitVec 1 := Scalar.xori v1337 true_784
  let v1340 : BitVec 1 := Scalar.andi v1338 v1339
  let c1280_i32_790 : BitVec 32 := 1280#32
  let v1351 : BitVec 1 := Scalar.cmpi .sgt v1336 c1280_i32_790
  let v1352 : BitVec 1 := Scalar.andi v1340 v1351
  let v1353 : BitVec 32 := Scalar.extui v1352
  let c0_i32_791 : BitVec 32 := 0#32
  let v1354 : BitVec 1 := Scalar.cmpi .ne v1353 c0_i32_791
  v1354

def k0_off184 (v1334 : BitVec 32) : Fin 2 → Nat :=
  let c1280_i32_1732 : BitVec 32 := 1280#32
  let v2752 : BitVec 32 := Scalar.addi v1334 c1280_i32_1732
  let v2753 : BitVec 32 := v2752
  let c0_i32_1737 : BitVec 32 := 0#32
  ![v2753.toNat, 0]
def k0_mult185 (v1334 : BitVec 32) : BitVec 32 :=
  let c1408_i32_1732 : BitVec 32 := 1408#32
  let v2752 : BitVec 32 := Scalar.addi v1334 c1408_i32_1732
  v2752
def k0_cond227 (v1334 : BitVec 32) (v1335 : BitVec 32) : BitVec 1 :=
  let v1336 : BitVec 32 := Scalar.subi v1335 v1334
  let c1024_i32_783 : BitVec 32 := 1024#32
  let v1338 : BitVec 1 := Scalar.cmpi .sgt v1336 c1024_i32_783
  let c1536_i32_782 : BitVec 32 := 1536#32
  let v1337 : BitVec 1 := Scalar.cmpi .sge v1336 c1536_i32_782
  let true_784 : BitVec 1 := 1#1
  let v1339 : BitVec 1 := Scalar.xori v1337 true_784
  let v1340 : BitVec 1 := Scalar.andi v1338 v1339
  let c1408_i32_792 : BitVec 32 := 1408#32
  let v1355 : BitVec 1 := Scalar.cmpi .sgt v1336 c1408_i32_792
  let v1356 : BitVec 1 := Scalar.andi v1340 v1355
  let v1357 : BitVec 32 := Scalar.extui v1356
  let c0_i32_793 : BitVec 32 := 0#32
  let v1358 : BitVec 1 := Scalar.cmpi .ne v1357 c0_i32_793
  v1358

def k0_off185 (v1334 : BitVec 32) : Fin 2 → Nat :=
  let c1408_i32_1732 : BitVec 32 := 1408#32
  let v2752 : BitVec 32 := Scalar.addi v1334 c1408_i32_1732
  let v2753 : BitVec 32 := v2752
  let c0_i32_1737 : BitVec 32 := 0#32
  ![v2753.toNat, 0]

def k0_chk37 (v1334 : BitVec 32) (v1335 : BitVec 32) : Prop :=
  (∀ (k0_h223 : k0_cond223 v1334 v1335 = 1#1), 128 ∣ (k0_mult181 v1334).toNat) ∧
  (∀ (k0_h223 : k0_cond223 v1334 v1335 = 1#1), ∀ a, (k0_off181 v1334) a + S512x1024.size a ≤ S8192x1024.size a) ∧
  (∀ (k0_h224 : k0_cond224 v1334 v1335 = 1#1), 128 ∣ (k0_mult182 v1334).toNat) ∧
  (∀ (k0_h224 : k0_cond224 v1334 v1335 = 1#1), ∀ a, (k0_off182 v1334) a + S128x1024.size a ≤ S8192x1024.size a) ∧
  (∀ (k0_h225 : k0_cond225 v1334 v1335 = 1#1), 128 ∣ (k0_mult183 v1334).toNat) ∧
  (∀ (k0_h225 : k0_cond225 v1334 v1335 = 1#1), ∀ a, (k0_off183 v1334) a + S128x1024.size a ≤ S8192x1024.size a) ∧
  (∀ (k0_h226 : k0_cond226 v1334 v1335 = 1#1), 128 ∣ (k0_mult184 v1334).toNat) ∧
  (∀ (k0_h226 : k0_cond226 v1334 v1335 = 1#1), ∀ a, (k0_off184 v1334) a + S128x1024.size a ≤ S8192x1024.size a) ∧
  (∀ (k0_h227 : k0_cond227 v1334 v1335 = 1#1), 128 ∣ (k0_mult185 v1334).toNat) ∧
  (∀ (k0_h227 : k0_cond227 v1334 v1335 = 1#1), ∀ a, (k0_off185 v1334) a + S128x1024.size a ≤ S8192x1024.size a)
theorem k0_mult181_dvd : ∀ (v1334 : BitVec 32) (v1335 : BitVec 32) (k0_hw37 : k0_chk37 v1334 v1335), ∀ (k0_h223 : k0_cond223 v1334 v1335 = 1#1), 128 ∣ (k0_mult181 v1334).toNat := fun v1334 v1335 k0_hw37 k0_h223 => k0_hw37.1 k0_h223
theorem k0_off181_inb : ∀ (v1334 : BitVec 32) (v1335 : BitVec 32) (k0_hw37 : k0_chk37 v1334 v1335), ∀ (k0_h223 : k0_cond223 v1334 v1335 = 1#1), ∀ a, (k0_off181 v1334) a + S512x1024.size a ≤ S8192x1024.size a := fun v1334 v1335 k0_hw37 k0_h223 => k0_hw37.2.1 k0_h223
theorem k0_mult182_dvd : ∀ (v1334 : BitVec 32) (v1335 : BitVec 32) (k0_hw37 : k0_chk37 v1334 v1335), ∀ (k0_h224 : k0_cond224 v1334 v1335 = 1#1), 128 ∣ (k0_mult182 v1334).toNat := fun v1334 v1335 k0_hw37 k0_h224 => k0_hw37.2.2.1 k0_h224
theorem k0_off182_inb : ∀ (v1334 : BitVec 32) (v1335 : BitVec 32) (k0_hw37 : k0_chk37 v1334 v1335), ∀ (k0_h224 : k0_cond224 v1334 v1335 = 1#1), ∀ a, (k0_off182 v1334) a + S128x1024.size a ≤ S8192x1024.size a := fun v1334 v1335 k0_hw37 k0_h224 => k0_hw37.2.2.2.1 k0_h224
theorem k0_mult183_dvd : ∀ (v1334 : BitVec 32) (v1335 : BitVec 32) (k0_hw37 : k0_chk37 v1334 v1335), ∀ (k0_h225 : k0_cond225 v1334 v1335 = 1#1), 128 ∣ (k0_mult183 v1334).toNat := fun v1334 v1335 k0_hw37 k0_h225 => k0_hw37.2.2.2.2.1 k0_h225
theorem k0_off183_inb : ∀ (v1334 : BitVec 32) (v1335 : BitVec 32) (k0_hw37 : k0_chk37 v1334 v1335), ∀ (k0_h225 : k0_cond225 v1334 v1335 = 1#1), ∀ a, (k0_off183 v1334) a + S128x1024.size a ≤ S8192x1024.size a := fun v1334 v1335 k0_hw37 k0_h225 => k0_hw37.2.2.2.2.2.1 k0_h225
theorem k0_mult184_dvd : ∀ (v1334 : BitVec 32) (v1335 : BitVec 32) (k0_hw37 : k0_chk37 v1334 v1335), ∀ (k0_h226 : k0_cond226 v1334 v1335 = 1#1), 128 ∣ (k0_mult184 v1334).toNat := fun v1334 v1335 k0_hw37 k0_h226 => k0_hw37.2.2.2.2.2.2.1 k0_h226
theorem k0_off184_inb : ∀ (v1334 : BitVec 32) (v1335 : BitVec 32) (k0_hw37 : k0_chk37 v1334 v1335), ∀ (k0_h226 : k0_cond226 v1334 v1335 = 1#1), ∀ a, (k0_off184 v1334) a + S128x1024.size a ≤ S8192x1024.size a := fun v1334 v1335 k0_hw37 k0_h226 => k0_hw37.2.2.2.2.2.2.2.1 k0_h226
theorem k0_mult185_dvd : ∀ (v1334 : BitVec 32) (v1335 : BitVec 32) (k0_hw37 : k0_chk37 v1334 v1335), ∀ (k0_h227 : k0_cond227 v1334 v1335 = 1#1), 128 ∣ (k0_mult185 v1334).toNat := fun v1334 v1335 k0_hw37 k0_h227 => k0_hw37.2.2.2.2.2.2.2.2.1 k0_h227
theorem k0_off185_inb : ∀ (v1334 : BitVec 32) (v1335 : BitVec 32) (k0_hw37 : k0_chk37 v1334 v1335), ∀ (k0_h227 : k0_cond227 v1334 v1335 = 1#1), ∀ a, (k0_off185 v1334) a + S128x1024.size a ≤ S8192x1024.size a := fun v1334 v1335 k0_hw37 k0_h227 => k0_hw37.2.2.2.2.2.2.2.2.2 k0_h227

def k0_mult186 (v1380 : BitVec 32) : BitVec 32 :=
  let c1024_i32_1732 : BitVec 32 := 1024#32
  let v2752 : BitVec 32 := Scalar.addi v1380 c1024_i32_1732
  v2752
def k0_cond228 (v1380 : BitVec 32) (v1381 : BitVec 32) : BitVec 1 :=
  let v1382 : BitVec 32 := Scalar.subi v1381 v1380
  let c1536_i32_811 : BitVec 32 := 1536#32
  let v1383 : BitVec 1 := Scalar.cmpi .sge v1382 c1536_i32_811
  let v1387 : BitVec 32 := Scalar.extui v1383
  let c0_i32_814 : BitVec 32 := 0#32
  let v1388 : BitVec 1 := Scalar.cmpi .ne v1387 c0_i32_814
  v1388

def k0_off186 (v1380 : BitVec 32) : Fin 2 → Nat :=
  let c1024_i32_1732 : BitVec 32 := 1024#32
  let v2752 : BitVec 32 := Scalar.addi v1380 c1024_i32_1732
  let v2753 : BitVec 32 := v2752
  let c0_i32_1737 : BitVec 32 := 0#32
  ![v2753.toNat, 0]
def k0_mult187 (v1380 : BitVec 32) : BitVec 32 :=
  let c1024_i32_1732 : BitVec 32 := 1024#32
  let v2752 : BitVec 32 := Scalar.addi v1380 c1024_i32_1732
  v2752
def k0_cond229 (v1380 : BitVec 32) (v1381 : BitVec 32) : BitVec 1 :=
  let v1382 : BitVec 32 := Scalar.subi v1381 v1380
  let c1024_i32_812 : BitVec 32 := 1024#32
  let v1384 : BitVec 1 := Scalar.cmpi .sgt v1382 c1024_i32_812
  let c1536_i32_811 : BitVec 32 := 1536#32
  let v1383 : BitVec 1 := Scalar.cmpi .sge v1382 c1536_i32_811
  let true_813 : BitVec 1 := 1#1
  let v1385 : BitVec 1 := Scalar.xori v1383 true_813
  let v1386 : BitVec 1 := Scalar.andi v1384 v1385
  let c1024_i32_815 : BitVec 32 := 1024#32
  let v1389 : BitVec 1 := Scalar.cmpi .sgt v1382 c1024_i32_815
  let v1390 : BitVec 1 := Scalar.andi v1386 v1389
  let v1391 : BitVec 32 := Scalar.extui v1390
  let c0_i32_816 : BitVec 32 := 0#32
  let v1392 : BitVec 1 := Scalar.cmpi .ne v1391 c0_i32_816
  v1392

def k0_off187 (v1380 : BitVec 32) : Fin 2 → Nat :=
  let c1024_i32_1732 : BitVec 32 := 1024#32
  let v2752 : BitVec 32 := Scalar.addi v1380 c1024_i32_1732
  let v2753 : BitVec 32 := v2752
  let c0_i32_1737 : BitVec 32 := 0#32
  ![v2753.toNat, 0]
def k0_mult188 (v1380 : BitVec 32) : BitVec 32 :=
  let c1152_i32_1732 : BitVec 32 := 1152#32
  let v2752 : BitVec 32 := Scalar.addi v1380 c1152_i32_1732
  v2752
def k0_cond230 (v1380 : BitVec 32) (v1381 : BitVec 32) : BitVec 1 :=
  let v1382 : BitVec 32 := Scalar.subi v1381 v1380
  let c1024_i32_812 : BitVec 32 := 1024#32
  let v1384 : BitVec 1 := Scalar.cmpi .sgt v1382 c1024_i32_812
  let c1536_i32_811 : BitVec 32 := 1536#32
  let v1383 : BitVec 1 := Scalar.cmpi .sge v1382 c1536_i32_811
  let true_813 : BitVec 1 := 1#1
  let v1385 : BitVec 1 := Scalar.xori v1383 true_813
  let v1386 : BitVec 1 := Scalar.andi v1384 v1385
  let c1152_i32_817 : BitVec 32 := 1152#32
  let v1393 : BitVec 1 := Scalar.cmpi .sgt v1382 c1152_i32_817
  let v1394 : BitVec 1 := Scalar.andi v1386 v1393
  let v1395 : BitVec 32 := Scalar.extui v1394
  let c0_i32_818 : BitVec 32 := 0#32
  let v1396 : BitVec 1 := Scalar.cmpi .ne v1395 c0_i32_818
  v1396

def k0_off188 (v1380 : BitVec 32) : Fin 2 → Nat :=
  let c1152_i32_1732 : BitVec 32 := 1152#32
  let v2752 : BitVec 32 := Scalar.addi v1380 c1152_i32_1732
  let v2753 : BitVec 32 := v2752
  let c0_i32_1737 : BitVec 32 := 0#32
  ![v2753.toNat, 0]
def k0_mult189 (v1380 : BitVec 32) : BitVec 32 :=
  let c1280_i32_1732 : BitVec 32 := 1280#32
  let v2752 : BitVec 32 := Scalar.addi v1380 c1280_i32_1732
  v2752
def k0_cond231 (v1380 : BitVec 32) (v1381 : BitVec 32) : BitVec 1 :=
  let v1382 : BitVec 32 := Scalar.subi v1381 v1380
  let c1024_i32_812 : BitVec 32 := 1024#32
  let v1384 : BitVec 1 := Scalar.cmpi .sgt v1382 c1024_i32_812
  let c1536_i32_811 : BitVec 32 := 1536#32
  let v1383 : BitVec 1 := Scalar.cmpi .sge v1382 c1536_i32_811
  let true_813 : BitVec 1 := 1#1
  let v1385 : BitVec 1 := Scalar.xori v1383 true_813
  let v1386 : BitVec 1 := Scalar.andi v1384 v1385
  let c1280_i32_819 : BitVec 32 := 1280#32
  let v1397 : BitVec 1 := Scalar.cmpi .sgt v1382 c1280_i32_819
  let v1398 : BitVec 1 := Scalar.andi v1386 v1397
  let v1399 : BitVec 32 := Scalar.extui v1398
  let c0_i32_820 : BitVec 32 := 0#32
  let v1400 : BitVec 1 := Scalar.cmpi .ne v1399 c0_i32_820
  v1400

def k0_off189 (v1380 : BitVec 32) : Fin 2 → Nat :=
  let c1280_i32_1732 : BitVec 32 := 1280#32
  let v2752 : BitVec 32 := Scalar.addi v1380 c1280_i32_1732
  let v2753 : BitVec 32 := v2752
  let c0_i32_1737 : BitVec 32 := 0#32
  ![v2753.toNat, 0]
def k0_mult190 (v1380 : BitVec 32) : BitVec 32 :=
  let c1408_i32_1732 : BitVec 32 := 1408#32
  let v2752 : BitVec 32 := Scalar.addi v1380 c1408_i32_1732
  v2752
def k0_cond232 (v1380 : BitVec 32) (v1381 : BitVec 32) : BitVec 1 :=
  let v1382 : BitVec 32 := Scalar.subi v1381 v1380
  let c1024_i32_812 : BitVec 32 := 1024#32
  let v1384 : BitVec 1 := Scalar.cmpi .sgt v1382 c1024_i32_812
  let c1536_i32_811 : BitVec 32 := 1536#32
  let v1383 : BitVec 1 := Scalar.cmpi .sge v1382 c1536_i32_811
  let true_813 : BitVec 1 := 1#1
  let v1385 : BitVec 1 := Scalar.xori v1383 true_813
  let v1386 : BitVec 1 := Scalar.andi v1384 v1385
  let c1408_i32_821 : BitVec 32 := 1408#32
  let v1401 : BitVec 1 := Scalar.cmpi .sgt v1382 c1408_i32_821
  let v1402 : BitVec 1 := Scalar.andi v1386 v1401
  let v1403 : BitVec 32 := Scalar.extui v1402
  let c0_i32_822 : BitVec 32 := 0#32
  let v1404 : BitVec 1 := Scalar.cmpi .ne v1403 c0_i32_822
  v1404

def k0_off190 (v1380 : BitVec 32) : Fin 2 → Nat :=
  let c1408_i32_1732 : BitVec 32 := 1408#32
  let v2752 : BitVec 32 := Scalar.addi v1380 c1408_i32_1732
  let v2753 : BitVec 32 := v2752
  let c0_i32_1737 : BitVec 32 := 0#32
  ![v2753.toNat, 0]

def k0_chk38 (v1380 : BitVec 32) (v1381 : BitVec 32) : Prop :=
  (∀ (k0_h228 : k0_cond228 v1380 v1381 = 1#1), 128 ∣ (k0_mult186 v1380).toNat) ∧
  (∀ (k0_h228 : k0_cond228 v1380 v1381 = 1#1), ∀ a, (k0_off186 v1380) a + S512x1024.size a ≤ S8192x1024.size a) ∧
  (∀ (k0_h229 : k0_cond229 v1380 v1381 = 1#1), 128 ∣ (k0_mult187 v1380).toNat) ∧
  (∀ (k0_h229 : k0_cond229 v1380 v1381 = 1#1), ∀ a, (k0_off187 v1380) a + S128x1024.size a ≤ S8192x1024.size a) ∧
  (∀ (k0_h230 : k0_cond230 v1380 v1381 = 1#1), 128 ∣ (k0_mult188 v1380).toNat) ∧
  (∀ (k0_h230 : k0_cond230 v1380 v1381 = 1#1), ∀ a, (k0_off188 v1380) a + S128x1024.size a ≤ S8192x1024.size a) ∧
  (∀ (k0_h231 : k0_cond231 v1380 v1381 = 1#1), 128 ∣ (k0_mult189 v1380).toNat) ∧
  (∀ (k0_h231 : k0_cond231 v1380 v1381 = 1#1), ∀ a, (k0_off189 v1380) a + S128x1024.size a ≤ S8192x1024.size a) ∧
  (∀ (k0_h232 : k0_cond232 v1380 v1381 = 1#1), 128 ∣ (k0_mult190 v1380).toNat) ∧
  (∀ (k0_h232 : k0_cond232 v1380 v1381 = 1#1), ∀ a, (k0_off190 v1380) a + S128x1024.size a ≤ S8192x1024.size a)
theorem k0_mult186_dvd : ∀ (v1380 : BitVec 32) (v1381 : BitVec 32) (k0_hw38 : k0_chk38 v1380 v1381), ∀ (k0_h228 : k0_cond228 v1380 v1381 = 1#1), 128 ∣ (k0_mult186 v1380).toNat := fun v1380 v1381 k0_hw38 k0_h228 => k0_hw38.1 k0_h228
theorem k0_off186_inb : ∀ (v1380 : BitVec 32) (v1381 : BitVec 32) (k0_hw38 : k0_chk38 v1380 v1381), ∀ (k0_h228 : k0_cond228 v1380 v1381 = 1#1), ∀ a, (k0_off186 v1380) a + S512x1024.size a ≤ S8192x1024.size a := fun v1380 v1381 k0_hw38 k0_h228 => k0_hw38.2.1 k0_h228
theorem k0_mult187_dvd : ∀ (v1380 : BitVec 32) (v1381 : BitVec 32) (k0_hw38 : k0_chk38 v1380 v1381), ∀ (k0_h229 : k0_cond229 v1380 v1381 = 1#1), 128 ∣ (k0_mult187 v1380).toNat := fun v1380 v1381 k0_hw38 k0_h229 => k0_hw38.2.2.1 k0_h229
theorem k0_off187_inb : ∀ (v1380 : BitVec 32) (v1381 : BitVec 32) (k0_hw38 : k0_chk38 v1380 v1381), ∀ (k0_h229 : k0_cond229 v1380 v1381 = 1#1), ∀ a, (k0_off187 v1380) a + S128x1024.size a ≤ S8192x1024.size a := fun v1380 v1381 k0_hw38 k0_h229 => k0_hw38.2.2.2.1 k0_h229
theorem k0_mult188_dvd : ∀ (v1380 : BitVec 32) (v1381 : BitVec 32) (k0_hw38 : k0_chk38 v1380 v1381), ∀ (k0_h230 : k0_cond230 v1380 v1381 = 1#1), 128 ∣ (k0_mult188 v1380).toNat := fun v1380 v1381 k0_hw38 k0_h230 => k0_hw38.2.2.2.2.1 k0_h230
theorem k0_off188_inb : ∀ (v1380 : BitVec 32) (v1381 : BitVec 32) (k0_hw38 : k0_chk38 v1380 v1381), ∀ (k0_h230 : k0_cond230 v1380 v1381 = 1#1), ∀ a, (k0_off188 v1380) a + S128x1024.size a ≤ S8192x1024.size a := fun v1380 v1381 k0_hw38 k0_h230 => k0_hw38.2.2.2.2.2.1 k0_h230
theorem k0_mult189_dvd : ∀ (v1380 : BitVec 32) (v1381 : BitVec 32) (k0_hw38 : k0_chk38 v1380 v1381), ∀ (k0_h231 : k0_cond231 v1380 v1381 = 1#1), 128 ∣ (k0_mult189 v1380).toNat := fun v1380 v1381 k0_hw38 k0_h231 => k0_hw38.2.2.2.2.2.2.1 k0_h231
theorem k0_off189_inb : ∀ (v1380 : BitVec 32) (v1381 : BitVec 32) (k0_hw38 : k0_chk38 v1380 v1381), ∀ (k0_h231 : k0_cond231 v1380 v1381 = 1#1), ∀ a, (k0_off189 v1380) a + S128x1024.size a ≤ S8192x1024.size a := fun v1380 v1381 k0_hw38 k0_h231 => k0_hw38.2.2.2.2.2.2.2.1 k0_h231
theorem k0_mult190_dvd : ∀ (v1380 : BitVec 32) (v1381 : BitVec 32) (k0_hw38 : k0_chk38 v1380 v1381), ∀ (k0_h232 : k0_cond232 v1380 v1381 = 1#1), 128 ∣ (k0_mult190 v1380).toNat := fun v1380 v1381 k0_hw38 k0_h232 => k0_hw38.2.2.2.2.2.2.2.2.1 k0_h232
theorem k0_off190_inb : ∀ (v1380 : BitVec 32) (v1381 : BitVec 32) (k0_hw38 : k0_chk38 v1380 v1381), ∀ (k0_h232 : k0_cond232 v1380 v1381 = 1#1), ∀ a, (k0_off190 v1380) a + S128x1024.size a ≤ S8192x1024.size a := fun v1380 v1381 k0_hw38 k0_h232 => k0_hw38.2.2.2.2.2.2.2.2.2 k0_h232

def k0_mult191 (v1420 : BitVec 32) : BitVec 32 :=
  let c1536_i32_1732 : BitVec 32 := 1536#32
  let v2752 : BitVec 32 := Scalar.addi v1420 c1536_i32_1732
  v2752
def k0_cond236 (v1420 : BitVec 32) (v1421 : BitVec 32) : BitVec 1 :=
  let v1422 : BitVec 32 := Scalar.subi v1421 v1420
  let c2048_i32_837 : BitVec 32 := 2048#32
  let v1423 : BitVec 1 := Scalar.cmpi .sge v1422 c2048_i32_837
  let v1427 : BitVec 32 := Scalar.extui v1423
  let c0_i32_840 : BitVec 32 := 0#32
  let v1428 : BitVec 1 := Scalar.cmpi .ne v1427 c0_i32_840
  v1428

def k0_off191 (v1420 : BitVec 32) : Fin 2 → Nat :=
  let c1536_i32_1732 : BitVec 32 := 1536#32
  let v2752 : BitVec 32 := Scalar.addi v1420 c1536_i32_1732
  let v2753 : BitVec 32 := v2752
  let c0_i32_1737 : BitVec 32 := 0#32
  ![v2753.toNat, 0]
def k0_mult192 (v1420 : BitVec 32) : BitVec 32 :=
  let c1536_i32_1732 : BitVec 32 := 1536#32
  let v2752 : BitVec 32 := Scalar.addi v1420 c1536_i32_1732
  v2752
def k0_cond237 (v1420 : BitVec 32) (v1421 : BitVec 32) : BitVec 1 :=
  let v1422 : BitVec 32 := Scalar.subi v1421 v1420
  let c1536_i32_838 : BitVec 32 := 1536#32
  let v1424 : BitVec 1 := Scalar.cmpi .sgt v1422 c1536_i32_838
  let c2048_i32_837 : BitVec 32 := 2048#32
  let v1423 : BitVec 1 := Scalar.cmpi .sge v1422 c2048_i32_837
  let true_839 : BitVec 1 := 1#1
  let v1425 : BitVec 1 := Scalar.xori v1423 true_839
  let v1426 : BitVec 1 := Scalar.andi v1424 v1425
  let c1536_i32_841 : BitVec 32 := 1536#32
  let v1429 : BitVec 1 := Scalar.cmpi .sgt v1422 c1536_i32_841
  let v1430 : BitVec 1 := Scalar.andi v1426 v1429
  let v1431 : BitVec 32 := Scalar.extui v1430
  let c0_i32_842 : BitVec 32 := 0#32
  let v1432 : BitVec 1 := Scalar.cmpi .ne v1431 c0_i32_842
  v1432

def k0_off192 (v1420 : BitVec 32) : Fin 2 → Nat :=
  let c1536_i32_1732 : BitVec 32 := 1536#32
  let v2752 : BitVec 32 := Scalar.addi v1420 c1536_i32_1732
  let v2753 : BitVec 32 := v2752
  let c0_i32_1737 : BitVec 32 := 0#32
  ![v2753.toNat, 0]
def k0_mult193 (v1420 : BitVec 32) : BitVec 32 :=
  let c1664_i32_1732 : BitVec 32 := 1664#32
  let v2752 : BitVec 32 := Scalar.addi v1420 c1664_i32_1732
  v2752
def k0_cond238 (v1420 : BitVec 32) (v1421 : BitVec 32) : BitVec 1 :=
  let v1422 : BitVec 32 := Scalar.subi v1421 v1420
  let c1536_i32_838 : BitVec 32 := 1536#32
  let v1424 : BitVec 1 := Scalar.cmpi .sgt v1422 c1536_i32_838
  let c2048_i32_837 : BitVec 32 := 2048#32
  let v1423 : BitVec 1 := Scalar.cmpi .sge v1422 c2048_i32_837
  let true_839 : BitVec 1 := 1#1
  let v1425 : BitVec 1 := Scalar.xori v1423 true_839
  let v1426 : BitVec 1 := Scalar.andi v1424 v1425
  let c1664_i32_843 : BitVec 32 := 1664#32
  let v1433 : BitVec 1 := Scalar.cmpi .sgt v1422 c1664_i32_843
  let v1434 : BitVec 1 := Scalar.andi v1426 v1433
  let v1435 : BitVec 32 := Scalar.extui v1434
  let c0_i32_844 : BitVec 32 := 0#32
  let v1436 : BitVec 1 := Scalar.cmpi .ne v1435 c0_i32_844
  v1436

def k0_off193 (v1420 : BitVec 32) : Fin 2 → Nat :=
  let c1664_i32_1732 : BitVec 32 := 1664#32
  let v2752 : BitVec 32 := Scalar.addi v1420 c1664_i32_1732
  let v2753 : BitVec 32 := v2752
  let c0_i32_1737 : BitVec 32 := 0#32
  ![v2753.toNat, 0]
def k0_mult194 (v1420 : BitVec 32) : BitVec 32 :=
  let c1792_i32_1732 : BitVec 32 := 1792#32
  let v2752 : BitVec 32 := Scalar.addi v1420 c1792_i32_1732
  v2752
def k0_cond239 (v1420 : BitVec 32) (v1421 : BitVec 32) : BitVec 1 :=
  let v1422 : BitVec 32 := Scalar.subi v1421 v1420
  let c1536_i32_838 : BitVec 32 := 1536#32
  let v1424 : BitVec 1 := Scalar.cmpi .sgt v1422 c1536_i32_838
  let c2048_i32_837 : BitVec 32 := 2048#32
  let v1423 : BitVec 1 := Scalar.cmpi .sge v1422 c2048_i32_837
  let true_839 : BitVec 1 := 1#1
  let v1425 : BitVec 1 := Scalar.xori v1423 true_839
  let v1426 : BitVec 1 := Scalar.andi v1424 v1425
  let c1792_i32_845 : BitVec 32 := 1792#32
  let v1437 : BitVec 1 := Scalar.cmpi .sgt v1422 c1792_i32_845
  let v1438 : BitVec 1 := Scalar.andi v1426 v1437
  let v1439 : BitVec 32 := Scalar.extui v1438
  let c0_i32_846 : BitVec 32 := 0#32
  let v1440 : BitVec 1 := Scalar.cmpi .ne v1439 c0_i32_846
  v1440

def k0_off194 (v1420 : BitVec 32) : Fin 2 → Nat :=
  let c1792_i32_1732 : BitVec 32 := 1792#32
  let v2752 : BitVec 32 := Scalar.addi v1420 c1792_i32_1732
  let v2753 : BitVec 32 := v2752
  let c0_i32_1737 : BitVec 32 := 0#32
  ![v2753.toNat, 0]
def k0_mult195 (v1420 : BitVec 32) : BitVec 32 :=
  let c1920_i32_1732 : BitVec 32 := 1920#32
  let v2752 : BitVec 32 := Scalar.addi v1420 c1920_i32_1732
  v2752
def k0_cond240 (v1420 : BitVec 32) (v1421 : BitVec 32) : BitVec 1 :=
  let v1422 : BitVec 32 := Scalar.subi v1421 v1420
  let c1536_i32_838 : BitVec 32 := 1536#32
  let v1424 : BitVec 1 := Scalar.cmpi .sgt v1422 c1536_i32_838
  let c2048_i32_837 : BitVec 32 := 2048#32
  let v1423 : BitVec 1 := Scalar.cmpi .sge v1422 c2048_i32_837
  let true_839 : BitVec 1 := 1#1
  let v1425 : BitVec 1 := Scalar.xori v1423 true_839
  let v1426 : BitVec 1 := Scalar.andi v1424 v1425
  let c1920_i32_847 : BitVec 32 := 1920#32
  let v1441 : BitVec 1 := Scalar.cmpi .sgt v1422 c1920_i32_847
  let v1442 : BitVec 1 := Scalar.andi v1426 v1441
  let v1443 : BitVec 32 := Scalar.extui v1442
  let c0_i32_848 : BitVec 32 := 0#32
  let v1444 : BitVec 1 := Scalar.cmpi .ne v1443 c0_i32_848
  v1444

def k0_off195 (v1420 : BitVec 32) : Fin 2 → Nat :=
  let c1920_i32_1732 : BitVec 32 := 1920#32
  let v2752 : BitVec 32 := Scalar.addi v1420 c1920_i32_1732
  let v2753 : BitVec 32 := v2752
  let c0_i32_1737 : BitVec 32 := 0#32
  ![v2753.toNat, 0]

def k0_chk39 (v1420 : BitVec 32) (v1421 : BitVec 32) : Prop :=
  (∀ (k0_h236 : k0_cond236 v1420 v1421 = 1#1), 128 ∣ (k0_mult191 v1420).toNat) ∧
  (∀ (k0_h236 : k0_cond236 v1420 v1421 = 1#1), ∀ a, (k0_off191 v1420) a + S512x1024.size a ≤ S8192x1024.size a) ∧
  (∀ (k0_h237 : k0_cond237 v1420 v1421 = 1#1), 128 ∣ (k0_mult192 v1420).toNat) ∧
  (∀ (k0_h237 : k0_cond237 v1420 v1421 = 1#1), ∀ a, (k0_off192 v1420) a + S128x1024.size a ≤ S8192x1024.size a) ∧
  (∀ (k0_h238 : k0_cond238 v1420 v1421 = 1#1), 128 ∣ (k0_mult193 v1420).toNat) ∧
  (∀ (k0_h238 : k0_cond238 v1420 v1421 = 1#1), ∀ a, (k0_off193 v1420) a + S128x1024.size a ≤ S8192x1024.size a) ∧
  (∀ (k0_h239 : k0_cond239 v1420 v1421 = 1#1), 128 ∣ (k0_mult194 v1420).toNat) ∧
  (∀ (k0_h239 : k0_cond239 v1420 v1421 = 1#1), ∀ a, (k0_off194 v1420) a + S128x1024.size a ≤ S8192x1024.size a) ∧
  (∀ (k0_h240 : k0_cond240 v1420 v1421 = 1#1), 128 ∣ (k0_mult195 v1420).toNat) ∧
  (∀ (k0_h240 : k0_cond240 v1420 v1421 = 1#1), ∀ a, (k0_off195 v1420) a + S128x1024.size a ≤ S8192x1024.size a)
theorem k0_mult191_dvd : ∀ (v1420 : BitVec 32) (v1421 : BitVec 32) (k0_hw39 : k0_chk39 v1420 v1421), ∀ (k0_h236 : k0_cond236 v1420 v1421 = 1#1), 128 ∣ (k0_mult191 v1420).toNat := fun v1420 v1421 k0_hw39 k0_h236 => k0_hw39.1 k0_h236
theorem k0_off191_inb : ∀ (v1420 : BitVec 32) (v1421 : BitVec 32) (k0_hw39 : k0_chk39 v1420 v1421), ∀ (k0_h236 : k0_cond236 v1420 v1421 = 1#1), ∀ a, (k0_off191 v1420) a + S512x1024.size a ≤ S8192x1024.size a := fun v1420 v1421 k0_hw39 k0_h236 => k0_hw39.2.1 k0_h236
theorem k0_mult192_dvd : ∀ (v1420 : BitVec 32) (v1421 : BitVec 32) (k0_hw39 : k0_chk39 v1420 v1421), ∀ (k0_h237 : k0_cond237 v1420 v1421 = 1#1), 128 ∣ (k0_mult192 v1420).toNat := fun v1420 v1421 k0_hw39 k0_h237 => k0_hw39.2.2.1 k0_h237
theorem k0_off192_inb : ∀ (v1420 : BitVec 32) (v1421 : BitVec 32) (k0_hw39 : k0_chk39 v1420 v1421), ∀ (k0_h237 : k0_cond237 v1420 v1421 = 1#1), ∀ a, (k0_off192 v1420) a + S128x1024.size a ≤ S8192x1024.size a := fun v1420 v1421 k0_hw39 k0_h237 => k0_hw39.2.2.2.1 k0_h237
theorem k0_mult193_dvd : ∀ (v1420 : BitVec 32) (v1421 : BitVec 32) (k0_hw39 : k0_chk39 v1420 v1421), ∀ (k0_h238 : k0_cond238 v1420 v1421 = 1#1), 128 ∣ (k0_mult193 v1420).toNat := fun v1420 v1421 k0_hw39 k0_h238 => k0_hw39.2.2.2.2.1 k0_h238
theorem k0_off193_inb : ∀ (v1420 : BitVec 32) (v1421 : BitVec 32) (k0_hw39 : k0_chk39 v1420 v1421), ∀ (k0_h238 : k0_cond238 v1420 v1421 = 1#1), ∀ a, (k0_off193 v1420) a + S128x1024.size a ≤ S8192x1024.size a := fun v1420 v1421 k0_hw39 k0_h238 => k0_hw39.2.2.2.2.2.1 k0_h238
theorem k0_mult194_dvd : ∀ (v1420 : BitVec 32) (v1421 : BitVec 32) (k0_hw39 : k0_chk39 v1420 v1421), ∀ (k0_h239 : k0_cond239 v1420 v1421 = 1#1), 128 ∣ (k0_mult194 v1420).toNat := fun v1420 v1421 k0_hw39 k0_h239 => k0_hw39.2.2.2.2.2.2.1 k0_h239
theorem k0_off194_inb : ∀ (v1420 : BitVec 32) (v1421 : BitVec 32) (k0_hw39 : k0_chk39 v1420 v1421), ∀ (k0_h239 : k0_cond239 v1420 v1421 = 1#1), ∀ a, (k0_off194 v1420) a + S128x1024.size a ≤ S8192x1024.size a := fun v1420 v1421 k0_hw39 k0_h239 => k0_hw39.2.2.2.2.2.2.2.1 k0_h239
theorem k0_mult195_dvd : ∀ (v1420 : BitVec 32) (v1421 : BitVec 32) (k0_hw39 : k0_chk39 v1420 v1421), ∀ (k0_h240 : k0_cond240 v1420 v1421 = 1#1), 128 ∣ (k0_mult195 v1420).toNat := fun v1420 v1421 k0_hw39 k0_h240 => k0_hw39.2.2.2.2.2.2.2.2.1 k0_h240
theorem k0_off195_inb : ∀ (v1420 : BitVec 32) (v1421 : BitVec 32) (k0_hw39 : k0_chk39 v1420 v1421), ∀ (k0_h240 : k0_cond240 v1420 v1421 = 1#1), ∀ a, (k0_off195 v1420) a + S128x1024.size a ≤ S8192x1024.size a := fun v1420 v1421 k0_hw39 k0_h240 => k0_hw39.2.2.2.2.2.2.2.2.2 k0_h240

def k0_mult196 (v1466 : BitVec 32) : BitVec 32 :=
  let c1536_i32_1732 : BitVec 32 := 1536#32
  let v2752 : BitVec 32 := Scalar.addi v1466 c1536_i32_1732
  v2752
def k0_cond241 (v1466 : BitVec 32) (v1467 : BitVec 32) : BitVec 1 :=
  let v1468 : BitVec 32 := Scalar.subi v1467 v1466
  let c2048_i32_866 : BitVec 32 := 2048#32
  let v1469 : BitVec 1 := Scalar.cmpi .sge v1468 c2048_i32_866
  let v1473 : BitVec 32 := Scalar.extui v1469
  let c0_i32_869 : BitVec 32 := 0#32
  let v1474 : BitVec 1 := Scalar.cmpi .ne v1473 c0_i32_869
  v1474

def k0_off196 (v1466 : BitVec 32) : Fin 2 → Nat :=
  let c1536_i32_1732 : BitVec 32 := 1536#32
  let v2752 : BitVec 32 := Scalar.addi v1466 c1536_i32_1732
  let v2753 : BitVec 32 := v2752
  let c0_i32_1737 : BitVec 32 := 0#32
  ![v2753.toNat, 0]
def k0_mult197 (v1466 : BitVec 32) : BitVec 32 :=
  let c1536_i32_1732 : BitVec 32 := 1536#32
  let v2752 : BitVec 32 := Scalar.addi v1466 c1536_i32_1732
  v2752
def k0_cond242 (v1466 : BitVec 32) (v1467 : BitVec 32) : BitVec 1 :=
  let v1468 : BitVec 32 := Scalar.subi v1467 v1466
  let c1536_i32_867 : BitVec 32 := 1536#32
  let v1470 : BitVec 1 := Scalar.cmpi .sgt v1468 c1536_i32_867
  let c2048_i32_866 : BitVec 32 := 2048#32
  let v1469 : BitVec 1 := Scalar.cmpi .sge v1468 c2048_i32_866
  let true_868 : BitVec 1 := 1#1
  let v1471 : BitVec 1 := Scalar.xori v1469 true_868
  let v1472 : BitVec 1 := Scalar.andi v1470 v1471
  let c1536_i32_870 : BitVec 32 := 1536#32
  let v1475 : BitVec 1 := Scalar.cmpi .sgt v1468 c1536_i32_870
  let v1476 : BitVec 1 := Scalar.andi v1472 v1475
  let v1477 : BitVec 32 := Scalar.extui v1476
  let c0_i32_871 : BitVec 32 := 0#32
  let v1478 : BitVec 1 := Scalar.cmpi .ne v1477 c0_i32_871
  v1478

def k0_off197 (v1466 : BitVec 32) : Fin 2 → Nat :=
  let c1536_i32_1732 : BitVec 32 := 1536#32
  let v2752 : BitVec 32 := Scalar.addi v1466 c1536_i32_1732
  let v2753 : BitVec 32 := v2752
  let c0_i32_1737 : BitVec 32 := 0#32
  ![v2753.toNat, 0]
def k0_mult198 (v1466 : BitVec 32) : BitVec 32 :=
  let c1664_i32_1732 : BitVec 32 := 1664#32
  let v2752 : BitVec 32 := Scalar.addi v1466 c1664_i32_1732
  v2752
def k0_cond243 (v1466 : BitVec 32) (v1467 : BitVec 32) : BitVec 1 :=
  let v1468 : BitVec 32 := Scalar.subi v1467 v1466
  let c1536_i32_867 : BitVec 32 := 1536#32
  let v1470 : BitVec 1 := Scalar.cmpi .sgt v1468 c1536_i32_867
  let c2048_i32_866 : BitVec 32 := 2048#32
  let v1469 : BitVec 1 := Scalar.cmpi .sge v1468 c2048_i32_866
  let true_868 : BitVec 1 := 1#1
  let v1471 : BitVec 1 := Scalar.xori v1469 true_868
  let v1472 : BitVec 1 := Scalar.andi v1470 v1471
  let c1664_i32_872 : BitVec 32 := 1664#32
  let v1479 : BitVec 1 := Scalar.cmpi .sgt v1468 c1664_i32_872
  let v1480 : BitVec 1 := Scalar.andi v1472 v1479
  let v1481 : BitVec 32 := Scalar.extui v1480
  let c0_i32_873 : BitVec 32 := 0#32
  let v1482 : BitVec 1 := Scalar.cmpi .ne v1481 c0_i32_873
  v1482

def k0_off198 (v1466 : BitVec 32) : Fin 2 → Nat :=
  let c1664_i32_1732 : BitVec 32 := 1664#32
  let v2752 : BitVec 32 := Scalar.addi v1466 c1664_i32_1732
  let v2753 : BitVec 32 := v2752
  let c0_i32_1737 : BitVec 32 := 0#32
  ![v2753.toNat, 0]
def k0_mult199 (v1466 : BitVec 32) : BitVec 32 :=
  let c1792_i32_1732 : BitVec 32 := 1792#32
  let v2752 : BitVec 32 := Scalar.addi v1466 c1792_i32_1732
  v2752
def k0_cond244 (v1466 : BitVec 32) (v1467 : BitVec 32) : BitVec 1 :=
  let v1468 : BitVec 32 := Scalar.subi v1467 v1466
  let c1536_i32_867 : BitVec 32 := 1536#32
  let v1470 : BitVec 1 := Scalar.cmpi .sgt v1468 c1536_i32_867
  let c2048_i32_866 : BitVec 32 := 2048#32
  let v1469 : BitVec 1 := Scalar.cmpi .sge v1468 c2048_i32_866
  let true_868 : BitVec 1 := 1#1
  let v1471 : BitVec 1 := Scalar.xori v1469 true_868
  let v1472 : BitVec 1 := Scalar.andi v1470 v1471
  let c1792_i32_874 : BitVec 32 := 1792#32
  let v1483 : BitVec 1 := Scalar.cmpi .sgt v1468 c1792_i32_874
  let v1484 : BitVec 1 := Scalar.andi v1472 v1483
  let v1485 : BitVec 32 := Scalar.extui v1484
  let c0_i32_875 : BitVec 32 := 0#32
  let v1486 : BitVec 1 := Scalar.cmpi .ne v1485 c0_i32_875
  v1486

def k0_off199 (v1466 : BitVec 32) : Fin 2 → Nat :=
  let c1792_i32_1732 : BitVec 32 := 1792#32
  let v2752 : BitVec 32 := Scalar.addi v1466 c1792_i32_1732
  let v2753 : BitVec 32 := v2752
  let c0_i32_1737 : BitVec 32 := 0#32
  ![v2753.toNat, 0]
def k0_mult200 (v1466 : BitVec 32) : BitVec 32 :=
  let c1920_i32_1732 : BitVec 32 := 1920#32
  let v2752 : BitVec 32 := Scalar.addi v1466 c1920_i32_1732
  v2752
def k0_cond245 (v1466 : BitVec 32) (v1467 : BitVec 32) : BitVec 1 :=
  let v1468 : BitVec 32 := Scalar.subi v1467 v1466
  let c1536_i32_867 : BitVec 32 := 1536#32
  let v1470 : BitVec 1 := Scalar.cmpi .sgt v1468 c1536_i32_867
  let c2048_i32_866 : BitVec 32 := 2048#32
  let v1469 : BitVec 1 := Scalar.cmpi .sge v1468 c2048_i32_866
  let true_868 : BitVec 1 := 1#1
  let v1471 : BitVec 1 := Scalar.xori v1469 true_868
  let v1472 : BitVec 1 := Scalar.andi v1470 v1471
  let c1920_i32_876 : BitVec 32 := 1920#32
  let v1487 : BitVec 1 := Scalar.cmpi .sgt v1468 c1920_i32_876
  let v1488 : BitVec 1 := Scalar.andi v1472 v1487
  let v1489 : BitVec 32 := Scalar.extui v1488
  let c0_i32_877 : BitVec 32 := 0#32
  let v1490 : BitVec 1 := Scalar.cmpi .ne v1489 c0_i32_877
  v1490

def k0_off200 (v1466 : BitVec 32) : Fin 2 → Nat :=
  let c1920_i32_1732 : BitVec 32 := 1920#32
  let v2752 : BitVec 32 := Scalar.addi v1466 c1920_i32_1732
  let v2753 : BitVec 32 := v2752
  let c0_i32_1737 : BitVec 32 := 0#32
  ![v2753.toNat, 0]

def k0_chk40 (v1466 : BitVec 32) (v1467 : BitVec 32) : Prop :=
  (∀ (k0_h241 : k0_cond241 v1466 v1467 = 1#1), 128 ∣ (k0_mult196 v1466).toNat) ∧
  (∀ (k0_h241 : k0_cond241 v1466 v1467 = 1#1), ∀ a, (k0_off196 v1466) a + S512x1024.size a ≤ S8192x1024.size a) ∧
  (∀ (k0_h242 : k0_cond242 v1466 v1467 = 1#1), 128 ∣ (k0_mult197 v1466).toNat) ∧
  (∀ (k0_h242 : k0_cond242 v1466 v1467 = 1#1), ∀ a, (k0_off197 v1466) a + S128x1024.size a ≤ S8192x1024.size a) ∧
  (∀ (k0_h243 : k0_cond243 v1466 v1467 = 1#1), 128 ∣ (k0_mult198 v1466).toNat) ∧
  (∀ (k0_h243 : k0_cond243 v1466 v1467 = 1#1), ∀ a, (k0_off198 v1466) a + S128x1024.size a ≤ S8192x1024.size a) ∧
  (∀ (k0_h244 : k0_cond244 v1466 v1467 = 1#1), 128 ∣ (k0_mult199 v1466).toNat) ∧
  (∀ (k0_h244 : k0_cond244 v1466 v1467 = 1#1), ∀ a, (k0_off199 v1466) a + S128x1024.size a ≤ S8192x1024.size a) ∧
  (∀ (k0_h245 : k0_cond245 v1466 v1467 = 1#1), 128 ∣ (k0_mult200 v1466).toNat) ∧
  (∀ (k0_h245 : k0_cond245 v1466 v1467 = 1#1), ∀ a, (k0_off200 v1466) a + S128x1024.size a ≤ S8192x1024.size a)
theorem k0_mult196_dvd : ∀ (v1466 : BitVec 32) (v1467 : BitVec 32) (k0_hw40 : k0_chk40 v1466 v1467), ∀ (k0_h241 : k0_cond241 v1466 v1467 = 1#1), 128 ∣ (k0_mult196 v1466).toNat := fun v1466 v1467 k0_hw40 k0_h241 => k0_hw40.1 k0_h241
theorem k0_off196_inb : ∀ (v1466 : BitVec 32) (v1467 : BitVec 32) (k0_hw40 : k0_chk40 v1466 v1467), ∀ (k0_h241 : k0_cond241 v1466 v1467 = 1#1), ∀ a, (k0_off196 v1466) a + S512x1024.size a ≤ S8192x1024.size a := fun v1466 v1467 k0_hw40 k0_h241 => k0_hw40.2.1 k0_h241
theorem k0_mult197_dvd : ∀ (v1466 : BitVec 32) (v1467 : BitVec 32) (k0_hw40 : k0_chk40 v1466 v1467), ∀ (k0_h242 : k0_cond242 v1466 v1467 = 1#1), 128 ∣ (k0_mult197 v1466).toNat := fun v1466 v1467 k0_hw40 k0_h242 => k0_hw40.2.2.1 k0_h242
theorem k0_off197_inb : ∀ (v1466 : BitVec 32) (v1467 : BitVec 32) (k0_hw40 : k0_chk40 v1466 v1467), ∀ (k0_h242 : k0_cond242 v1466 v1467 = 1#1), ∀ a, (k0_off197 v1466) a + S128x1024.size a ≤ S8192x1024.size a := fun v1466 v1467 k0_hw40 k0_h242 => k0_hw40.2.2.2.1 k0_h242
theorem k0_mult198_dvd : ∀ (v1466 : BitVec 32) (v1467 : BitVec 32) (k0_hw40 : k0_chk40 v1466 v1467), ∀ (k0_h243 : k0_cond243 v1466 v1467 = 1#1), 128 ∣ (k0_mult198 v1466).toNat := fun v1466 v1467 k0_hw40 k0_h243 => k0_hw40.2.2.2.2.1 k0_h243
theorem k0_off198_inb : ∀ (v1466 : BitVec 32) (v1467 : BitVec 32) (k0_hw40 : k0_chk40 v1466 v1467), ∀ (k0_h243 : k0_cond243 v1466 v1467 = 1#1), ∀ a, (k0_off198 v1466) a + S128x1024.size a ≤ S8192x1024.size a := fun v1466 v1467 k0_hw40 k0_h243 => k0_hw40.2.2.2.2.2.1 k0_h243
theorem k0_mult199_dvd : ∀ (v1466 : BitVec 32) (v1467 : BitVec 32) (k0_hw40 : k0_chk40 v1466 v1467), ∀ (k0_h244 : k0_cond244 v1466 v1467 = 1#1), 128 ∣ (k0_mult199 v1466).toNat := fun v1466 v1467 k0_hw40 k0_h244 => k0_hw40.2.2.2.2.2.2.1 k0_h244
theorem k0_off199_inb : ∀ (v1466 : BitVec 32) (v1467 : BitVec 32) (k0_hw40 : k0_chk40 v1466 v1467), ∀ (k0_h244 : k0_cond244 v1466 v1467 = 1#1), ∀ a, (k0_off199 v1466) a + S128x1024.size a ≤ S8192x1024.size a := fun v1466 v1467 k0_hw40 k0_h244 => k0_hw40.2.2.2.2.2.2.2.1 k0_h244
theorem k0_mult200_dvd : ∀ (v1466 : BitVec 32) (v1467 : BitVec 32) (k0_hw40 : k0_chk40 v1466 v1467), ∀ (k0_h245 : k0_cond245 v1466 v1467 = 1#1), 128 ∣ (k0_mult200 v1466).toNat := fun v1466 v1467 k0_hw40 k0_h245 => k0_hw40.2.2.2.2.2.2.2.2.1 k0_h245
theorem k0_off200_inb : ∀ (v1466 : BitVec 32) (v1467 : BitVec 32) (k0_hw40 : k0_chk40 v1466 v1467), ∀ (k0_h245 : k0_cond245 v1466 v1467 = 1#1), ∀ a, (k0_off200 v1466) a + S128x1024.size a ≤ S8192x1024.size a := fun v1466 v1467 k0_hw40 k0_h245 => k0_hw40.2.2.2.2.2.2.2.2.2 k0_h245

def k0_mult201 (v1506 : BitVec 32) : BitVec 32 :=
  let c0_i32_1732 : BitVec 32 := 0#32
  let v2752 : BitVec 32 := Scalar.addi v1506 c0_i32_1732
  v2752
def k0_cond249 (v1506 : BitVec 32) (v1507 : BitVec 32) : BitVec 1 :=
  let v1508 : BitVec 32 := Scalar.subi v1507 v1506
  let c512_i32_892 : BitVec 32 := 512#32
  let v1509 : BitVec 1 := Scalar.cmpi .sge v1508 c512_i32_892
  let v1513 : BitVec 32 := Scalar.extui v1509
  let c0_i32_895 : BitVec 32 := 0#32
  let v1514 : BitVec 1 := Scalar.cmpi .ne v1513 c0_i32_895
  v1514

def k0_off201 (v1506 : BitVec 32) : Fin 2 → Nat :=
  let c0_i32_1732 : BitVec 32 := 0#32
  let v2752 : BitVec 32 := Scalar.addi v1506 c0_i32_1732
  let v2753 : BitVec 32 := v2752
  let c0_i32_1737 : BitVec 32 := 0#32
  ![v2753.toNat, 0]
def k0_mult202 (v1506 : BitVec 32) : BitVec 32 :=
  let c0_i32_1732 : BitVec 32 := 0#32
  let v2752 : BitVec 32 := Scalar.addi v1506 c0_i32_1732
  v2752
def k0_cond250 (v1506 : BitVec 32) (v1507 : BitVec 32) : BitVec 1 :=
  let v1508 : BitVec 32 := Scalar.subi v1507 v1506
  let c0_i32_893 : BitVec 32 := 0#32
  let v1510 : BitVec 1 := Scalar.cmpi .sgt v1508 c0_i32_893
  let c512_i32_892 : BitVec 32 := 512#32
  let v1509 : BitVec 1 := Scalar.cmpi .sge v1508 c512_i32_892
  let true_894 : BitVec 1 := 1#1
  let v1511 : BitVec 1 := Scalar.xori v1509 true_894
  let v1512 : BitVec 1 := Scalar.andi v1510 v1511
  let c0_i32_896 : BitVec 32 := 0#32
  let v1515 : BitVec 1 := Scalar.cmpi .sgt v1508 c0_i32_896
  let v1516 : BitVec 1 := Scalar.andi v1512 v1515
  let v1517 : BitVec 32 := Scalar.extui v1516
  let c0_i32_897 : BitVec 32 := 0#32
  let v1518 : BitVec 1 := Scalar.cmpi .ne v1517 c0_i32_897
  v1518

def k0_off202 (v1506 : BitVec 32) : Fin 2 → Nat :=
  let c0_i32_1732 : BitVec 32 := 0#32
  let v2752 : BitVec 32 := Scalar.addi v1506 c0_i32_1732
  let v2753 : BitVec 32 := v2752
  let c0_i32_1737 : BitVec 32 := 0#32
  ![v2753.toNat, 0]
def k0_mult203 (v1506 : BitVec 32) : BitVec 32 :=
  let c128_i32_1732 : BitVec 32 := 128#32
  let v2752 : BitVec 32 := Scalar.addi v1506 c128_i32_1732
  v2752
def k0_cond251 (v1506 : BitVec 32) (v1507 : BitVec 32) : BitVec 1 :=
  let v1508 : BitVec 32 := Scalar.subi v1507 v1506
  let c0_i32_893 : BitVec 32 := 0#32
  let v1510 : BitVec 1 := Scalar.cmpi .sgt v1508 c0_i32_893
  let c512_i32_892 : BitVec 32 := 512#32
  let v1509 : BitVec 1 := Scalar.cmpi .sge v1508 c512_i32_892
  let true_894 : BitVec 1 := 1#1
  let v1511 : BitVec 1 := Scalar.xori v1509 true_894
  let v1512 : BitVec 1 := Scalar.andi v1510 v1511
  let c128_i32_898 : BitVec 32 := 128#32
  let v1519 : BitVec 1 := Scalar.cmpi .sgt v1508 c128_i32_898
  let v1520 : BitVec 1 := Scalar.andi v1512 v1519
  let v1521 : BitVec 32 := Scalar.extui v1520
  let c0_i32_899 : BitVec 32 := 0#32
  let v1522 : BitVec 1 := Scalar.cmpi .ne v1521 c0_i32_899
  v1522

def k0_off203 (v1506 : BitVec 32) : Fin 2 → Nat :=
  let c128_i32_1732 : BitVec 32 := 128#32
  let v2752 : BitVec 32 := Scalar.addi v1506 c128_i32_1732
  let v2753 : BitVec 32 := v2752
  let c0_i32_1737 : BitVec 32 := 0#32
  ![v2753.toNat, 0]
def k0_mult204 (v1506 : BitVec 32) : BitVec 32 :=
  let c256_i32_1732 : BitVec 32 := 256#32
  let v2752 : BitVec 32 := Scalar.addi v1506 c256_i32_1732
  v2752
def k0_cond252 (v1506 : BitVec 32) (v1507 : BitVec 32) : BitVec 1 :=
  let v1508 : BitVec 32 := Scalar.subi v1507 v1506
  let c0_i32_893 : BitVec 32 := 0#32
  let v1510 : BitVec 1 := Scalar.cmpi .sgt v1508 c0_i32_893
  let c512_i32_892 : BitVec 32 := 512#32
  let v1509 : BitVec 1 := Scalar.cmpi .sge v1508 c512_i32_892
  let true_894 : BitVec 1 := 1#1
  let v1511 : BitVec 1 := Scalar.xori v1509 true_894
  let v1512 : BitVec 1 := Scalar.andi v1510 v1511
  let c256_i32_900 : BitVec 32 := 256#32
  let v1523 : BitVec 1 := Scalar.cmpi .sgt v1508 c256_i32_900
  let v1524 : BitVec 1 := Scalar.andi v1512 v1523
  let v1525 : BitVec 32 := Scalar.extui v1524
  let c0_i32_901 : BitVec 32 := 0#32
  let v1526 : BitVec 1 := Scalar.cmpi .ne v1525 c0_i32_901
  v1526

def k0_off204 (v1506 : BitVec 32) : Fin 2 → Nat :=
  let c256_i32_1732 : BitVec 32 := 256#32
  let v2752 : BitVec 32 := Scalar.addi v1506 c256_i32_1732
  let v2753 : BitVec 32 := v2752
  let c0_i32_1737 : BitVec 32 := 0#32
  ![v2753.toNat, 0]
def k0_mult205 (v1506 : BitVec 32) : BitVec 32 :=
  let c384_i32_1732 : BitVec 32 := 384#32
  let v2752 : BitVec 32 := Scalar.addi v1506 c384_i32_1732
  v2752
def k0_cond253 (v1506 : BitVec 32) (v1507 : BitVec 32) : BitVec 1 :=
  let v1508 : BitVec 32 := Scalar.subi v1507 v1506
  let c0_i32_893 : BitVec 32 := 0#32
  let v1510 : BitVec 1 := Scalar.cmpi .sgt v1508 c0_i32_893
  let c512_i32_892 : BitVec 32 := 512#32
  let v1509 : BitVec 1 := Scalar.cmpi .sge v1508 c512_i32_892
  let true_894 : BitVec 1 := 1#1
  let v1511 : BitVec 1 := Scalar.xori v1509 true_894
  let v1512 : BitVec 1 := Scalar.andi v1510 v1511
  let c384_i32_902 : BitVec 32 := 384#32
  let v1527 : BitVec 1 := Scalar.cmpi .sgt v1508 c384_i32_902
  let v1528 : BitVec 1 := Scalar.andi v1512 v1527
  let v1529 : BitVec 32 := Scalar.extui v1528
  let c0_i32_903 : BitVec 32 := 0#32
  let v1530 : BitVec 1 := Scalar.cmpi .ne v1529 c0_i32_903
  v1530

def k0_off205 (v1506 : BitVec 32) : Fin 2 → Nat :=
  let c384_i32_1732 : BitVec 32 := 384#32
  let v2752 : BitVec 32 := Scalar.addi v1506 c384_i32_1732
  let v2753 : BitVec 32 := v2752
  let c0_i32_1737 : BitVec 32 := 0#32
  ![v2753.toNat, 0]

def k0_chk41 (v1506 : BitVec 32) (v1507 : BitVec 32) : Prop :=
  (∀ (k0_h249 : k0_cond249 v1506 v1507 = 1#1), 128 ∣ (k0_mult201 v1506).toNat) ∧
  (∀ (k0_h249 : k0_cond249 v1506 v1507 = 1#1), ∀ a, (k0_off201 v1506) a + S512x1024.size a ≤ S8192x1024.size a) ∧
  (∀ (k0_h250 : k0_cond250 v1506 v1507 = 1#1), 128 ∣ (k0_mult202 v1506).toNat) ∧
  (∀ (k0_h250 : k0_cond250 v1506 v1507 = 1#1), ∀ a, (k0_off202 v1506) a + S128x1024.size a ≤ S8192x1024.size a) ∧
  (∀ (k0_h251 : k0_cond251 v1506 v1507 = 1#1), 128 ∣ (k0_mult203 v1506).toNat) ∧
  (∀ (k0_h251 : k0_cond251 v1506 v1507 = 1#1), ∀ a, (k0_off203 v1506) a + S128x1024.size a ≤ S8192x1024.size a) ∧
  (∀ (k0_h252 : k0_cond252 v1506 v1507 = 1#1), 128 ∣ (k0_mult204 v1506).toNat) ∧
  (∀ (k0_h252 : k0_cond252 v1506 v1507 = 1#1), ∀ a, (k0_off204 v1506) a + S128x1024.size a ≤ S8192x1024.size a) ∧
  (∀ (k0_h253 : k0_cond253 v1506 v1507 = 1#1), 128 ∣ (k0_mult205 v1506).toNat) ∧
  (∀ (k0_h253 : k0_cond253 v1506 v1507 = 1#1), ∀ a, (k0_off205 v1506) a + S128x1024.size a ≤ S8192x1024.size a)
theorem k0_mult201_dvd : ∀ (v1506 : BitVec 32) (v1507 : BitVec 32) (k0_hw41 : k0_chk41 v1506 v1507), ∀ (k0_h249 : k0_cond249 v1506 v1507 = 1#1), 128 ∣ (k0_mult201 v1506).toNat := fun v1506 v1507 k0_hw41 k0_h249 => k0_hw41.1 k0_h249
theorem k0_off201_inb : ∀ (v1506 : BitVec 32) (v1507 : BitVec 32) (k0_hw41 : k0_chk41 v1506 v1507), ∀ (k0_h249 : k0_cond249 v1506 v1507 = 1#1), ∀ a, (k0_off201 v1506) a + S512x1024.size a ≤ S8192x1024.size a := fun v1506 v1507 k0_hw41 k0_h249 => k0_hw41.2.1 k0_h249
theorem k0_mult202_dvd : ∀ (v1506 : BitVec 32) (v1507 : BitVec 32) (k0_hw41 : k0_chk41 v1506 v1507), ∀ (k0_h250 : k0_cond250 v1506 v1507 = 1#1), 128 ∣ (k0_mult202 v1506).toNat := fun v1506 v1507 k0_hw41 k0_h250 => k0_hw41.2.2.1 k0_h250
theorem k0_off202_inb : ∀ (v1506 : BitVec 32) (v1507 : BitVec 32) (k0_hw41 : k0_chk41 v1506 v1507), ∀ (k0_h250 : k0_cond250 v1506 v1507 = 1#1), ∀ a, (k0_off202 v1506) a + S128x1024.size a ≤ S8192x1024.size a := fun v1506 v1507 k0_hw41 k0_h250 => k0_hw41.2.2.2.1 k0_h250
theorem k0_mult203_dvd : ∀ (v1506 : BitVec 32) (v1507 : BitVec 32) (k0_hw41 : k0_chk41 v1506 v1507), ∀ (k0_h251 : k0_cond251 v1506 v1507 = 1#1), 128 ∣ (k0_mult203 v1506).toNat := fun v1506 v1507 k0_hw41 k0_h251 => k0_hw41.2.2.2.2.1 k0_h251
theorem k0_off203_inb : ∀ (v1506 : BitVec 32) (v1507 : BitVec 32) (k0_hw41 : k0_chk41 v1506 v1507), ∀ (k0_h251 : k0_cond251 v1506 v1507 = 1#1), ∀ a, (k0_off203 v1506) a + S128x1024.size a ≤ S8192x1024.size a := fun v1506 v1507 k0_hw41 k0_h251 => k0_hw41.2.2.2.2.2.1 k0_h251
theorem k0_mult204_dvd : ∀ (v1506 : BitVec 32) (v1507 : BitVec 32) (k0_hw41 : k0_chk41 v1506 v1507), ∀ (k0_h252 : k0_cond252 v1506 v1507 = 1#1), 128 ∣ (k0_mult204 v1506).toNat := fun v1506 v1507 k0_hw41 k0_h252 => k0_hw41.2.2.2.2.2.2.1 k0_h252
theorem k0_off204_inb : ∀ (v1506 : BitVec 32) (v1507 : BitVec 32) (k0_hw41 : k0_chk41 v1506 v1507), ∀ (k0_h252 : k0_cond252 v1506 v1507 = 1#1), ∀ a, (k0_off204 v1506) a + S128x1024.size a ≤ S8192x1024.size a := fun v1506 v1507 k0_hw41 k0_h252 => k0_hw41.2.2.2.2.2.2.2.1 k0_h252
theorem k0_mult205_dvd : ∀ (v1506 : BitVec 32) (v1507 : BitVec 32) (k0_hw41 : k0_chk41 v1506 v1507), ∀ (k0_h253 : k0_cond253 v1506 v1507 = 1#1), 128 ∣ (k0_mult205 v1506).toNat := fun v1506 v1507 k0_hw41 k0_h253 => k0_hw41.2.2.2.2.2.2.2.2.1 k0_h253
theorem k0_off205_inb : ∀ (v1506 : BitVec 32) (v1507 : BitVec 32) (k0_hw41 : k0_chk41 v1506 v1507), ∀ (k0_h253 : k0_cond253 v1506 v1507 = 1#1), ∀ a, (k0_off205 v1506) a + S128x1024.size a ≤ S8192x1024.size a := fun v1506 v1507 k0_hw41 k0_h253 => k0_hw41.2.2.2.2.2.2.2.2.2 k0_h253

def k0_mult206 (v1552 : BitVec 32) : BitVec 32 :=
  let c0_i32_1732 : BitVec 32 := 0#32
  let v2752 : BitVec 32 := Scalar.addi v1552 c0_i32_1732
  v2752
def k0_cond254 (v1552 : BitVec 32) (v1553 : BitVec 32) : BitVec 1 :=
  let v1554 : BitVec 32 := Scalar.subi v1553 v1552
  let c512_i32_921 : BitVec 32 := 512#32
  let v1555 : BitVec 1 := Scalar.cmpi .sge v1554 c512_i32_921
  let v1559 : BitVec 32 := Scalar.extui v1555
  let c0_i32_924 : BitVec 32 := 0#32
  let v1560 : BitVec 1 := Scalar.cmpi .ne v1559 c0_i32_924
  v1560

def k0_off206 (v1552 : BitVec 32) : Fin 2 → Nat :=
  let c0_i32_1732 : BitVec 32 := 0#32
  let v2752 : BitVec 32 := Scalar.addi v1552 c0_i32_1732
  let v2753 : BitVec 32 := v2752
  let c0_i32_1737 : BitVec 32 := 0#32
  ![v2753.toNat, 0]
def k0_mult207 (v1552 : BitVec 32) : BitVec 32 :=
  let c0_i32_1732 : BitVec 32 := 0#32
  let v2752 : BitVec 32 := Scalar.addi v1552 c0_i32_1732
  v2752
def k0_cond255 (v1552 : BitVec 32) (v1553 : BitVec 32) : BitVec 1 :=
  let v1554 : BitVec 32 := Scalar.subi v1553 v1552
  let c0_i32_922 : BitVec 32 := 0#32
  let v1556 : BitVec 1 := Scalar.cmpi .sgt v1554 c0_i32_922
  let c512_i32_921 : BitVec 32 := 512#32
  let v1555 : BitVec 1 := Scalar.cmpi .sge v1554 c512_i32_921
  let true_923 : BitVec 1 := 1#1
  let v1557 : BitVec 1 := Scalar.xori v1555 true_923
  let v1558 : BitVec 1 := Scalar.andi v1556 v1557
  let c0_i32_925 : BitVec 32 := 0#32
  let v1561 : BitVec 1 := Scalar.cmpi .sgt v1554 c0_i32_925
  let v1562 : BitVec 1 := Scalar.andi v1558 v1561
  let v1563 : BitVec 32 := Scalar.extui v1562
  let c0_i32_926 : BitVec 32 := 0#32
  let v1564 : BitVec 1 := Scalar.cmpi .ne v1563 c0_i32_926
  v1564

def k0_off207 (v1552 : BitVec 32) : Fin 2 → Nat :=
  let c0_i32_1732 : BitVec 32 := 0#32
  let v2752 : BitVec 32 := Scalar.addi v1552 c0_i32_1732
  let v2753 : BitVec 32 := v2752
  let c0_i32_1737 : BitVec 32 := 0#32
  ![v2753.toNat, 0]
def k0_mult208 (v1552 : BitVec 32) : BitVec 32 :=
  let c128_i32_1732 : BitVec 32 := 128#32
  let v2752 : BitVec 32 := Scalar.addi v1552 c128_i32_1732
  v2752
def k0_cond256 (v1552 : BitVec 32) (v1553 : BitVec 32) : BitVec 1 :=
  let v1554 : BitVec 32 := Scalar.subi v1553 v1552
  let c0_i32_922 : BitVec 32 := 0#32
  let v1556 : BitVec 1 := Scalar.cmpi .sgt v1554 c0_i32_922
  let c512_i32_921 : BitVec 32 := 512#32
  let v1555 : BitVec 1 := Scalar.cmpi .sge v1554 c512_i32_921
  let true_923 : BitVec 1 := 1#1
  let v1557 : BitVec 1 := Scalar.xori v1555 true_923
  let v1558 : BitVec 1 := Scalar.andi v1556 v1557
  let c128_i32_927 : BitVec 32 := 128#32
  let v1565 : BitVec 1 := Scalar.cmpi .sgt v1554 c128_i32_927
  let v1566 : BitVec 1 := Scalar.andi v1558 v1565
  let v1567 : BitVec 32 := Scalar.extui v1566
  let c0_i32_928 : BitVec 32 := 0#32
  let v1568 : BitVec 1 := Scalar.cmpi .ne v1567 c0_i32_928
  v1568

def k0_off208 (v1552 : BitVec 32) : Fin 2 → Nat :=
  let c128_i32_1732 : BitVec 32 := 128#32
  let v2752 : BitVec 32 := Scalar.addi v1552 c128_i32_1732
  let v2753 : BitVec 32 := v2752
  let c0_i32_1737 : BitVec 32 := 0#32
  ![v2753.toNat, 0]
def k0_mult209 (v1552 : BitVec 32) : BitVec 32 :=
  let c256_i32_1732 : BitVec 32 := 256#32
  let v2752 : BitVec 32 := Scalar.addi v1552 c256_i32_1732
  v2752
def k0_cond257 (v1552 : BitVec 32) (v1553 : BitVec 32) : BitVec 1 :=
  let v1554 : BitVec 32 := Scalar.subi v1553 v1552
  let c0_i32_922 : BitVec 32 := 0#32
  let v1556 : BitVec 1 := Scalar.cmpi .sgt v1554 c0_i32_922
  let c512_i32_921 : BitVec 32 := 512#32
  let v1555 : BitVec 1 := Scalar.cmpi .sge v1554 c512_i32_921
  let true_923 : BitVec 1 := 1#1
  let v1557 : BitVec 1 := Scalar.xori v1555 true_923
  let v1558 : BitVec 1 := Scalar.andi v1556 v1557
  let c256_i32_929 : BitVec 32 := 256#32
  let v1569 : BitVec 1 := Scalar.cmpi .sgt v1554 c256_i32_929
  let v1570 : BitVec 1 := Scalar.andi v1558 v1569
  let v1571 : BitVec 32 := Scalar.extui v1570
  let c0_i32_930 : BitVec 32 := 0#32
  let v1572 : BitVec 1 := Scalar.cmpi .ne v1571 c0_i32_930
  v1572

def k0_off209 (v1552 : BitVec 32) : Fin 2 → Nat :=
  let c256_i32_1732 : BitVec 32 := 256#32
  let v2752 : BitVec 32 := Scalar.addi v1552 c256_i32_1732
  let v2753 : BitVec 32 := v2752
  let c0_i32_1737 : BitVec 32 := 0#32
  ![v2753.toNat, 0]
def k0_mult210 (v1552 : BitVec 32) : BitVec 32 :=
  let c384_i32_1732 : BitVec 32 := 384#32
  let v2752 : BitVec 32 := Scalar.addi v1552 c384_i32_1732
  v2752
def k0_cond258 (v1552 : BitVec 32) (v1553 : BitVec 32) : BitVec 1 :=
  let v1554 : BitVec 32 := Scalar.subi v1553 v1552
  let c0_i32_922 : BitVec 32 := 0#32
  let v1556 : BitVec 1 := Scalar.cmpi .sgt v1554 c0_i32_922
  let c512_i32_921 : BitVec 32 := 512#32
  let v1555 : BitVec 1 := Scalar.cmpi .sge v1554 c512_i32_921
  let true_923 : BitVec 1 := 1#1
  let v1557 : BitVec 1 := Scalar.xori v1555 true_923
  let v1558 : BitVec 1 := Scalar.andi v1556 v1557
  let c384_i32_931 : BitVec 32 := 384#32
  let v1573 : BitVec 1 := Scalar.cmpi .sgt v1554 c384_i32_931
  let v1574 : BitVec 1 := Scalar.andi v1558 v1573
  let v1575 : BitVec 32 := Scalar.extui v1574
  let c0_i32_932 : BitVec 32 := 0#32
  let v1576 : BitVec 1 := Scalar.cmpi .ne v1575 c0_i32_932
  v1576

def k0_off210 (v1552 : BitVec 32) : Fin 2 → Nat :=
  let c384_i32_1732 : BitVec 32 := 384#32
  let v2752 : BitVec 32 := Scalar.addi v1552 c384_i32_1732
  let v2753 : BitVec 32 := v2752
  let c0_i32_1737 : BitVec 32 := 0#32
  ![v2753.toNat, 0]

def k0_chk42 (v1552 : BitVec 32) (v1553 : BitVec 32) : Prop :=
  (∀ (k0_h254 : k0_cond254 v1552 v1553 = 1#1), 128 ∣ (k0_mult206 v1552).toNat) ∧
  (∀ (k0_h254 : k0_cond254 v1552 v1553 = 1#1), ∀ a, (k0_off206 v1552) a + S512x1024.size a ≤ S8192x1024.size a) ∧
  (∀ (k0_h255 : k0_cond255 v1552 v1553 = 1#1), 128 ∣ (k0_mult207 v1552).toNat) ∧
  (∀ (k0_h255 : k0_cond255 v1552 v1553 = 1#1), ∀ a, (k0_off207 v1552) a + S128x1024.size a ≤ S8192x1024.size a) ∧
  (∀ (k0_h256 : k0_cond256 v1552 v1553 = 1#1), 128 ∣ (k0_mult208 v1552).toNat) ∧
  (∀ (k0_h256 : k0_cond256 v1552 v1553 = 1#1), ∀ a, (k0_off208 v1552) a + S128x1024.size a ≤ S8192x1024.size a) ∧
  (∀ (k0_h257 : k0_cond257 v1552 v1553 = 1#1), 128 ∣ (k0_mult209 v1552).toNat) ∧
  (∀ (k0_h257 : k0_cond257 v1552 v1553 = 1#1), ∀ a, (k0_off209 v1552) a + S128x1024.size a ≤ S8192x1024.size a) ∧
  (∀ (k0_h258 : k0_cond258 v1552 v1553 = 1#1), 128 ∣ (k0_mult210 v1552).toNat) ∧
  (∀ (k0_h258 : k0_cond258 v1552 v1553 = 1#1), ∀ a, (k0_off210 v1552) a + S128x1024.size a ≤ S8192x1024.size a)
theorem k0_mult206_dvd : ∀ (v1552 : BitVec 32) (v1553 : BitVec 32) (k0_hw42 : k0_chk42 v1552 v1553), ∀ (k0_h254 : k0_cond254 v1552 v1553 = 1#1), 128 ∣ (k0_mult206 v1552).toNat := fun v1552 v1553 k0_hw42 k0_h254 => k0_hw42.1 k0_h254
theorem k0_off206_inb : ∀ (v1552 : BitVec 32) (v1553 : BitVec 32) (k0_hw42 : k0_chk42 v1552 v1553), ∀ (k0_h254 : k0_cond254 v1552 v1553 = 1#1), ∀ a, (k0_off206 v1552) a + S512x1024.size a ≤ S8192x1024.size a := fun v1552 v1553 k0_hw42 k0_h254 => k0_hw42.2.1 k0_h254
theorem k0_mult207_dvd : ∀ (v1552 : BitVec 32) (v1553 : BitVec 32) (k0_hw42 : k0_chk42 v1552 v1553), ∀ (k0_h255 : k0_cond255 v1552 v1553 = 1#1), 128 ∣ (k0_mult207 v1552).toNat := fun v1552 v1553 k0_hw42 k0_h255 => k0_hw42.2.2.1 k0_h255
theorem k0_off207_inb : ∀ (v1552 : BitVec 32) (v1553 : BitVec 32) (k0_hw42 : k0_chk42 v1552 v1553), ∀ (k0_h255 : k0_cond255 v1552 v1553 = 1#1), ∀ a, (k0_off207 v1552) a + S128x1024.size a ≤ S8192x1024.size a := fun v1552 v1553 k0_hw42 k0_h255 => k0_hw42.2.2.2.1 k0_h255
theorem k0_mult208_dvd : ∀ (v1552 : BitVec 32) (v1553 : BitVec 32) (k0_hw42 : k0_chk42 v1552 v1553), ∀ (k0_h256 : k0_cond256 v1552 v1553 = 1#1), 128 ∣ (k0_mult208 v1552).toNat := fun v1552 v1553 k0_hw42 k0_h256 => k0_hw42.2.2.2.2.1 k0_h256
theorem k0_off208_inb : ∀ (v1552 : BitVec 32) (v1553 : BitVec 32) (k0_hw42 : k0_chk42 v1552 v1553), ∀ (k0_h256 : k0_cond256 v1552 v1553 = 1#1), ∀ a, (k0_off208 v1552) a + S128x1024.size a ≤ S8192x1024.size a := fun v1552 v1553 k0_hw42 k0_h256 => k0_hw42.2.2.2.2.2.1 k0_h256
theorem k0_mult209_dvd : ∀ (v1552 : BitVec 32) (v1553 : BitVec 32) (k0_hw42 : k0_chk42 v1552 v1553), ∀ (k0_h257 : k0_cond257 v1552 v1553 = 1#1), 128 ∣ (k0_mult209 v1552).toNat := fun v1552 v1553 k0_hw42 k0_h257 => k0_hw42.2.2.2.2.2.2.1 k0_h257
theorem k0_off209_inb : ∀ (v1552 : BitVec 32) (v1553 : BitVec 32) (k0_hw42 : k0_chk42 v1552 v1553), ∀ (k0_h257 : k0_cond257 v1552 v1553 = 1#1), ∀ a, (k0_off209 v1552) a + S128x1024.size a ≤ S8192x1024.size a := fun v1552 v1553 k0_hw42 k0_h257 => k0_hw42.2.2.2.2.2.2.2.1 k0_h257
theorem k0_mult210_dvd : ∀ (v1552 : BitVec 32) (v1553 : BitVec 32) (k0_hw42 : k0_chk42 v1552 v1553), ∀ (k0_h258 : k0_cond258 v1552 v1553 = 1#1), 128 ∣ (k0_mult210 v1552).toNat := fun v1552 v1553 k0_hw42 k0_h258 => k0_hw42.2.2.2.2.2.2.2.2.1 k0_h258
theorem k0_off210_inb : ∀ (v1552 : BitVec 32) (v1553 : BitVec 32) (k0_hw42 : k0_chk42 v1552 v1553), ∀ (k0_h258 : k0_cond258 v1552 v1553 = 1#1), ∀ a, (k0_off210 v1552) a + S128x1024.size a ≤ S8192x1024.size a := fun v1552 v1553 k0_hw42 k0_h258 => k0_hw42.2.2.2.2.2.2.2.2.2 k0_h258

def k0_mult211 (v1592 : BitVec 32) : BitVec 32 :=
  let c512_i32_1732 : BitVec 32 := 512#32
  let v2752 : BitVec 32 := Scalar.addi v1592 c512_i32_1732
  v2752
def k0_cond262 (v1592 : BitVec 32) (v1593 : BitVec 32) : BitVec 1 :=
  let v1594 : BitVec 32 := Scalar.subi v1593 v1592
  let c1024_i32_947 : BitVec 32 := 1024#32
  let v1595 : BitVec 1 := Scalar.cmpi .sge v1594 c1024_i32_947
  let v1599 : BitVec 32 := Scalar.extui v1595
  let c0_i32_950 : BitVec 32 := 0#32
  let v1600 : BitVec 1 := Scalar.cmpi .ne v1599 c0_i32_950
  v1600

def k0_off211 (v1592 : BitVec 32) : Fin 2 → Nat :=
  let c512_i32_1732 : BitVec 32 := 512#32
  let v2752 : BitVec 32 := Scalar.addi v1592 c512_i32_1732
  let v2753 : BitVec 32 := v2752
  let c0_i32_1737 : BitVec 32 := 0#32
  ![v2753.toNat, 0]
def k0_mult212 (v1592 : BitVec 32) : BitVec 32 :=
  let c512_i32_1732 : BitVec 32 := 512#32
  let v2752 : BitVec 32 := Scalar.addi v1592 c512_i32_1732
  v2752
def k0_cond263 (v1592 : BitVec 32) (v1593 : BitVec 32) : BitVec 1 :=
  let v1594 : BitVec 32 := Scalar.subi v1593 v1592
  let c512_i32_948 : BitVec 32 := 512#32
  let v1596 : BitVec 1 := Scalar.cmpi .sgt v1594 c512_i32_948
  let c1024_i32_947 : BitVec 32 := 1024#32
  let v1595 : BitVec 1 := Scalar.cmpi .sge v1594 c1024_i32_947
  let true_949 : BitVec 1 := 1#1
  let v1597 : BitVec 1 := Scalar.xori v1595 true_949
  let v1598 : BitVec 1 := Scalar.andi v1596 v1597
  let c512_i32_951 : BitVec 32 := 512#32
  let v1601 : BitVec 1 := Scalar.cmpi .sgt v1594 c512_i32_951
  let v1602 : BitVec 1 := Scalar.andi v1598 v1601
  let v1603 : BitVec 32 := Scalar.extui v1602
  let c0_i32_952 : BitVec 32 := 0#32
  let v1604 : BitVec 1 := Scalar.cmpi .ne v1603 c0_i32_952
  v1604

def k0_off212 (v1592 : BitVec 32) : Fin 2 → Nat :=
  let c512_i32_1732 : BitVec 32 := 512#32
  let v2752 : BitVec 32 := Scalar.addi v1592 c512_i32_1732
  let v2753 : BitVec 32 := v2752
  let c0_i32_1737 : BitVec 32 := 0#32
  ![v2753.toNat, 0]
def k0_mult213 (v1592 : BitVec 32) : BitVec 32 :=
  let c640_i32_1732 : BitVec 32 := 640#32
  let v2752 : BitVec 32 := Scalar.addi v1592 c640_i32_1732
  v2752
def k0_cond264 (v1592 : BitVec 32) (v1593 : BitVec 32) : BitVec 1 :=
  let v1594 : BitVec 32 := Scalar.subi v1593 v1592
  let c512_i32_948 : BitVec 32 := 512#32
  let v1596 : BitVec 1 := Scalar.cmpi .sgt v1594 c512_i32_948
  let c1024_i32_947 : BitVec 32 := 1024#32
  let v1595 : BitVec 1 := Scalar.cmpi .sge v1594 c1024_i32_947
  let true_949 : BitVec 1 := 1#1
  let v1597 : BitVec 1 := Scalar.xori v1595 true_949
  let v1598 : BitVec 1 := Scalar.andi v1596 v1597
  let c640_i32_953 : BitVec 32 := 640#32
  let v1605 : BitVec 1 := Scalar.cmpi .sgt v1594 c640_i32_953
  let v1606 : BitVec 1 := Scalar.andi v1598 v1605
  let v1607 : BitVec 32 := Scalar.extui v1606
  let c0_i32_954 : BitVec 32 := 0#32
  let v1608 : BitVec 1 := Scalar.cmpi .ne v1607 c0_i32_954
  v1608

def k0_off213 (v1592 : BitVec 32) : Fin 2 → Nat :=
  let c640_i32_1732 : BitVec 32 := 640#32
  let v2752 : BitVec 32 := Scalar.addi v1592 c640_i32_1732
  let v2753 : BitVec 32 := v2752
  let c0_i32_1737 : BitVec 32 := 0#32
  ![v2753.toNat, 0]
def k0_mult214 (v1592 : BitVec 32) : BitVec 32 :=
  let c768_i32_1732 : BitVec 32 := 768#32
  let v2752 : BitVec 32 := Scalar.addi v1592 c768_i32_1732
  v2752
def k0_cond265 (v1592 : BitVec 32) (v1593 : BitVec 32) : BitVec 1 :=
  let v1594 : BitVec 32 := Scalar.subi v1593 v1592
  let c512_i32_948 : BitVec 32 := 512#32
  let v1596 : BitVec 1 := Scalar.cmpi .sgt v1594 c512_i32_948
  let c1024_i32_947 : BitVec 32 := 1024#32
  let v1595 : BitVec 1 := Scalar.cmpi .sge v1594 c1024_i32_947
  let true_949 : BitVec 1 := 1#1
  let v1597 : BitVec 1 := Scalar.xori v1595 true_949
  let v1598 : BitVec 1 := Scalar.andi v1596 v1597
  let c768_i32_955 : BitVec 32 := 768#32
  let v1609 : BitVec 1 := Scalar.cmpi .sgt v1594 c768_i32_955
  let v1610 : BitVec 1 := Scalar.andi v1598 v1609
  let v1611 : BitVec 32 := Scalar.extui v1610
  let c0_i32_956 : BitVec 32 := 0#32
  let v1612 : BitVec 1 := Scalar.cmpi .ne v1611 c0_i32_956
  v1612

def k0_off214 (v1592 : BitVec 32) : Fin 2 → Nat :=
  let c768_i32_1732 : BitVec 32 := 768#32
  let v2752 : BitVec 32 := Scalar.addi v1592 c768_i32_1732
  let v2753 : BitVec 32 := v2752
  let c0_i32_1737 : BitVec 32 := 0#32
  ![v2753.toNat, 0]
def k0_mult215 (v1592 : BitVec 32) : BitVec 32 :=
  let c896_i32_1732 : BitVec 32 := 896#32
  let v2752 : BitVec 32 := Scalar.addi v1592 c896_i32_1732
  v2752
def k0_cond266 (v1592 : BitVec 32) (v1593 : BitVec 32) : BitVec 1 :=
  let v1594 : BitVec 32 := Scalar.subi v1593 v1592
  let c512_i32_948 : BitVec 32 := 512#32
  let v1596 : BitVec 1 := Scalar.cmpi .sgt v1594 c512_i32_948
  let c1024_i32_947 : BitVec 32 := 1024#32
  let v1595 : BitVec 1 := Scalar.cmpi .sge v1594 c1024_i32_947
  let true_949 : BitVec 1 := 1#1
  let v1597 : BitVec 1 := Scalar.xori v1595 true_949
  let v1598 : BitVec 1 := Scalar.andi v1596 v1597
  let c896_i32_957 : BitVec 32 := 896#32
  let v1613 : BitVec 1 := Scalar.cmpi .sgt v1594 c896_i32_957
  let v1614 : BitVec 1 := Scalar.andi v1598 v1613
  let v1615 : BitVec 32 := Scalar.extui v1614
  let c0_i32_958 : BitVec 32 := 0#32
  let v1616 : BitVec 1 := Scalar.cmpi .ne v1615 c0_i32_958
  v1616

def k0_off215 (v1592 : BitVec 32) : Fin 2 → Nat :=
  let c896_i32_1732 : BitVec 32 := 896#32
  let v2752 : BitVec 32 := Scalar.addi v1592 c896_i32_1732
  let v2753 : BitVec 32 := v2752
  let c0_i32_1737 : BitVec 32 := 0#32
  ![v2753.toNat, 0]

def k0_chk43 (v1592 : BitVec 32) (v1593 : BitVec 32) : Prop :=
  (∀ (k0_h262 : k0_cond262 v1592 v1593 = 1#1), 128 ∣ (k0_mult211 v1592).toNat) ∧
  (∀ (k0_h262 : k0_cond262 v1592 v1593 = 1#1), ∀ a, (k0_off211 v1592) a + S512x1024.size a ≤ S8192x1024.size a) ∧
  (∀ (k0_h263 : k0_cond263 v1592 v1593 = 1#1), 128 ∣ (k0_mult212 v1592).toNat) ∧
  (∀ (k0_h263 : k0_cond263 v1592 v1593 = 1#1), ∀ a, (k0_off212 v1592) a + S128x1024.size a ≤ S8192x1024.size a) ∧
  (∀ (k0_h264 : k0_cond264 v1592 v1593 = 1#1), 128 ∣ (k0_mult213 v1592).toNat) ∧
  (∀ (k0_h264 : k0_cond264 v1592 v1593 = 1#1), ∀ a, (k0_off213 v1592) a + S128x1024.size a ≤ S8192x1024.size a) ∧
  (∀ (k0_h265 : k0_cond265 v1592 v1593 = 1#1), 128 ∣ (k0_mult214 v1592).toNat) ∧
  (∀ (k0_h265 : k0_cond265 v1592 v1593 = 1#1), ∀ a, (k0_off214 v1592) a + S128x1024.size a ≤ S8192x1024.size a) ∧
  (∀ (k0_h266 : k0_cond266 v1592 v1593 = 1#1), 128 ∣ (k0_mult215 v1592).toNat) ∧
  (∀ (k0_h266 : k0_cond266 v1592 v1593 = 1#1), ∀ a, (k0_off215 v1592) a + S128x1024.size a ≤ S8192x1024.size a)
theorem k0_mult211_dvd : ∀ (v1592 : BitVec 32) (v1593 : BitVec 32) (k0_hw43 : k0_chk43 v1592 v1593), ∀ (k0_h262 : k0_cond262 v1592 v1593 = 1#1), 128 ∣ (k0_mult211 v1592).toNat := fun v1592 v1593 k0_hw43 k0_h262 => k0_hw43.1 k0_h262
theorem k0_off211_inb : ∀ (v1592 : BitVec 32) (v1593 : BitVec 32) (k0_hw43 : k0_chk43 v1592 v1593), ∀ (k0_h262 : k0_cond262 v1592 v1593 = 1#1), ∀ a, (k0_off211 v1592) a + S512x1024.size a ≤ S8192x1024.size a := fun v1592 v1593 k0_hw43 k0_h262 => k0_hw43.2.1 k0_h262
theorem k0_mult212_dvd : ∀ (v1592 : BitVec 32) (v1593 : BitVec 32) (k0_hw43 : k0_chk43 v1592 v1593), ∀ (k0_h263 : k0_cond263 v1592 v1593 = 1#1), 128 ∣ (k0_mult212 v1592).toNat := fun v1592 v1593 k0_hw43 k0_h263 => k0_hw43.2.2.1 k0_h263
theorem k0_off212_inb : ∀ (v1592 : BitVec 32) (v1593 : BitVec 32) (k0_hw43 : k0_chk43 v1592 v1593), ∀ (k0_h263 : k0_cond263 v1592 v1593 = 1#1), ∀ a, (k0_off212 v1592) a + S128x1024.size a ≤ S8192x1024.size a := fun v1592 v1593 k0_hw43 k0_h263 => k0_hw43.2.2.2.1 k0_h263
theorem k0_mult213_dvd : ∀ (v1592 : BitVec 32) (v1593 : BitVec 32) (k0_hw43 : k0_chk43 v1592 v1593), ∀ (k0_h264 : k0_cond264 v1592 v1593 = 1#1), 128 ∣ (k0_mult213 v1592).toNat := fun v1592 v1593 k0_hw43 k0_h264 => k0_hw43.2.2.2.2.1 k0_h264
theorem k0_off213_inb : ∀ (v1592 : BitVec 32) (v1593 : BitVec 32) (k0_hw43 : k0_chk43 v1592 v1593), ∀ (k0_h264 : k0_cond264 v1592 v1593 = 1#1), ∀ a, (k0_off213 v1592) a + S128x1024.size a ≤ S8192x1024.size a := fun v1592 v1593 k0_hw43 k0_h264 => k0_hw43.2.2.2.2.2.1 k0_h264
theorem k0_mult214_dvd : ∀ (v1592 : BitVec 32) (v1593 : BitVec 32) (k0_hw43 : k0_chk43 v1592 v1593), ∀ (k0_h265 : k0_cond265 v1592 v1593 = 1#1), 128 ∣ (k0_mult214 v1592).toNat := fun v1592 v1593 k0_hw43 k0_h265 => k0_hw43.2.2.2.2.2.2.1 k0_h265
theorem k0_off214_inb : ∀ (v1592 : BitVec 32) (v1593 : BitVec 32) (k0_hw43 : k0_chk43 v1592 v1593), ∀ (k0_h265 : k0_cond265 v1592 v1593 = 1#1), ∀ a, (k0_off214 v1592) a + S128x1024.size a ≤ S8192x1024.size a := fun v1592 v1593 k0_hw43 k0_h265 => k0_hw43.2.2.2.2.2.2.2.1 k0_h265
theorem k0_mult215_dvd : ∀ (v1592 : BitVec 32) (v1593 : BitVec 32) (k0_hw43 : k0_chk43 v1592 v1593), ∀ (k0_h266 : k0_cond266 v1592 v1593 = 1#1), 128 ∣ (k0_mult215 v1592).toNat := fun v1592 v1593 k0_hw43 k0_h266 => k0_hw43.2.2.2.2.2.2.2.2.1 k0_h266
theorem k0_off215_inb : ∀ (v1592 : BitVec 32) (v1593 : BitVec 32) (k0_hw43 : k0_chk43 v1592 v1593), ∀ (k0_h266 : k0_cond266 v1592 v1593 = 1#1), ∀ a, (k0_off215 v1592) a + S128x1024.size a ≤ S8192x1024.size a := fun v1592 v1593 k0_hw43 k0_h266 => k0_hw43.2.2.2.2.2.2.2.2.2 k0_h266

def k0_mult216 (v1638 : BitVec 32) : BitVec 32 :=
  let c512_i32_1732 : BitVec 32 := 512#32
  let v2752 : BitVec 32 := Scalar.addi v1638 c512_i32_1732
  v2752
def k0_cond267 (v1638 : BitVec 32) (v1639 : BitVec 32) : BitVec 1 :=
  let v1640 : BitVec 32 := Scalar.subi v1639 v1638
  let c1024_i32_976 : BitVec 32 := 1024#32
  let v1641 : BitVec 1 := Scalar.cmpi .sge v1640 c1024_i32_976
  let v1645 : BitVec 32 := Scalar.extui v1641
  let c0_i32_979 : BitVec 32 := 0#32
  let v1646 : BitVec 1 := Scalar.cmpi .ne v1645 c0_i32_979
  v1646

def k0_off216 (v1638 : BitVec 32) : Fin 2 → Nat :=
  let c512_i32_1732 : BitVec 32 := 512#32
  let v2752 : BitVec 32 := Scalar.addi v1638 c512_i32_1732
  let v2753 : BitVec 32 := v2752
  let c0_i32_1737 : BitVec 32 := 0#32
  ![v2753.toNat, 0]
def k0_mult217 (v1638 : BitVec 32) : BitVec 32 :=
  let c512_i32_1732 : BitVec 32 := 512#32
  let v2752 : BitVec 32 := Scalar.addi v1638 c512_i32_1732
  v2752
def k0_cond268 (v1638 : BitVec 32) (v1639 : BitVec 32) : BitVec 1 :=
  let v1640 : BitVec 32 := Scalar.subi v1639 v1638
  let c512_i32_977 : BitVec 32 := 512#32
  let v1642 : BitVec 1 := Scalar.cmpi .sgt v1640 c512_i32_977
  let c1024_i32_976 : BitVec 32 := 1024#32
  let v1641 : BitVec 1 := Scalar.cmpi .sge v1640 c1024_i32_976
  let true_978 : BitVec 1 := 1#1
  let v1643 : BitVec 1 := Scalar.xori v1641 true_978
  let v1644 : BitVec 1 := Scalar.andi v1642 v1643
  let c512_i32_980 : BitVec 32 := 512#32
  let v1647 : BitVec 1 := Scalar.cmpi .sgt v1640 c512_i32_980
  let v1648 : BitVec 1 := Scalar.andi v1644 v1647
  let v1649 : BitVec 32 := Scalar.extui v1648
  let c0_i32_981 : BitVec 32 := 0#32
  let v1650 : BitVec 1 := Scalar.cmpi .ne v1649 c0_i32_981
  v1650

def k0_off217 (v1638 : BitVec 32) : Fin 2 → Nat :=
  let c512_i32_1732 : BitVec 32 := 512#32
  let v2752 : BitVec 32 := Scalar.addi v1638 c512_i32_1732
  let v2753 : BitVec 32 := v2752
  let c0_i32_1737 : BitVec 32 := 0#32
  ![v2753.toNat, 0]
def k0_mult218 (v1638 : BitVec 32) : BitVec 32 :=
  let c640_i32_1732 : BitVec 32 := 640#32
  let v2752 : BitVec 32 := Scalar.addi v1638 c640_i32_1732
  v2752
def k0_cond269 (v1638 : BitVec 32) (v1639 : BitVec 32) : BitVec 1 :=
  let v1640 : BitVec 32 := Scalar.subi v1639 v1638
  let c512_i32_977 : BitVec 32 := 512#32
  let v1642 : BitVec 1 := Scalar.cmpi .sgt v1640 c512_i32_977
  let c1024_i32_976 : BitVec 32 := 1024#32
  let v1641 : BitVec 1 := Scalar.cmpi .sge v1640 c1024_i32_976
  let true_978 : BitVec 1 := 1#1
  let v1643 : BitVec 1 := Scalar.xori v1641 true_978
  let v1644 : BitVec 1 := Scalar.andi v1642 v1643
  let c640_i32_982 : BitVec 32 := 640#32
  let v1651 : BitVec 1 := Scalar.cmpi .sgt v1640 c640_i32_982
  let v1652 : BitVec 1 := Scalar.andi v1644 v1651
  let v1653 : BitVec 32 := Scalar.extui v1652
  let c0_i32_983 : BitVec 32 := 0#32
  let v1654 : BitVec 1 := Scalar.cmpi .ne v1653 c0_i32_983
  v1654

def k0_off218 (v1638 : BitVec 32) : Fin 2 → Nat :=
  let c640_i32_1732 : BitVec 32 := 640#32
  let v2752 : BitVec 32 := Scalar.addi v1638 c640_i32_1732
  let v2753 : BitVec 32 := v2752
  let c0_i32_1737 : BitVec 32 := 0#32
  ![v2753.toNat, 0]
def k0_mult219 (v1638 : BitVec 32) : BitVec 32 :=
  let c768_i32_1732 : BitVec 32 := 768#32
  let v2752 : BitVec 32 := Scalar.addi v1638 c768_i32_1732
  v2752
def k0_cond270 (v1638 : BitVec 32) (v1639 : BitVec 32) : BitVec 1 :=
  let v1640 : BitVec 32 := Scalar.subi v1639 v1638
  let c512_i32_977 : BitVec 32 := 512#32
  let v1642 : BitVec 1 := Scalar.cmpi .sgt v1640 c512_i32_977
  let c1024_i32_976 : BitVec 32 := 1024#32
  let v1641 : BitVec 1 := Scalar.cmpi .sge v1640 c1024_i32_976
  let true_978 : BitVec 1 := 1#1
  let v1643 : BitVec 1 := Scalar.xori v1641 true_978
  let v1644 : BitVec 1 := Scalar.andi v1642 v1643
  let c768_i32_984 : BitVec 32 := 768#32
  let v1655 : BitVec 1 := Scalar.cmpi .sgt v1640 c768_i32_984
  let v1656 : BitVec 1 := Scalar.andi v1644 v1655
  let v1657 : BitVec 32 := Scalar.extui v1656
  let c0_i32_985 : BitVec 32 := 0#32
  let v1658 : BitVec 1 := Scalar.cmpi .ne v1657 c0_i32_985
  v1658

def k0_off219 (v1638 : BitVec 32) : Fin 2 → Nat :=
  let c768_i32_1732 : BitVec 32 := 768#32
  let v2752 : BitVec 32 := Scalar.addi v1638 c768_i32_1732
  let v2753 : BitVec 32 := v2752
  let c0_i32_1737 : BitVec 32 := 0#32
  ![v2753.toNat, 0]
def k0_mult220 (v1638 : BitVec 32) : BitVec 32 :=
  let c896_i32_1732 : BitVec 32 := 896#32
  let v2752 : BitVec 32 := Scalar.addi v1638 c896_i32_1732
  v2752
def k0_cond271 (v1638 : BitVec 32) (v1639 : BitVec 32) : BitVec 1 :=
  let v1640 : BitVec 32 := Scalar.subi v1639 v1638
  let c512_i32_977 : BitVec 32 := 512#32
  let v1642 : BitVec 1 := Scalar.cmpi .sgt v1640 c512_i32_977
  let c1024_i32_976 : BitVec 32 := 1024#32
  let v1641 : BitVec 1 := Scalar.cmpi .sge v1640 c1024_i32_976
  let true_978 : BitVec 1 := 1#1
  let v1643 : BitVec 1 := Scalar.xori v1641 true_978
  let v1644 : BitVec 1 := Scalar.andi v1642 v1643
  let c896_i32_986 : BitVec 32 := 896#32
  let v1659 : BitVec 1 := Scalar.cmpi .sgt v1640 c896_i32_986
  let v1660 : BitVec 1 := Scalar.andi v1644 v1659
  let v1661 : BitVec 32 := Scalar.extui v1660
  let c0_i32_987 : BitVec 32 := 0#32
  let v1662 : BitVec 1 := Scalar.cmpi .ne v1661 c0_i32_987
  v1662

def k0_off220 (v1638 : BitVec 32) : Fin 2 → Nat :=
  let c896_i32_1732 : BitVec 32 := 896#32
  let v2752 : BitVec 32 := Scalar.addi v1638 c896_i32_1732
  let v2753 : BitVec 32 := v2752
  let c0_i32_1737 : BitVec 32 := 0#32
  ![v2753.toNat, 0]

def k0_chk44 (v1638 : BitVec 32) (v1639 : BitVec 32) : Prop :=
  (∀ (k0_h267 : k0_cond267 v1638 v1639 = 1#1), 128 ∣ (k0_mult216 v1638).toNat) ∧
  (∀ (k0_h267 : k0_cond267 v1638 v1639 = 1#1), ∀ a, (k0_off216 v1638) a + S512x1024.size a ≤ S8192x1024.size a) ∧
  (∀ (k0_h268 : k0_cond268 v1638 v1639 = 1#1), 128 ∣ (k0_mult217 v1638).toNat) ∧
  (∀ (k0_h268 : k0_cond268 v1638 v1639 = 1#1), ∀ a, (k0_off217 v1638) a + S128x1024.size a ≤ S8192x1024.size a) ∧
  (∀ (k0_h269 : k0_cond269 v1638 v1639 = 1#1), 128 ∣ (k0_mult218 v1638).toNat) ∧
  (∀ (k0_h269 : k0_cond269 v1638 v1639 = 1#1), ∀ a, (k0_off218 v1638) a + S128x1024.size a ≤ S8192x1024.size a) ∧
  (∀ (k0_h270 : k0_cond270 v1638 v1639 = 1#1), 128 ∣ (k0_mult219 v1638).toNat) ∧
  (∀ (k0_h270 : k0_cond270 v1638 v1639 = 1#1), ∀ a, (k0_off219 v1638) a + S128x1024.size a ≤ S8192x1024.size a) ∧
  (∀ (k0_h271 : k0_cond271 v1638 v1639 = 1#1), 128 ∣ (k0_mult220 v1638).toNat) ∧
  (∀ (k0_h271 : k0_cond271 v1638 v1639 = 1#1), ∀ a, (k0_off220 v1638) a + S128x1024.size a ≤ S8192x1024.size a)
theorem k0_mult216_dvd : ∀ (v1638 : BitVec 32) (v1639 : BitVec 32) (k0_hw44 : k0_chk44 v1638 v1639), ∀ (k0_h267 : k0_cond267 v1638 v1639 = 1#1), 128 ∣ (k0_mult216 v1638).toNat := fun v1638 v1639 k0_hw44 k0_h267 => k0_hw44.1 k0_h267
theorem k0_off216_inb : ∀ (v1638 : BitVec 32) (v1639 : BitVec 32) (k0_hw44 : k0_chk44 v1638 v1639), ∀ (k0_h267 : k0_cond267 v1638 v1639 = 1#1), ∀ a, (k0_off216 v1638) a + S512x1024.size a ≤ S8192x1024.size a := fun v1638 v1639 k0_hw44 k0_h267 => k0_hw44.2.1 k0_h267
theorem k0_mult217_dvd : ∀ (v1638 : BitVec 32) (v1639 : BitVec 32) (k0_hw44 : k0_chk44 v1638 v1639), ∀ (k0_h268 : k0_cond268 v1638 v1639 = 1#1), 128 ∣ (k0_mult217 v1638).toNat := fun v1638 v1639 k0_hw44 k0_h268 => k0_hw44.2.2.1 k0_h268
theorem k0_off217_inb : ∀ (v1638 : BitVec 32) (v1639 : BitVec 32) (k0_hw44 : k0_chk44 v1638 v1639), ∀ (k0_h268 : k0_cond268 v1638 v1639 = 1#1), ∀ a, (k0_off217 v1638) a + S128x1024.size a ≤ S8192x1024.size a := fun v1638 v1639 k0_hw44 k0_h268 => k0_hw44.2.2.2.1 k0_h268
theorem k0_mult218_dvd : ∀ (v1638 : BitVec 32) (v1639 : BitVec 32) (k0_hw44 : k0_chk44 v1638 v1639), ∀ (k0_h269 : k0_cond269 v1638 v1639 = 1#1), 128 ∣ (k0_mult218 v1638).toNat := fun v1638 v1639 k0_hw44 k0_h269 => k0_hw44.2.2.2.2.1 k0_h269
theorem k0_off218_inb : ∀ (v1638 : BitVec 32) (v1639 : BitVec 32) (k0_hw44 : k0_chk44 v1638 v1639), ∀ (k0_h269 : k0_cond269 v1638 v1639 = 1#1), ∀ a, (k0_off218 v1638) a + S128x1024.size a ≤ S8192x1024.size a := fun v1638 v1639 k0_hw44 k0_h269 => k0_hw44.2.2.2.2.2.1 k0_h269
theorem k0_mult219_dvd : ∀ (v1638 : BitVec 32) (v1639 : BitVec 32) (k0_hw44 : k0_chk44 v1638 v1639), ∀ (k0_h270 : k0_cond270 v1638 v1639 = 1#1), 128 ∣ (k0_mult219 v1638).toNat := fun v1638 v1639 k0_hw44 k0_h270 => k0_hw44.2.2.2.2.2.2.1 k0_h270
theorem k0_off219_inb : ∀ (v1638 : BitVec 32) (v1639 : BitVec 32) (k0_hw44 : k0_chk44 v1638 v1639), ∀ (k0_h270 : k0_cond270 v1638 v1639 = 1#1), ∀ a, (k0_off219 v1638) a + S128x1024.size a ≤ S8192x1024.size a := fun v1638 v1639 k0_hw44 k0_h270 => k0_hw44.2.2.2.2.2.2.2.1 k0_h270
theorem k0_mult220_dvd : ∀ (v1638 : BitVec 32) (v1639 : BitVec 32) (k0_hw44 : k0_chk44 v1638 v1639), ∀ (k0_h271 : k0_cond271 v1638 v1639 = 1#1), 128 ∣ (k0_mult220 v1638).toNat := fun v1638 v1639 k0_hw44 k0_h271 => k0_hw44.2.2.2.2.2.2.2.2.1 k0_h271
theorem k0_off220_inb : ∀ (v1638 : BitVec 32) (v1639 : BitVec 32) (k0_hw44 : k0_chk44 v1638 v1639), ∀ (k0_h271 : k0_cond271 v1638 v1639 = 1#1), ∀ a, (k0_off220 v1638) a + S128x1024.size a ≤ S8192x1024.size a := fun v1638 v1639 k0_hw44 k0_h271 => k0_hw44.2.2.2.2.2.2.2.2.2 k0_h271

def k0_mult221 (v1678 : BitVec 32) : BitVec 32 :=
  let c1024_i32_1732 : BitVec 32 := 1024#32
  let v2752 : BitVec 32 := Scalar.addi v1678 c1024_i32_1732
  v2752
def k0_cond275 (v1678 : BitVec 32) (v1679 : BitVec 32) : BitVec 1 :=
  let v1680 : BitVec 32 := Scalar.subi v1679 v1678
  let c1536_i32_1002 : BitVec 32 := 1536#32
  let v1681 : BitVec 1 := Scalar.cmpi .sge v1680 c1536_i32_1002
  let v1685 : BitVec 32 := Scalar.extui v1681
  let c0_i32_1005 : BitVec 32 := 0#32
  let v1686 : BitVec 1 := Scalar.cmpi .ne v1685 c0_i32_1005
  v1686

def k0_off221 (v1678 : BitVec 32) : Fin 2 → Nat :=
  let c1024_i32_1732 : BitVec 32 := 1024#32
  let v2752 : BitVec 32 := Scalar.addi v1678 c1024_i32_1732
  let v2753 : BitVec 32 := v2752
  let c0_i32_1737 : BitVec 32 := 0#32
  ![v2753.toNat, 0]
def k0_mult222 (v1678 : BitVec 32) : BitVec 32 :=
  let c1024_i32_1732 : BitVec 32 := 1024#32
  let v2752 : BitVec 32 := Scalar.addi v1678 c1024_i32_1732
  v2752
def k0_cond276 (v1678 : BitVec 32) (v1679 : BitVec 32) : BitVec 1 :=
  let v1680 : BitVec 32 := Scalar.subi v1679 v1678
  let c1024_i32_1003 : BitVec 32 := 1024#32
  let v1682 : BitVec 1 := Scalar.cmpi .sgt v1680 c1024_i32_1003
  let c1536_i32_1002 : BitVec 32 := 1536#32
  let v1681 : BitVec 1 := Scalar.cmpi .sge v1680 c1536_i32_1002
  let true_1004 : BitVec 1 := 1#1
  let v1683 : BitVec 1 := Scalar.xori v1681 true_1004
  let v1684 : BitVec 1 := Scalar.andi v1682 v1683
  let c1024_i32_1006 : BitVec 32 := 1024#32
  let v1687 : BitVec 1 := Scalar.cmpi .sgt v1680 c1024_i32_1006
  let v1688 : BitVec 1 := Scalar.andi v1684 v1687
  let v1689 : BitVec 32 := Scalar.extui v1688
  let c0_i32_1007 : BitVec 32 := 0#32
  let v1690 : BitVec 1 := Scalar.cmpi .ne v1689 c0_i32_1007
  v1690

def k0_off222 (v1678 : BitVec 32) : Fin 2 → Nat :=
  let c1024_i32_1732 : BitVec 32 := 1024#32
  let v2752 : BitVec 32 := Scalar.addi v1678 c1024_i32_1732
  let v2753 : BitVec 32 := v2752
  let c0_i32_1737 : BitVec 32 := 0#32
  ![v2753.toNat, 0]
def k0_mult223 (v1678 : BitVec 32) : BitVec 32 :=
  let c1152_i32_1732 : BitVec 32 := 1152#32
  let v2752 : BitVec 32 := Scalar.addi v1678 c1152_i32_1732
  v2752
def k0_cond277 (v1678 : BitVec 32) (v1679 : BitVec 32) : BitVec 1 :=
  let v1680 : BitVec 32 := Scalar.subi v1679 v1678
  let c1024_i32_1003 : BitVec 32 := 1024#32
  let v1682 : BitVec 1 := Scalar.cmpi .sgt v1680 c1024_i32_1003
  let c1536_i32_1002 : BitVec 32 := 1536#32
  let v1681 : BitVec 1 := Scalar.cmpi .sge v1680 c1536_i32_1002
  let true_1004 : BitVec 1 := 1#1
  let v1683 : BitVec 1 := Scalar.xori v1681 true_1004
  let v1684 : BitVec 1 := Scalar.andi v1682 v1683
  let c1152_i32_1008 : BitVec 32 := 1152#32
  let v1691 : BitVec 1 := Scalar.cmpi .sgt v1680 c1152_i32_1008
  let v1692 : BitVec 1 := Scalar.andi v1684 v1691
  let v1693 : BitVec 32 := Scalar.extui v1692
  let c0_i32_1009 : BitVec 32 := 0#32
  let v1694 : BitVec 1 := Scalar.cmpi .ne v1693 c0_i32_1009
  v1694

def k0_off223 (v1678 : BitVec 32) : Fin 2 → Nat :=
  let c1152_i32_1732 : BitVec 32 := 1152#32
  let v2752 : BitVec 32 := Scalar.addi v1678 c1152_i32_1732
  let v2753 : BitVec 32 := v2752
  let c0_i32_1737 : BitVec 32 := 0#32
  ![v2753.toNat, 0]
def k0_mult224 (v1678 : BitVec 32) : BitVec 32 :=
  let c1280_i32_1732 : BitVec 32 := 1280#32
  let v2752 : BitVec 32 := Scalar.addi v1678 c1280_i32_1732
  v2752
def k0_cond278 (v1678 : BitVec 32) (v1679 : BitVec 32) : BitVec 1 :=
  let v1680 : BitVec 32 := Scalar.subi v1679 v1678
  let c1024_i32_1003 : BitVec 32 := 1024#32
  let v1682 : BitVec 1 := Scalar.cmpi .sgt v1680 c1024_i32_1003
  let c1536_i32_1002 : BitVec 32 := 1536#32
  let v1681 : BitVec 1 := Scalar.cmpi .sge v1680 c1536_i32_1002
  let true_1004 : BitVec 1 := 1#1
  let v1683 : BitVec 1 := Scalar.xori v1681 true_1004
  let v1684 : BitVec 1 := Scalar.andi v1682 v1683
  let c1280_i32_1010 : BitVec 32 := 1280#32
  let v1695 : BitVec 1 := Scalar.cmpi .sgt v1680 c1280_i32_1010
  let v1696 : BitVec 1 := Scalar.andi v1684 v1695
  let v1697 : BitVec 32 := Scalar.extui v1696
  let c0_i32_1011 : BitVec 32 := 0#32
  let v1698 : BitVec 1 := Scalar.cmpi .ne v1697 c0_i32_1011
  v1698

def k0_off224 (v1678 : BitVec 32) : Fin 2 → Nat :=
  let c1280_i32_1732 : BitVec 32 := 1280#32
  let v2752 : BitVec 32 := Scalar.addi v1678 c1280_i32_1732
  let v2753 : BitVec 32 := v2752
  let c0_i32_1737 : BitVec 32 := 0#32
  ![v2753.toNat, 0]
def k0_mult225 (v1678 : BitVec 32) : BitVec 32 :=
  let c1408_i32_1732 : BitVec 32 := 1408#32
  let v2752 : BitVec 32 := Scalar.addi v1678 c1408_i32_1732
  v2752
def k0_cond279 (v1678 : BitVec 32) (v1679 : BitVec 32) : BitVec 1 :=
  let v1680 : BitVec 32 := Scalar.subi v1679 v1678
  let c1024_i32_1003 : BitVec 32 := 1024#32
  let v1682 : BitVec 1 := Scalar.cmpi .sgt v1680 c1024_i32_1003
  let c1536_i32_1002 : BitVec 32 := 1536#32
  let v1681 : BitVec 1 := Scalar.cmpi .sge v1680 c1536_i32_1002
  let true_1004 : BitVec 1 := 1#1
  let v1683 : BitVec 1 := Scalar.xori v1681 true_1004
  let v1684 : BitVec 1 := Scalar.andi v1682 v1683
  let c1408_i32_1012 : BitVec 32 := 1408#32
  let v1699 : BitVec 1 := Scalar.cmpi .sgt v1680 c1408_i32_1012
  let v1700 : BitVec 1 := Scalar.andi v1684 v1699
  let v1701 : BitVec 32 := Scalar.extui v1700
  let c0_i32_1013 : BitVec 32 := 0#32
  let v1702 : BitVec 1 := Scalar.cmpi .ne v1701 c0_i32_1013
  v1702

def k0_off225 (v1678 : BitVec 32) : Fin 2 → Nat :=
  let c1408_i32_1732 : BitVec 32 := 1408#32
  let v2752 : BitVec 32 := Scalar.addi v1678 c1408_i32_1732
  let v2753 : BitVec 32 := v2752
  let c0_i32_1737 : BitVec 32 := 0#32
  ![v2753.toNat, 0]

def k0_chk45 (v1678 : BitVec 32) (v1679 : BitVec 32) : Prop :=
  (∀ (k0_h275 : k0_cond275 v1678 v1679 = 1#1), 128 ∣ (k0_mult221 v1678).toNat) ∧
  (∀ (k0_h275 : k0_cond275 v1678 v1679 = 1#1), ∀ a, (k0_off221 v1678) a + S512x1024.size a ≤ S8192x1024.size a) ∧
  (∀ (k0_h276 : k0_cond276 v1678 v1679 = 1#1), 128 ∣ (k0_mult222 v1678).toNat) ∧
  (∀ (k0_h276 : k0_cond276 v1678 v1679 = 1#1), ∀ a, (k0_off222 v1678) a + S128x1024.size a ≤ S8192x1024.size a) ∧
  (∀ (k0_h277 : k0_cond277 v1678 v1679 = 1#1), 128 ∣ (k0_mult223 v1678).toNat) ∧
  (∀ (k0_h277 : k0_cond277 v1678 v1679 = 1#1), ∀ a, (k0_off223 v1678) a + S128x1024.size a ≤ S8192x1024.size a) ∧
  (∀ (k0_h278 : k0_cond278 v1678 v1679 = 1#1), 128 ∣ (k0_mult224 v1678).toNat) ∧
  (∀ (k0_h278 : k0_cond278 v1678 v1679 = 1#1), ∀ a, (k0_off224 v1678) a + S128x1024.size a ≤ S8192x1024.size a) ∧
  (∀ (k0_h279 : k0_cond279 v1678 v1679 = 1#1), 128 ∣ (k0_mult225 v1678).toNat) ∧
  (∀ (k0_h279 : k0_cond279 v1678 v1679 = 1#1), ∀ a, (k0_off225 v1678) a + S128x1024.size a ≤ S8192x1024.size a)
theorem k0_mult221_dvd : ∀ (v1678 : BitVec 32) (v1679 : BitVec 32) (k0_hw45 : k0_chk45 v1678 v1679), ∀ (k0_h275 : k0_cond275 v1678 v1679 = 1#1), 128 ∣ (k0_mult221 v1678).toNat := fun v1678 v1679 k0_hw45 k0_h275 => k0_hw45.1 k0_h275
theorem k0_off221_inb : ∀ (v1678 : BitVec 32) (v1679 : BitVec 32) (k0_hw45 : k0_chk45 v1678 v1679), ∀ (k0_h275 : k0_cond275 v1678 v1679 = 1#1), ∀ a, (k0_off221 v1678) a + S512x1024.size a ≤ S8192x1024.size a := fun v1678 v1679 k0_hw45 k0_h275 => k0_hw45.2.1 k0_h275
theorem k0_mult222_dvd : ∀ (v1678 : BitVec 32) (v1679 : BitVec 32) (k0_hw45 : k0_chk45 v1678 v1679), ∀ (k0_h276 : k0_cond276 v1678 v1679 = 1#1), 128 ∣ (k0_mult222 v1678).toNat := fun v1678 v1679 k0_hw45 k0_h276 => k0_hw45.2.2.1 k0_h276
theorem k0_off222_inb : ∀ (v1678 : BitVec 32) (v1679 : BitVec 32) (k0_hw45 : k0_chk45 v1678 v1679), ∀ (k0_h276 : k0_cond276 v1678 v1679 = 1#1), ∀ a, (k0_off222 v1678) a + S128x1024.size a ≤ S8192x1024.size a := fun v1678 v1679 k0_hw45 k0_h276 => k0_hw45.2.2.2.1 k0_h276
theorem k0_mult223_dvd : ∀ (v1678 : BitVec 32) (v1679 : BitVec 32) (k0_hw45 : k0_chk45 v1678 v1679), ∀ (k0_h277 : k0_cond277 v1678 v1679 = 1#1), 128 ∣ (k0_mult223 v1678).toNat := fun v1678 v1679 k0_hw45 k0_h277 => k0_hw45.2.2.2.2.1 k0_h277
theorem k0_off223_inb : ∀ (v1678 : BitVec 32) (v1679 : BitVec 32) (k0_hw45 : k0_chk45 v1678 v1679), ∀ (k0_h277 : k0_cond277 v1678 v1679 = 1#1), ∀ a, (k0_off223 v1678) a + S128x1024.size a ≤ S8192x1024.size a := fun v1678 v1679 k0_hw45 k0_h277 => k0_hw45.2.2.2.2.2.1 k0_h277
theorem k0_mult224_dvd : ∀ (v1678 : BitVec 32) (v1679 : BitVec 32) (k0_hw45 : k0_chk45 v1678 v1679), ∀ (k0_h278 : k0_cond278 v1678 v1679 = 1#1), 128 ∣ (k0_mult224 v1678).toNat := fun v1678 v1679 k0_hw45 k0_h278 => k0_hw45.2.2.2.2.2.2.1 k0_h278
theorem k0_off224_inb : ∀ (v1678 : BitVec 32) (v1679 : BitVec 32) (k0_hw45 : k0_chk45 v1678 v1679), ∀ (k0_h278 : k0_cond278 v1678 v1679 = 1#1), ∀ a, (k0_off224 v1678) a + S128x1024.size a ≤ S8192x1024.size a := fun v1678 v1679 k0_hw45 k0_h278 => k0_hw45.2.2.2.2.2.2.2.1 k0_h278
theorem k0_mult225_dvd : ∀ (v1678 : BitVec 32) (v1679 : BitVec 32) (k0_hw45 : k0_chk45 v1678 v1679), ∀ (k0_h279 : k0_cond279 v1678 v1679 = 1#1), 128 ∣ (k0_mult225 v1678).toNat := fun v1678 v1679 k0_hw45 k0_h279 => k0_hw45.2.2.2.2.2.2.2.2.1 k0_h279
theorem k0_off225_inb : ∀ (v1678 : BitVec 32) (v1679 : BitVec 32) (k0_hw45 : k0_chk45 v1678 v1679), ∀ (k0_h279 : k0_cond279 v1678 v1679 = 1#1), ∀ a, (k0_off225 v1678) a + S128x1024.size a ≤ S8192x1024.size a := fun v1678 v1679 k0_hw45 k0_h279 => k0_hw45.2.2.2.2.2.2.2.2.2 k0_h279

def k0_mult226 (v1724 : BitVec 32) : BitVec 32 :=
  let c1024_i32_1732 : BitVec 32 := 1024#32
  let v2752 : BitVec 32 := Scalar.addi v1724 c1024_i32_1732
  v2752
def k0_cond280 (v1724 : BitVec 32) (v1725 : BitVec 32) : BitVec 1 :=
  let v1726 : BitVec 32 := Scalar.subi v1725 v1724
  let c1536_i32_1031 : BitVec 32 := 1536#32
  let v1727 : BitVec 1 := Scalar.cmpi .sge v1726 c1536_i32_1031
  let v1731 : BitVec 32 := Scalar.extui v1727
  let c0_i32_1034 : BitVec 32 := 0#32
  let v1732 : BitVec 1 := Scalar.cmpi .ne v1731 c0_i32_1034
  v1732

def k0_off226 (v1724 : BitVec 32) : Fin 2 → Nat :=
  let c1024_i32_1732 : BitVec 32 := 1024#32
  let v2752 : BitVec 32 := Scalar.addi v1724 c1024_i32_1732
  let v2753 : BitVec 32 := v2752
  let c0_i32_1737 : BitVec 32 := 0#32
  ![v2753.toNat, 0]
def k0_mult227 (v1724 : BitVec 32) : BitVec 32 :=
  let c1024_i32_1732 : BitVec 32 := 1024#32
  let v2752 : BitVec 32 := Scalar.addi v1724 c1024_i32_1732
  v2752
def k0_cond281 (v1724 : BitVec 32) (v1725 : BitVec 32) : BitVec 1 :=
  let v1726 : BitVec 32 := Scalar.subi v1725 v1724
  let c1024_i32_1032 : BitVec 32 := 1024#32
  let v1728 : BitVec 1 := Scalar.cmpi .sgt v1726 c1024_i32_1032
  let c1536_i32_1031 : BitVec 32 := 1536#32
  let v1727 : BitVec 1 := Scalar.cmpi .sge v1726 c1536_i32_1031
  let true_1033 : BitVec 1 := 1#1
  let v1729 : BitVec 1 := Scalar.xori v1727 true_1033
  let v1730 : BitVec 1 := Scalar.andi v1728 v1729
  let c1024_i32_1035 : BitVec 32 := 1024#32
  let v1733 : BitVec 1 := Scalar.cmpi .sgt v1726 c1024_i32_1035
  let v1734 : BitVec 1 := Scalar.andi v1730 v1733
  let v1735 : BitVec 32 := Scalar.extui v1734
  let c0_i32_1036 : BitVec 32 := 0#32
  let v1736 : BitVec 1 := Scalar.cmpi .ne v1735 c0_i32_1036
  v1736

def k0_off227 (v1724 : BitVec 32) : Fin 2 → Nat :=
  let c1024_i32_1732 : BitVec 32 := 1024#32
  let v2752 : BitVec 32 := Scalar.addi v1724 c1024_i32_1732
  let v2753 : BitVec 32 := v2752
  let c0_i32_1737 : BitVec 32 := 0#32
  ![v2753.toNat, 0]
def k0_mult228 (v1724 : BitVec 32) : BitVec 32 :=
  let c1152_i32_1732 : BitVec 32 := 1152#32
  let v2752 : BitVec 32 := Scalar.addi v1724 c1152_i32_1732
  v2752
def k0_cond282 (v1724 : BitVec 32) (v1725 : BitVec 32) : BitVec 1 :=
  let v1726 : BitVec 32 := Scalar.subi v1725 v1724
  let c1024_i32_1032 : BitVec 32 := 1024#32
  let v1728 : BitVec 1 := Scalar.cmpi .sgt v1726 c1024_i32_1032
  let c1536_i32_1031 : BitVec 32 := 1536#32
  let v1727 : BitVec 1 := Scalar.cmpi .sge v1726 c1536_i32_1031
  let true_1033 : BitVec 1 := 1#1
  let v1729 : BitVec 1 := Scalar.xori v1727 true_1033
  let v1730 : BitVec 1 := Scalar.andi v1728 v1729
  let c1152_i32_1037 : BitVec 32 := 1152#32
  let v1737 : BitVec 1 := Scalar.cmpi .sgt v1726 c1152_i32_1037
  let v1738 : BitVec 1 := Scalar.andi v1730 v1737
  let v1739 : BitVec 32 := Scalar.extui v1738
  let c0_i32_1038 : BitVec 32 := 0#32
  let v1740 : BitVec 1 := Scalar.cmpi .ne v1739 c0_i32_1038
  v1740

def k0_off228 (v1724 : BitVec 32) : Fin 2 → Nat :=
  let c1152_i32_1732 : BitVec 32 := 1152#32
  let v2752 : BitVec 32 := Scalar.addi v1724 c1152_i32_1732
  let v2753 : BitVec 32 := v2752
  let c0_i32_1737 : BitVec 32 := 0#32
  ![v2753.toNat, 0]
def k0_mult229 (v1724 : BitVec 32) : BitVec 32 :=
  let c1280_i32_1732 : BitVec 32 := 1280#32
  let v2752 : BitVec 32 := Scalar.addi v1724 c1280_i32_1732
  v2752
def k0_cond283 (v1724 : BitVec 32) (v1725 : BitVec 32) : BitVec 1 :=
  let v1726 : BitVec 32 := Scalar.subi v1725 v1724
  let c1024_i32_1032 : BitVec 32 := 1024#32
  let v1728 : BitVec 1 := Scalar.cmpi .sgt v1726 c1024_i32_1032
  let c1536_i32_1031 : BitVec 32 := 1536#32
  let v1727 : BitVec 1 := Scalar.cmpi .sge v1726 c1536_i32_1031
  let true_1033 : BitVec 1 := 1#1
  let v1729 : BitVec 1 := Scalar.xori v1727 true_1033
  let v1730 : BitVec 1 := Scalar.andi v1728 v1729
  let c1280_i32_1039 : BitVec 32 := 1280#32
  let v1741 : BitVec 1 := Scalar.cmpi .sgt v1726 c1280_i32_1039
  let v1742 : BitVec 1 := Scalar.andi v1730 v1741
  let v1743 : BitVec 32 := Scalar.extui v1742
  let c0_i32_1040 : BitVec 32 := 0#32
  let v1744 : BitVec 1 := Scalar.cmpi .ne v1743 c0_i32_1040
  v1744

def k0_off229 (v1724 : BitVec 32) : Fin 2 → Nat :=
  let c1280_i32_1732 : BitVec 32 := 1280#32
  let v2752 : BitVec 32 := Scalar.addi v1724 c1280_i32_1732
  let v2753 : BitVec 32 := v2752
  let c0_i32_1737 : BitVec 32 := 0#32
  ![v2753.toNat, 0]
def k0_mult230 (v1724 : BitVec 32) : BitVec 32 :=
  let c1408_i32_1732 : BitVec 32 := 1408#32
  let v2752 : BitVec 32 := Scalar.addi v1724 c1408_i32_1732
  v2752
def k0_cond284 (v1724 : BitVec 32) (v1725 : BitVec 32) : BitVec 1 :=
  let v1726 : BitVec 32 := Scalar.subi v1725 v1724
  let c1024_i32_1032 : BitVec 32 := 1024#32
  let v1728 : BitVec 1 := Scalar.cmpi .sgt v1726 c1024_i32_1032
  let c1536_i32_1031 : BitVec 32 := 1536#32
  let v1727 : BitVec 1 := Scalar.cmpi .sge v1726 c1536_i32_1031
  let true_1033 : BitVec 1 := 1#1
  let v1729 : BitVec 1 := Scalar.xori v1727 true_1033
  let v1730 : BitVec 1 := Scalar.andi v1728 v1729
  let c1408_i32_1041 : BitVec 32 := 1408#32
  let v1745 : BitVec 1 := Scalar.cmpi .sgt v1726 c1408_i32_1041
  let v1746 : BitVec 1 := Scalar.andi v1730 v1745
  let v1747 : BitVec 32 := Scalar.extui v1746
  let c0_i32_1042 : BitVec 32 := 0#32
  let v1748 : BitVec 1 := Scalar.cmpi .ne v1747 c0_i32_1042
  v1748

def k0_off230 (v1724 : BitVec 32) : Fin 2 → Nat :=
  let c1408_i32_1732 : BitVec 32 := 1408#32
  let v2752 : BitVec 32 := Scalar.addi v1724 c1408_i32_1732
  let v2753 : BitVec 32 := v2752
  let c0_i32_1737 : BitVec 32 := 0#32
  ![v2753.toNat, 0]

def k0_chk46 (v1724 : BitVec 32) (v1725 : BitVec 32) : Prop :=
  (∀ (k0_h280 : k0_cond280 v1724 v1725 = 1#1), 128 ∣ (k0_mult226 v1724).toNat) ∧
  (∀ (k0_h280 : k0_cond280 v1724 v1725 = 1#1), ∀ a, (k0_off226 v1724) a + S512x1024.size a ≤ S8192x1024.size a) ∧
  (∀ (k0_h281 : k0_cond281 v1724 v1725 = 1#1), 128 ∣ (k0_mult227 v1724).toNat) ∧
  (∀ (k0_h281 : k0_cond281 v1724 v1725 = 1#1), ∀ a, (k0_off227 v1724) a + S128x1024.size a ≤ S8192x1024.size a) ∧
  (∀ (k0_h282 : k0_cond282 v1724 v1725 = 1#1), 128 ∣ (k0_mult228 v1724).toNat) ∧
  (∀ (k0_h282 : k0_cond282 v1724 v1725 = 1#1), ∀ a, (k0_off228 v1724) a + S128x1024.size a ≤ S8192x1024.size a) ∧
  (∀ (k0_h283 : k0_cond283 v1724 v1725 = 1#1), 128 ∣ (k0_mult229 v1724).toNat) ∧
  (∀ (k0_h283 : k0_cond283 v1724 v1725 = 1#1), ∀ a, (k0_off229 v1724) a + S128x1024.size a ≤ S8192x1024.size a) ∧
  (∀ (k0_h284 : k0_cond284 v1724 v1725 = 1#1), 128 ∣ (k0_mult230 v1724).toNat) ∧
  (∀ (k0_h284 : k0_cond284 v1724 v1725 = 1#1), ∀ a, (k0_off230 v1724) a + S128x1024.size a ≤ S8192x1024.size a)
theorem k0_mult226_dvd : ∀ (v1724 : BitVec 32) (v1725 : BitVec 32) (k0_hw46 : k0_chk46 v1724 v1725), ∀ (k0_h280 : k0_cond280 v1724 v1725 = 1#1), 128 ∣ (k0_mult226 v1724).toNat := fun v1724 v1725 k0_hw46 k0_h280 => k0_hw46.1 k0_h280
theorem k0_off226_inb : ∀ (v1724 : BitVec 32) (v1725 : BitVec 32) (k0_hw46 : k0_chk46 v1724 v1725), ∀ (k0_h280 : k0_cond280 v1724 v1725 = 1#1), ∀ a, (k0_off226 v1724) a + S512x1024.size a ≤ S8192x1024.size a := fun v1724 v1725 k0_hw46 k0_h280 => k0_hw46.2.1 k0_h280
theorem k0_mult227_dvd : ∀ (v1724 : BitVec 32) (v1725 : BitVec 32) (k0_hw46 : k0_chk46 v1724 v1725), ∀ (k0_h281 : k0_cond281 v1724 v1725 = 1#1), 128 ∣ (k0_mult227 v1724).toNat := fun v1724 v1725 k0_hw46 k0_h281 => k0_hw46.2.2.1 k0_h281
theorem k0_off227_inb : ∀ (v1724 : BitVec 32) (v1725 : BitVec 32) (k0_hw46 : k0_chk46 v1724 v1725), ∀ (k0_h281 : k0_cond281 v1724 v1725 = 1#1), ∀ a, (k0_off227 v1724) a + S128x1024.size a ≤ S8192x1024.size a := fun v1724 v1725 k0_hw46 k0_h281 => k0_hw46.2.2.2.1 k0_h281
theorem k0_mult228_dvd : ∀ (v1724 : BitVec 32) (v1725 : BitVec 32) (k0_hw46 : k0_chk46 v1724 v1725), ∀ (k0_h282 : k0_cond282 v1724 v1725 = 1#1), 128 ∣ (k0_mult228 v1724).toNat := fun v1724 v1725 k0_hw46 k0_h282 => k0_hw46.2.2.2.2.1 k0_h282
theorem k0_off228_inb : ∀ (v1724 : BitVec 32) (v1725 : BitVec 32) (k0_hw46 : k0_chk46 v1724 v1725), ∀ (k0_h282 : k0_cond282 v1724 v1725 = 1#1), ∀ a, (k0_off228 v1724) a + S128x1024.size a ≤ S8192x1024.size a := fun v1724 v1725 k0_hw46 k0_h282 => k0_hw46.2.2.2.2.2.1 k0_h282
theorem k0_mult229_dvd : ∀ (v1724 : BitVec 32) (v1725 : BitVec 32) (k0_hw46 : k0_chk46 v1724 v1725), ∀ (k0_h283 : k0_cond283 v1724 v1725 = 1#1), 128 ∣ (k0_mult229 v1724).toNat := fun v1724 v1725 k0_hw46 k0_h283 => k0_hw46.2.2.2.2.2.2.1 k0_h283
theorem k0_off229_inb : ∀ (v1724 : BitVec 32) (v1725 : BitVec 32) (k0_hw46 : k0_chk46 v1724 v1725), ∀ (k0_h283 : k0_cond283 v1724 v1725 = 1#1), ∀ a, (k0_off229 v1724) a + S128x1024.size a ≤ S8192x1024.size a := fun v1724 v1725 k0_hw46 k0_h283 => k0_hw46.2.2.2.2.2.2.2.1 k0_h283
theorem k0_mult230_dvd : ∀ (v1724 : BitVec 32) (v1725 : BitVec 32) (k0_hw46 : k0_chk46 v1724 v1725), ∀ (k0_h284 : k0_cond284 v1724 v1725 = 1#1), 128 ∣ (k0_mult230 v1724).toNat := fun v1724 v1725 k0_hw46 k0_h284 => k0_hw46.2.2.2.2.2.2.2.2.1 k0_h284
theorem k0_off230_inb : ∀ (v1724 : BitVec 32) (v1725 : BitVec 32) (k0_hw46 : k0_chk46 v1724 v1725), ∀ (k0_h284 : k0_cond284 v1724 v1725 = 1#1), ∀ a, (k0_off230 v1724) a + S128x1024.size a ≤ S8192x1024.size a := fun v1724 v1725 k0_hw46 k0_h284 => k0_hw46.2.2.2.2.2.2.2.2.2 k0_h284

def k0_mult231 (v1764 : BitVec 32) : BitVec 32 :=
  let c1536_i32_1732 : BitVec 32 := 1536#32
  let v2752 : BitVec 32 := Scalar.addi v1764 c1536_i32_1732
  v2752
def k0_cond288 (v1764 : BitVec 32) (v1765 : BitVec 32) : BitVec 1 :=
  let v1766 : BitVec 32 := Scalar.subi v1765 v1764
  let c2048_i32_1057 : BitVec 32 := 2048#32
  let v1767 : BitVec 1 := Scalar.cmpi .sge v1766 c2048_i32_1057
  let v1771 : BitVec 32 := Scalar.extui v1767
  let c0_i32_1060 : BitVec 32 := 0#32
  let v1772 : BitVec 1 := Scalar.cmpi .ne v1771 c0_i32_1060
  v1772

def k0_off231 (v1764 : BitVec 32) : Fin 2 → Nat :=
  let c1536_i32_1732 : BitVec 32 := 1536#32
  let v2752 : BitVec 32 := Scalar.addi v1764 c1536_i32_1732
  let v2753 : BitVec 32 := v2752
  let c0_i32_1737 : BitVec 32 := 0#32
  ![v2753.toNat, 0]
def k0_mult232 (v1764 : BitVec 32) : BitVec 32 :=
  let c1536_i32_1732 : BitVec 32 := 1536#32
  let v2752 : BitVec 32 := Scalar.addi v1764 c1536_i32_1732
  v2752
def k0_cond289 (v1764 : BitVec 32) (v1765 : BitVec 32) : BitVec 1 :=
  let v1766 : BitVec 32 := Scalar.subi v1765 v1764
  let c1536_i32_1058 : BitVec 32 := 1536#32
  let v1768 : BitVec 1 := Scalar.cmpi .sgt v1766 c1536_i32_1058
  let c2048_i32_1057 : BitVec 32 := 2048#32
  let v1767 : BitVec 1 := Scalar.cmpi .sge v1766 c2048_i32_1057
  let true_1059 : BitVec 1 := 1#1
  let v1769 : BitVec 1 := Scalar.xori v1767 true_1059
  let v1770 : BitVec 1 := Scalar.andi v1768 v1769
  let c1536_i32_1061 : BitVec 32 := 1536#32
  let v1773 : BitVec 1 := Scalar.cmpi .sgt v1766 c1536_i32_1061
  let v1774 : BitVec 1 := Scalar.andi v1770 v1773
  let v1775 : BitVec 32 := Scalar.extui v1774
  let c0_i32_1062 : BitVec 32 := 0#32
  let v1776 : BitVec 1 := Scalar.cmpi .ne v1775 c0_i32_1062
  v1776

def k0_off232 (v1764 : BitVec 32) : Fin 2 → Nat :=
  let c1536_i32_1732 : BitVec 32 := 1536#32
  let v2752 : BitVec 32 := Scalar.addi v1764 c1536_i32_1732
  let v2753 : BitVec 32 := v2752
  let c0_i32_1737 : BitVec 32 := 0#32
  ![v2753.toNat, 0]
def k0_mult233 (v1764 : BitVec 32) : BitVec 32 :=
  let c1664_i32_1732 : BitVec 32 := 1664#32
  let v2752 : BitVec 32 := Scalar.addi v1764 c1664_i32_1732
  v2752
def k0_cond290 (v1764 : BitVec 32) (v1765 : BitVec 32) : BitVec 1 :=
  let v1766 : BitVec 32 := Scalar.subi v1765 v1764
  let c1536_i32_1058 : BitVec 32 := 1536#32
  let v1768 : BitVec 1 := Scalar.cmpi .sgt v1766 c1536_i32_1058
  let c2048_i32_1057 : BitVec 32 := 2048#32
  let v1767 : BitVec 1 := Scalar.cmpi .sge v1766 c2048_i32_1057
  let true_1059 : BitVec 1 := 1#1
  let v1769 : BitVec 1 := Scalar.xori v1767 true_1059
  let v1770 : BitVec 1 := Scalar.andi v1768 v1769
  let c1664_i32_1063 : BitVec 32 := 1664#32
  let v1777 : BitVec 1 := Scalar.cmpi .sgt v1766 c1664_i32_1063
  let v1778 : BitVec 1 := Scalar.andi v1770 v1777
  let v1779 : BitVec 32 := Scalar.extui v1778
  let c0_i32_1064 : BitVec 32 := 0#32
  let v1780 : BitVec 1 := Scalar.cmpi .ne v1779 c0_i32_1064
  v1780

def k0_off233 (v1764 : BitVec 32) : Fin 2 → Nat :=
  let c1664_i32_1732 : BitVec 32 := 1664#32
  let v2752 : BitVec 32 := Scalar.addi v1764 c1664_i32_1732
  let v2753 : BitVec 32 := v2752
  let c0_i32_1737 : BitVec 32 := 0#32
  ![v2753.toNat, 0]
def k0_mult234 (v1764 : BitVec 32) : BitVec 32 :=
  let c1792_i32_1732 : BitVec 32 := 1792#32
  let v2752 : BitVec 32 := Scalar.addi v1764 c1792_i32_1732
  v2752
def k0_cond291 (v1764 : BitVec 32) (v1765 : BitVec 32) : BitVec 1 :=
  let v1766 : BitVec 32 := Scalar.subi v1765 v1764
  let c1536_i32_1058 : BitVec 32 := 1536#32
  let v1768 : BitVec 1 := Scalar.cmpi .sgt v1766 c1536_i32_1058
  let c2048_i32_1057 : BitVec 32 := 2048#32
  let v1767 : BitVec 1 := Scalar.cmpi .sge v1766 c2048_i32_1057
  let true_1059 : BitVec 1 := 1#1
  let v1769 : BitVec 1 := Scalar.xori v1767 true_1059
  let v1770 : BitVec 1 := Scalar.andi v1768 v1769
  let c1792_i32_1065 : BitVec 32 := 1792#32
  let v1781 : BitVec 1 := Scalar.cmpi .sgt v1766 c1792_i32_1065
  let v1782 : BitVec 1 := Scalar.andi v1770 v1781
  let v1783 : BitVec 32 := Scalar.extui v1782
  let c0_i32_1066 : BitVec 32 := 0#32
  let v1784 : BitVec 1 := Scalar.cmpi .ne v1783 c0_i32_1066
  v1784

def k0_off234 (v1764 : BitVec 32) : Fin 2 → Nat :=
  let c1792_i32_1732 : BitVec 32 := 1792#32
  let v2752 : BitVec 32 := Scalar.addi v1764 c1792_i32_1732
  let v2753 : BitVec 32 := v2752
  let c0_i32_1737 : BitVec 32 := 0#32
  ![v2753.toNat, 0]
def k0_mult235 (v1764 : BitVec 32) : BitVec 32 :=
  let c1920_i32_1732 : BitVec 32 := 1920#32
  let v2752 : BitVec 32 := Scalar.addi v1764 c1920_i32_1732
  v2752
def k0_cond292 (v1764 : BitVec 32) (v1765 : BitVec 32) : BitVec 1 :=
  let v1766 : BitVec 32 := Scalar.subi v1765 v1764
  let c1536_i32_1058 : BitVec 32 := 1536#32
  let v1768 : BitVec 1 := Scalar.cmpi .sgt v1766 c1536_i32_1058
  let c2048_i32_1057 : BitVec 32 := 2048#32
  let v1767 : BitVec 1 := Scalar.cmpi .sge v1766 c2048_i32_1057
  let true_1059 : BitVec 1 := 1#1
  let v1769 : BitVec 1 := Scalar.xori v1767 true_1059
  let v1770 : BitVec 1 := Scalar.andi v1768 v1769
  let c1920_i32_1067 : BitVec 32 := 1920#32
  let v1785 : BitVec 1 := Scalar.cmpi .sgt v1766 c1920_i32_1067
  let v1786 : BitVec 1 := Scalar.andi v1770 v1785
  let v1787 : BitVec 32 := Scalar.extui v1786
  let c0_i32_1068 : BitVec 32 := 0#32
  let v1788 : BitVec 1 := Scalar.cmpi .ne v1787 c0_i32_1068
  v1788

def k0_off235 (v1764 : BitVec 32) : Fin 2 → Nat :=
  let c1920_i32_1732 : BitVec 32 := 1920#32
  let v2752 : BitVec 32 := Scalar.addi v1764 c1920_i32_1732
  let v2753 : BitVec 32 := v2752
  let c0_i32_1737 : BitVec 32 := 0#32
  ![v2753.toNat, 0]

def k0_chk47 (v1764 : BitVec 32) (v1765 : BitVec 32) : Prop :=
  (∀ (k0_h288 : k0_cond288 v1764 v1765 = 1#1), 128 ∣ (k0_mult231 v1764).toNat) ∧
  (∀ (k0_h288 : k0_cond288 v1764 v1765 = 1#1), ∀ a, (k0_off231 v1764) a + S512x1024.size a ≤ S8192x1024.size a) ∧
  (∀ (k0_h289 : k0_cond289 v1764 v1765 = 1#1), 128 ∣ (k0_mult232 v1764).toNat) ∧
  (∀ (k0_h289 : k0_cond289 v1764 v1765 = 1#1), ∀ a, (k0_off232 v1764) a + S128x1024.size a ≤ S8192x1024.size a) ∧
  (∀ (k0_h290 : k0_cond290 v1764 v1765 = 1#1), 128 ∣ (k0_mult233 v1764).toNat) ∧
  (∀ (k0_h290 : k0_cond290 v1764 v1765 = 1#1), ∀ a, (k0_off233 v1764) a + S128x1024.size a ≤ S8192x1024.size a) ∧
  (∀ (k0_h291 : k0_cond291 v1764 v1765 = 1#1), 128 ∣ (k0_mult234 v1764).toNat) ∧
  (∀ (k0_h291 : k0_cond291 v1764 v1765 = 1#1), ∀ a, (k0_off234 v1764) a + S128x1024.size a ≤ S8192x1024.size a) ∧
  (∀ (k0_h292 : k0_cond292 v1764 v1765 = 1#1), 128 ∣ (k0_mult235 v1764).toNat) ∧
  (∀ (k0_h292 : k0_cond292 v1764 v1765 = 1#1), ∀ a, (k0_off235 v1764) a + S128x1024.size a ≤ S8192x1024.size a)
theorem k0_mult231_dvd : ∀ (v1764 : BitVec 32) (v1765 : BitVec 32) (k0_hw47 : k0_chk47 v1764 v1765), ∀ (k0_h288 : k0_cond288 v1764 v1765 = 1#1), 128 ∣ (k0_mult231 v1764).toNat := fun v1764 v1765 k0_hw47 k0_h288 => k0_hw47.1 k0_h288
theorem k0_off231_inb : ∀ (v1764 : BitVec 32) (v1765 : BitVec 32) (k0_hw47 : k0_chk47 v1764 v1765), ∀ (k0_h288 : k0_cond288 v1764 v1765 = 1#1), ∀ a, (k0_off231 v1764) a + S512x1024.size a ≤ S8192x1024.size a := fun v1764 v1765 k0_hw47 k0_h288 => k0_hw47.2.1 k0_h288
theorem k0_mult232_dvd : ∀ (v1764 : BitVec 32) (v1765 : BitVec 32) (k0_hw47 : k0_chk47 v1764 v1765), ∀ (k0_h289 : k0_cond289 v1764 v1765 = 1#1), 128 ∣ (k0_mult232 v1764).toNat := fun v1764 v1765 k0_hw47 k0_h289 => k0_hw47.2.2.1 k0_h289
theorem k0_off232_inb : ∀ (v1764 : BitVec 32) (v1765 : BitVec 32) (k0_hw47 : k0_chk47 v1764 v1765), ∀ (k0_h289 : k0_cond289 v1764 v1765 = 1#1), ∀ a, (k0_off232 v1764) a + S128x1024.size a ≤ S8192x1024.size a := fun v1764 v1765 k0_hw47 k0_h289 => k0_hw47.2.2.2.1 k0_h289
theorem k0_mult233_dvd : ∀ (v1764 : BitVec 32) (v1765 : BitVec 32) (k0_hw47 : k0_chk47 v1764 v1765), ∀ (k0_h290 : k0_cond290 v1764 v1765 = 1#1), 128 ∣ (k0_mult233 v1764).toNat := fun v1764 v1765 k0_hw47 k0_h290 => k0_hw47.2.2.2.2.1 k0_h290
theorem k0_off233_inb : ∀ (v1764 : BitVec 32) (v1765 : BitVec 32) (k0_hw47 : k0_chk47 v1764 v1765), ∀ (k0_h290 : k0_cond290 v1764 v1765 = 1#1), ∀ a, (k0_off233 v1764) a + S128x1024.size a ≤ S8192x1024.size a := fun v1764 v1765 k0_hw47 k0_h290 => k0_hw47.2.2.2.2.2.1 k0_h290
theorem k0_mult234_dvd : ∀ (v1764 : BitVec 32) (v1765 : BitVec 32) (k0_hw47 : k0_chk47 v1764 v1765), ∀ (k0_h291 : k0_cond291 v1764 v1765 = 1#1), 128 ∣ (k0_mult234 v1764).toNat := fun v1764 v1765 k0_hw47 k0_h291 => k0_hw47.2.2.2.2.2.2.1 k0_h291
theorem k0_off234_inb : ∀ (v1764 : BitVec 32) (v1765 : BitVec 32) (k0_hw47 : k0_chk47 v1764 v1765), ∀ (k0_h291 : k0_cond291 v1764 v1765 = 1#1), ∀ a, (k0_off234 v1764) a + S128x1024.size a ≤ S8192x1024.size a := fun v1764 v1765 k0_hw47 k0_h291 => k0_hw47.2.2.2.2.2.2.2.1 k0_h291
theorem k0_mult235_dvd : ∀ (v1764 : BitVec 32) (v1765 : BitVec 32) (k0_hw47 : k0_chk47 v1764 v1765), ∀ (k0_h292 : k0_cond292 v1764 v1765 = 1#1), 128 ∣ (k0_mult235 v1764).toNat := fun v1764 v1765 k0_hw47 k0_h292 => k0_hw47.2.2.2.2.2.2.2.2.1 k0_h292
theorem k0_off235_inb : ∀ (v1764 : BitVec 32) (v1765 : BitVec 32) (k0_hw47 : k0_chk47 v1764 v1765), ∀ (k0_h292 : k0_cond292 v1764 v1765 = 1#1), ∀ a, (k0_off235 v1764) a + S128x1024.size a ≤ S8192x1024.size a := fun v1764 v1765 k0_hw47 k0_h292 => k0_hw47.2.2.2.2.2.2.2.2.2 k0_h292

def k0_mult236 (v1810 : BitVec 32) : BitVec 32 :=
  let c1536_i32_1732 : BitVec 32 := 1536#32
  let v2752 : BitVec 32 := Scalar.addi v1810 c1536_i32_1732
  v2752
def k0_cond293 (v1810 : BitVec 32) (v1811 : BitVec 32) : BitVec 1 :=
  let v1812 : BitVec 32 := Scalar.subi v1811 v1810
  let c2048_i32_1086 : BitVec 32 := 2048#32
  let v1813 : BitVec 1 := Scalar.cmpi .sge v1812 c2048_i32_1086
  let v1817 : BitVec 32 := Scalar.extui v1813
  let c0_i32_1089 : BitVec 32 := 0#32
  let v1818 : BitVec 1 := Scalar.cmpi .ne v1817 c0_i32_1089
  v1818

def k0_off236 (v1810 : BitVec 32) : Fin 2 → Nat :=
  let c1536_i32_1732 : BitVec 32 := 1536#32
  let v2752 : BitVec 32 := Scalar.addi v1810 c1536_i32_1732
  let v2753 : BitVec 32 := v2752
  let c0_i32_1737 : BitVec 32 := 0#32
  ![v2753.toNat, 0]
def k0_mult237 (v1810 : BitVec 32) : BitVec 32 :=
  let c1536_i32_1732 : BitVec 32 := 1536#32
  let v2752 : BitVec 32 := Scalar.addi v1810 c1536_i32_1732
  v2752
def k0_cond294 (v1810 : BitVec 32) (v1811 : BitVec 32) : BitVec 1 :=
  let v1812 : BitVec 32 := Scalar.subi v1811 v1810
  let c1536_i32_1087 : BitVec 32 := 1536#32
  let v1814 : BitVec 1 := Scalar.cmpi .sgt v1812 c1536_i32_1087
  let c2048_i32_1086 : BitVec 32 := 2048#32
  let v1813 : BitVec 1 := Scalar.cmpi .sge v1812 c2048_i32_1086
  let true_1088 : BitVec 1 := 1#1
  let v1815 : BitVec 1 := Scalar.xori v1813 true_1088
  let v1816 : BitVec 1 := Scalar.andi v1814 v1815
  let c1536_i32_1090 : BitVec 32 := 1536#32
  let v1819 : BitVec 1 := Scalar.cmpi .sgt v1812 c1536_i32_1090
  let v1820 : BitVec 1 := Scalar.andi v1816 v1819
  let v1821 : BitVec 32 := Scalar.extui v1820
  let c0_i32_1091 : BitVec 32 := 0#32
  let v1822 : BitVec 1 := Scalar.cmpi .ne v1821 c0_i32_1091
  v1822

def k0_off237 (v1810 : BitVec 32) : Fin 2 → Nat :=
  let c1536_i32_1732 : BitVec 32 := 1536#32
  let v2752 : BitVec 32 := Scalar.addi v1810 c1536_i32_1732
  let v2753 : BitVec 32 := v2752
  let c0_i32_1737 : BitVec 32 := 0#32
  ![v2753.toNat, 0]
def k0_mult238 (v1810 : BitVec 32) : BitVec 32 :=
  let c1664_i32_1732 : BitVec 32 := 1664#32
  let v2752 : BitVec 32 := Scalar.addi v1810 c1664_i32_1732
  v2752
def k0_cond295 (v1810 : BitVec 32) (v1811 : BitVec 32) : BitVec 1 :=
  let v1812 : BitVec 32 := Scalar.subi v1811 v1810
  let c1536_i32_1087 : BitVec 32 := 1536#32
  let v1814 : BitVec 1 := Scalar.cmpi .sgt v1812 c1536_i32_1087
  let c2048_i32_1086 : BitVec 32 := 2048#32
  let v1813 : BitVec 1 := Scalar.cmpi .sge v1812 c2048_i32_1086
  let true_1088 : BitVec 1 := 1#1
  let v1815 : BitVec 1 := Scalar.xori v1813 true_1088
  let v1816 : BitVec 1 := Scalar.andi v1814 v1815
  let c1664_i32_1092 : BitVec 32 := 1664#32
  let v1823 : BitVec 1 := Scalar.cmpi .sgt v1812 c1664_i32_1092
  let v1824 : BitVec 1 := Scalar.andi v1816 v1823
  let v1825 : BitVec 32 := Scalar.extui v1824
  let c0_i32_1093 : BitVec 32 := 0#32
  let v1826 : BitVec 1 := Scalar.cmpi .ne v1825 c0_i32_1093
  v1826

def k0_off238 (v1810 : BitVec 32) : Fin 2 → Nat :=
  let c1664_i32_1732 : BitVec 32 := 1664#32
  let v2752 : BitVec 32 := Scalar.addi v1810 c1664_i32_1732
  let v2753 : BitVec 32 := v2752
  let c0_i32_1737 : BitVec 32 := 0#32
  ![v2753.toNat, 0]
def k0_mult239 (v1810 : BitVec 32) : BitVec 32 :=
  let c1792_i32_1732 : BitVec 32 := 1792#32
  let v2752 : BitVec 32 := Scalar.addi v1810 c1792_i32_1732
  v2752
def k0_cond296 (v1810 : BitVec 32) (v1811 : BitVec 32) : BitVec 1 :=
  let v1812 : BitVec 32 := Scalar.subi v1811 v1810
  let c1536_i32_1087 : BitVec 32 := 1536#32
  let v1814 : BitVec 1 := Scalar.cmpi .sgt v1812 c1536_i32_1087
  let c2048_i32_1086 : BitVec 32 := 2048#32
  let v1813 : BitVec 1 := Scalar.cmpi .sge v1812 c2048_i32_1086
  let true_1088 : BitVec 1 := 1#1
  let v1815 : BitVec 1 := Scalar.xori v1813 true_1088
  let v1816 : BitVec 1 := Scalar.andi v1814 v1815
  let c1792_i32_1094 : BitVec 32 := 1792#32
  let v1827 : BitVec 1 := Scalar.cmpi .sgt v1812 c1792_i32_1094
  let v1828 : BitVec 1 := Scalar.andi v1816 v1827
  let v1829 : BitVec 32 := Scalar.extui v1828
  let c0_i32_1095 : BitVec 32 := 0#32
  let v1830 : BitVec 1 := Scalar.cmpi .ne v1829 c0_i32_1095
  v1830

def k0_off239 (v1810 : BitVec 32) : Fin 2 → Nat :=
  let c1792_i32_1732 : BitVec 32 := 1792#32
  let v2752 : BitVec 32 := Scalar.addi v1810 c1792_i32_1732
  let v2753 : BitVec 32 := v2752
  let c0_i32_1737 : BitVec 32 := 0#32
  ![v2753.toNat, 0]
def k0_mult240 (v1810 : BitVec 32) : BitVec 32 :=
  let c1920_i32_1732 : BitVec 32 := 1920#32
  let v2752 : BitVec 32 := Scalar.addi v1810 c1920_i32_1732
  v2752
def k0_cond297 (v1810 : BitVec 32) (v1811 : BitVec 32) : BitVec 1 :=
  let v1812 : BitVec 32 := Scalar.subi v1811 v1810
  let c1536_i32_1087 : BitVec 32 := 1536#32
  let v1814 : BitVec 1 := Scalar.cmpi .sgt v1812 c1536_i32_1087
  let c2048_i32_1086 : BitVec 32 := 2048#32
  let v1813 : BitVec 1 := Scalar.cmpi .sge v1812 c2048_i32_1086
  let true_1088 : BitVec 1 := 1#1
  let v1815 : BitVec 1 := Scalar.xori v1813 true_1088
  let v1816 : BitVec 1 := Scalar.andi v1814 v1815
  let c1920_i32_1096 : BitVec 32 := 1920#32
  let v1831 : BitVec 1 := Scalar.cmpi .sgt v1812 c1920_i32_1096
  let v1832 : BitVec 1 := Scalar.andi v1816 v1831
  let v1833 : BitVec 32 := Scalar.extui v1832
  let c0_i32_1097 : BitVec 32 := 0#32
  let v1834 : BitVec 1 := Scalar.cmpi .ne v1833 c0_i32_1097
  v1834

def k0_off240 (v1810 : BitVec 32) : Fin 2 → Nat :=
  let c1920_i32_1732 : BitVec 32 := 1920#32
  let v2752 : BitVec 32 := Scalar.addi v1810 c1920_i32_1732
  let v2753 : BitVec 32 := v2752
  let c0_i32_1737 : BitVec 32 := 0#32
  ![v2753.toNat, 0]

def k0_chk48 (v1810 : BitVec 32) (v1811 : BitVec 32) : Prop :=
  (∀ (k0_h293 : k0_cond293 v1810 v1811 = 1#1), 128 ∣ (k0_mult236 v1810).toNat) ∧
  (∀ (k0_h293 : k0_cond293 v1810 v1811 = 1#1), ∀ a, (k0_off236 v1810) a + S512x1024.size a ≤ S8192x1024.size a) ∧
  (∀ (k0_h294 : k0_cond294 v1810 v1811 = 1#1), 128 ∣ (k0_mult237 v1810).toNat) ∧
  (∀ (k0_h294 : k0_cond294 v1810 v1811 = 1#1), ∀ a, (k0_off237 v1810) a + S128x1024.size a ≤ S8192x1024.size a) ∧
  (∀ (k0_h295 : k0_cond295 v1810 v1811 = 1#1), 128 ∣ (k0_mult238 v1810).toNat) ∧
  (∀ (k0_h295 : k0_cond295 v1810 v1811 = 1#1), ∀ a, (k0_off238 v1810) a + S128x1024.size a ≤ S8192x1024.size a) ∧
  (∀ (k0_h296 : k0_cond296 v1810 v1811 = 1#1), 128 ∣ (k0_mult239 v1810).toNat) ∧
  (∀ (k0_h296 : k0_cond296 v1810 v1811 = 1#1), ∀ a, (k0_off239 v1810) a + S128x1024.size a ≤ S8192x1024.size a) ∧
  (∀ (k0_h297 : k0_cond297 v1810 v1811 = 1#1), 128 ∣ (k0_mult240 v1810).toNat) ∧
  (∀ (k0_h297 : k0_cond297 v1810 v1811 = 1#1), ∀ a, (k0_off240 v1810) a + S128x1024.size a ≤ S8192x1024.size a)
theorem k0_mult236_dvd : ∀ (v1810 : BitVec 32) (v1811 : BitVec 32) (k0_hw48 : k0_chk48 v1810 v1811), ∀ (k0_h293 : k0_cond293 v1810 v1811 = 1#1), 128 ∣ (k0_mult236 v1810).toNat := fun v1810 v1811 k0_hw48 k0_h293 => k0_hw48.1 k0_h293
theorem k0_off236_inb : ∀ (v1810 : BitVec 32) (v1811 : BitVec 32) (k0_hw48 : k0_chk48 v1810 v1811), ∀ (k0_h293 : k0_cond293 v1810 v1811 = 1#1), ∀ a, (k0_off236 v1810) a + S512x1024.size a ≤ S8192x1024.size a := fun v1810 v1811 k0_hw48 k0_h293 => k0_hw48.2.1 k0_h293
theorem k0_mult237_dvd : ∀ (v1810 : BitVec 32) (v1811 : BitVec 32) (k0_hw48 : k0_chk48 v1810 v1811), ∀ (k0_h294 : k0_cond294 v1810 v1811 = 1#1), 128 ∣ (k0_mult237 v1810).toNat := fun v1810 v1811 k0_hw48 k0_h294 => k0_hw48.2.2.1 k0_h294
theorem k0_off237_inb : ∀ (v1810 : BitVec 32) (v1811 : BitVec 32) (k0_hw48 : k0_chk48 v1810 v1811), ∀ (k0_h294 : k0_cond294 v1810 v1811 = 1#1), ∀ a, (k0_off237 v1810) a + S128x1024.size a ≤ S8192x1024.size a := fun v1810 v1811 k0_hw48 k0_h294 => k0_hw48.2.2.2.1 k0_h294
theorem k0_mult238_dvd : ∀ (v1810 : BitVec 32) (v1811 : BitVec 32) (k0_hw48 : k0_chk48 v1810 v1811), ∀ (k0_h295 : k0_cond295 v1810 v1811 = 1#1), 128 ∣ (k0_mult238 v1810).toNat := fun v1810 v1811 k0_hw48 k0_h295 => k0_hw48.2.2.2.2.1 k0_h295
theorem k0_off238_inb : ∀ (v1810 : BitVec 32) (v1811 : BitVec 32) (k0_hw48 : k0_chk48 v1810 v1811), ∀ (k0_h295 : k0_cond295 v1810 v1811 = 1#1), ∀ a, (k0_off238 v1810) a + S128x1024.size a ≤ S8192x1024.size a := fun v1810 v1811 k0_hw48 k0_h295 => k0_hw48.2.2.2.2.2.1 k0_h295
theorem k0_mult239_dvd : ∀ (v1810 : BitVec 32) (v1811 : BitVec 32) (k0_hw48 : k0_chk48 v1810 v1811), ∀ (k0_h296 : k0_cond296 v1810 v1811 = 1#1), 128 ∣ (k0_mult239 v1810).toNat := fun v1810 v1811 k0_hw48 k0_h296 => k0_hw48.2.2.2.2.2.2.1 k0_h296
theorem k0_off239_inb : ∀ (v1810 : BitVec 32) (v1811 : BitVec 32) (k0_hw48 : k0_chk48 v1810 v1811), ∀ (k0_h296 : k0_cond296 v1810 v1811 = 1#1), ∀ a, (k0_off239 v1810) a + S128x1024.size a ≤ S8192x1024.size a := fun v1810 v1811 k0_hw48 k0_h296 => k0_hw48.2.2.2.2.2.2.2.1 k0_h296
theorem k0_mult240_dvd : ∀ (v1810 : BitVec 32) (v1811 : BitVec 32) (k0_hw48 : k0_chk48 v1810 v1811), ∀ (k0_h297 : k0_cond297 v1810 v1811 = 1#1), 128 ∣ (k0_mult240 v1810).toNat := fun v1810 v1811 k0_hw48 k0_h297 => k0_hw48.2.2.2.2.2.2.2.2.1 k0_h297
theorem k0_off240_inb : ∀ (v1810 : BitVec 32) (v1811 : BitVec 32) (k0_hw48 : k0_chk48 v1810 v1811), ∀ (k0_h297 : k0_cond297 v1810 v1811 = 1#1), ∀ a, (k0_off240 v1810) a + S128x1024.size a ≤ S8192x1024.size a := fun v1810 v1811 k0_hw48 k0_h297 => k0_hw48.2.2.2.2.2.2.2.2.2 k0_h297

def k0_mult241 (v1850 : BitVec 32) : BitVec 32 :=
  let c0_i32_1732 : BitVec 32 := 0#32
  let v2752 : BitVec 32 := Scalar.addi v1850 c0_i32_1732
  v2752
def k0_cond301 (v1850 : BitVec 32) (v1851 : BitVec 32) : BitVec 1 :=
  let v1852 : BitVec 32 := Scalar.subi v1851 v1850
  let c512_i32_1112 : BitVec 32 := 512#32
  let v1853 : BitVec 1 := Scalar.cmpi .sge v1852 c512_i32_1112
  let v1857 : BitVec 32 := Scalar.extui v1853
  let c0_i32_1115 : BitVec 32 := 0#32
  let v1858 : BitVec 1 := Scalar.cmpi .ne v1857 c0_i32_1115
  v1858

def k0_off241 (v1850 : BitVec 32) : Fin 2 → Nat :=
  let c0_i32_1732 : BitVec 32 := 0#32
  let v2752 : BitVec 32 := Scalar.addi v1850 c0_i32_1732
  let v2753 : BitVec 32 := v2752
  let c0_i32_1737 : BitVec 32 := 0#32
  ![v2753.toNat, 0]
def k0_mult242 (v1850 : BitVec 32) : BitVec 32 :=
  let c0_i32_1732 : BitVec 32 := 0#32
  let v2752 : BitVec 32 := Scalar.addi v1850 c0_i32_1732
  v2752
def k0_cond302 (v1850 : BitVec 32) (v1851 : BitVec 32) : BitVec 1 :=
  let v1852 : BitVec 32 := Scalar.subi v1851 v1850
  let c0_i32_1113 : BitVec 32 := 0#32
  let v1854 : BitVec 1 := Scalar.cmpi .sgt v1852 c0_i32_1113
  let c512_i32_1112 : BitVec 32 := 512#32
  let v1853 : BitVec 1 := Scalar.cmpi .sge v1852 c512_i32_1112
  let true_1114 : BitVec 1 := 1#1
  let v1855 : BitVec 1 := Scalar.xori v1853 true_1114
  let v1856 : BitVec 1 := Scalar.andi v1854 v1855
  let c0_i32_1116 : BitVec 32 := 0#32
  let v1859 : BitVec 1 := Scalar.cmpi .sgt v1852 c0_i32_1116
  let v1860 : BitVec 1 := Scalar.andi v1856 v1859
  let v1861 : BitVec 32 := Scalar.extui v1860
  let c0_i32_1117 : BitVec 32 := 0#32
  let v1862 : BitVec 1 := Scalar.cmpi .ne v1861 c0_i32_1117
  v1862

def k0_off242 (v1850 : BitVec 32) : Fin 2 → Nat :=
  let c0_i32_1732 : BitVec 32 := 0#32
  let v2752 : BitVec 32 := Scalar.addi v1850 c0_i32_1732
  let v2753 : BitVec 32 := v2752
  let c0_i32_1737 : BitVec 32 := 0#32
  ![v2753.toNat, 0]
def k0_mult243 (v1850 : BitVec 32) : BitVec 32 :=
  let c128_i32_1732 : BitVec 32 := 128#32
  let v2752 : BitVec 32 := Scalar.addi v1850 c128_i32_1732
  v2752
def k0_cond303 (v1850 : BitVec 32) (v1851 : BitVec 32) : BitVec 1 :=
  let v1852 : BitVec 32 := Scalar.subi v1851 v1850
  let c0_i32_1113 : BitVec 32 := 0#32
  let v1854 : BitVec 1 := Scalar.cmpi .sgt v1852 c0_i32_1113
  let c512_i32_1112 : BitVec 32 := 512#32
  let v1853 : BitVec 1 := Scalar.cmpi .sge v1852 c512_i32_1112
  let true_1114 : BitVec 1 := 1#1
  let v1855 : BitVec 1 := Scalar.xori v1853 true_1114
  let v1856 : BitVec 1 := Scalar.andi v1854 v1855
  let c128_i32_1118 : BitVec 32 := 128#32
  let v1863 : BitVec 1 := Scalar.cmpi .sgt v1852 c128_i32_1118
  let v1864 : BitVec 1 := Scalar.andi v1856 v1863
  let v1865 : BitVec 32 := Scalar.extui v1864
  let c0_i32_1119 : BitVec 32 := 0#32
  let v1866 : BitVec 1 := Scalar.cmpi .ne v1865 c0_i32_1119
  v1866

def k0_off243 (v1850 : BitVec 32) : Fin 2 → Nat :=
  let c128_i32_1732 : BitVec 32 := 128#32
  let v2752 : BitVec 32 := Scalar.addi v1850 c128_i32_1732
  let v2753 : BitVec 32 := v2752
  let c0_i32_1737 : BitVec 32 := 0#32
  ![v2753.toNat, 0]
def k0_mult244 (v1850 : BitVec 32) : BitVec 32 :=
  let c256_i32_1732 : BitVec 32 := 256#32
  let v2752 : BitVec 32 := Scalar.addi v1850 c256_i32_1732
  v2752
def k0_cond304 (v1850 : BitVec 32) (v1851 : BitVec 32) : BitVec 1 :=
  let v1852 : BitVec 32 := Scalar.subi v1851 v1850
  let c0_i32_1113 : BitVec 32 := 0#32
  let v1854 : BitVec 1 := Scalar.cmpi .sgt v1852 c0_i32_1113
  let c512_i32_1112 : BitVec 32 := 512#32
  let v1853 : BitVec 1 := Scalar.cmpi .sge v1852 c512_i32_1112
  let true_1114 : BitVec 1 := 1#1
  let v1855 : BitVec 1 := Scalar.xori v1853 true_1114
  let v1856 : BitVec 1 := Scalar.andi v1854 v1855
  let c256_i32_1120 : BitVec 32 := 256#32
  let v1867 : BitVec 1 := Scalar.cmpi .sgt v1852 c256_i32_1120
  let v1868 : BitVec 1 := Scalar.andi v1856 v1867
  let v1869 : BitVec 32 := Scalar.extui v1868
  let c0_i32_1121 : BitVec 32 := 0#32
  let v1870 : BitVec 1 := Scalar.cmpi .ne v1869 c0_i32_1121
  v1870

def k0_off244 (v1850 : BitVec 32) : Fin 2 → Nat :=
  let c256_i32_1732 : BitVec 32 := 256#32
  let v2752 : BitVec 32 := Scalar.addi v1850 c256_i32_1732
  let v2753 : BitVec 32 := v2752
  let c0_i32_1737 : BitVec 32 := 0#32
  ![v2753.toNat, 0]
def k0_mult245 (v1850 : BitVec 32) : BitVec 32 :=
  let c384_i32_1732 : BitVec 32 := 384#32
  let v2752 : BitVec 32 := Scalar.addi v1850 c384_i32_1732
  v2752
def k0_cond305 (v1850 : BitVec 32) (v1851 : BitVec 32) : BitVec 1 :=
  let v1852 : BitVec 32 := Scalar.subi v1851 v1850
  let c0_i32_1113 : BitVec 32 := 0#32
  let v1854 : BitVec 1 := Scalar.cmpi .sgt v1852 c0_i32_1113
  let c512_i32_1112 : BitVec 32 := 512#32
  let v1853 : BitVec 1 := Scalar.cmpi .sge v1852 c512_i32_1112
  let true_1114 : BitVec 1 := 1#1
  let v1855 : BitVec 1 := Scalar.xori v1853 true_1114
  let v1856 : BitVec 1 := Scalar.andi v1854 v1855
  let c384_i32_1122 : BitVec 32 := 384#32
  let v1871 : BitVec 1 := Scalar.cmpi .sgt v1852 c384_i32_1122
  let v1872 : BitVec 1 := Scalar.andi v1856 v1871
  let v1873 : BitVec 32 := Scalar.extui v1872
  let c0_i32_1123 : BitVec 32 := 0#32
  let v1874 : BitVec 1 := Scalar.cmpi .ne v1873 c0_i32_1123
  v1874

def k0_off245 (v1850 : BitVec 32) : Fin 2 → Nat :=
  let c384_i32_1732 : BitVec 32 := 384#32
  let v2752 : BitVec 32 := Scalar.addi v1850 c384_i32_1732
  let v2753 : BitVec 32 := v2752
  let c0_i32_1737 : BitVec 32 := 0#32
  ![v2753.toNat, 0]

def k0_chk49 (v1850 : BitVec 32) (v1851 : BitVec 32) : Prop :=
  (∀ (k0_h301 : k0_cond301 v1850 v1851 = 1#1), 128 ∣ (k0_mult241 v1850).toNat) ∧
  (∀ (k0_h301 : k0_cond301 v1850 v1851 = 1#1), ∀ a, (k0_off241 v1850) a + S512x1024.size a ≤ S8192x1024.size a) ∧
  (∀ (k0_h302 : k0_cond302 v1850 v1851 = 1#1), 128 ∣ (k0_mult242 v1850).toNat) ∧
  (∀ (k0_h302 : k0_cond302 v1850 v1851 = 1#1), ∀ a, (k0_off242 v1850) a + S128x1024.size a ≤ S8192x1024.size a) ∧
  (∀ (k0_h303 : k0_cond303 v1850 v1851 = 1#1), 128 ∣ (k0_mult243 v1850).toNat) ∧
  (∀ (k0_h303 : k0_cond303 v1850 v1851 = 1#1), ∀ a, (k0_off243 v1850) a + S128x1024.size a ≤ S8192x1024.size a) ∧
  (∀ (k0_h304 : k0_cond304 v1850 v1851 = 1#1), 128 ∣ (k0_mult244 v1850).toNat) ∧
  (∀ (k0_h304 : k0_cond304 v1850 v1851 = 1#1), ∀ a, (k0_off244 v1850) a + S128x1024.size a ≤ S8192x1024.size a) ∧
  (∀ (k0_h305 : k0_cond305 v1850 v1851 = 1#1), 128 ∣ (k0_mult245 v1850).toNat) ∧
  (∀ (k0_h305 : k0_cond305 v1850 v1851 = 1#1), ∀ a, (k0_off245 v1850) a + S128x1024.size a ≤ S8192x1024.size a)
theorem k0_mult241_dvd : ∀ (v1850 : BitVec 32) (v1851 : BitVec 32) (k0_hw49 : k0_chk49 v1850 v1851), ∀ (k0_h301 : k0_cond301 v1850 v1851 = 1#1), 128 ∣ (k0_mult241 v1850).toNat := fun v1850 v1851 k0_hw49 k0_h301 => k0_hw49.1 k0_h301
theorem k0_off241_inb : ∀ (v1850 : BitVec 32) (v1851 : BitVec 32) (k0_hw49 : k0_chk49 v1850 v1851), ∀ (k0_h301 : k0_cond301 v1850 v1851 = 1#1), ∀ a, (k0_off241 v1850) a + S512x1024.size a ≤ S8192x1024.size a := fun v1850 v1851 k0_hw49 k0_h301 => k0_hw49.2.1 k0_h301
theorem k0_mult242_dvd : ∀ (v1850 : BitVec 32) (v1851 : BitVec 32) (k0_hw49 : k0_chk49 v1850 v1851), ∀ (k0_h302 : k0_cond302 v1850 v1851 = 1#1), 128 ∣ (k0_mult242 v1850).toNat := fun v1850 v1851 k0_hw49 k0_h302 => k0_hw49.2.2.1 k0_h302
theorem k0_off242_inb : ∀ (v1850 : BitVec 32) (v1851 : BitVec 32) (k0_hw49 : k0_chk49 v1850 v1851), ∀ (k0_h302 : k0_cond302 v1850 v1851 = 1#1), ∀ a, (k0_off242 v1850) a + S128x1024.size a ≤ S8192x1024.size a := fun v1850 v1851 k0_hw49 k0_h302 => k0_hw49.2.2.2.1 k0_h302
theorem k0_mult243_dvd : ∀ (v1850 : BitVec 32) (v1851 : BitVec 32) (k0_hw49 : k0_chk49 v1850 v1851), ∀ (k0_h303 : k0_cond303 v1850 v1851 = 1#1), 128 ∣ (k0_mult243 v1850).toNat := fun v1850 v1851 k0_hw49 k0_h303 => k0_hw49.2.2.2.2.1 k0_h303
theorem k0_off243_inb : ∀ (v1850 : BitVec 32) (v1851 : BitVec 32) (k0_hw49 : k0_chk49 v1850 v1851), ∀ (k0_h303 : k0_cond303 v1850 v1851 = 1#1), ∀ a, (k0_off243 v1850) a + S128x1024.size a ≤ S8192x1024.size a := fun v1850 v1851 k0_hw49 k0_h303 => k0_hw49.2.2.2.2.2.1 k0_h303
theorem k0_mult244_dvd : ∀ (v1850 : BitVec 32) (v1851 : BitVec 32) (k0_hw49 : k0_chk49 v1850 v1851), ∀ (k0_h304 : k0_cond304 v1850 v1851 = 1#1), 128 ∣ (k0_mult244 v1850).toNat := fun v1850 v1851 k0_hw49 k0_h304 => k0_hw49.2.2.2.2.2.2.1 k0_h304
theorem k0_off244_inb : ∀ (v1850 : BitVec 32) (v1851 : BitVec 32) (k0_hw49 : k0_chk49 v1850 v1851), ∀ (k0_h304 : k0_cond304 v1850 v1851 = 1#1), ∀ a, (k0_off244 v1850) a + S128x1024.size a ≤ S8192x1024.size a := fun v1850 v1851 k0_hw49 k0_h304 => k0_hw49.2.2.2.2.2.2.2.1 k0_h304
theorem k0_mult245_dvd : ∀ (v1850 : BitVec 32) (v1851 : BitVec 32) (k0_hw49 : k0_chk49 v1850 v1851), ∀ (k0_h305 : k0_cond305 v1850 v1851 = 1#1), 128 ∣ (k0_mult245 v1850).toNat := fun v1850 v1851 k0_hw49 k0_h305 => k0_hw49.2.2.2.2.2.2.2.2.1 k0_h305
theorem k0_off245_inb : ∀ (v1850 : BitVec 32) (v1851 : BitVec 32) (k0_hw49 : k0_chk49 v1850 v1851), ∀ (k0_h305 : k0_cond305 v1850 v1851 = 1#1), ∀ a, (k0_off245 v1850) a + S128x1024.size a ≤ S8192x1024.size a := fun v1850 v1851 k0_hw49 k0_h305 => k0_hw49.2.2.2.2.2.2.2.2.2 k0_h305

def k0_mult246 (v1896 : BitVec 32) : BitVec 32 :=
  let c0_i32_1732 : BitVec 32 := 0#32
  let v2752 : BitVec 32 := Scalar.addi v1896 c0_i32_1732
  v2752
def k0_cond306 (v1896 : BitVec 32) (v1897 : BitVec 32) : BitVec 1 :=
  let v1898 : BitVec 32 := Scalar.subi v1897 v1896
  let c512_i32_1141 : BitVec 32 := 512#32
  let v1899 : BitVec 1 := Scalar.cmpi .sge v1898 c512_i32_1141
  let v1903 : BitVec 32 := Scalar.extui v1899
  let c0_i32_1144 : BitVec 32 := 0#32
  let v1904 : BitVec 1 := Scalar.cmpi .ne v1903 c0_i32_1144
  v1904

def k0_off246 (v1896 : BitVec 32) : Fin 2 → Nat :=
  let c0_i32_1732 : BitVec 32 := 0#32
  let v2752 : BitVec 32 := Scalar.addi v1896 c0_i32_1732
  let v2753 : BitVec 32 := v2752
  let c0_i32_1737 : BitVec 32 := 0#32
  ![v2753.toNat, 0]
def k0_mult247 (v1896 : BitVec 32) : BitVec 32 :=
  let c0_i32_1732 : BitVec 32 := 0#32
  let v2752 : BitVec 32 := Scalar.addi v1896 c0_i32_1732
  v2752
def k0_cond307 (v1896 : BitVec 32) (v1897 : BitVec 32) : BitVec 1 :=
  let v1898 : BitVec 32 := Scalar.subi v1897 v1896
  let c0_i32_1142 : BitVec 32 := 0#32
  let v1900 : BitVec 1 := Scalar.cmpi .sgt v1898 c0_i32_1142
  let c512_i32_1141 : BitVec 32 := 512#32
  let v1899 : BitVec 1 := Scalar.cmpi .sge v1898 c512_i32_1141
  let true_1143 : BitVec 1 := 1#1
  let v1901 : BitVec 1 := Scalar.xori v1899 true_1143
  let v1902 : BitVec 1 := Scalar.andi v1900 v1901
  let c0_i32_1145 : BitVec 32 := 0#32
  let v1905 : BitVec 1 := Scalar.cmpi .sgt v1898 c0_i32_1145
  let v1906 : BitVec 1 := Scalar.andi v1902 v1905
  let v1907 : BitVec 32 := Scalar.extui v1906
  let c0_i32_1146 : BitVec 32 := 0#32
  let v1908 : BitVec 1 := Scalar.cmpi .ne v1907 c0_i32_1146
  v1908

def k0_off247 (v1896 : BitVec 32) : Fin 2 → Nat :=
  let c0_i32_1732 : BitVec 32 := 0#32
  let v2752 : BitVec 32 := Scalar.addi v1896 c0_i32_1732
  let v2753 : BitVec 32 := v2752
  let c0_i32_1737 : BitVec 32 := 0#32
  ![v2753.toNat, 0]
def k0_mult248 (v1896 : BitVec 32) : BitVec 32 :=
  let c128_i32_1732 : BitVec 32 := 128#32
  let v2752 : BitVec 32 := Scalar.addi v1896 c128_i32_1732
  v2752
def k0_cond308 (v1896 : BitVec 32) (v1897 : BitVec 32) : BitVec 1 :=
  let v1898 : BitVec 32 := Scalar.subi v1897 v1896
  let c0_i32_1142 : BitVec 32 := 0#32
  let v1900 : BitVec 1 := Scalar.cmpi .sgt v1898 c0_i32_1142
  let c512_i32_1141 : BitVec 32 := 512#32
  let v1899 : BitVec 1 := Scalar.cmpi .sge v1898 c512_i32_1141
  let true_1143 : BitVec 1 := 1#1
  let v1901 : BitVec 1 := Scalar.xori v1899 true_1143
  let v1902 : BitVec 1 := Scalar.andi v1900 v1901
  let c128_i32_1147 : BitVec 32 := 128#32
  let v1909 : BitVec 1 := Scalar.cmpi .sgt v1898 c128_i32_1147
  let v1910 : BitVec 1 := Scalar.andi v1902 v1909
  let v1911 : BitVec 32 := Scalar.extui v1910
  let c0_i32_1148 : BitVec 32 := 0#32
  let v1912 : BitVec 1 := Scalar.cmpi .ne v1911 c0_i32_1148
  v1912

def k0_off248 (v1896 : BitVec 32) : Fin 2 → Nat :=
  let c128_i32_1732 : BitVec 32 := 128#32
  let v2752 : BitVec 32 := Scalar.addi v1896 c128_i32_1732
  let v2753 : BitVec 32 := v2752
  let c0_i32_1737 : BitVec 32 := 0#32
  ![v2753.toNat, 0]
def k0_mult249 (v1896 : BitVec 32) : BitVec 32 :=
  let c256_i32_1732 : BitVec 32 := 256#32
  let v2752 : BitVec 32 := Scalar.addi v1896 c256_i32_1732
  v2752
def k0_cond309 (v1896 : BitVec 32) (v1897 : BitVec 32) : BitVec 1 :=
  let v1898 : BitVec 32 := Scalar.subi v1897 v1896
  let c0_i32_1142 : BitVec 32 := 0#32
  let v1900 : BitVec 1 := Scalar.cmpi .sgt v1898 c0_i32_1142
  let c512_i32_1141 : BitVec 32 := 512#32
  let v1899 : BitVec 1 := Scalar.cmpi .sge v1898 c512_i32_1141
  let true_1143 : BitVec 1 := 1#1
  let v1901 : BitVec 1 := Scalar.xori v1899 true_1143
  let v1902 : BitVec 1 := Scalar.andi v1900 v1901
  let c256_i32_1149 : BitVec 32 := 256#32
  let v1913 : BitVec 1 := Scalar.cmpi .sgt v1898 c256_i32_1149
  let v1914 : BitVec 1 := Scalar.andi v1902 v1913
  let v1915 : BitVec 32 := Scalar.extui v1914
  let c0_i32_1150 : BitVec 32 := 0#32
  let v1916 : BitVec 1 := Scalar.cmpi .ne v1915 c0_i32_1150
  v1916

def k0_off249 (v1896 : BitVec 32) : Fin 2 → Nat :=
  let c256_i32_1732 : BitVec 32 := 256#32
  let v2752 : BitVec 32 := Scalar.addi v1896 c256_i32_1732
  let v2753 : BitVec 32 := v2752
  let c0_i32_1737 : BitVec 32 := 0#32
  ![v2753.toNat, 0]
def k0_mult250 (v1896 : BitVec 32) : BitVec 32 :=
  let c384_i32_1732 : BitVec 32 := 384#32
  let v2752 : BitVec 32 := Scalar.addi v1896 c384_i32_1732
  v2752
def k0_cond310 (v1896 : BitVec 32) (v1897 : BitVec 32) : BitVec 1 :=
  let v1898 : BitVec 32 := Scalar.subi v1897 v1896
  let c0_i32_1142 : BitVec 32 := 0#32
  let v1900 : BitVec 1 := Scalar.cmpi .sgt v1898 c0_i32_1142
  let c512_i32_1141 : BitVec 32 := 512#32
  let v1899 : BitVec 1 := Scalar.cmpi .sge v1898 c512_i32_1141
  let true_1143 : BitVec 1 := 1#1
  let v1901 : BitVec 1 := Scalar.xori v1899 true_1143
  let v1902 : BitVec 1 := Scalar.andi v1900 v1901
  let c384_i32_1151 : BitVec 32 := 384#32
  let v1917 : BitVec 1 := Scalar.cmpi .sgt v1898 c384_i32_1151
  let v1918 : BitVec 1 := Scalar.andi v1902 v1917
  let v1919 : BitVec 32 := Scalar.extui v1918
  let c0_i32_1152 : BitVec 32 := 0#32
  let v1920 : BitVec 1 := Scalar.cmpi .ne v1919 c0_i32_1152
  v1920

def k0_off250 (v1896 : BitVec 32) : Fin 2 → Nat :=
  let c384_i32_1732 : BitVec 32 := 384#32
  let v2752 : BitVec 32 := Scalar.addi v1896 c384_i32_1732
  let v2753 : BitVec 32 := v2752
  let c0_i32_1737 : BitVec 32 := 0#32
  ![v2753.toNat, 0]

def k0_chk50 (v1896 : BitVec 32) (v1897 : BitVec 32) : Prop :=
  (∀ (k0_h306 : k0_cond306 v1896 v1897 = 1#1), 128 ∣ (k0_mult246 v1896).toNat) ∧
  (∀ (k0_h306 : k0_cond306 v1896 v1897 = 1#1), ∀ a, (k0_off246 v1896) a + S512x1024.size a ≤ S8192x1024.size a) ∧
  (∀ (k0_h307 : k0_cond307 v1896 v1897 = 1#1), 128 ∣ (k0_mult247 v1896).toNat) ∧
  (∀ (k0_h307 : k0_cond307 v1896 v1897 = 1#1), ∀ a, (k0_off247 v1896) a + S128x1024.size a ≤ S8192x1024.size a) ∧
  (∀ (k0_h308 : k0_cond308 v1896 v1897 = 1#1), 128 ∣ (k0_mult248 v1896).toNat) ∧
  (∀ (k0_h308 : k0_cond308 v1896 v1897 = 1#1), ∀ a, (k0_off248 v1896) a + S128x1024.size a ≤ S8192x1024.size a) ∧
  (∀ (k0_h309 : k0_cond309 v1896 v1897 = 1#1), 128 ∣ (k0_mult249 v1896).toNat) ∧
  (∀ (k0_h309 : k0_cond309 v1896 v1897 = 1#1), ∀ a, (k0_off249 v1896) a + S128x1024.size a ≤ S8192x1024.size a) ∧
  (∀ (k0_h310 : k0_cond310 v1896 v1897 = 1#1), 128 ∣ (k0_mult250 v1896).toNat) ∧
  (∀ (k0_h310 : k0_cond310 v1896 v1897 = 1#1), ∀ a, (k0_off250 v1896) a + S128x1024.size a ≤ S8192x1024.size a)
theorem k0_mult246_dvd : ∀ (v1896 : BitVec 32) (v1897 : BitVec 32) (k0_hw50 : k0_chk50 v1896 v1897), ∀ (k0_h306 : k0_cond306 v1896 v1897 = 1#1), 128 ∣ (k0_mult246 v1896).toNat := fun v1896 v1897 k0_hw50 k0_h306 => k0_hw50.1 k0_h306
theorem k0_off246_inb : ∀ (v1896 : BitVec 32) (v1897 : BitVec 32) (k0_hw50 : k0_chk50 v1896 v1897), ∀ (k0_h306 : k0_cond306 v1896 v1897 = 1#1), ∀ a, (k0_off246 v1896) a + S512x1024.size a ≤ S8192x1024.size a := fun v1896 v1897 k0_hw50 k0_h306 => k0_hw50.2.1 k0_h306
theorem k0_mult247_dvd : ∀ (v1896 : BitVec 32) (v1897 : BitVec 32) (k0_hw50 : k0_chk50 v1896 v1897), ∀ (k0_h307 : k0_cond307 v1896 v1897 = 1#1), 128 ∣ (k0_mult247 v1896).toNat := fun v1896 v1897 k0_hw50 k0_h307 => k0_hw50.2.2.1 k0_h307
theorem k0_off247_inb : ∀ (v1896 : BitVec 32) (v1897 : BitVec 32) (k0_hw50 : k0_chk50 v1896 v1897), ∀ (k0_h307 : k0_cond307 v1896 v1897 = 1#1), ∀ a, (k0_off247 v1896) a + S128x1024.size a ≤ S8192x1024.size a := fun v1896 v1897 k0_hw50 k0_h307 => k0_hw50.2.2.2.1 k0_h307
theorem k0_mult248_dvd : ∀ (v1896 : BitVec 32) (v1897 : BitVec 32) (k0_hw50 : k0_chk50 v1896 v1897), ∀ (k0_h308 : k0_cond308 v1896 v1897 = 1#1), 128 ∣ (k0_mult248 v1896).toNat := fun v1896 v1897 k0_hw50 k0_h308 => k0_hw50.2.2.2.2.1 k0_h308
theorem k0_off248_inb : ∀ (v1896 : BitVec 32) (v1897 : BitVec 32) (k0_hw50 : k0_chk50 v1896 v1897), ∀ (k0_h308 : k0_cond308 v1896 v1897 = 1#1), ∀ a, (k0_off248 v1896) a + S128x1024.size a ≤ S8192x1024.size a := fun v1896 v1897 k0_hw50 k0_h308 => k0_hw50.2.2.2.2.2.1 k0_h308
theorem k0_mult249_dvd : ∀ (v1896 : BitVec 32) (v1897 : BitVec 32) (k0_hw50 : k0_chk50 v1896 v1897), ∀ (k0_h309 : k0_cond309 v1896 v1897 = 1#1), 128 ∣ (k0_mult249 v1896).toNat := fun v1896 v1897 k0_hw50 k0_h309 => k0_hw50.2.2.2.2.2.2.1 k0_h309
theorem k0_off249_inb : ∀ (v1896 : BitVec 32) (v1897 : BitVec 32) (k0_hw50 : k0_chk50 v1896 v1897), ∀ (k0_h309 : k0_cond309 v1896 v1897 = 1#1), ∀ a, (k0_off249 v1896) a + S128x1024.size a ≤ S8192x1024.size a := fun v1896 v1897 k0_hw50 k0_h309 => k0_hw50.2.2.2.2.2.2.2.1 k0_h309
theorem k0_mult250_dvd : ∀ (v1896 : BitVec 32) (v1897 : BitVec 32) (k0_hw50 : k0_chk50 v1896 v1897), ∀ (k0_h310 : k0_cond310 v1896 v1897 = 1#1), 128 ∣ (k0_mult250 v1896).toNat := fun v1896 v1897 k0_hw50 k0_h310 => k0_hw50.2.2.2.2.2.2.2.2.1 k0_h310
theorem k0_off250_inb : ∀ (v1896 : BitVec 32) (v1897 : BitVec 32) (k0_hw50 : k0_chk50 v1896 v1897), ∀ (k0_h310 : k0_cond310 v1896 v1897 = 1#1), ∀ a, (k0_off250 v1896) a + S128x1024.size a ≤ S8192x1024.size a := fun v1896 v1897 k0_hw50 k0_h310 => k0_hw50.2.2.2.2.2.2.2.2.2 k0_h310

def k0_mult251 (v1936 : BitVec 32) : BitVec 32 :=
  let c512_i32_1732 : BitVec 32 := 512#32
  let v2752 : BitVec 32 := Scalar.addi v1936 c512_i32_1732
  v2752
def k0_cond314 (v1936 : BitVec 32) (v1937 : BitVec 32) : BitVec 1 :=
  let v1938 : BitVec 32 := Scalar.subi v1937 v1936
  let c1024_i32_1167 : BitVec 32 := 1024#32
  let v1939 : BitVec 1 := Scalar.cmpi .sge v1938 c1024_i32_1167
  let v1943 : BitVec 32 := Scalar.extui v1939
  let c0_i32_1170 : BitVec 32 := 0#32
  let v1944 : BitVec 1 := Scalar.cmpi .ne v1943 c0_i32_1170
  v1944

def k0_off251 (v1936 : BitVec 32) : Fin 2 → Nat :=
  let c512_i32_1732 : BitVec 32 := 512#32
  let v2752 : BitVec 32 := Scalar.addi v1936 c512_i32_1732
  let v2753 : BitVec 32 := v2752
  let c0_i32_1737 : BitVec 32 := 0#32
  ![v2753.toNat, 0]
def k0_mult252 (v1936 : BitVec 32) : BitVec 32 :=
  let c512_i32_1732 : BitVec 32 := 512#32
  let v2752 : BitVec 32 := Scalar.addi v1936 c512_i32_1732
  v2752
def k0_cond315 (v1936 : BitVec 32) (v1937 : BitVec 32) : BitVec 1 :=
  let v1938 : BitVec 32 := Scalar.subi v1937 v1936
  let c512_i32_1168 : BitVec 32 := 512#32
  let v1940 : BitVec 1 := Scalar.cmpi .sgt v1938 c512_i32_1168
  let c1024_i32_1167 : BitVec 32 := 1024#32
  let v1939 : BitVec 1 := Scalar.cmpi .sge v1938 c1024_i32_1167
  let true_1169 : BitVec 1 := 1#1
  let v1941 : BitVec 1 := Scalar.xori v1939 true_1169
  let v1942 : BitVec 1 := Scalar.andi v1940 v1941
  let c512_i32_1171 : BitVec 32 := 512#32
  let v1945 : BitVec 1 := Scalar.cmpi .sgt v1938 c512_i32_1171
  let v1946 : BitVec 1 := Scalar.andi v1942 v1945
  let v1947 : BitVec 32 := Scalar.extui v1946
  let c0_i32_1172 : BitVec 32 := 0#32
  let v1948 : BitVec 1 := Scalar.cmpi .ne v1947 c0_i32_1172
  v1948

def k0_off252 (v1936 : BitVec 32) : Fin 2 → Nat :=
  let c512_i32_1732 : BitVec 32 := 512#32
  let v2752 : BitVec 32 := Scalar.addi v1936 c512_i32_1732
  let v2753 : BitVec 32 := v2752
  let c0_i32_1737 : BitVec 32 := 0#32
  ![v2753.toNat, 0]
def k0_mult253 (v1936 : BitVec 32) : BitVec 32 :=
  let c640_i32_1732 : BitVec 32 := 640#32
  let v2752 : BitVec 32 := Scalar.addi v1936 c640_i32_1732
  v2752
def k0_cond316 (v1936 : BitVec 32) (v1937 : BitVec 32) : BitVec 1 :=
  let v1938 : BitVec 32 := Scalar.subi v1937 v1936
  let c512_i32_1168 : BitVec 32 := 512#32
  let v1940 : BitVec 1 := Scalar.cmpi .sgt v1938 c512_i32_1168
  let c1024_i32_1167 : BitVec 32 := 1024#32
  let v1939 : BitVec 1 := Scalar.cmpi .sge v1938 c1024_i32_1167
  let true_1169 : BitVec 1 := 1#1
  let v1941 : BitVec 1 := Scalar.xori v1939 true_1169
  let v1942 : BitVec 1 := Scalar.andi v1940 v1941
  let c640_i32_1173 : BitVec 32 := 640#32
  let v1949 : BitVec 1 := Scalar.cmpi .sgt v1938 c640_i32_1173
  let v1950 : BitVec 1 := Scalar.andi v1942 v1949
  let v1951 : BitVec 32 := Scalar.extui v1950
  let c0_i32_1174 : BitVec 32 := 0#32
  let v1952 : BitVec 1 := Scalar.cmpi .ne v1951 c0_i32_1174
  v1952

def k0_off253 (v1936 : BitVec 32) : Fin 2 → Nat :=
  let c640_i32_1732 : BitVec 32 := 640#32
  let v2752 : BitVec 32 := Scalar.addi v1936 c640_i32_1732
  let v2753 : BitVec 32 := v2752
  let c0_i32_1737 : BitVec 32 := 0#32
  ![v2753.toNat, 0]
def k0_mult254 (v1936 : BitVec 32) : BitVec 32 :=
  let c768_i32_1732 : BitVec 32 := 768#32
  let v2752 : BitVec 32 := Scalar.addi v1936 c768_i32_1732
  v2752
def k0_cond317 (v1936 : BitVec 32) (v1937 : BitVec 32) : BitVec 1 :=
  let v1938 : BitVec 32 := Scalar.subi v1937 v1936
  let c512_i32_1168 : BitVec 32 := 512#32
  let v1940 : BitVec 1 := Scalar.cmpi .sgt v1938 c512_i32_1168
  let c1024_i32_1167 : BitVec 32 := 1024#32
  let v1939 : BitVec 1 := Scalar.cmpi .sge v1938 c1024_i32_1167
  let true_1169 : BitVec 1 := 1#1
  let v1941 : BitVec 1 := Scalar.xori v1939 true_1169
  let v1942 : BitVec 1 := Scalar.andi v1940 v1941
  let c768_i32_1175 : BitVec 32 := 768#32
  let v1953 : BitVec 1 := Scalar.cmpi .sgt v1938 c768_i32_1175
  let v1954 : BitVec 1 := Scalar.andi v1942 v1953
  let v1955 : BitVec 32 := Scalar.extui v1954
  let c0_i32_1176 : BitVec 32 := 0#32
  let v1956 : BitVec 1 := Scalar.cmpi .ne v1955 c0_i32_1176
  v1956

def k0_off254 (v1936 : BitVec 32) : Fin 2 → Nat :=
  let c768_i32_1732 : BitVec 32 := 768#32
  let v2752 : BitVec 32 := Scalar.addi v1936 c768_i32_1732
  let v2753 : BitVec 32 := v2752
  let c0_i32_1737 : BitVec 32 := 0#32
  ![v2753.toNat, 0]
def k0_mult255 (v1936 : BitVec 32) : BitVec 32 :=
  let c896_i32_1732 : BitVec 32 := 896#32
  let v2752 : BitVec 32 := Scalar.addi v1936 c896_i32_1732
  v2752
def k0_cond318 (v1936 : BitVec 32) (v1937 : BitVec 32) : BitVec 1 :=
  let v1938 : BitVec 32 := Scalar.subi v1937 v1936
  let c512_i32_1168 : BitVec 32 := 512#32
  let v1940 : BitVec 1 := Scalar.cmpi .sgt v1938 c512_i32_1168
  let c1024_i32_1167 : BitVec 32 := 1024#32
  let v1939 : BitVec 1 := Scalar.cmpi .sge v1938 c1024_i32_1167
  let true_1169 : BitVec 1 := 1#1
  let v1941 : BitVec 1 := Scalar.xori v1939 true_1169
  let v1942 : BitVec 1 := Scalar.andi v1940 v1941
  let c896_i32_1177 : BitVec 32 := 896#32
  let v1957 : BitVec 1 := Scalar.cmpi .sgt v1938 c896_i32_1177
  let v1958 : BitVec 1 := Scalar.andi v1942 v1957
  let v1959 : BitVec 32 := Scalar.extui v1958
  let c0_i32_1178 : BitVec 32 := 0#32
  let v1960 : BitVec 1 := Scalar.cmpi .ne v1959 c0_i32_1178
  v1960

def k0_off255 (v1936 : BitVec 32) : Fin 2 → Nat :=
  let c896_i32_1732 : BitVec 32 := 896#32
  let v2752 : BitVec 32 := Scalar.addi v1936 c896_i32_1732
  let v2753 : BitVec 32 := v2752
  let c0_i32_1737 : BitVec 32 := 0#32
  ![v2753.toNat, 0]

def k0_chk51 (v1936 : BitVec 32) (v1937 : BitVec 32) : Prop :=
  (∀ (k0_h314 : k0_cond314 v1936 v1937 = 1#1), 128 ∣ (k0_mult251 v1936).toNat) ∧
  (∀ (k0_h314 : k0_cond314 v1936 v1937 = 1#1), ∀ a, (k0_off251 v1936) a + S512x1024.size a ≤ S8192x1024.size a) ∧
  (∀ (k0_h315 : k0_cond315 v1936 v1937 = 1#1), 128 ∣ (k0_mult252 v1936).toNat) ∧
  (∀ (k0_h315 : k0_cond315 v1936 v1937 = 1#1), ∀ a, (k0_off252 v1936) a + S128x1024.size a ≤ S8192x1024.size a) ∧
  (∀ (k0_h316 : k0_cond316 v1936 v1937 = 1#1), 128 ∣ (k0_mult253 v1936).toNat) ∧
  (∀ (k0_h316 : k0_cond316 v1936 v1937 = 1#1), ∀ a, (k0_off253 v1936) a + S128x1024.size a ≤ S8192x1024.size a) ∧
  (∀ (k0_h317 : k0_cond317 v1936 v1937 = 1#1), 128 ∣ (k0_mult254 v1936).toNat) ∧
  (∀ (k0_h317 : k0_cond317 v1936 v1937 = 1#1), ∀ a, (k0_off254 v1936) a + S128x1024.size a ≤ S8192x1024.size a) ∧
  (∀ (k0_h318 : k0_cond318 v1936 v1937 = 1#1), 128 ∣ (k0_mult255 v1936).toNat) ∧
  (∀ (k0_h318 : k0_cond318 v1936 v1937 = 1#1), ∀ a, (k0_off255 v1936) a + S128x1024.size a ≤ S8192x1024.size a)
theorem k0_mult251_dvd : ∀ (v1936 : BitVec 32) (v1937 : BitVec 32) (k0_hw51 : k0_chk51 v1936 v1937), ∀ (k0_h314 : k0_cond314 v1936 v1937 = 1#1), 128 ∣ (k0_mult251 v1936).toNat := fun v1936 v1937 k0_hw51 k0_h314 => k0_hw51.1 k0_h314
theorem k0_off251_inb : ∀ (v1936 : BitVec 32) (v1937 : BitVec 32) (k0_hw51 : k0_chk51 v1936 v1937), ∀ (k0_h314 : k0_cond314 v1936 v1937 = 1#1), ∀ a, (k0_off251 v1936) a + S512x1024.size a ≤ S8192x1024.size a := fun v1936 v1937 k0_hw51 k0_h314 => k0_hw51.2.1 k0_h314
theorem k0_mult252_dvd : ∀ (v1936 : BitVec 32) (v1937 : BitVec 32) (k0_hw51 : k0_chk51 v1936 v1937), ∀ (k0_h315 : k0_cond315 v1936 v1937 = 1#1), 128 ∣ (k0_mult252 v1936).toNat := fun v1936 v1937 k0_hw51 k0_h315 => k0_hw51.2.2.1 k0_h315
theorem k0_off252_inb : ∀ (v1936 : BitVec 32) (v1937 : BitVec 32) (k0_hw51 : k0_chk51 v1936 v1937), ∀ (k0_h315 : k0_cond315 v1936 v1937 = 1#1), ∀ a, (k0_off252 v1936) a + S128x1024.size a ≤ S8192x1024.size a := fun v1936 v1937 k0_hw51 k0_h315 => k0_hw51.2.2.2.1 k0_h315
theorem k0_mult253_dvd : ∀ (v1936 : BitVec 32) (v1937 : BitVec 32) (k0_hw51 : k0_chk51 v1936 v1937), ∀ (k0_h316 : k0_cond316 v1936 v1937 = 1#1), 128 ∣ (k0_mult253 v1936).toNat := fun v1936 v1937 k0_hw51 k0_h316 => k0_hw51.2.2.2.2.1 k0_h316
theorem k0_off253_inb : ∀ (v1936 : BitVec 32) (v1937 : BitVec 32) (k0_hw51 : k0_chk51 v1936 v1937), ∀ (k0_h316 : k0_cond316 v1936 v1937 = 1#1), ∀ a, (k0_off253 v1936) a + S128x1024.size a ≤ S8192x1024.size a := fun v1936 v1937 k0_hw51 k0_h316 => k0_hw51.2.2.2.2.2.1 k0_h316
theorem k0_mult254_dvd : ∀ (v1936 : BitVec 32) (v1937 : BitVec 32) (k0_hw51 : k0_chk51 v1936 v1937), ∀ (k0_h317 : k0_cond317 v1936 v1937 = 1#1), 128 ∣ (k0_mult254 v1936).toNat := fun v1936 v1937 k0_hw51 k0_h317 => k0_hw51.2.2.2.2.2.2.1 k0_h317
theorem k0_off254_inb : ∀ (v1936 : BitVec 32) (v1937 : BitVec 32) (k0_hw51 : k0_chk51 v1936 v1937), ∀ (k0_h317 : k0_cond317 v1936 v1937 = 1#1), ∀ a, (k0_off254 v1936) a + S128x1024.size a ≤ S8192x1024.size a := fun v1936 v1937 k0_hw51 k0_h317 => k0_hw51.2.2.2.2.2.2.2.1 k0_h317
theorem k0_mult255_dvd : ∀ (v1936 : BitVec 32) (v1937 : BitVec 32) (k0_hw51 : k0_chk51 v1936 v1937), ∀ (k0_h318 : k0_cond318 v1936 v1937 = 1#1), 128 ∣ (k0_mult255 v1936).toNat := fun v1936 v1937 k0_hw51 k0_h318 => k0_hw51.2.2.2.2.2.2.2.2.1 k0_h318
theorem k0_off255_inb : ∀ (v1936 : BitVec 32) (v1937 : BitVec 32) (k0_hw51 : k0_chk51 v1936 v1937), ∀ (k0_h318 : k0_cond318 v1936 v1937 = 1#1), ∀ a, (k0_off255 v1936) a + S128x1024.size a ≤ S8192x1024.size a := fun v1936 v1937 k0_hw51 k0_h318 => k0_hw51.2.2.2.2.2.2.2.2.2 k0_h318

def k0_mult256 (v1982 : BitVec 32) : BitVec 32 :=
  let c512_i32_1732 : BitVec 32 := 512#32
  let v2752 : BitVec 32 := Scalar.addi v1982 c512_i32_1732
  v2752
def k0_cond319 (v1982 : BitVec 32) (v1983 : BitVec 32) : BitVec 1 :=
  let v1984 : BitVec 32 := Scalar.subi v1983 v1982
  let c1024_i32_1196 : BitVec 32 := 1024#32
  let v1985 : BitVec 1 := Scalar.cmpi .sge v1984 c1024_i32_1196
  let v1989 : BitVec 32 := Scalar.extui v1985
  let c0_i32_1199 : BitVec 32 := 0#32
  let v1990 : BitVec 1 := Scalar.cmpi .ne v1989 c0_i32_1199
  v1990

def k0_off256 (v1982 : BitVec 32) : Fin 2 → Nat :=
  let c512_i32_1732 : BitVec 32 := 512#32
  let v2752 : BitVec 32 := Scalar.addi v1982 c512_i32_1732
  let v2753 : BitVec 32 := v2752
  let c0_i32_1737 : BitVec 32 := 0#32
  ![v2753.toNat, 0]
def k0_mult257 (v1982 : BitVec 32) : BitVec 32 :=
  let c512_i32_1732 : BitVec 32 := 512#32
  let v2752 : BitVec 32 := Scalar.addi v1982 c512_i32_1732
  v2752
def k0_cond320 (v1982 : BitVec 32) (v1983 : BitVec 32) : BitVec 1 :=
  let v1984 : BitVec 32 := Scalar.subi v1983 v1982
  let c512_i32_1197 : BitVec 32 := 512#32
  let v1986 : BitVec 1 := Scalar.cmpi .sgt v1984 c512_i32_1197
  let c1024_i32_1196 : BitVec 32 := 1024#32
  let v1985 : BitVec 1 := Scalar.cmpi .sge v1984 c1024_i32_1196
  let true_1198 : BitVec 1 := 1#1
  let v1987 : BitVec 1 := Scalar.xori v1985 true_1198
  let v1988 : BitVec 1 := Scalar.andi v1986 v1987
  let c512_i32_1200 : BitVec 32 := 512#32
  let v1991 : BitVec 1 := Scalar.cmpi .sgt v1984 c512_i32_1200
  let v1992 : BitVec 1 := Scalar.andi v1988 v1991
  let v1993 : BitVec 32 := Scalar.extui v1992
  let c0_i32_1201 : BitVec 32 := 0#32
  let v1994 : BitVec 1 := Scalar.cmpi .ne v1993 c0_i32_1201
  v1994

def k0_off257 (v1982 : BitVec 32) : Fin 2 → Nat :=
  let c512_i32_1732 : BitVec 32 := 512#32
  let v2752 : BitVec 32 := Scalar.addi v1982 c512_i32_1732
  let v2753 : BitVec 32 := v2752
  let c0_i32_1737 : BitVec 32 := 0#32
  ![v2753.toNat, 0]
def k0_mult258 (v1982 : BitVec 32) : BitVec 32 :=
  let c640_i32_1732 : BitVec 32 := 640#32
  let v2752 : BitVec 32 := Scalar.addi v1982 c640_i32_1732
  v2752
def k0_cond321 (v1982 : BitVec 32) (v1983 : BitVec 32) : BitVec 1 :=
  let v1984 : BitVec 32 := Scalar.subi v1983 v1982
  let c512_i32_1197 : BitVec 32 := 512#32
  let v1986 : BitVec 1 := Scalar.cmpi .sgt v1984 c512_i32_1197
  let c1024_i32_1196 : BitVec 32 := 1024#32
  let v1985 : BitVec 1 := Scalar.cmpi .sge v1984 c1024_i32_1196
  let true_1198 : BitVec 1 := 1#1
  let v1987 : BitVec 1 := Scalar.xori v1985 true_1198
  let v1988 : BitVec 1 := Scalar.andi v1986 v1987
  let c640_i32_1202 : BitVec 32 := 640#32
  let v1995 : BitVec 1 := Scalar.cmpi .sgt v1984 c640_i32_1202
  let v1996 : BitVec 1 := Scalar.andi v1988 v1995
  let v1997 : BitVec 32 := Scalar.extui v1996
  let c0_i32_1203 : BitVec 32 := 0#32
  let v1998 : BitVec 1 := Scalar.cmpi .ne v1997 c0_i32_1203
  v1998

def k0_off258 (v1982 : BitVec 32) : Fin 2 → Nat :=
  let c640_i32_1732 : BitVec 32 := 640#32
  let v2752 : BitVec 32 := Scalar.addi v1982 c640_i32_1732
  let v2753 : BitVec 32 := v2752
  let c0_i32_1737 : BitVec 32 := 0#32
  ![v2753.toNat, 0]
def k0_mult259 (v1982 : BitVec 32) : BitVec 32 :=
  let c768_i32_1732 : BitVec 32 := 768#32
  let v2752 : BitVec 32 := Scalar.addi v1982 c768_i32_1732
  v2752
def k0_cond322 (v1982 : BitVec 32) (v1983 : BitVec 32) : BitVec 1 :=
  let v1984 : BitVec 32 := Scalar.subi v1983 v1982
  let c512_i32_1197 : BitVec 32 := 512#32
  let v1986 : BitVec 1 := Scalar.cmpi .sgt v1984 c512_i32_1197
  let c1024_i32_1196 : BitVec 32 := 1024#32
  let v1985 : BitVec 1 := Scalar.cmpi .sge v1984 c1024_i32_1196
  let true_1198 : BitVec 1 := 1#1
  let v1987 : BitVec 1 := Scalar.xori v1985 true_1198
  let v1988 : BitVec 1 := Scalar.andi v1986 v1987
  let c768_i32_1204 : BitVec 32 := 768#32
  let v1999 : BitVec 1 := Scalar.cmpi .sgt v1984 c768_i32_1204
  let v2000 : BitVec 1 := Scalar.andi v1988 v1999
  let v2001 : BitVec 32 := Scalar.extui v2000
  let c0_i32_1205 : BitVec 32 := 0#32
  let v2002 : BitVec 1 := Scalar.cmpi .ne v2001 c0_i32_1205
  v2002

def k0_off259 (v1982 : BitVec 32) : Fin 2 → Nat :=
  let c768_i32_1732 : BitVec 32 := 768#32
  let v2752 : BitVec 32 := Scalar.addi v1982 c768_i32_1732
  let v2753 : BitVec 32 := v2752
  let c0_i32_1737 : BitVec 32 := 0#32
  ![v2753.toNat, 0]
def k0_mult260 (v1982 : BitVec 32) : BitVec 32 :=
  let c896_i32_1732 : BitVec 32 := 896#32
  let v2752 : BitVec 32 := Scalar.addi v1982 c896_i32_1732
  v2752
def k0_cond323 (v1982 : BitVec 32) (v1983 : BitVec 32) : BitVec 1 :=
  let v1984 : BitVec 32 := Scalar.subi v1983 v1982
  let c512_i32_1197 : BitVec 32 := 512#32
  let v1986 : BitVec 1 := Scalar.cmpi .sgt v1984 c512_i32_1197
  let c1024_i32_1196 : BitVec 32 := 1024#32
  let v1985 : BitVec 1 := Scalar.cmpi .sge v1984 c1024_i32_1196
  let true_1198 : BitVec 1 := 1#1
  let v1987 : BitVec 1 := Scalar.xori v1985 true_1198
  let v1988 : BitVec 1 := Scalar.andi v1986 v1987
  let c896_i32_1206 : BitVec 32 := 896#32
  let v2003 : BitVec 1 := Scalar.cmpi .sgt v1984 c896_i32_1206
  let v2004 : BitVec 1 := Scalar.andi v1988 v2003
  let v2005 : BitVec 32 := Scalar.extui v2004
  let c0_i32_1207 : BitVec 32 := 0#32
  let v2006 : BitVec 1 := Scalar.cmpi .ne v2005 c0_i32_1207
  v2006

def k0_off260 (v1982 : BitVec 32) : Fin 2 → Nat :=
  let c896_i32_1732 : BitVec 32 := 896#32
  let v2752 : BitVec 32 := Scalar.addi v1982 c896_i32_1732
  let v2753 : BitVec 32 := v2752
  let c0_i32_1737 : BitVec 32 := 0#32
  ![v2753.toNat, 0]

def k0_chk52 (v1982 : BitVec 32) (v1983 : BitVec 32) : Prop :=
  (∀ (k0_h319 : k0_cond319 v1982 v1983 = 1#1), 128 ∣ (k0_mult256 v1982).toNat) ∧
  (∀ (k0_h319 : k0_cond319 v1982 v1983 = 1#1), ∀ a, (k0_off256 v1982) a + S512x1024.size a ≤ S8192x1024.size a) ∧
  (∀ (k0_h320 : k0_cond320 v1982 v1983 = 1#1), 128 ∣ (k0_mult257 v1982).toNat) ∧
  (∀ (k0_h320 : k0_cond320 v1982 v1983 = 1#1), ∀ a, (k0_off257 v1982) a + S128x1024.size a ≤ S8192x1024.size a) ∧
  (∀ (k0_h321 : k0_cond321 v1982 v1983 = 1#1), 128 ∣ (k0_mult258 v1982).toNat) ∧
  (∀ (k0_h321 : k0_cond321 v1982 v1983 = 1#1), ∀ a, (k0_off258 v1982) a + S128x1024.size a ≤ S8192x1024.size a) ∧
  (∀ (k0_h322 : k0_cond322 v1982 v1983 = 1#1), 128 ∣ (k0_mult259 v1982).toNat) ∧
  (∀ (k0_h322 : k0_cond322 v1982 v1983 = 1#1), ∀ a, (k0_off259 v1982) a + S128x1024.size a ≤ S8192x1024.size a) ∧
  (∀ (k0_h323 : k0_cond323 v1982 v1983 = 1#1), 128 ∣ (k0_mult260 v1982).toNat) ∧
  (∀ (k0_h323 : k0_cond323 v1982 v1983 = 1#1), ∀ a, (k0_off260 v1982) a + S128x1024.size a ≤ S8192x1024.size a)
theorem k0_mult256_dvd : ∀ (v1982 : BitVec 32) (v1983 : BitVec 32) (k0_hw52 : k0_chk52 v1982 v1983), ∀ (k0_h319 : k0_cond319 v1982 v1983 = 1#1), 128 ∣ (k0_mult256 v1982).toNat := fun v1982 v1983 k0_hw52 k0_h319 => k0_hw52.1 k0_h319
theorem k0_off256_inb : ∀ (v1982 : BitVec 32) (v1983 : BitVec 32) (k0_hw52 : k0_chk52 v1982 v1983), ∀ (k0_h319 : k0_cond319 v1982 v1983 = 1#1), ∀ a, (k0_off256 v1982) a + S512x1024.size a ≤ S8192x1024.size a := fun v1982 v1983 k0_hw52 k0_h319 => k0_hw52.2.1 k0_h319
theorem k0_mult257_dvd : ∀ (v1982 : BitVec 32) (v1983 : BitVec 32) (k0_hw52 : k0_chk52 v1982 v1983), ∀ (k0_h320 : k0_cond320 v1982 v1983 = 1#1), 128 ∣ (k0_mult257 v1982).toNat := fun v1982 v1983 k0_hw52 k0_h320 => k0_hw52.2.2.1 k0_h320
theorem k0_off257_inb : ∀ (v1982 : BitVec 32) (v1983 : BitVec 32) (k0_hw52 : k0_chk52 v1982 v1983), ∀ (k0_h320 : k0_cond320 v1982 v1983 = 1#1), ∀ a, (k0_off257 v1982) a + S128x1024.size a ≤ S8192x1024.size a := fun v1982 v1983 k0_hw52 k0_h320 => k0_hw52.2.2.2.1 k0_h320
theorem k0_mult258_dvd : ∀ (v1982 : BitVec 32) (v1983 : BitVec 32) (k0_hw52 : k0_chk52 v1982 v1983), ∀ (k0_h321 : k0_cond321 v1982 v1983 = 1#1), 128 ∣ (k0_mult258 v1982).toNat := fun v1982 v1983 k0_hw52 k0_h321 => k0_hw52.2.2.2.2.1 k0_h321
theorem k0_off258_inb : ∀ (v1982 : BitVec 32) (v1983 : BitVec 32) (k0_hw52 : k0_chk52 v1982 v1983), ∀ (k0_h321 : k0_cond321 v1982 v1983 = 1#1), ∀ a, (k0_off258 v1982) a + S128x1024.size a ≤ S8192x1024.size a := fun v1982 v1983 k0_hw52 k0_h321 => k0_hw52.2.2.2.2.2.1 k0_h321
theorem k0_mult259_dvd : ∀ (v1982 : BitVec 32) (v1983 : BitVec 32) (k0_hw52 : k0_chk52 v1982 v1983), ∀ (k0_h322 : k0_cond322 v1982 v1983 = 1#1), 128 ∣ (k0_mult259 v1982).toNat := fun v1982 v1983 k0_hw52 k0_h322 => k0_hw52.2.2.2.2.2.2.1 k0_h322
theorem k0_off259_inb : ∀ (v1982 : BitVec 32) (v1983 : BitVec 32) (k0_hw52 : k0_chk52 v1982 v1983), ∀ (k0_h322 : k0_cond322 v1982 v1983 = 1#1), ∀ a, (k0_off259 v1982) a + S128x1024.size a ≤ S8192x1024.size a := fun v1982 v1983 k0_hw52 k0_h322 => k0_hw52.2.2.2.2.2.2.2.1 k0_h322
theorem k0_mult260_dvd : ∀ (v1982 : BitVec 32) (v1983 : BitVec 32) (k0_hw52 : k0_chk52 v1982 v1983), ∀ (k0_h323 : k0_cond323 v1982 v1983 = 1#1), 128 ∣ (k0_mult260 v1982).toNat := fun v1982 v1983 k0_hw52 k0_h323 => k0_hw52.2.2.2.2.2.2.2.2.1 k0_h323
theorem k0_off260_inb : ∀ (v1982 : BitVec 32) (v1983 : BitVec 32) (k0_hw52 : k0_chk52 v1982 v1983), ∀ (k0_h323 : k0_cond323 v1982 v1983 = 1#1), ∀ a, (k0_off260 v1982) a + S128x1024.size a ≤ S8192x1024.size a := fun v1982 v1983 k0_hw52 k0_h323 => k0_hw52.2.2.2.2.2.2.2.2.2 k0_h323

def k0_mult261 (v2022 : BitVec 32) : BitVec 32 :=
  let c1024_i32_1732 : BitVec 32 := 1024#32
  let v2752 : BitVec 32 := Scalar.addi v2022 c1024_i32_1732
  v2752
def k0_cond327 (v2022 : BitVec 32) (v2023 : BitVec 32) : BitVec 1 :=
  let v2024 : BitVec 32 := Scalar.subi v2023 v2022
  let c1536_i32_1222 : BitVec 32 := 1536#32
  let v2025 : BitVec 1 := Scalar.cmpi .sge v2024 c1536_i32_1222
  let v2029 : BitVec 32 := Scalar.extui v2025
  let c0_i32_1225 : BitVec 32 := 0#32
  let v2030 : BitVec 1 := Scalar.cmpi .ne v2029 c0_i32_1225
  v2030

def k0_off261 (v2022 : BitVec 32) : Fin 2 → Nat :=
  let c1024_i32_1732 : BitVec 32 := 1024#32
  let v2752 : BitVec 32 := Scalar.addi v2022 c1024_i32_1732
  let v2753 : BitVec 32 := v2752
  let c0_i32_1737 : BitVec 32 := 0#32
  ![v2753.toNat, 0]
def k0_mult262 (v2022 : BitVec 32) : BitVec 32 :=
  let c1024_i32_1732 : BitVec 32 := 1024#32
  let v2752 : BitVec 32 := Scalar.addi v2022 c1024_i32_1732
  v2752
def k0_cond328 (v2022 : BitVec 32) (v2023 : BitVec 32) : BitVec 1 :=
  let v2024 : BitVec 32 := Scalar.subi v2023 v2022
  let c1024_i32_1223 : BitVec 32 := 1024#32
  let v2026 : BitVec 1 := Scalar.cmpi .sgt v2024 c1024_i32_1223
  let c1536_i32_1222 : BitVec 32 := 1536#32
  let v2025 : BitVec 1 := Scalar.cmpi .sge v2024 c1536_i32_1222
  let true_1224 : BitVec 1 := 1#1
  let v2027 : BitVec 1 := Scalar.xori v2025 true_1224
  let v2028 : BitVec 1 := Scalar.andi v2026 v2027
  let c1024_i32_1226 : BitVec 32 := 1024#32
  let v2031 : BitVec 1 := Scalar.cmpi .sgt v2024 c1024_i32_1226
  let v2032 : BitVec 1 := Scalar.andi v2028 v2031
  let v2033 : BitVec 32 := Scalar.extui v2032
  let c0_i32_1227 : BitVec 32 := 0#32
  let v2034 : BitVec 1 := Scalar.cmpi .ne v2033 c0_i32_1227
  v2034

def k0_off262 (v2022 : BitVec 32) : Fin 2 → Nat :=
  let c1024_i32_1732 : BitVec 32 := 1024#32
  let v2752 : BitVec 32 := Scalar.addi v2022 c1024_i32_1732
  let v2753 : BitVec 32 := v2752
  let c0_i32_1737 : BitVec 32 := 0#32
  ![v2753.toNat, 0]
def k0_mult263 (v2022 : BitVec 32) : BitVec 32 :=
  let c1152_i32_1732 : BitVec 32 := 1152#32
  let v2752 : BitVec 32 := Scalar.addi v2022 c1152_i32_1732
  v2752
def k0_cond329 (v2022 : BitVec 32) (v2023 : BitVec 32) : BitVec 1 :=
  let v2024 : BitVec 32 := Scalar.subi v2023 v2022
  let c1024_i32_1223 : BitVec 32 := 1024#32
  let v2026 : BitVec 1 := Scalar.cmpi .sgt v2024 c1024_i32_1223
  let c1536_i32_1222 : BitVec 32 := 1536#32
  let v2025 : BitVec 1 := Scalar.cmpi .sge v2024 c1536_i32_1222
  let true_1224 : BitVec 1 := 1#1
  let v2027 : BitVec 1 := Scalar.xori v2025 true_1224
  let v2028 : BitVec 1 := Scalar.andi v2026 v2027
  let c1152_i32_1228 : BitVec 32 := 1152#32
  let v2035 : BitVec 1 := Scalar.cmpi .sgt v2024 c1152_i32_1228
  let v2036 : BitVec 1 := Scalar.andi v2028 v2035
  let v2037 : BitVec 32 := Scalar.extui v2036
  let c0_i32_1229 : BitVec 32 := 0#32
  let v2038 : BitVec 1 := Scalar.cmpi .ne v2037 c0_i32_1229
  v2038

def k0_off263 (v2022 : BitVec 32) : Fin 2 → Nat :=
  let c1152_i32_1732 : BitVec 32 := 1152#32
  let v2752 : BitVec 32 := Scalar.addi v2022 c1152_i32_1732
  let v2753 : BitVec 32 := v2752
  let c0_i32_1737 : BitVec 32 := 0#32
  ![v2753.toNat, 0]
def k0_mult264 (v2022 : BitVec 32) : BitVec 32 :=
  let c1280_i32_1732 : BitVec 32 := 1280#32
  let v2752 : BitVec 32 := Scalar.addi v2022 c1280_i32_1732
  v2752
def k0_cond330 (v2022 : BitVec 32) (v2023 : BitVec 32) : BitVec 1 :=
  let v2024 : BitVec 32 := Scalar.subi v2023 v2022
  let c1024_i32_1223 : BitVec 32 := 1024#32
  let v2026 : BitVec 1 := Scalar.cmpi .sgt v2024 c1024_i32_1223
  let c1536_i32_1222 : BitVec 32 := 1536#32
  let v2025 : BitVec 1 := Scalar.cmpi .sge v2024 c1536_i32_1222
  let true_1224 : BitVec 1 := 1#1
  let v2027 : BitVec 1 := Scalar.xori v2025 true_1224
  let v2028 : BitVec 1 := Scalar.andi v2026 v2027
  let c1280_i32_1230 : BitVec 32 := 1280#32
  let v2039 : BitVec 1 := Scalar.cmpi .sgt v2024 c1280_i32_1230
  let v2040 : BitVec 1 := Scalar.andi v2028 v2039
  let v2041 : BitVec 32 := Scalar.extui v2040
  let c0_i32_1231 : BitVec 32 := 0#32
  let v2042 : BitVec 1 := Scalar.cmpi .ne v2041 c0_i32_1231
  v2042

def k0_off264 (v2022 : BitVec 32) : Fin 2 → Nat :=
  let c1280_i32_1732 : BitVec 32 := 1280#32
  let v2752 : BitVec 32 := Scalar.addi v2022 c1280_i32_1732
  let v2753 : BitVec 32 := v2752
  let c0_i32_1737 : BitVec 32 := 0#32
  ![v2753.toNat, 0]
def k0_mult265 (v2022 : BitVec 32) : BitVec 32 :=
  let c1408_i32_1732 : BitVec 32 := 1408#32
  let v2752 : BitVec 32 := Scalar.addi v2022 c1408_i32_1732
  v2752
def k0_cond331 (v2022 : BitVec 32) (v2023 : BitVec 32) : BitVec 1 :=
  let v2024 : BitVec 32 := Scalar.subi v2023 v2022
  let c1024_i32_1223 : BitVec 32 := 1024#32
  let v2026 : BitVec 1 := Scalar.cmpi .sgt v2024 c1024_i32_1223
  let c1536_i32_1222 : BitVec 32 := 1536#32
  let v2025 : BitVec 1 := Scalar.cmpi .sge v2024 c1536_i32_1222
  let true_1224 : BitVec 1 := 1#1
  let v2027 : BitVec 1 := Scalar.xori v2025 true_1224
  let v2028 : BitVec 1 := Scalar.andi v2026 v2027
  let c1408_i32_1232 : BitVec 32 := 1408#32
  let v2043 : BitVec 1 := Scalar.cmpi .sgt v2024 c1408_i32_1232
  let v2044 : BitVec 1 := Scalar.andi v2028 v2043
  let v2045 : BitVec 32 := Scalar.extui v2044
  let c0_i32_1233 : BitVec 32 := 0#32
  let v2046 : BitVec 1 := Scalar.cmpi .ne v2045 c0_i32_1233
  v2046

def k0_off265 (v2022 : BitVec 32) : Fin 2 → Nat :=
  let c1408_i32_1732 : BitVec 32 := 1408#32
  let v2752 : BitVec 32 := Scalar.addi v2022 c1408_i32_1732
  let v2753 : BitVec 32 := v2752
  let c0_i32_1737 : BitVec 32 := 0#32
  ![v2753.toNat, 0]

def k0_chk53 (v2022 : BitVec 32) (v2023 : BitVec 32) : Prop :=
  (∀ (k0_h327 : k0_cond327 v2022 v2023 = 1#1), 128 ∣ (k0_mult261 v2022).toNat) ∧
  (∀ (k0_h327 : k0_cond327 v2022 v2023 = 1#1), ∀ a, (k0_off261 v2022) a + S512x1024.size a ≤ S8192x1024.size a) ∧
  (∀ (k0_h328 : k0_cond328 v2022 v2023 = 1#1), 128 ∣ (k0_mult262 v2022).toNat) ∧
  (∀ (k0_h328 : k0_cond328 v2022 v2023 = 1#1), ∀ a, (k0_off262 v2022) a + S128x1024.size a ≤ S8192x1024.size a) ∧
  (∀ (k0_h329 : k0_cond329 v2022 v2023 = 1#1), 128 ∣ (k0_mult263 v2022).toNat) ∧
  (∀ (k0_h329 : k0_cond329 v2022 v2023 = 1#1), ∀ a, (k0_off263 v2022) a + S128x1024.size a ≤ S8192x1024.size a) ∧
  (∀ (k0_h330 : k0_cond330 v2022 v2023 = 1#1), 128 ∣ (k0_mult264 v2022).toNat) ∧
  (∀ (k0_h330 : k0_cond330 v2022 v2023 = 1#1), ∀ a, (k0_off264 v2022) a + S128x1024.size a ≤ S8192x1024.size a) ∧
  (∀ (k0_h331 : k0_cond331 v2022 v2023 = 1#1), 128 ∣ (k0_mult265 v2022).toNat) ∧
  (∀ (k0_h331 : k0_cond331 v2022 v2023 = 1#1), ∀ a, (k0_off265 v2022) a + S128x1024.size a ≤ S8192x1024.size a)
theorem k0_mult261_dvd : ∀ (v2022 : BitVec 32) (v2023 : BitVec 32) (k0_hw53 : k0_chk53 v2022 v2023), ∀ (k0_h327 : k0_cond327 v2022 v2023 = 1#1), 128 ∣ (k0_mult261 v2022).toNat := fun v2022 v2023 k0_hw53 k0_h327 => k0_hw53.1 k0_h327
theorem k0_off261_inb : ∀ (v2022 : BitVec 32) (v2023 : BitVec 32) (k0_hw53 : k0_chk53 v2022 v2023), ∀ (k0_h327 : k0_cond327 v2022 v2023 = 1#1), ∀ a, (k0_off261 v2022) a + S512x1024.size a ≤ S8192x1024.size a := fun v2022 v2023 k0_hw53 k0_h327 => k0_hw53.2.1 k0_h327
theorem k0_mult262_dvd : ∀ (v2022 : BitVec 32) (v2023 : BitVec 32) (k0_hw53 : k0_chk53 v2022 v2023), ∀ (k0_h328 : k0_cond328 v2022 v2023 = 1#1), 128 ∣ (k0_mult262 v2022).toNat := fun v2022 v2023 k0_hw53 k0_h328 => k0_hw53.2.2.1 k0_h328
theorem k0_off262_inb : ∀ (v2022 : BitVec 32) (v2023 : BitVec 32) (k0_hw53 : k0_chk53 v2022 v2023), ∀ (k0_h328 : k0_cond328 v2022 v2023 = 1#1), ∀ a, (k0_off262 v2022) a + S128x1024.size a ≤ S8192x1024.size a := fun v2022 v2023 k0_hw53 k0_h328 => k0_hw53.2.2.2.1 k0_h328
theorem k0_mult263_dvd : ∀ (v2022 : BitVec 32) (v2023 : BitVec 32) (k0_hw53 : k0_chk53 v2022 v2023), ∀ (k0_h329 : k0_cond329 v2022 v2023 = 1#1), 128 ∣ (k0_mult263 v2022).toNat := fun v2022 v2023 k0_hw53 k0_h329 => k0_hw53.2.2.2.2.1 k0_h329
theorem k0_off263_inb : ∀ (v2022 : BitVec 32) (v2023 : BitVec 32) (k0_hw53 : k0_chk53 v2022 v2023), ∀ (k0_h329 : k0_cond329 v2022 v2023 = 1#1), ∀ a, (k0_off263 v2022) a + S128x1024.size a ≤ S8192x1024.size a := fun v2022 v2023 k0_hw53 k0_h329 => k0_hw53.2.2.2.2.2.1 k0_h329
theorem k0_mult264_dvd : ∀ (v2022 : BitVec 32) (v2023 : BitVec 32) (k0_hw53 : k0_chk53 v2022 v2023), ∀ (k0_h330 : k0_cond330 v2022 v2023 = 1#1), 128 ∣ (k0_mult264 v2022).toNat := fun v2022 v2023 k0_hw53 k0_h330 => k0_hw53.2.2.2.2.2.2.1 k0_h330
theorem k0_off264_inb : ∀ (v2022 : BitVec 32) (v2023 : BitVec 32) (k0_hw53 : k0_chk53 v2022 v2023), ∀ (k0_h330 : k0_cond330 v2022 v2023 = 1#1), ∀ a, (k0_off264 v2022) a + S128x1024.size a ≤ S8192x1024.size a := fun v2022 v2023 k0_hw53 k0_h330 => k0_hw53.2.2.2.2.2.2.2.1 k0_h330
theorem k0_mult265_dvd : ∀ (v2022 : BitVec 32) (v2023 : BitVec 32) (k0_hw53 : k0_chk53 v2022 v2023), ∀ (k0_h331 : k0_cond331 v2022 v2023 = 1#1), 128 ∣ (k0_mult265 v2022).toNat := fun v2022 v2023 k0_hw53 k0_h331 => k0_hw53.2.2.2.2.2.2.2.2.1 k0_h331
theorem k0_off265_inb : ∀ (v2022 : BitVec 32) (v2023 : BitVec 32) (k0_hw53 : k0_chk53 v2022 v2023), ∀ (k0_h331 : k0_cond331 v2022 v2023 = 1#1), ∀ a, (k0_off265 v2022) a + S128x1024.size a ≤ S8192x1024.size a := fun v2022 v2023 k0_hw53 k0_h331 => k0_hw53.2.2.2.2.2.2.2.2.2 k0_h331

def k0_mult266 (v2068 : BitVec 32) : BitVec 32 :=
  let c1024_i32_1732 : BitVec 32 := 1024#32
  let v2752 : BitVec 32 := Scalar.addi v2068 c1024_i32_1732
  v2752
def k0_cond332 (v2068 : BitVec 32) (v2069 : BitVec 32) : BitVec 1 :=
  let v2070 : BitVec 32 := Scalar.subi v2069 v2068
  let c1536_i32_1251 : BitVec 32 := 1536#32
  let v2071 : BitVec 1 := Scalar.cmpi .sge v2070 c1536_i32_1251
  let v2075 : BitVec 32 := Scalar.extui v2071
  let c0_i32_1254 : BitVec 32 := 0#32
  let v2076 : BitVec 1 := Scalar.cmpi .ne v2075 c0_i32_1254
  v2076

def k0_off266 (v2068 : BitVec 32) : Fin 2 → Nat :=
  let c1024_i32_1732 : BitVec 32 := 1024#32
  let v2752 : BitVec 32 := Scalar.addi v2068 c1024_i32_1732
  let v2753 : BitVec 32 := v2752
  let c0_i32_1737 : BitVec 32 := 0#32
  ![v2753.toNat, 0]
def k0_mult267 (v2068 : BitVec 32) : BitVec 32 :=
  let c1024_i32_1732 : BitVec 32 := 1024#32
  let v2752 : BitVec 32 := Scalar.addi v2068 c1024_i32_1732
  v2752
def k0_cond333 (v2068 : BitVec 32) (v2069 : BitVec 32) : BitVec 1 :=
  let v2070 : BitVec 32 := Scalar.subi v2069 v2068
  let c1024_i32_1252 : BitVec 32 := 1024#32
  let v2072 : BitVec 1 := Scalar.cmpi .sgt v2070 c1024_i32_1252
  let c1536_i32_1251 : BitVec 32 := 1536#32
  let v2071 : BitVec 1 := Scalar.cmpi .sge v2070 c1536_i32_1251
  let true_1253 : BitVec 1 := 1#1
  let v2073 : BitVec 1 := Scalar.xori v2071 true_1253
  let v2074 : BitVec 1 := Scalar.andi v2072 v2073
  let c1024_i32_1255 : BitVec 32 := 1024#32
  let v2077 : BitVec 1 := Scalar.cmpi .sgt v2070 c1024_i32_1255
  let v2078 : BitVec 1 := Scalar.andi v2074 v2077
  let v2079 : BitVec 32 := Scalar.extui v2078
  let c0_i32_1256 : BitVec 32 := 0#32
  let v2080 : BitVec 1 := Scalar.cmpi .ne v2079 c0_i32_1256
  v2080

def k0_off267 (v2068 : BitVec 32) : Fin 2 → Nat :=
  let c1024_i32_1732 : BitVec 32 := 1024#32
  let v2752 : BitVec 32 := Scalar.addi v2068 c1024_i32_1732
  let v2753 : BitVec 32 := v2752
  let c0_i32_1737 : BitVec 32 := 0#32
  ![v2753.toNat, 0]
def k0_mult268 (v2068 : BitVec 32) : BitVec 32 :=
  let c1152_i32_1732 : BitVec 32 := 1152#32
  let v2752 : BitVec 32 := Scalar.addi v2068 c1152_i32_1732
  v2752
def k0_cond334 (v2068 : BitVec 32) (v2069 : BitVec 32) : BitVec 1 :=
  let v2070 : BitVec 32 := Scalar.subi v2069 v2068
  let c1024_i32_1252 : BitVec 32 := 1024#32
  let v2072 : BitVec 1 := Scalar.cmpi .sgt v2070 c1024_i32_1252
  let c1536_i32_1251 : BitVec 32 := 1536#32
  let v2071 : BitVec 1 := Scalar.cmpi .sge v2070 c1536_i32_1251
  let true_1253 : BitVec 1 := 1#1
  let v2073 : BitVec 1 := Scalar.xori v2071 true_1253
  let v2074 : BitVec 1 := Scalar.andi v2072 v2073
  let c1152_i32_1257 : BitVec 32 := 1152#32
  let v2081 : BitVec 1 := Scalar.cmpi .sgt v2070 c1152_i32_1257
  let v2082 : BitVec 1 := Scalar.andi v2074 v2081
  let v2083 : BitVec 32 := Scalar.extui v2082
  let c0_i32_1258 : BitVec 32 := 0#32
  let v2084 : BitVec 1 := Scalar.cmpi .ne v2083 c0_i32_1258
  v2084

def k0_off268 (v2068 : BitVec 32) : Fin 2 → Nat :=
  let c1152_i32_1732 : BitVec 32 := 1152#32
  let v2752 : BitVec 32 := Scalar.addi v2068 c1152_i32_1732
  let v2753 : BitVec 32 := v2752
  let c0_i32_1737 : BitVec 32 := 0#32
  ![v2753.toNat, 0]
def k0_mult269 (v2068 : BitVec 32) : BitVec 32 :=
  let c1280_i32_1732 : BitVec 32 := 1280#32
  let v2752 : BitVec 32 := Scalar.addi v2068 c1280_i32_1732
  v2752
def k0_cond335 (v2068 : BitVec 32) (v2069 : BitVec 32) : BitVec 1 :=
  let v2070 : BitVec 32 := Scalar.subi v2069 v2068
  let c1024_i32_1252 : BitVec 32 := 1024#32
  let v2072 : BitVec 1 := Scalar.cmpi .sgt v2070 c1024_i32_1252
  let c1536_i32_1251 : BitVec 32 := 1536#32
  let v2071 : BitVec 1 := Scalar.cmpi .sge v2070 c1536_i32_1251
  let true_1253 : BitVec 1 := 1#1
  let v2073 : BitVec 1 := Scalar.xori v2071 true_1253
  let v2074 : BitVec 1 := Scalar.andi v2072 v2073
  let c1280_i32_1259 : BitVec 32 := 1280#32
  let v2085 : BitVec 1 := Scalar.cmpi .sgt v2070 c1280_i32_1259
  let v2086 : BitVec 1 := Scalar.andi v2074 v2085
  let v2087 : BitVec 32 := Scalar.extui v2086
  let c0_i32_1260 : BitVec 32 := 0#32
  let v2088 : BitVec 1 := Scalar.cmpi .ne v2087 c0_i32_1260
  v2088

def k0_off269 (v2068 : BitVec 32) : Fin 2 → Nat :=
  let c1280_i32_1732 : BitVec 32 := 1280#32
  let v2752 : BitVec 32 := Scalar.addi v2068 c1280_i32_1732
  let v2753 : BitVec 32 := v2752
  let c0_i32_1737 : BitVec 32 := 0#32
  ![v2753.toNat, 0]
def k0_mult270 (v2068 : BitVec 32) : BitVec 32 :=
  let c1408_i32_1732 : BitVec 32 := 1408#32
  let v2752 : BitVec 32 := Scalar.addi v2068 c1408_i32_1732
  v2752
def k0_cond336 (v2068 : BitVec 32) (v2069 : BitVec 32) : BitVec 1 :=
  let v2070 : BitVec 32 := Scalar.subi v2069 v2068
  let c1024_i32_1252 : BitVec 32 := 1024#32
  let v2072 : BitVec 1 := Scalar.cmpi .sgt v2070 c1024_i32_1252
  let c1536_i32_1251 : BitVec 32 := 1536#32
  let v2071 : BitVec 1 := Scalar.cmpi .sge v2070 c1536_i32_1251
  let true_1253 : BitVec 1 := 1#1
  let v2073 : BitVec 1 := Scalar.xori v2071 true_1253
  let v2074 : BitVec 1 := Scalar.andi v2072 v2073
  let c1408_i32_1261 : BitVec 32 := 1408#32
  let v2089 : BitVec 1 := Scalar.cmpi .sgt v2070 c1408_i32_1261
  let v2090 : BitVec 1 := Scalar.andi v2074 v2089
  let v2091 : BitVec 32 := Scalar.extui v2090
  let c0_i32_1262 : BitVec 32 := 0#32
  let v2092 : BitVec 1 := Scalar.cmpi .ne v2091 c0_i32_1262
  v2092

def k0_off270 (v2068 : BitVec 32) : Fin 2 → Nat :=
  let c1408_i32_1732 : BitVec 32 := 1408#32
  let v2752 : BitVec 32 := Scalar.addi v2068 c1408_i32_1732
  let v2753 : BitVec 32 := v2752
  let c0_i32_1737 : BitVec 32 := 0#32
  ![v2753.toNat, 0]

def k0_chk54 (v2068 : BitVec 32) (v2069 : BitVec 32) : Prop :=
  (∀ (k0_h332 : k0_cond332 v2068 v2069 = 1#1), 128 ∣ (k0_mult266 v2068).toNat) ∧
  (∀ (k0_h332 : k0_cond332 v2068 v2069 = 1#1), ∀ a, (k0_off266 v2068) a + S512x1024.size a ≤ S8192x1024.size a) ∧
  (∀ (k0_h333 : k0_cond333 v2068 v2069 = 1#1), 128 ∣ (k0_mult267 v2068).toNat) ∧
  (∀ (k0_h333 : k0_cond333 v2068 v2069 = 1#1), ∀ a, (k0_off267 v2068) a + S128x1024.size a ≤ S8192x1024.size a) ∧
  (∀ (k0_h334 : k0_cond334 v2068 v2069 = 1#1), 128 ∣ (k0_mult268 v2068).toNat) ∧
  (∀ (k0_h334 : k0_cond334 v2068 v2069 = 1#1), ∀ a, (k0_off268 v2068) a + S128x1024.size a ≤ S8192x1024.size a) ∧
  (∀ (k0_h335 : k0_cond335 v2068 v2069 = 1#1), 128 ∣ (k0_mult269 v2068).toNat) ∧
  (∀ (k0_h335 : k0_cond335 v2068 v2069 = 1#1), ∀ a, (k0_off269 v2068) a + S128x1024.size a ≤ S8192x1024.size a) ∧
  (∀ (k0_h336 : k0_cond336 v2068 v2069 = 1#1), 128 ∣ (k0_mult270 v2068).toNat) ∧
  (∀ (k0_h336 : k0_cond336 v2068 v2069 = 1#1), ∀ a, (k0_off270 v2068) a + S128x1024.size a ≤ S8192x1024.size a)
theorem k0_mult266_dvd : ∀ (v2068 : BitVec 32) (v2069 : BitVec 32) (k0_hw54 : k0_chk54 v2068 v2069), ∀ (k0_h332 : k0_cond332 v2068 v2069 = 1#1), 128 ∣ (k0_mult266 v2068).toNat := fun v2068 v2069 k0_hw54 k0_h332 => k0_hw54.1 k0_h332
theorem k0_off266_inb : ∀ (v2068 : BitVec 32) (v2069 : BitVec 32) (k0_hw54 : k0_chk54 v2068 v2069), ∀ (k0_h332 : k0_cond332 v2068 v2069 = 1#1), ∀ a, (k0_off266 v2068) a + S512x1024.size a ≤ S8192x1024.size a := fun v2068 v2069 k0_hw54 k0_h332 => k0_hw54.2.1 k0_h332
theorem k0_mult267_dvd : ∀ (v2068 : BitVec 32) (v2069 : BitVec 32) (k0_hw54 : k0_chk54 v2068 v2069), ∀ (k0_h333 : k0_cond333 v2068 v2069 = 1#1), 128 ∣ (k0_mult267 v2068).toNat := fun v2068 v2069 k0_hw54 k0_h333 => k0_hw54.2.2.1 k0_h333
theorem k0_off267_inb : ∀ (v2068 : BitVec 32) (v2069 : BitVec 32) (k0_hw54 : k0_chk54 v2068 v2069), ∀ (k0_h333 : k0_cond333 v2068 v2069 = 1#1), ∀ a, (k0_off267 v2068) a + S128x1024.size a ≤ S8192x1024.size a := fun v2068 v2069 k0_hw54 k0_h333 => k0_hw54.2.2.2.1 k0_h333
theorem k0_mult268_dvd : ∀ (v2068 : BitVec 32) (v2069 : BitVec 32) (k0_hw54 : k0_chk54 v2068 v2069), ∀ (k0_h334 : k0_cond334 v2068 v2069 = 1#1), 128 ∣ (k0_mult268 v2068).toNat := fun v2068 v2069 k0_hw54 k0_h334 => k0_hw54.2.2.2.2.1 k0_h334
theorem k0_off268_inb : ∀ (v2068 : BitVec 32) (v2069 : BitVec 32) (k0_hw54 : k0_chk54 v2068 v2069), ∀ (k0_h334 : k0_cond334 v2068 v2069 = 1#1), ∀ a, (k0_off268 v2068) a + S128x1024.size a ≤ S8192x1024.size a := fun v2068 v2069 k0_hw54 k0_h334 => k0_hw54.2.2.2.2.2.1 k0_h334
theorem k0_mult269_dvd : ∀ (v2068 : BitVec 32) (v2069 : BitVec 32) (k0_hw54 : k0_chk54 v2068 v2069), ∀ (k0_h335 : k0_cond335 v2068 v2069 = 1#1), 128 ∣ (k0_mult269 v2068).toNat := fun v2068 v2069 k0_hw54 k0_h335 => k0_hw54.2.2.2.2.2.2.1 k0_h335
theorem k0_off269_inb : ∀ (v2068 : BitVec 32) (v2069 : BitVec 32) (k0_hw54 : k0_chk54 v2068 v2069), ∀ (k0_h335 : k0_cond335 v2068 v2069 = 1#1), ∀ a, (k0_off269 v2068) a + S128x1024.size a ≤ S8192x1024.size a := fun v2068 v2069 k0_hw54 k0_h335 => k0_hw54.2.2.2.2.2.2.2.1 k0_h335
theorem k0_mult270_dvd : ∀ (v2068 : BitVec 32) (v2069 : BitVec 32) (k0_hw54 : k0_chk54 v2068 v2069), ∀ (k0_h336 : k0_cond336 v2068 v2069 = 1#1), 128 ∣ (k0_mult270 v2068).toNat := fun v2068 v2069 k0_hw54 k0_h336 => k0_hw54.2.2.2.2.2.2.2.2.1 k0_h336
theorem k0_off270_inb : ∀ (v2068 : BitVec 32) (v2069 : BitVec 32) (k0_hw54 : k0_chk54 v2068 v2069), ∀ (k0_h336 : k0_cond336 v2068 v2069 = 1#1), ∀ a, (k0_off270 v2068) a + S128x1024.size a ≤ S8192x1024.size a := fun v2068 v2069 k0_hw54 k0_h336 => k0_hw54.2.2.2.2.2.2.2.2.2 k0_h336

def k0_mult271 (v2108 : BitVec 32) : BitVec 32 :=
  let c1536_i32_1732 : BitVec 32 := 1536#32
  let v2752 : BitVec 32 := Scalar.addi v2108 c1536_i32_1732
  v2752
def k0_cond340 (v2108 : BitVec 32) (v2109 : BitVec 32) : BitVec 1 :=
  let v2110 : BitVec 32 := Scalar.subi v2109 v2108
  let c2048_i32_1277 : BitVec 32 := 2048#32
  let v2111 : BitVec 1 := Scalar.cmpi .sge v2110 c2048_i32_1277
  let v2115 : BitVec 32 := Scalar.extui v2111
  let c0_i32_1280 : BitVec 32 := 0#32
  let v2116 : BitVec 1 := Scalar.cmpi .ne v2115 c0_i32_1280
  v2116

def k0_off271 (v2108 : BitVec 32) : Fin 2 → Nat :=
  let c1536_i32_1732 : BitVec 32 := 1536#32
  let v2752 : BitVec 32 := Scalar.addi v2108 c1536_i32_1732
  let v2753 : BitVec 32 := v2752
  let c0_i32_1737 : BitVec 32 := 0#32
  ![v2753.toNat, 0]
def k0_mult272 (v2108 : BitVec 32) : BitVec 32 :=
  let c1536_i32_1732 : BitVec 32 := 1536#32
  let v2752 : BitVec 32 := Scalar.addi v2108 c1536_i32_1732
  v2752
def k0_cond341 (v2108 : BitVec 32) (v2109 : BitVec 32) : BitVec 1 :=
  let v2110 : BitVec 32 := Scalar.subi v2109 v2108
  let c1536_i32_1278 : BitVec 32 := 1536#32
  let v2112 : BitVec 1 := Scalar.cmpi .sgt v2110 c1536_i32_1278
  let c2048_i32_1277 : BitVec 32 := 2048#32
  let v2111 : BitVec 1 := Scalar.cmpi .sge v2110 c2048_i32_1277
  let true_1279 : BitVec 1 := 1#1
  let v2113 : BitVec 1 := Scalar.xori v2111 true_1279
  let v2114 : BitVec 1 := Scalar.andi v2112 v2113
  let c1536_i32_1281 : BitVec 32 := 1536#32
  let v2117 : BitVec 1 := Scalar.cmpi .sgt v2110 c1536_i32_1281
  let v2118 : BitVec 1 := Scalar.andi v2114 v2117
  let v2119 : BitVec 32 := Scalar.extui v2118
  let c0_i32_1282 : BitVec 32 := 0#32
  let v2120 : BitVec 1 := Scalar.cmpi .ne v2119 c0_i32_1282
  v2120

def k0_off272 (v2108 : BitVec 32) : Fin 2 → Nat :=
  let c1536_i32_1732 : BitVec 32 := 1536#32
  let v2752 : BitVec 32 := Scalar.addi v2108 c1536_i32_1732
  let v2753 : BitVec 32 := v2752
  let c0_i32_1737 : BitVec 32 := 0#32
  ![v2753.toNat, 0]
def k0_mult273 (v2108 : BitVec 32) : BitVec 32 :=
  let c1664_i32_1732 : BitVec 32 := 1664#32
  let v2752 : BitVec 32 := Scalar.addi v2108 c1664_i32_1732
  v2752
def k0_cond342 (v2108 : BitVec 32) (v2109 : BitVec 32) : BitVec 1 :=
  let v2110 : BitVec 32 := Scalar.subi v2109 v2108
  let c1536_i32_1278 : BitVec 32 := 1536#32
  let v2112 : BitVec 1 := Scalar.cmpi .sgt v2110 c1536_i32_1278
  let c2048_i32_1277 : BitVec 32 := 2048#32
  let v2111 : BitVec 1 := Scalar.cmpi .sge v2110 c2048_i32_1277
  let true_1279 : BitVec 1 := 1#1
  let v2113 : BitVec 1 := Scalar.xori v2111 true_1279
  let v2114 : BitVec 1 := Scalar.andi v2112 v2113
  let c1664_i32_1283 : BitVec 32 := 1664#32
  let v2121 : BitVec 1 := Scalar.cmpi .sgt v2110 c1664_i32_1283
  let v2122 : BitVec 1 := Scalar.andi v2114 v2121
  let v2123 : BitVec 32 := Scalar.extui v2122
  let c0_i32_1284 : BitVec 32 := 0#32
  let v2124 : BitVec 1 := Scalar.cmpi .ne v2123 c0_i32_1284
  v2124

def k0_off273 (v2108 : BitVec 32) : Fin 2 → Nat :=
  let c1664_i32_1732 : BitVec 32 := 1664#32
  let v2752 : BitVec 32 := Scalar.addi v2108 c1664_i32_1732
  let v2753 : BitVec 32 := v2752
  let c0_i32_1737 : BitVec 32 := 0#32
  ![v2753.toNat, 0]
def k0_mult274 (v2108 : BitVec 32) : BitVec 32 :=
  let c1792_i32_1732 : BitVec 32 := 1792#32
  let v2752 : BitVec 32 := Scalar.addi v2108 c1792_i32_1732
  v2752
def k0_cond343 (v2108 : BitVec 32) (v2109 : BitVec 32) : BitVec 1 :=
  let v2110 : BitVec 32 := Scalar.subi v2109 v2108
  let c1536_i32_1278 : BitVec 32 := 1536#32
  let v2112 : BitVec 1 := Scalar.cmpi .sgt v2110 c1536_i32_1278
  let c2048_i32_1277 : BitVec 32 := 2048#32
  let v2111 : BitVec 1 := Scalar.cmpi .sge v2110 c2048_i32_1277
  let true_1279 : BitVec 1 := 1#1
  let v2113 : BitVec 1 := Scalar.xori v2111 true_1279
  let v2114 : BitVec 1 := Scalar.andi v2112 v2113
  let c1792_i32_1285 : BitVec 32 := 1792#32
  let v2125 : BitVec 1 := Scalar.cmpi .sgt v2110 c1792_i32_1285
  let v2126 : BitVec 1 := Scalar.andi v2114 v2125
  let v2127 : BitVec 32 := Scalar.extui v2126
  let c0_i32_1286 : BitVec 32 := 0#32
  let v2128 : BitVec 1 := Scalar.cmpi .ne v2127 c0_i32_1286
  v2128

def k0_off274 (v2108 : BitVec 32) : Fin 2 → Nat :=
  let c1792_i32_1732 : BitVec 32 := 1792#32
  let v2752 : BitVec 32 := Scalar.addi v2108 c1792_i32_1732
  let v2753 : BitVec 32 := v2752
  let c0_i32_1737 : BitVec 32 := 0#32
  ![v2753.toNat, 0]
def k0_mult275 (v2108 : BitVec 32) : BitVec 32 :=
  let c1920_i32_1732 : BitVec 32 := 1920#32
  let v2752 : BitVec 32 := Scalar.addi v2108 c1920_i32_1732
  v2752
def k0_cond344 (v2108 : BitVec 32) (v2109 : BitVec 32) : BitVec 1 :=
  let v2110 : BitVec 32 := Scalar.subi v2109 v2108
  let c1536_i32_1278 : BitVec 32 := 1536#32
  let v2112 : BitVec 1 := Scalar.cmpi .sgt v2110 c1536_i32_1278
  let c2048_i32_1277 : BitVec 32 := 2048#32
  let v2111 : BitVec 1 := Scalar.cmpi .sge v2110 c2048_i32_1277
  let true_1279 : BitVec 1 := 1#1
  let v2113 : BitVec 1 := Scalar.xori v2111 true_1279
  let v2114 : BitVec 1 := Scalar.andi v2112 v2113
  let c1920_i32_1287 : BitVec 32 := 1920#32
  let v2129 : BitVec 1 := Scalar.cmpi .sgt v2110 c1920_i32_1287
  let v2130 : BitVec 1 := Scalar.andi v2114 v2129
  let v2131 : BitVec 32 := Scalar.extui v2130
  let c0_i32_1288 : BitVec 32 := 0#32
  let v2132 : BitVec 1 := Scalar.cmpi .ne v2131 c0_i32_1288
  v2132

def k0_off275 (v2108 : BitVec 32) : Fin 2 → Nat :=
  let c1920_i32_1732 : BitVec 32 := 1920#32
  let v2752 : BitVec 32 := Scalar.addi v2108 c1920_i32_1732
  let v2753 : BitVec 32 := v2752
  let c0_i32_1737 : BitVec 32 := 0#32
  ![v2753.toNat, 0]

def k0_chk55 (v2108 : BitVec 32) (v2109 : BitVec 32) : Prop :=
  (∀ (k0_h340 : k0_cond340 v2108 v2109 = 1#1), 128 ∣ (k0_mult271 v2108).toNat) ∧
  (∀ (k0_h340 : k0_cond340 v2108 v2109 = 1#1), ∀ a, (k0_off271 v2108) a + S512x1024.size a ≤ S8192x1024.size a) ∧
  (∀ (k0_h341 : k0_cond341 v2108 v2109 = 1#1), 128 ∣ (k0_mult272 v2108).toNat) ∧
  (∀ (k0_h341 : k0_cond341 v2108 v2109 = 1#1), ∀ a, (k0_off272 v2108) a + S128x1024.size a ≤ S8192x1024.size a) ∧
  (∀ (k0_h342 : k0_cond342 v2108 v2109 = 1#1), 128 ∣ (k0_mult273 v2108).toNat) ∧
  (∀ (k0_h342 : k0_cond342 v2108 v2109 = 1#1), ∀ a, (k0_off273 v2108) a + S128x1024.size a ≤ S8192x1024.size a) ∧
  (∀ (k0_h343 : k0_cond343 v2108 v2109 = 1#1), 128 ∣ (k0_mult274 v2108).toNat) ∧
  (∀ (k0_h343 : k0_cond343 v2108 v2109 = 1#1), ∀ a, (k0_off274 v2108) a + S128x1024.size a ≤ S8192x1024.size a) ∧
  (∀ (k0_h344 : k0_cond344 v2108 v2109 = 1#1), 128 ∣ (k0_mult275 v2108).toNat) ∧
  (∀ (k0_h344 : k0_cond344 v2108 v2109 = 1#1), ∀ a, (k0_off275 v2108) a + S128x1024.size a ≤ S8192x1024.size a)
theorem k0_mult271_dvd : ∀ (v2108 : BitVec 32) (v2109 : BitVec 32) (k0_hw55 : k0_chk55 v2108 v2109), ∀ (k0_h340 : k0_cond340 v2108 v2109 = 1#1), 128 ∣ (k0_mult271 v2108).toNat := fun v2108 v2109 k0_hw55 k0_h340 => k0_hw55.1 k0_h340
theorem k0_off271_inb : ∀ (v2108 : BitVec 32) (v2109 : BitVec 32) (k0_hw55 : k0_chk55 v2108 v2109), ∀ (k0_h340 : k0_cond340 v2108 v2109 = 1#1), ∀ a, (k0_off271 v2108) a + S512x1024.size a ≤ S8192x1024.size a := fun v2108 v2109 k0_hw55 k0_h340 => k0_hw55.2.1 k0_h340
theorem k0_mult272_dvd : ∀ (v2108 : BitVec 32) (v2109 : BitVec 32) (k0_hw55 : k0_chk55 v2108 v2109), ∀ (k0_h341 : k0_cond341 v2108 v2109 = 1#1), 128 ∣ (k0_mult272 v2108).toNat := fun v2108 v2109 k0_hw55 k0_h341 => k0_hw55.2.2.1 k0_h341
theorem k0_off272_inb : ∀ (v2108 : BitVec 32) (v2109 : BitVec 32) (k0_hw55 : k0_chk55 v2108 v2109), ∀ (k0_h341 : k0_cond341 v2108 v2109 = 1#1), ∀ a, (k0_off272 v2108) a + S128x1024.size a ≤ S8192x1024.size a := fun v2108 v2109 k0_hw55 k0_h341 => k0_hw55.2.2.2.1 k0_h341
theorem k0_mult273_dvd : ∀ (v2108 : BitVec 32) (v2109 : BitVec 32) (k0_hw55 : k0_chk55 v2108 v2109), ∀ (k0_h342 : k0_cond342 v2108 v2109 = 1#1), 128 ∣ (k0_mult273 v2108).toNat := fun v2108 v2109 k0_hw55 k0_h342 => k0_hw55.2.2.2.2.1 k0_h342
theorem k0_off273_inb : ∀ (v2108 : BitVec 32) (v2109 : BitVec 32) (k0_hw55 : k0_chk55 v2108 v2109), ∀ (k0_h342 : k0_cond342 v2108 v2109 = 1#1), ∀ a, (k0_off273 v2108) a + S128x1024.size a ≤ S8192x1024.size a := fun v2108 v2109 k0_hw55 k0_h342 => k0_hw55.2.2.2.2.2.1 k0_h342
theorem k0_mult274_dvd : ∀ (v2108 : BitVec 32) (v2109 : BitVec 32) (k0_hw55 : k0_chk55 v2108 v2109), ∀ (k0_h343 : k0_cond343 v2108 v2109 = 1#1), 128 ∣ (k0_mult274 v2108).toNat := fun v2108 v2109 k0_hw55 k0_h343 => k0_hw55.2.2.2.2.2.2.1 k0_h343
theorem k0_off274_inb : ∀ (v2108 : BitVec 32) (v2109 : BitVec 32) (k0_hw55 : k0_chk55 v2108 v2109), ∀ (k0_h343 : k0_cond343 v2108 v2109 = 1#1), ∀ a, (k0_off274 v2108) a + S128x1024.size a ≤ S8192x1024.size a := fun v2108 v2109 k0_hw55 k0_h343 => k0_hw55.2.2.2.2.2.2.2.1 k0_h343
theorem k0_mult275_dvd : ∀ (v2108 : BitVec 32) (v2109 : BitVec 32) (k0_hw55 : k0_chk55 v2108 v2109), ∀ (k0_h344 : k0_cond344 v2108 v2109 = 1#1), 128 ∣ (k0_mult275 v2108).toNat := fun v2108 v2109 k0_hw55 k0_h344 => k0_hw55.2.2.2.2.2.2.2.2.1 k0_h344
theorem k0_off275_inb : ∀ (v2108 : BitVec 32) (v2109 : BitVec 32) (k0_hw55 : k0_chk55 v2108 v2109), ∀ (k0_h344 : k0_cond344 v2108 v2109 = 1#1), ∀ a, (k0_off275 v2108) a + S128x1024.size a ≤ S8192x1024.size a := fun v2108 v2109 k0_hw55 k0_h344 => k0_hw55.2.2.2.2.2.2.2.2.2 k0_h344

def k0_mult276 (v2154 : BitVec 32) : BitVec 32 :=
  let c1536_i32_1732 : BitVec 32 := 1536#32
  let v2752 : BitVec 32 := Scalar.addi v2154 c1536_i32_1732
  v2752
def k0_cond345 (v2154 : BitVec 32) (v2155 : BitVec 32) : BitVec 1 :=
  let v2156 : BitVec 32 := Scalar.subi v2155 v2154
  let c2048_i32_1306 : BitVec 32 := 2048#32
  let v2157 : BitVec 1 := Scalar.cmpi .sge v2156 c2048_i32_1306
  let v2161 : BitVec 32 := Scalar.extui v2157
  let c0_i32_1309 : BitVec 32 := 0#32
  let v2162 : BitVec 1 := Scalar.cmpi .ne v2161 c0_i32_1309
  v2162

def k0_off276 (v2154 : BitVec 32) : Fin 2 → Nat :=
  let c1536_i32_1732 : BitVec 32 := 1536#32
  let v2752 : BitVec 32 := Scalar.addi v2154 c1536_i32_1732
  let v2753 : BitVec 32 := v2752
  let c0_i32_1737 : BitVec 32 := 0#32
  ![v2753.toNat, 0]
def k0_mult277 (v2154 : BitVec 32) : BitVec 32 :=
  let c1536_i32_1732 : BitVec 32 := 1536#32
  let v2752 : BitVec 32 := Scalar.addi v2154 c1536_i32_1732
  v2752
def k0_cond346 (v2154 : BitVec 32) (v2155 : BitVec 32) : BitVec 1 :=
  let v2156 : BitVec 32 := Scalar.subi v2155 v2154
  let c1536_i32_1307 : BitVec 32 := 1536#32
  let v2158 : BitVec 1 := Scalar.cmpi .sgt v2156 c1536_i32_1307
  let c2048_i32_1306 : BitVec 32 := 2048#32
  let v2157 : BitVec 1 := Scalar.cmpi .sge v2156 c2048_i32_1306
  let true_1308 : BitVec 1 := 1#1
  let v2159 : BitVec 1 := Scalar.xori v2157 true_1308
  let v2160 : BitVec 1 := Scalar.andi v2158 v2159
  let c1536_i32_1310 : BitVec 32 := 1536#32
  let v2163 : BitVec 1 := Scalar.cmpi .sgt v2156 c1536_i32_1310
  let v2164 : BitVec 1 := Scalar.andi v2160 v2163
  let v2165 : BitVec 32 := Scalar.extui v2164
  let c0_i32_1311 : BitVec 32 := 0#32
  let v2166 : BitVec 1 := Scalar.cmpi .ne v2165 c0_i32_1311
  v2166

def k0_off277 (v2154 : BitVec 32) : Fin 2 → Nat :=
  let c1536_i32_1732 : BitVec 32 := 1536#32
  let v2752 : BitVec 32 := Scalar.addi v2154 c1536_i32_1732
  let v2753 : BitVec 32 := v2752
  let c0_i32_1737 : BitVec 32 := 0#32
  ![v2753.toNat, 0]
def k0_mult278 (v2154 : BitVec 32) : BitVec 32 :=
  let c1664_i32_1732 : BitVec 32 := 1664#32
  let v2752 : BitVec 32 := Scalar.addi v2154 c1664_i32_1732
  v2752
def k0_cond347 (v2154 : BitVec 32) (v2155 : BitVec 32) : BitVec 1 :=
  let v2156 : BitVec 32 := Scalar.subi v2155 v2154
  let c1536_i32_1307 : BitVec 32 := 1536#32
  let v2158 : BitVec 1 := Scalar.cmpi .sgt v2156 c1536_i32_1307
  let c2048_i32_1306 : BitVec 32 := 2048#32
  let v2157 : BitVec 1 := Scalar.cmpi .sge v2156 c2048_i32_1306
  let true_1308 : BitVec 1 := 1#1
  let v2159 : BitVec 1 := Scalar.xori v2157 true_1308
  let v2160 : BitVec 1 := Scalar.andi v2158 v2159
  let c1664_i32_1312 : BitVec 32 := 1664#32
  let v2167 : BitVec 1 := Scalar.cmpi .sgt v2156 c1664_i32_1312
  let v2168 : BitVec 1 := Scalar.andi v2160 v2167
  let v2169 : BitVec 32 := Scalar.extui v2168
  let c0_i32_1313 : BitVec 32 := 0#32
  let v2170 : BitVec 1 := Scalar.cmpi .ne v2169 c0_i32_1313
  v2170

def k0_off278 (v2154 : BitVec 32) : Fin 2 → Nat :=
  let c1664_i32_1732 : BitVec 32 := 1664#32
  let v2752 : BitVec 32 := Scalar.addi v2154 c1664_i32_1732
  let v2753 : BitVec 32 := v2752
  let c0_i32_1737 : BitVec 32 := 0#32
  ![v2753.toNat, 0]
def k0_mult279 (v2154 : BitVec 32) : BitVec 32 :=
  let c1792_i32_1732 : BitVec 32 := 1792#32
  let v2752 : BitVec 32 := Scalar.addi v2154 c1792_i32_1732
  v2752
def k0_cond348 (v2154 : BitVec 32) (v2155 : BitVec 32) : BitVec 1 :=
  let v2156 : BitVec 32 := Scalar.subi v2155 v2154
  let c1536_i32_1307 : BitVec 32 := 1536#32
  let v2158 : BitVec 1 := Scalar.cmpi .sgt v2156 c1536_i32_1307
  let c2048_i32_1306 : BitVec 32 := 2048#32
  let v2157 : BitVec 1 := Scalar.cmpi .sge v2156 c2048_i32_1306
  let true_1308 : BitVec 1 := 1#1
  let v2159 : BitVec 1 := Scalar.xori v2157 true_1308
  let v2160 : BitVec 1 := Scalar.andi v2158 v2159
  let c1792_i32_1314 : BitVec 32 := 1792#32
  let v2171 : BitVec 1 := Scalar.cmpi .sgt v2156 c1792_i32_1314
  let v2172 : BitVec 1 := Scalar.andi v2160 v2171
  let v2173 : BitVec 32 := Scalar.extui v2172
  let c0_i32_1315 : BitVec 32 := 0#32
  let v2174 : BitVec 1 := Scalar.cmpi .ne v2173 c0_i32_1315
  v2174

def k0_off279 (v2154 : BitVec 32) : Fin 2 → Nat :=
  let c1792_i32_1732 : BitVec 32 := 1792#32
  let v2752 : BitVec 32 := Scalar.addi v2154 c1792_i32_1732
  let v2753 : BitVec 32 := v2752
  let c0_i32_1737 : BitVec 32 := 0#32
  ![v2753.toNat, 0]
def k0_mult280 (v2154 : BitVec 32) : BitVec 32 :=
  let c1920_i32_1732 : BitVec 32 := 1920#32
  let v2752 : BitVec 32 := Scalar.addi v2154 c1920_i32_1732
  v2752
def k0_cond349 (v2154 : BitVec 32) (v2155 : BitVec 32) : BitVec 1 :=
  let v2156 : BitVec 32 := Scalar.subi v2155 v2154
  let c1536_i32_1307 : BitVec 32 := 1536#32
  let v2158 : BitVec 1 := Scalar.cmpi .sgt v2156 c1536_i32_1307
  let c2048_i32_1306 : BitVec 32 := 2048#32
  let v2157 : BitVec 1 := Scalar.cmpi .sge v2156 c2048_i32_1306
  let true_1308 : BitVec 1 := 1#1
  let v2159 : BitVec 1 := Scalar.xori v2157 true_1308
  let v2160 : BitVec 1 := Scalar.andi v2158 v2159
  let c1920_i32_1316 : BitVec 32 := 1920#32
  let v2175 : BitVec 1 := Scalar.cmpi .sgt v2156 c1920_i32_1316
  let v2176 : BitVec 1 := Scalar.andi v2160 v2175
  let v2177 : BitVec 32 := Scalar.extui v2176
  let c0_i32_1317 : BitVec 32 := 0#32
  let v2178 : BitVec 1 := Scalar.cmpi .ne v2177 c0_i32_1317
  v2178

def k0_off280 (v2154 : BitVec 32) : Fin 2 → Nat :=
  let c1920_i32_1732 : BitVec 32 := 1920#32
  let v2752 : BitVec 32 := Scalar.addi v2154 c1920_i32_1732
  let v2753 : BitVec 32 := v2752
  let c0_i32_1737 : BitVec 32 := 0#32
  ![v2753.toNat, 0]

def k0_chk56 (v2154 : BitVec 32) (v2155 : BitVec 32) : Prop :=
  (∀ (k0_h345 : k0_cond345 v2154 v2155 = 1#1), 128 ∣ (k0_mult276 v2154).toNat) ∧
  (∀ (k0_h345 : k0_cond345 v2154 v2155 = 1#1), ∀ a, (k0_off276 v2154) a + S512x1024.size a ≤ S8192x1024.size a) ∧
  (∀ (k0_h346 : k0_cond346 v2154 v2155 = 1#1), 128 ∣ (k0_mult277 v2154).toNat) ∧
  (∀ (k0_h346 : k0_cond346 v2154 v2155 = 1#1), ∀ a, (k0_off277 v2154) a + S128x1024.size a ≤ S8192x1024.size a) ∧
  (∀ (k0_h347 : k0_cond347 v2154 v2155 = 1#1), 128 ∣ (k0_mult278 v2154).toNat) ∧
  (∀ (k0_h347 : k0_cond347 v2154 v2155 = 1#1), ∀ a, (k0_off278 v2154) a + S128x1024.size a ≤ S8192x1024.size a) ∧
  (∀ (k0_h348 : k0_cond348 v2154 v2155 = 1#1), 128 ∣ (k0_mult279 v2154).toNat) ∧
  (∀ (k0_h348 : k0_cond348 v2154 v2155 = 1#1), ∀ a, (k0_off279 v2154) a + S128x1024.size a ≤ S8192x1024.size a) ∧
  (∀ (k0_h349 : k0_cond349 v2154 v2155 = 1#1), 128 ∣ (k0_mult280 v2154).toNat) ∧
  (∀ (k0_h349 : k0_cond349 v2154 v2155 = 1#1), ∀ a, (k0_off280 v2154) a + S128x1024.size a ≤ S8192x1024.size a)
theorem k0_mult276_dvd : ∀ (v2154 : BitVec 32) (v2155 : BitVec 32) (k0_hw56 : k0_chk56 v2154 v2155), ∀ (k0_h345 : k0_cond345 v2154 v2155 = 1#1), 128 ∣ (k0_mult276 v2154).toNat := fun v2154 v2155 k0_hw56 k0_h345 => k0_hw56.1 k0_h345
theorem k0_off276_inb : ∀ (v2154 : BitVec 32) (v2155 : BitVec 32) (k0_hw56 : k0_chk56 v2154 v2155), ∀ (k0_h345 : k0_cond345 v2154 v2155 = 1#1), ∀ a, (k0_off276 v2154) a + S512x1024.size a ≤ S8192x1024.size a := fun v2154 v2155 k0_hw56 k0_h345 => k0_hw56.2.1 k0_h345
theorem k0_mult277_dvd : ∀ (v2154 : BitVec 32) (v2155 : BitVec 32) (k0_hw56 : k0_chk56 v2154 v2155), ∀ (k0_h346 : k0_cond346 v2154 v2155 = 1#1), 128 ∣ (k0_mult277 v2154).toNat := fun v2154 v2155 k0_hw56 k0_h346 => k0_hw56.2.2.1 k0_h346
theorem k0_off277_inb : ∀ (v2154 : BitVec 32) (v2155 : BitVec 32) (k0_hw56 : k0_chk56 v2154 v2155), ∀ (k0_h346 : k0_cond346 v2154 v2155 = 1#1), ∀ a, (k0_off277 v2154) a + S128x1024.size a ≤ S8192x1024.size a := fun v2154 v2155 k0_hw56 k0_h346 => k0_hw56.2.2.2.1 k0_h346
theorem k0_mult278_dvd : ∀ (v2154 : BitVec 32) (v2155 : BitVec 32) (k0_hw56 : k0_chk56 v2154 v2155), ∀ (k0_h347 : k0_cond347 v2154 v2155 = 1#1), 128 ∣ (k0_mult278 v2154).toNat := fun v2154 v2155 k0_hw56 k0_h347 => k0_hw56.2.2.2.2.1 k0_h347
theorem k0_off278_inb : ∀ (v2154 : BitVec 32) (v2155 : BitVec 32) (k0_hw56 : k0_chk56 v2154 v2155), ∀ (k0_h347 : k0_cond347 v2154 v2155 = 1#1), ∀ a, (k0_off278 v2154) a + S128x1024.size a ≤ S8192x1024.size a := fun v2154 v2155 k0_hw56 k0_h347 => k0_hw56.2.2.2.2.2.1 k0_h347
theorem k0_mult279_dvd : ∀ (v2154 : BitVec 32) (v2155 : BitVec 32) (k0_hw56 : k0_chk56 v2154 v2155), ∀ (k0_h348 : k0_cond348 v2154 v2155 = 1#1), 128 ∣ (k0_mult279 v2154).toNat := fun v2154 v2155 k0_hw56 k0_h348 => k0_hw56.2.2.2.2.2.2.1 k0_h348
theorem k0_off279_inb : ∀ (v2154 : BitVec 32) (v2155 : BitVec 32) (k0_hw56 : k0_chk56 v2154 v2155), ∀ (k0_h348 : k0_cond348 v2154 v2155 = 1#1), ∀ a, (k0_off279 v2154) a + S128x1024.size a ≤ S8192x1024.size a := fun v2154 v2155 k0_hw56 k0_h348 => k0_hw56.2.2.2.2.2.2.2.1 k0_h348
theorem k0_mult280_dvd : ∀ (v2154 : BitVec 32) (v2155 : BitVec 32) (k0_hw56 : k0_chk56 v2154 v2155), ∀ (k0_h349 : k0_cond349 v2154 v2155 = 1#1), 128 ∣ (k0_mult280 v2154).toNat := fun v2154 v2155 k0_hw56 k0_h349 => k0_hw56.2.2.2.2.2.2.2.2.1 k0_h349
theorem k0_off280_inb : ∀ (v2154 : BitVec 32) (v2155 : BitVec 32) (k0_hw56 : k0_chk56 v2154 v2155), ∀ (k0_h349 : k0_cond349 v2154 v2155 = 1#1), ∀ a, (k0_off280 v2154) a + S128x1024.size a ≤ S8192x1024.size a := fun v2154 v2155 k0_hw56 k0_h349 => k0_hw56.2.2.2.2.2.2.2.2.2 k0_h349

def k0_mult281 (v2215 : BitVec 32) : BitVec 32 :=
  let c0_i32_1732 : BitVec 32 := 0#32
  let v2752 : BitVec 32 := Scalar.addi v2215 c0_i32_1732
  v2752
def k0_cond353 (v2215 : BitVec 32) (v2216 : BitVec 32) : BitVec 1 :=
  let v2217 : BitVec 32 := Scalar.subi v2216 v2215
  let c512_i32_1347 : BitVec 32 := 512#32
  let v2218 : BitVec 1 := Scalar.cmpi .sge v2217 c512_i32_1347
  let v2222 : BitVec 32 := Scalar.extui v2218
  let c0_i32_1350 : BitVec 32 := 0#32
  let v2223 : BitVec 1 := Scalar.cmpi .ne v2222 c0_i32_1350
  v2223

def k0_off281 (v2215 : BitVec 32) : Fin 2 → Nat :=
  let c0_i32_1732 : BitVec 32 := 0#32
  let v2752 : BitVec 32 := Scalar.addi v2215 c0_i32_1732
  let v2753 : BitVec 32 := v2752
  let c0_i32_1737 : BitVec 32 := 0#32
  ![v2753.toNat, 0]
def k0_mult282 (v2215 : BitVec 32) : BitVec 32 :=
  let c0_i32_1732 : BitVec 32 := 0#32
  let v2752 : BitVec 32 := Scalar.addi v2215 c0_i32_1732
  v2752
def k0_cond354 (v2215 : BitVec 32) (v2216 : BitVec 32) : BitVec 1 :=
  let v2217 : BitVec 32 := Scalar.subi v2216 v2215
  let c0_i32_1348 : BitVec 32 := 0#32
  let v2219 : BitVec 1 := Scalar.cmpi .sgt v2217 c0_i32_1348
  let c512_i32_1347 : BitVec 32 := 512#32
  let v2218 : BitVec 1 := Scalar.cmpi .sge v2217 c512_i32_1347
  let true_1349 : BitVec 1 := 1#1
  let v2220 : BitVec 1 := Scalar.xori v2218 true_1349
  let v2221 : BitVec 1 := Scalar.andi v2219 v2220
  let c0_i32_1351 : BitVec 32 := 0#32
  let v2224 : BitVec 1 := Scalar.cmpi .sgt v2217 c0_i32_1351
  let v2225 : BitVec 1 := Scalar.andi v2221 v2224
  let v2226 : BitVec 32 := Scalar.extui v2225
  let c0_i32_1352 : BitVec 32 := 0#32
  let v2227 : BitVec 1 := Scalar.cmpi .ne v2226 c0_i32_1352
  v2227

def k0_off282 (v2215 : BitVec 32) : Fin 2 → Nat :=
  let c0_i32_1732 : BitVec 32 := 0#32
  let v2752 : BitVec 32 := Scalar.addi v2215 c0_i32_1732
  let v2753 : BitVec 32 := v2752
  let c0_i32_1737 : BitVec 32 := 0#32
  ![v2753.toNat, 0]
def k0_mult283 (v2215 : BitVec 32) : BitVec 32 :=
  let c128_i32_1732 : BitVec 32 := 128#32
  let v2752 : BitVec 32 := Scalar.addi v2215 c128_i32_1732
  v2752
def k0_cond355 (v2215 : BitVec 32) (v2216 : BitVec 32) : BitVec 1 :=
  let v2217 : BitVec 32 := Scalar.subi v2216 v2215
  let c0_i32_1348 : BitVec 32 := 0#32
  let v2219 : BitVec 1 := Scalar.cmpi .sgt v2217 c0_i32_1348
  let c512_i32_1347 : BitVec 32 := 512#32
  let v2218 : BitVec 1 := Scalar.cmpi .sge v2217 c512_i32_1347
  let true_1349 : BitVec 1 := 1#1
  let v2220 : BitVec 1 := Scalar.xori v2218 true_1349
  let v2221 : BitVec 1 := Scalar.andi v2219 v2220
  let c128_i32_1353 : BitVec 32 := 128#32
  let v2228 : BitVec 1 := Scalar.cmpi .sgt v2217 c128_i32_1353
  let v2229 : BitVec 1 := Scalar.andi v2221 v2228
  let v2230 : BitVec 32 := Scalar.extui v2229
  let c0_i32_1354 : BitVec 32 := 0#32
  let v2231 : BitVec 1 := Scalar.cmpi .ne v2230 c0_i32_1354
  v2231

def k0_off283 (v2215 : BitVec 32) : Fin 2 → Nat :=
  let c128_i32_1732 : BitVec 32 := 128#32
  let v2752 : BitVec 32 := Scalar.addi v2215 c128_i32_1732
  let v2753 : BitVec 32 := v2752
  let c0_i32_1737 : BitVec 32 := 0#32
  ![v2753.toNat, 0]
def k0_mult284 (v2215 : BitVec 32) : BitVec 32 :=
  let c256_i32_1732 : BitVec 32 := 256#32
  let v2752 : BitVec 32 := Scalar.addi v2215 c256_i32_1732
  v2752
def k0_cond356 (v2215 : BitVec 32) (v2216 : BitVec 32) : BitVec 1 :=
  let v2217 : BitVec 32 := Scalar.subi v2216 v2215
  let c0_i32_1348 : BitVec 32 := 0#32
  let v2219 : BitVec 1 := Scalar.cmpi .sgt v2217 c0_i32_1348
  let c512_i32_1347 : BitVec 32 := 512#32
  let v2218 : BitVec 1 := Scalar.cmpi .sge v2217 c512_i32_1347
  let true_1349 : BitVec 1 := 1#1
  let v2220 : BitVec 1 := Scalar.xori v2218 true_1349
  let v2221 : BitVec 1 := Scalar.andi v2219 v2220
  let c256_i32_1355 : BitVec 32 := 256#32
  let v2232 : BitVec 1 := Scalar.cmpi .sgt v2217 c256_i32_1355
  let v2233 : BitVec 1 := Scalar.andi v2221 v2232
  let v2234 : BitVec 32 := Scalar.extui v2233
  let c0_i32_1356 : BitVec 32 := 0#32
  let v2235 : BitVec 1 := Scalar.cmpi .ne v2234 c0_i32_1356
  v2235

def k0_off284 (v2215 : BitVec 32) : Fin 2 → Nat :=
  let c256_i32_1732 : BitVec 32 := 256#32
  let v2752 : BitVec 32 := Scalar.addi v2215 c256_i32_1732
  let v2753 : BitVec 32 := v2752
  let c0_i32_1737 : BitVec 32 := 0#32
  ![v2753.toNat, 0]
def k0_mult285 (v2215 : BitVec 32) : BitVec 32 :=
  let c384_i32_1732 : BitVec 32 := 384#32
  let v2752 : BitVec 32 := Scalar.addi v2215 c384_i32_1732
  v2752
def k0_cond357 (v2215 : BitVec 32) (v2216 : BitVec 32) : BitVec 1 :=
  let v2217 : BitVec 32 := Scalar.subi v2216 v2215
  let c0_i32_1348 : BitVec 32 := 0#32
  let v2219 : BitVec 1 := Scalar.cmpi .sgt v2217 c0_i32_1348
  let c512_i32_1347 : BitVec 32 := 512#32
  let v2218 : BitVec 1 := Scalar.cmpi .sge v2217 c512_i32_1347
  let true_1349 : BitVec 1 := 1#1
  let v2220 : BitVec 1 := Scalar.xori v2218 true_1349
  let v2221 : BitVec 1 := Scalar.andi v2219 v2220
  let c384_i32_1357 : BitVec 32 := 384#32
  let v2236 : BitVec 1 := Scalar.cmpi .sgt v2217 c384_i32_1357
  let v2237 : BitVec 1 := Scalar.andi v2221 v2236
  let v2238 : BitVec 32 := Scalar.extui v2237
  let c0_i32_1358 : BitVec 32 := 0#32
  let v2239 : BitVec 1 := Scalar.cmpi .ne v2238 c0_i32_1358
  v2239

def k0_off285 (v2215 : BitVec 32) : Fin 2 → Nat :=
  let c384_i32_1732 : BitVec 32 := 384#32
  let v2752 : BitVec 32 := Scalar.addi v2215 c384_i32_1732
  let v2753 : BitVec 32 := v2752
  let c0_i32_1737 : BitVec 32 := 0#32
  ![v2753.toNat, 0]

def k0_chk57 (v2215 : BitVec 32) (v2216 : BitVec 32) : Prop :=
  (∀ (k0_h353 : k0_cond353 v2215 v2216 = 1#1), 128 ∣ (k0_mult281 v2215).toNat) ∧
  (∀ (k0_h353 : k0_cond353 v2215 v2216 = 1#1), ∀ a, (k0_off281 v2215) a + S512x1024.size a ≤ S8192x1024.size a) ∧
  (∀ (k0_h354 : k0_cond354 v2215 v2216 = 1#1), 128 ∣ (k0_mult282 v2215).toNat) ∧
  (∀ (k0_h354 : k0_cond354 v2215 v2216 = 1#1), ∀ a, (k0_off282 v2215) a + S128x1024.size a ≤ S8192x1024.size a) ∧
  (∀ (k0_h355 : k0_cond355 v2215 v2216 = 1#1), 128 ∣ (k0_mult283 v2215).toNat) ∧
  (∀ (k0_h355 : k0_cond355 v2215 v2216 = 1#1), ∀ a, (k0_off283 v2215) a + S128x1024.size a ≤ S8192x1024.size a) ∧
  (∀ (k0_h356 : k0_cond356 v2215 v2216 = 1#1), 128 ∣ (k0_mult284 v2215).toNat) ∧
  (∀ (k0_h356 : k0_cond356 v2215 v2216 = 1#1), ∀ a, (k0_off284 v2215) a + S128x1024.size a ≤ S8192x1024.size a) ∧
  (∀ (k0_h357 : k0_cond357 v2215 v2216 = 1#1), 128 ∣ (k0_mult285 v2215).toNat) ∧
  (∀ (k0_h357 : k0_cond357 v2215 v2216 = 1#1), ∀ a, (k0_off285 v2215) a + S128x1024.size a ≤ S8192x1024.size a)
theorem k0_mult281_dvd : ∀ (v2215 : BitVec 32) (v2216 : BitVec 32) (k0_hw57 : k0_chk57 v2215 v2216), ∀ (k0_h353 : k0_cond353 v2215 v2216 = 1#1), 128 ∣ (k0_mult281 v2215).toNat := fun v2215 v2216 k0_hw57 k0_h353 => k0_hw57.1 k0_h353
theorem k0_off281_inb : ∀ (v2215 : BitVec 32) (v2216 : BitVec 32) (k0_hw57 : k0_chk57 v2215 v2216), ∀ (k0_h353 : k0_cond353 v2215 v2216 = 1#1), ∀ a, (k0_off281 v2215) a + S512x1024.size a ≤ S8192x1024.size a := fun v2215 v2216 k0_hw57 k0_h353 => k0_hw57.2.1 k0_h353
theorem k0_mult282_dvd : ∀ (v2215 : BitVec 32) (v2216 : BitVec 32) (k0_hw57 : k0_chk57 v2215 v2216), ∀ (k0_h354 : k0_cond354 v2215 v2216 = 1#1), 128 ∣ (k0_mult282 v2215).toNat := fun v2215 v2216 k0_hw57 k0_h354 => k0_hw57.2.2.1 k0_h354
theorem k0_off282_inb : ∀ (v2215 : BitVec 32) (v2216 : BitVec 32) (k0_hw57 : k0_chk57 v2215 v2216), ∀ (k0_h354 : k0_cond354 v2215 v2216 = 1#1), ∀ a, (k0_off282 v2215) a + S128x1024.size a ≤ S8192x1024.size a := fun v2215 v2216 k0_hw57 k0_h354 => k0_hw57.2.2.2.1 k0_h354
theorem k0_mult283_dvd : ∀ (v2215 : BitVec 32) (v2216 : BitVec 32) (k0_hw57 : k0_chk57 v2215 v2216), ∀ (k0_h355 : k0_cond355 v2215 v2216 = 1#1), 128 ∣ (k0_mult283 v2215).toNat := fun v2215 v2216 k0_hw57 k0_h355 => k0_hw57.2.2.2.2.1 k0_h355
theorem k0_off283_inb : ∀ (v2215 : BitVec 32) (v2216 : BitVec 32) (k0_hw57 : k0_chk57 v2215 v2216), ∀ (k0_h355 : k0_cond355 v2215 v2216 = 1#1), ∀ a, (k0_off283 v2215) a + S128x1024.size a ≤ S8192x1024.size a := fun v2215 v2216 k0_hw57 k0_h355 => k0_hw57.2.2.2.2.2.1 k0_h355
theorem k0_mult284_dvd : ∀ (v2215 : BitVec 32) (v2216 : BitVec 32) (k0_hw57 : k0_chk57 v2215 v2216), ∀ (k0_h356 : k0_cond356 v2215 v2216 = 1#1), 128 ∣ (k0_mult284 v2215).toNat := fun v2215 v2216 k0_hw57 k0_h356 => k0_hw57.2.2.2.2.2.2.1 k0_h356
theorem k0_off284_inb : ∀ (v2215 : BitVec 32) (v2216 : BitVec 32) (k0_hw57 : k0_chk57 v2215 v2216), ∀ (k0_h356 : k0_cond356 v2215 v2216 = 1#1), ∀ a, (k0_off284 v2215) a + S128x1024.size a ≤ S8192x1024.size a := fun v2215 v2216 k0_hw57 k0_h356 => k0_hw57.2.2.2.2.2.2.2.1 k0_h356
theorem k0_mult285_dvd : ∀ (v2215 : BitVec 32) (v2216 : BitVec 32) (k0_hw57 : k0_chk57 v2215 v2216), ∀ (k0_h357 : k0_cond357 v2215 v2216 = 1#1), 128 ∣ (k0_mult285 v2215).toNat := fun v2215 v2216 k0_hw57 k0_h357 => k0_hw57.2.2.2.2.2.2.2.2.1 k0_h357
theorem k0_off285_inb : ∀ (v2215 : BitVec 32) (v2216 : BitVec 32) (k0_hw57 : k0_chk57 v2215 v2216), ∀ (k0_h357 : k0_cond357 v2215 v2216 = 1#1), ∀ a, (k0_off285 v2215) a + S128x1024.size a ≤ S8192x1024.size a := fun v2215 v2216 k0_hw57 k0_h357 => k0_hw57.2.2.2.2.2.2.2.2.2 k0_h357

def k0_mult286 (v2276 : BitVec 32) : BitVec 32 :=
  let c512_i32_1732 : BitVec 32 := 512#32
  let v2752 : BitVec 32 := Scalar.addi v2276 c512_i32_1732
  v2752
def k0_cond361 (v2276 : BitVec 32) (v2277 : BitVec 32) : BitVec 1 :=
  let v2278 : BitVec 32 := Scalar.subi v2277 v2276
  let c1024_i32_1388 : BitVec 32 := 1024#32
  let v2279 : BitVec 1 := Scalar.cmpi .sge v2278 c1024_i32_1388
  let v2283 : BitVec 32 := Scalar.extui v2279
  let c0_i32_1391 : BitVec 32 := 0#32
  let v2284 : BitVec 1 := Scalar.cmpi .ne v2283 c0_i32_1391
  v2284

def k0_off286 (v2276 : BitVec 32) : Fin 2 → Nat :=
  let c512_i32_1732 : BitVec 32 := 512#32
  let v2752 : BitVec 32 := Scalar.addi v2276 c512_i32_1732
  let v2753 : BitVec 32 := v2752
  let c0_i32_1737 : BitVec 32 := 0#32
  ![v2753.toNat, 0]
def k0_mult287 (v2276 : BitVec 32) : BitVec 32 :=
  let c512_i32_1732 : BitVec 32 := 512#32
  let v2752 : BitVec 32 := Scalar.addi v2276 c512_i32_1732
  v2752
def k0_cond362 (v2276 : BitVec 32) (v2277 : BitVec 32) : BitVec 1 :=
  let v2278 : BitVec 32 := Scalar.subi v2277 v2276
  let c512_i32_1389 : BitVec 32 := 512#32
  let v2280 : BitVec 1 := Scalar.cmpi .sgt v2278 c512_i32_1389
  let c1024_i32_1388 : BitVec 32 := 1024#32
  let v2279 : BitVec 1 := Scalar.cmpi .sge v2278 c1024_i32_1388
  let true_1390 : BitVec 1 := 1#1
  let v2281 : BitVec 1 := Scalar.xori v2279 true_1390
  let v2282 : BitVec 1 := Scalar.andi v2280 v2281
  let c512_i32_1392 : BitVec 32 := 512#32
  let v2285 : BitVec 1 := Scalar.cmpi .sgt v2278 c512_i32_1392
  let v2286 : BitVec 1 := Scalar.andi v2282 v2285
  let v2287 : BitVec 32 := Scalar.extui v2286
  let c0_i32_1393 : BitVec 32 := 0#32
  let v2288 : BitVec 1 := Scalar.cmpi .ne v2287 c0_i32_1393
  v2288

def k0_off287 (v2276 : BitVec 32) : Fin 2 → Nat :=
  let c512_i32_1732 : BitVec 32 := 512#32
  let v2752 : BitVec 32 := Scalar.addi v2276 c512_i32_1732
  let v2753 : BitVec 32 := v2752
  let c0_i32_1737 : BitVec 32 := 0#32
  ![v2753.toNat, 0]
def k0_mult288 (v2276 : BitVec 32) : BitVec 32 :=
  let c640_i32_1732 : BitVec 32 := 640#32
  let v2752 : BitVec 32 := Scalar.addi v2276 c640_i32_1732
  v2752
def k0_cond363 (v2276 : BitVec 32) (v2277 : BitVec 32) : BitVec 1 :=
  let v2278 : BitVec 32 := Scalar.subi v2277 v2276
  let c512_i32_1389 : BitVec 32 := 512#32
  let v2280 : BitVec 1 := Scalar.cmpi .sgt v2278 c512_i32_1389
  let c1024_i32_1388 : BitVec 32 := 1024#32
  let v2279 : BitVec 1 := Scalar.cmpi .sge v2278 c1024_i32_1388
  let true_1390 : BitVec 1 := 1#1
  let v2281 : BitVec 1 := Scalar.xori v2279 true_1390
  let v2282 : BitVec 1 := Scalar.andi v2280 v2281
  let c640_i32_1394 : BitVec 32 := 640#32
  let v2289 : BitVec 1 := Scalar.cmpi .sgt v2278 c640_i32_1394
  let v2290 : BitVec 1 := Scalar.andi v2282 v2289
  let v2291 : BitVec 32 := Scalar.extui v2290
  let c0_i32_1395 : BitVec 32 := 0#32
  let v2292 : BitVec 1 := Scalar.cmpi .ne v2291 c0_i32_1395
  v2292

def k0_off288 (v2276 : BitVec 32) : Fin 2 → Nat :=
  let c640_i32_1732 : BitVec 32 := 640#32
  let v2752 : BitVec 32 := Scalar.addi v2276 c640_i32_1732
  let v2753 : BitVec 32 := v2752
  let c0_i32_1737 : BitVec 32 := 0#32
  ![v2753.toNat, 0]
def k0_mult289 (v2276 : BitVec 32) : BitVec 32 :=
  let c768_i32_1732 : BitVec 32 := 768#32
  let v2752 : BitVec 32 := Scalar.addi v2276 c768_i32_1732
  v2752
def k0_cond364 (v2276 : BitVec 32) (v2277 : BitVec 32) : BitVec 1 :=
  let v2278 : BitVec 32 := Scalar.subi v2277 v2276
  let c512_i32_1389 : BitVec 32 := 512#32
  let v2280 : BitVec 1 := Scalar.cmpi .sgt v2278 c512_i32_1389
  let c1024_i32_1388 : BitVec 32 := 1024#32
  let v2279 : BitVec 1 := Scalar.cmpi .sge v2278 c1024_i32_1388
  let true_1390 : BitVec 1 := 1#1
  let v2281 : BitVec 1 := Scalar.xori v2279 true_1390
  let v2282 : BitVec 1 := Scalar.andi v2280 v2281
  let c768_i32_1396 : BitVec 32 := 768#32
  let v2293 : BitVec 1 := Scalar.cmpi .sgt v2278 c768_i32_1396
  let v2294 : BitVec 1 := Scalar.andi v2282 v2293
  let v2295 : BitVec 32 := Scalar.extui v2294
  let c0_i32_1397 : BitVec 32 := 0#32
  let v2296 : BitVec 1 := Scalar.cmpi .ne v2295 c0_i32_1397
  v2296

def k0_off289 (v2276 : BitVec 32) : Fin 2 → Nat :=
  let c768_i32_1732 : BitVec 32 := 768#32
  let v2752 : BitVec 32 := Scalar.addi v2276 c768_i32_1732
  let v2753 : BitVec 32 := v2752
  let c0_i32_1737 : BitVec 32 := 0#32
  ![v2753.toNat, 0]
def k0_mult290 (v2276 : BitVec 32) : BitVec 32 :=
  let c896_i32_1732 : BitVec 32 := 896#32
  let v2752 : BitVec 32 := Scalar.addi v2276 c896_i32_1732
  v2752
def k0_cond365 (v2276 : BitVec 32) (v2277 : BitVec 32) : BitVec 1 :=
  let v2278 : BitVec 32 := Scalar.subi v2277 v2276
  let c512_i32_1389 : BitVec 32 := 512#32
  let v2280 : BitVec 1 := Scalar.cmpi .sgt v2278 c512_i32_1389
  let c1024_i32_1388 : BitVec 32 := 1024#32
  let v2279 : BitVec 1 := Scalar.cmpi .sge v2278 c1024_i32_1388
  let true_1390 : BitVec 1 := 1#1
  let v2281 : BitVec 1 := Scalar.xori v2279 true_1390
  let v2282 : BitVec 1 := Scalar.andi v2280 v2281
  let c896_i32_1398 : BitVec 32 := 896#32
  let v2297 : BitVec 1 := Scalar.cmpi .sgt v2278 c896_i32_1398
  let v2298 : BitVec 1 := Scalar.andi v2282 v2297
  let v2299 : BitVec 32 := Scalar.extui v2298
  let c0_i32_1399 : BitVec 32 := 0#32
  let v2300 : BitVec 1 := Scalar.cmpi .ne v2299 c0_i32_1399
  v2300

def k0_off290 (v2276 : BitVec 32) : Fin 2 → Nat :=
  let c896_i32_1732 : BitVec 32 := 896#32
  let v2752 : BitVec 32 := Scalar.addi v2276 c896_i32_1732
  let v2753 : BitVec 32 := v2752
  let c0_i32_1737 : BitVec 32 := 0#32
  ![v2753.toNat, 0]

def k0_chk58 (v2276 : BitVec 32) (v2277 : BitVec 32) : Prop :=
  (∀ (k0_h361 : k0_cond361 v2276 v2277 = 1#1), 128 ∣ (k0_mult286 v2276).toNat) ∧
  (∀ (k0_h361 : k0_cond361 v2276 v2277 = 1#1), ∀ a, (k0_off286 v2276) a + S512x1024.size a ≤ S8192x1024.size a) ∧
  (∀ (k0_h362 : k0_cond362 v2276 v2277 = 1#1), 128 ∣ (k0_mult287 v2276).toNat) ∧
  (∀ (k0_h362 : k0_cond362 v2276 v2277 = 1#1), ∀ a, (k0_off287 v2276) a + S128x1024.size a ≤ S8192x1024.size a) ∧
  (∀ (k0_h363 : k0_cond363 v2276 v2277 = 1#1), 128 ∣ (k0_mult288 v2276).toNat) ∧
  (∀ (k0_h363 : k0_cond363 v2276 v2277 = 1#1), ∀ a, (k0_off288 v2276) a + S128x1024.size a ≤ S8192x1024.size a) ∧
  (∀ (k0_h364 : k0_cond364 v2276 v2277 = 1#1), 128 ∣ (k0_mult289 v2276).toNat) ∧
  (∀ (k0_h364 : k0_cond364 v2276 v2277 = 1#1), ∀ a, (k0_off289 v2276) a + S128x1024.size a ≤ S8192x1024.size a) ∧
  (∀ (k0_h365 : k0_cond365 v2276 v2277 = 1#1), 128 ∣ (k0_mult290 v2276).toNat) ∧
  (∀ (k0_h365 : k0_cond365 v2276 v2277 = 1#1), ∀ a, (k0_off290 v2276) a + S128x1024.size a ≤ S8192x1024.size a)
theorem k0_mult286_dvd : ∀ (v2276 : BitVec 32) (v2277 : BitVec 32) (k0_hw58 : k0_chk58 v2276 v2277), ∀ (k0_h361 : k0_cond361 v2276 v2277 = 1#1), 128 ∣ (k0_mult286 v2276).toNat := fun v2276 v2277 k0_hw58 k0_h361 => k0_hw58.1 k0_h361
theorem k0_off286_inb : ∀ (v2276 : BitVec 32) (v2277 : BitVec 32) (k0_hw58 : k0_chk58 v2276 v2277), ∀ (k0_h361 : k0_cond361 v2276 v2277 = 1#1), ∀ a, (k0_off286 v2276) a + S512x1024.size a ≤ S8192x1024.size a := fun v2276 v2277 k0_hw58 k0_h361 => k0_hw58.2.1 k0_h361
theorem k0_mult287_dvd : ∀ (v2276 : BitVec 32) (v2277 : BitVec 32) (k0_hw58 : k0_chk58 v2276 v2277), ∀ (k0_h362 : k0_cond362 v2276 v2277 = 1#1), 128 ∣ (k0_mult287 v2276).toNat := fun v2276 v2277 k0_hw58 k0_h362 => k0_hw58.2.2.1 k0_h362
theorem k0_off287_inb : ∀ (v2276 : BitVec 32) (v2277 : BitVec 32) (k0_hw58 : k0_chk58 v2276 v2277), ∀ (k0_h362 : k0_cond362 v2276 v2277 = 1#1), ∀ a, (k0_off287 v2276) a + S128x1024.size a ≤ S8192x1024.size a := fun v2276 v2277 k0_hw58 k0_h362 => k0_hw58.2.2.2.1 k0_h362
theorem k0_mult288_dvd : ∀ (v2276 : BitVec 32) (v2277 : BitVec 32) (k0_hw58 : k0_chk58 v2276 v2277), ∀ (k0_h363 : k0_cond363 v2276 v2277 = 1#1), 128 ∣ (k0_mult288 v2276).toNat := fun v2276 v2277 k0_hw58 k0_h363 => k0_hw58.2.2.2.2.1 k0_h363
theorem k0_off288_inb : ∀ (v2276 : BitVec 32) (v2277 : BitVec 32) (k0_hw58 : k0_chk58 v2276 v2277), ∀ (k0_h363 : k0_cond363 v2276 v2277 = 1#1), ∀ a, (k0_off288 v2276) a + S128x1024.size a ≤ S8192x1024.size a := fun v2276 v2277 k0_hw58 k0_h363 => k0_hw58.2.2.2.2.2.1 k0_h363
theorem k0_mult289_dvd : ∀ (v2276 : BitVec 32) (v2277 : BitVec 32) (k0_hw58 : k0_chk58 v2276 v2277), ∀ (k0_h364 : k0_cond364 v2276 v2277 = 1#1), 128 ∣ (k0_mult289 v2276).toNat := fun v2276 v2277 k0_hw58 k0_h364 => k0_hw58.2.2.2.2.2.2.1 k0_h364
theorem k0_off289_inb : ∀ (v2276 : BitVec 32) (v2277 : BitVec 32) (k0_hw58 : k0_chk58 v2276 v2277), ∀ (k0_h364 : k0_cond364 v2276 v2277 = 1#1), ∀ a, (k0_off289 v2276) a + S128x1024.size a ≤ S8192x1024.size a := fun v2276 v2277 k0_hw58 k0_h364 => k0_hw58.2.2.2.2.2.2.2.1 k0_h364
theorem k0_mult290_dvd : ∀ (v2276 : BitVec 32) (v2277 : BitVec 32) (k0_hw58 : k0_chk58 v2276 v2277), ∀ (k0_h365 : k0_cond365 v2276 v2277 = 1#1), 128 ∣ (k0_mult290 v2276).toNat := fun v2276 v2277 k0_hw58 k0_h365 => k0_hw58.2.2.2.2.2.2.2.2.1 k0_h365
theorem k0_off290_inb : ∀ (v2276 : BitVec 32) (v2277 : BitVec 32) (k0_hw58 : k0_chk58 v2276 v2277), ∀ (k0_h365 : k0_cond365 v2276 v2277 = 1#1), ∀ a, (k0_off290 v2276) a + S128x1024.size a ≤ S8192x1024.size a := fun v2276 v2277 k0_hw58 k0_h365 => k0_hw58.2.2.2.2.2.2.2.2.2 k0_h365

def k0_mult291 (v2337 : BitVec 32) : BitVec 32 :=
  let c1024_i32_1732 : BitVec 32 := 1024#32
  let v2752 : BitVec 32 := Scalar.addi v2337 c1024_i32_1732
  v2752
def k0_cond369 (v2337 : BitVec 32) (v2338 : BitVec 32) : BitVec 1 :=
  let v2339 : BitVec 32 := Scalar.subi v2338 v2337
  let c1536_i32_1429 : BitVec 32 := 1536#32
  let v2340 : BitVec 1 := Scalar.cmpi .sge v2339 c1536_i32_1429
  let v2344 : BitVec 32 := Scalar.extui v2340
  let c0_i32_1432 : BitVec 32 := 0#32
  let v2345 : BitVec 1 := Scalar.cmpi .ne v2344 c0_i32_1432
  v2345

def k0_off291 (v2337 : BitVec 32) : Fin 2 → Nat :=
  let c1024_i32_1732 : BitVec 32 := 1024#32
  let v2752 : BitVec 32 := Scalar.addi v2337 c1024_i32_1732
  let v2753 : BitVec 32 := v2752
  let c0_i32_1737 : BitVec 32 := 0#32
  ![v2753.toNat, 0]
def k0_mult292 (v2337 : BitVec 32) : BitVec 32 :=
  let c1024_i32_1732 : BitVec 32 := 1024#32
  let v2752 : BitVec 32 := Scalar.addi v2337 c1024_i32_1732
  v2752
def k0_cond370 (v2337 : BitVec 32) (v2338 : BitVec 32) : BitVec 1 :=
  let v2339 : BitVec 32 := Scalar.subi v2338 v2337
  let c1024_i32_1430 : BitVec 32 := 1024#32
  let v2341 : BitVec 1 := Scalar.cmpi .sgt v2339 c1024_i32_1430
  let c1536_i32_1429 : BitVec 32 := 1536#32
  let v2340 : BitVec 1 := Scalar.cmpi .sge v2339 c1536_i32_1429
  let true_1431 : BitVec 1 := 1#1
  let v2342 : BitVec 1 := Scalar.xori v2340 true_1431
  let v2343 : BitVec 1 := Scalar.andi v2341 v2342
  let c1024_i32_1433 : BitVec 32 := 1024#32
  let v2346 : BitVec 1 := Scalar.cmpi .sgt v2339 c1024_i32_1433
  let v2347 : BitVec 1 := Scalar.andi v2343 v2346
  let v2348 : BitVec 32 := Scalar.extui v2347
  let c0_i32_1434 : BitVec 32 := 0#32
  let v2349 : BitVec 1 := Scalar.cmpi .ne v2348 c0_i32_1434
  v2349

def k0_off292 (v2337 : BitVec 32) : Fin 2 → Nat :=
  let c1024_i32_1732 : BitVec 32 := 1024#32
  let v2752 : BitVec 32 := Scalar.addi v2337 c1024_i32_1732
  let v2753 : BitVec 32 := v2752
  let c0_i32_1737 : BitVec 32 := 0#32
  ![v2753.toNat, 0]
def k0_mult293 (v2337 : BitVec 32) : BitVec 32 :=
  let c1152_i32_1732 : BitVec 32 := 1152#32
  let v2752 : BitVec 32 := Scalar.addi v2337 c1152_i32_1732
  v2752
def k0_cond371 (v2337 : BitVec 32) (v2338 : BitVec 32) : BitVec 1 :=
  let v2339 : BitVec 32 := Scalar.subi v2338 v2337
  let c1024_i32_1430 : BitVec 32 := 1024#32
  let v2341 : BitVec 1 := Scalar.cmpi .sgt v2339 c1024_i32_1430
  let c1536_i32_1429 : BitVec 32 := 1536#32
  let v2340 : BitVec 1 := Scalar.cmpi .sge v2339 c1536_i32_1429
  let true_1431 : BitVec 1 := 1#1
  let v2342 : BitVec 1 := Scalar.xori v2340 true_1431
  let v2343 : BitVec 1 := Scalar.andi v2341 v2342
  let c1152_i32_1435 : BitVec 32 := 1152#32
  let v2350 : BitVec 1 := Scalar.cmpi .sgt v2339 c1152_i32_1435
  let v2351 : BitVec 1 := Scalar.andi v2343 v2350
  let v2352 : BitVec 32 := Scalar.extui v2351
  let c0_i32_1436 : BitVec 32 := 0#32
  let v2353 : BitVec 1 := Scalar.cmpi .ne v2352 c0_i32_1436
  v2353

def k0_off293 (v2337 : BitVec 32) : Fin 2 → Nat :=
  let c1152_i32_1732 : BitVec 32 := 1152#32
  let v2752 : BitVec 32 := Scalar.addi v2337 c1152_i32_1732
  let v2753 : BitVec 32 := v2752
  let c0_i32_1737 : BitVec 32 := 0#32
  ![v2753.toNat, 0]
def k0_mult294 (v2337 : BitVec 32) : BitVec 32 :=
  let c1280_i32_1732 : BitVec 32 := 1280#32
  let v2752 : BitVec 32 := Scalar.addi v2337 c1280_i32_1732
  v2752
def k0_cond372 (v2337 : BitVec 32) (v2338 : BitVec 32) : BitVec 1 :=
  let v2339 : BitVec 32 := Scalar.subi v2338 v2337
  let c1024_i32_1430 : BitVec 32 := 1024#32
  let v2341 : BitVec 1 := Scalar.cmpi .sgt v2339 c1024_i32_1430
  let c1536_i32_1429 : BitVec 32 := 1536#32
  let v2340 : BitVec 1 := Scalar.cmpi .sge v2339 c1536_i32_1429
  let true_1431 : BitVec 1 := 1#1
  let v2342 : BitVec 1 := Scalar.xori v2340 true_1431
  let v2343 : BitVec 1 := Scalar.andi v2341 v2342
  let c1280_i32_1437 : BitVec 32 := 1280#32
  let v2354 : BitVec 1 := Scalar.cmpi .sgt v2339 c1280_i32_1437
  let v2355 : BitVec 1 := Scalar.andi v2343 v2354
  let v2356 : BitVec 32 := Scalar.extui v2355
  let c0_i32_1438 : BitVec 32 := 0#32
  let v2357 : BitVec 1 := Scalar.cmpi .ne v2356 c0_i32_1438
  v2357

def k0_off294 (v2337 : BitVec 32) : Fin 2 → Nat :=
  let c1280_i32_1732 : BitVec 32 := 1280#32
  let v2752 : BitVec 32 := Scalar.addi v2337 c1280_i32_1732
  let v2753 : BitVec 32 := v2752
  let c0_i32_1737 : BitVec 32 := 0#32
  ![v2753.toNat, 0]
def k0_mult295 (v2337 : BitVec 32) : BitVec 32 :=
  let c1408_i32_1732 : BitVec 32 := 1408#32
  let v2752 : BitVec 32 := Scalar.addi v2337 c1408_i32_1732
  v2752
def k0_cond373 (v2337 : BitVec 32) (v2338 : BitVec 32) : BitVec 1 :=
  let v2339 : BitVec 32 := Scalar.subi v2338 v2337
  let c1024_i32_1430 : BitVec 32 := 1024#32
  let v2341 : BitVec 1 := Scalar.cmpi .sgt v2339 c1024_i32_1430
  let c1536_i32_1429 : BitVec 32 := 1536#32
  let v2340 : BitVec 1 := Scalar.cmpi .sge v2339 c1536_i32_1429
  let true_1431 : BitVec 1 := 1#1
  let v2342 : BitVec 1 := Scalar.xori v2340 true_1431
  let v2343 : BitVec 1 := Scalar.andi v2341 v2342
  let c1408_i32_1439 : BitVec 32 := 1408#32
  let v2358 : BitVec 1 := Scalar.cmpi .sgt v2339 c1408_i32_1439
  let v2359 : BitVec 1 := Scalar.andi v2343 v2358
  let v2360 : BitVec 32 := Scalar.extui v2359
  let c0_i32_1440 : BitVec 32 := 0#32
  let v2361 : BitVec 1 := Scalar.cmpi .ne v2360 c0_i32_1440
  v2361

def k0_off295 (v2337 : BitVec 32) : Fin 2 → Nat :=
  let c1408_i32_1732 : BitVec 32 := 1408#32
  let v2752 : BitVec 32 := Scalar.addi v2337 c1408_i32_1732
  let v2753 : BitVec 32 := v2752
  let c0_i32_1737 : BitVec 32 := 0#32
  ![v2753.toNat, 0]

def k0_chk59 (v2337 : BitVec 32) (v2338 : BitVec 32) : Prop :=
  (∀ (k0_h369 : k0_cond369 v2337 v2338 = 1#1), 128 ∣ (k0_mult291 v2337).toNat) ∧
  (∀ (k0_h369 : k0_cond369 v2337 v2338 = 1#1), ∀ a, (k0_off291 v2337) a + S512x1024.size a ≤ S8192x1024.size a) ∧
  (∀ (k0_h370 : k0_cond370 v2337 v2338 = 1#1), 128 ∣ (k0_mult292 v2337).toNat) ∧
  (∀ (k0_h370 : k0_cond370 v2337 v2338 = 1#1), ∀ a, (k0_off292 v2337) a + S128x1024.size a ≤ S8192x1024.size a) ∧
  (∀ (k0_h371 : k0_cond371 v2337 v2338 = 1#1), 128 ∣ (k0_mult293 v2337).toNat) ∧
  (∀ (k0_h371 : k0_cond371 v2337 v2338 = 1#1), ∀ a, (k0_off293 v2337) a + S128x1024.size a ≤ S8192x1024.size a) ∧
  (∀ (k0_h372 : k0_cond372 v2337 v2338 = 1#1), 128 ∣ (k0_mult294 v2337).toNat) ∧
  (∀ (k0_h372 : k0_cond372 v2337 v2338 = 1#1), ∀ a, (k0_off294 v2337) a + S128x1024.size a ≤ S8192x1024.size a) ∧
  (∀ (k0_h373 : k0_cond373 v2337 v2338 = 1#1), 128 ∣ (k0_mult295 v2337).toNat) ∧
  (∀ (k0_h373 : k0_cond373 v2337 v2338 = 1#1), ∀ a, (k0_off295 v2337) a + S128x1024.size a ≤ S8192x1024.size a)
theorem k0_mult291_dvd : ∀ (v2337 : BitVec 32) (v2338 : BitVec 32) (k0_hw59 : k0_chk59 v2337 v2338), ∀ (k0_h369 : k0_cond369 v2337 v2338 = 1#1), 128 ∣ (k0_mult291 v2337).toNat := fun v2337 v2338 k0_hw59 k0_h369 => k0_hw59.1 k0_h369
theorem k0_off291_inb : ∀ (v2337 : BitVec 32) (v2338 : BitVec 32) (k0_hw59 : k0_chk59 v2337 v2338), ∀ (k0_h369 : k0_cond369 v2337 v2338 = 1#1), ∀ a, (k0_off291 v2337) a + S512x1024.size a ≤ S8192x1024.size a := fun v2337 v2338 k0_hw59 k0_h369 => k0_hw59.2.1 k0_h369
theorem k0_mult292_dvd : ∀ (v2337 : BitVec 32) (v2338 : BitVec 32) (k0_hw59 : k0_chk59 v2337 v2338), ∀ (k0_h370 : k0_cond370 v2337 v2338 = 1#1), 128 ∣ (k0_mult292 v2337).toNat := fun v2337 v2338 k0_hw59 k0_h370 => k0_hw59.2.2.1 k0_h370
theorem k0_off292_inb : ∀ (v2337 : BitVec 32) (v2338 : BitVec 32) (k0_hw59 : k0_chk59 v2337 v2338), ∀ (k0_h370 : k0_cond370 v2337 v2338 = 1#1), ∀ a, (k0_off292 v2337) a + S128x1024.size a ≤ S8192x1024.size a := fun v2337 v2338 k0_hw59 k0_h370 => k0_hw59.2.2.2.1 k0_h370
theorem k0_mult293_dvd : ∀ (v2337 : BitVec 32) (v2338 : BitVec 32) (k0_hw59 : k0_chk59 v2337 v2338), ∀ (k0_h371 : k0_cond371 v2337 v2338 = 1#1), 128 ∣ (k0_mult293 v2337).toNat := fun v2337 v2338 k0_hw59 k0_h371 => k0_hw59.2.2.2.2.1 k0_h371
theorem k0_off293_inb : ∀ (v2337 : BitVec 32) (v2338 : BitVec 32) (k0_hw59 : k0_chk59 v2337 v2338), ∀ (k0_h371 : k0_cond371 v2337 v2338 = 1#1), ∀ a, (k0_off293 v2337) a + S128x1024.size a ≤ S8192x1024.size a := fun v2337 v2338 k0_hw59 k0_h371 => k0_hw59.2.2.2.2.2.1 k0_h371
theorem k0_mult294_dvd : ∀ (v2337 : BitVec 32) (v2338 : BitVec 32) (k0_hw59 : k0_chk59 v2337 v2338), ∀ (k0_h372 : k0_cond372 v2337 v2338 = 1#1), 128 ∣ (k0_mult294 v2337).toNat := fun v2337 v2338 k0_hw59 k0_h372 => k0_hw59.2.2.2.2.2.2.1 k0_h372
theorem k0_off294_inb : ∀ (v2337 : BitVec 32) (v2338 : BitVec 32) (k0_hw59 : k0_chk59 v2337 v2338), ∀ (k0_h372 : k0_cond372 v2337 v2338 = 1#1), ∀ a, (k0_off294 v2337) a + S128x1024.size a ≤ S8192x1024.size a := fun v2337 v2338 k0_hw59 k0_h372 => k0_hw59.2.2.2.2.2.2.2.1 k0_h372
theorem k0_mult295_dvd : ∀ (v2337 : BitVec 32) (v2338 : BitVec 32) (k0_hw59 : k0_chk59 v2337 v2338), ∀ (k0_h373 : k0_cond373 v2337 v2338 = 1#1), 128 ∣ (k0_mult295 v2337).toNat := fun v2337 v2338 k0_hw59 k0_h373 => k0_hw59.2.2.2.2.2.2.2.2.1 k0_h373
theorem k0_off295_inb : ∀ (v2337 : BitVec 32) (v2338 : BitVec 32) (k0_hw59 : k0_chk59 v2337 v2338), ∀ (k0_h373 : k0_cond373 v2337 v2338 = 1#1), ∀ a, (k0_off295 v2337) a + S128x1024.size a ≤ S8192x1024.size a := fun v2337 v2338 k0_hw59 k0_h373 => k0_hw59.2.2.2.2.2.2.2.2.2 k0_h373

def k0_mult296 (v2398 : BitVec 32) : BitVec 32 :=
  let c1536_i32_1732 : BitVec 32 := 1536#32
  let v2752 : BitVec 32 := Scalar.addi v2398 c1536_i32_1732
  v2752
def k0_cond377 (v2398 : BitVec 32) (v2399 : BitVec 32) : BitVec 1 :=
  let v2400 : BitVec 32 := Scalar.subi v2399 v2398
  let c2048_i32_1470 : BitVec 32 := 2048#32
  let v2401 : BitVec 1 := Scalar.cmpi .sge v2400 c2048_i32_1470
  let v2405 : BitVec 32 := Scalar.extui v2401
  let c0_i32_1473 : BitVec 32 := 0#32
  let v2406 : BitVec 1 := Scalar.cmpi .ne v2405 c0_i32_1473
  v2406

def k0_off296 (v2398 : BitVec 32) : Fin 2 → Nat :=
  let c1536_i32_1732 : BitVec 32 := 1536#32
  let v2752 : BitVec 32 := Scalar.addi v2398 c1536_i32_1732
  let v2753 : BitVec 32 := v2752
  let c0_i32_1737 : BitVec 32 := 0#32
  ![v2753.toNat, 0]
def k0_mult297 (v2398 : BitVec 32) : BitVec 32 :=
  let c1536_i32_1732 : BitVec 32 := 1536#32
  let v2752 : BitVec 32 := Scalar.addi v2398 c1536_i32_1732
  v2752
def k0_cond378 (v2398 : BitVec 32) (v2399 : BitVec 32) : BitVec 1 :=
  let v2400 : BitVec 32 := Scalar.subi v2399 v2398
  let c1536_i32_1471 : BitVec 32 := 1536#32
  let v2402 : BitVec 1 := Scalar.cmpi .sgt v2400 c1536_i32_1471
  let c2048_i32_1470 : BitVec 32 := 2048#32
  let v2401 : BitVec 1 := Scalar.cmpi .sge v2400 c2048_i32_1470
  let true_1472 : BitVec 1 := 1#1
  let v2403 : BitVec 1 := Scalar.xori v2401 true_1472
  let v2404 : BitVec 1 := Scalar.andi v2402 v2403
  let c1536_i32_1474 : BitVec 32 := 1536#32
  let v2407 : BitVec 1 := Scalar.cmpi .sgt v2400 c1536_i32_1474
  let v2408 : BitVec 1 := Scalar.andi v2404 v2407
  let v2409 : BitVec 32 := Scalar.extui v2408
  let c0_i32_1475 : BitVec 32 := 0#32
  let v2410 : BitVec 1 := Scalar.cmpi .ne v2409 c0_i32_1475
  v2410

def k0_off297 (v2398 : BitVec 32) : Fin 2 → Nat :=
  let c1536_i32_1732 : BitVec 32 := 1536#32
  let v2752 : BitVec 32 := Scalar.addi v2398 c1536_i32_1732
  let v2753 : BitVec 32 := v2752
  let c0_i32_1737 : BitVec 32 := 0#32
  ![v2753.toNat, 0]
def k0_mult298 (v2398 : BitVec 32) : BitVec 32 :=
  let c1664_i32_1732 : BitVec 32 := 1664#32
  let v2752 : BitVec 32 := Scalar.addi v2398 c1664_i32_1732
  v2752
def k0_cond379 (v2398 : BitVec 32) (v2399 : BitVec 32) : BitVec 1 :=
  let v2400 : BitVec 32 := Scalar.subi v2399 v2398
  let c1536_i32_1471 : BitVec 32 := 1536#32
  let v2402 : BitVec 1 := Scalar.cmpi .sgt v2400 c1536_i32_1471
  let c2048_i32_1470 : BitVec 32 := 2048#32
  let v2401 : BitVec 1 := Scalar.cmpi .sge v2400 c2048_i32_1470
  let true_1472 : BitVec 1 := 1#1
  let v2403 : BitVec 1 := Scalar.xori v2401 true_1472
  let v2404 : BitVec 1 := Scalar.andi v2402 v2403
  let c1664_i32_1476 : BitVec 32 := 1664#32
  let v2411 : BitVec 1 := Scalar.cmpi .sgt v2400 c1664_i32_1476
  let v2412 : BitVec 1 := Scalar.andi v2404 v2411
  let v2413 : BitVec 32 := Scalar.extui v2412
  let c0_i32_1477 : BitVec 32 := 0#32
  let v2414 : BitVec 1 := Scalar.cmpi .ne v2413 c0_i32_1477
  v2414

def k0_off298 (v2398 : BitVec 32) : Fin 2 → Nat :=
  let c1664_i32_1732 : BitVec 32 := 1664#32
  let v2752 : BitVec 32 := Scalar.addi v2398 c1664_i32_1732
  let v2753 : BitVec 32 := v2752
  let c0_i32_1737 : BitVec 32 := 0#32
  ![v2753.toNat, 0]
def k0_mult299 (v2398 : BitVec 32) : BitVec 32 :=
  let c1792_i32_1732 : BitVec 32 := 1792#32
  let v2752 : BitVec 32 := Scalar.addi v2398 c1792_i32_1732
  v2752
def k0_cond380 (v2398 : BitVec 32) (v2399 : BitVec 32) : BitVec 1 :=
  let v2400 : BitVec 32 := Scalar.subi v2399 v2398
  let c1536_i32_1471 : BitVec 32 := 1536#32
  let v2402 : BitVec 1 := Scalar.cmpi .sgt v2400 c1536_i32_1471
  let c2048_i32_1470 : BitVec 32 := 2048#32
  let v2401 : BitVec 1 := Scalar.cmpi .sge v2400 c2048_i32_1470
  let true_1472 : BitVec 1 := 1#1
  let v2403 : BitVec 1 := Scalar.xori v2401 true_1472
  let v2404 : BitVec 1 := Scalar.andi v2402 v2403
  let c1792_i32_1478 : BitVec 32 := 1792#32
  let v2415 : BitVec 1 := Scalar.cmpi .sgt v2400 c1792_i32_1478
  let v2416 : BitVec 1 := Scalar.andi v2404 v2415
  let v2417 : BitVec 32 := Scalar.extui v2416
  let c0_i32_1479 : BitVec 32 := 0#32
  let v2418 : BitVec 1 := Scalar.cmpi .ne v2417 c0_i32_1479
  v2418

def k0_off299 (v2398 : BitVec 32) : Fin 2 → Nat :=
  let c1792_i32_1732 : BitVec 32 := 1792#32
  let v2752 : BitVec 32 := Scalar.addi v2398 c1792_i32_1732
  let v2753 : BitVec 32 := v2752
  let c0_i32_1737 : BitVec 32 := 0#32
  ![v2753.toNat, 0]
def k0_mult300 (v2398 : BitVec 32) : BitVec 32 :=
  let c1920_i32_1732 : BitVec 32 := 1920#32
  let v2752 : BitVec 32 := Scalar.addi v2398 c1920_i32_1732
  v2752
def k0_cond381 (v2398 : BitVec 32) (v2399 : BitVec 32) : BitVec 1 :=
  let v2400 : BitVec 32 := Scalar.subi v2399 v2398
  let c1536_i32_1471 : BitVec 32 := 1536#32
  let v2402 : BitVec 1 := Scalar.cmpi .sgt v2400 c1536_i32_1471
  let c2048_i32_1470 : BitVec 32 := 2048#32
  let v2401 : BitVec 1 := Scalar.cmpi .sge v2400 c2048_i32_1470
  let true_1472 : BitVec 1 := 1#1
  let v2403 : BitVec 1 := Scalar.xori v2401 true_1472
  let v2404 : BitVec 1 := Scalar.andi v2402 v2403
  let c1920_i32_1480 : BitVec 32 := 1920#32
  let v2419 : BitVec 1 := Scalar.cmpi .sgt v2400 c1920_i32_1480
  let v2420 : BitVec 1 := Scalar.andi v2404 v2419
  let v2421 : BitVec 32 := Scalar.extui v2420
  let c0_i32_1481 : BitVec 32 := 0#32
  let v2422 : BitVec 1 := Scalar.cmpi .ne v2421 c0_i32_1481
  v2422

def k0_off300 (v2398 : BitVec 32) : Fin 2 → Nat :=
  let c1920_i32_1732 : BitVec 32 := 1920#32
  let v2752 : BitVec 32 := Scalar.addi v2398 c1920_i32_1732
  let v2753 : BitVec 32 := v2752
  let c0_i32_1737 : BitVec 32 := 0#32
  ![v2753.toNat, 0]

def k0_chk60 (v2398 : BitVec 32) (v2399 : BitVec 32) : Prop :=
  (∀ (k0_h377 : k0_cond377 v2398 v2399 = 1#1), 128 ∣ (k0_mult296 v2398).toNat) ∧
  (∀ (k0_h377 : k0_cond377 v2398 v2399 = 1#1), ∀ a, (k0_off296 v2398) a + S512x1024.size a ≤ S8192x1024.size a) ∧
  (∀ (k0_h378 : k0_cond378 v2398 v2399 = 1#1), 128 ∣ (k0_mult297 v2398).toNat) ∧
  (∀ (k0_h378 : k0_cond378 v2398 v2399 = 1#1), ∀ a, (k0_off297 v2398) a + S128x1024.size a ≤ S8192x1024.size a) ∧
  (∀ (k0_h379 : k0_cond379 v2398 v2399 = 1#1), 128 ∣ (k0_mult298 v2398).toNat) ∧
  (∀ (k0_h379 : k0_cond379 v2398 v2399 = 1#1), ∀ a, (k0_off298 v2398) a + S128x1024.size a ≤ S8192x1024.size a) ∧
  (∀ (k0_h380 : k0_cond380 v2398 v2399 = 1#1), 128 ∣ (k0_mult299 v2398).toNat) ∧
  (∀ (k0_h380 : k0_cond380 v2398 v2399 = 1#1), ∀ a, (k0_off299 v2398) a + S128x1024.size a ≤ S8192x1024.size a) ∧
  (∀ (k0_h381 : k0_cond381 v2398 v2399 = 1#1), 128 ∣ (k0_mult300 v2398).toNat) ∧
  (∀ (k0_h381 : k0_cond381 v2398 v2399 = 1#1), ∀ a, (k0_off300 v2398) a + S128x1024.size a ≤ S8192x1024.size a)
theorem k0_mult296_dvd : ∀ (v2398 : BitVec 32) (v2399 : BitVec 32) (k0_hw60 : k0_chk60 v2398 v2399), ∀ (k0_h377 : k0_cond377 v2398 v2399 = 1#1), 128 ∣ (k0_mult296 v2398).toNat := fun v2398 v2399 k0_hw60 k0_h377 => k0_hw60.1 k0_h377
theorem k0_off296_inb : ∀ (v2398 : BitVec 32) (v2399 : BitVec 32) (k0_hw60 : k0_chk60 v2398 v2399), ∀ (k0_h377 : k0_cond377 v2398 v2399 = 1#1), ∀ a, (k0_off296 v2398) a + S512x1024.size a ≤ S8192x1024.size a := fun v2398 v2399 k0_hw60 k0_h377 => k0_hw60.2.1 k0_h377
theorem k0_mult297_dvd : ∀ (v2398 : BitVec 32) (v2399 : BitVec 32) (k0_hw60 : k0_chk60 v2398 v2399), ∀ (k0_h378 : k0_cond378 v2398 v2399 = 1#1), 128 ∣ (k0_mult297 v2398).toNat := fun v2398 v2399 k0_hw60 k0_h378 => k0_hw60.2.2.1 k0_h378
theorem k0_off297_inb : ∀ (v2398 : BitVec 32) (v2399 : BitVec 32) (k0_hw60 : k0_chk60 v2398 v2399), ∀ (k0_h378 : k0_cond378 v2398 v2399 = 1#1), ∀ a, (k0_off297 v2398) a + S128x1024.size a ≤ S8192x1024.size a := fun v2398 v2399 k0_hw60 k0_h378 => k0_hw60.2.2.2.1 k0_h378
theorem k0_mult298_dvd : ∀ (v2398 : BitVec 32) (v2399 : BitVec 32) (k0_hw60 : k0_chk60 v2398 v2399), ∀ (k0_h379 : k0_cond379 v2398 v2399 = 1#1), 128 ∣ (k0_mult298 v2398).toNat := fun v2398 v2399 k0_hw60 k0_h379 => k0_hw60.2.2.2.2.1 k0_h379
theorem k0_off298_inb : ∀ (v2398 : BitVec 32) (v2399 : BitVec 32) (k0_hw60 : k0_chk60 v2398 v2399), ∀ (k0_h379 : k0_cond379 v2398 v2399 = 1#1), ∀ a, (k0_off298 v2398) a + S128x1024.size a ≤ S8192x1024.size a := fun v2398 v2399 k0_hw60 k0_h379 => k0_hw60.2.2.2.2.2.1 k0_h379
theorem k0_mult299_dvd : ∀ (v2398 : BitVec 32) (v2399 : BitVec 32) (k0_hw60 : k0_chk60 v2398 v2399), ∀ (k0_h380 : k0_cond380 v2398 v2399 = 1#1), 128 ∣ (k0_mult299 v2398).toNat := fun v2398 v2399 k0_hw60 k0_h380 => k0_hw60.2.2.2.2.2.2.1 k0_h380
theorem k0_off299_inb : ∀ (v2398 : BitVec 32) (v2399 : BitVec 32) (k0_hw60 : k0_chk60 v2398 v2399), ∀ (k0_h380 : k0_cond380 v2398 v2399 = 1#1), ∀ a, (k0_off299 v2398) a + S128x1024.size a ≤ S8192x1024.size a := fun v2398 v2399 k0_hw60 k0_h380 => k0_hw60.2.2.2.2.2.2.2.1 k0_h380
theorem k0_mult300_dvd : ∀ (v2398 : BitVec 32) (v2399 : BitVec 32) (k0_hw60 : k0_chk60 v2398 v2399), ∀ (k0_h381 : k0_cond381 v2398 v2399 = 1#1), 128 ∣ (k0_mult300 v2398).toNat := fun v2398 v2399 k0_hw60 k0_h381 => k0_hw60.2.2.2.2.2.2.2.2.1 k0_h381
theorem k0_off300_inb : ∀ (v2398 : BitVec 32) (v2399 : BitVec 32) (k0_hw60 : k0_chk60 v2398 v2399), ∀ (k0_h381 : k0_cond381 v2398 v2399 = 1#1), ∀ a, (k0_off300 v2398) a + S128x1024.size a ≤ S8192x1024.size a := fun v2398 v2399 k0_hw60 k0_h381 => k0_hw60.2.2.2.2.2.2.2.2.2 k0_h381

def k0_mult301 (v2459 : BitVec 32) : BitVec 32 :=
  let c0_i32_1732 : BitVec 32 := 0#32
  let v2752 : BitVec 32 := Scalar.addi v2459 c0_i32_1732
  v2752
def k0_cond385 (v2459 : BitVec 32) (v2460 : BitVec 32) : BitVec 1 :=
  let v2461 : BitVec 32 := Scalar.subi v2460 v2459
  let c512_i32_1511 : BitVec 32 := 512#32
  let v2462 : BitVec 1 := Scalar.cmpi .sge v2461 c512_i32_1511
  let v2466 : BitVec 32 := Scalar.extui v2462
  let c0_i32_1514 : BitVec 32 := 0#32
  let v2467 : BitVec 1 := Scalar.cmpi .ne v2466 c0_i32_1514
  v2467

def k0_off301 (v2459 : BitVec 32) : Fin 2 → Nat :=
  let c0_i32_1732 : BitVec 32 := 0#32
  let v2752 : BitVec 32 := Scalar.addi v2459 c0_i32_1732
  let v2753 : BitVec 32 := v2752
  let c0_i32_1737 : BitVec 32 := 0#32
  ![v2753.toNat, 0]
def k0_mult302 (v2459 : BitVec 32) : BitVec 32 :=
  let c0_i32_1732 : BitVec 32 := 0#32
  let v2752 : BitVec 32 := Scalar.addi v2459 c0_i32_1732
  v2752
def k0_cond386 (v2459 : BitVec 32) (v2460 : BitVec 32) : BitVec 1 :=
  let v2461 : BitVec 32 := Scalar.subi v2460 v2459
  let c0_i32_1512 : BitVec 32 := 0#32
  let v2463 : BitVec 1 := Scalar.cmpi .sgt v2461 c0_i32_1512
  let c512_i32_1511 : BitVec 32 := 512#32
  let v2462 : BitVec 1 := Scalar.cmpi .sge v2461 c512_i32_1511
  let true_1513 : BitVec 1 := 1#1
  let v2464 : BitVec 1 := Scalar.xori v2462 true_1513
  let v2465 : BitVec 1 := Scalar.andi v2463 v2464
  let c0_i32_1515 : BitVec 32 := 0#32
  let v2468 : BitVec 1 := Scalar.cmpi .sgt v2461 c0_i32_1515
  let v2469 : BitVec 1 := Scalar.andi v2465 v2468
  let v2470 : BitVec 32 := Scalar.extui v2469
  let c0_i32_1516 : BitVec 32 := 0#32
  let v2471 : BitVec 1 := Scalar.cmpi .ne v2470 c0_i32_1516
  v2471

def k0_off302 (v2459 : BitVec 32) : Fin 2 → Nat :=
  let c0_i32_1732 : BitVec 32 := 0#32
  let v2752 : BitVec 32 := Scalar.addi v2459 c0_i32_1732
  let v2753 : BitVec 32 := v2752
  let c0_i32_1737 : BitVec 32 := 0#32
  ![v2753.toNat, 0]
def k0_mult303 (v2459 : BitVec 32) : BitVec 32 :=
  let c128_i32_1732 : BitVec 32 := 128#32
  let v2752 : BitVec 32 := Scalar.addi v2459 c128_i32_1732
  v2752
def k0_cond387 (v2459 : BitVec 32) (v2460 : BitVec 32) : BitVec 1 :=
  let v2461 : BitVec 32 := Scalar.subi v2460 v2459
  let c0_i32_1512 : BitVec 32 := 0#32
  let v2463 : BitVec 1 := Scalar.cmpi .sgt v2461 c0_i32_1512
  let c512_i32_1511 : BitVec 32 := 512#32
  let v2462 : BitVec 1 := Scalar.cmpi .sge v2461 c512_i32_1511
  let true_1513 : BitVec 1 := 1#1
  let v2464 : BitVec 1 := Scalar.xori v2462 true_1513
  let v2465 : BitVec 1 := Scalar.andi v2463 v2464
  let c128_i32_1517 : BitVec 32 := 128#32
  let v2472 : BitVec 1 := Scalar.cmpi .sgt v2461 c128_i32_1517
  let v2473 : BitVec 1 := Scalar.andi v2465 v2472
  let v2474 : BitVec 32 := Scalar.extui v2473
  let c0_i32_1518 : BitVec 32 := 0#32
  let v2475 : BitVec 1 := Scalar.cmpi .ne v2474 c0_i32_1518
  v2475

def k0_off303 (v2459 : BitVec 32) : Fin 2 → Nat :=
  let c128_i32_1732 : BitVec 32 := 128#32
  let v2752 : BitVec 32 := Scalar.addi v2459 c128_i32_1732
  let v2753 : BitVec 32 := v2752
  let c0_i32_1737 : BitVec 32 := 0#32
  ![v2753.toNat, 0]
def k0_mult304 (v2459 : BitVec 32) : BitVec 32 :=
  let c256_i32_1732 : BitVec 32 := 256#32
  let v2752 : BitVec 32 := Scalar.addi v2459 c256_i32_1732
  v2752
def k0_cond388 (v2459 : BitVec 32) (v2460 : BitVec 32) : BitVec 1 :=
  let v2461 : BitVec 32 := Scalar.subi v2460 v2459
  let c0_i32_1512 : BitVec 32 := 0#32
  let v2463 : BitVec 1 := Scalar.cmpi .sgt v2461 c0_i32_1512
  let c512_i32_1511 : BitVec 32 := 512#32
  let v2462 : BitVec 1 := Scalar.cmpi .sge v2461 c512_i32_1511
  let true_1513 : BitVec 1 := 1#1
  let v2464 : BitVec 1 := Scalar.xori v2462 true_1513
  let v2465 : BitVec 1 := Scalar.andi v2463 v2464
  let c256_i32_1519 : BitVec 32 := 256#32
  let v2476 : BitVec 1 := Scalar.cmpi .sgt v2461 c256_i32_1519
  let v2477 : BitVec 1 := Scalar.andi v2465 v2476
  let v2478 : BitVec 32 := Scalar.extui v2477
  let c0_i32_1520 : BitVec 32 := 0#32
  let v2479 : BitVec 1 := Scalar.cmpi .ne v2478 c0_i32_1520
  v2479

def k0_off304 (v2459 : BitVec 32) : Fin 2 → Nat :=
  let c256_i32_1732 : BitVec 32 := 256#32
  let v2752 : BitVec 32 := Scalar.addi v2459 c256_i32_1732
  let v2753 : BitVec 32 := v2752
  let c0_i32_1737 : BitVec 32 := 0#32
  ![v2753.toNat, 0]
def k0_mult305 (v2459 : BitVec 32) : BitVec 32 :=
  let c384_i32_1732 : BitVec 32 := 384#32
  let v2752 : BitVec 32 := Scalar.addi v2459 c384_i32_1732
  v2752
def k0_cond389 (v2459 : BitVec 32) (v2460 : BitVec 32) : BitVec 1 :=
  let v2461 : BitVec 32 := Scalar.subi v2460 v2459
  let c0_i32_1512 : BitVec 32 := 0#32
  let v2463 : BitVec 1 := Scalar.cmpi .sgt v2461 c0_i32_1512
  let c512_i32_1511 : BitVec 32 := 512#32
  let v2462 : BitVec 1 := Scalar.cmpi .sge v2461 c512_i32_1511
  let true_1513 : BitVec 1 := 1#1
  let v2464 : BitVec 1 := Scalar.xori v2462 true_1513
  let v2465 : BitVec 1 := Scalar.andi v2463 v2464
  let c384_i32_1521 : BitVec 32 := 384#32
  let v2480 : BitVec 1 := Scalar.cmpi .sgt v2461 c384_i32_1521
  let v2481 : BitVec 1 := Scalar.andi v2465 v2480
  let v2482 : BitVec 32 := Scalar.extui v2481
  let c0_i32_1522 : BitVec 32 := 0#32
  let v2483 : BitVec 1 := Scalar.cmpi .ne v2482 c0_i32_1522
  v2483

def k0_off305 (v2459 : BitVec 32) : Fin 2 → Nat :=
  let c384_i32_1732 : BitVec 32 := 384#32
  let v2752 : BitVec 32 := Scalar.addi v2459 c384_i32_1732
  let v2753 : BitVec 32 := v2752
  let c0_i32_1737 : BitVec 32 := 0#32
  ![v2753.toNat, 0]

def k0_chk61 (v2459 : BitVec 32) (v2460 : BitVec 32) : Prop :=
  (∀ (k0_h385 : k0_cond385 v2459 v2460 = 1#1), 128 ∣ (k0_mult301 v2459).toNat) ∧
  (∀ (k0_h385 : k0_cond385 v2459 v2460 = 1#1), ∀ a, (k0_off301 v2459) a + S512x1024.size a ≤ S8192x1024.size a) ∧
  (∀ (k0_h386 : k0_cond386 v2459 v2460 = 1#1), 128 ∣ (k0_mult302 v2459).toNat) ∧
  (∀ (k0_h386 : k0_cond386 v2459 v2460 = 1#1), ∀ a, (k0_off302 v2459) a + S128x1024.size a ≤ S8192x1024.size a) ∧
  (∀ (k0_h387 : k0_cond387 v2459 v2460 = 1#1), 128 ∣ (k0_mult303 v2459).toNat) ∧
  (∀ (k0_h387 : k0_cond387 v2459 v2460 = 1#1), ∀ a, (k0_off303 v2459) a + S128x1024.size a ≤ S8192x1024.size a) ∧
  (∀ (k0_h388 : k0_cond388 v2459 v2460 = 1#1), 128 ∣ (k0_mult304 v2459).toNat) ∧
  (∀ (k0_h388 : k0_cond388 v2459 v2460 = 1#1), ∀ a, (k0_off304 v2459) a + S128x1024.size a ≤ S8192x1024.size a) ∧
  (∀ (k0_h389 : k0_cond389 v2459 v2460 = 1#1), 128 ∣ (k0_mult305 v2459).toNat) ∧
  (∀ (k0_h389 : k0_cond389 v2459 v2460 = 1#1), ∀ a, (k0_off305 v2459) a + S128x1024.size a ≤ S8192x1024.size a)
theorem k0_mult301_dvd : ∀ (v2459 : BitVec 32) (v2460 : BitVec 32) (k0_hw61 : k0_chk61 v2459 v2460), ∀ (k0_h385 : k0_cond385 v2459 v2460 = 1#1), 128 ∣ (k0_mult301 v2459).toNat := fun v2459 v2460 k0_hw61 k0_h385 => k0_hw61.1 k0_h385
theorem k0_off301_inb : ∀ (v2459 : BitVec 32) (v2460 : BitVec 32) (k0_hw61 : k0_chk61 v2459 v2460), ∀ (k0_h385 : k0_cond385 v2459 v2460 = 1#1), ∀ a, (k0_off301 v2459) a + S512x1024.size a ≤ S8192x1024.size a := fun v2459 v2460 k0_hw61 k0_h385 => k0_hw61.2.1 k0_h385
theorem k0_mult302_dvd : ∀ (v2459 : BitVec 32) (v2460 : BitVec 32) (k0_hw61 : k0_chk61 v2459 v2460), ∀ (k0_h386 : k0_cond386 v2459 v2460 = 1#1), 128 ∣ (k0_mult302 v2459).toNat := fun v2459 v2460 k0_hw61 k0_h386 => k0_hw61.2.2.1 k0_h386
theorem k0_off302_inb : ∀ (v2459 : BitVec 32) (v2460 : BitVec 32) (k0_hw61 : k0_chk61 v2459 v2460), ∀ (k0_h386 : k0_cond386 v2459 v2460 = 1#1), ∀ a, (k0_off302 v2459) a + S128x1024.size a ≤ S8192x1024.size a := fun v2459 v2460 k0_hw61 k0_h386 => k0_hw61.2.2.2.1 k0_h386
theorem k0_mult303_dvd : ∀ (v2459 : BitVec 32) (v2460 : BitVec 32) (k0_hw61 : k0_chk61 v2459 v2460), ∀ (k0_h387 : k0_cond387 v2459 v2460 = 1#1), 128 ∣ (k0_mult303 v2459).toNat := fun v2459 v2460 k0_hw61 k0_h387 => k0_hw61.2.2.2.2.1 k0_h387
theorem k0_off303_inb : ∀ (v2459 : BitVec 32) (v2460 : BitVec 32) (k0_hw61 : k0_chk61 v2459 v2460), ∀ (k0_h387 : k0_cond387 v2459 v2460 = 1#1), ∀ a, (k0_off303 v2459) a + S128x1024.size a ≤ S8192x1024.size a := fun v2459 v2460 k0_hw61 k0_h387 => k0_hw61.2.2.2.2.2.1 k0_h387
theorem k0_mult304_dvd : ∀ (v2459 : BitVec 32) (v2460 : BitVec 32) (k0_hw61 : k0_chk61 v2459 v2460), ∀ (k0_h388 : k0_cond388 v2459 v2460 = 1#1), 128 ∣ (k0_mult304 v2459).toNat := fun v2459 v2460 k0_hw61 k0_h388 => k0_hw61.2.2.2.2.2.2.1 k0_h388
theorem k0_off304_inb : ∀ (v2459 : BitVec 32) (v2460 : BitVec 32) (k0_hw61 : k0_chk61 v2459 v2460), ∀ (k0_h388 : k0_cond388 v2459 v2460 = 1#1), ∀ a, (k0_off304 v2459) a + S128x1024.size a ≤ S8192x1024.size a := fun v2459 v2460 k0_hw61 k0_h388 => k0_hw61.2.2.2.2.2.2.2.1 k0_h388
theorem k0_mult305_dvd : ∀ (v2459 : BitVec 32) (v2460 : BitVec 32) (k0_hw61 : k0_chk61 v2459 v2460), ∀ (k0_h389 : k0_cond389 v2459 v2460 = 1#1), 128 ∣ (k0_mult305 v2459).toNat := fun v2459 v2460 k0_hw61 k0_h389 => k0_hw61.2.2.2.2.2.2.2.2.1 k0_h389
theorem k0_off305_inb : ∀ (v2459 : BitVec 32) (v2460 : BitVec 32) (k0_hw61 : k0_chk61 v2459 v2460), ∀ (k0_h389 : k0_cond389 v2459 v2460 = 1#1), ∀ a, (k0_off305 v2459) a + S128x1024.size a ≤ S8192x1024.size a := fun v2459 v2460 k0_hw61 k0_h389 => k0_hw61.2.2.2.2.2.2.2.2.2 k0_h389

def k0_mult306 (v2520 : BitVec 32) : BitVec 32 :=
  let c512_i32_1732 : BitVec 32 := 512#32
  let v2752 : BitVec 32 := Scalar.addi v2520 c512_i32_1732
  v2752
def k0_cond393 (v2520 : BitVec 32) (v2521 : BitVec 32) : BitVec 1 :=
  let v2522 : BitVec 32 := Scalar.subi v2521 v2520
  let c1024_i32_1552 : BitVec 32 := 1024#32
  let v2523 : BitVec 1 := Scalar.cmpi .sge v2522 c1024_i32_1552
  let v2527 : BitVec 32 := Scalar.extui v2523
  let c0_i32_1555 : BitVec 32 := 0#32
  let v2528 : BitVec 1 := Scalar.cmpi .ne v2527 c0_i32_1555
  v2528

def k0_off306 (v2520 : BitVec 32) : Fin 2 → Nat :=
  let c512_i32_1732 : BitVec 32 := 512#32
  let v2752 : BitVec 32 := Scalar.addi v2520 c512_i32_1732
  let v2753 : BitVec 32 := v2752
  let c0_i32_1737 : BitVec 32 := 0#32
  ![v2753.toNat, 0]
def k0_mult307 (v2520 : BitVec 32) : BitVec 32 :=
  let c512_i32_1732 : BitVec 32 := 512#32
  let v2752 : BitVec 32 := Scalar.addi v2520 c512_i32_1732
  v2752
def k0_cond394 (v2520 : BitVec 32) (v2521 : BitVec 32) : BitVec 1 :=
  let v2522 : BitVec 32 := Scalar.subi v2521 v2520
  let c512_i32_1553 : BitVec 32 := 512#32
  let v2524 : BitVec 1 := Scalar.cmpi .sgt v2522 c512_i32_1553
  let c1024_i32_1552 : BitVec 32 := 1024#32
  let v2523 : BitVec 1 := Scalar.cmpi .sge v2522 c1024_i32_1552
  let true_1554 : BitVec 1 := 1#1
  let v2525 : BitVec 1 := Scalar.xori v2523 true_1554
  let v2526 : BitVec 1 := Scalar.andi v2524 v2525
  let c512_i32_1556 : BitVec 32 := 512#32
  let v2529 : BitVec 1 := Scalar.cmpi .sgt v2522 c512_i32_1556
  let v2530 : BitVec 1 := Scalar.andi v2526 v2529
  let v2531 : BitVec 32 := Scalar.extui v2530
  let c0_i32_1557 : BitVec 32 := 0#32
  let v2532 : BitVec 1 := Scalar.cmpi .ne v2531 c0_i32_1557
  v2532

def k0_off307 (v2520 : BitVec 32) : Fin 2 → Nat :=
  let c512_i32_1732 : BitVec 32 := 512#32
  let v2752 : BitVec 32 := Scalar.addi v2520 c512_i32_1732
  let v2753 : BitVec 32 := v2752
  let c0_i32_1737 : BitVec 32 := 0#32
  ![v2753.toNat, 0]
def k0_mult308 (v2520 : BitVec 32) : BitVec 32 :=
  let c640_i32_1732 : BitVec 32 := 640#32
  let v2752 : BitVec 32 := Scalar.addi v2520 c640_i32_1732
  v2752
def k0_cond395 (v2520 : BitVec 32) (v2521 : BitVec 32) : BitVec 1 :=
  let v2522 : BitVec 32 := Scalar.subi v2521 v2520
  let c512_i32_1553 : BitVec 32 := 512#32
  let v2524 : BitVec 1 := Scalar.cmpi .sgt v2522 c512_i32_1553
  let c1024_i32_1552 : BitVec 32 := 1024#32
  let v2523 : BitVec 1 := Scalar.cmpi .sge v2522 c1024_i32_1552
  let true_1554 : BitVec 1 := 1#1
  let v2525 : BitVec 1 := Scalar.xori v2523 true_1554
  let v2526 : BitVec 1 := Scalar.andi v2524 v2525
  let c640_i32_1558 : BitVec 32 := 640#32
  let v2533 : BitVec 1 := Scalar.cmpi .sgt v2522 c640_i32_1558
  let v2534 : BitVec 1 := Scalar.andi v2526 v2533
  let v2535 : BitVec 32 := Scalar.extui v2534
  let c0_i32_1559 : BitVec 32 := 0#32
  let v2536 : BitVec 1 := Scalar.cmpi .ne v2535 c0_i32_1559
  v2536

def k0_off308 (v2520 : BitVec 32) : Fin 2 → Nat :=
  let c640_i32_1732 : BitVec 32 := 640#32
  let v2752 : BitVec 32 := Scalar.addi v2520 c640_i32_1732
  let v2753 : BitVec 32 := v2752
  let c0_i32_1737 : BitVec 32 := 0#32
  ![v2753.toNat, 0]
def k0_mult309 (v2520 : BitVec 32) : BitVec 32 :=
  let c768_i32_1732 : BitVec 32 := 768#32
  let v2752 : BitVec 32 := Scalar.addi v2520 c768_i32_1732
  v2752
def k0_cond396 (v2520 : BitVec 32) (v2521 : BitVec 32) : BitVec 1 :=
  let v2522 : BitVec 32 := Scalar.subi v2521 v2520
  let c512_i32_1553 : BitVec 32 := 512#32
  let v2524 : BitVec 1 := Scalar.cmpi .sgt v2522 c512_i32_1553
  let c1024_i32_1552 : BitVec 32 := 1024#32
  let v2523 : BitVec 1 := Scalar.cmpi .sge v2522 c1024_i32_1552
  let true_1554 : BitVec 1 := 1#1
  let v2525 : BitVec 1 := Scalar.xori v2523 true_1554
  let v2526 : BitVec 1 := Scalar.andi v2524 v2525
  let c768_i32_1560 : BitVec 32 := 768#32
  let v2537 : BitVec 1 := Scalar.cmpi .sgt v2522 c768_i32_1560
  let v2538 : BitVec 1 := Scalar.andi v2526 v2537
  let v2539 : BitVec 32 := Scalar.extui v2538
  let c0_i32_1561 : BitVec 32 := 0#32
  let v2540 : BitVec 1 := Scalar.cmpi .ne v2539 c0_i32_1561
  v2540

def k0_off309 (v2520 : BitVec 32) : Fin 2 → Nat :=
  let c768_i32_1732 : BitVec 32 := 768#32
  let v2752 : BitVec 32 := Scalar.addi v2520 c768_i32_1732
  let v2753 : BitVec 32 := v2752
  let c0_i32_1737 : BitVec 32 := 0#32
  ![v2753.toNat, 0]
def k0_mult310 (v2520 : BitVec 32) : BitVec 32 :=
  let c896_i32_1732 : BitVec 32 := 896#32
  let v2752 : BitVec 32 := Scalar.addi v2520 c896_i32_1732
  v2752
def k0_cond397 (v2520 : BitVec 32) (v2521 : BitVec 32) : BitVec 1 :=
  let v2522 : BitVec 32 := Scalar.subi v2521 v2520
  let c512_i32_1553 : BitVec 32 := 512#32
  let v2524 : BitVec 1 := Scalar.cmpi .sgt v2522 c512_i32_1553
  let c1024_i32_1552 : BitVec 32 := 1024#32
  let v2523 : BitVec 1 := Scalar.cmpi .sge v2522 c1024_i32_1552
  let true_1554 : BitVec 1 := 1#1
  let v2525 : BitVec 1 := Scalar.xori v2523 true_1554
  let v2526 : BitVec 1 := Scalar.andi v2524 v2525
  let c896_i32_1562 : BitVec 32 := 896#32
  let v2541 : BitVec 1 := Scalar.cmpi .sgt v2522 c896_i32_1562
  let v2542 : BitVec 1 := Scalar.andi v2526 v2541
  let v2543 : BitVec 32 := Scalar.extui v2542
  let c0_i32_1563 : BitVec 32 := 0#32
  let v2544 : BitVec 1 := Scalar.cmpi .ne v2543 c0_i32_1563
  v2544

def k0_off310 (v2520 : BitVec 32) : Fin 2 → Nat :=
  let c896_i32_1732 : BitVec 32 := 896#32
  let v2752 : BitVec 32 := Scalar.addi v2520 c896_i32_1732
  let v2753 : BitVec 32 := v2752
  let c0_i32_1737 : BitVec 32 := 0#32
  ![v2753.toNat, 0]

def k0_chk62 (v2520 : BitVec 32) (v2521 : BitVec 32) : Prop :=
  (∀ (k0_h393 : k0_cond393 v2520 v2521 = 1#1), 128 ∣ (k0_mult306 v2520).toNat) ∧
  (∀ (k0_h393 : k0_cond393 v2520 v2521 = 1#1), ∀ a, (k0_off306 v2520) a + S512x1024.size a ≤ S8192x1024.size a) ∧
  (∀ (k0_h394 : k0_cond394 v2520 v2521 = 1#1), 128 ∣ (k0_mult307 v2520).toNat) ∧
  (∀ (k0_h394 : k0_cond394 v2520 v2521 = 1#1), ∀ a, (k0_off307 v2520) a + S128x1024.size a ≤ S8192x1024.size a) ∧
  (∀ (k0_h395 : k0_cond395 v2520 v2521 = 1#1), 128 ∣ (k0_mult308 v2520).toNat) ∧
  (∀ (k0_h395 : k0_cond395 v2520 v2521 = 1#1), ∀ a, (k0_off308 v2520) a + S128x1024.size a ≤ S8192x1024.size a) ∧
  (∀ (k0_h396 : k0_cond396 v2520 v2521 = 1#1), 128 ∣ (k0_mult309 v2520).toNat) ∧
  (∀ (k0_h396 : k0_cond396 v2520 v2521 = 1#1), ∀ a, (k0_off309 v2520) a + S128x1024.size a ≤ S8192x1024.size a) ∧
  (∀ (k0_h397 : k0_cond397 v2520 v2521 = 1#1), 128 ∣ (k0_mult310 v2520).toNat) ∧
  (∀ (k0_h397 : k0_cond397 v2520 v2521 = 1#1), ∀ a, (k0_off310 v2520) a + S128x1024.size a ≤ S8192x1024.size a)
theorem k0_mult306_dvd : ∀ (v2520 : BitVec 32) (v2521 : BitVec 32) (k0_hw62 : k0_chk62 v2520 v2521), ∀ (k0_h393 : k0_cond393 v2520 v2521 = 1#1), 128 ∣ (k0_mult306 v2520).toNat := fun v2520 v2521 k0_hw62 k0_h393 => k0_hw62.1 k0_h393
theorem k0_off306_inb : ∀ (v2520 : BitVec 32) (v2521 : BitVec 32) (k0_hw62 : k0_chk62 v2520 v2521), ∀ (k0_h393 : k0_cond393 v2520 v2521 = 1#1), ∀ a, (k0_off306 v2520) a + S512x1024.size a ≤ S8192x1024.size a := fun v2520 v2521 k0_hw62 k0_h393 => k0_hw62.2.1 k0_h393
theorem k0_mult307_dvd : ∀ (v2520 : BitVec 32) (v2521 : BitVec 32) (k0_hw62 : k0_chk62 v2520 v2521), ∀ (k0_h394 : k0_cond394 v2520 v2521 = 1#1), 128 ∣ (k0_mult307 v2520).toNat := fun v2520 v2521 k0_hw62 k0_h394 => k0_hw62.2.2.1 k0_h394
theorem k0_off307_inb : ∀ (v2520 : BitVec 32) (v2521 : BitVec 32) (k0_hw62 : k0_chk62 v2520 v2521), ∀ (k0_h394 : k0_cond394 v2520 v2521 = 1#1), ∀ a, (k0_off307 v2520) a + S128x1024.size a ≤ S8192x1024.size a := fun v2520 v2521 k0_hw62 k0_h394 => k0_hw62.2.2.2.1 k0_h394
theorem k0_mult308_dvd : ∀ (v2520 : BitVec 32) (v2521 : BitVec 32) (k0_hw62 : k0_chk62 v2520 v2521), ∀ (k0_h395 : k0_cond395 v2520 v2521 = 1#1), 128 ∣ (k0_mult308 v2520).toNat := fun v2520 v2521 k0_hw62 k0_h395 => k0_hw62.2.2.2.2.1 k0_h395
theorem k0_off308_inb : ∀ (v2520 : BitVec 32) (v2521 : BitVec 32) (k0_hw62 : k0_chk62 v2520 v2521), ∀ (k0_h395 : k0_cond395 v2520 v2521 = 1#1), ∀ a, (k0_off308 v2520) a + S128x1024.size a ≤ S8192x1024.size a := fun v2520 v2521 k0_hw62 k0_h395 => k0_hw62.2.2.2.2.2.1 k0_h395
theorem k0_mult309_dvd : ∀ (v2520 : BitVec 32) (v2521 : BitVec 32) (k0_hw62 : k0_chk62 v2520 v2521), ∀ (k0_h396 : k0_cond396 v2520 v2521 = 1#1), 128 ∣ (k0_mult309 v2520).toNat := fun v2520 v2521 k0_hw62 k0_h396 => k0_hw62.2.2.2.2.2.2.1 k0_h396
theorem k0_off309_inb : ∀ (v2520 : BitVec 32) (v2521 : BitVec 32) (k0_hw62 : k0_chk62 v2520 v2521), ∀ (k0_h396 : k0_cond396 v2520 v2521 = 1#1), ∀ a, (k0_off309 v2520) a + S128x1024.size a ≤ S8192x1024.size a := fun v2520 v2521 k0_hw62 k0_h396 => k0_hw62.2.2.2.2.2.2.2.1 k0_h396
theorem k0_mult310_dvd : ∀ (v2520 : BitVec 32) (v2521 : BitVec 32) (k0_hw62 : k0_chk62 v2520 v2521), ∀ (k0_h397 : k0_cond397 v2520 v2521 = 1#1), 128 ∣ (k0_mult310 v2520).toNat := fun v2520 v2521 k0_hw62 k0_h397 => k0_hw62.2.2.2.2.2.2.2.2.1 k0_h397
theorem k0_off310_inb : ∀ (v2520 : BitVec 32) (v2521 : BitVec 32) (k0_hw62 : k0_chk62 v2520 v2521), ∀ (k0_h397 : k0_cond397 v2520 v2521 = 1#1), ∀ a, (k0_off310 v2520) a + S128x1024.size a ≤ S8192x1024.size a := fun v2520 v2521 k0_hw62 k0_h397 => k0_hw62.2.2.2.2.2.2.2.2.2 k0_h397

def k0_mult311 (v2581 : BitVec 32) : BitVec 32 :=
  let c1024_i32_1732 : BitVec 32 := 1024#32
  let v2752 : BitVec 32 := Scalar.addi v2581 c1024_i32_1732
  v2752
def k0_cond401 (v2581 : BitVec 32) (v2582 : BitVec 32) : BitVec 1 :=
  let v2583 : BitVec 32 := Scalar.subi v2582 v2581
  let c1536_i32_1593 : BitVec 32 := 1536#32
  let v2584 : BitVec 1 := Scalar.cmpi .sge v2583 c1536_i32_1593
  let v2588 : BitVec 32 := Scalar.extui v2584
  let c0_i32_1596 : BitVec 32 := 0#32
  let v2589 : BitVec 1 := Scalar.cmpi .ne v2588 c0_i32_1596
  v2589

def k0_off311 (v2581 : BitVec 32) : Fin 2 → Nat :=
  let c1024_i32_1732 : BitVec 32 := 1024#32
  let v2752 : BitVec 32 := Scalar.addi v2581 c1024_i32_1732
  let v2753 : BitVec 32 := v2752
  let c0_i32_1737 : BitVec 32 := 0#32
  ![v2753.toNat, 0]
def k0_mult312 (v2581 : BitVec 32) : BitVec 32 :=
  let c1024_i32_1732 : BitVec 32 := 1024#32
  let v2752 : BitVec 32 := Scalar.addi v2581 c1024_i32_1732
  v2752
def k0_cond402 (v2581 : BitVec 32) (v2582 : BitVec 32) : BitVec 1 :=
  let v2583 : BitVec 32 := Scalar.subi v2582 v2581
  let c1024_i32_1594 : BitVec 32 := 1024#32
  let v2585 : BitVec 1 := Scalar.cmpi .sgt v2583 c1024_i32_1594
  let c1536_i32_1593 : BitVec 32 := 1536#32
  let v2584 : BitVec 1 := Scalar.cmpi .sge v2583 c1536_i32_1593
  let true_1595 : BitVec 1 := 1#1
  let v2586 : BitVec 1 := Scalar.xori v2584 true_1595
  let v2587 : BitVec 1 := Scalar.andi v2585 v2586
  let c1024_i32_1597 : BitVec 32 := 1024#32
  let v2590 : BitVec 1 := Scalar.cmpi .sgt v2583 c1024_i32_1597
  let v2591 : BitVec 1 := Scalar.andi v2587 v2590
  let v2592 : BitVec 32 := Scalar.extui v2591
  let c0_i32_1598 : BitVec 32 := 0#32
  let v2593 : BitVec 1 := Scalar.cmpi .ne v2592 c0_i32_1598
  v2593

def k0_off312 (v2581 : BitVec 32) : Fin 2 → Nat :=
  let c1024_i32_1732 : BitVec 32 := 1024#32
  let v2752 : BitVec 32 := Scalar.addi v2581 c1024_i32_1732
  let v2753 : BitVec 32 := v2752
  let c0_i32_1737 : BitVec 32 := 0#32
  ![v2753.toNat, 0]
def k0_mult313 (v2581 : BitVec 32) : BitVec 32 :=
  let c1152_i32_1732 : BitVec 32 := 1152#32
  let v2752 : BitVec 32 := Scalar.addi v2581 c1152_i32_1732
  v2752
def k0_cond403 (v2581 : BitVec 32) (v2582 : BitVec 32) : BitVec 1 :=
  let v2583 : BitVec 32 := Scalar.subi v2582 v2581
  let c1024_i32_1594 : BitVec 32 := 1024#32
  let v2585 : BitVec 1 := Scalar.cmpi .sgt v2583 c1024_i32_1594
  let c1536_i32_1593 : BitVec 32 := 1536#32
  let v2584 : BitVec 1 := Scalar.cmpi .sge v2583 c1536_i32_1593
  let true_1595 : BitVec 1 := 1#1
  let v2586 : BitVec 1 := Scalar.xori v2584 true_1595
  let v2587 : BitVec 1 := Scalar.andi v2585 v2586
  let c1152_i32_1599 : BitVec 32 := 1152#32
  let v2594 : BitVec 1 := Scalar.cmpi .sgt v2583 c1152_i32_1599
  let v2595 : BitVec 1 := Scalar.andi v2587 v2594
  let v2596 : BitVec 32 := Scalar.extui v2595
  let c0_i32_1600 : BitVec 32 := 0#32
  let v2597 : BitVec 1 := Scalar.cmpi .ne v2596 c0_i32_1600
  v2597

def k0_off313 (v2581 : BitVec 32) : Fin 2 → Nat :=
  let c1152_i32_1732 : BitVec 32 := 1152#32
  let v2752 : BitVec 32 := Scalar.addi v2581 c1152_i32_1732
  let v2753 : BitVec 32 := v2752
  let c0_i32_1737 : BitVec 32 := 0#32
  ![v2753.toNat, 0]
def k0_mult314 (v2581 : BitVec 32) : BitVec 32 :=
  let c1280_i32_1732 : BitVec 32 := 1280#32
  let v2752 : BitVec 32 := Scalar.addi v2581 c1280_i32_1732
  v2752
def k0_cond404 (v2581 : BitVec 32) (v2582 : BitVec 32) : BitVec 1 :=
  let v2583 : BitVec 32 := Scalar.subi v2582 v2581
  let c1024_i32_1594 : BitVec 32 := 1024#32
  let v2585 : BitVec 1 := Scalar.cmpi .sgt v2583 c1024_i32_1594
  let c1536_i32_1593 : BitVec 32 := 1536#32
  let v2584 : BitVec 1 := Scalar.cmpi .sge v2583 c1536_i32_1593
  let true_1595 : BitVec 1 := 1#1
  let v2586 : BitVec 1 := Scalar.xori v2584 true_1595
  let v2587 : BitVec 1 := Scalar.andi v2585 v2586
  let c1280_i32_1601 : BitVec 32 := 1280#32
  let v2598 : BitVec 1 := Scalar.cmpi .sgt v2583 c1280_i32_1601
  let v2599 : BitVec 1 := Scalar.andi v2587 v2598
  let v2600 : BitVec 32 := Scalar.extui v2599
  let c0_i32_1602 : BitVec 32 := 0#32
  let v2601 : BitVec 1 := Scalar.cmpi .ne v2600 c0_i32_1602
  v2601

def k0_off314 (v2581 : BitVec 32) : Fin 2 → Nat :=
  let c1280_i32_1732 : BitVec 32 := 1280#32
  let v2752 : BitVec 32 := Scalar.addi v2581 c1280_i32_1732
  let v2753 : BitVec 32 := v2752
  let c0_i32_1737 : BitVec 32 := 0#32
  ![v2753.toNat, 0]
def k0_mult315 (v2581 : BitVec 32) : BitVec 32 :=
  let c1408_i32_1732 : BitVec 32 := 1408#32
  let v2752 : BitVec 32 := Scalar.addi v2581 c1408_i32_1732
  v2752
def k0_cond405 (v2581 : BitVec 32) (v2582 : BitVec 32) : BitVec 1 :=
  let v2583 : BitVec 32 := Scalar.subi v2582 v2581
  let c1024_i32_1594 : BitVec 32 := 1024#32
  let v2585 : BitVec 1 := Scalar.cmpi .sgt v2583 c1024_i32_1594
  let c1536_i32_1593 : BitVec 32 := 1536#32
  let v2584 : BitVec 1 := Scalar.cmpi .sge v2583 c1536_i32_1593
  let true_1595 : BitVec 1 := 1#1
  let v2586 : BitVec 1 := Scalar.xori v2584 true_1595
  let v2587 : BitVec 1 := Scalar.andi v2585 v2586
  let c1408_i32_1603 : BitVec 32 := 1408#32
  let v2602 : BitVec 1 := Scalar.cmpi .sgt v2583 c1408_i32_1603
  let v2603 : BitVec 1 := Scalar.andi v2587 v2602
  let v2604 : BitVec 32 := Scalar.extui v2603
  let c0_i32_1604 : BitVec 32 := 0#32
  let v2605 : BitVec 1 := Scalar.cmpi .ne v2604 c0_i32_1604
  v2605

def k0_off315 (v2581 : BitVec 32) : Fin 2 → Nat :=
  let c1408_i32_1732 : BitVec 32 := 1408#32
  let v2752 : BitVec 32 := Scalar.addi v2581 c1408_i32_1732
  let v2753 : BitVec 32 := v2752
  let c0_i32_1737 : BitVec 32 := 0#32
  ![v2753.toNat, 0]

def k0_chk63 (v2581 : BitVec 32) (v2582 : BitVec 32) : Prop :=
  (∀ (k0_h401 : k0_cond401 v2581 v2582 = 1#1), 128 ∣ (k0_mult311 v2581).toNat) ∧
  (∀ (k0_h401 : k0_cond401 v2581 v2582 = 1#1), ∀ a, (k0_off311 v2581) a + S512x1024.size a ≤ S8192x1024.size a) ∧
  (∀ (k0_h402 : k0_cond402 v2581 v2582 = 1#1), 128 ∣ (k0_mult312 v2581).toNat) ∧
  (∀ (k0_h402 : k0_cond402 v2581 v2582 = 1#1), ∀ a, (k0_off312 v2581) a + S128x1024.size a ≤ S8192x1024.size a) ∧
  (∀ (k0_h403 : k0_cond403 v2581 v2582 = 1#1), 128 ∣ (k0_mult313 v2581).toNat) ∧
  (∀ (k0_h403 : k0_cond403 v2581 v2582 = 1#1), ∀ a, (k0_off313 v2581) a + S128x1024.size a ≤ S8192x1024.size a) ∧
  (∀ (k0_h404 : k0_cond404 v2581 v2582 = 1#1), 128 ∣ (k0_mult314 v2581).toNat) ∧
  (∀ (k0_h404 : k0_cond404 v2581 v2582 = 1#1), ∀ a, (k0_off314 v2581) a + S128x1024.size a ≤ S8192x1024.size a) ∧
  (∀ (k0_h405 : k0_cond405 v2581 v2582 = 1#1), 128 ∣ (k0_mult315 v2581).toNat) ∧
  (∀ (k0_h405 : k0_cond405 v2581 v2582 = 1#1), ∀ a, (k0_off315 v2581) a + S128x1024.size a ≤ S8192x1024.size a)
theorem k0_mult311_dvd : ∀ (v2581 : BitVec 32) (v2582 : BitVec 32) (k0_hw63 : k0_chk63 v2581 v2582), ∀ (k0_h401 : k0_cond401 v2581 v2582 = 1#1), 128 ∣ (k0_mult311 v2581).toNat := fun v2581 v2582 k0_hw63 k0_h401 => k0_hw63.1 k0_h401
theorem k0_off311_inb : ∀ (v2581 : BitVec 32) (v2582 : BitVec 32) (k0_hw63 : k0_chk63 v2581 v2582), ∀ (k0_h401 : k0_cond401 v2581 v2582 = 1#1), ∀ a, (k0_off311 v2581) a + S512x1024.size a ≤ S8192x1024.size a := fun v2581 v2582 k0_hw63 k0_h401 => k0_hw63.2.1 k0_h401
theorem k0_mult312_dvd : ∀ (v2581 : BitVec 32) (v2582 : BitVec 32) (k0_hw63 : k0_chk63 v2581 v2582), ∀ (k0_h402 : k0_cond402 v2581 v2582 = 1#1), 128 ∣ (k0_mult312 v2581).toNat := fun v2581 v2582 k0_hw63 k0_h402 => k0_hw63.2.2.1 k0_h402
theorem k0_off312_inb : ∀ (v2581 : BitVec 32) (v2582 : BitVec 32) (k0_hw63 : k0_chk63 v2581 v2582), ∀ (k0_h402 : k0_cond402 v2581 v2582 = 1#1), ∀ a, (k0_off312 v2581) a + S128x1024.size a ≤ S8192x1024.size a := fun v2581 v2582 k0_hw63 k0_h402 => k0_hw63.2.2.2.1 k0_h402
theorem k0_mult313_dvd : ∀ (v2581 : BitVec 32) (v2582 : BitVec 32) (k0_hw63 : k0_chk63 v2581 v2582), ∀ (k0_h403 : k0_cond403 v2581 v2582 = 1#1), 128 ∣ (k0_mult313 v2581).toNat := fun v2581 v2582 k0_hw63 k0_h403 => k0_hw63.2.2.2.2.1 k0_h403
theorem k0_off313_inb : ∀ (v2581 : BitVec 32) (v2582 : BitVec 32) (k0_hw63 : k0_chk63 v2581 v2582), ∀ (k0_h403 : k0_cond403 v2581 v2582 = 1#1), ∀ a, (k0_off313 v2581) a + S128x1024.size a ≤ S8192x1024.size a := fun v2581 v2582 k0_hw63 k0_h403 => k0_hw63.2.2.2.2.2.1 k0_h403
theorem k0_mult314_dvd : ∀ (v2581 : BitVec 32) (v2582 : BitVec 32) (k0_hw63 : k0_chk63 v2581 v2582), ∀ (k0_h404 : k0_cond404 v2581 v2582 = 1#1), 128 ∣ (k0_mult314 v2581).toNat := fun v2581 v2582 k0_hw63 k0_h404 => k0_hw63.2.2.2.2.2.2.1 k0_h404
theorem k0_off314_inb : ∀ (v2581 : BitVec 32) (v2582 : BitVec 32) (k0_hw63 : k0_chk63 v2581 v2582), ∀ (k0_h404 : k0_cond404 v2581 v2582 = 1#1), ∀ a, (k0_off314 v2581) a + S128x1024.size a ≤ S8192x1024.size a := fun v2581 v2582 k0_hw63 k0_h404 => k0_hw63.2.2.2.2.2.2.2.1 k0_h404
theorem k0_mult315_dvd : ∀ (v2581 : BitVec 32) (v2582 : BitVec 32) (k0_hw63 : k0_chk63 v2581 v2582), ∀ (k0_h405 : k0_cond405 v2581 v2582 = 1#1), 128 ∣ (k0_mult315 v2581).toNat := fun v2581 v2582 k0_hw63 k0_h405 => k0_hw63.2.2.2.2.2.2.2.2.1 k0_h405
theorem k0_off315_inb : ∀ (v2581 : BitVec 32) (v2582 : BitVec 32) (k0_hw63 : k0_chk63 v2581 v2582), ∀ (k0_h405 : k0_cond405 v2581 v2582 = 1#1), ∀ a, (k0_off315 v2581) a + S128x1024.size a ≤ S8192x1024.size a := fun v2581 v2582 k0_hw63 k0_h405 => k0_hw63.2.2.2.2.2.2.2.2.2 k0_h405

def k0_mult316 (v2642 : BitVec 32) : BitVec 32 :=
  let c1536_i32_1732 : BitVec 32 := 1536#32
  let v2752 : BitVec 32 := Scalar.addi v2642 c1536_i32_1732
  v2752
def k0_cond409 (v2642 : BitVec 32) (v2643 : BitVec 32) : BitVec 1 :=
  let v2644 : BitVec 32 := Scalar.subi v2643 v2642
  let c2048_i32_1634 : BitVec 32 := 2048#32
  let v2645 : BitVec 1 := Scalar.cmpi .sge v2644 c2048_i32_1634
  let v2649 : BitVec 32 := Scalar.extui v2645
  let c0_i32_1637 : BitVec 32 := 0#32
  let v2650 : BitVec 1 := Scalar.cmpi .ne v2649 c0_i32_1637
  v2650

def k0_off316 (v2642 : BitVec 32) : Fin 2 → Nat :=
  let c1536_i32_1732 : BitVec 32 := 1536#32
  let v2752 : BitVec 32 := Scalar.addi v2642 c1536_i32_1732
  let v2753 : BitVec 32 := v2752
  let c0_i32_1737 : BitVec 32 := 0#32
  ![v2753.toNat, 0]
def k0_mult317 (v2642 : BitVec 32) : BitVec 32 :=
  let c1536_i32_1732 : BitVec 32 := 1536#32
  let v2752 : BitVec 32 := Scalar.addi v2642 c1536_i32_1732
  v2752
def k0_cond410 (v2642 : BitVec 32) (v2643 : BitVec 32) : BitVec 1 :=
  let v2644 : BitVec 32 := Scalar.subi v2643 v2642
  let c1536_i32_1635 : BitVec 32 := 1536#32
  let v2646 : BitVec 1 := Scalar.cmpi .sgt v2644 c1536_i32_1635
  let c2048_i32_1634 : BitVec 32 := 2048#32
  let v2645 : BitVec 1 := Scalar.cmpi .sge v2644 c2048_i32_1634
  let true_1636 : BitVec 1 := 1#1
  let v2647 : BitVec 1 := Scalar.xori v2645 true_1636
  let v2648 : BitVec 1 := Scalar.andi v2646 v2647
  let c1536_i32_1638 : BitVec 32 := 1536#32
  let v2651 : BitVec 1 := Scalar.cmpi .sgt v2644 c1536_i32_1638
  let v2652 : BitVec 1 := Scalar.andi v2648 v2651
  let v2653 : BitVec 32 := Scalar.extui v2652
  let c0_i32_1639 : BitVec 32 := 0#32
  let v2654 : BitVec 1 := Scalar.cmpi .ne v2653 c0_i32_1639
  v2654

def k0_off317 (v2642 : BitVec 32) : Fin 2 → Nat :=
  let c1536_i32_1732 : BitVec 32 := 1536#32
  let v2752 : BitVec 32 := Scalar.addi v2642 c1536_i32_1732
  let v2753 : BitVec 32 := v2752
  let c0_i32_1737 : BitVec 32 := 0#32
  ![v2753.toNat, 0]
def k0_mult318 (v2642 : BitVec 32) : BitVec 32 :=
  let c1664_i32_1732 : BitVec 32 := 1664#32
  let v2752 : BitVec 32 := Scalar.addi v2642 c1664_i32_1732
  v2752
def k0_cond411 (v2642 : BitVec 32) (v2643 : BitVec 32) : BitVec 1 :=
  let v2644 : BitVec 32 := Scalar.subi v2643 v2642
  let c1536_i32_1635 : BitVec 32 := 1536#32
  let v2646 : BitVec 1 := Scalar.cmpi .sgt v2644 c1536_i32_1635
  let c2048_i32_1634 : BitVec 32 := 2048#32
  let v2645 : BitVec 1 := Scalar.cmpi .sge v2644 c2048_i32_1634
  let true_1636 : BitVec 1 := 1#1
  let v2647 : BitVec 1 := Scalar.xori v2645 true_1636
  let v2648 : BitVec 1 := Scalar.andi v2646 v2647
  let c1664_i32_1640 : BitVec 32 := 1664#32
  let v2655 : BitVec 1 := Scalar.cmpi .sgt v2644 c1664_i32_1640
  let v2656 : BitVec 1 := Scalar.andi v2648 v2655
  let v2657 : BitVec 32 := Scalar.extui v2656
  let c0_i32_1641 : BitVec 32 := 0#32
  let v2658 : BitVec 1 := Scalar.cmpi .ne v2657 c0_i32_1641
  v2658

def k0_off318 (v2642 : BitVec 32) : Fin 2 → Nat :=
  let c1664_i32_1732 : BitVec 32 := 1664#32
  let v2752 : BitVec 32 := Scalar.addi v2642 c1664_i32_1732
  let v2753 : BitVec 32 := v2752
  let c0_i32_1737 : BitVec 32 := 0#32
  ![v2753.toNat, 0]
def k0_mult319 (v2642 : BitVec 32) : BitVec 32 :=
  let c1792_i32_1732 : BitVec 32 := 1792#32
  let v2752 : BitVec 32 := Scalar.addi v2642 c1792_i32_1732
  v2752
def k0_cond412 (v2642 : BitVec 32) (v2643 : BitVec 32) : BitVec 1 :=
  let v2644 : BitVec 32 := Scalar.subi v2643 v2642
  let c1536_i32_1635 : BitVec 32 := 1536#32
  let v2646 : BitVec 1 := Scalar.cmpi .sgt v2644 c1536_i32_1635
  let c2048_i32_1634 : BitVec 32 := 2048#32
  let v2645 : BitVec 1 := Scalar.cmpi .sge v2644 c2048_i32_1634
  let true_1636 : BitVec 1 := 1#1
  let v2647 : BitVec 1 := Scalar.xori v2645 true_1636
  let v2648 : BitVec 1 := Scalar.andi v2646 v2647
  let c1792_i32_1642 : BitVec 32 := 1792#32
  let v2659 : BitVec 1 := Scalar.cmpi .sgt v2644 c1792_i32_1642
  let v2660 : BitVec 1 := Scalar.andi v2648 v2659
  let v2661 : BitVec 32 := Scalar.extui v2660
  let c0_i32_1643 : BitVec 32 := 0#32
  let v2662 : BitVec 1 := Scalar.cmpi .ne v2661 c0_i32_1643
  v2662

def k0_off319 (v2642 : BitVec 32) : Fin 2 → Nat :=
  let c1792_i32_1732 : BitVec 32 := 1792#32
  let v2752 : BitVec 32 := Scalar.addi v2642 c1792_i32_1732
  let v2753 : BitVec 32 := v2752
  let c0_i32_1737 : BitVec 32 := 0#32
  ![v2753.toNat, 0]
def k0_mult320 (v2642 : BitVec 32) : BitVec 32 :=
  let c1920_i32_1732 : BitVec 32 := 1920#32
  let v2752 : BitVec 32 := Scalar.addi v2642 c1920_i32_1732
  v2752
def k0_cond413 (v2642 : BitVec 32) (v2643 : BitVec 32) : BitVec 1 :=
  let v2644 : BitVec 32 := Scalar.subi v2643 v2642
  let c1536_i32_1635 : BitVec 32 := 1536#32
  let v2646 : BitVec 1 := Scalar.cmpi .sgt v2644 c1536_i32_1635
  let c2048_i32_1634 : BitVec 32 := 2048#32
  let v2645 : BitVec 1 := Scalar.cmpi .sge v2644 c2048_i32_1634
  let true_1636 : BitVec 1 := 1#1
  let v2647 : BitVec 1 := Scalar.xori v2645 true_1636
  let v2648 : BitVec 1 := Scalar.andi v2646 v2647
  let c1920_i32_1644 : BitVec 32 := 1920#32
  let v2663 : BitVec 1 := Scalar.cmpi .sgt v2644 c1920_i32_1644
  let v2664 : BitVec 1 := Scalar.andi v2648 v2663
  let v2665 : BitVec 32 := Scalar.extui v2664
  let c0_i32_1645 : BitVec 32 := 0#32
  let v2666 : BitVec 1 := Scalar.cmpi .ne v2665 c0_i32_1645
  v2666

def k0_off320 (v2642 : BitVec 32) : Fin 2 → Nat :=
  let c1920_i32_1732 : BitVec 32 := 1920#32
  let v2752 : BitVec 32 := Scalar.addi v2642 c1920_i32_1732
  let v2753 : BitVec 32 := v2752
  let c0_i32_1737 : BitVec 32 := 0#32
  ![v2753.toNat, 0]

def k0_chk64 (v2642 : BitVec 32) (v2643 : BitVec 32) : Prop :=
  (∀ (k0_h409 : k0_cond409 v2642 v2643 = 1#1), 128 ∣ (k0_mult316 v2642).toNat) ∧
  (∀ (k0_h409 : k0_cond409 v2642 v2643 = 1#1), ∀ a, (k0_off316 v2642) a + S512x1024.size a ≤ S8192x1024.size a) ∧
  (∀ (k0_h410 : k0_cond410 v2642 v2643 = 1#1), 128 ∣ (k0_mult317 v2642).toNat) ∧
  (∀ (k0_h410 : k0_cond410 v2642 v2643 = 1#1), ∀ a, (k0_off317 v2642) a + S128x1024.size a ≤ S8192x1024.size a) ∧
  (∀ (k0_h411 : k0_cond411 v2642 v2643 = 1#1), 128 ∣ (k0_mult318 v2642).toNat) ∧
  (∀ (k0_h411 : k0_cond411 v2642 v2643 = 1#1), ∀ a, (k0_off318 v2642) a + S128x1024.size a ≤ S8192x1024.size a) ∧
  (∀ (k0_h412 : k0_cond412 v2642 v2643 = 1#1), 128 ∣ (k0_mult319 v2642).toNat) ∧
  (∀ (k0_h412 : k0_cond412 v2642 v2643 = 1#1), ∀ a, (k0_off319 v2642) a + S128x1024.size a ≤ S8192x1024.size a) ∧
  (∀ (k0_h413 : k0_cond413 v2642 v2643 = 1#1), 128 ∣ (k0_mult320 v2642).toNat) ∧
  (∀ (k0_h413 : k0_cond413 v2642 v2643 = 1#1), ∀ a, (k0_off320 v2642) a + S128x1024.size a ≤ S8192x1024.size a)
theorem k0_mult316_dvd : ∀ (v2642 : BitVec 32) (v2643 : BitVec 32) (k0_hw64 : k0_chk64 v2642 v2643), ∀ (k0_h409 : k0_cond409 v2642 v2643 = 1#1), 128 ∣ (k0_mult316 v2642).toNat := fun v2642 v2643 k0_hw64 k0_h409 => k0_hw64.1 k0_h409
theorem k0_off316_inb : ∀ (v2642 : BitVec 32) (v2643 : BitVec 32) (k0_hw64 : k0_chk64 v2642 v2643), ∀ (k0_h409 : k0_cond409 v2642 v2643 = 1#1), ∀ a, (k0_off316 v2642) a + S512x1024.size a ≤ S8192x1024.size a := fun v2642 v2643 k0_hw64 k0_h409 => k0_hw64.2.1 k0_h409
theorem k0_mult317_dvd : ∀ (v2642 : BitVec 32) (v2643 : BitVec 32) (k0_hw64 : k0_chk64 v2642 v2643), ∀ (k0_h410 : k0_cond410 v2642 v2643 = 1#1), 128 ∣ (k0_mult317 v2642).toNat := fun v2642 v2643 k0_hw64 k0_h410 => k0_hw64.2.2.1 k0_h410
theorem k0_off317_inb : ∀ (v2642 : BitVec 32) (v2643 : BitVec 32) (k0_hw64 : k0_chk64 v2642 v2643), ∀ (k0_h410 : k0_cond410 v2642 v2643 = 1#1), ∀ a, (k0_off317 v2642) a + S128x1024.size a ≤ S8192x1024.size a := fun v2642 v2643 k0_hw64 k0_h410 => k0_hw64.2.2.2.1 k0_h410
theorem k0_mult318_dvd : ∀ (v2642 : BitVec 32) (v2643 : BitVec 32) (k0_hw64 : k0_chk64 v2642 v2643), ∀ (k0_h411 : k0_cond411 v2642 v2643 = 1#1), 128 ∣ (k0_mult318 v2642).toNat := fun v2642 v2643 k0_hw64 k0_h411 => k0_hw64.2.2.2.2.1 k0_h411
theorem k0_off318_inb : ∀ (v2642 : BitVec 32) (v2643 : BitVec 32) (k0_hw64 : k0_chk64 v2642 v2643), ∀ (k0_h411 : k0_cond411 v2642 v2643 = 1#1), ∀ a, (k0_off318 v2642) a + S128x1024.size a ≤ S8192x1024.size a := fun v2642 v2643 k0_hw64 k0_h411 => k0_hw64.2.2.2.2.2.1 k0_h411
theorem k0_mult319_dvd : ∀ (v2642 : BitVec 32) (v2643 : BitVec 32) (k0_hw64 : k0_chk64 v2642 v2643), ∀ (k0_h412 : k0_cond412 v2642 v2643 = 1#1), 128 ∣ (k0_mult319 v2642).toNat := fun v2642 v2643 k0_hw64 k0_h412 => k0_hw64.2.2.2.2.2.2.1 k0_h412
theorem k0_off319_inb : ∀ (v2642 : BitVec 32) (v2643 : BitVec 32) (k0_hw64 : k0_chk64 v2642 v2643), ∀ (k0_h412 : k0_cond412 v2642 v2643 = 1#1), ∀ a, (k0_off319 v2642) a + S128x1024.size a ≤ S8192x1024.size a := fun v2642 v2643 k0_hw64 k0_h412 => k0_hw64.2.2.2.2.2.2.2.1 k0_h412
theorem k0_mult320_dvd : ∀ (v2642 : BitVec 32) (v2643 : BitVec 32) (k0_hw64 : k0_chk64 v2642 v2643), ∀ (k0_h413 : k0_cond413 v2642 v2643 = 1#1), 128 ∣ (k0_mult320 v2642).toNat := fun v2642 v2643 k0_hw64 k0_h413 => k0_hw64.2.2.2.2.2.2.2.2.1 k0_h413
theorem k0_off320_inb : ∀ (v2642 : BitVec 32) (v2643 : BitVec 32) (k0_hw64 : k0_chk64 v2642 v2643), ∀ (k0_h413 : k0_cond413 v2642 v2643 = 1#1), ∀ a, (k0_off320 v2642) a + S128x1024.size a ≤ S8192x1024.size a := fun v2642 v2643 k0_hw64 k0_h413 => k0_hw64.2.2.2.2.2.2.2.2.2 k0_h413

abbrev stage0_0 : Fin 1 → Memref sig .tc .smem S9 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x1024 : Shape := ⟨2, ![8192, 1024]⟩
abbrev S9 : Shape := ⟨1, ![9]⟩
abbrev S1024x1024 : Shape := ⟨2, ![1024, 1024]⟩
abbrev S1024 : Shape := ⟨1, ![1024]⟩
abbrev S1x1024 : Shape := ⟨2, ![1, 1024]⟩
abbrev S8192 : Shape := ⟨1, ![8192]⟩
abbrev S1x9 : Shape := ⟨2, ![1, 9]⟩
abbrev S8192x1 : Shape := ⟨2, ![8192, 1]⟩
abbrev S8192x9 : Shape := ⟨2, ![8192, 9]⟩
abbrev S_ : Shape := ⟨0, ![]⟩
abbrev S8x2048x1024 : Shape := ⟨3, ![8, 2048, 1024]⟩
abbrev S8192x2 : Shape := ⟨2, ![8192, 2]⟩
abbrev S8x2048 : Shape := ⟨2, ![8, 2048]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S9, .i32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192, .i32⟩
  | .hbm, ⟨9, _⟩ => ⟨S1x9, .i32⟩
  | .hbm, ⟨10, _⟩ => ⟨S8192x1, .i32⟩
  | .hbm, ⟨11, _⟩ => ⟨S8192x9, .i32⟩
  | .hbm, ⟨12, _⟩ => ⟨S8192x9, .i32⟩
  | .hbm, ⟨13, _⟩ => ⟨S8192x9, .i1⟩
  | .hbm, ⟨14, _⟩ => ⟨S8192x9, .i32⟩
  | .hbm, ⟨15, _⟩ => ⟨S_, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192x1, .i32⟩
  | .hbm, ⟨36, _⟩ => ⟨S8192, .i32⟩
  | .hbm, ⟨37, _⟩ => ⟨S8192, .i32⟩
  | .hbm, ⟨38, _⟩ => ⟨S_, .f32⟩
  | .hbm, ⟨39, _⟩ => ⟨S8x2048x1024, .f32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S8192, .i32⟩
  | .hbm, ⟨54, _⟩ => ⟨S8192x1, .i32⟩
  | .hbm, ⟨55, _⟩ => ⟨S8192x1, .i32⟩
  | .hbm, ⟨56, _⟩ => ⟨S8192x2, .i32⟩
  | .hbm, ⟨57, _⟩ => ⟨S8x2048x1024, .f32⟩
  | .hbm, ⟨58, _⟩ => ⟨S_, .i1⟩
  | .hbm, ⟨59, _⟩ => ⟨S8x2048, .i1⟩
  | .hbm, ⟨60, _⟩ => ⟨S_, .i32⟩
  | .hbm, ⟨61, _⟩ => ⟨S8192, .i32⟩
  | .hbm, ⟨62, _⟩ => ⟨S8192, .i1⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S8192, .i32⟩
  | .hbm, ⟨67, _⟩ => ⟨S_, .i32⟩
  | .hbm, ⟨68, _⟩ => ⟨S8192, .i32⟩
  | .hbm, ⟨69, _⟩ => ⟨S8192, .i1⟩
  | .hbm, ⟨70, _⟩ => ⟨S_, .i32⟩
  | .hbm, ⟨71, _⟩ => ⟨S8192, .i32⟩
  | .hbm, ⟨72, _⟩ => ⟨S8192, .i32⟩
  | .hbm, ⟨73, _⟩ => ⟨S8192, .i32⟩
  | .hbm, ⟨74, _⟩ => ⟨S8192x1, .i32⟩
  | .hbm, ⟨75, _⟩ => ⟨S8192x1, .i32⟩
  | .hbm, ⟨76, _⟩ => ⟨S8192x2, .i32⟩
  | .hbm, ⟨77, _⟩ => ⟨S_, .i1⟩
  | .hbm, ⟨78, _⟩ => ⟨S8192, .i1⟩
  | .hbm, ⟨79, _⟩ => ⟨S8x2048, .i1⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_c_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_c_10 : Ref sig .tc := ⟨.hbm, 60, rfl⟩
abbrev main_v39 : Ref sig .tc := ⟨.hbm, 61, rfl⟩
abbrev main_v40 : Ref sig .tc := ⟨.hbm, 62, rfl⟩
abbrev main_c_11 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_12 : Ref sig .tc := ⟨.hbm, 67, rfl⟩
abbrev main_v44 : Ref sig .tc := ⟨.hbm, 68, rfl⟩
abbrev main_v45 : Ref sig .tc := ⟨.hbm, 69, rfl⟩
abbrev main_c_13 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_14 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]
-- ==== Proof.Words.lean ====
/-
  The table's words: which of the copies of a supertile the kernel's conditions select, and where
  those copies read, for a table whose documents end on multiples of 128.
-/
module

public import proofs.«01_k».proof.KernelIdeal
public import Idealize.ShloMosaic.Lib.WordCmp

@[expose] public section

namespace Cert.KernelIdeal.Hand

open Cert.KernelIdeal
open Idealize.ShloMosaic

/-- The table of document ends: nine words from 0 to 8192, ascending by at most 2048, each a
    multiple of 128. -/
structure Tab (w : ℕ → BitVec 32) : Prop where
  first : (w 0).toNat = 0
  last : (w 8).toNat = 8192
  mono : ∀ i < 8, (w i).toNat ≤ (w (i + 1)).toNat
  room : ∀ i < 8, (w (i + 1)).toNat - (w i).toNat ≤ 2048
  tile : ∀ i ≤ 8, 128 ∣ (w i).toNat

/-- The number of rows of supertile `k` and after it in its document. -/
def left (w : ℕ → BitVec 32) (k : ℕ) : ℕ := (w (k / 4 + 1)).toNat - (w (k / 4)).toNat - 512 * (k % 4)

/-- How many of supertile `k`'s four 128-row tiles are rows of the document. -/
def nt (w : ℕ → BitVec 32) (k : ℕ) : ℕ := min 4 (left w k / 128)

/-- The first row of the flat array that supertile `k` reads. -/
def start (w : ℕ → BitVec 32) (k : ℕ) : ℕ := (w (k / 4)).toNat + 512 * (k % 4)

/-- Whether supertile `j` of a document is full, as the kernel computes it. -/
def condFull (j : ℕ) (v0 v1 : BitVec 32) : BitVec 1 :=
  Scalar.cmpi .ne (Scalar.extui (Scalar.cmpi .sge (Scalar.subi v1 v0) (BitVec.ofNat 32 (512 * (j + 1))))) 0#32

/-- Whether supertile `j` of a document holds some of its rows and some past its end, as the kernel computes it. -/
def partBit (j : ℕ) (v0 v1 : BitVec 32) : BitVec 1 :=
  Scalar.andi (Scalar.cmpi .sgt (Scalar.subi v1 v0) (BitVec.ofNat 32 (512 * j)))
    (Scalar.xori (Scalar.cmpi .sge (Scalar.subi v1 v0) (BitVec.ofNat 32 (512 * (j + 1)))) 1#1)

def condPart (j : ℕ) (v0 v1 : BitVec 32) : BitVec 1 :=
  Scalar.cmpi .ne (Scalar.extui (partBit j v0 v1)) 0#32

/-- Whether supertile `j` of a document holds none of its rows, as the kernel computes it. -/
def condNone (j : ℕ) (v0 v1 : BitVec 32) : BitVec 1 :=
  Scalar.cmpi .ne (Scalar.extui (Scalar.xori (Scalar.cmpi .sgt (Scalar.subi v1 v0) (BitVec.ofNat 32 (512 * j))) 1#1)) 0#32

/-- Whether tile `t` of a partial supertile `j` is copied, as the kernel computes it. -/
def condTile (j t : ℕ) (v0 v1 : BitVec 32) : BitVec 1 :=
  Scalar.cmpi .ne (Scalar.extui (Scalar.andi (partBit j v0 v1)
    (Scalar.cmpi .sgt (Scalar.subi v1 v0) (BitVec.ofNat 32 (512 * j + 128 * t))))) 0#32

/-- Where a copy of supertile `j` starting at its row `r` reads. -/
def offR (n : ℕ) (v0 : BitVec 32) : Fin 2 → ℕ := ![(Scalar.addi v0 (BitVec.ofNat 32 n)).toNat, 0]

/-- What the kernel checks before a supertile's copies: every address a multiple of 128, every copy inside the array. -/
def chk (j : ℕ) (v0 v1 : BitVec 32) : Prop :=
  (∀ _ : condFull j v0 v1 = 1#1, 128 ∣ (Scalar.addi v0 (BitVec.ofNat 32 (512 * j))).toNat) ∧
  (∀ _ : condFull j v0 v1 = 1#1, ∀ a, offR (512 * j) v0 a + S512x1024.size a ≤ S8192x1024.size a) ∧
  (∀ _ : condTile j 0 v0 v1 = 1#1, 128 ∣ (Scalar.addi v0 (BitVec.ofNat 32 (512 * j + 128 * 0))).toNat) ∧
  (∀ _ : condTile j 0 v0 v1 = 1#1, ∀ a, offR (512 * j + 128 * 0) v0 a + S128x1024.size a ≤ S8192x1024.size a) ∧
  (∀ _ : condTile j 1 v0 v1 = 1#1, 128 ∣ (Scalar.addi v0 (BitVec.ofNat 32 (512 * j + 128 * 1))).toNat) ∧
  (∀ _ : condTile j 1 v0 v1 = 1#1, ∀ a, offR (512 * j + 128 * 1) v0 a + S128x1024.size a ≤ S8192x1024.size a) ∧
  (∀ _ : condTile j 2 v0 v1 = 1#1, 128 ∣ (Scalar.addi v0 (BitVec.ofNat 32 (512 * j + 128 * 2))).toNat) ∧
  (∀ _ : condTile j 2 v0 v1 = 1#1, ∀ a, offR (512 * j + 128 * 2) v0 a + S128x1024.size a ≤ S8192x1024.size a) ∧
  (∀ _ : condTile j 3 v0 v1 = 1#1, 128 ∣ (Scalar.addi v0 (BitVec.ofNat 32 (512 * j + 128 * 3))).toNat) ∧
  (∀ _ : condTile j 3 v0 v1 = 1#1, ∀ a, offR (512 * j + 128 * 3) v0 a + S128x1024.size a ≤ S8192x1024.size a)

theorem bit_ne (x : BitVec 1) : (Scalar.cmpi .ne (Scalar.extui x) 0#32 : BitVec 1) = x := by
  revert x; decide

theorem and_one (x y : BitVec 1) : Scalar.andi x y = 1#1 ↔ x = 1#1 ∧ y = 1#1 := by revert x y; decide
theorem xor_one (x : BitVec 1) : Scalar.xori x 1#1 = 1#1 ↔ ¬ x = 1#1 := by revert x; decide

theorem ofBool_one (p : Bool) : BitVec.ofBool p = 1#1 ↔ p = true := by cases p <;> decide

theorem sge_one (d : BitVec 32) (n : ℕ) (hd : d.toNat < 2147483648) (hn : n < 2147483648) :
    (Scalar.cmpi .sge d (BitVec.ofNat 32 n) : BitVec 1) = 1#1 ↔ n ≤ d.toNat := by
  have h := BitVec.toInt_eq_toNat_of_lt (x := d) (by omega)
  have h' := BitVec.toInt_eq_toNat_of_lt (x := BitVec.ofNat 32 n) (by rw [BitVec.toNat_ofNat]; omega)
  rw [BitVec.toNat_ofNat, Nat.mod_eq_of_lt (by omega)] at h'
  show BitVec.ofBool (decide ((BitVec.ofNat 32 n).toInt ≤ d.toInt)) = 1#1 ↔ _
  rw [ofBool_one, decide_eq_true_iff, h, h']; omega

theorem sgt_one (d : BitVec 32) (n : ℕ) (hd : d.toNat < 2147483648) (hn : n < 2147483648) :
    (Scalar.cmpi .sgt d (BitVec.ofNat 32 n) : BitVec 1) = 1#1 ↔ n < d.toNat := by
  have h := BitVec.toInt_eq_toNat_of_lt (x := d) (by omega)
  have h' := BitVec.toInt_eq_toNat_of_lt (x := BitVec.ofNat 32 n) (by rw [BitVec.toNat_ofNat]; omega)
  rw [BitVec.toNat_ofNat, Nat.mod_eq_of_lt (by omega)] at h'
  show BitVec.ofBool (decide ((BitVec.ofNat 32 n).toInt < d.toInt)) = 1#1 ↔ _
  rw [ofBool_one, decide_eq_true_iff, h, h']; omega

theorem sub_nat (v1 v0 : BitVec 32) (h : v0.toNat ≤ v1.toNat) : (Scalar.subi v1 v0).toNat = v1.toNat - v0.toNat := by
  show (v1 - v0).toNat = _
  rw [BitVec.toNat_sub]; have := v1.isLt; omega

theorem add_nat (v0 : BitVec 32) (n : ℕ) (h : v0.toNat + n < 4294967296) :
    (Scalar.addi v0 (BitVec.ofNat 32 n)).toNat = v0.toNat + n := by
  show (v0 + BitVec.ofNat 32 n).toNat = _
  rw [BitVec.toNat_add, BitVec.toNat_ofNat]; omega

section
variable {w : ℕ → BitVec 32} (hw : Tab w)
include hw

theorem Tab.le_of_le : ∀ n i, i + n = 8 → (w i).toNat ≤ 8192
  | 0, i, h => by have : i = 8 := by omega
                  subst this; exact hw.last.le
  | n + 1, i, h => (hw.mono i (by omega)).trans (Tab.le_of_le n (i + 1) (by omega))

theorem Tab.le (i : ℕ) (h : i ≤ 8) : (w i).toNat ≤ 8192 := hw.le_of_le (8 - i) i (by omega)

variable {k : ℕ} (hk : k < 32)
include hk

theorem diff_nat : (Scalar.subi (w (k / 4 + 1)) (w (k / 4))).toNat = (w (k / 4 + 1)).toNat - (w (k / 4)).toNat :=
  sub_nat _ _ (hw.mono _ (by omega))

theorem left_dvd : 128 ∣ (w (k / 4 + 1)).toNat - (w (k / 4)).toNat :=
  Nat.dvd_sub (hw.tile _ (by omega)) (hw.tile _ (by omega))

theorem condFull_iff : condFull (k % 4) (w (k / 4)) (w (k / 4 + 1)) = 1#1 ↔ nt w k = 4 := by
  have hd := diff_nat hw hk
  have hr := hw.room (k / 4) (by omega)
  unfold condFull nt left
  rw [bit_ne, sge_one (Scalar.subi (w (k / 4 + 1)) (w (k / 4))) (512 * (k % 4 + 1)) (by omega) (by omega), hd]; omega

theorem partBit_iff : partBit (k % 4) (w (k / 4)) (w (k / 4 + 1)) = 1#1 ↔ 0 < nt w k ∧ nt w k < 4 := by
  have hd := diff_nat hw hk
  have hr := hw.room (k / 4) (by omega)
  obtain ⟨q, hq⟩ := left_dvd hw hk
  unfold partBit nt left
  rw [and_one, xor_one, sge_one (Scalar.subi (w (k / 4 + 1)) (w (k / 4))) (512 * (k % 4 + 1)) (by omega) (by omega),
    sgt_one (Scalar.subi (w (k / 4 + 1)) (w (k / 4))) (512 * (k % 4)) (by omega) (by omega), hd]; omega

theorem condPart_iff : condPart (k % 4) (w (k / 4)) (w (k / 4 + 1)) = 1#1 ↔ 0 < nt w k ∧ nt w k < 4 := by
  unfold condPart; rw [bit_ne]; exact partBit_iff hw hk

theorem condNone_iff : condNone (k % 4) (w (k / 4)) (w (k / 4 + 1)) = 1#1 ↔ nt w k = 0 := by
  have hd := diff_nat hw hk
  have hr := hw.room (k / 4) (by omega)
  obtain ⟨q, hq⟩ := left_dvd hw hk
  unfold condNone nt left
  rw [bit_ne, xor_one, sgt_one (Scalar.subi (w (k / 4 + 1)) (w (k / 4))) (512 * (k % 4)) (by omega) (by omega), hd]; omega

theorem condTile_iff (t : ℕ) (ht : t < 4) :
    condTile (k % 4) t (w (k / 4)) (w (k / 4 + 1)) = 1#1 ↔ nt w k < 4 ∧ t < nt w k := by
  have hp := partBit_iff hw hk
  have hd := diff_nat hw hk
  have hr := hw.room (k / 4) (by omega)
  obtain ⟨q, hq⟩ := left_dvd hw hk
  unfold condTile
  rw [bit_ne, and_one, hp, sgt_one (Scalar.subi (w (k / 4 + 1)) (w (k / 4))) (512 * (k % 4) + 128 * t) (by omega) (by omega), hd]
  unfold nt left; omega

theorem off_nat (t : ℕ) (ht : t ≤ 4) :
    (Scalar.addi (w (k / 4)) (BitVec.ofNat 32 (512 * (k % 4) + 128 * t))).toNat = start w k + 128 * t := by
  have := hw.le (k / 4) (by omega)
  rw [add_nat _ _ (by omega)]; unfold start; omega

theorem start_add (t : ℕ) (h : t ≤ nt w k) (h0 : 0 < nt w k) : start w k + 128 * t ≤ (w (k / 4 + 1)).toNat := by
  have hm := hw.mono (k / 4) (by omega)
  unfold nt left at h h0; unfold start; omega

theorem start_le (t : ℕ) (h : t ≤ nt w k) (h0 : 0 < nt w k) : start w k + 128 * t ≤ 8192 :=
  (start_add hw hk t h h0).trans (hw.le _ (by omega))

theorem start_dvd : 128 ∣ start w k := by
  obtain ⟨q, hq⟩ := hw.tile (k / 4) (by omega)
  unfold start; omega

theorem off_full : offR (512 * (k % 4)) (w (k / 4)) = ![start w k, 0] := by
  have := off_nat hw hk 0 (by omega)
  unfold offR; rw [show 512 * (k % 4) = 512 * (k % 4) + 128 * 0 by omega, this]; simp

theorem off_tile (t : ℕ) (ht : t ≤ 4) : offR (512 * (k % 4) + 128 * t) (w (k / 4)) = ![start w k + 128 * t, 0] := by
  unfold offR; rw [off_nat hw hk t ht]

theorem inb_full (h : condFull (k % 4) (w (k / 4)) (w (k / 4 + 1)) = 1#1) (a : Fin 2) :
    offR (512 * (k % 4)) (w (k / 4)) a + S512x1024.size a ≤ S8192x1024.size a := by
  rw [off_full hw hk]
  have hn := (condFull_iff hw hk).1 h
  have := start_le hw hk 4 (by omega) (by omega)
  fin_cases a
  · show start w k + 512 ≤ 8192; omega
  · show 0 + 1024 ≤ 1024; omega

theorem inb_tile (t : ℕ) (ht : t < 4) (h : condTile (k % 4) t (w (k / 4)) (w (k / 4 + 1)) = 1#1) (a : Fin 2) :
    offR (512 * (k % 4) + 128 * t) (w (k / 4)) a + S128x1024.size a ≤ S8192x1024.size a := by
  rw [off_tile hw hk t (by omega)]
  have hn := (condTile_iff hw hk t ht).1 h
  have := start_le hw hk (t + 1) (by omega) (by omega)
  fin_cases a
  · show start w k + 128 * t + 128 ≤ 8192; omega
  · show 0 + 1024 ≤ 1024; omega

theorem chk_ok : chk (k % 4) (w (k / 4)) (w (k / 4 + 1)) := by
  have hs := start_dvd hw hk
  have h0 : 128 ∣ (Scalar.addi (w (k / 4)) (BitVec.ofNat 32 (512 * (k % 4)))).toNat := by
    have := off_nat hw hk 0 (by omega)
    rw [show 512 * (k % 4) = 512 * (k % 4) + 128 * 0 by omega, this]; omega
  have ht : ∀ t ≤ 4, 128 ∣ (Scalar.addi (w (k / 4)) (BitVec.ofNat 32 (512 * (k % 4) + 128 * t))).toNat := fun t h => by
    rw [off_nat hw hk t h]; omega
  exact ⟨fun _ => h0, inb_full hw hk, fun _ => ht 0 (by omega), inb_tile hw hk 0 (by omega),
    fun _ => ht 1 (by omega), inb_tile hw hk 1 (by omega), fun _ => ht 2 (by omega), inb_tile hw hk 2 (by omega),
    fun _ => ht 3 (by omega), inb_tile hw hk 3 (by omega)⟩

end

end Cert.KernelIdeal.Hand
-- ==== Proof.Geom.lean ====
/-
  The kernel's copies as sets of array elements: rows of the flat array, rows of a ring slot, a
  supertile of the result; and where each window's element lies.
-/
module

public import proofs.«01_k».proof.Proof.Words
public import Idealize.ShloMosaic.Lib.Exec.Geometry
public import Idealize.ShloMosaic.Lib.ValueLayout

@[expose] public section

noncomputable section

namespace Cert.KernelIdeal.Hand

open Cert.KernelIdeal
open Idealize.ShloMosaic Idealize.ShloMosaic.ValueIdx

/-- Rows `a ≤ r < b` of the flat array. -/
def frows (a b : ℕ) : Finset S8192x1024.Idx := Finset.univ.filter fun i => a ≤ (i 0).val ∧ (i 0).val < b
/-- Rows `a ≤ r < b` of slot `s` of a ring. -/
def slot (s a b : ℕ) : Finset S10x512x1024.Idx := Finset.univ.filter fun i => (i 0).val = s ∧ a ≤ (i 1).val ∧ (i 1).val < b
/-- Supertile `k` of the result. -/
def tset (k : ℕ) : Finset S8x2048x1024.Idx := Finset.univ.filter fun i => (i 0).val = k / 4 ∧ 512 * (k % 4) ≤ (i 1).val ∧ (i 1).val < 512 * (k % 4) + 512

theorem mem_frows {a b : ℕ} {i : S8192x1024.Idx} : i ∈ frows a b ↔ a ≤ (i 0).val ∧ (i 0).val < b := by simp [frows]
theorem mem_slot {s a b : ℕ} {i : S10x512x1024.Idx} : i ∈ slot s a b ↔ (i 0).val = s ∧ a ≤ (i 1).val ∧ (i 1).val < b := by simp [slot]
theorem mem_tset {k : ℕ} {i : S8x2048x1024.Idx} :
    i ∈ tset k ↔ (i 0).val = k / 4 ∧ 512 * (k % 4) ≤ (i 1).val ∧ (i 1).val < 512 * (k % 4) + 512 := by simp [tset]

/-- The window of `R` rows of a buffer of `S8192x1024` at row `a`. -/
abbrev fwin (R : ℕ) (off : Fin 2 → ℕ) (h : ∀ a, off a + (⟨2, ![R, 1024]⟩ : Shape).size a ≤ S8192x1024.size a) : Memref sig .tc .hbm ⟨2, ![R, 1024]⟩ .f32 :=
  (Memref.whole main_arg0 : Memref sig .tc .hbm S8192x1024 .f32).slice (Rect.unit (s := S8192x1024) off (⟨2, ![R, 1024]⟩ : Shape).size h) (fun _ => rfl)

theorem fwin_set (R a : ℕ) (h) : (fwin R ![a, 0] h).view.set = frows a (a + R) := by
  refine (View.set_slice_whole main_arg0 _).trans ?_
  ext i
  rw [Rect.mem_set_unit, mem_frows]
  constructor
  · intro H; exact H 0
  · intro H b
    fin_cases b
    · exact H
    · exact ⟨Nat.zero_le _, (Nat.zero_add 1024).symm ▸ (i 1).isLt⟩

theorem fwin_emb (R a : ℕ) (h) (j : (⟨2, ![R, 1024]⟩ : Shape).Idx) :
    (((fwin R ![a, 0] h).view.emb j 0 : Fin _) : ℕ) = a + (j 0).val ∧ (((fwin R ![a, 0] h).view.emb j 1 : Fin _) : ℕ) = (j 1).val := by
  constructor
  · show a + 1 * (j 0).val = _; omega
  · show 0 + 1 * (j 1).val = _; omega

/-- The window of `R` rows of slot `s` of a ring at row `a`. -/
abbrev xwin (b : Memref sig .tc .vmem S10x512x1024 .f32) (R s a : ℕ) (h : ∀ x, (![s, a, 0] : Fin 3 → ℕ) x + (⟨3, ![1, R, 1024]⟩ : Shape).size x ≤ S10x512x1024.size x)
    (hq : (⟨3, ![1, R, 1024]⟩ : Shape).Squeezes ⟨2, ![R, 1024]⟩) : Memref sig .tc .vmem ⟨2, ![R, 1024]⟩ .f32 :=
  (b.slice (Rect.unit (s := S10x512x1024) ![s, a, 0] (⟨3, ![1, R, 1024]⟩ : Shape).size h) (fun _ => rfl)).squeeze ⟨2, ![R, 1024]⟩ hq

theorem rect_slot (R s a : ℕ) (h : ∀ x, (![s, a, 0] : Fin 3 → ℕ) x + (⟨3, ![1, R, 1024]⟩ : Shape).size x ≤ S10x512x1024.size x) :
    (Rect.unit (s := S10x512x1024) ![s, a, 0] (⟨3, ![1, R, 1024]⟩ : Shape).size h).set = slot s a (a + R) := by
  ext i
  rw [Rect.mem_set_unit, mem_slot]
  constructor
  · intro H
    have h0 := H 0
    have h1 := H 1
    refine ⟨?_, h1⟩
    have h0' : s ≤ (i 0).val ∧ (i 0).val < s + 1 := h0
    omega
  · rintro ⟨H0, H1⟩ b
    fin_cases b
    · show s ≤ (i 0).val ∧ (i 0).val < s + 1; omega
    · exact H1
    · exact ⟨Nat.zero_le _, (Nat.zero_add 1024).symm ▸ (i 2).isLt⟩

theorem xwin_set0 (R s a : ℕ) (h hq) : (xwin (Memref.whole cc0_scratch0) R s a h hq).view.set = slot s a (a + R) :=
  (Memref.set_view_squeeze _ _).trans ((View.set_slice_whole cc0_scratch0 _).trans (rect_slot R s a h))
theorem xwin_set1 (R s a : ℕ) (h hq) : (xwin (Memref.whole cc0_scratch1) R s a h hq).view.set = slot s a (a + R) :=
  (Memref.set_view_squeeze _ _).trans ((View.set_slice_whole cc0_scratch1 _).trans (rect_slot R s a h))

theorem xwin_emb0 (R s a : ℕ) (h hq) (j : (⟨2, ![R, 1024]⟩ : Shape).Idx) :
    (((xwin (Memref.whole cc0_scratch0) R s a h hq).view.emb j 0 : Fin _) : ℕ) = s ∧ (((xwin (Memref.whole cc0_scratch0) R s a h hq).view.emb j 1 : Fin _) : ℕ) = a + (j 0).val
      ∧ (((xwin (Memref.whole cc0_scratch0) R s a h hq).view.emb j 2 : Fin _) : ℕ) = (j 1).val := by
  have e : (xwin (Memref.whole cc0_scratch0) R s a h hq).view.emb j
      = (Rect.unit (s := S10x512x1024) ![s, a, 0] (⟨3, ![1, R, 1024]⟩ : Shape).size h).emb (Shape.reshapeEquiv hq.numel_eq j) := rfl
  rw [e, Shape.reshapeEquiv_cons_one]
  refine ⟨?_, ?_, ?_⟩
  · show s + 1 * 0 = s; omega
  · show a + 1 * (j 0).val = _; omega
  · show 0 + 1 * (j 1).val = _; omega
theorem xwin_emb1 (R s a : ℕ) (h hq) (j : (⟨2, ![R, 1024]⟩ : Shape).Idx) :
    (((xwin (Memref.whole cc0_scratch1) R s a h hq).view.emb j 0 : Fin _) : ℕ) = s ∧ (((xwin (Memref.whole cc0_scratch1) R s a h hq).view.emb j 1 : Fin _) : ℕ) = a + (j 0).val
      ∧ (((xwin (Memref.whole cc0_scratch1) R s a h hq).view.emb j 2 : Fin _) : ℕ) = (j 1).val :=
  xwin_emb0 R s a h hq j

/-- The window of supertile `(p, a)` of the result. -/
abbrev twin (p a : ℕ) (h : ∀ x, (![p, a, 0] : Fin 3 → ℕ) x + S1x512x1024.size x ≤ S8x2048x1024.size x) (hq : S1x512x1024.Squeezes S512x1024) :
    Memref sig .tc .hbm S512x1024 .f32 :=
  ((Memref.whole main_v1_0 : Memref sig .tc .hbm S8x2048x1024 .f32).slice (Rect.unit (s := S8x2048x1024) ![p, a, 0] S1x512x1024.size h) (fun _ => rfl)).squeeze S512x1024 hq

theorem twin_set (k : ℕ) (h hq) : (twin (k / 4) (512 * (k % 4)) h hq).view.set = tset k := by
  refine (Memref.set_view_squeeze _ _).trans ((View.set_slice_whole main_v1_0 _).trans ?_)
  ext i
  rw [Rect.mem_set_unit, mem_tset]
  constructor
  · intro H
    have h0 : k / 4 ≤ (i 0).val ∧ (i 0).val < k / 4 + 1 := H 0
    exact ⟨by omega, H 1⟩
  · rintro ⟨H0, H1⟩ b
    fin_cases b
    · show k / 4 ≤ (i 0).val ∧ (i 0).val < k / 4 + 1; omega
    · exact H1
    · exact ⟨Nat.zero_le _, (Nat.zero_add 1024).symm ▸ (i 2).isLt⟩

theorem twin_emb (p a : ℕ) (h hq) (j : S512x1024.Idx) :
    (((twin p a h hq).view.emb j 0 : Fin _) : ℕ) = p ∧ (((twin p a h hq).view.emb j 1 : Fin _) : ℕ) = a + (j 0).val
      ∧ (((twin p a h hq).view.emb j 2 : Fin _) : ℕ) = (j 1).val := by
  have e : (twin p a h hq).view.emb j
      = (Rect.unit (s := S8x2048x1024) ![p, a, 0] S1x512x1024.size h).emb (Shape.reshapeEquiv hq.numel_eq j) := rfl
  rw [e, Shape.reshapeEquiv_cons_one]
  refine ⟨?_, ?_, ?_⟩
  · show p + 1 * 0 = p; omega
  · show a + 1 * (j 0).val = _; omega
  · show 0 + 1 * (j 1).val = _; omega

end Cert.KernelIdeal.Hand
-- ==== Proof.State.lean ====
/-
  What the core holds while the kernel runs: per supertile its rows of the flat array and its slot
  of the input ring, per supertile its slot of the output ring and its block of the result.
-/
module

public import proofs.«01_k».proof.Proof.Geom
public import proofs.«01_k».proof.Proof.Gen.KernelIdeal.Launch
public import proofs.«01_k».proof.Proof.Gen.KernelIdeal.Points
public import Idealize.ShloMosaic.Lib.Pipeline.FrameBody
public import Idealize.ShloMosaic.Lib.Batch
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The input ring's semaphore of slot `s`. -/
def xsem (s : ℕ) : DmaSem sig := ⟨(4 + s) % 24, Nat.mod_lt _ (by decide)⟩
/-- The output ring's semaphore of slot `s`. -/
def osem (s : ℕ) : DmaSem sig := ⟨(14 + s) % 24, Nat.mod_lt _ (by decide)⟩

theorem ring_sem (base : ℕ) (hb : base + S10.numel ≤ 24) (s : ℕ) (h : ∀ x, (![s] : Fin 1 → ℕ) x + S1.size x ≤ S10.size x) (hq : S1.Squeezes S_) :
    ((((SemArray.consecutive (n := 24) base S10 hb).slice (Rect.unit (s := S10) ![s] S1.size h)).squeeze S_ hq).sem : Fin 24).val = base + s := by
  show base + (S10.rowMajor ((Rect.unit (s := S10) ![s] S1.size h).emb (Shape.reshapeEquiv hq.numel_eq fun i => i.elim0))).val = base + s
  rw [Shape.rowMajor_val_one]
  generalize (Shape.reshapeEquiv hq.numel_eq fun i => i.elim0) = y
  have hy : (y 0).val < 1 := (y 0).isLt
  show base + (s + 1 * (y 0).val) = _
  omega

theorem xsem_eq (s : ℕ) (h : ∀ x, (![s] : Fin 1 → ℕ) x + S1.size x ≤ S10.size x) (hq : S1.Squeezes S_) :
    ((cc0_scratch4.slice (Rect.unit (s := S10) ![s] S1.size h)).squeeze S_ hq).sem = xsem s := by
  have hs : s < 10 := h 0
  apply Fin.ext
  refine (ring_sem 4 hcc0_scratch4 s h hq).trans ?_
  show 4 + s = (4 + s) % 24
  omega
theorem osem_eq (s : ℕ) (h : ∀ x, (![s] : Fin 1 → ℕ) x + S1.size x ≤ S10.size x) (hq : S1.Squeezes S_) :
    ((cc0_scratch5.slice (Rect.unit (s := S10) ![s] S1.size h)).squeeze S_ hq).sem = osem s := by
  have hs : s < 10 := h 0
  apply Fin.ext
  refine (ring_sem 14 hcc0_scratch5 s h hq).trans ?_
  show 14 + s = (14 + s) % 24
  omega

variable (c : Dev nD) (w : ℕ → BitVec 32) (X : Vec F S8192x1024 .f32)

/-- What slot rows of supertile `k` hold once copied: the flat array's rows from the supertile's first. -/
def xrows (k : ℕ) : Vec F S10x512x1024 .f32 := fun i =>
  X (ix2 (⟨min (start w k + (i 1).val) 8191, by omega⟩ : Fin 8192) (⟨(i 2).val, (i 2).isLt⟩ : Fin 1024))

def xpt (s a b : ℕ) (f : Vec F S10x512x1024 .f32) : sProp 𝕄 :=
  (c : Thread nD τ).loc cc0_scratch0 ↦[slot s a b]{fullShare} f
def opt (s a b : ℕ) (f : Vec F S10x512x1024 .f32) : sProp 𝕄 :=
  (c : Thread nD τ).loc cc0_scratch1 ↦[slot s a b]{fullShare} f
def fpt (a b : ℕ) : sProp 𝕄 := (c : Thread nD τ).loc main_arg0 ↦[frows a b]{fullShare} X
def tpt (k : ℕ) (f : Vec F S8x2048x1024 .f32) : sProp 𝕄 := (c : Thread nD τ).loc main_v1_0 ↦[tset k]{fullShare} f
def sem0 (s : DmaSem sig) : sProp 𝕄 := semVal ((c : Thread nD τ), SemLoc.dma s) 0

/-- The units of a 128-row copy, of a 512-row copy into the input ring, of a copy out, of the copy of the weight. -/
def N128 : ℕ := (Memref.whole cc0_scratch0 : Memref sig .tc .vmem S10x512x1024 .f32).view.ref.dmaCredit S128x1024 .f32
def N512 : ℕ := (Memref.whole cc0_scratch0 : Memref sig .tc .vmem S10x512x1024 .f32).view.ref.dmaCredit S512x1024 .f32
def Nout : ℕ := (Memref.whole main_v1_0 : Memref sig .tc .hbm S8x2048x1024 .f32).view.ref.dmaCredit S512x1024 .f32

def Src (k : ℕ) : sProp 𝕄 := fpt c X (start w k) (start w k + 128 * nt w k)
def XFree (s : ℕ) : sProp 𝕄 := iprop((∃ f, xpt (F := F) c s 0 512 f) ∗ sem0 c (xsem s))
def XReady (k : ℕ) : sProp 𝕄 := iprop(Src c w X k ∗ XFree c (k % 10))
def XData (k : ℕ) : sProp 𝕄 :=
  iprop(∃ f, ⌜∀ i ∈ slot (k % 10) 0 (128 * nt w k), f i = xrows w X k i⌝ ∗ xpt c (k % 10) 0 512 f ∗ Src c w X k ∗ sem0 c (xsem (k % 10)))
def Dx (k t : ℕ) : sProp 𝕄 :=
  iprop(xpt c (k % 10) (128 * t) (128 * t + 128) (xrows w X k) ∗ fpt c X (start w k + 128 * t) (start w k + 128 * t + 128))
instance (k t : ℕ) : Storable (upEmb : UEmb _ 𝕄) (Dx c w X k t) := by
  unfold Dx xpt fpt; infer_instance
def Dxs (k : ℕ) : Fin (nt w k) → sProp 𝕄 := fun t => Dx c w X k t.val
instance (k : ℕ) (t : Fin (nt w k)) : Storable (upEmb : UEmb _ 𝕄) (Dxs c w X k t) := by
  unfold Dxs; infer_instance
def Xbat (k j u : ℕ) : sProp 𝕄 :=
  iprop(Transfers.Batch (Lvl := ℕ) (countersEmb (U := Pipeline.UD sig nD τ)) (c : Thread nD τ) (.dma (xsem (k % 10))) () N128 (Dxs c w X k) j u
    ∗ (∃ f, xpt (F := F) c (k % 10) (128 * j) 512 f) ∗ fpt c X (start w k + 128 * j) (start w k + 128 * nt w k))
def Xfl (k : ℕ) : sProp 𝕄 :=
  Transfers.Flight (Lvl := ℕ) (countersEmb (U := Pipeline.UD sig nD τ)) (c : Thread nD τ) (.dma (xsem (k % 10))) () N512
    iprop(xpt c (k % 10) 0 512 (xrows w X k) ∗ Src c w X k)

/-- Supertile `k`'s input after `t` of the five conditionals that start its copies. -/
def XS (k t : ℕ) : sProp 𝕄 :=
  if t = 0 then XReady c w X k else if nt w k = 0 then XData c w X k else if nt w k = 4 then Xfl c w X k
  else Xbat c w X k (min (t - 1) (nt w k)) 0
/-- Supertile `k`'s input after `q` of the five conditionals that wait for its copies. -/
def XW (k q : ℕ) : sProp 𝕄 :=
  if nt w k = 0 then XData c w X k else if nt w k = 4 then (if q = 0 then Xfl c w X k else XData c w X k)
  else if q ≤ nt w k then Xbat c w X k (nt w k) ((q - 1) * N128) else XData c w X k

/-- Supertile `k`'s input after `a` starting conditionals, `v` waiting ones and `e` of the computing ones of the whole run. -/
def Xf (a v e k : ℕ) : sProp 𝕄 :=
  if 3 * k + 3 ≤ e then (if k + 10 < 32 then Src c w X k else XReady c w X k)
  else if 5 * k < v then XW c w X k (min 5 (v - 5 * k))
  else if 5 * k < a then XS c w X k (min 5 (a - 5 * k))
  else if k < 10 ∨ 3 * (k - 10) + 3 ≤ e then XReady c w X k else Src c w X k

/-- A block as slot contents, and as contents of the result. -/
def inSlot (g : Vec F S1x512x1024 .f32) : Vec F S10x512x1024 .f32 := fun i =>
  g (ix3 (0 : Fin 1) (⟨(i 1).val, (i 1).isLt⟩ : Fin 512) (⟨(i 2).val, (i 2).isLt⟩ : Fin 1024))
def inTok (g : Vec F S1x512x1024 .f32) : Vec F S8x2048x1024 .f32 := fun i =>
  g (ix3 (0 : Fin 1) (⟨(i 1).val % 512, Nat.mod_lt _ (by decide)⟩ : Fin 512) (⟨(i 2).val, (i 2).isLt⟩ : Fin 1024))

variable (OK : ℕ → Vec F S1x512x1024 .f32 → Prop)

def OFree (s : ℕ) : sProp 𝕄 := iprop((∃ f, opt (F := F) c s 0 512 f) ∗ sem0 c (osem s))
def TokRaw (k : ℕ) : sProp 𝕄 := iprop(∃ f, tpt (F := F) c k f)
def TokDone (k : ℕ) : sProp 𝕄 := iprop(∃ g, ⌜OK k g⌝ ∗ tpt c k (inTok g))
def OFull (k : ℕ) : sProp 𝕄 := iprop((∃ g, ⌜OK k g⌝ ∗ opt c (k % 10) 0 512 (inSlot g)) ∗ sem0 c (osem (k % 10)))
def OFl (k : ℕ) : sProp 𝕄 :=
  iprop(∃ g, ⌜OK k g⌝ ∗ Transfers.Flight (Lvl := ℕ) (countersEmb (U := Pipeline.UD sig nD τ)) (c : Thread nD τ) (.dma (osem (k % 10))) () Nout
    iprop(tpt c k (inTok g) ∗ opt c (k % 10) 0 512 (inSlot g)))

/-- Whether `e` computing conditionals leave supertile `k`'s block in its slot. -/
def filled (e k : ℕ) : Prop := (nt w k = 4 ∧ 3 * k + 1 ≤ e) ∨ (nt w k ≠ 0 ∧ 3 * k + 2 ≤ e) ∨ 3 * k + 3 ≤ e
open Classical in
/-- Supertile `k`'s output after `e` computing conditionals, `s` copies started and `d` copies waited for. -/
def Of (e s d k : ℕ) : sProp 𝕄 :=
  if k < d then (if k + 10 < 32 then TokDone c OK k else iprop(TokDone c OK k ∗ OFree c (k % 10)))
  else if k < s then OFl c OK k
  else if filled w e k then iprop(OFull c OK k ∗ TokRaw c k)
  else if k < 10 ∨ k - 10 < d then iprop(OFree c (k % 10) ∗ TokRaw c k) else TokRaw c k

/-! ## Pieces -/

theorem slot_split (s a m b : ℕ) (h₁ : a ≤ m) (h₂ : m ≤ b) : slot s a b = slot s a m ∪ slot s m b := by
  ext i; rw [Finset.mem_union, mem_slot, mem_slot, mem_slot]; omega
theorem slot_disj (s a m b : ℕ) : Disjoint (slot s a m) (slot s m b) :=
  Finset.disjoint_left.mpr fun i h h' => by rw [mem_slot] at h h'; omega
theorem frows_split (a m b : ℕ) (h₁ : a ≤ m) (h₂ : m ≤ b) : frows a b = frows a m ∪ frows m b := by
  ext i; rw [Finset.mem_union, mem_frows, mem_frows, mem_frows]; omega
theorem frows_disj (a m b : ℕ) : Disjoint (frows a m) (frows m b) :=
  Finset.disjoint_left.mpr fun i h h' => by rw [mem_frows] at h h'; omega

theorem fpt_split (a m b : ℕ) (h₁ : a ≤ m) (h₂ : m ≤ b) : fpt c X a b ⊣⊢ iprop(fpt c X a m ∗ fpt c X m b) := by
  unfold fpt; rw [frows_split a m b h₁ h₂]; exact pointsTo_union (frows_disj a m b)
theorem xpt_split (s a m b : ℕ) (h₁ : a ≤ m) (h₂ : m ≤ b) (f : Vec F S10x512x1024 .f32) :
    xpt c s a b f ⊣⊢ iprop(xpt c s a m f ∗ xpt c s m b f) := by
  unfold xpt; rw [slot_split s a m b h₁ h₂]; exact pointsTo_union (slot_disj s a m b)
theorem xpt_join (s a m b : ℕ) (h₁ : a ≤ m) (h₂ : m ≤ b) (f g : Vec F S10x512x1024 .f32) :
    iprop(xpt c s a m f ∗ xpt c s m b g) ⊢ iprop(∃ f', ⌜∀ i ∈ slot s a m, f' i = f i⌝ ∗ xpt c s a b f') := by
  unfold xpt
  refine (pointsTo_join (slot_disj s a m b)).trans ?_
  rw [← slot_split s a m b h₁ h₂]
  iintro H
  iexists (slot s m b).piecewise g f
  isplitr
  · ipureintro; exact fun i hi => piecewise_off i hi
  iexact H
where piecewise_off {s a m b : ℕ} {f g : Vec F S10x512x1024 .f32} : ∀ i ∈ slot s a m, (slot s m b).piecewise g f i = f i :=
  fun i hi => Finset.piecewise_eq_of_notMem _ _ _ (Finset.disjoint_left.mp (slot_disj s a m b) hi)

theorem ready_data0 (k : ℕ) (h : nt w k = 0) : XReady c w X k ⊢ XData c w X k := by
  unfold XReady XFree XData
  iintro ⟨Hs, ⟨%f, Hf⟩, Hv⟩
  iexists f
  isplitr
  · ipureintro; intro i hi; rw [h, mem_slot] at hi; omega
  isplitl [Hf]; · iexact Hf
  isplitl [Hs] <;> iassumption

theorem dxs_join (k : ℕ) (n : ℕ) (hn : n ≤ nt w k) :
    bigSep (Finset.univ : Finset (Fin n)) (fun t => Dx c w X k t.val)
      ⊢ iprop(xpt c (k % 10) 0 (128 * n) (xrows w X k) ∗ fpt c X (start w k) (start w k + 128 * n)) := by
  induction n with
  | zero =>
    unfold xpt fpt
    rw [show slot (k % 10) 0 (128 * 0) = ∅ by ext i; rw [mem_slot]; simp, show frows (start w k) (start w k + 128 * 0) = ∅ by ext i; rw [mem_frows]; simp,
      pointsTo_empty, pointsTo_empty]
    iintro -
    isplitl <;> iempintro
  | succ n ih =>
    have e : bigSep (Finset.univ : Finset (Fin (n + 1))) (fun t => Dx c w X k t.val)
        = iprop(bigSep (Finset.univ : Finset (Fin n)) (fun t => Dx c w X k t.val) ∗ Dx c w X k n) := by

      rw [Fin.univ_castSuccEmb, Finset.cons_eq_insert, bigSep_insert (by simp), bigSep_map]
      exact Idealize.SL.BI.sep_comm.antisymm Idealize.SL.BI.sep_comm
    rw [e]
    refine (sep_mono (ih (by omega)) .rfl).trans ?_
    unfold Dx
    iintro ⟨⟨Hx, Hf⟩, Hx', Hf'⟩
    isplitl [Hx Hx']
    · iapply (xpt_split c (k % 10) 0 (128 * n) (128 * (n + 1)) (by omega) (by omega) _).2
      isplitl [Hx]; · iexact Hx
      rw [show 128 * (n + 1) = 128 * n + 128 by omega]; iexact Hx'
    · iapply (fpt_split c X (start w k) (start w k + 128 * n) (start w k + 128 * (n + 1)) (by omega) (by omega)).2
      isplitl [Hf]; · iexact Hf
      rw [show start w k + 128 * (n + 1) = start w k + 128 * n + 128 by omega]; iexact Hf'

end Cert.KernelIdeal.Hand
-- ==== Proof.Units.lean ====
/-
  One step of the kernel on the pieces it touches: a copy into the input ring started and waited for, a
  block written out started and waited for, a block computed.
-/
module

public import proofs.«01_k».proof.Proof.State

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weakest precondition of a piece of the kernel's body on core `c`. -/
def W {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

theorem W_bind {α β : Type} (c : Dev nD) (p : Prog (TpuEff nD τ sig (Elt F) Λ₀ .tc) α) (k : α → Prog (TpuEff nD τ sig (Elt F) Λ₀ .tc) β) (Q : β → sProp 𝕄) :
    W c (p >>= k) Q = W c p fun a => W c (k a) Q := wp_bind _ _ _ _ _ _

variable {w : ℕ → BitVec 32} (c : Dev nD) (X : Vec F S8192x1024 .f32)

theorem N128_pos : 0 < N128 := View.dmaCredit_pos (xwin (Memref.whole cc0_scratch0) 128 0 0 (by decide) squeezes_S1x128x1024_S128x1024).view (by decide)
theorem N512_pos : 0 < N512 := View.dmaCredit_pos (xwin (Memref.whole cc0_scratch0) 512 0 0 (by decide) squeezes_S1x512x1024_S512x1024).view (by decide)
theorem Nout_pos : 0 < Nout := View.dmaCredit_pos (twin 0 0 (by decide) squeezes_S1x512x1024_S512x1024).view (by decide)

/-- What a copy of `R` rows leaves in a slot. -/
theorem x_written (k R a b s : ℕ) (h₁ h₂ hq) (ha : a = start w k + b) (hR : a + R ≤ 8192) (hs : s < 10)
    (f : Vec F S10x512x1024 .f32) (i : S10x512x1024.Idx) (hi : i ∈ slot s b (b + R)) :
    (xwin (Memref.whole cc0_scratch0) R s b h₂ hq).view.write (Elt F) f (((ReadAs.same : ReadAs (Elt F) _ _ _ _)).apply ((fwin R ![a, 0] h₁).view.read (Elt F) X)) Finset.univ i
      = xrows w X k i := by
  rw [← xwin_set0 R s b h₂ hq] at hi
  obtain ⟨j, -, rfl⟩ := Finset.mem_map.mp hi
  rw [View.write_emb_of_mem _ _ (Finset.mem_univ j)]
  show X ((fwin R ![a, 0] h₁).view.emb j) = _
  obtain ⟨e0, e1⟩ := fwin_emb R a h₁ j
  obtain ⟨d0, d1, d2⟩ := xwin_emb0 R s b h₂ hq j
  have hj : (j 0).val < R := (j 0).isLt
  unfold xrows
  congr 1
  funext x
  fin_cases x
  · apply Fin.ext
    refine e0.trans ?_
    show _ = min (start w k + (((xwin (Memref.whole cc0_scratch0) R s b h₂ hq).view.emb j 1 : Fin _) : ℕ)) 8191
    rw [d1]; omega
  · apply Fin.ext
    exact e1.trans d2.symm

variable {k : ℕ} (hw : Tab w) (hk : k < 32)

/-- The slot copy of `R` rows as a points-to. -/
theorem x_landed (k R a b : ℕ) (h₁ h₂ hq) (ha : a = start w k + b) (hR : a + R ≤ 8192) (f : Vec F S10x512x1024 .f32) :
    ((xwin (Memref.whole cc0_scratch0) R (k % 10) b h₂ hq).view.loc (c : Thread nD τ) ↦[slot (k % 10) b (b + R)]{fullShare}
        ((xwin (Memref.whole cc0_scratch0) R (k % 10) b h₂ hq).view.write (Elt F) f ((ReadAs.same : ReadAs (Elt F) _ _ _ _).apply ((fwin R ![a, 0] h₁).view.read (Elt F) X)) Finset.univ) : sProp 𝕄)
      = xpt c (k % 10) b (b + R) (xrows w X k) :=
  pointsTo_congr fun i hi => x_written X k R a b (k % 10) h₁ h₂ hq ha hR (Nat.mod_lt _ (by decide)) f i hi

theorem XS5 : XS c w X k 5 = XW c w X k 0 := by
  unfold XS XW
  by_cases h0 : nt w k = 0
  · simp [h0]
  by_cases h4 : nt w k = 4
  · simp [h4]
  · have : nt w k ≤ 4 := min_le_left _ _
    simp [h0, h4, this]

include hw hk in
/-- The conditional that starts the one copy of a full supertile. -/
theorem start_full {α : Type} (Q : α → sProp 𝕄) (rest : Prog (TpuEff nD τ sig (Elt F) Λ₀ .tc) α)
    (hin : condFull (k % 4) (w (k / 4)) (w (k / 4 + 1)) = 1#1 → ∀ a, offR (512 * (k % 4)) (w (k / 4)) a + S512x1024.size a ≤ S8192x1024.size a) (h₂ hq hs hsq)
    (p₁ : ∀ h, (fwin 512 (offR (512 * (k % 4)) (w (k / 4))) (hin h)).view.WordExact) (p₂)
    (p₃ : DmaTarget.Typed (nD := nD) (p := Proc.tc) .hbm (.dma ((cc0_scratch4.slice (Rect.unit (s := S10) ![k % 10] S1.size hs)).squeeze S_ hsq).sem) (.here (xwin (Memref.whole cc0_scratch0) 512 (k % 10) 0 h₂ hq))) :
    XS c w X k 0 ⊢ iprop((XS c w X k 1 -∗ W c rest Q) -∗
      W c (if h : condFull (k % 4) (w (k / 4)) (w (k / 4 + 1)) = 1#1 then
        (Prog.lift (.enqueueDma (fwin 512 (offR (512 * (k % 4)) (w (k / 4))) (hin h)) (.here (xwin (Memref.whole cc0_scratch0) 512 (k % 10) 0 h₂ hq))
          (.dma ((cc0_scratch4.slice (Rect.unit (s := S10) ![k % 10] S1.size hs)).squeeze S_ hsq).sem) (p₁ h) p₂ p₃) >>= fun _ => rest) else rest) Q) := by
  have hnt : nt w k ≤ 4 := min_le_left _ _
  by_cases h4 : nt w k = 4
  · have hc := (condFull_iff hw hk).mpr h4
    rw [dif_pos hc]
    have e0 : XS c w X k 0 = XReady c w X k := if_pos rfl
    have e1 : XS c w X k 1 = Xfl c w X k := by simp [XS, h4]
    rw [e0, e1]
    suffices key : ∀ (off : Fin 2 → ℕ) (sm : DmaSem sig) (ho : off = ![start w k, 0]) (hsm : sm = xsem (k % 10)) (h₁ p₁ p₂) (p₃),
        XReady c w X k ⊢ iprop((Xfl c w X k -∗ W c rest Q) -∗
          W c (Prog.lift (.enqueueDma (fwin 512 off h₁) (.here (xwin (Memref.whole cc0_scratch0) 512 (k % 10) 0 h₂ hq)) (.dma sm) p₁ p₂ p₃) >>= fun _ => rest) Q) from
      key _ _ (off_full hw hk) (xsem_eq _ _ _) _ _ _ _
    intro off sm ho hsm h₁ p₁ p₂ p₃
    subst ho hsm
    unfold XReady XFree W Xfl sem0
    iintro ⟨Hs, ⟨%f, Hf⟩, Hv⟩ Hk
    have hst : start w k + 512 ≤ 8192 := by have := start_le hw hk 4 (by omega) (by omega); omega
    iapply (Transfers.wp_dmaLocal (Lvl := ℕ) (countersEmb (U := Pipeline.UD sig nD τ)) Variants.none (c : Thread nD τ) none () N512 (src := fwin 512 ![start w k, 0] h₁)
      (dst := xwin (Memref.whole cc0_scratch0) 512 (k % 10) 0 h₂ hq) (fs := X) (fd := f) (Sd := slot (k % 10) 0 512) rfl N512_pos
      (by rw [xwin_set0])) $$ [Hs Hf Hv]
    · isplitl [Hs]
      · rw [fwin_set]; unfold Src fpt; rw [h4]; iexact Hs
      isplitl [Hf]
      · unfold xpt; iexact Hf
      · iexact Hv
    iintro HF
    iapply Hk
    have e := x_landed c X k 512 (start w k) 0 h₁ h₂ hq rfl hst f (w := w)
    rw [Nat.zero_add] at e
    rw [← e]
    unfold Src fpt
    rw [h4]
    have e' := fwin_set 512 (start w k) h₁
    rw [show 128 * 4 = 512 from rfl, ← e']
    iexact HF
  · rw [dif_neg (fun h => h4 ((condFull_iff hw hk).mp h))]
    have e0 : XS c w X k 0 = XReady c w X k := if_pos rfl
    rw [e0]
    by_cases h0 : nt w k = 0
    · have e1 : XS c w X k 1 = XData c w X k := by simp [XS, h0]
      rw [e1]
      iintro H Hk
      iapply Hk
      iapply ready_data0 c w X k h0
      iexact H
    · have e1 : XS c w X k 1 = Xbat c w X k 0 0 := by simp [XS, h0, h4]
      rw [e1]
      unfold XReady XFree Xbat W Src sem0
      iintro ⟨Hs, Hf, Hv⟩ Hk
      imod (Transfers.batch_alloc' (Lvl := ℕ) (countersEmb (U := Pipeline.UD sig nD τ)) (c : Thread nD τ) () N128 (Dxs c w X k) (sm := .dma (xsem (k % 10))) (E := Set.univ)) $$ [Hv] with HB
      · iexact Hv
      iapply Hk
      isplitl [HB]; · iexact HB
      isplitl [Hf]; · iexact Hf
      iexact Hs

include hw hk in
/-- A conditional that starts one of the four small copies of a partial supertile. -/
theorem start_tile {α : Type} (Q : α → sProp 𝕄) (rest : Prog (TpuEff nD τ sig (Elt F) Λ₀ .tc) α) (t : ℕ) (ht : t < 4)
    (hin : condTile (k % 4) t (w (k / 4)) (w (k / 4 + 1)) = 1#1 → ∀ a, offR (512 * (k % 4) + 128 * t) (w (k / 4)) a + S128x1024.size a ≤ S8192x1024.size a) (h₂ hq hs hsq)
    (p₁ : ∀ h, (fwin 128 (offR (512 * (k % 4) + 128 * t) (w (k / 4))) (hin h)).view.WordExact) (p₂)
    (p₃ : DmaTarget.Typed (nD := nD) (p := Proc.tc) .hbm (.dma ((cc0_scratch4.slice (Rect.unit (s := S10) ![k % 10] S1.size hs)).squeeze S_ hsq).sem) (.here (xwin (Memref.whole cc0_scratch0) 128 (k % 10) (128 * t) h₂ hq))) :
    XS c w X k (t + 1) ⊢ iprop((XS c w X k (t + 2) -∗ W c rest Q) -∗
      W c (if h : condTile (k % 4) t (w (k / 4)) (w (k / 4 + 1)) = 1#1 then
        (Prog.lift (.enqueueDma (fwin 128 (offR (512 * (k % 4) + 128 * t) (w (k / 4))) (hin h)) (.here (xwin (Memref.whole cc0_scratch0) 128 (k % 10) (128 * t) h₂ hq))
          (.dma ((cc0_scratch4.slice (Rect.unit (s := S10) ![k % 10] S1.size hs)).squeeze S_ hsq).sem) (p₁ h) p₂ p₃) >>= fun _ => rest) else rest) Q) := by
  have hnt : nt w k ≤ 4 := min_le_left _ _
  by_cases hc' : nt w k < 4 ∧ t < nt w k
  · have hc := (condTile_iff hw hk t ht).mpr hc'
    rw [dif_pos hc]
    obtain ⟨h4, h0⟩ := hc'
    have e0 : XS c w X k (t + 1) = Xbat c w X k t 0 := by
      unfold XS; rw [if_neg (by omega), if_neg (by omega), if_neg (by omega), Nat.add_sub_cancel, min_eq_left (by omega)]
    have e1 : XS c w X k (t + 2) = Xbat c w X k (t + 1) 0 := by
      unfold XS; rw [if_neg (by omega), if_neg (by omega), if_neg (by omega), show t + 2 - 1 = t + 1 by omega, min_eq_left (by omega)]
    rw [e0, e1]
    suffices key : ∀ (off : Fin 2 → ℕ) (sm : DmaSem sig) (ho : off = ![start w k + 128 * t, 0]) (hsm : sm = xsem (k % 10)) (h₁ p₁ p₂) (p₃),
        Xbat c w X k t 0 ⊢ iprop((Xbat c w X k (t + 1) 0 -∗ W c rest Q) -∗
          W c (Prog.lift (.enqueueDma (fwin 128 off h₁) (.here (xwin (Memref.whole cc0_scratch0) 128 (k % 10) (128 * t) h₂ hq)) (.dma sm) p₁ p₂ p₃) >>= fun _ => rest) Q) from
      key _ _ (off_tile hw hk t (by omega)) (xsem_eq _ _ _) _ _ _ _
    intro off sm ho hsm h₁ p₁ p₂ p₃
    subst ho hsm
    unfold Xbat W
    iintro ⟨HB, ⟨%f, Hf⟩, Hs⟩ Hk
    have hst := start_le hw hk (t + 1) (by omega) (by omega)
    ihave Hs' := (fpt_split c X (start w k + 128 * t) (start w k + 128 * t + 128) (start w k + 128 * nt w k) (by omega) (by omega)).1 $$ Hs
    icases Hs' with ⟨Hs, Hs'⟩
    ihave Hf' := (xpt_split c (k % 10) (128 * t) (128 * t + 128) 512 (by omega) (by omega) f).1 $$ Hf
    icases Hf' with ⟨Hf, Hf'⟩
    iapply (Transfers.wp_dmaBatch (Lvl := ℕ) (countersEmb (U := Pipeline.UD sig nD τ)) Variants.none (c : Thread nD τ) none () N128 (src := fwin 128 ![start w k + 128 * t, 0] h₁)
      (dst := xwin (Memref.whole cc0_scratch0) 128 (k % 10) (128 * t) h₂ hq) (fs := X) (fd := f) (Sd := slot (k % 10) (128 * t) (128 * t + 128)) (q := fullShare) (D := Dxs c w X k) rfl
      (by rw [xwin_set0]) h0 (Nat.zero_le _) (by
        have e := x_landed c X k 128 (start w k + 128 * t) (128 * t) h₁ h₂ hq rfl (by omega) f (w := w)
        refine (sep_mono (Entails.of_eq e) (Entails.of_eq ?_)).trans (Entails.of_eq rfl)
        · have e' := fwin_set 128 (start w k + 128 * t) h₁
          unfold fpt; rw [← e'])) $$ [Hs Hf HB]
    · isplitl [Hs]
      · rw [fwin_set]; unfold fpt; iexact Hs
      isplitl [Hf]
      · unfold xpt; iexact Hf
      · iexact HB
    iintro HB
    iapply Hk
    isplitl [HB]; · iexact HB
    rw [show 128 * (t + 1) = 128 * t + 128 by omega, ← Nat.add_assoc]
    isplitl [Hf']
    · iexists f; iexact Hf'
    · iexact Hs'
  · rw [dif_neg (fun h => hc' ((condTile_iff hw hk t ht).mp h))]
    have e : XS c w X k (t + 1) = XS c w X k (t + 2) := by
      have a₁ : t + 1 ≠ 0 := by omega
      have a₂ : t + 2 ≠ 0 := by omega
      unfold XS
      rw [if_neg a₁, if_neg a₂]
      by_cases h0 : nt w k = 0
      · rw [if_pos h0, if_pos h0]
      by_cases h4 : nt w k = 4
      · rw [if_neg h0, if_pos h4, if_neg h0, if_pos h4]
      · rw [if_neg h0, if_neg h4, if_neg h0, if_neg h4, min_eq_right (by omega), min_eq_right (by omega)]
    rw [e]
    iintro H Hk
    iapply Hk
    iexact H

end Cert.KernelIdeal.Hand
-- ==== Proof.Waits.lean ====
/-
  The kernel's waits for its copies in and out, and its copies out, on the pieces they touch.
-/
module

public import proofs.«01_k».proof.Proof.Units

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Nothing owed by the core. -/
def ow (c : Dev nD) : sProp 𝕄 := iprop(∃ Z, owes (c : Thread nD τ) 0 Z)

variable {w : ℕ → BitVec 32} (c : Dev nD) (X : Vec F S8192x1024 .f32) {k : ℕ} (hw : Tab w) (hk : k < 32)

include hw hk in
/-- The conditional that waits for the one copy of a full supertile. -/
theorem wait_full {α : Type} (Q : α → sProp 𝕄) (rest : Prog (TpuEff nD τ sig (Elt F) Λ₀ .tc) α)
    (hin : condFull (k % 4) (w (k / 4)) (w (k / 4 + 1)) = 1#1 → ∀ a, offR (512 * (k % 4)) (w (k / 4)) a + S512x1024.size a ≤ S8192x1024.size a) (h₂ hq hs hsq)
    (p₁ : ∀ h, (fwin 512 (offR (512 * (k % 4)) (w (k / 4))) (hin h)).view.WordExact) (p₂) :
    iprop(XW c w X k 0 ∗ ow c) ⊢ iprop((iprop(XW c w X k 1 ∗ ow c) -∗ W c rest Q) -∗
      W c (if h : condFull (k % 4) (w (k / 4)) (w (k / 4 + 1)) = 1#1 then
        (Prog.lift (.waitDma2 ((cc0_scratch4.slice (Rect.unit (s := S10) ![k % 10] S1.size hs)).squeeze S_ hsq).sem (fwin 512 (offR (512 * (k % 4)) (w (k / 4))) (hin h))
          (xwin (Memref.whole cc0_scratch0) 512 (k % 10) 0 h₂ hq) (p₁ h) p₂) >>= fun _ => rest) else rest) Q) := by
  have hnt : nt w k ≤ 4 := min_le_left _ _
  by_cases h4 : nt w k = 4
  · have hc := (condFull_iff hw hk).mpr h4
    rw [dif_pos hc]
    have e0 : XW c w X k 0 = Xfl c w X k := by simp [XW, h4]
    have e1 : XW c w X k 1 = XData c w X k := by simp [XW, h4]
    rw [e0, e1]
    suffices key : ∀ (sm : DmaSem sig) (hsm : sm = xsem (k % 10)) (h₁ p₁ p₂),
        iprop(Xfl c w X k ∗ ow c) ⊢ iprop((iprop(XData c w X k ∗ ow c) -∗ W c rest Q) -∗
          W c (Prog.lift (.waitDma2 sm (fwin 512 (offR (512 * (k % 4)) (w (k / 4))) h₁) (xwin (Memref.whole cc0_scratch0) 512 (k % 10) 0 h₂ hq) p₁ p₂) >>= fun _ => rest) Q) from
      key _ (xsem_eq _ _ _) _ _ _
    intro sm hsm h₁ p₁ p₂
    subst hsm
    unfold Xfl XData W ow
    iintro ⟨HF, ⟨%Z, HO⟩⟩ Hk
    iapply (Transfers.wp_waitLocal (Lvl := ℕ) (countersEmb (U := Pipeline.UD sig nD τ)) Variants.none (c : Thread nD τ) none () (N := N512) rfl (W := Z)) $$ [HF HO]
    · isplitl [HF]
      · iexact HF
      · iexact HO
    iintro ⟨⟨Hx, Hs⟩, Hv, HO⟩
    iapply Hk
    isplitr [HO]
    · iexists xrows w X k
      isplitr
      · ipureintro; exact fun _ _ => rfl
      isplitl [Hx]; · iexact Hx
      isplitl [Hs]; · iexact Hs
      unfold sem0; iexact Hv
    · iexists _; iexact HO
  · rw [dif_neg (fun h => h4 ((condFull_iff hw hk).mp h))]
    have e : XW c w X k 0 = XW c w X k 1 := by
      unfold XW
      by_cases h0 : nt w k = 0
      · rw [if_pos h0, if_pos h0]
      · rw [if_neg h0, if_neg h4, if_neg h0, if_neg h4, if_pos (by omega), if_pos (by omega)]
    rw [e]
    iintro H Hk
    iapply Hk
    iexact H

include hw hk in
/-- A conditional that waits for one of the four small copies of a partial supertile. -/
theorem wait_tile {α : Type} (Q : α → sProp 𝕄) (rest : Prog (TpuEff nD τ sig (Elt F) Λ₀ .tc) α) (t : ℕ) (ht : t < 4)
    (hin : condTile (k % 4) t (w (k / 4)) (w (k / 4 + 1)) = 1#1 → ∀ a, offR (512 * (k % 4) + 128 * t) (w (k / 4)) a + S128x1024.size a ≤ S8192x1024.size a) (h₂ hq hs hsq)
    (p₁ : ∀ h, (fwin 128 (offR (512 * (k % 4) + 128 * t) (w (k / 4))) (hin h)).view.WordExact) (p₂) :
    iprop(XW c w X k (t + 1) ∗ ow c) ⊢ iprop((iprop(XW c w X k (t + 2) ∗ ow c) -∗ W c rest Q) -∗
      W c (if h : condTile (k % 4) t (w (k / 4)) (w (k / 4 + 1)) = 1#1 then
        (Prog.lift (.waitDma2 ((cc0_scratch4.slice (Rect.unit (s := S10) ![k % 10] S1.size hs)).squeeze S_ hsq).sem (fwin 128 (offR (512 * (k % 4) + 128 * t) (w (k / 4))) (hin h))
          (xwin (Memref.whole cc0_scratch0) 128 (k % 10) (128 * t) h₂ hq) (p₁ h) p₂) >>= fun _ => rest) else rest) Q) := by
  have hnt : nt w k ≤ 4 := min_le_left _ _
  by_cases hc' : nt w k < 4 ∧ t < nt w k
  · have hc := (condTile_iff hw hk t ht).mpr hc'
    rw [dif_pos hc]
    obtain ⟨h4, h0⟩ := hc'
    have e0 : XW c w X k (t + 1) = Xbat c w X k (nt w k) (t * N128) := by
      unfold XW; rw [if_neg (by omega), if_neg (by omega), if_pos (by omega), Nat.add_sub_cancel]
    rw [e0]
    suffices key : ∀ (sm : DmaSem sig) (hsm : sm = xsem (k % 10)) (h₁ p₁ p₂),
        iprop(Xbat c w X k (nt w k) (t * N128) ∗ ow c) ⊢ iprop((iprop(XW c w X k (t + 2) ∗ ow c) -∗ W c rest Q) -∗
          W c (Prog.lift (.waitDma2 sm (fwin 128 (offR (512 * (k % 4) + 128 * t) (w (k / 4))) h₁) (xwin (Memref.whole cc0_scratch0) 128 (k % 10) (128 * t) h₂ hq) p₁ p₂) >>= fun _ => rest) Q) from
      key _ (xsem_eq _ _ _) _ _ _
    intro sm hsm h₁ p₁ p₂
    subst hsm
    by_cases hl : t + 1 = nt w k
    · have e1 : XW c w X k (t + 2) = XData c w X k := by
        unfold XW; rw [if_neg (by omega), if_neg (by omega), if_neg (by omega)]
      rw [e1]
      unfold Xbat W ow
      have hu : t * N128 + N128 = N128 * nt w k := by rw [← hl, Nat.mul_succ, Nat.mul_comm]
      iintro ⟨⟨HB, ⟨%f, Hf⟩, Hs⟩, ⟨%Z, HO⟩⟩ Hk
      iapply (Transfers.wp_waitBatchLast (Lvl := ℕ) (countersEmb (U := Pipeline.UD sig nD τ)) Variants.none (c : Thread nD τ) none () (N := N128) rfl N128_pos
        (W := Z) (D := Dxs c w X k) (u := t * N128) hu) $$ [HB HO]
      · isplitl [HB]
        · iexact HB
        · iexact HO
      iintro ⟨HD, Hv, HO⟩
      ihave HD' := (show bigSep Finset.univ (Dxs c w X k) ⊢ _ from dxs_join c w X k (nt w k) le_rfl) $$ HD
      icases HD' with ⟨Hx, Hs'⟩
      ihave Hx' := (xpt_join c (k % 10) 0 (128 * nt w k) 512 (by omega) (by omega) (xrows w X k) f) $$ [Hx Hf]
      · isplitl [Hx] <;> iassumption
      icases Hx' with ⟨%f', %hf', Hx'⟩
      iapply Hk
      isplitr [HO]
      · unfold XData
        iexists f'
        isplitr
        · ipureintro; exact hf'
        isplitl [Hx']; · iexact Hx'
        isplitl [Hs']; · unfold Src; iexact Hs'
        unfold sem0; iexact Hv
      · iexists _; iexact HO
    · have e1 : XW c w X k (t + 2) = Xbat c w X k (nt w k) (t * N128 + N128) := by
        unfold XW; rw [if_neg (by omega), if_neg (by omega), if_pos (by omega)]
        rw [show t + 2 - 1 = t + 1 by omega, Nat.succ_mul]
      rw [e1]
      unfold Xbat W ow
      have hu : t * N128 + N128 < N128 * nt w k := by
        have := N128_pos
        calc t * N128 + N128 = N128 * (t + 1) := by rw [Nat.mul_succ, Nat.mul_comm]
          _ < N128 * nt w k := Nat.mul_lt_mul_of_pos_left (by omega) this
      iintro ⟨⟨HB, Hf, Hs⟩, ⟨%Z, HO⟩⟩ Hk
      iapply (Transfers.wp_waitBatch (Lvl := ℕ) (countersEmb (U := Pipeline.UD sig nD τ)) Variants.none (c : Thread nD τ) none () (N := N128) rfl
        (W := Z) (D := Dxs c w X k) (u := t * N128) hu) $$ [HB HO]
      · isplitl [HB]
        · iexact HB
        · iexact HO
      iintro ⟨HB, HO⟩
      iapply Hk
      isplitr [HO]
      · isplitl [HB]; · iexact HB
        isplitl [Hf] <;> iassumption
      · iexists _; iexact HO
  · rw [dif_neg (fun h => hc' ((condTile_iff hw hk t ht).mp h))]
    have e : XW c w X k (t + 1) = XW c w X k (t + 2) := by
      unfold XW
      by_cases h0 : nt w k = 0
      · rw [if_pos h0, if_pos h0]
      by_cases h4 : nt w k = 4
      · rw [if_neg h0, if_pos h4, if_neg h0, if_pos h4, if_neg (by omega), if_neg (by omega)]
      · rw [if_neg h0, if_neg h4, if_neg h0, if_neg h4, if_neg (by omega), if_neg (by omega)]
    rw [e]
    iintro H Hk
    iapply Hk
    iexact H

end Cert.KernelIdeal.Hand
-- ==== Proof.Outs.lean ====
/-
  The kernel's copies out and its waits for them, on the pieces they touch.
-/
module

public import proofs.«01_k».proof.Proof.Waits

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)
variable (OK : ℕ → Vec F S1x512x1024 .f32 → Prop)

/-- What the copy out leaves in the result. -/
theorem out_written (k : ℕ) (g : Vec F S1x512x1024 .f32) (f : Vec F S8x2048x1024 .f32) (h₁ hq₁ h₂ hq₂) :
    ((c : Thread nD τ).loc main_v1_0 ↦[tset k]{fullShare}
        (show Vec F S8x2048x1024 .f32 from (twin (k / 4) (512 * (k % 4)) h₂ hq₂).view.write (Elt F) f ((ReadAs.same : ReadAs (Elt F) _ _ _ _).apply
          ((xwin (Memref.whole cc0_scratch1) 512 (k % 10) 0 h₁ hq₁).view.read (Elt F) (inSlot g))) Finset.univ) : sProp 𝕄)
      = tpt c k (inTok g) := by
  refine pointsTo_congr fun i hi => ?_
  rw [← twin_set k h₂ hq₂] at hi
  obtain ⟨j, -, rfl⟩ := Finset.mem_map.mp hi
  rw [View.write_emb_of_mem _ _ (Finset.mem_univ j)]
  show inSlot g ((xwin (Memref.whole cc0_scratch1) 512 (k % 10) 0 h₁ hq₁).view.emb j) = _
  obtain ⟨e0, e1, e2⟩ := xwin_emb1 512 (k % 10) 0 h₁ hq₁ j
  obtain ⟨d0, d1, d2⟩ := twin_emb (k / 4) (512 * (k % 4)) h₂ hq₂ j
  have hj : (j 0).val < 512 := (j 0).isLt
  unfold inSlot inTok
  congr 1
  funext x
  fin_cases x
  · rfl
  · apply Fin.ext
    refine e1.trans ?_
    show _ = (((twin (k / 4) (512 * (k % 4)) h₂ hq₂).view.emb j 1 : Fin _) : ℕ) % 512
    rw [d1]; omega
  · apply Fin.ext
    exact e2.trans d2.symm

/-- A supertile's block started on its way out. -/
theorem out_start {α : Type} (Q : α → sProp 𝕄) (rest : PUnit → Prog (TpuEff nD τ sig (Elt F) Λ₀ .tc) α) (k : ℕ)
    (h₁ hq₁ h₂ hq₂ hs hsq p₁ p₂)
    (p₃ : DmaTarget.Typed (nD := nD) (p := Proc.tc) .vmem (.dma ((cc0_scratch5.slice (Rect.unit (s := S10) ![k % 10] S1.size hs)).squeeze S_ hsq).sem) (.here (twin (k / 4) (512 * (k % 4)) h₂ hq₂))) :
    iprop(OFull c OK k ∗ TokRaw c k) ⊢ iprop((OFl c OK k -∗ W c (rest ⟨⟩) Q) -∗
      W c (Prog.lift (.enqueueDma (xwin (Memref.whole cc0_scratch1) 512 (k % 10) 0 h₁ hq₁) (.here (twin (k / 4) (512 * (k % 4)) h₂ hq₂))
          (.dma ((cc0_scratch5.slice (Rect.unit (s := S10) ![k % 10] S1.size hs)).squeeze S_ hsq).sem) p₁ p₂ p₃) >>= rest) Q) := by
  suffices key : ∀ (sm : DmaSem sig) (hsm : sm = osem (k % 10)) (p₃),
      iprop(OFull c OK k ∗ TokRaw c k) ⊢ iprop((OFl c OK k -∗ W c (rest ⟨⟩) Q) -∗
        W c (Prog.lift (.enqueueDma (xwin (Memref.whole cc0_scratch1) 512 (k % 10) 0 h₁ hq₁) (.here (twin (k / 4) (512 * (k % 4)) h₂ hq₂)) (.dma sm) p₁ p₂ p₃) >>= rest) Q) from
    key _ (osem_eq _ _ _) _
  intro sm hsm p₃
  subst hsm
  unfold OFull TokRaw OFl W sem0
  iintro ⟨⟨⟨%g, %hg, Ho⟩, Hv⟩, ⟨%f, Hf⟩⟩ Hk
  iapply (Transfers.wp_dmaLocal (Lvl := ℕ) (countersEmb (U := Pipeline.UD sig nD τ)) Variants.none (c : Thread nD τ) none () Nout (src := xwin (Memref.whole cc0_scratch1) 512 (k % 10) 0 h₁ hq₁)
    (dst := twin (k / 4) (512 * (k % 4)) h₂ hq₂) (fs := inSlot g) (fd := f) (Sd := tset k) rfl Nout_pos
    (by rw [twin_set])) $$ [Ho Hf Hv]
  · isplitl [Ho]
    · rw [xwin_set1]; unfold opt; iexact Ho
    isplitl [Hf]
    · unfold tpt; iexact Hf
    · iexact Hv
  iintro HF
  iapply Hk
  iexists g
  isplitr
  · ipureintro; exact hg
  rw [← out_written c k g f h₁ hq₁ h₂ hq₂]
  unfold opt
  have e' := xwin_set1 512 (k % 10) 0 h₁ hq₁
  rw [Nat.zero_add] at e'
  rw [← e']
  iexact HF

/-- A supertile's block waited for. -/
theorem out_wait {α : Type} (Q : α → sProp 𝕄) (rest : PUnit → Prog (TpuEff nD τ sig (Elt F) Λ₀ .tc) α) (k : ℕ)
    (h₁ hq₁ h₂ hq₂ hs hsq p₁ p₂) :
    iprop(OFl c OK k ∗ ow c) ⊢ iprop((iprop((TokDone c OK k ∗ OFree c (k % 10)) ∗ ow c) -∗ W c (rest ⟨⟩) Q) -∗
      W c (Prog.lift (.waitDma2 ((cc0_scratch5.slice (Rect.unit (s := S10) ![k % 10] S1.size hs)).squeeze S_ hsq).sem
        (xwin (Memref.whole cc0_scratch1) 512 (k % 10) 0 h₁ hq₁) (twin (k / 4) (512 * (k % 4)) h₂ hq₂) p₁ p₂) >>= rest) Q) := by
  suffices key : ∀ (sm : DmaSem sig) (hsm : sm = osem (k % 10)),
      iprop(OFl c OK k ∗ ow c) ⊢ iprop((iprop((TokDone c OK k ∗ OFree c (k % 10)) ∗ ow c) -∗ W c (rest ⟨⟩) Q) -∗
        W c (Prog.lift (.waitDma2 sm (xwin (Memref.whole cc0_scratch1) 512 (k % 10) 0 h₁ hq₁) (twin (k / 4) (512 * (k % 4)) h₂ hq₂) p₁ p₂) >>= rest) Q) from
    key _ (osem_eq _ _ _)
  intro sm hsm
  subst hsm
  unfold OFl TokDone OFree W ow sem0
  iintro ⟨⟨%g, %hg, HF⟩, ⟨%Z, HO⟩⟩ Hk
  iapply (Transfers.wp_waitLocal (Lvl := ℕ) (countersEmb (U := Pipeline.UD sig nD τ)) Variants.none (c : Thread nD τ) none () (N := Nout) rfl (W := Z)) $$ [HF HO]
  · isplitl [HF]
    · iexact HF
    · iexact HO
  iintro ⟨⟨Ht, Ho⟩, Hv, HO⟩
  iapply Hk
  isplitr [HO]
  · isplitl [Ht]
    · iexists g
      isplitr
      · ipureintro; exact hg
      iexact Ht
    isplitl [Ho]
    · iexists _; iexact Ho
    iexact Hv
  · iexists _; iexact HO

end Cert.KernelIdeal.Hand
-- ==== Proof.Compute.lean ====
/-
  A supertile's block computed: the loads, the block, and the store into its slot.
-/
module

public import proofs.«01_k».proof.Proof.Outs

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A full supertile's block. -/
def payFull (x : Vec F S1x512x1024 .f32) (wv : Vec F S1024x1024 .f32) (b : Vec F S1x1024 .f32) : Vec F S1x512x1024 .f32 :=
  shapeCast S1x512x1024 (addf (matmul dot_S512x1024_S1024x1024_S512x1024_1_0_0_1_n_n none (shapeCast S512x1024 x shapeCasts_S1x512x1024_S512x1024) wv (constant S512x1024 .f32 0x00000000#32))
    (broadcastTo S512x1024 (shapeCast S1x1024 b shapeCasts_S1x1024_S1x1024) broadcasts_S1x1024_S512x1024)) shapeCasts_S512x1024_S1x512x1024
/-- A partial supertile's block: the rows past the document's end are zero. -/
def payPart (j : ℕ) (v0 v1 : BitVec 32) (x : Vec F S1x512x1024 .f32) (wv : Vec F S1024x1024 .f32) (b : Vec F S1x1024 .f32) : Vec F S1x512x1024 .f32 :=
  shapeCast S1x512x1024 (select (broadcastTo S512x1024 (shapeCast S512x1 (cmpi .slt (addi (iota .tc S512x1 32 [0] iota_S512x1_d0_w32) (broadcast S512x1 (BitVec.ofNat 32 (512 * j))))
      (broadcast S512x1 (Scalar.subi v1 v0))) shapeCasts_S512x1_S512x1) broadcasts_S512x1_S512x1024)
    (addf (matmul dot_S512x1024_S1024x1024_S512x1024_1_0_0_1_n_n none (shapeCast S512x1024 x shapeCasts_S1x512x1024_S512x1024) wv (constant S512x1024 .f32 0x00000000#32))
      (broadcastTo S512x1024 (shapeCast S1x1024 b shapeCasts_S1x1024_S1x1024) broadcasts_S1x1024_S512x1024))
    (broadcast S512x1024 (Scalar.ofBits .f32 0x00000000#32))) shapeCasts_S512x1024_S1x512x1024
/-- The block of a supertile with no row of the document. -/
def payZero : Vec F S1x512x1024 .f32 :=
  shapeCast S1x512x1024 (broadcast S512x1024 (Scalar.ofBits .f32 0x00000000#32)) shapeCasts_S512x1024_S1x512x1024
/-- A supertile's row of the mask. -/
def payMask (j : ℕ) (v0 v1 : BitVec 32) : Vec F S1x1x512 .i32 :=
  shapeCast S1x1x512 (extui 32 (cmpi .slt (addi (iota .tc S1x512 32 [1] iota_S1x512_d1_w32) (broadcast S1x512 (BitVec.ofNat 32 (512 * j))))
    (broadcast S1x512 (Scalar.subi v1 v0))) natLt_1_32) shapeCasts_S1x512_S1x1x512

variable (c : Dev nD) (w : ℕ → BitVec 32) (X : Vec F S8192x1024 .f32) (Wv : Vec F S1024x1024 .f32) (bv : Vec F S1x1024 .f32)
variable (OK : ℕ → Vec F S1x512x1024 .f32 → Prop)

/-- The flat array's row that row `r` of supertile `k`'s block is computed from. -/
def flatRow (k : ℕ) (i : S1x512x1024.Idx) : Elt F .f32 :=
  X (ix2 (⟨min (start w k + (i 1).val) 8191, by omega⟩ : Fin 8192) (⟨(i 2).val, (i 2).isLt⟩ : Fin 1024))

/-- The blocks the kernel may write are blocks the claim allows. -/
structure Good : Prop where
  full : ∀ k < 32, nt w k = 4 → ∀ x : Vec F S1x512x1024 .f32, (∀ i, x i = flatRow w X k i) → OK k (payFull x Wv bv)
  part : ∀ k < 32, 0 < nt w k → nt w k < 4 → ∀ x : Vec F S1x512x1024 .f32, (∀ i : S1x512x1024.Idx, (i 1).val < 128 * nt w k → x i = flatRow w X k i) →
    OK k (payPart (k % 4) (w (k / 4)) (w (k / 4 + 1)) x Wv bv)
  zero : ∀ k < 32, nt w k = 0 → OK k payZero

def wsem : DmaSem sig := cc0_scratch3.sem
def Nw : ℕ := (Memref.whole cc0_scratch2 : Memref sig .tc .vmem S1024x1024 .f32).view.ref.dmaCredit S1024x1024 .f32
theorem Nw_pos : 0 < Nw := View.dmaCredit_pos (Memref.whole cc0_scratch2 : Memref sig .tc .vmem S1024x1024 .f32).view (by decide)

def bP : sProp 𝕄 := (c : Thread nD τ).loc cc0_stg1_0 ↦{fullShare} bv
def WP (n : ℕ) : sProp 𝕄 :=
  if n = 0 then iprop(((c : Thread nD τ).loc main_arg2 ↦{fullShare} Wv) ∗ (∃ f : Vec F S1024x1024 .f32, (c : Thread nD τ).loc cc0_scratch2 ↦{fullShare} f) ∗ sem0 c wsem)
  else if n = 1 then Transfers.Flight (Lvl := ℕ) (countersEmb (U := Pipeline.UD sig nD τ)) (c : Thread nD τ) (.dma wsem) () Nw
    iprop(((c : Thread nD τ).loc cc0_scratch2 ↦{fullShare} Wv) ∗ ((c : Thread nD τ).loc main_arg2 ↦{fullShare} Wv))
  else iprop(((c : Thread nD τ).loc main_arg2 ↦{fullShare} Wv) ∗ ((c : Thread nD τ).loc cc0_scratch2 ↦{fullShare} Wv) ∗ sem0 c wsem)

/-- The rectangle of slot `s` of a ring. -/
abbrev srect (s : ℕ) (h : ∀ x, (![s, 0, 0] : Fin 3 → ℕ) x + S1x512x1024.size x ≤ S10x512x1024.size x) : Rect S10x512x1024 :=
  Rect.unit (s := S10x512x1024) ![s, 0, 0] S1x512x1024.size h

theorem srect_emb (s : ℕ) (h) (j : S1x512x1024.Idx) :
    (((srect s h).emb j 0 : Fin _) : ℕ) = s ∧ (((srect s h).emb j 1 : Fin _) : ℕ) = (j 1).val ∧ (((srect s h).emb j 2 : Fin _) : ℕ) = (j 2).val := by
  have h0 : (j 0).val < 1 := (j 0).isLt
  refine ⟨?_, ?_, ?_⟩
  · show s + 1 * (j 0).val = _; omega
  · show 0 + 1 * (j 1).val = _; omega
  · show 0 + 1 * (j 2).val = _; omega

theorem acc_set0 (s : ℕ) (h) : ((Memref.whole cc0_scratch0 : Memref sig .tc .vmem S10x512x1024 .f32).access (srect s h)).set = slot s 0 512 :=
  (View.set_slice_whole cc0_scratch0 _).trans ((rect_slot 512 s 0 h).trans (by rw [Nat.zero_add]))
theorem acc_set1 (s : ℕ) (h) : ((Memref.whole cc0_scratch1 : Memref sig .tc .vmem S10x512x1024 .f32).access (srect s h)).set = slot s 0 512 :=
  (View.set_slice_whole cc0_scratch1 _).trans ((rect_slot 512 s 0 h).trans (by rw [Nat.zero_add]))

/-- What the load of a slot reads. -/
theorem slot_read (k : ℕ) (h) (f : Vec F S10x512x1024 .f32) (hf : ∀ i ∈ slot (k % 10) 0 (128 * nt w k), f i = xrows w X k i) (i : S1x512x1024.Idx) (hi : (i 1).val < 128 * nt w k) :
    ((Memref.whole cc0_scratch0 : Memref sig .tc .vmem S10x512x1024 .f32).access (srect (k % 10) h)).read (Elt F) f i = flatRow w X k i := by
  obtain ⟨e0, e1, e2⟩ := srect_emb (k % 10) h i
  refine (hf ((srect (k % 10) h).emb i) (mem_slot.mpr ⟨e0, Nat.zero_le _, by rw [e1]; exact hi⟩)).trans ?_
  unfold xrows flatRow
  congr 1
  funext x
  fin_cases x
  · apply Fin.ext
    show min (start w k + (((srect (k % 10) h).emb i 1 : Fin _) : ℕ)) 8191 = _
    rw [e1]
  · exact Fin.ext e2

/-- What the store of a block leaves in its slot. -/
theorem slot_written (k : ℕ) (h) (f : Vec F S10x512x1024 .f32) (g : Vec F S1x512x1024 .f32) :
    (((Memref.whole cc0_scratch1 : Memref sig .tc .vmem S10x512x1024 .f32).access (srect (k % 10) h)).loc (c : Thread nD τ) ↦[slot (k % 10) 0 512]{fullShare}
      (((Memref.whole cc0_scratch1 : Memref sig .tc .vmem S10x512x1024 .f32).access (srect (k % 10) h)).write (Elt F) f g Finset.univ) : sProp 𝕄)
      = opt c (k % 10) 0 512 (inSlot g) := by
  refine pointsTo_congr fun i hi => ?_
  rw [← acc_set1 (k % 10) h] at hi
  obtain ⟨j, -, rfl⟩ := Finset.mem_map.mp hi
  refine (View.write_emb_of_mem _ _ (Finset.mem_univ j)).trans ?_
  obtain ⟨e0, e1, e2⟩ := srect_emb (k % 10) h j
  have h0 : (j 0).val < 1 := (j 0).isLt
  show g j = inSlot g ((srect (k % 10) h).emb j)
  unfold inSlot
  congr 1
  funext x
  fin_cases x
  · apply Fin.ext
    show (j 0).val = 0
    omega
  · exact Fin.ext e1.symm
  · exact Fin.ext e2.symm

theorem whole_read2 (h) (f : Vec F S1024x1024 .f32) :
    ((Memref.whole cc0_scratch2 : Memref sig .tc .vmem S1024x1024 .f32).access (Rect.unit (s := S1024x1024) ![0, 0] S1024x1024.size h)).read (Elt F) f = f := by
  funext i
  show f _ = f i
  congr 1
  funext x
  fin_cases x
  · apply Fin.ext; show 0 + 1 * (i 0).val = _; simp
  · apply Fin.ext; show 0 + 1 * (i 1).val = _; simp
theorem whole_read1 (h) (f : Vec F S1x1024 .f32) :
    ((Memref.whole cc0_stg1_0 : Memref sig .tc .vmem S1x1024 .f32).access (Rect.unit (s := S1x1024) ![0, 0] S1x1024.size h)).read (Elt F) f = f := by
  funext i
  show f _ = f i
  congr 1
  funext x
  fin_cases x
  · apply Fin.ext; show 0 + 1 * (i 0).val = _; simp
  · apply Fin.ext; show 0 + 1 * (i 1).val = _; simp

/-- The four loads and the store of a block computed from the slot's rows. -/
theorem compute {α : Type} (Q : α → sProp 𝕄) (rest : Prog (TpuEff nD τ sig (Elt F) Λ₀ .tc) α) (k : ℕ)
    (pay : Vec F S1x512x1024 .f32 → Vec F S1024x1024 .f32 → Vec F S1x1024 .f32 → Vec F S1x512x1024 .f32)
    (hpay : ∀ x : Vec F S1x512x1024 .f32, (∀ i : S1x512x1024.Idx, (i 1).val < 128 * nt w k → x i = flatRow w X k i) → OK k (pay x Wv bv))
    (hs hwr hbr l₁ l₂ l₃ l₄ p₁ p₂) :
    iprop(XData c w X k ∗ bP c bv ∗ WP c Wv 2 ∗ OFree c (k % 10)) ⊢ iprop((iprop(XData c w X k ∗ bP c bv ∗ WP c Wv 2 ∗ OFull c OK k) -∗ W c rest Q) -∗
      W c (Prog.lift (.load (Memref.whole cc0_scratch0 : Memref sig .tc .vmem S10x512x1024 .f32) (srect (k % 10) hs).toLoadRect l₁) >>= fun x =>
        Prog.lift (.load (Memref.whole cc0_scratch2 : Memref sig .tc .vmem S1024x1024 .f32) (Rect.unit (s := S1024x1024) ![0, 0] S1024x1024.size hwr).toLoadRect l₂) >>= fun wv =>
        Prog.lift (.load (Memref.whole cc0_stg1_0 : Memref sig .tc .vmem S1x1024 .f32) (Rect.unit (s := S1x1024) ![0, 0] S1x1024.size hbr).toLoadRect l₃) >>= fun b =>
        Prog.lift (.load (Memref.whole cc0_scratch1 : Memref sig .tc .vmem S10x512x1024 .f32) (srect (k % 10) hs).toLoadRect l₄) >>= fun _ =>
        Prog.lift (.store (Memref.whole cc0_scratch1 : Memref sig .tc .vmem S10x512x1024 .f32) (srect (k % 10) hs) (pay x wv b) Finset.univ p₁ p₂) >>= fun _ => rest) Q) := by
  unfold XData bP WP OFree W xpt opt
  rw [if_neg (by decide), if_neg (by decide)]
  iintro ⟨⟨%f, %hf, Hx, Hs, Hv⟩, Hb, ⟨Hw2, Hw, Hwv⟩, ⟨⟨%g, Ho⟩, Hov⟩⟩ Hk
  iapply (wp_load_rect Variants.none (c : Thread nD τ) none Set.univ (m := (Memref.whole cc0_scratch0 : Memref sig .tc .vmem S10x512x1024 .f32)) (r := srect (k % 10) hs)
    (S := slot (k % 10) 0 512) (f := f) (by rw [acc_set0])) $$ Hx
  iintro Hx
  iapply (wp_load_rect Variants.none (c : Thread nD τ) none Set.univ (m := (Memref.whole cc0_scratch2 : Memref sig .tc .vmem S1024x1024 .f32)) (r := Rect.unit (s := S1024x1024) ![0, 0] S1024x1024.size hwr) (q := fullShare) (S := Finset.univ) (f := Wv) (Finset.subset_univ _)) $$ Hw
  iintro Hw
  iapply (wp_load_rect Variants.none (c : Thread nD τ) none Set.univ (m := (Memref.whole cc0_stg1_0 : Memref sig .tc .vmem S1x1024 .f32)) (r := Rect.unit (s := S1x1024) ![0, 0] S1x1024.size hbr) (q := fullShare) (S := Finset.univ) (f := bv) (Finset.subset_univ _)) $$ Hb
  iintro Hb
  iapply (wp_load_rect Variants.none (c : Thread nD τ) none Set.univ (m := (Memref.whole cc0_scratch1 : Memref sig .tc .vmem S10x512x1024 .f32)) (r := srect (k % 10) hs)
    (S := slot (k % 10) 0 512) (f := g) (by rw [acc_set1])) $$ Ho
  iintro Ho
  iapply (wp_store Variants.none (c : Thread nD τ) none Set.univ (m := (Memref.whole cc0_scratch1 : Memref sig .tc .vmem S10x512x1024 .f32)) (r := srect (k % 10) hs)
    (S := slot (k % 10) 0 512) (f := g) (by rw [View.setOn_univ, acc_set1])) $$ Ho
  iintro Ho
  iapply Hk
  isplitl [Hx Hs Hv]
  · iexists f
    isplitr
    · ipureintro; exact hf
    isplitl [Hx]; · iexact Hx
    isplitl [Hs] <;> iassumption
  isplitl [Hb]; · iexact Hb
  isplitl [Hw2 Hw Hwv]
  · isplitl [Hw2]; · iexact Hw2
    isplitl [Hw] <;> iassumption
  unfold OFull
  isplitr [Hov]
  · iexists _
    isplitr
    rotate_left
    · rw [← slot_written c k hs g]
      iexact Ho
    · ipureintro
      rw [whole_read2, whole_read1]
      exact hpay _ fun i hi => slot_read w X k hs f hf i hi
  · iexact Hov

/-- The store of a block of zeros. -/
theorem compute_zero {α : Type} (Q : α → sProp 𝕄) (rest : Prog (TpuEff nD τ sig (Elt F) Λ₀ .tc) α) (k : ℕ)
    (pay : Vec F S1x512x1024 .f32) (hpay : OK k pay) (hs l₄ p₁ p₂) :
    iprop(OFree c (k % 10)) ⊢ iprop((OFull c OK k -∗ W c rest Q) -∗
      W c (Prog.lift (.load (Memref.whole cc0_scratch1 : Memref sig .tc .vmem S10x512x1024 .f32) (srect (k % 10) hs).toLoadRect l₄) >>= fun _ =>
        Prog.lift (.store (Memref.whole cc0_scratch1 : Memref sig .tc .vmem S10x512x1024 .f32) (srect (k % 10) hs) pay Finset.univ p₁ p₂) >>= fun _ => rest) Q) := by
  unfold OFree W opt OFull
  iintro ⟨⟨%g, Ho⟩, Hov⟩ Hk
  iapply (wp_load_rect Variants.none (c : Thread nD τ) none Set.univ (m := (Memref.whole cc0_scratch1 : Memref sig .tc .vmem S10x512x1024 .f32)) (r := srect (k % 10) hs)
    (S := slot (k % 10) 0 512) (f := g) (by rw [acc_set1])) $$ Ho
  iintro Ho
  iapply (wp_store Variants.none (c : Thread nD τ) none Set.univ (m := (Memref.whole cc0_scratch1 : Memref sig .tc .vmem S10x512x1024 .f32)) (r := srect (k % 10) hs)
    (S := slot (k % 10) 0 512) (f := g) (by rw [View.setOn_univ, acc_set1])) $$ Ho
  iintro Ho
  iapply Hk
  isplitr [Hov]
  · iexists pay
    isplitr
    · ipureintro; exact hpay
    rw [← slot_written c k hs g pay]
    iexact Ho
  · iexact Hov

end Cert.KernelIdeal.Hand
-- ==== Proof.StepsX.lean ====
/-
  The state of the whole kernel, and its steps on the input ring.
-/
module

public import proofs.«01_k».proof.Proof.Compute

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem bigSep_out (f : ℕ → sProp 𝕄) {S : Finset ℕ} {k : ℕ} (hk : k ∈ S) : bigSep S f = iprop(f k ∗ bigSep (S.erase k) f) := bigSep_erase hk

theorem fam1 {f g : ℕ → sProp 𝕄} (k : ℕ) (hk : k < 32) (h : ∀ j < 32, j ≠ k → f j = g j) :
    bigSep (Finset.range 32) f ⊢ iprop(f k ∗ (g k -∗ bigSep (Finset.range 32) g)) := by
  rw [bigSep_out f (Finset.mem_range.mpr hk), bigSep_out g (Finset.mem_range.mpr hk),
    bigSep_congr (Φ := f) (Ψ := g) (s := (Finset.range 32).erase k) fun j hj => h j (Finset.mem_range.mp (Finset.mem_of_mem_erase hj)) (Finset.ne_of_mem_erase hj)]
  iintro ⟨H, Hr⟩
  isplitl [H]; · iexact H
  iintro H
  isplitl [H] <;> iassumption

theorem fam2 {f g : ℕ → sProp 𝕄} (k k' : ℕ) (hk : k < 32) (hk' : k' < 32) (hn : k ≠ k') (h : ∀ j < 32, j ≠ k → j ≠ k' → f j = g j) :
    bigSep (Finset.range 32) f ⊢ iprop((f k ∗ f k') ∗ (iprop(g k ∗ g k') -∗ bigSep (Finset.range 32) g)) := by
  have hm : k' ∈ (Finset.range 32).erase k := Finset.mem_erase.mpr ⟨Ne.symm hn, Finset.mem_range.mpr hk'⟩
  rw [bigSep_out f (Finset.mem_range.mpr hk), bigSep_out g (Finset.mem_range.mpr hk), bigSep_out f hm, bigSep_out g hm,
    bigSep_congr (Φ := f) (Ψ := g) (s := ((Finset.range 32).erase k).erase k') fun j hj =>
      h j (Finset.mem_range.mp (Finset.mem_of_mem_erase (Finset.mem_of_mem_erase hj))) (Finset.ne_of_mem_erase (Finset.mem_of_mem_erase hj)) (Finset.ne_of_mem_erase hj)]
  iintro ⟨H, H', Hr⟩
  isplitl [H H']
  · isplitl [H] <;> iassumption
  iintro ⟨H, H'⟩
  isplitl [H]; · iexact H
  isplitl [H'] <;> iassumption

variable (c : Dev nD) (cu : Vec F S9 .i32) (X : Vec F S8192x1024 .f32) (Wv : Vec F S1024x1024 .f32) (bv : Vec F S1x1024 .f32)
variable (OK : ℕ → Vec F S1x512x1024 .f32 → Prop)

/-- The table of the documents' first rows, as words. -/
def wof (i : ℕ) : BitVec 32 := if h : i < 9 then cu (ix1 (⟨i, h⟩ : Fin 9)) else 0

def cuP : sProp 𝕄 := (c : Thread nD τ).loc cc0_stg0_0 ↦{fullShare} cu
/-- The mask's staging buffer, its first `mk` rows set. -/
def maskP (mk : ℕ) : sProp 𝕄 :=
  iprop(∃ f : Vec F S32x1x512 .i32, ⌜∀ i : S32x1x512.Idx, (i 0).val < mk →
      f i = payMask (F := F) ((i 0).val % 4) (wof cu ((i 0).val / 4)) (wof cu ((i 0).val / 4 + 1)) (ix3 (0 : Fin 1) (0 : Fin 1) (⟨(i 2).val, (i 2).isLt⟩ : Fin 512))⌝
    ∗ (c : Thread nD τ).loc cc0_stg2_0 ↦{fullShare} f)

/-- What the core holds: the weight's copy at stage `n`, `a` starting and `v` waiting conditionals passed, `e` computing ones,
    `s` blocks started out and `d` waited for, `mk` rows of the mask set. -/
def St (n a v e s d mk : ℕ) : sProp 𝕄 :=
  iprop(cuP c cu ∗ bP c bv ∗ WP c Wv n ∗ maskP c cu mk ∗ bigSep (Finset.range 32) (Xf c (wof cu) X a v e)
    ∗ bigSep (Finset.range 32) (Of c (wof cu) OK e s d) ∗ ow c)

variable {c cu X Wv bv OK} {n a v e s d mk : ℕ} {α : Type}

section XSteps

theorem Xf_a {k : ℕ} (hv : v ≤ 5 * k) (he : e < 3 * k + 3) (a : ℕ) (ha : 5 * k ≤ a) (ha' : a ≤ 5 * k + 5)
    (hr : k < 10 ∨ 3 * (k - 10) + 3 ≤ e) (w : ℕ → BitVec 32) : Xf c w X a v e k = XS c w X k (a - 5 * k) := by
  unfold Xf
  rw [if_neg (by omega), if_neg (by omega)]
  by_cases h : 5 * k < a
  · rw [if_pos h, min_eq_right (by omega)]
  · rw [if_neg h, if_pos hr, show a - 5 * k = 0 by omega]; exact (if_pos rfl).symm

theorem Xf_v {k : ℕ} (ha : 5 * k + 5 ≤ a) (he : e < 3 * k + 3) (v : ℕ) (hv : 5 * k ≤ v) (hv' : v ≤ 5 * k + 5)
    (w : ℕ → BitVec 32) : Xf c w X a v e k = XW c w X k (v - 5 * k) := by
  unfold Xf
  rw [if_neg (by omega)]
  by_cases h : 5 * k < v
  · rw [if_pos h, min_eq_right (by omega)]
  · rw [if_neg h, if_pos (by omega), min_eq_left (by omega), show v - 5 * k = 0 by omega, XS5]

theorem Xf_off_a {k j : ℕ} (hj : j ≠ k) (h1 : 5 * k ≤ a) (h2 : a < 5 * k + 5) (w : ℕ → BitVec 32) : Xf c w X a v e j = Xf c w X (a + 1) v e j := by
  unfold Xf
  rcases Nat.lt_or_gt_of_ne hj with h | h
  · rw [min_eq_left (by omega : 5 ≤ a - 5 * j), min_eq_left (by omega : 5 ≤ a + 1 - 5 * j)]
    have e1 : 5 * j < a := by omega
    have e2 : 5 * j < a + 1 := by omega
    simp only [e1, e2]
  · have e1 : ¬ 5 * j < a := by omega
    have e2 : ¬ 5 * j < a + 1 := by omega
    simp only [e1, e2, if_false]

theorem Xf_off_v {k j : ℕ} (hj : j ≠ k) (h1 : 5 * k ≤ v) (h2 : v < 5 * k + 5) (w : ℕ → BitVec 32) : Xf c w X a v e j = Xf c w X a (v + 1) e j := by
  unfold Xf
  rcases Nat.lt_or_gt_of_ne hj with h | h
  · rw [min_eq_left (by omega : 5 ≤ v - 5 * j), min_eq_left (by omega : 5 ≤ v + 1 - 5 * j)]
    have e1 : 5 * j < v := by omega
    have e2 : 5 * j < v + 1 := by omega
    simp only [e1, e2]
  · have e1 : ¬ 5 * j < v := by omega
    have e2 : ¬ 5 * j < v + 1 := by omega
    simp only [e1, e2, if_false]

/-- A step that moves a supertile's input from one starting conditional to the next. -/
theorem St_a {Q : α → sProp 𝕄} (k : ℕ) (hk : k < 32) (h1 : 5 * k ≤ a) (h2 : a < 5 * k + 5) (hv : v ≤ 5 * k) (he : e < 3 * k + 3) (hr : k < 10 ∨ 3 * (k - 10) + 3 ≤ e)
    {p rest : Prog (TpuEff nD τ sig (Elt F) Λ₀ .tc) α}
    (hu : XS c (wof cu) X k (a - 5 * k) ⊢ iprop((XS c (wof cu) X k (a + 1 - 5 * k) -∗ W c rest Q) -∗ W c p Q))
    (h : St c cu X Wv bv OK n (a + 1) v e s d mk ⊢ W c rest Q) : St c cu X Wv bv OK n a v e s d mk ⊢ W c p Q := by
  unfold St
  iintro ⟨Hcu, Hb, HW, Hm, HX, HO, How⟩
  ihave HX' := (fam1 (f := Xf c (wof cu) X a v e) (g := Xf c (wof cu) X (a + 1) v e) k hk fun j _ hj => Xf_off_a hj h1 h2 _) $$ HX
  rw [Xf_a hv he a h1 (by omega) hr, Xf_a hv he (a + 1) (by omega) (by omega) hr]
  icases HX' with ⟨Hx, Hback⟩
  iapply hu $$ Hx
  iintro Hx
  ihave HX := Hback $$ Hx
  iapply h
  unfold St
  isplitl [Hcu]; · iexact Hcu
  isplitl [Hb]; · iexact Hb
  isplitl [HW]; · iexact HW
  isplitl [Hm]; · iexact Hm
  isplitl [HX]; · iexact HX
  isplitl [HO]; · iexact HO
  iexact How

/-- A step that moves a supertile's input from one waiting conditional to the next. -/
theorem St_v {Q : α → sProp 𝕄} (k : ℕ) (hk : k < 32) (h1 : 5 * k ≤ v) (h2 : v < 5 * k + 5) (ha : 5 * k + 5 ≤ a) (he : e < 3 * k + 3)
    {p rest : Prog (TpuEff nD τ sig (Elt F) Λ₀ .tc) α}
    (hu : iprop(XW c (wof cu) X k (v - 5 * k) ∗ ow c) ⊢ iprop((iprop(XW c (wof cu) X k (v + 1 - 5 * k) ∗ ow c) -∗ W c rest Q) -∗ W c p Q))
    (h : St c cu X Wv bv OK n a (v + 1) e s d mk ⊢ W c rest Q) : St c cu X Wv bv OK n a v e s d mk ⊢ W c p Q := by
  unfold St
  iintro ⟨Hcu, Hb, HW, Hm, HX, HO, How⟩
  ihave HX' := (fam1 (f := Xf c (wof cu) X a v e) (g := Xf c (wof cu) X a (v + 1) e) k hk fun j _ hj => Xf_off_v hj h1 h2 _) $$ HX
  rw [Xf_v ha he v h1 (by omega), Xf_v ha he (v + 1) (by omega) (by omega)]
  icases HX' with ⟨Hx, Hback⟩
  iapply hu $$ [Hx How]
  · isplitl [Hx] <;> iassumption
  iintro ⟨Hx, How⟩
  ihave HX := Hback $$ Hx
  iapply h
  unfold St
  isplitl [Hcu]; · iexact Hcu
  isplitl [Hb]; · iexact Hb
  isplitl [HW]; · iexact HW
  isplitl [Hm]; · iexact Hm
  isplitl [HX]; · iexact HX
  isplitl [HO]; · iexact HO
  iexact How

end XSteps

abbrev xw512 (xo : Fin 3 → ℕ) (h : ∀ x, xo x + S1x512x1024.size x ≤ S10x512x1024.size x) (hq : S1x512x1024.Squeezes S512x1024) : Memref sig .tc .vmem S512x1024 .f32 :=
  ((Memref.whole cc0_scratch0 : Memref sig .tc .vmem S10x512x1024 .f32).slice (Rect.unit (s := S10x512x1024) xo S1x512x1024.size h) (fun _ => rfl)).squeeze S512x1024 hq

abbrev xw128 (xo : Fin 3 → ℕ) (h : ∀ x, xo x + S1x128x1024.size x ≤ S10x512x1024.size x) (hq : S1x128x1024.Squeezes S128x1024) : Memref sig .tc .vmem S128x1024 .f32 :=
  ((Memref.whole cc0_scratch0 : Memref sig .tc .vmem S10x512x1024 .f32).slice (Rect.unit (s := S10x512x1024) xo S1x128x1024.size h) (fun _ => rfl)).squeeze S128x1024 hq

variable (hw : Tab (wof cu))
include hw

theorem step_start_full {Q : α → sProp 𝕄} {rest : Prog (TpuEff nD τ sig (Elt F) Λ₀ .tc) α} {cnd : BitVec 1} {off : Fin 2 → ℕ} {xo : Fin 3 → ℕ} {so : Fin 1 → ℕ}
    {hin : cnd = 1#1 → ∀ a, off a + S512x1024.size a ≤ S8192x1024.size a} {h₂ hq} {hs : ∀ x, so x + S1.size x ≤ S10.size x} {hsq}
    {p₁ : ∀ h, (fwin 512 off (hin h)).view.WordExact} {p₂ : (DmaTarget.here (nD := nD) (p := Proc.tc) (xw512 xo h₂ hq)).view.WordExact}
    {p₃ : DmaTarget.Typed (nD := nD) (p := Proc.tc) .hbm (.dma ((cc0_scratch4.slice (Rect.unit (s := S10) so S1.size hs)).squeeze S_ hsq).sem) (.here (xw512 xo h₂ hq))}
    (h : St c cu X Wv bv OK n (a + 1) v e s d mk ⊢ W c rest Q)
    (hm : a % 5 = 0 := by decide) (hk : a / 5 < 32 := by decide) (hv : v ≤ 5 * (a / 5) := by decide) (he : e < 3 * (a / 5) + 3 := by decide)
    (hr : a / 5 < 10 ∨ 3 * (a / 5 - 10) + 3 ≤ e := by decide)
    (hc : cnd = condFull (a / 5 % 4) (wof cu (a / 5 / 4)) (wof cu (a / 5 / 4 + 1)) := by with_unfolding_all exact rfl)
    (ho : off = offR (512 * (a / 5 % 4)) (wof cu (a / 5 / 4)) := by with_unfolding_all exact rfl) (hx : xo = ![a / 5 % 10, 0, 0] := by with_unfolding_all exact rfl) (hso : so = ![a / 5 % 10] := by with_unfolding_all exact rfl) :
    St c cu X Wv bv OK n a v e s d mk ⊢ W c (if hh : cnd = 1#1 then
        (Prog.lift (.enqueueDma ((Memref.whole main_arg0 : Memref sig .tc .hbm S8192x1024 .f32).slice (Rect.unit (s := S8192x1024) off S512x1024.size (hin hh)) (fun _ => rfl))
          (.here (xw512 xo h₂ hq))
          (.dma ((cc0_scratch4.slice (Rect.unit (s := S10) so S1.size hs)).squeeze S_ hsq).sem) (p₁ hh) p₂ p₃) >>= fun _ => rest) else rest) Q := by
  subst hc ho hx hso
  refine St_a (a / 5) hk (by omega) (by omega) hv he hr ?_ h
  rw [show a - 5 * (a / 5) = 0 by omega, show a + 1 - 5 * (a / 5) = 1 by omega]
  exact start_full c X hw hk Q rest hin h₂ hq hs hsq p₁ p₂ p₃

theorem step_start_tile {Q : α → sProp 𝕄} {rest : Prog (TpuEff nD τ sig (Elt F) Λ₀ .tc) α} {cnd : BitVec 1} {off : Fin 2 → ℕ} {xo : Fin 3 → ℕ} {so : Fin 1 → ℕ}
    {hin : cnd = 1#1 → ∀ a, off a + S128x1024.size a ≤ S8192x1024.size a} {h₂ hq} {hs : ∀ x, so x + S1.size x ≤ S10.size x} {hsq}
    {p₁ : ∀ h, (fwin 128 off (hin h)).view.WordExact} {p₂ : (DmaTarget.here (nD := nD) (p := Proc.tc) (xw128 xo h₂ hq)).view.WordExact}
    {p₃ : DmaTarget.Typed (nD := nD) (p := Proc.tc) .hbm (.dma ((cc0_scratch4.slice (Rect.unit (s := S10) so S1.size hs)).squeeze S_ hsq).sem) (.here (xw128 xo h₂ hq))}
    (h : St c cu X Wv bv OK n (a + 1) v e s d mk ⊢ W c rest Q)
    (hm : 0 < a % 5 := by decide) (hk : a / 5 < 32 := by decide) (hv : v ≤ 5 * (a / 5) := by decide) (he : e < 3 * (a / 5) + 3 := by decide)
    (hr : a / 5 < 10 ∨ 3 * (a / 5 - 10) + 3 ≤ e := by decide)
    (hc : cnd = condTile (a / 5 % 4) (a % 5 - 1) (wof cu (a / 5 / 4)) (wof cu (a / 5 / 4 + 1)) := by with_unfolding_all exact rfl)
    (ho : off = offR (512 * (a / 5 % 4) + 128 * (a % 5 - 1)) (wof cu (a / 5 / 4)) := by with_unfolding_all exact rfl)
    (hx : xo = ![a / 5 % 10, 128 * (a % 5 - 1), 0] := by with_unfolding_all exact rfl) (hso : so = ![a / 5 % 10] := by with_unfolding_all exact rfl) :
    St c cu X Wv bv OK n a v e s d mk ⊢ W c (if hh : cnd = 1#1 then
        (Prog.lift (.enqueueDma ((Memref.whole main_arg0 : Memref sig .tc .hbm S8192x1024 .f32).slice (Rect.unit (s := S8192x1024) off S128x1024.size (hin hh)) (fun _ => rfl))
          (.here (xw128 xo h₂ hq))
          (.dma ((cc0_scratch4.slice (Rect.unit (s := S10) so S1.size hs)).squeeze S_ hsq).sem) (p₁ hh) p₂ p₃) >>= fun _ => rest) else rest) Q := by
  subst hc ho hx hso
  refine St_a (a / 5) hk (by omega) (by omega) hv he hr ?_ h
  rw [show a - 5 * (a / 5) = a % 5 - 1 + 1 by omega, show a + 1 - 5 * (a / 5) = a % 5 - 1 + 2 by omega]
  exact start_tile c X hw hk Q rest (a % 5 - 1) (by omega) hin h₂ hq hs hsq p₁ p₂ p₃

theorem step_wait_full {Q : α → sProp 𝕄} {rest : Prog (TpuEff nD τ sig (Elt F) Λ₀ .tc) α} {cnd : BitVec 1} {off : Fin 2 → ℕ} {xo : Fin 3 → ℕ} {so : Fin 1 → ℕ}
    {hin : cnd = 1#1 → ∀ a, off a + S512x1024.size a ≤ S8192x1024.size a} {h₂ hq} {hs : ∀ x, so x + S1.size x ≤ S10.size x} {hsq}
    {p₁ : ∀ h, (fwin 512 off (hin h)).view.WordExact} {p₂ : (xw512 xo h₂ hq).view.WordExact}
    (h : St c cu X Wv bv OK n a (v + 1) e s d mk ⊢ W c rest Q)
    (hm : v % 5 = 0 := by decide) (hk : v / 5 < 32 := by decide) (ha : 5 * (v / 5) + 5 ≤ a := by decide) (he : e < 3 * (v / 5) + 3 := by decide)
    (hc : cnd = condFull (v / 5 % 4) (wof cu (v / 5 / 4)) (wof cu (v / 5 / 4 + 1)) := by with_unfolding_all exact rfl)
    (ho : off = offR (512 * (v / 5 % 4)) (wof cu (v / 5 / 4)) := by with_unfolding_all exact rfl) (hx : xo = ![v / 5 % 10, 0, 0] := by with_unfolding_all exact rfl) (hso : so = ![v / 5 % 10] := by with_unfolding_all exact rfl) :
    St c cu X Wv bv OK n a v e s d mk ⊢ W c (if hh : cnd = 1#1 then
        (Prog.lift (.waitDma2 ((cc0_scratch4.slice (Rect.unit (s := S10) so S1.size hs)).squeeze S_ hsq).sem
          ((Memref.whole main_arg0 : Memref sig .tc .hbm S8192x1024 .f32).slice (Rect.unit (s := S8192x1024) off S512x1024.size (hin hh)) (fun _ => rfl))
          (xw512 xo h₂ hq)
          (p₁ hh) p₂) >>= fun _ => rest) else rest) Q := by
  subst hc ho hx hso
  refine St_v (v / 5) hk (by omega) (by omega) ha he ?_ h
  rw [show v - 5 * (v / 5) = 0 by omega, show v + 1 - 5 * (v / 5) = 1 by omega]
  exact wait_full c X hw hk Q rest hin h₂ hq hs hsq p₁ p₂

theorem step_wait_tile {Q : α → sProp 𝕄} {rest : Prog (TpuEff nD τ sig (Elt F) Λ₀ .tc) α} {cnd : BitVec 1} {off : Fin 2 → ℕ} {xo : Fin 3 → ℕ} {so : Fin 1 → ℕ}
    {hin : cnd = 1#1 → ∀ a, off a + S128x1024.size a ≤ S8192x1024.size a} {h₂ hq} {hs : ∀ x, so x + S1.size x ≤ S10.size x} {hsq}
    {p₁ : ∀ h, (fwin 128 off (hin h)).view.WordExact} {p₂ : (xw128 xo h₂ hq).view.WordExact}
    (h : St c cu X Wv bv OK n a (v + 1) e s d mk ⊢ W c rest Q)
    (hm : 0 < v % 5 := by decide) (hk : v / 5 < 32 := by decide) (ha : 5 * (v / 5) + 5 ≤ a := by decide) (he : e < 3 * (v / 5) + 3 := by decide)
    (hc : cnd = condTile (v / 5 % 4) (v % 5 - 1) (wof cu (v / 5 / 4)) (wof cu (v / 5 / 4 + 1)) := by with_unfolding_all exact rfl)
    (ho : off = offR (512 * (v / 5 % 4) + 128 * (v % 5 - 1)) (wof cu (v / 5 / 4)) := by with_unfolding_all exact rfl)
    (hx : xo = ![v / 5 % 10, 128 * (v % 5 - 1), 0] := by with_unfolding_all exact rfl) (hso : so = ![v / 5 % 10] := by with_unfolding_all exact rfl) :
    St c cu X Wv bv OK n a v e s d mk ⊢ W c (if hh : cnd = 1#1 then
        (Prog.lift (.waitDma2 ((cc0_scratch4.slice (Rect.unit (s := S10) so S1.size hs)).squeeze S_ hsq).sem
          ((Memref.whole main_arg0 : Memref sig .tc .hbm S8192x1024 .f32).slice (Rect.unit (s := S8192x1024) off S128x1024.size (hin hh)) (fun _ => rfl))
          (xw128 xo h₂ hq)
          (p₁ hh) p₂) >>= fun _ => rest) else rest) Q := by
  subst hc ho hx hso
  refine St_v (v / 5) hk (by omega) (by omega) ha he ?_ h
  rw [show v - 5 * (v / 5) = v % 5 - 1 + 1 by omega, show v + 1 - 5 * (v / 5) = v % 5 - 1 + 2 by omega]
  exact wait_tile c X hw hk Q rest (v % 5 - 1) (by omega) hin h₂ hq hs hsq p₁ p₂

/-- The check before a supertile's copies: of the copies started next, or of the copies waited for next. -/
theorem step_assume {Q : α → sProp 𝕄} {P : Prop} {dP : Decidable P} {rest : PLift P → Prog (TpuEff nD τ sig (Elt F) Λ₀ .tc) α} (k : ℕ) (hk : k < 32)
    (hP : chk (k % 4) (wof cu (k / 4)) (wof cu (k / 4 + 1)) → P) (h : ∀ hp : P, St c cu X Wv bv OK n a v e s d mk ⊢ W c (rest ⟨hp⟩) Q) :
    St c cu X Wv bv OK n a v e s d mk ⊢ W c (Prog.lift (.assume P dP) >>= rest) Q :=
  (h (hP (chk_ok hw hk))).trans (by unfold W; exact wp_assume Variants.none (c : Thread nD τ) none Set.univ _)

/-- The check before the copies of supertile `a / 5` are started. -/
theorem step_assume_a {Q : α → sProp 𝕄} {P : Prop} {dP : Decidable P} {rest : PLift P → Prog (TpuEff nD τ sig (Elt F) Λ₀ .tc) α}
    (h : ∀ hp : P, St c cu X Wv bv OK n a v e s d mk ⊢ W c (rest ⟨hp⟩) Q) (hk : a / 5 < 32 := by decide) (hs : v = 0 ∧ a < 45 ∨ s = mk + 1 := by decide)
    (hP : chk (a / 5 % 4) (wof cu (a / 5 / 4)) (wof cu (a / 5 / 4 + 1)) → P := by with_unfolding_all exact id) :
    St c cu X Wv bv OK n a v e s d mk ⊢ W c (Prog.lift (.assume P dP) >>= rest) Q := step_assume hw (a / 5) hk hP h
/-- The check before the copies of supertile `v / 5` are waited for. -/
theorem step_assume_v {Q : α → sProp 𝕄} {P : Prop} {dP : Decidable P} {rest : PLift P → Prog (TpuEff nD τ sig (Elt F) Λ₀ .tc) α}
    (h : ∀ hp : P, St c cu X Wv bv OK n a v e s d mk ⊢ W c (rest ⟨hp⟩) Q) (hk : v / 5 < 32 := by decide) (hs : s = mk ∧ 45 ≤ a := by decide)
    (hP : chk (v / 5 % 4) (wof cu (v / 5 / 4)) (wof cu (v / 5 / 4 + 1)) → P := by with_unfolding_all exact id) :
    St c cu X Wv bv OK n a v e s d mk ⊢ W c (Prog.lift (.assume P dP) >>= rest) Q := step_assume hw (v / 5) hk hP h

end Cert.KernelIdeal.Hand
-- ==== Proof.StepsO.lean ====
/-
  The steps on the output ring, and the computing conditionals.
-/
module

public import proofs.«01_k».proof.Proof.StepsX

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD} {cu : Vec F S9 .i32} {X : Vec F S8192x1024 .f32} {Wv : Vec F S1024x1024 .f32} {bv : Vec F S1x1024 .f32}
variable {OK : ℕ → Vec F S1x512x1024 .f32 → Prop} {n a v e s d mk : ℕ} {α : Type}

/-! ## The output ring -/

theorem not_filled {k : ℕ} (h : e < 3 * k + 1) (w : ℕ → BitVec 32) : ¬ filled w e k := by unfold filled; omega

theorem Of_other_s {k : ℕ} (h : k ≠ s) (w : ℕ → BitVec 32) : Of c w OK e s d k = Of c w OK e (s + 1) d k := by
  have h' : (k < s) = (k < s + 1) := propext (by omega)
  unfold Of; simp only [h']
theorem Of_other_d {k : ℕ} (h : k ≠ d) (h' : k ≠ d + 10) (w : ℕ → BitVec 32) : Of c w OK e s d k = Of c w OK e s (d + 1) k := by
  have h₁ : (k < d) = (k < d + 1) := propext (by omega)
  have h₂ : (k < 10 ∨ k - 10 < d) = (k < 10 ∨ k - 10 < d + 1) := propext (by omega)
  unfold Of; simp only [h₁, h₂]
theorem filled_other {k : ℕ} (h : k ≠ e / 3) (w : ℕ → BitVec 32) : filled w e k = filled w (e + 1) k := by
  unfold filled
  have h1 : (3 * k + 1 ≤ e) = (3 * k + 1 ≤ e + 1) := propext (by omega)
  have h2 : (3 * k + 2 ≤ e) = (3 * k + 2 ≤ e + 1) := propext (by omega)
  have h3 : (3 * k + 3 ≤ e) = (3 * k + 3 ≤ e + 1) := propext (by omega)
  rw [h1, h2, h3]
theorem Of_other_e {k : ℕ} (h : k ≠ e / 3) (w : ℕ → BitVec 32) : Of c w OK e s d k = Of c w OK (e + 1) s d k := by
  unfold Of; rw [filled_other h]

variable (hw : Tab (wof cu))

theorem step_out_start {Q : α → sProp 𝕄} {rest : PUnit → Prog (TpuEff nD τ sig (Elt F) Λ₀ .tc) α} {xo yo : Fin 3 → ℕ} {so : Fin 1 → ℕ}
    {h₁ : ∀ x, xo x + S1x512x1024.size x ≤ S10x512x1024.size x} {hq₁ : S1x512x1024.Squeezes S512x1024} {h₂ : ∀ x, yo x + S1x512x1024.size x ≤ S8x2048x1024.size x} {hq₂ : S1x512x1024.Squeezes S512x1024}
    {hs : ∀ x, so x + S1.size x ≤ S10.size x} {hsq} {p₁ p₂ p₃}
    (h : St c cu X Wv bv OK n a v e (s + 1) d mk ⊢ W c (rest ⟨⟩) Q) (hk : s < 32 := by decide) (hd : d ≤ s := by decide) (he : e = 3 * s + 3 := by decide)
    (hx : xo = ![s % 10, 0, 0] := by with_unfolding_all exact rfl) (hy : yo = ![s / 4, 512 * (s % 4), 0] := by with_unfolding_all exact rfl) (hso : so = ![s % 10] := by with_unfolding_all exact rfl) :
    St c cu X Wv bv OK n a v e s d mk ⊢ W c (Prog.lift (.enqueueDma
      (((Memref.whole cc0_scratch1 : Memref sig .tc .vmem S10x512x1024 .f32).slice (Rect.unit (s := S10x512x1024) xo S1x512x1024.size h₁) (fun _ => rfl)).squeeze S512x1024 hq₁)
      (.here (((Memref.whole main_v1_0 : Memref sig .tc .hbm S8x2048x1024 .f32).slice (Rect.unit (s := S8x2048x1024) yo S1x512x1024.size h₂) (fun _ => rfl)).squeeze S512x1024 hq₂))
      (.dma ((cc0_scratch5.slice (Rect.unit (s := S10) so S1.size hs)).squeeze S_ hsq).sem) p₁ p₂ p₃) >>= rest) Q := by
  subst hx hy hso he
  unfold St
  iintro ⟨Hcu, Hb, HW, Hm, HX, HO, How⟩
  ihave HO' := (fam1 (f := Of c (wof cu) OK (3 * s + 3) s d) (g := Of c (wof cu) OK (3 * s + 3) (s + 1) d) s hk fun j _ hj => Of_other_s hj _) $$ HO
  rw [show Of c (wof cu) OK (3 * s + 3) s d s = iprop(OFull c OK s ∗ TokRaw c s) by
      unfold Of; rw [if_neg (by omega), if_neg (by omega), if_pos (by unfold filled; omega)],
    show Of c (wof cu) OK (3 * s + 3) (s + 1) d s = OFl c OK s by unfold Of; rw [if_neg (by omega), if_pos (by omega)]]
  icases HO' with ⟨Ho, Hback⟩
  iapply (out_start c OK Q rest s h₁ hq₁ h₂ hq₂ hs hsq p₁ p₂ p₃) $$ Ho
  iintro Ho
  ihave HO := Hback $$ Ho
  iapply h
  unfold St
  isplitl [Hcu]; · iexact Hcu
  isplitl [Hb]; · iexact Hb
  isplitl [HW]; · iexact HW
  isplitl [Hm]; · iexact Hm
  isplitl [HX]; · iexact HX
  isplitl [HO]; · iexact HO
  iexact How

/-- What a wait of the output ring does to the family of outputs. -/
theorem O_d (hk : d < 32) (hs : d < s) (hs' : s ≤ d + 10) (he : e < 3 * (d + 10) + 1) (w : ℕ → BitVec 32) :
    bigSep (Finset.range 32) (Of c w OK e s d) ⊢ iprop(OFl c OK d ∗ (iprop(TokDone c OK d ∗ OFree c (d % 10)) -∗ bigSep (Finset.range 32) (Of c w OK e s (d + 1)))) := by
  have e1 : Of c w OK e s d d = OFl c OK d := by unfold Of; rw [if_neg (by omega), if_pos hs]
  by_cases h : d + 10 < 32
  · have e2 : Of c w OK e s (d + 1) d = TokDone c OK d := by unfold Of; rw [if_pos (by omega), if_pos h]
    have e3 : Of c w OK e s d (d + 10) = TokRaw c (d + 10) := by
      unfold Of; rw [if_neg (by omega), if_neg (by omega), if_neg (not_filled he w), if_neg (by omega)]
    have e4 : Of c w OK e s (d + 1) (d + 10) = iprop(OFree c (d % 10) ∗ TokRaw c (d + 10)) := by
      unfold Of; rw [if_neg (by omega), if_neg (by omega), if_neg (not_filled he w), if_pos (by omega), show (d + 10) % 10 = d % 10 by omega]
    refine (fam2 (f := Of c w OK e s d) (g := Of c w OK e s (d + 1)) d (d + 10) hk h (by omega) fun j _ hj hj' => Of_other_d hj hj' w).trans ?_
    rw [e1, e2, e3, e4]
    iintro ⟨⟨Hf, Hr⟩, Hback⟩
    isplitl [Hf]; · iexact Hf
    iintro ⟨Ht, Ho⟩
    iapply Hback
    isplitl [Ht]; · iexact Ht
    isplitl [Ho] <;> iassumption
  · have e2 : Of c w OK e s (d + 1) d = iprop(TokDone c OK d ∗ OFree c (d % 10)) := by unfold Of; rw [if_pos (by omega), if_neg h]
    refine (fam1 (f := Of c w OK e s d) (g := Of c w OK e s (d + 1)) d hk fun j hj hj' => Of_other_d hj' (by omega) w).trans ?_
    rw [e1, e2]

theorem step_out_wait {Q : α → sProp 𝕄} {rest : PUnit → Prog (TpuEff nD τ sig (Elt F) Λ₀ .tc) α} {xo yo : Fin 3 → ℕ} {so : Fin 1 → ℕ}
    {h₁ : ∀ x, xo x + S1x512x1024.size x ≤ S10x512x1024.size x} {hq₁ : S1x512x1024.Squeezes S512x1024} {h₂ : ∀ x, yo x + S1x512x1024.size x ≤ S8x2048x1024.size x} {hq₂ : S1x512x1024.Squeezes S512x1024}
    {hs : ∀ x, so x + S1.size x ≤ S10.size x} {hsq} {p₁ p₂}
    (h : St c cu X Wv bv OK n a v e s (d + 1) mk ⊢ W c (rest ⟨⟩) Q) (hk : d < 32 := by decide) (hds : d < s := by decide) (hs' : s ≤ d + 10 := by decide) (he : e < 3 * (d + 10) + 1 := by decide)
    (hx : xo = ![d % 10, 0, 0] := by with_unfolding_all exact rfl) (hy : yo = ![d / 4, 512 * (d % 4), 0] := by with_unfolding_all exact rfl) (hso : so = ![d % 10] := by with_unfolding_all exact rfl) :
    St c cu X Wv bv OK n a v e s d mk ⊢ W c (Prog.lift (.waitDma2 ((cc0_scratch5.slice (Rect.unit (s := S10) so S1.size hs)).squeeze S_ hsq).sem
      (((Memref.whole cc0_scratch1 : Memref sig .tc .vmem S10x512x1024 .f32).slice (Rect.unit (s := S10x512x1024) xo S1x512x1024.size h₁) (fun _ => rfl)).squeeze S512x1024 hq₁)
      (((Memref.whole main_v1_0 : Memref sig .tc .hbm S8x2048x1024 .f32).slice (Rect.unit (s := S8x2048x1024) yo S1x512x1024.size h₂) (fun _ => rfl)).squeeze S512x1024 hq₂)
      p₁ p₂) >>= rest) Q := by
  subst hx hy hso
  unfold St
  iintro ⟨Hcu, Hb, HW, Hm, HX, HO, How⟩
  ihave HO' := (O_d hk hds hs' he _) $$ HO
  icases HO' with ⟨Ho, Hback⟩
  iapply (out_wait c OK Q rest d h₁ hq₁ h₂ hq₂ hs hsq p₁ p₂) $$ [Ho How]
  · isplitl [Ho] <;> iassumption
  iintro ⟨Ho, How⟩
  ihave HO := Hback $$ Ho
  iapply h
  unfold St
  isplitl [Hcu]; · iexact Hcu
  isplitl [Hb]; · iexact Hb
  isplitl [HW]; · iexact HW
  isplitl [Hm]; · iexact Hm
  isplitl [HX]; · iexact HX
  isplitl [HO]; · iexact HO
  iexact How

/-! ## The computing conditionals -/

theorem XW5 (w : ℕ → BitVec 32) (k : ℕ) : XW c w X k 5 = XData c w X k := by
  have h : nt w k ≤ 4 := min_le_left _ _
  unfold XW
  split
  · rfl
  split
  · rw [if_neg (by decide)]
  · rw [if_neg (by omega)]

theorem Xf_e (hv : 5 * (e / 3) + 5 ≤ v) (w : ℕ → BitVec 32) : Xf c w X a v e (e / 3) = XData c w X (e / 3) := by
  unfold Xf; rw [if_neg (by omega), if_pos (by omega), min_eq_left (by omega), XW5]

theorem Xf_other_e {k : ℕ} (h : k ≠ e / 3) (h' : k ≠ e / 3 + 10 ∨ e % 3 ≠ 2) (w : ℕ → BitVec 32) : Xf c w X a v e k = Xf c w X a v (e + 1) k := by
  have h₁ : (3 * k + 3 ≤ e) = (3 * k + 3 ≤ e + 1) := propext (by omega)
  have h₂ : (k < 10 ∨ 3 * (k - 10) + 3 ≤ e) = (k < 10 ∨ 3 * (k - 10) + 3 ≤ e + 1) := propext (by omega)
  unfold Xf; simp only [h₁, h₂]

theorem data_ready (w : ℕ → BitVec 32) (k : ℕ) : XData c w X k ⊢ XReady c w X k := by
  unfold XData XReady XFree
  iintro ⟨%f, -, Hx, Hs, Hv⟩
  isplitl [Hs]; · iexact Hs
  isplitl [Hx]
  · iexists f; iexact Hx
  · iexact Hv

/-- What a computing conditional does to the family of inputs: the third one frees the slot. -/
theorem X_e (hk : e / 3 < 32) (hv : 5 * (e / 3) + 5 ≤ v) (hv' : v ≤ 5 * (e / 3) + 50) (ha' : a ≤ 5 * (e / 3) + 50) (w : ℕ → BitVec 32) :
    bigSep (Finset.range 32) (Xf c w X a v e) ⊢ iprop(XData c w X (e / 3) ∗ (XData c w X (e / 3) -∗ bigSep (Finset.range 32) (Xf c w X a v (e + 1)))) := by
  by_cases h2 : e % 3 = 2
  · by_cases h : e / 3 + 10 < 32
    · have e2 : Xf c w X a v (e + 1) (e / 3) = Src c w X (e / 3) := by unfold Xf; rw [if_pos (by omega), if_pos h]
      have e3 : Xf c w X a v e (e / 3 + 10) = Src c w X (e / 3 + 10) := by
        unfold Xf; rw [if_neg (by omega), if_neg (by omega), if_neg (by omega), if_neg (by omega)]
      have e4 : Xf c w X a v (e + 1) (e / 3 + 10) = XReady c w X (e / 3 + 10) := by
        unfold Xf; rw [if_neg (by omega), if_neg (by omega), if_neg (by omega), if_pos (by omega)]
      refine (fam2 (f := Xf c w X a v e) (g := Xf c w X a v (e + 1)) (e / 3) (e / 3 + 10) hk h (by omega) fun j _ hj hj' => Xf_other_e hj (.inl hj') w).trans ?_
      rw [Xf_e hv, e2, e3, e4]
      iintro ⟨⟨Hf, Hr⟩, Hback⟩
      isplitl [Hf]; · iexact Hf
      iintro Hd
      ihave Hd := (data_ready w (e / 3)) $$ Hd
      unfold XReady
      rw [show (e / 3 + 10) % 10 = e / 3 % 10 by omega]
      icases Hd with ⟨Hs, Hx⟩
      iapply Hback
      isplitl [Hs]; · iexact Hs
      isplitl [Hr] <;> iassumption
    · have e2 : Xf c w X a v (e + 1) (e / 3) = XReady c w X (e / 3) := by unfold Xf; rw [if_pos (by omega), if_neg h]
      refine (fam1 (f := Xf c w X a v e) (g := Xf c w X a v (e + 1)) (e / 3) hk fun j hj hj' => Xf_other_e hj' (.inl (by omega)) w).trans ?_
      rw [Xf_e hv, e2]
      iintro ⟨Hf, Hback⟩
      isplitl [Hf]; · iexact Hf
      iintro Hd
      iapply Hback
      iapply (data_ready w (e / 3)) $$ Hd
  · have e2 : Xf c w X a v (e + 1) (e / 3) = XData c w X (e / 3) := by
      unfold Xf; rw [if_neg (by omega), if_pos (by omega), min_eq_left (by omega), XW5]
    refine (fam1 (f := Xf c w X a v e) (g := Xf c w X a v (e + 1)) (e / 3) hk fun j _ hj => Xf_other_e hj (.inr h2) w).trans ?_
    rw [Xf_e hv, e2]

/-- A computing conditional. -/
theorem St_e {Q : α → sProp 𝕄} (hk : e / 3 < 32) (hv : 5 * (e / 3) + 5 ≤ v) (hv' : v ≤ 5 * (e / 3) + 50) (ha' : a ≤ 5 * (e / 3) + 50)
    {p rest : Prog (TpuEff nD τ sig (Elt F) Λ₀ .tc) α}
    (hu : iprop(XData c (wof cu) X (e / 3) ∗ bP c bv ∗ WP c Wv 2 ∗ Of c (wof cu) OK e s d (e / 3)) ⊢
      iprop((iprop(XData c (wof cu) X (e / 3) ∗ bP c bv ∗ WP c Wv 2 ∗ Of c (wof cu) OK (e + 1) s d (e / 3)) -∗ W c rest Q) -∗ W c p Q))
    (h : St c cu X Wv bv OK 2 a v (e + 1) s d mk ⊢ W c rest Q) : St c cu X Wv bv OK 2 a v e s d mk ⊢ W c p Q := by
  unfold St
  iintro ⟨Hcu, Hb, HW, Hm, HX, HO, How⟩
  ihave HO' := (fam1 (f := Of c (wof cu) OK e s d) (g := Of c (wof cu) OK (e + 1) s d) (e / 3) hk fun j _ hj => Of_other_e hj _) $$ HO
  icases HO' with ⟨Ho, HOb⟩
  ihave HX' := (X_e hk hv hv' ha' _) $$ HX
  icases HX' with ⟨Hx, HXb⟩
  iapply hu $$ [Hx Hb HW Ho]
  · isplitl [Hx]; · iexact Hx
    isplitl [Hb]; · iexact Hb
    isplitl [HW] <;> iassumption
  iintro ⟨Hx, Hb, HW, Ho⟩
  ihave HO := HOb $$ Ho
  ihave HX := HXb $$ Hx
  iapply h
  unfold St
  isplitl [Hcu]; · iexact Hcu
  isplitl [Hb]; · iexact Hb
  isplitl [HW]; · iexact HW
  isplitl [Hm]; · iexact Hm
  isplitl [HX]; · iexact HX
  isplitl [HO]; · iexact HO
  iexact How

/-- A computing conditional not taken. -/
theorem skip_e {Q : α → sProp 𝕄} {rest : Prog (TpuEff nD τ sig (Elt F) Λ₀ .tc) α} (k : ℕ) (w : ℕ → BitVec 32) (hf : filled w e k ↔ filled w (e + 1) k) :
    iprop(XData c w X k ∗ bP c bv ∗ WP c Wv 2 ∗ Of c w OK e s d k) ⊢
      iprop((iprop(XData c w X k ∗ bP c bv ∗ WP c Wv 2 ∗ Of c w OK (e + 1) s d k) -∗ W c rest Q) -∗ W c rest Q) := by
  rw [show Of c w OK (e + 1) s d k = Of c w OK e s d k by unfold Of; rw [propext hf]]
  iintro H Hk
  iapply Hk
  iexact H

theorem Of_before {k : ℕ} (hd : d ≤ k) (hs : s ≤ k) (hr : k < 10 ∨ k - 10 < d) (w : ℕ → BitVec 32) (hf : ¬ filled w e k) :
    Of c w OK e s d k = iprop(OFree c (k % 10) ∗ TokRaw c k) := by
  unfold Of; rw [if_neg (by omega), if_neg (by omega), if_neg hf, if_pos hr]
theorem Of_after {k : ℕ} (hd : d ≤ k) (hs : s ≤ k) (w : ℕ → BitVec 32) (hf : filled w e k) : Of c w OK e s d k = iprop(OFull c OK k ∗ TokRaw c k) := by
  unfold Of; rw [if_neg (by omega), if_neg (by omega), if_pos hf]

/-- A computing conditional taken, the block computed from the slot. -/
theorem take_e {Q : α → sProp 𝕄} {p rest : Prog (TpuEff nD τ sig (Elt F) Λ₀ .tc) α} (k : ℕ) (w : ℕ → BitVec 32) (hd : d ≤ k) (hs : s ≤ k) (hr : k < 10 ∨ k - 10 < d)
    (h0 : ¬ filled w e k) (h1 : filled w (e + 1) k)
    (hu : iprop(XData c w X k ∗ bP c bv ∗ WP c Wv 2 ∗ OFree c (k % 10)) ⊢ iprop((iprop(XData c w X k ∗ bP c bv ∗ WP c Wv 2 ∗ OFull c OK k) -∗ W c rest Q) -∗ W c p Q)) :
    iprop(XData c w X k ∗ bP c bv ∗ WP c Wv 2 ∗ Of c w OK e s d k) ⊢
      iprop((iprop(XData c w X k ∗ bP c bv ∗ WP c Wv 2 ∗ Of c w OK (e + 1) s d k) -∗ W c rest Q) -∗ W c p Q) := by
  rw [Of_before hd hs hr w h0, Of_after hd hs w h1]
  iintro ⟨Hx, Hb, HW, Ho, Ht⟩ Hk
  iapply hu $$ [Hx Hb HW Ho]
  · isplitl [Hx]; · iexact Hx
    isplitl [Hb]; · iexact Hb
    isplitl [HW] <;> iassumption
  iintro ⟨Hx, Hb, HW, Ho⟩
  iapply Hk
  isplitl [Hx]; · iexact Hx
  isplitl [Hb]; · iexact Hb
  isplitl [HW]; · iexact HW
  isplitl [Ho] <;> iassumption

include hw

theorem step_full {Q : α → sProp 𝕄} (hG : Good (wof cu) X Wv bv OK) {rest : Prog (TpuEff nD τ sig (Elt F) Λ₀ .tc) α} {cnd : BitVec 1} {so so' : Fin 3 → ℕ}
    {pay : Vec F S1x512x1024 .f32 → Vec F S1024x1024 .f32 → Vec F S1x1024 .f32 → Vec F S1x512x1024 .f32}
    {hs : ∀ x, so x + S1x512x1024.size x ≤ S10x512x1024.size x} {hs' : ∀ x, so' x + S1x512x1024.size x ≤ S10x512x1024.size x}
    {hwr : ∀ x, (![0, 0] : Fin 2 → ℕ) x + S1024x1024.size x ≤ S1024x1024.size x} {hbr : ∀ x, (![0, 0] : Fin 2 → ℕ) x + S1x1024.size x ≤ S1x1024.size x} {l₁ l₂ l₃ l₄ p₁ p₂}
    (h : St c cu X Wv bv OK 2 a v (e + 1) s d mk ⊢ W c rest Q) (he : e % 3 = 0 := by decide) (hk : e / 3 < 32 := by decide)
    (hv : 5 * (e / 3) + 5 ≤ v := by decide) (hv' : v ≤ 5 * (e / 3) + 50 := by decide) (ha' : a ≤ 5 * (e / 3) + 50 := by decide)
    (hd : d ≤ e / 3 := by decide) (hse : s ≤ e / 3 := by decide) (hr : e / 3 < 10 ∨ e / 3 - 10 < d := by decide)
    (hc : cnd = condFull (e / 3 % 4) (wof cu (e / 3 / 4)) (wof cu (e / 3 / 4 + 1)) := by with_unfolding_all exact rfl)
    (hso : so = ![e / 3 % 10, 0, 0] := by with_unfolding_all exact rfl) (hso' : so' = ![e / 3 % 10, 0, 0] := by with_unfolding_all exact rfl) (hp : pay = payFull := by with_unfolding_all exact rfl) :
    St c cu X Wv bv OK 2 a v e s d mk ⊢ W c (if cnd = 1#1 then (
        Prog.lift (.load (Memref.whole cc0_scratch0 : Memref sig .tc .vmem S10x512x1024 .f32) (Rect.unit (s := S10x512x1024) so S1x512x1024.size hs).toLoadRect l₁) >>= fun x =>
        Prog.lift (.load (Memref.whole cc0_scratch2 : Memref sig .tc .vmem S1024x1024 .f32) (Rect.unit (s := S1024x1024) ![0, 0] S1024x1024.size hwr).toLoadRect l₂) >>= fun wv =>
        Prog.lift (.load (Memref.whole cc0_stg1_0 : Memref sig .tc .vmem S1x1024 .f32) (Rect.unit (s := S1x1024) ![0, 0] S1x1024.size hbr).toLoadRect l₃) >>= fun b =>
        Prog.lift (.load (Memref.whole cc0_scratch1 : Memref sig .tc .vmem S10x512x1024 .f32) (Rect.unit (s := S10x512x1024) so' S1x512x1024.size hs').toLoadRect l₄) >>= fun _ =>
        Prog.lift (.store (Memref.whole cc0_scratch1 : Memref sig .tc .vmem S10x512x1024 .f32) (Rect.unit (s := S10x512x1024) so' S1x512x1024.size hs') (pay x wv b) Finset.univ p₁ p₂) >>= fun _ => rest) else rest) Q := by
  subst hso hso' hc hp
  refine St_e hk hv hv' ha' ?_ h
  by_cases h4 : nt (wof cu) (e / 3) = 4
  · rw [if_pos ((condFull_iff hw hk).mpr h4)]
    refine take_e _ _ hd hse hr (not_filled (by omega) _) (by unfold filled; omega) ?_
    exact compute c (wof cu) X Wv bv OK Q rest (e / 3) _ (fun x hx => hG.full _ hk h4 x fun i => hx i (by have : (i 1).val < 512 := (i 1).isLt; omega)) hs hwr hbr l₁ l₂ l₃ l₄ p₁ p₂
  · rw [if_neg fun hh => h4 ((condFull_iff hw hk).mp hh)]
    exact skip_e _ _ (by unfold filled; omega)

theorem step_part {Q : α → sProp 𝕄} (hG : Good (wof cu) X Wv bv OK) {rest : Prog (TpuEff nD τ sig (Elt F) Λ₀ .tc) α} {cnd : BitVec 1} {so so' : Fin 3 → ℕ}
    {pay : Vec F S1x512x1024 .f32 → Vec F S1024x1024 .f32 → Vec F S1x1024 .f32 → Vec F S1x512x1024 .f32}
    {hs : ∀ x, so x + S1x512x1024.size x ≤ S10x512x1024.size x} {hs' : ∀ x, so' x + S1x512x1024.size x ≤ S10x512x1024.size x}
    {hwr : ∀ x, (![0, 0] : Fin 2 → ℕ) x + S1024x1024.size x ≤ S1024x1024.size x} {hbr : ∀ x, (![0, 0] : Fin 2 → ℕ) x + S1x1024.size x ≤ S1x1024.size x} {l₁ l₂ l₃ l₄ p₁ p₂}
    (h : St c cu X Wv bv OK 2 a v (e + 1) s d mk ⊢ W c rest Q) (he : e % 3 = 1 := by decide) (hk : e / 3 < 32 := by decide)
    (hv : 5 * (e / 3) + 5 ≤ v := by decide) (hv' : v ≤ 5 * (e / 3) + 50 := by decide) (ha' : a ≤ 5 * (e / 3) + 50 := by decide)
    (hd : d ≤ e / 3 := by decide) (hse : s ≤ e / 3 := by decide) (hr : e / 3 < 10 ∨ e / 3 - 10 < d := by decide)
    (hc : cnd = condPart (e / 3 % 4) (wof cu (e / 3 / 4)) (wof cu (e / 3 / 4 + 1)) := by with_unfolding_all exact rfl)
    (hso : so = ![e / 3 % 10, 0, 0] := by with_unfolding_all exact rfl) (hso' : so' = ![e / 3 % 10, 0, 0] := by with_unfolding_all exact rfl)
    (hp : pay = payPart (e / 3 % 4) (wof cu (e / 3 / 4)) (wof cu (e / 3 / 4 + 1)) := by with_unfolding_all exact rfl) :
    St c cu X Wv bv OK 2 a v e s d mk ⊢ W c (if cnd = 1#1 then (
        Prog.lift (.load (Memref.whole cc0_scratch0 : Memref sig .tc .vmem S10x512x1024 .f32) (Rect.unit (s := S10x512x1024) so S1x512x1024.size hs).toLoadRect l₁) >>= fun x =>
        Prog.lift (.load (Memref.whole cc0_scratch2 : Memref sig .tc .vmem S1024x1024 .f32) (Rect.unit (s := S1024x1024) ![0, 0] S1024x1024.size hwr).toLoadRect l₂) >>= fun wv =>
        Prog.lift (.load (Memref.whole cc0_stg1_0 : Memref sig .tc .vmem S1x1024 .f32) (Rect.unit (s := S1x1024) ![0, 0] S1x1024.size hbr).toLoadRect l₃) >>= fun b =>
        Prog.lift (.load (Memref.whole cc0_scratch1 : Memref sig .tc .vmem S10x512x1024 .f32) (Rect.unit (s := S10x512x1024) so' S1x512x1024.size hs').toLoadRect l₄) >>= fun _ =>
        Prog.lift (.store (Memref.whole cc0_scratch1 : Memref sig .tc .vmem S10x512x1024 .f32) (Rect.unit (s := S10x512x1024) so' S1x512x1024.size hs') (pay x wv b) Finset.univ p₁ p₂) >>= fun _ => rest) else rest) Q := by
  subst hso hso' hc hp
  refine St_e hk hv hv' ha' ?_ h
  by_cases h4 : 0 < nt (wof cu) (e / 3) ∧ nt (wof cu) (e / 3) < 4
  · rw [if_pos ((condPart_iff hw hk).mpr h4)]
    refine take_e _ _ hd hse hr (by unfold filled; omega) (by unfold filled; omega) ?_
    exact compute c (wof cu) X Wv bv OK Q rest (e / 3) _ (fun x hx => hG.part _ hk h4.1 h4.2 x hx) hs hwr hbr l₁ l₂ l₃ l₄ p₁ p₂
  · rw [if_neg fun hh => h4 ((condPart_iff hw hk).mp hh)]
    have : nt (wof cu) (e / 3) ≤ 4 := min_le_left _ _
    exact skip_e _ _ (by unfold filled; omega)

theorem step_none {Q : α → sProp 𝕄} (hG : Good (wof cu) X Wv bv OK) {rest : Prog (TpuEff nD τ sig (Elt F) Λ₀ .tc) α} {cnd : BitVec 1} {so' : Fin 3 → ℕ}
    {pay : Vec F S1x512x1024 .f32} {hs' : ∀ x, so' x + S1x512x1024.size x ≤ S10x512x1024.size x} {l₄ p₁ p₂}
    (h : St c cu X Wv bv OK 2 a v (e + 1) s d mk ⊢ W c rest Q) (he : e % 3 = 2 := by decide) (hk : e / 3 < 32 := by decide)
    (hv : 5 * (e / 3) + 5 ≤ v := by decide) (hv' : v ≤ 5 * (e / 3) + 50 := by decide) (ha' : a ≤ 5 * (e / 3) + 50 := by decide)
    (hd : d ≤ e / 3 := by decide) (hse : s ≤ e / 3 := by decide) (hr : e / 3 < 10 ∨ e / 3 - 10 < d := by decide)
    (hc : cnd = condNone (e / 3 % 4) (wof cu (e / 3 / 4)) (wof cu (e / 3 / 4 + 1)) := by with_unfolding_all exact rfl)
    (hso' : so' = ![e / 3 % 10, 0, 0] := by with_unfolding_all exact rfl) (hp : pay = payZero := by with_unfolding_all exact rfl) :
    St c cu X Wv bv OK 2 a v e s d mk ⊢ W c (if cnd = 1#1 then
      (Prog.lift (.load (Memref.whole cc0_scratch1 : Memref sig .tc .vmem S10x512x1024 .f32) (Rect.unit (s := S10x512x1024) so' S1x512x1024.size hs').toLoadRect l₄) >>= fun _ =>
        Prog.lift (.store (Memref.whole cc0_scratch1 : Memref sig .tc .vmem S10x512x1024 .f32) (Rect.unit (s := S10x512x1024) so' S1x512x1024.size hs') pay Finset.univ p₁ p₂) >>= fun _ => rest) else rest) Q := by
  subst hso' hc hp
  refine St_e hk hv hv' ha' ?_ h
  by_cases h4 : nt (wof cu) (e / 3) = 0
  · rw [if_pos ((condNone_iff hw hk).mpr h4)]
    refine take_e _ _ hd hse hr (by unfold filled; omega) (by unfold filled; omega) ?_
    iintro ⟨Hx, Hb, HW, Ho⟩ Hk
    iapply (compute_zero c OK Q rest (e / 3) _ (hG.zero _ hk h4) hs' l₄ p₁ p₂) $$ Ho
    iintro Ho
    iapply Hk
    isplitl [Hx]; · iexact Hx
    isplitl [Hb]; · iexact Hb
    isplitl [HW] <;> iassumption
  · rw [if_neg fun hh => h4 ((condNone_iff hw hk).mp hh)]
    exact skip_e _ _ (by unfold filled; omega)

end Cert.KernelIdeal.Hand
-- ==== Proof.StepsM.lean ====
/-
  The steps on the table, the weight and the mask.
-/
module

public import proofs.«01_k».proof.Proof.StepsO

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD} {cu : Vec F S9 .i32} {X : Vec F S8192x1024 .f32} {Wv : Vec F S1024x1024 .f32} {bv : Vec F S1x1024 .f32}
variable {OK : ℕ → Vec F S1x512x1024 .f32 → Prop} {n a v e s d mk : ℕ} {α : Type}

theorem step_bind {β : Type} {Q : β → sProp 𝕄} {p : Prog (TpuEff nD τ sig (Elt F) Λ₀ .tc) α} {k : α → Prog (TpuEff nD τ sig (Elt F) Λ₀ .tc) β}
    (h : St c cu X Wv bv OK n a v e s d mk ⊢ W c p fun x => W c (k x) Q) : St c cu X Wv bv OK n a v e s d mk ⊢ W c (p >>= k) Q := by
  rw [W_bind]; exact h

theorem step_pure {Q : α → sProp 𝕄} {x : α} (h : St c cu X Wv bv OK n a v e s d mk ⊢ Q x) : St c cu X Wv bv OK n a v e s d mk ⊢ W c (pure x) Q := by
  unfold W
  refine h.trans ?_
  show Q x ⊢ iprop(|={Set.univ}[frame]=> Q x)
  iintro H
  imodintro
  iexact H

/-- A load of one word of the table. -/
theorem step_smem {Q : α → sProp 𝕄} {i : ℕ} {h : ∀ x, (![i] : Fin 1 → ℕ) x + S1.size x ≤ S9.size x} {h₁ h₂} {rest : Elt F .i32 → Prog (TpuEff nD τ sig (Elt F) Λ₀ .tc) α}
    (hk : St c cu X Wv bv OK n a v e s d mk ⊢ W c (rest (wof cu i)) Q) :
    St c cu X Wv bv OK n a v e s d mk ⊢ W c (smemLoad (Memref.whole cc0_stg0_0 : Memref sig .tc .smem S9 .i32) (Rect.unit (s := S9) ![i] S1.size h) h₁ h₂ >>= rest) Q := by
  have hi : i < 9 := by
    have h0 : i + 1 ≤ 9 := h 0
    omega
  rw [W_bind]
  unfold St cuP
  unfold W smemLoad at *
  iintro ⟨Hcu, Hr⟩
  iapply (wp_smemLoadElt Variants.none (c : Thread nD τ) none Set.univ (m := (Memref.whole cc0_stg0_0 : Memref sig .tc .smem S9 .i32)) (r := Rect.unit (s := S9) ![i] S1.size h)
    (q := fullShare) (S := Finset.univ) (f := cu) (Finset.subset_univ _)) $$ Hcu
  iintro Hcu
  rw [wp_ret]
  have e : ((Memref.whole cc0_stg0_0 : Memref sig .tc .smem S9 .i32).access (Rect.unit (s := S9) ![i] S1.size h)).read (Elt F) cu
      (Shape.Idx.first (s := S1) (by decide)) = wof cu i := by
    unfold wof
    rw [dif_pos hi]
    show cu _ = cu _
    congr 1
    funext x
    fin_cases x
    apply Fin.ext
    show i + 1 * 0 = i
    omega
  imodintro
  rw [e]
  iapply hk
  unfold St cuP
  isplitl [Hcu]; · iexact Hcu
  iexact Hr

/-- The weight's copy started. -/
theorem step_w_start {Q : α → sProp 𝕄} {rest : PUnit → Prog (TpuEff nD τ sig (Elt F) Λ₀ .tc) α} {p₁ p₂}
    {p₃ : DmaTarget.Typed (nD := nD) (p := Proc.tc) .hbm (.dma cc0_scratch3.sem) (.here (Memref.whole cc0_scratch2 : Memref sig .tc .vmem S1024x1024 .f32))}
    (h : St c cu X Wv bv OK 1 a v e s d mk ⊢ W c (rest ⟨⟩) Q) :
    St c cu X Wv bv OK 0 a v e s d mk ⊢ W c (Prog.lift (.enqueueDma (Memref.whole main_arg2 : Memref sig .tc .hbm S1024x1024 .f32)
      (.here (Memref.whole cc0_scratch2 : Memref sig .tc .vmem S1024x1024 .f32)) (.dma cc0_scratch3.sem) p₁ p₂ p₃) >>= rest) Q := by
  replace h : _ ⊢ wp frame (wpE (defs₀ (F := F)) Variants.none (c : Thread nD τ) none) Set.univ ((Prog.ret PUnit.unit).bind rest) Q := h
  unfold St W WP
  rw [if_pos rfl]
  iintro ⟨Hcu, Hb, ⟨Hw, ⟨%f, Hf⟩, Hv⟩, Hr⟩
  unfold sem0 wsem
  iapply (Transfers.wp_dmaLocal (Lvl := ℕ) (countersEmb (U := Pipeline.UD sig nD τ)) Variants.none (c : Thread nD τ) none () Nw
    (src := (Memref.whole main_arg2 : Memref sig .tc .hbm S1024x1024 .f32)) (dst := (Memref.whole cc0_scratch2 : Memref sig .tc .vmem S1024x1024 .f32))
    (fs := Wv) (fd := f) (Sd := Finset.univ) rfl Nw_pos (Finset.subset_univ _)) $$ [Hw Hf Hv]
  · isplitl [Hw]
    · rw [View.set_whole]; iexact Hw
    isplitl [Hf] <;> iassumption
  have e : (Memref.whole cc0_scratch2 : Memref sig .tc .vmem S1024x1024 .f32).view.write (Elt F) f
      (((ReadAs.same : ReadAs (Elt F) _ _ _ _)).apply ((Memref.whole main_arg2 : Memref sig .tc .hbm S1024x1024 .f32).view.read (Elt F) Wv)) Finset.univ = Wv := View.write_whole_univ _ _ _
  iintro HF
  rw [e]
  iapply h
  unfold St WP
  rw [if_neg (by decide), if_pos rfl]
  isplitl [Hcu]; · iexact Hcu
  isplitl [Hb]; · iexact Hb
  isplitl [HF]
  · rw [View.set_whole]
    unfold wsem
    iexact HF
  iexact Hr

/-- The weight's copy waited for. -/
theorem step_w_wait {Q : α → sProp 𝕄} {rest : PUnit → Prog (TpuEff nD τ sig (Elt F) Λ₀ .tc) α} {p₁ p₂}
    (h : St c cu X Wv bv OK 2 a v e s d mk ⊢ W c (rest ⟨⟩) Q) :
    St c cu X Wv bv OK 1 a v e s d mk ⊢ W c (Prog.lift (.waitDma2 cc0_scratch3.sem (Memref.whole main_arg2 : Memref sig .tc .hbm S1024x1024 .f32)
      (Memref.whole cc0_scratch2 : Memref sig .tc .vmem S1024x1024 .f32) p₁ p₂) >>= rest) Q := by
  replace h : _ ⊢ wp frame (wpE (defs₀ (F := F)) Variants.none (c : Thread nD τ) none) Set.univ ((Prog.ret PUnit.unit).bind rest) Q := h
  unfold St W WP ow
  rw [if_neg (by decide), if_pos rfl]
  iintro ⟨Hcu, Hb, HF, Hm, HX, HO, ⟨%Z, How⟩⟩
  iapply (Transfers.wp_waitLocal (Lvl := ℕ) (countersEmb (U := Pipeline.UD sig nD τ)) Variants.none (c : Thread nD τ) none () (N := Nw) rfl (W := Z)) $$ [HF How]
  · isplitl [HF]
    · iexact HF
    · iexact How
  iintro ⟨⟨Hs, Hw⟩, Hv, How⟩
  iapply h
  unfold St WP ow
  rw [if_neg (by decide), if_neg (by decide)]
  isplitl [Hcu]; · iexact Hcu
  isplitl [Hb]; · iexact Hb
  isplitl [Hs Hw Hv]
  · isplitl [Hw]; · iexact Hw
    isplitl [Hs]; · iexact Hs
    unfold sem0 wsem
    iexact Hv
  isplitl [Hm]; · iexact Hm
  isplitl [HX]; · iexact HX
  isplitl [HO]; · iexact HO
  iexists _; iexact How

theorem mrect_emb (k : ℕ) (h : ∀ x, (![k, 0, 0] : Fin 3 → ℕ) x + S1x1x512.size x ≤ S32x1x512.size x) (j : S1x1x512.Idx) :
    (((Rect.unit (s := S32x1x512) ![k, 0, 0] S1x1x512.size h).emb j 0 : Fin _) : ℕ) = k ∧ (((Rect.unit (s := S32x1x512) ![k, 0, 0] S1x1x512.size h).emb j 2 : Fin _) : ℕ) = (j 2).val := by
  have h0 : (j 0).val < 1 := (j 0).isLt
  refine ⟨?_, ?_⟩
  · show k + 1 * (j 0).val = _; omega
  · show 0 + 1 * (j 2).val = _; omega

/-- The store of one row of the mask leaves the rows before it as they were. -/
theorem mask_written (h : ∀ x, (![mk, 0, 0] : Fin 3 → ℕ) x + S1x1x512.size x ≤ S32x1x512.size x) (f : Vec F S32x1x512 .i32)
    (hf : ∀ i : S32x1x512.Idx, (i 0).val < mk →
      f i = payMask (F := F) ((i 0).val % 4) (wof cu ((i 0).val / 4)) (wof cu ((i 0).val / 4 + 1)) (ix3 (0 : Fin 1) (0 : Fin 1) (⟨(i 2).val, (i 2).isLt⟩ : Fin 512)))
    (i : S32x1x512.Idx) (hi : (i 0).val < mk + 1) :
    ((Memref.whole cc0_stg2_0 : Memref sig .tc .vmem S32x1x512 .i32).access (Rect.unit (s := S32x1x512) ![mk, 0, 0] S1x1x512.size h)).write (Elt F) f
        (payMask (mk % 4) (wof cu (mk / 4)) (wof cu (mk / 4 + 1))) Finset.univ i
      = payMask (F := F) ((i 0).val % 4) (wof cu ((i 0).val / 4)) (wof cu ((i 0).val / 4 + 1)) (ix3 (0 : Fin 1) (0 : Fin 1) (⟨(i 2).val, (i 2).isLt⟩ : Fin 512)) := by
  by_cases hm : (i 0).val = mk
  · have hj : i = (Rect.unit (s := S32x1x512) ![mk, 0, 0] S1x1x512.size h).emb (ix3 (0 : Fin 1) (0 : Fin 1) (⟨(i 2).val, (i 2).isLt⟩ : Fin 512)) := by
      obtain ⟨e0, e2⟩ := mrect_emb mk h (ix3 (0 : Fin 1) (0 : Fin 1) (⟨(i 2).val, (i 2).isLt⟩ : Fin 512))
      funext x
      fin_cases x
      · exact Fin.ext (hm.trans e0.symm)
      · have h1 : (i 1).val < 1 := (i 1).isLt
        apply Fin.ext
        show (i 1).val = 0 + 1 * 0
        omega
      · exact Fin.ext e2.symm
    rw [hm]
    conv_lhs => rw [hj]
    exact View.write_emb_of_mem _ _ (Finset.mem_univ _)
  · refine Eq.trans (View.write_of_not_mem _ _ _ ?_) (hf i (by omega))
    rw [View.setOn_univ]
    intro hmem
    obtain ⟨j, -, rfl⟩ := Finset.mem_map.mp hmem
    exact hm (mrect_emb mk h j).1

theorem step_mask_load {Q : α → sProp 𝕄} {ro : Fin 3 → ℕ} {h : ∀ x, ro x + S1x1x512.size x ≤ S32x1x512.size x} {l₁}
    {rest : Vec F S1x1x512 .i32 → Prog (TpuEff nD τ sig (Elt F) Λ₀ .tc) α}
    (hk : ∀ x, St c cu X Wv bv OK n a v e s d mk ⊢ W c (rest x) Q) :
    St c cu X Wv bv OK n a v e s d mk ⊢ W c (Prog.lift (.load (Memref.whole cc0_stg2_0 : Memref sig .tc .vmem S32x1x512 .i32) (Rect.unit (s := S32x1x512) ro S1x1x512.size h).toLoadRect l₁) >>= rest) Q := by
  replace hk : ∀ x, _ ⊢ wp frame (wpE (defs₀ (F := F)) Variants.none (c : Thread nD τ) none) Set.univ ((Prog.ret x).bind rest) Q := hk
  unfold St maskP
  iintro ⟨Hcu, Hb, HW, ⟨%f, %hf, Hm⟩, HX, HO, How⟩
  unfold W
  iapply (wp_load_rect Variants.none (c : Thread nD τ) none Set.univ (m := (Memref.whole cc0_stg2_0 : Memref sig .tc .vmem S32x1x512 .i32)) (r := Rect.unit (s := S32x1x512) ro S1x1x512.size h)
    (q := fullShare) (S := Finset.univ) (f := f) (Finset.subset_univ _)) $$ Hm
  iintro Hm
  iapply hk
  unfold St maskP
  isplitl [Hcu]; · iexact Hcu
  isplitl [Hb]; · iexact Hb
  isplitl [HW]; · iexact HW
  isplitl [Hm]
  · iexists f
    isplitr
    · ipureintro; exact hf
    iexact Hm
  isplitl [HX]; · iexact HX
  isplitl [HO]; · iexact HO
  iexact How

theorem step_mask_store {Q : α → sProp 𝕄} {ro : Fin 3 → ℕ} {h : ∀ x, ro x + S1x1x512.size x ≤ S32x1x512.size x} {pay : Vec F S1x1x512 .i32} {p₁ p₂}
    {rest : PUnit → Prog (TpuEff nD τ sig (Elt F) Λ₀ .tc) α}
    (hk : St c cu X Wv bv OK n a v e s d (mk + 1) ⊢ W c (rest ⟨⟩) Q) (hro : ro = ![mk, 0, 0] := by with_unfolding_all exact rfl)
    (hp : pay = payMask (mk % 4) (wof cu (mk / 4)) (wof cu (mk / 4 + 1)) := by with_unfolding_all exact rfl) :
    St c cu X Wv bv OK n a v e s d mk ⊢ W c (Prog.lift (.store (Memref.whole cc0_stg2_0 : Memref sig .tc .vmem S32x1x512 .i32) (Rect.unit (s := S32x1x512) ro S1x1x512.size h) pay Finset.univ p₁ p₂) >>= rest) Q := by
  subst hro hp
  replace hk : _ ⊢ wp frame (wpE (defs₀ (F := F)) Variants.none (c : Thread nD τ) none) Set.univ ((Prog.ret PUnit.unit).bind rest) Q := hk
  unfold St maskP
  iintro ⟨Hcu, Hb, HW, ⟨%f, %hf, Hm⟩, HX, HO, How⟩
  unfold W
  iapply (wp_store Variants.none (c : Thread nD τ) none Set.univ (m := (Memref.whole cc0_stg2_0 : Memref sig .tc .vmem S32x1x512 .i32)) (r := Rect.unit (s := S32x1x512) ![mk, 0, 0] S1x1x512.size h)
    (S := Finset.univ) (f := f) (Finset.subset_univ _)) $$ Hm
  iintro Hm
  iapply hk
  unfold St maskP
  isplitl [Hcu]; · iexact Hcu
  isplitl [Hb]; · iexact Hb
  isplitl [HW]; · iexact HW
  isplitl [Hm]
  · iexists _
    isplitr
    rotate_left
    · iexact Hm
    · ipureintro; exact mask_written h f hf
  isplitl [HX]; · iexact HX
  isplitl [HO]; · iexact HO
  iexact How

/-! ## Which step comes next -/

theorem next_dite {Q : α → sProp 𝕄} {b : BitVec 1} {t : b = 1#1 → Prog (TpuEff nD τ sig (Elt F) Λ₀ .tc) α} {f : ¬ b = 1#1 → Prog (TpuEff nD τ sig (Elt F) Λ₀ .tc) α} (h : St c cu X Wv bv OK n a v e s d mk ⊢ W c (dite (b = 1#1) t f) Q) : St c cu X Wv bv OK n a v e s d mk ⊢ W c (dite (b = 1#1) t f) Q := h
theorem next_ite {Q : α → sProp 𝕄} {b : BitVec 1} {t f : Prog (TpuEff nD τ sig (Elt F) Λ₀ .tc) α} (h : St c cu X Wv bv OK n a v e s d mk ⊢ W c (ite (b = 1#1) t f) Q) : St c cu X Wv bv OK n a v e s d mk ⊢ W c (ite (b = 1#1) t f) Q := h
theorem next_lift {Q : α → sProp 𝕄} {β : Type} {o : TpuEff nD τ sig (Elt F) Λ₀ .tc β} {t : β → Prog (TpuEff nD τ sig (Elt F) Λ₀ .tc) α}
    (h : St c cu X Wv bv OK n a v e s d mk ⊢ W c (Prog.lift o >>= t) Q) : St c cu X Wv bv OK n a v e s d mk ⊢ W c (Prog.lift o >>= t) Q := h
theorem next_start {Q : α → sProp 𝕄} {p : Prog (TpuEff nD τ sig (Elt F) Λ₀ .tc) α} (h : St c cu X Wv bv OK n a v e s d mk ⊢ W c p Q) (hs : v = 0 ∧ a < 45 ∨ s = mk + 1 := by decide) : St c cu X Wv bv OK n a v e s d mk ⊢ W c p Q := h
theorem next_a0 {Q : α → sProp 𝕄} {p : Prog (TpuEff nD τ sig (Elt F) Λ₀ .tc) α} (h : St c cu X Wv bv OK n a v e s d mk ⊢ W c p Q) (hs : a % 5 = 0 := by decide) : St c cu X Wv bv OK n a v e s d mk ⊢ W c p Q := h
theorem next_v0 {Q : α → sProp 𝕄} {p : Prog (TpuEff nD τ sig (Elt F) Λ₀ .tc) α} (h : St c cu X Wv bv OK n a v e s d mk ⊢ W c p Q) (hs : v % 5 = 0 := by decide) : St c cu X Wv bv OK n a v e s d mk ⊢ W c p Q := h
theorem next_e0 {Q : α → sProp 𝕄} {p : Prog (TpuEff nD τ sig (Elt F) Λ₀ .tc) α} (h : St c cu X Wv bv OK n a v e s d mk ⊢ W c p Q) (hs : e % 3 = 0 := by decide) : St c cu X Wv bv OK n a v e s d mk ⊢ W c p Q := h
theorem next_e1 {Q : α → sProp 𝕄} {p : Prog (TpuEff nD τ sig (Elt F) Λ₀ .tc) α} (h : St c cu X Wv bv OK n a v e s d mk ⊢ W c p Q) (hs : e % 3 = 1 := by decide) : St c cu X Wv bv OK n a v e s d mk ⊢ W c p Q := h
theorem next_assume {Q : α → sProp 𝕄} {P : Prop} {dP : Decidable P} {t : PLift P → Prog (TpuEff nD τ sig (Elt F) Λ₀ .tc) α}
    (h : St c cu X Wv bv OK n a v e s d mk ⊢ W c (Prog.lift (.assume P dP) >>= t) Q) :
    St c cu X Wv bv OK n a v e s d mk ⊢ W c (Prog.lift (.assume P dP) >>= t) Q := h
theorem next_load {Q : α → sProp 𝕄} {cs : CoreSpace} {sh : Shape} {el : EltTy} {m : Memref sig .tc cs sh el} {r : LoadRect sh} {p : m.view.LoadsAt r} {t : (r.shape.Idx → Elt F el) → Prog (TpuEff nD τ sig (Elt F) Λ₀ .tc) α}
    (h : St c cu X Wv bv OK n a v e s d mk ⊢ W c (Prog.lift (.load m r p) >>= t) Q) :
    St c cu X Wv bv OK n a v e s d mk ⊢ W c (Prog.lift (.load m r p) >>= t) Q := h
theorem next_store {Q : α → sProp 𝕄} {cs : CoreSpace} {sh : Shape} {el : EltTy} {m : Memref sig .tc cs sh el} {r : Rect sh} {w : r.shape.Idx → Elt F el} {M : Finset r.shape.Idx} {p : (m.access r).Stores M} {p' : M = Finset.univ ∨ ∀ a, r.stride a = 1} {t : PUnit → Prog (TpuEff nD τ sig (Elt F) Λ₀ .tc) α}
    (h : St c cu X Wv bv OK n a v e s d mk ⊢ W c (Prog.lift (.store m r w M p p') >>= t) Q) :
    St c cu X Wv bv OK n a v e s d mk ⊢ W c (Prog.lift (.store m r w M p p') >>= t) Q := h
theorem next_enq {Q : α → sProp 𝕄} {sp sp' : Space} {sh : Shape} {el : EltTy} {m : Memref sig .tc sp sh el} {tg : DmaTarget nD τ sig .tc sp' sh el} {sem : SemLoc sig} {p₁ : m.view.WordExact} {p₂ : tg.view.WordExact} {p₃ : tg.Typed sp sem} {t : PUnit → Prog (TpuEff nD τ sig (Elt F) Λ₀ .tc) α}
    (h : St c cu X Wv bv OK n a v e s d mk ⊢ W c (Prog.lift (.enqueueDma m tg sem p₁ p₂ p₃) >>= t) Q) :
    St c cu X Wv bv OK n a v e s d mk ⊢ W c (Prog.lift (.enqueueDma m tg sem p₁ p₂ p₃) >>= t) Q := h
theorem next_wait {Q : α → sProp 𝕄} {sp sp' : Space} {sh sh' : Shape} {el el' : EltTy} {sem : DmaSem sig} {m : Memref sig .tc sp sh el} {m' : Memref sig .tc sp' sh' el'} {p₁ : m.view.WordExact} {p₂ : m'.view.WordExact} {t : PUnit → Prog (TpuEff nD τ sig (Elt F) Λ₀ .tc) α}
    (h : St c cu X Wv bv OK n a v e s d mk ⊢ W c (Prog.lift (.waitDma2 sem m m' p₁ p₂) >>= t) Q) :
    St c cu X Wv bv OK n a v e s d mk ⊢ W c (Prog.lift (.waitDma2 sem m m' p₁ p₂) >>= t) Q := h
theorem next_w {Q : α → sProp 𝕄} {p : Prog (TpuEff nD τ sig (Elt F) Λ₀ .tc) α} (h : St c cu X Wv bv OK n a v e s d mk ⊢ W c p Q) (hs : v = 0 := by decide) : St c cu X Wv bv OK n a v e s d mk ⊢ W c p Q := h
end Cert.KernelIdeal.Hand
-- ==== Proof.Walk.lean ====
module

public import proofs.«01_k».proof.Proof.StepsM

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD} {cu : Vec F S9 .i32} {X : Vec F S8192x1024 .f32} {Wv : Vec F S1024x1024 .f32} {bv : Vec F S1x1024 .f32}
variable {OK : ℕ → Vec F S1x512x1024 .f32 → Prop}

set_option maxHeartbeats 4000000 in
theorem walk (hw : Tab (wof cu)) (hG : Good (wof cu) X Wv bv OK) (Q : PUnit → sProp 𝕄) (h : St c cu X Wv bv OK 2 160 160 96 32 32 32 ⊢ Q ⟨⟩) : St c cu X Wv bv OK 0 0 0 0 0 0 0 ⊢
    W c (cc0__proj_scatter_kernel (F := F) (Memref.whole cc0_stg0_0) (Memref.isWhole_whole _) (Memref.whole main_arg0) (Memref.isWhole_whole _) (Memref.whole main_arg2) (Memref.isWhole_whole _)
      (Memref.whole cc0_stg1_0) (Memref.isWhole_whole _) (Memref.whole main_v1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5) Q := by
  refine step_bind ?_
  refine step_bind ?_
  refine step_w_start ?_
  repeat first
    | (with_reducible refine next_dite (F := F) ?_
       first
         | (refine next_start ?_
            first
              | (refine next_a0 ?_; refine step_start_full hw ?_)
              | refine step_start_tile hw ?_)
         | first
           | (refine next_v0 ?_; refine step_wait_full hw ?_)
           | refine step_wait_tile hw ?_)
    | (with_reducible refine next_ite (F := F) ?_
       first
         | (refine next_e0 ?_; refine step_full hw hG ?_)
         | (refine next_e1 ?_; refine step_part hw hG ?_)
         | refine step_none hw hG ?_)
    | (with_reducible refine next_lift (F := F) ?_
       first
         | (with_reducible refine next_assume (F := F) ?_
            first
              | (refine next_start ?_; refine step_assume_a hw (fun _ => ?_))
              | refine step_assume_v hw (fun _ => ?_))
         | (with_reducible refine next_load (F := F) ?_; refine step_mask_load (fun _ => ?_))
         | (with_reducible refine next_store (F := F) ?_; refine step_mask_store ?_)
         | (with_reducible refine next_enq (F := F) ?_; refine step_out_start ?_)
         | (with_reducible refine next_wait (F := F) ?_
            first
              | (refine next_w ?_; refine step_w_wait ?_)
              | refine step_out_wait ?_))
    | (with_reducible refine step_pure (F := F) ?_
       first
         | (with_reducible refine step_pure (F := F) ?_
            refine step_bind ?_
            first
              | delta k0_part1 | delta k0_part2 | delta k0_part3 | delta k0_part4 | delta k0_part5 | delta k0_part6 | delta k0_part7 | delta k0_part8 | delta k0_part9 | delta k0_part10
              | delta k0_part11 | delta k0_part12 | delta k0_part13 | delta k0_part14 | delta k0_part15 | delta k0_part16 | delta k0_part17 | delta k0_part18 | delta k0_part19 | delta k0_part20
              | delta k0_part21 | delta k0_part22 | delta k0_part23 | delta k0_part24 | delta k0_part25 | delta k0_part26 | delta k0_part27 | delta k0_part28 | delta k0_part29 | delta k0_part30
              | delta k0_part31 | delta k0_part32 | delta k0_part33 | delta k0_part34 | delta k0_part35 | delta k0_part36 | delta k0_part37 | delta k0_part38 | delta k0_part39 | delta k0_part40
              | delta k0_part41 | delta k0_part42 | delta k0_part43 | delta k0_part44 | delta k0_part45 | delta k0_part46 | delta k0_part47 | delta k0_part48 | delta k0_part49 | delta k0_part50
              | delta k0_part51 | delta k0_part52 | delta k0_part53 | delta k0_part54 | delta k0_part55 | delta k0_part56 | delta k0_part57 | delta k0_part58 | delta k0_part59 | delta k0_part60
              | delta k0_part61 | delta k0_part62 | delta k0_part63 | delta k0_part64 | delta k0_part65 | delta k0_part66 | delta k0_part67 | delta k0_part68 | delta k0_part69 | delta k0_part70
              | delta k0_part71 | delta k0_part72 | delta k0_part73 | delta k0_part74 | delta k0_part75 | delta k0_part76 | delta k0_part77 | delta k0_part78 | delta k0_part79 | delta k0_part80
              | delta k0_part81 | delta k0_part82 | delta k0_part83 | delta k0_part84 | delta k0_part85)
         | (refine step_bind ?_
            first
              | delta k0_part1 | delta k0_part2 | delta k0_part3 | delta k0_part4 | delta k0_part5 | delta k0_part6 | delta k0_part7 | delta k0_part8 | delta k0_part9 | delta k0_part10
              | delta k0_part11 | delta k0_part12 | delta k0_part13 | delta k0_part14 | delta k0_part15 | delta k0_part16 | delta k0_part17 | delta k0_part18 | delta k0_part19 | delta k0_part20
              | delta k0_part21 | delta k0_part22 | delta k0_part23 | delta k0_part24 | delta k0_part25 | delta k0_part26 | delta k0_part27 | delta k0_part28 | delta k0_part29 | delta k0_part30
              | delta k0_part31 | delta k0_part32 | delta k0_part33 | delta k0_part34 | delta k0_part35 | delta k0_part36 | delta k0_part37 | delta k0_part38 | delta k0_part39 | delta k0_part40
              | delta k0_part41 | delta k0_part42 | delta k0_part43 | delta k0_part44 | delta k0_part45 | delta k0_part46 | delta k0_part47 | delta k0_part48 | delta k0_part49 | delta k0_part50
              | delta k0_part51 | delta k0_part52 | delta k0_part53 | delta k0_part54 | delta k0_part55 | delta k0_part56 | delta k0_part57 | delta k0_part58 | delta k0_part59 | delta k0_part60
              | delta k0_part61 | delta k0_part62 | delta k0_part63 | delta k0_part64 | delta k0_part65 | delta k0_part66 | delta k0_part67 | delta k0_part68 | delta k0_part69 | delta k0_part70
              | delta k0_part71 | delta k0_part72 | delta k0_part73 | delta k0_part74 | delta k0_part75 | delta k0_part76 | delta k0_part77 | delta k0_part78 | delta k0_part79 | delta k0_part80
              | delta k0_part81 | delta k0_part82 | delta k0_part83 | delta k0_part84 | delta k0_part85)
         | skip)
    | refine step_smem ?_
  exact h

end Cert.KernelIdeal.Hand
-- ==== Proof.Ends.lean ====
module

public import proofs.«01_k».proof.Proof.Walk

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Gathering families -/

theorem bs_insert {ι : Type} [DecidableEq ι] {S : Finset ι} {i : ι} (hi : i ∉ S) (Φ : ι → sProp 𝕄) :
    bigSep (insert i S) Φ = iprop(Φ i ∗ bigSep S Φ) := bigSep_insert hi
theorem bs_union {S T : Finset ℕ} (h : Disjoint S T) (Φ : ℕ → sProp 𝕄) : bigSep (S ∪ T) Φ = iprop(bigSep S Φ ∗ bigSep T Φ) := bigSep_union h
theorem bs_sep {ι : Type} (S : Finset ι) (Φ Ψ : ι → sProp 𝕄) : bigSep S (fun k => iprop(Φ k ∗ Ψ k)) = iprop(bigSep S Φ ∗ bigSep S Ψ) := bigSep_sep S Φ Ψ

section Gather

variable {ι β : Type}

theorem gather [DecidableEq ι] [Inhabited β] (S : Finset ι) (P : ι → β → Prop) (Φ : ι → β → sProp 𝕄) :
    bigSep S (fun t => iprop(∃ g, ⌜P t g⌝ ∗ Φ t g)) ⊢ iprop(∃ gs : ι → β, ⌜∀ t ∈ S, P t (gs t)⌝ ∗ bigSep S (fun t => Φ t (gs t))) := by
  induction S using Finset.induction_on with
  | empty =>
    rw [bigSep_empty]
    iintro H
    iexists (fun _ => default)
    isplitr
    · ipureintro; intro t ht; exact absurd ht (Finset.notMem_empty t)
    · rw [bigSep_empty]; iexact H
  | insert t S ht ih =>
    rw [bs_insert ht]
    refine (BIClass.sep_mono .rfl ih).trans ?_
    iintro ⟨⟨%g, %hg, H⟩, ⟨%gs, %hgs, HS⟩⟩
    iexists (Function.update gs t g)
    have hne : ∀ u ∈ S, u ≠ t := fun u hu h => ht (h ▸ hu)
    isplitr
    · ipureintro
      intro u hu
      rcases Finset.mem_insert.mp hu with rfl | hu
      · rw [Function.update_self]; exact hg
      · rw [Function.update_of_ne (hne u hu)]; exact hgs u hu
    rw [bs_insert ht, Function.update_self, bigSep_congr (fun u hu => by rw [Function.update_of_ne (hne u hu)] : ∀ u ∈ S, Φ u (Function.update gs t g u) = Φ u (gs u))]
    isplitl [H]
    · iexact H
    · iexact HS

end Gather

theorem range_split : Finset.range 32 = Finset.range 10 ∪ Finset.Ico 10 32 := by decide
theorem range_split' : Finset.range 32 = Finset.range 22 ∪ Finset.Ico 22 32 := by decide

theorem ring_in (A R G : ℕ → sProp 𝕄) (h₁ : ∀ k < 10, iprop(A k ∗ R k) ⊢ G k) (h₂ : ∀ k, 10 ≤ k → k < 32 → A k ⊢ G k) :
    iprop(bigSep (Finset.range 32) A ∗ bigSep (Finset.range 10) R) ⊢ bigSep (Finset.range 32) G := by
  have hd : Disjoint (Finset.range 10) (Finset.Ico 10 32) := by decide
  rw [range_split, bs_union hd, bs_union hd]
  have e₁ : iprop(bigSep (Finset.range 10) A ∗ bigSep (Finset.range 10) R) ⊢ bigSep (Finset.range 10) G := by
    refine (show iprop(bigSep (Finset.range 10) A ∗ bigSep (Finset.range 10) R) ⊢ bigSep (Finset.range 10) (fun k => iprop(A k ∗ R k)) by rw [bs_sep]).trans ?_
    exact bigSep_mono fun k hk => h₁ k (Finset.mem_range.mp hk)
  have e₂ : bigSep (Finset.Ico 10 32) A ⊢ bigSep (Finset.Ico 10 32) G :=
    bigSep_mono fun k hk => h₂ k (Finset.mem_Ico.mp hk).1 (Finset.mem_Ico.mp hk).2
  refine BIBase.Entails.trans ?_ (BIClass.sep_mono e₁ e₂)
  iintro ⟨⟨H1, H2⟩, H3⟩
  isplitl [H1 H3]
  · isplitl [H1]
    · iexact H1
    · iexact H3
  · iexact H2

/-- The slot of each of the last ten supertiles, as an injection. -/
def lastSlot : ℕ ↪ ℕ := ⟨fun k => if k < 22 then k + 100 else if k < 30 then k - 20 else if k < 32 then k - 30 else k + 100, fun a b h => by
  dsimp only at h; split_ifs at h <;> omega⟩

theorem ring_out (A R G : ℕ → sProp 𝕄) (h₁ : ∀ k < 22, G k ⊢ A k) (h₂ : ∀ k, 22 ≤ k → k < 32 → G k ⊢ iprop(A k ∗ R (k % 10))) :
    bigSep (Finset.range 32) G ⊢ iprop(bigSep (Finset.range 32) A ∗ bigSep (Finset.range 10) R) := by
  have hd : Disjoint (Finset.range 22) (Finset.Ico 22 32) := by decide
  rw [range_split', bs_union hd, bs_union hd]
  have e₁ : bigSep (Finset.range 22) G ⊢ bigSep (Finset.range 22) A := bigSep_mono fun k hk => h₁ k (Finset.mem_range.mp hk)
  have e₃ : bigSep (Finset.Ico 22 32) (fun k => R (k % 10)) = bigSep (Finset.range 10) R := by
    rw [show Finset.range 10 = (Finset.Ico 22 32).map lastSlot by decide, bigSep_map]
    refine bigSep_congr fun k hk => ?_
    rw [Finset.mem_Ico] at hk
    congr 1
    show k % 10 = (if k < 22 then k + 100 else if k < 30 then k - 20 else if k < 32 then k - 30 else k + 100)
    split_ifs <;> omega
  have e₂ : bigSep (Finset.Ico 22 32) G ⊢ iprop(bigSep (Finset.Ico 22 32) A ∗ bigSep (Finset.range 10) R) := by
    refine (bigSep_mono fun k hk => h₂ k (Finset.mem_Ico.mp hk).1 (Finset.mem_Ico.mp hk).2).trans ?_
    rw [← e₃]
    show bigSep (Finset.Ico 22 32) (fun k => iprop(A k ∗ R (k % 10))) ⊢ _
    rw [bs_sep]
  refine (BIClass.sep_mono e₁ e₂).trans ?_
  iintro ⟨H1, ⟨H2, H3⟩⟩
  isplitl [H1 H2]
  · isplitl [H1]
    · iexact H1
    · iexact H2
  · iexact H3

/-! ## The arrays as unions of pieces -/

section Pieces

variable {w : ℕ → BitVec 32} (hw : Tab w)

include hw in
theorem Tab.incr {i j : ℕ} (hij : i ≤ j) (hj : j ≤ 8) : (w i).toNat ≤ (w j).toNat := by
  induction j, hij using Nat.le_induction with
  | base => exact Nat.le_refl _
  | succ j hij ih => exact (ih (by omega)).trans (hw.mono j (by omega))

theorem src_room (k : ℕ) (h : nt w k ≠ 0) : start w k + 128 * nt w k ≤ (w (k / 4 + 1)).toNat ∧ 128 * nt w k ≤ 512 := by
  unfold nt left at *
  unfold start
  omega

include hw in
theorem src_disj : ∀ k ∈ Finset.range 32, ∀ k' ∈ Finset.range 32, k ≠ k' →
    Disjoint (frows (start w k) (start w k + 128 * nt w k)) (frows (start w k') (start w k' + 128 * nt w k')) := by
  have key : ∀ k < 32, ∀ k' < 32, k < k' → nt w k ≠ 0 → start w k + 128 * nt w k ≤ start w k' := by
    intro k hk k' hk' hlt hn
    have h := src_room (w := w) k hn
    by_cases hd : k / 4 = k' / 4
    · unfold start at *; rw [← hd]; omega
    · have := hw.incr (i := k / 4 + 1) (j := k' / 4) (by omega) (by omega)
      unfold start at *; omega
  intro k hk k' hk' hne
  rw [Finset.mem_range] at hk hk'
  refine Finset.disjoint_left.mpr fun i h h' => ?_
  rw [mem_frows] at h h'
  rcases Nat.lt_or_gt_of_ne hne with hlt | hlt
  · have := key k hk k' hk' hlt (by rintro h0; rw [h0] at h; omega)
    omega
  · have := key k' hk' k hk hlt (by rintro h0; rw [h0] at h'; omega)
    omega

include hw in
/-- The document of a row. -/
theorem doc_of (r : ℕ) (hr : r < 8192) : ∃ i < 8, (w i).toNat ≤ r ∧ r < (w (i + 1)).toNat := by
  by_contra hc
  have : ∀ i ≤ 8, (w i).toNat ≤ r := by
    intro i
    induction i with
    | zero => intro _; rw [hw.first]; exact Nat.zero_le _
    | succ i ih =>
      intro hi
      by_contra h
      exact hc ⟨i, by omega, ih (by omega), by omega⟩
  have := this 8 (Nat.le_refl _)
  rw [hw.last] at this
  omega

include hw in
theorem src_cover : (Finset.range 32).biUnion (fun k => frows (start w k) (start w k + 128 * nt w k)) = Finset.univ := by
  refine Finset.eq_univ_of_forall fun i => ?_
  obtain ⟨p, hp, h1, h2⟩ := doc_of hw (i 0).val (i 0).isLt
  have hr := hw.room p hp
  have ht := hw.tile p (by omega)
  have ht' := hw.tile (p + 1) (by omega)
  obtain ⟨x, hx⟩ := ht
  obtain ⟨y, hy⟩ := ht'
  refine Finset.mem_biUnion.mpr ⟨4 * p + ((i 0).val - (w p).toNat) / 512, Finset.mem_range.mpr (by omega), ?_⟩
  rw [mem_frows]
  have e1 : (4 * p + ((i 0).val - (w p).toNat) / 512) / 4 = p := by omega
  have e2 : (4 * p + ((i 0).val - (w p).toNat) / 512) % 4 = ((i 0).val - (w p).toNat) / 512 := by omega
  unfold nt left start
  rw [e1, e2]
  omega

theorem slot_cover : (Finset.range 10).biUnion (fun s => slot s 0 512) = Finset.univ := by
  refine Finset.eq_univ_of_forall fun i => Finset.mem_biUnion.mpr ⟨(i 0).val, Finset.mem_range.mpr (i 0).isLt, ?_⟩
  rw [mem_slot]
  exact ⟨rfl, Nat.zero_le _, (i 1).isLt⟩

theorem slots_disj : ∀ s ∈ Finset.range 10, ∀ s' ∈ Finset.range 10, s ≠ s' → Disjoint (slot s 0 512) (slot s' 0 512) :=
  fun s _ s' _ hne => Finset.disjoint_left.mpr fun i h h' => by rw [mem_slot] at h h'; omega

theorem tok_cover : (Finset.range 32).biUnion tset = Finset.univ := by
  refine Finset.eq_univ_of_forall fun i => ?_
  have h0 : (i 0).val < 8 := (i 0).isLt
  have h1 : (i 1).val < 2048 := (i 1).isLt
  refine Finset.mem_biUnion.mpr ⟨4 * (i 0).val + (i 1).val / 512, Finset.mem_range.mpr (by omega), ?_⟩
  rw [mem_tset]
  omega

theorem tok_disj : ∀ k ∈ Finset.range 32, ∀ k' ∈ Finset.range 32, k ≠ k' → Disjoint (tset k) (tset k') :=
  fun k _ k' _ hne => Finset.disjoint_left.mpr fun i h h' => by rw [mem_tset] at h h'; omega

end Pieces

end Cert.KernelIdeal.Hand
-- ==== Proof.Core.lean ====
module

public import proofs.«01_k».proof.Proof.Ends

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Core

variable {c : Dev nD} {cu : Vec F S9 .i32} {X : Vec F S8192x1024 .f32} {Wv : Vec F S1024x1024 .f32} {bv : Vec F S1x1024 .f32}
variable {OK : ℕ → Vec F S1x512x1024 .f32 → Prop} {w : ℕ → BitVec 32}

theorem Xf_zero (k : ℕ) : Xf c w X 0 0 0 k = if k < 10 then XReady c w X k else Src c w X k := by
  unfold Xf
  rw [if_neg (by omega), if_neg (by omega), if_neg (by omega)]
  by_cases h : k < 10
  · rw [if_pos (by omega), if_pos h]
  · rw [if_neg (by omega), if_neg h]

theorem Of_zero (k : ℕ) : Of c w OK 0 0 0 k = if k < 10 then iprop(OFree (F := F) c (k % 10) ∗ TokRaw c k) else TokRaw c k := by
  unfold Of
  rw [if_neg (by omega), if_neg (by omega), if_neg (by unfold filled; omega)]
  by_cases h : k < 10
  · rw [if_pos (by omega), if_pos h]
  · rw [if_neg (by omega), if_neg h]

/-- The whole flat array as the supertiles' rows. -/
theorem src_all (hw : Tab w) : ((c : Thread nD τ).loc main_arg0 ↦{fullShare} X : sProp 𝕄) = bigSep (Finset.range 32) (Src c w X) := by
  have h := pointsTo_biUnion (Name := ℕ) (U := Pipeline.UD sig nD τ) (Lvl := ℕ) (Ix := Unit) (ℓ := (c : Thread nD τ).loc main_arg0) (q := fullShare) (f := X) (Finset.range 32)
    (fun k => frows (start w k) (start w k + 128 * nt w k)) (src_disj hw)
  rw [src_cover hw] at h
  exact h

/-- A ring of slots at contents nothing names, as its slots. -/
theorem xring_in : iprop(∃ f : Vec F S10x512x1024 .f32, (c : Thread nD τ).loc cc0_scratch0 ↦{fullShare} f) ⊢ bigSep (Finset.range 10) (fun s => iprop(∃ f, xpt (F := F) c s 0 512 f)) := by
  iintro ⟨%f, H⟩
  have h := pointsTo_biUnion (Name := ℕ) (U := Pipeline.UD sig nD τ) (Lvl := ℕ) (Ix := Unit) (ℓ := (c : Thread nD τ).loc cc0_scratch0) (q := fullShare) (f := f) (Finset.range 10) (fun s => slot s 0 512) slots_disj
  rw [slot_cover] at h
  have h' : bigSep (Finset.range 10) (fun s => xpt c s 0 512 f) ⊢ bigSep (Finset.range 10) (fun s => iprop(∃ f, xpt (F := F) c s 0 512 f)) :=
    bigSep_mono fun s _ => (show xpt c s 0 512 f ⊢ iprop(∃ f, xpt (F := F) c s 0 512 f) by iintro H; iexists f; iexact H)
  iapply h'
  iapply (show ((c : Thread nD τ).loc cc0_scratch0 ↦{fullShare} f : sProp 𝕄) ⊢ bigSep (Finset.range 10) (fun s => xpt c s 0 512 f) from (by rw [h]; exact .rfl))
  iexact H

theorem oring_in : iprop(∃ f : Vec F S10x512x1024 .f32, (c : Thread nD τ).loc cc0_scratch1 ↦{fullShare} f) ⊢ bigSep (Finset.range 10) (fun s => iprop(∃ f, opt (F := F) c s 0 512 f)) := by
  iintro ⟨%f, H⟩
  have h := pointsTo_biUnion (Name := ℕ) (U := Pipeline.UD sig nD τ) (Lvl := ℕ) (Ix := Unit) (ℓ := (c : Thread nD τ).loc cc0_scratch1) (q := fullShare) (f := f) (Finset.range 10) (fun s => slot s 0 512) slots_disj
  rw [slot_cover] at h
  have h' : bigSep (Finset.range 10) (fun s => opt c s 0 512 f) ⊢ bigSep (Finset.range 10) (fun s => iprop(∃ f, opt (F := F) c s 0 512 f)) :=
    bigSep_mono fun s _ => (show opt c s 0 512 f ⊢ iprop(∃ f, opt (F := F) c s 0 512 f) by iintro H; iexists f; iexact H)
  iapply h'
  iapply (show ((c : Thread nD τ).loc cc0_scratch1 ↦{fullShare} f : sProp 𝕄) ⊢ bigSep (Finset.range 10) (fun s => opt c s 0 512 f) from (by rw [h]; exact .rfl))
  iexact H

theorem tok_in : iprop(∃ f : Vec F S8x2048x1024 .f32, (c : Thread nD τ).loc main_v1_0 ↦{fullShare} f) ⊢ bigSep (Finset.range 32) (TokRaw (F := F) c) := by
  iintro ⟨%f, H⟩
  have h := pointsTo_biUnion (Name := ℕ) (U := Pipeline.UD sig nD τ) (Lvl := ℕ) (Ix := Unit) (ℓ := (c : Thread nD τ).loc main_v1_0) (q := fullShare) (f := f) (Finset.range 32) tset tok_disj
  rw [tok_cover] at h
  have h' : bigSep (Finset.range 32) (fun k => tpt c k f) ⊢ bigSep (Finset.range 32) (TokRaw (F := F) c) :=
    bigSep_mono fun s _ => (show tpt c s f ⊢ TokRaw (F := F) c s by unfold TokRaw; iintro H; iexists f; iexact H)
  iapply h'
  iapply (show ((c : Thread nD τ).loc main_v1_0 ↦{fullShare} f : sProp 𝕄) ⊢ bigSep (Finset.range 32) (fun k => tpt c k f) from (by rw [h]; exact .rfl))
  iexact H

theorem xring_out : bigSep (Finset.range 10) (fun s => iprop(∃ f, xpt (F := F) c s 0 512 f)) ⊢ iprop(∃ f : Vec F S10x512x1024 .f32, (c : Thread nD τ).loc cc0_scratch0 ↦{fullShare} f) := by
  haveI : Inhabited (Vec F S10x512x1024 .f32) := ⟨inSlot payZero⟩
  refine (bigSep_mono fun s _ => (show iprop(∃ f, xpt (F := F) c s 0 512 f) ⊢ iprop(∃ f, ⌜True⌝ ∗ xpt (F := F) c s 0 512 f) by
    iintro ⟨%f, H⟩; iexists f; isplitr; · ipureintro; trivial
    iexact H)).trans ?_
  refine (gather (Finset.range 10) (fun _ _ => True) (fun s f => xpt c s 0 512 f)).trans ?_
  iintro ⟨%fs, -, H⟩
  have hj := pointsTo_biUnion_join (Name := ℕ) (U := Pipeline.UD sig nD τ) (Lvl := ℕ) (Ix := Unit) (ℓ := (c : Thread nD τ).loc cc0_scratch0) (q := fullShare) (Finset.range 10) (fun s => slot s 0 512) fs default slots_disj
  rw [slot_cover] at hj
  ihave H := (show bigSep (Finset.range 10) (fun s => xpt c s 0 512 (fs s)) ⊢ _ from hj) $$ H
  icases H with ⟨%g, -, H⟩
  iexists g; iexact H

theorem oring_out : bigSep (Finset.range 10) (fun s => iprop(∃ f, opt (F := F) c s 0 512 f)) ⊢ iprop(∃ f : Vec F S10x512x1024 .f32, (c : Thread nD τ).loc cc0_scratch1 ↦{fullShare} f) := by
  haveI : Inhabited (Vec F S10x512x1024 .f32) := ⟨inSlot payZero⟩
  refine (bigSep_mono fun s _ => (show iprop(∃ f, opt (F := F) c s 0 512 f) ⊢ iprop(∃ f, ⌜True⌝ ∗ opt (F := F) c s 0 512 f) by
    iintro ⟨%f, H⟩; iexists f; isplitr; · ipureintro; trivial
    iexact H)).trans ?_
  refine (gather (Finset.range 10) (fun _ _ => True) (fun s f => opt c s 0 512 f)).trans ?_
  iintro ⟨%fs, -, H⟩
  have hj := pointsTo_biUnion_join (Name := ℕ) (U := Pipeline.UD sig nD τ) (Lvl := ℕ) (Ix := Unit) (ℓ := (c : Thread nD τ).loc cc0_scratch1) (q := fullShare) (Finset.range 10) (fun s => slot s 0 512) fs default slots_disj
  rw [slot_cover] at hj
  ihave H := (show bigSep (Finset.range 10) (fun s => opt c s 0 512 (fs s)) ⊢ _ from hj) $$ H
  icases H with ⟨%g, -, H⟩
  iexists g; iexact H

/-- Every supertile of the result holds a block that `OK` accepts. -/
def TokOK (OK : ℕ → Vec F S1x512x1024 .f32 → Prop) (f : Vec F S8x2048x1024 .f32) : Prop :=
  ∀ k < 32, ∃ g, OK k g ∧ ∀ i ∈ tset k, f i = inTok g i

theorem tok_out : bigSep (Finset.range 32) (TokDone c OK) ⊢ iprop(∃ f : Vec F S8x2048x1024 .f32, ⌜TokOK OK f⌝ ∗ (c : Thread nD τ).loc main_v1_0 ↦{fullShare} f) := by
  haveI : Inhabited (Vec F S1x512x1024 .f32) := ⟨payZero⟩
  refine (gather (Finset.range 32) OK (fun k g => tpt c k (inTok g))).trans ?_
  iintro ⟨%gs, %hgs, H⟩
  have hj := pointsTo_biUnion_join (Name := ℕ) (U := Pipeline.UD sig nD τ) (Lvl := ℕ) (Ix := Unit) (ℓ := (c : Thread nD τ).loc main_v1_0) (q := fullShare) (Finset.range 32) tset (fun k => inTok (gs k)) (inTok default) tok_disj
  rw [tok_cover] at hj
  ihave H := (show bigSep (Finset.range 32) (fun k => tpt c k (inTok (gs k))) ⊢ _ from hj) $$ H
  icases H with ⟨%g, %hg, H⟩
  iexists g
  isplitr
  · ipureintro
    exact fun k hk => ⟨gs k, hgs k (Finset.mem_range.mpr hk), hg k (Finset.mem_range.mpr hk)⟩
  iexact H

end Core

section Whole

variable {c : Dev nD} {cu : Vec F S9 .i32} {X : Vec F S8192x1024 .f32} {Wv : Vec F S1024x1024 .f32} {bv : Vec F S1x1024 .f32}
variable {OK : ℕ → Vec F S1x512x1024 .f32 → Prop}

theorem St_in (hw : Tab (wof cu)) :
    iprop(cuP c cu ∗ bP c bv ∗ ((c : Thread nD τ).loc main_arg0 ↦{fullShare} X) ∗ ((c : Thread nD τ).loc main_arg2 ↦{fullShare} Wv)
      ∗ (∃ f : Vec F S8x2048x1024 .f32, (c : Thread nD τ).loc main_v1_0 ↦{fullShare} f)
      ∗ (∃ f : Vec F S32x1x512 .i32, (c : Thread nD τ).loc cc0_stg2_0 ↦{fullShare} f)
      ∗ (∃ f : Vec F S10x512x1024 .f32, (c : Thread nD τ).loc cc0_scratch0 ↦{fullShare} f)
      ∗ (∃ f : Vec F S10x512x1024 .f32, (c : Thread nD τ).loc cc0_scratch1 ↦{fullShare} f)
      ∗ (∃ f : Vec F S1024x1024 .f32, (c : Thread nD τ).loc cc0_scratch2 ↦{fullShare} f)
      ∗ sem0 c wsem ∗ bigSep (Finset.range 10) (fun s => sem0 (F := F) c (xsem s)) ∗ bigSep (Finset.range 10) (fun s => sem0 (F := F) c (osem s)) ∗ ow c)
    ⊢ St c cu X Wv bv OK 0 0 0 0 0 0 0 := by
  rw [src_all hw]
  iintro ⟨Hcu, Hb, HX, HW, Ht, Hm, H0, H1, H2, Hw, Hxs, Hos, How⟩
  ihave H0 := xring_in $$ H0
  ihave H1 := oring_in $$ H1
  ihave Ht := tok_in $$ Ht
  have ex : iprop(bigSep (Finset.range 10) (fun s => iprop(∃ f, xpt (F := F) c s 0 512 f)) ∗ bigSep (Finset.range 10) (fun s => sem0 (F := F) c (xsem s))) ⊢ bigSep (Finset.range 10) (fun s => XFree (F := F) c s) := by
    rw [← bs_sep]; exact .rfl
  have eo : iprop(bigSep (Finset.range 10) (fun s => iprop(∃ f, opt (F := F) c s 0 512 f)) ∗ bigSep (Finset.range 10) (fun s => sem0 (F := F) c (osem s))) ⊢ bigSep (Finset.range 10) (fun s => OFree (F := F) c s) := by
    rw [← bs_sep]; exact .rfl
  ihave Hx := ex $$ [H0 Hxs]
  · isplitl [H0]
    · iexact H0
    · iexact Hxs
  ihave Ho := eo $$ [H1 Hos]
  · isplitl [H1]
    · iexact H1
    · iexact Hos
  have rx := ring_in (Src c (wof cu) X) (fun s => XFree (F := F) c s) (Xf c (wof cu) X 0 0 0)
    (fun k hk => by rw [Xf_zero, if_pos hk]; unfold XReady; rw [Nat.mod_eq_of_lt hk])
    (fun k hk _ => by rw [Xf_zero, if_neg (by omega)])
  have ro := ring_in (TokRaw (F := F) c) (fun s => OFree (F := F) c s) (Of c (wof cu) OK 0 0 0)
    (fun k hk => by
      rw [Of_zero, if_pos hk, Nat.mod_eq_of_lt hk]
      iintro ⟨H1, H2⟩
      isplitl [H2]
      · iexact H2
      · iexact H1)
    (fun k hk _ => by rw [Of_zero, if_neg (by omega)])
  ihave HXF := rx $$ [HX Hx]
  · isplitl [HX]
    · iexact HX
    · iexact Hx
  ihave HOF := ro $$ [Ht Ho]
  · isplitl [Ht]
    · iexact Ht
    · iexact Ho
  unfold St WP maskP
  rw [if_pos rfl]
  isplitl [Hcu]; · iexact Hcu
  isplitl [Hb]; · iexact Hb
  isplitl [HW H2 Hw]
  · isplitl [HW]; · iexact HW
    isplitl [H2]; · iexact H2
    iexact Hw
  isplitl [Hm]
  · icases Hm with ⟨%f, Hm⟩
    iexists f
    isplitr
    · ipureintro; exact fun i hi => absurd hi (Nat.not_lt_zero _)
    iexact Hm
  isplitl [HXF]; · iexact HXF
  isplitl [HOF]; · iexact HOF
  iexact How

theorem St_out (hw : Tab (wof cu)) :
    St c cu X Wv bv OK 2 160 160 96 32 32 32 ⊢
    iprop(cuP c cu ∗ bP c bv ∗ ((c : Thread nD τ).loc main_arg0 ↦{fullShare} X) ∗ ((c : Thread nD τ).loc main_arg2 ↦{fullShare} Wv)
      ∗ (∃ f : Vec F S8x2048x1024 .f32, ⌜TokOK OK f⌝ ∗ (c : Thread nD τ).loc main_v1_0 ↦{fullShare} f)
      ∗ maskP c cu 32
      ∗ (∃ f : Vec F S10x512x1024 .f32, (c : Thread nD τ).loc cc0_scratch0 ↦{fullShare} f)
      ∗ (∃ f : Vec F S10x512x1024 .f32, (c : Thread nD τ).loc cc0_scratch1 ↦{fullShare} f)
      ∗ (∃ f : Vec F S1024x1024 .f32, (c : Thread nD τ).loc cc0_scratch2 ↦{fullShare} f)
      ∗ sem0 c wsem ∗ bigSep (Finset.range 10) (fun s => sem0 (F := F) c (xsem s)) ∗ bigSep (Finset.range 10) (fun s => sem0 (F := F) c (osem s)) ∗ ow c) := by
  have rx := ring_out (Src c (wof cu) X) (fun s => XFree (F := F) c s) (Xf c (wof cu) X 160 160 96)
    (fun k hk => by unfold Xf; rw [if_pos (by omega), if_pos (by omega)])
    (fun k hk hk' => by unfold Xf; rw [if_pos (by omega), if_neg (by omega)]; exact .rfl)
  have ro := ring_out (TokDone c OK) (fun s => OFree (F := F) c s) (Of c (wof cu) OK 96 32 32)
    (fun k hk => by unfold Of; rw [if_pos (by omega), if_pos (by omega)])
    (fun k hk hk' => by unfold Of; rw [if_pos (by omega), if_neg (by omega)])
  have ex : bigSep (Finset.range 10) (fun s => XFree (F := F) c s) ⊢ iprop(bigSep (Finset.range 10) (fun s => iprop(∃ f, xpt (F := F) c s 0 512 f)) ∗ bigSep (Finset.range 10) (fun s => sem0 (F := F) c (xsem s))) := by
    rw [← bs_sep]; exact .rfl
  have eo : bigSep (Finset.range 10) (fun s => OFree (F := F) c s) ⊢ iprop(bigSep (Finset.range 10) (fun s => iprop(∃ f, opt (F := F) c s 0 512 f)) ∗ bigSep (Finset.range 10) (fun s => sem0 (F := F) c (osem s))) := by
    rw [← bs_sep]; exact .rfl
  unfold St WP
  rw [if_neg (by decide), if_neg (by decide), src_all hw]
  iintro ⟨Hcu, Hb, ⟨HW, H2, Hw⟩, Hm, HX, HO, How⟩
  ihave HX := rx $$ HX
  icases HX with ⟨HX, Hx⟩
  ihave HO := ro $$ HO
  icases HO with ⟨Ht, Ho⟩
  ihave Hx := ex $$ Hx
  icases Hx with ⟨H0, Hxs⟩
  ihave Ho := eo $$ Ho
  icases Ho with ⟨H1, Hos⟩
  ihave H0 := xring_out $$ H0
  ihave H1 := oring_out $$ H1
  ihave Ht := tok_out $$ Ht
  isplitl [Hcu]; · iexact Hcu
  isplitl [Hb]; · iexact Hb
  isplitl [HX]; · iexact HX
  isplitl [HW]; · iexact HW
  isplitl [Ht]; · iexact Ht
  isplitl [Hm]; · iexact Hm
  isplitl [H0]; · iexact H0
  isplitl [H1]; · iexact H1
  isplitl [H2]; · iexists Wv; iexact H2
  isplitl [Hw]; · iexact Hw
  isplitl [Hxs]; · iexact Hxs
  isplitl [Hos]; · iexact Hos
  iexact How

end Whole

end Cert.KernelIdeal.Hand
-- ==== Proof.Run.lean ====
module

public import proofs.«01_k».proof.Proof.Core
public import proofs.«01_k».proof.Proof.Gen.KernelIdeal.Frame
public import Idealize.ShloMosaic.Lib.Pipeline.FrameSuffixV

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

theorem hmain' (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

def cuV (c : Dev nD) : Vec F S9 .i32 := V m c main_arg1
def bvV (c : Dev nD) : Vec F S1x1024 .f32 := V m c main_v0
def XV (c : Dev nD) : Vec F S8192x1024 .f32 := V m c main_arg0
def WvV (c : Dev nD) : Vec F S1024x1024 .f32 := V m c main_arg2

theorem iblk0 (c : Dev nD) (t : Fin cfg0.N) : iblk m c 0 t = cuV m c := by
  funext i
  unfold iblk cuV
  show V m c main_arg1 _ = V m c main_arg1 _
  refine congrArg (V m c main_arg1) (funext fun a => Fin.ext ?_)
  refine (Rect.emb_apply ((win0 0).rect t) i a).trans ?_
  show 0 * S9.size a + 1 * (i a).val = (i a).val
  omega
theorem iblk1 (c : Dev nD) (t : Fin cfg0.N) : iblk m c 1 t = bvV m c := by
  funext i
  unfold iblk bvV
  show V m c main_v0 _ = V m c main_v0 _
  refine congrArg (V m c main_v0) (funext fun a => Fin.ext ?_)
  refine (Rect.emb_apply ((win0 1).rect t) i a).trans ?_
  show 0 * S1x1024.size a + 1 * (i a).val = (i a).val
  omega

/-- The mask the kernel leaves, from the word table. -/
def maskV (cu : Vec F S9 .i32) : Vec F S32x1x512 .i32 := fun i =>
  payMask (F := F) ((i 0).val % 4) (wof cu ((i 0).val / 4)) (wof cu ((i 0).val / 4 + 1)) (ix3 (0 : Fin 1) (0 : Fin 1) (⟨(i 2).val, (i 2).isLt⟩ : Fin 512))

theorem mask_out (c : Dev nD) (cu : Vec F S9 .i32) : maskP c cu 32 ⊢ ((c : Thread nD τ).loc cc0_stg2_0 ↦{fullShare} maskV cu : sProp 𝕄) := by
  unfold maskP
  iintro ⟨%f, %hf, H⟩
  have e : f = maskV cu := funext fun i => hf i (i 0).isLt
  subst e
  iexact H

/-! ## The cells the launch hands over -/

/-- The kernel's own semaphores: the weight's, the ten input slots', the ten output slots'. -/
def own0 : Fin 21 → SemLoc sig := fun j => SemLoc.dma ⟨(3 + j.val) % 24, Nat.mod_lt _ (by decide)⟩
theorem ownFacts : Pipeline.OwnSemFacts spec0 own0 := by decide

theorem ownSems_eq (c : Dev nD) :
    (Pipeline.ownSems0 (Ix := Unit) (Name := ℕ) (U := Pipeline.UD sig nD τ) (Lvl := ℕ) (Val := Elt F) (τ := τ) own0 c : sProp 𝕄)
      = iprop(sem0 (F := F) c wsem ∗ bigSep (Finset.range 10) (fun s => sem0 (F := F) c (xsem s)) ∗ bigSep (Finset.range 10) (fun s => sem0 (F := F) c (osem s))) := by
  have e : (Pipeline.ownSems0 (Ix := Unit) (Name := ℕ) (U := Pipeline.UD sig nD τ) (Lvl := ℕ) (Val := Elt F) (τ := τ) own0 c : sProp 𝕄)
      = bigSep ((Finset.univ : Finset (Fin 21)).map Fin.valEmbedding) (fun n => sem0 (F := F) c ⟨(3 + n) % 24, Nat.mod_lt _ (by decide)⟩) := by
    rw [bigSep_map]; rfl
  have es : (Finset.univ : Finset (Fin 21)).map Fin.valEmbedding = insert 0 ((Finset.range 10).map (addLeftEmbedding 1) ∪ (Finset.range 10).map (addLeftEmbedding 11)) := by decide
  rw [e, es, bs_insert (by decide), bs_union (by decide), bigSep_map, bigSep_map]
  have ex : ∀ s ∈ Finset.range 10, sem0 (F := F) c ⟨(3 + addLeftEmbedding 1 s) % 24, Nat.mod_lt _ (by decide)⟩ = sem0 (F := F) c (xsem s) := fun s _ => by
    refine congrArg (sem0 (F := F) c) (Fin.ext ?_)
    show (3 + (1 + s)) % 24 = (4 + s) % 24
    omega
  have eo : ∀ s ∈ Finset.range 10, sem0 (F := F) c ⟨(3 + addLeftEmbedding 11 s) % 24, Nat.mod_lt _ (by decide)⟩ = sem0 (F := F) c (osem s) := fun s _ => by
    refine congrArg (sem0 (F := F) c) (Fin.ext ?_)
    show (3 + (11 + s)) % 24 = (14 + s) % 24
    omega
  rw [bigSep_congr ex, bigSep_congr eo]
  rfl

def H0 : Finset (Ref sig .tc) := {main_arg0, main_arg2}
def R0 : Finset (Ref sig .tc) := {main_v1_0}
theorem H0_sub : H0 ⊆ Pipeline.restRefs sig spec0 := by decide
theorem R0_sub : R0 ⊆ Pipeline.restRefs sig spec0 \ H0 := by decide
theorem hbm_eq (c : Dev nD) :
    (bigSep H0 (fun b => ((c : Thread nD τ).loc b) ↦{fullShare} V m c b) : sProp 𝕄)
      = iprop(((c : Thread nD τ).loc main_arg0 ↦{fullShare} XV m c) ∗ ((c : Thread nD τ).loc main_arg2 ↦{fullShare} WvV m c)) := by
  unfold H0; rw [BI.bigSep_eq_bigSepL_of_eq [main_arg0, main_arg2] (by decide) (by decide)]; rfl
theorem owned_eq (c : Dev nD) :
    (Pipeline.owned R0 c : sProp 𝕄) = iprop(∃ f : Vec F S8x2048x1024 .f32, (c : Thread nD τ).loc main_v1_0 ↦{fullShare} f) := by
  unfold Pipeline.owned R0; rw [BI.bigSep_eq_bigSepL_of_eq [main_v1_0] (by decide) (by decide)]; rfl

/-- What the body is handed beside the staging buffers, the result at contents `P` accepts. -/
def cells (P : Vec F S8x2048x1024 .f32 → Prop) (c : Dev nD) : sProp 𝕄 :=
  iprop(((∃ f : Vec F S10x512x1024 .f32, (c : Thread nD τ).loc cc0_scratch0 ↦{fullShare} f)
      ∗ (∃ f : Vec F S10x512x1024 .f32, (c : Thread nD τ).loc cc0_scratch1 ↦{fullShare} f)
      ∗ (∃ f : Vec F S1024x1024 .f32, (c : Thread nD τ).loc cc0_scratch2 ↦{fullShare} f))
    ∗ (sem0 (F := F) c wsem ∗ bigSep (Finset.range 10) (fun s => sem0 (F := F) c (xsem s)) ∗ bigSep (Finset.range 10) (fun s => sem0 (F := F) c (osem s)))
    ∗ (((c : Thread nD τ).loc main_arg0 ↦{fullShare} XV m c) ∗ ((c : Thread nD τ).loc main_arg2 ↦{fullShare} WvV m c))
    ∗ (∃ f : Vec F S8x2048x1024 .f32, ⌜P f⌝ ∗ (c : Thread nD τ).loc main_v1_0 ↦{fullShare} f))

/-- The proof data, the invariant given. -/
def datsOf (Ph : Dev nD → Fin (cfg0.N + 1) → sProp 𝕄) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => maskV (cuV m c)
  Φ := Ph c
  q _ := fullShare
  owed _ := 0

theorem A_eq {Ph : Dev nD → Fin (cfg0.N + 1) → sProp 𝕄} (c : Dev nD) (w : Fin cfg0.W) : (datsOf m Ph 0 c).A w = V m c (Pipeline.arrRef spec0 w) := by
  dsimp only [datsOf]

theorem before0 {Ph : Dev nD → Fin (cfg0.N + 1) → sProp 𝕄} (c : Dev nD) (t : Fin cfg0.N) (d) : (datsOf m Ph 0 c).before 0 t d = iblk m c 0 t :=
  ((datsOf m Ph 0 c).before_in_eq_fetched 0 rfl (fun _ => rfl) (fun _ _ _ => rfl) (fun t => by
    show iblk m c 0 t = _
    unfold Dat.blockOf iblk; rw [A_eq]) t d).trans (by unfold Dat.fetched Dat.blockOf iblk; rw [A_eq]; rfl)
theorem before1 {Ph : Dev nD → Fin (cfg0.N + 1) → sProp 𝕄} (c : Dev nD) (t : Fin cfg0.N) (d) : (datsOf m Ph 0 c).before 1 t d = iblk m c 1 t :=
  ((datsOf m Ph 0 c).before_in_eq_fetched 1 rfl (fun _ => rfl) (fun _ _ _ => rfl) (fun t => by
    show iblk m c 1 t = _
    unfold Dat.blockOf iblk; rw [A_eq]) t d).trans (by unfold Dat.fetched Dat.blockOf iblk; rw [A_eq]; rfl)

def bodyPre (Ph : Dev nD → Fin (cfg0.N + 1) → sProp 𝕄) (c : Dev nD) (t : Fin cfg0.N) : sProp 𝕄 :=
  iprop((datsOf m Ph 0 c).Φ t.castSucc ∗ (datsOf m Ph 0 c).owesAt () t.castSucc
    ∗ (∃ d, owns (c : Thread nD τ) (win0_0.stage (cfg0.slots t 0)) fullShare ((datsOf m Ph 0 c).before 0 t d))
    ∗ (∃ d, owns (c : Thread nD τ) (win0_1.stage (cfg0.slots t 1)) fullShare ((datsOf m Ph 0 c).before 1 t d))
    ∗ (∃ d, owns (c : Thread nD τ) (win0_2.stage (cfg0.slots t 2)) fullShare ((datsOf m Ph 0 c).before 2 t d)))
def bodyPost (Ph : Dev nD → Fin (cfg0.N + 1) → sProp 𝕄) (c : Dev nD) (t : Fin cfg0.N) : sProp 𝕄 :=
  iprop((datsOf m Ph 0 c).Φ t.succ ∗ (datsOf m Ph 0 c).owesAt () t.succ
    ∗ owns (c : Thread nD τ) (win0_0.stage (cfg0.slots t 0)) fullShare ((datsOf m Ph 0 c).after 0 t)
    ∗ owns (c : Thread nD τ) (win0_1.stage (cfg0.slots t 1)) fullShare ((datsOf m Ph 0 c).after 1 t)
    ∗ owns (c : Thread nD τ) (win0_2.stage (cfg0.slots t 2)) fullShare ((datsOf m Ph 0 c).after 2 t))

/-- The body from its operands: what it is handed comes back, the result's supertiles at blocks `OK` accepts and the
    mask set. -/
theorem body_run {OK : ℕ → Vec F S1x512x1024 .f32 → Prop} (c : Dev nD) (t : Fin cfg0.N) (hw : Tab (wof (cuV m c)))
    (hG : Good (wof (cuV m c)) (XV m c) (WvV m c) (bvV m c) OK) :
    iprop(cells m (fun _ => True) c ∗ ow c ∗ cuP c (cuV m c) ∗ bP c (bvV m c) ∗ (∃ f : Vec F S32x1x512 .i32, (c : Thread nD τ).loc cc0_stg2_0 ↦{fullShare} f)) ⊢
      wp frame (wpE (defs₀ (F := F)) Variants.none c none) Set.univ (bodyAt0 t)
        (fun _ => iprop(cells m (TokOK OK) c ∗ ow c ∗ cuP c (cuV m c) ∗ bP c (bvV m c) ∗ ((c : Thread nD τ).loc cc0_stg2_0 ↦{fullShare} maskV (cuV m c)))) := by
  refine BIBase.Entails.trans ?_ ((St_in (OK := OK) (X := XV m c) (Wv := WvV m c) (bv := bvV m c) hw).trans
    (walk hw hG (fun _ => iprop(cells m (TokOK OK) c ∗ ow c ∗ cuP c (cuV m c) ∗ bP c (bvV m c) ∗ ((c : Thread nD τ).loc cc0_stg2_0 ↦{fullShare} maskV (cuV m c)))) ((St_out hw).trans ?_)))
  · unfold cells
    iintro ⟨⟨⟨H0, H1, H2⟩, ⟨Hw, Hx, Ho⟩, ⟨HX, HW⟩, ⟨%f, -, Ht⟩⟩, How, Hcu, Hb, Hm⟩
    isplitl [Hcu]; · iexact Hcu
    isplitl [Hb]; · iexact Hb
    isplitl [HX]; · iexact HX
    isplitl [HW]; · iexact HW
    isplitl [Ht]; · iexists f; iexact Ht
    isplitl [Hm]; · iexact Hm
    isplitl [H0]; · iexact H0
    isplitl [H1]; · iexact H1
    isplitl [H2]; · iexact H2
    isplitl [Hw]; · iexact Hw
    isplitl [Hx]; · iexact Hx
    isplitl [Ho]; · iexact Ho
    iexact How
  · unfold cells
    iintro ⟨Hcu, Hb, HX, HW, Ht, Hm, H0, H1, H2, Hw, Hx, Ho, How⟩
    ihave Hm := (mask_out c (cuV m c)) $$ Hm
    isplitl [HX HW Ht H0 H1 H2 Hw Hx Ho]
    · isplitl [H0 H1 H2]
      · isplitl [H0]; · iexact H0
        isplitl [H1]; · iexact H1
        iexact H2
      isplitl [Hw Hx Ho]
      · isplitl [Hw]; · iexact Hw
        isplitl [Hx]; · iexact Hx
        iexact Ho
      isplitl [HX HW]
      · isplitl [HX]; · iexact HX
        iexact HW
      iexact Ht
    isplitl [How]; · iexact How
    isplitl [Hcu]; · iexact Hcu
    isplitl [Hb]; · iexact Hb
    iexact Hm

theorem sound_body {OK : ℕ → Vec F S1x512x1024 .f32 → Prop} {Ph : Dev nD → Fin (cfg0.N + 1) → sProp 𝕄} (c : Dev nD) (t : Fin cfg0.N) (hw : Tab (wof (cuV m c)))
    (hG : Good (wof (cuV m c)) (XV m c) (WvV m c) (bvV m c) OK) {R : sProp 𝕄}
    (hin : Ph c 0 ⊢ iprop(cells m (fun _ => True) c ∗ R)) (hout : iprop(cells m (TokOK OK) c ∗ R) ⊢ Ph c (Fin.last cfg0.N)) :
    bodyPre m Ph c t ⊢ wp frame (wpE (defs₀ (F := F)) Variants.none c none) Set.univ (bodyAt0 t) (fun _ => bodyPost m Ph c t) := by
  have e0 : t.castSucc = (0 : Fin (cfg0.N + 1)) := by rw [fin_N0 t]; rfl
  have e1 : t.succ = Fin.last cfg0.N := by rw [fin_N0 t]; rfl
  unfold bodyPre bodyPost
  rw [show (datsOf m Ph 0 c).after 0 t = iblk m c 0 t from rfl, show (datsOf m Ph 0 c).after 1 t = iblk m c 1 t from rfl,
    show (datsOf m Ph 0 c).after 2 t = maskV (cuV m c) from rfl, show (datsOf m Ph 0 c).Φ t.castSucc = Ph c 0 by rw [e0]; rfl,
    show (datsOf m Ph 0 c).Φ t.succ = Ph c (Fin.last cfg0.N) by rw [e1]; rfl, iblk0, iblk1]
  unfold Dat.owesAt Pipeline.owesWithin
  rw [show (datsOf m Ph 0 c).owed t.castSucc = 0 from rfl, show (datsOf m Ph 0 c).owed t.succ = 0 from rfl]
  refine BIBase.Entails.trans ?_ ((BIClass.sep_mono (body_run m c t hw hG) (BIBase.Entails.rfl (P := R))).trans
    ((wp_frame_r frame (wpE (defs₀ (F := F)) Variants.none c none) Set.univ).trans (wp_mono frame (wpE (defs₀ (F := F)) Variants.none c none) Set.univ fun _ => ?_)))
  · iintro ⟨HP, ⟨%W, -, HW⟩, ⟨%d0, H0⟩, ⟨%d1, H1⟩, ⟨%d2, H2⟩⟩
    rw [before0, before1, iblk0, iblk1]
    ihave HP := hin $$ HP
    icases HP with ⟨HP, HR⟩
    isplitr [HR]
    · isplitl [HP]; · iexact HP
      isplitl [HW]; · unfold ow; iexists W; iexact HW
      isplitl [H0]
      · iapply (show owns (c : Thread nD τ) (win0_0.stage (cfg0.slots t 0)) fullShare (cuV m c) ⊢ cuP c (cuV m c) from (by
          rw [show win0_0.stage (cfg0.slots t 0) = Memref.whole cc0_stg0_0 from rfl, owns_whole]; exact .rfl))
        iexact H0
      isplitl [H1]
      · iapply (show owns (c : Thread nD τ) (win0_1.stage (cfg0.slots t 1)) fullShare (bvV m c) ⊢ bP c (bvV m c) from (by
          rw [show win0_1.stage (cfg0.slots t 1) = Memref.whole cc0_stg1_0 from rfl, owns_whole]; exact .rfl))
        iexact H1
      iexists _
      iapply (show owns (c : Thread nD τ) (win0_2.stage (cfg0.slots t 2)) fullShare ((datsOf m Ph 0 c).before 2 t d2)
          ⊢ ((c : Thread nD τ).loc cc0_stg2_0 ↦{fullShare} ((datsOf m Ph 0 c).before 2 t d2) : sProp 𝕄) from (by
        rw [show win0_2.stage (cfg0.slots t 2) = Memref.whole cc0_stg2_0 from rfl, owns_whole]))
      iexact H2
    · iexact HR
  · iintro ⟨⟨HP, How, H0, H1, H2⟩, HR⟩
    isplitl [HP HR]
    · iapply hout
      isplitl [HP]
      · iexact HP
      · iexact HR
    isplitl [How]
    · unfold ow
      icases How with ⟨%W, How⟩
      iexists W
      isplitr
      · ipureintro; exact fun _ _ => Or.inl trivial
      iexact How
    isplitl [H0]
    · iapply (show cuP c (cuV m c) ⊢ owns (c : Thread nD τ) (win0_0.stage (cfg0.slots t 0)) fullShare (cuV m c) from (by
        rw [show win0_0.stage (cfg0.slots t 0) = Memref.whole cc0_stg0_0 from rfl, owns_whole]; exact .rfl))
      iexact H0
    isplitl [H1]
    · iapply (show bP c (bvV m c) ⊢ owns (c : Thread nD τ) (win0_1.stage (cfg0.slots t 1)) fullShare (bvV m c) from (by
        rw [show win0_1.stage (cfg0.slots t 1) = Memref.whole cc0_stg1_0 from rfl, owns_whole]; exact .rfl))
      iexact H1
    iapply (show ((c : Thread nD τ).loc cc0_stg2_0 ↦{fullShare} maskV (cuV m c) : sProp 𝕄) ⊢ owns (c : Thread nD τ) (win0_2.stage (cfg0.slots t 2)) fullShare (maskV (cuV m c)) from (by
        rw [show win0_2.stage (cfg0.slots t 2) = Memref.whole cc0_stg2_0 from rfl, owns_whole]))
    iexact H2

theorem defs₀_row (t : Fin cfg0.N) :
    defs₀ (F := F) .tc cfg0.body (cfg0.bodyArgs t (cfg0.slots t)) = bodyAt0 t := by
  unfold defs₀; rw [Defs.onTc_tc]

theorem body_obligation {OK : ℕ → Vec F S1x512x1024 .f32 → Prop} {Ph : Dev nD → Fin (cfg0.N + 1) → sProp 𝕄} (c : Dev nD) (hw : Tab (wof (cuV m c)))
    (hG : Good (wof (cuV m c)) (XV m c) (WvV m c) (bvV m c) OK) {R : sProp 𝕄}
    (hin : Ph c 0 ⊢ iprop(cells m (fun _ => True) c ∗ R)) (hout : iprop(cells m (TokOK OK) c ∗ R) ⊢ Ph c (Fin.last cfg0.N)) :
    BodyObligation (datsOf (F := F) m Ph 0 c) (defs₀ (F := F)) Variants.none () Set.univ := fun t => by
  rw [bigSep_W0, bigSep_W0, defs₀_row]
  exact triple_restated (sound_body m c t hw hG hin hout) rfl .rfl fun _ => .rfl

/-! ## The frame -/

theorem PhiDR_eq (c : Dev nD) :
    (Pipeline.ΦDR own0 spec0 H0 R0 (V m) c : sProp 𝕄)
      = iprop(iprop((∃ f : Vec F S10x512x1024 .f32, (c : Thread nD τ).loc cc0_scratch0 ↦{fullShare} f)
          ∗ (∃ f : Vec F S10x512x1024 .f32, (c : Thread nD τ).loc cc0_scratch1 ↦{fullShare} f)
          ∗ (∃ f : Vec F S1024x1024 .f32, (c : Thread nD τ).loc cc0_scratch2 ↦{fullShare} f))
        ∗ (∃ r, prngReg c r)
        ∗ iprop(sem0 (F := F) c wsem ∗ bigSep (Finset.range 10) (fun s => sem0 (F := F) c (xsem s)) ∗ bigSep (Finset.range 10) (fun s => sem0 (F := F) c (osem s)))
        ∗ iprop(((c : Thread nD τ).loc main_arg0 ↦{fullShare} XV m c) ∗ ((c : Thread nD τ).loc main_arg2 ↦{fullShare} WvV m c))
        ∗ (∃ f : Vec F S8x2048x1024 .f32, (c : Thread nD τ).loc main_v1_0 ↦{fullShare} f)) := by
  rw [Pipeline.ΦDR_eq, scopedRest0_eq, ownSems_eq, hbm_eq, owned_eq]
  rfl

theorem PhiDR_in (P : Vec F S8x2048x1024 .f32 → Prop) (c : Dev nD) :
    iprop(cells m P c ∗ (∃ r, prngReg c r)) ⊢ (Pipeline.ΦDR own0 spec0 H0 R0 (V m) c : sProp 𝕄) := by
  rw [PhiDR_eq]
  unfold cells
  iintro ⟨⟨Hs, Hq, Hh, ⟨%f, -, Ht⟩⟩, Hr⟩
  isplitl [Hs]; · iexact Hs
  isplitl [Hr]; · iexact Hr
  isplitl [Hq]; · iexact Hq
  isplitl [Hh]; · iexact Hh
  iexists f; iexact Ht

theorem PhiDR_out (c : Dev nD) :
    (Pipeline.ΦDR own0 spec0 H0 R0 (V m) c : sProp 𝕄) ⊢ iprop(cells m (fun _ => True) c ∗ (∃ r, prngReg c r)) := by
  rw [PhiDR_eq]
  unfold cells
  iintro ⟨Hs, Hr, Hq, Hh, ⟨%f, Ht⟩⟩
  isplitr [Hr]
  · isplitl [Hs]; · iexact Hs
    isplitl [Hq]; · iexact Hq
    isplitl [Hh]; · iexact Hh
    iexists f
    isplitr
    · ipureintro; trivial
    iexact Ht
  · iexact Hr

theorem good_any (w : ℕ → BitVec 32) (X : Vec F S8192x1024 .f32) (Wv : Vec F S1024x1024 .f32) (bv : Vec F S1x1024 .f32) : Good w X Wv bv (fun _ _ => True) := by
  constructor <;> intros <;> trivial

/-- The buffers the lines after the kernel write. -/
def T0 : Finset (Ref sig .tc) := {main_c, main_v2, main_v3, main_v4, main_v5}

theorem sfx_writes : ∀ ops ∈ ([hostOps1] : List (List (HloOp τ sig (Elt F)))), ∀ op ∈ ops, ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  have inj : ∀ x y : Ref sig .tc, Proc.devRef (τ := τ) .tc x = Proc.devRef .tc y → x = y := fun x y h => by
    by_contra hne
    exact StableHlo.devRef_ne_of_ne hne h
  unfold T0
  rcases hop with rfl | rfl | rfl | rfl | rfl <;>
    simp only [StableHlo.nullary_writes, StableHlo.unary_writes, StableHlo.binary_writes, StableHlo.reshape_writes, Finset.mem_singleton] at hb <;>
    (rw [inj _ _ hb]; decide)

abbrev PhF (c : Dev nD) (_ : Fin (cfg0.N + 1)) : sProp 𝕄 := Pipeline.ΦDR own0 spec0 H0 R0 (V m) c

set_option backward.isDefEq.respectTransparency.types false in
theorem run_main (hw : ∀ c, Tab (wof (cuV m c))) : θ_run defs (onTc (τ := τ) (main (F := F))) (s₀ m ρ)
    (fun r => Pipeline.FramePostR cfgs (datsOf m (PhF m)) 0 (R0 ∪ T0) (V m) r ∧ r.2.sem = fun _ => 0) :=
  Pipeline.θ_run_frame_dmaR_around (Q' := _) cfgs (datsOf m (PhF m)) (0 : Fin 1) launch0 own0 defs₀ Variants.none ownFacts H0 R0 T0 H0_sub R0_sub m ρ main
    (hbody := fun c => (body_obligation m c (hw c) (good_any _ _ _ _) (PhiDR_out m c) (PhiDR_in m _ c)).loose) (hshare := fun c => (datsOf m (PhF m) 0 c).share_full fun _ => rfl)
    (howed := fun _ _ => rfl) (V₀ := V0 m) (opss := [hostOps1]) (hsub := sfx_sub) (hfresh := sfx_fresh) (hkeep := sfx_keeps) (hT := sfx_writes)
    (hmain := hmain' m Variants.none) (hA := A_eq m) (hin := fun _ => .rfl) (hout := fun _ => .rfl)

/-- The program ends, its arguments as launched and every counter at zero, when the table of offsets is sound. -/
theorem frame_run (hw : ∀ c, Tab (wof (cuV m c))) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).1 0).trans (((datsOf m (PhF m) 0 c).arrAt_in 0 rfl _).trans ((A_eq m c 0).trans (V_main_arg1 m c))),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c)⟩, h.2⟩) (run_main m ρ hw)

end Cert.KernelIdeal.Hand
-- ==== Proof.Pre.lean ====
module

public import proofs.«01_k».proof.Proof.Run
public import proofs.«01_k».proof.Proof.Gen.Pre_documents_in_tiles

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! # The table of offsets is sound under the precondition -/

theorem one_and (a b : BitVec 1) : IntOp.andi a b = 1#1 ↔ a = 1#1 ∧ b = 1#1 := by
  revert a b; decide

theorem one_bool (b : Bool) : BitVec.ofBool b = 1#1 ↔ b = true := by cases b <;> decide

theorem ix1_ext {n : ℕ} (i j : (⟨1, ![n]⟩ : Shape).Idx) (h : (i 0).val = (j 0).val) : i = j := by
  funext a
  have ha : a = 0 := Subsingleton.elim _ _
  subst ha
  exact Fin.ext h

theorem words_of_pre {ft : FTy → Type} [FloatOps ft] [Cert.Pre_documents_in_tiles.Facts] (a : FVec ft S8192x1024 .f32) (cu : IVec S9 32) (w : FVec ft S1024x1024 .f32) (b : FVec ft S1024 .f32)
    (h : Cert.Pre_documents_in_tiles.fn (F := ft) a cu w b = fun _ => 1#1) (i : Fin 8) :
    ((cu (ix1 i.castSucc)).sle (cu (ix1 i.succ)) ∧ (cu (ix1 i.succ) - cu (ix1 i.castSucc)).sle 2048#32 ∧ (cu (ix1 i.succ)) &&& 127#32 = 0#32)
      ∧ cu (ix1 0) = 0#32 ∧ cu (ix1 8) = 8192#32 := by
  have h1 := congrFun h (ix1 i)
  simp only [Cert.Pre_documents_in_tiles.fn, Cert.Pre_documents_in_tiles.fn_part1, andi, cmpi, subi, one_and] at h1
  obtain ⟨⟨⟨⟨h2, h3⟩, h4⟩, h5⟩, h6⟩ := h1
  have s0 : ∀ hh, extractStridedSlice Cert.Pre_documents_in_tiles.S8 ![0] cu hh (ix1 i) = cu (ix1 i.castSucc) := fun hh =>
    congrArg cu (ix1_ext _ _ (by show 0 + i.val = i.val; omega))
  have s1 : ∀ hh, extractStridedSlice Cert.Pre_documents_in_tiles.S8 ![1] cu hh (ix1 i) = cu (ix1 i.succ) := fun hh =>
    congrArg cu (ix1_ext _ _ (by show 1 + i.val = i.val + 1; omega))
  have z0 : ∀ (hh : S9.Slices ![0] Cert.Pre_documents_in_tiles.S1) j, extractStridedSlice Cert.Pre_documents_in_tiles.S1 ![0] cu hh j = cu (ix1 0) := fun hh j =>
    congrArg cu (ix1_ext _ _ (by have : (j 0).val < 1 := (j 0).isLt
                                 show 0 + (j 0).val = 0; omega))
  have z8 : ∀ (hh : S9.Slices ![8] Cert.Pre_documents_in_tiles.S1) j, extractStridedSlice Cert.Pre_documents_in_tiles.S1 ![8] cu hh j = cu (ix1 8) := fun hh j =>
    congrArg cu (ix1_ext _ _ (by have : (j 0).val < 1 := (j 0).isLt
                                 show 8 + (j 0).val = 8; omega))
  rw [s0, s1] at h2
  rw [s0, s1] at h3
  rw [s1] at h4
  have h5' : IntOp.cmpi .eq (cu (ix1 0)) 0#32 = 1#1 := (congrArg (IntOp.cmpi .eq · 0#32) (z0 _ _)).symm.trans h5
  have h6' : IntOp.cmpi .eq (cu (ix1 8)) 8192#32 = 1#1 := (congrArg (IntOp.cmpi .eq · 8192#32) (z8 _ _)).symm.trans h6
  exact ⟨⟨(one_bool _).1 h2, (one_bool _).1 h3, beq_iff_eq.1 ((one_bool _).1 h4)⟩, beq_iff_eq.1 ((one_bool _).1 h5'), beq_iff_eq.1 ((one_bool _).1 h6')⟩

theorem tab_of_words (w : ℕ → BitVec 32) (h0 : w 0 = 0#32) (h8 : w 8 = 8192#32)
    (h : ∀ i < 8, (w i).sle (w (i + 1)) ∧ (w (i + 1) - w i).sle 2048#32 ∧ w (i + 1) &&& 127#32 = 0#32) : Tab w := by
  have toInt : ∀ i ≤ 8, 0 ≤ (w i).toInt := by
    intro i
    induction i with
    | zero => intro _; rw [h0]; decide
    | succ n ih =>
      intro hn
      have := (h n (by omega)).1
      rw [BitVec.sle_iff_toInt_le] at this
      have := ih (by omega)
      omega
  have up : ∀ n ≤ 8, (w (8 - n)).toInt ≤ 8192 := by
    intro n
    induction n with
    | zero => intro _; rw [h8]; decide
    | succ n ih =>
      intro hn
      have := (h (8 - (n + 1)) (by omega)).1
      rw [BitVec.sle_iff_toInt_le, show 8 - (n + 1) + 1 = 8 - n by omega] at this
      have := ih (by omega)
      omega
  have nat : ∀ i ≤ 8, ((w i).toNat : ℤ) = (w i).toInt := fun i hi => by
    have a := toInt i hi
    have := BitVec.toInt_eq_toNat_cond (w i)
    have := (w i).isLt
    omega
  have le : ∀ i ≤ 8, (w i).toNat ≤ 8192 := fun i hi => by
    have a := nat i hi
    have := up (8 - i) (by omega)
    rw [show 8 - (8 - i) = i by omega] at this
    omega
  have mono : ∀ i < 8, (w i).toNat ≤ (w (i + 1)).toNat := fun i hi => by
    have := (h i hi).1
    rw [BitVec.sle_iff_toInt_le] at this
    have := nat i (by omega)
    have := nat (i + 1) (by omega)
    omega
  refine ⟨by rw [h0]; rfl, by rw [h8]; rfl, mono, fun i hi => ?_, fun i hi => ?_⟩
  · have := (h i hi).2.1
    rw [BitVec.sle_iff_toInt_le] at this
    have l0 := le i (by omega)
    have l1 := le (i + 1) (by omega)
    have m0 := mono i hi
    have e : (w (i + 1) - w i).toNat = (w (i + 1)).toNat - (w i).toNat := by
      rw [BitVec.toNat_sub]; omega
    have e2 := BitVec.toInt_eq_toNat_cond (w (i + 1) - w i)
    rw [if_pos (by omega)] at e2
    rw [e2, e, show (2048#32 : BitVec 32).toInt = 2048 from rfl] at this
    omega
  · cases i with
    | zero => rw [h0]; exact ⟨0, rfl⟩
    | succ n =>
      have e := congrArg BitVec.toNat (h n (by omega)).2.2
      rw [BitVec.toNat_and] at e
      have e2 : (w (n + 1)).toNat &&& 127 = (w (n + 1)).toNat % 128 := Nat.and_two_pow_sub_one_eq_mod _ 7
      exact Nat.dvd_of_mod_eq_zero (e2.symm.trans e)

theorem tab_of_pre {ft : FTy → Type} [FloatOps ft] [Cert.Pre_documents_in_tiles.Facts] (a : FVec ft S8192x1024 .f32) (cu : IVec S9 32) (w : FVec ft S1024x1024 .f32) (b : FVec ft S1024 .f32)
    (h : Cert.Pre_documents_in_tiles.fn (F := ft) a cu w b = fun _ => 1#1) : Tab (wof (F := ft) cu) := by
  have W := words_of_pre a cu w b h
  refine tab_of_words _ (W 0).2.1 (W 0).2.2 fun i hi => ?_
  have e0 : wof (F := ft) cu i = cu (ix1 (⟨i, hi⟩ : Fin 8).castSucc) := dif_pos (by omega)
  have e1 : wof (F := ft) cu (i + 1) = cu (ix1 (⟨i, hi⟩ : Fin 8).succ) := dif_pos (by omega)
  rw [e0, e1]
  exact (W ⟨i, hi⟩).1

end Cert.KernelIdeal.Hand
-- ==== Proof.Blocks.lean ====
module

public import proofs.«01_k».proof.Proof.Pre
public import Idealize.ShloMosaic.Lib.ValueLayout
public import Idealize.ShloMosaic.Lib.MatmulPlain
public import Idealize.ShloMosaic.PureOps.Ideal
public import Idealize.ShloMosaic.PureOps.Ideal.Laws

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! # What the kernel's blocks hold, over the extended reals -/

/-- Row `r` of the projection, at column `h`. -/
def rowV (X : Vec Ideal S8192x1024 .f32) (Wv : Vec Ideal S1024x1024 .f32) (bb : Fin 1024 → EReal) (r : Fin 8192) (h : Fin 1024) : EReal :=
  (∑ k : Fin 1024, (X (ix2 r k) : EReal) * Wv (ix2 k h)) + bb h

/-- The block of supertile `k`. -/
def blk (w : ℕ → BitVec 32) (X : Vec Ideal S8192x1024 .f32) (Wv : Vec Ideal S1024x1024 .f32) (bb : Fin 1024 → EReal) (k : ℕ) : Vec Ideal S1x512x1024 .f32 := fun i =>
  if (i 1).val < left w k then rowV X Wv bb (⟨min (start w k + (i 1).val) 8191, by omega⟩ : Fin 8192) (⟨(i 2).val, (i 2).isLt⟩ : Fin 1024)
  else (Scalar.ofBits (F := Ideal) .f32 0x00000000#32)

theorem proj_apply (x : FVec Ideal S1x512x1024 .f32) (Wv : FVec Ideal S1024x1024 .f32) (bv : FVec Ideal S1x1024 .f32) (r : Fin 512) (h : Fin 1024) :
    addf (F := Ideal) (φ := .f32) (matmul dot_S512x1024_S1024x1024_S512x1024_1_0_0_1_n_n none (shapeCast S512x1024 x shapeCasts_S1x512x1024_S512x1024) Wv (constant S512x1024 .f32 0x00000000#32))
      (broadcastTo S512x1024 (shapeCast S1x1024 bv shapeCasts_S1x1024_S1x1024) broadcasts_S1x1024_S512x1024) (ix2 r h)
    = (∑ k : Fin 1024, (x (ix3 (0 : Fin 1) r k) : EReal) * Wv (ix2 k h)) + bv (ix2 0 h) := by
  have a := Ideal.matmul_plain_apply (M := 512) (K := 1024) (N := 1024) (φ₁ := .f32) (φ₂ := .f32) none (shapeCast S512x1024 x shapeCasts_S1x512x1024_S512x1024) Wv (constant S512x1024 .f32 0x00000000#32) r h
  have z : (constant (F := Ideal) S512x1024 .f32 0x00000000#32) (ix2 r h) = (0 : EReal) := Ideal.ofBits_zero_f32
  rw [z, zero_add] at a
  have b : broadcastTo S512x1024 (shapeCast S1x1024 bv shapeCasts_S1x1024_S1x1024) broadcasts_S1x1024_S512x1024 (ix2 r h) = bv (ix2 0 h) := by
    have e : shapeCast S1x1024 bv shapeCasts_S1x1024_S1x1024 = bv := by
      funext j
      exact shapeCast_apply bv _ _ _ rfl
    rw [e]
    unfold broadcastTo
    refine congrArg bv (funext fun a => ?_)
    match a with
    | ⟨0, _⟩ => rfl
    | ⟨1, _⟩ => rfl
  refine (congrArg₂ (fun p q : EReal => p + q) (a.trans ?_) b)
  refine Finset.sum_congr rfl fun k _ => ?_
  rw [shapeCast_1ab_ab_apply]

theorem lt_bit (v0 v1 : BitVec 32) (r j : ℕ) (hr : r < 512) (hj : j < 4) (h : v0.toNat ≤ v1.toNat) (h2 : v1.toNat - v0.toNat ≤ 2048) :
    IntOp.cmpi .slt (IntOp.addi (BitVec.ofNat 32 r) (BitVec.ofNat 32 (512 * j))) (Scalar.subi v1 v0) = 1#1 ↔ r < v1.toNat - v0.toNat - 512 * j := by
  refine (one_bool _).trans ?_
  have e1 : (IntOp.addi (BitVec.ofNat 32 r) (BitVec.ofNat 32 (512 * j))).toNat = r + 512 * j := by
    show (BitVec.ofNat 32 r + BitVec.ofNat 32 (512 * j)).toNat = _
    rw [BitVec.toNat_add, BitVec.toNat_ofNat, BitVec.toNat_ofNat]; omega
  have e2 : (Scalar.subi v1 v0).toNat = v1.toNat - v0.toNat := by
    show (v1 - v0).toNat = _
    rw [BitVec.toNat_sub]; omega
  rw [BitVec.slt_iff_toInt_lt, BitVec.toInt_eq_toNat_cond, BitVec.toInt_eq_toNat_cond, e1, e2, if_pos (by omega), if_pos (by omega)]
  omega

theorem iota_row (r : Fin 512) : iota .tc S512x1 32 [0] iota_S512x1_d0_w32 (ix2 r 0) = BitVec.ofNat 32 r.val := by
  simp [iota]

theorem select_bit (n : BitVec 32) (v : BitVec 32) (A B : FVec Ideal S512x1024 .f32) (r : Fin 512) (h : Fin 1024) :
    select (broadcastTo S512x1024 (shapeCast S512x1 (cmpi .slt (addi (iota .tc S512x1 32 [0] iota_S512x1_d0_w32) (broadcast S512x1 n))
        (broadcast S512x1 v)) shapeCasts_S512x1_S512x1) broadcasts_S512x1_S512x1024) A B (ix2 r h)
      = if IntOp.cmpi .slt (IntOp.addi (BitVec.ofNat 32 r.val) n) v = 1#1 then A (ix2 r h) else B (ix2 r h) := by
  have e : ∀ y : IVec S512x1 1, broadcastTo S512x1024 (shapeCast S512x1 y shapeCasts_S512x1_S512x1) broadcasts_S512x1_S512x1024 (ix2 r h) = y (ix2 r 0) := fun y => by
    have e : shapeCast S512x1 y shapeCasts_S512x1_S512x1 = y := by
      funext j
      exact shapeCast_apply y _ _ _ rfl
    rw [e]
    unfold broadcastTo
    refine congrArg y (funext fun a => ?_)
    match a with
    | ⟨0, _⟩ => rfl
    | ⟨1, _⟩ => rfl
  unfold select
  rw [e]
  have i : iota .tc S512x1 32 [0] iota_S512x1_d0_w32 (ix2 r 0) = BitVec.ofNat 32 r.val := iota_row r
  show (if IntOp.cmpi .slt (IntOp.addi (iota .tc S512x1 32 [0] iota_S512x1_d0_w32 (ix2 r 0)) n) v = 1#1 then A (ix2 r h) else B (ix2 r h)) = _
  rw [i]

theorem ix3_eta {a b c : ℕ} (i : (⟨3, ![a, b, c]⟩ : Shape).Idx) : i = ix3 (⟨(i 0).val, (i 0).isLt⟩ : Fin a) (⟨(i 1).val, (i 1).isLt⟩ : Fin b) (⟨(i 2).val, (i 2).isLt⟩ : Fin c) := by
  funext d
  match d with
  | ⟨0, _⟩ => rfl
  | ⟨1, _⟩ => rfl
  | ⟨2, _⟩ => rfl

theorem blk_apply (w : ℕ → BitVec 32) (X : Vec Ideal S8192x1024 .f32) (Wv : Vec Ideal S1024x1024 .f32) (bb : Fin 1024 → EReal) (k : ℕ) (u : Fin 1) (r : Fin 512) (h : Fin 1024) :
    blk w X Wv bb k (ix3 u r h) = if r.val < left w k then rowV X Wv bb (⟨min (start w k + r.val) 8191, by omega⟩ : Fin 8192) h else (Scalar.ofBits (F := Ideal) .f32 0x00000000#32) := rfl

theorem sum_flat (w : ℕ → BitVec 32) (X : Vec Ideal S8192x1024 .f32) (Wv : Vec Ideal S1024x1024 .f32) (bv : Vec Ideal S1x1024 .f32) (k : ℕ) (x : Vec Ideal S1x512x1024 .f32) (r : Fin 512) (h : Fin 1024)
    (hx : ∀ q : Fin 1024, x (ix3 (0 : Fin 1) r q) = flatRow w X k (ix3 (0 : Fin 1) r q)) :
    (∑ q : Fin 1024, (x (ix3 (0 : Fin 1) r q) : EReal) * Wv (ix2 q h)) + bv (ix2 0 h)
      = rowV X Wv (fun h => bv (ix2 0 h)) (⟨min (start w k + r.val) 8191, by omega⟩ : Fin 8192) h := by
  unfold rowV
  refine congrArg (fun p : EReal => p + bv (ix2 0 h)) (Finset.sum_congr rfl fun q _ => ?_)
  rw [hx q]
  rfl

theorem good_blk (w : ℕ → BitVec 32) (hw : Tab w) (X : Vec Ideal S8192x1024 .f32) (Wv : Vec Ideal S1024x1024 .f32) (bv : Vec Ideal S1x1024 .f32) :
    Good w X Wv bv (fun k g => g = blk w X Wv (fun h => bv (ix2 0 h)) k) := by
  refine ⟨fun k hk hn x hx => ?_, fun k hk h0 h4 x hx => ?_, fun k hk hn => ?_⟩
  · have hl : 512 ≤ left w k := by unfold nt at hn; omega
    funext i
    rw [ix3_eta i]
    unfold payFull
    rw [shapeCast_ab_1ab_apply, proj_apply, sum_flat w X Wv bv k x _ _ fun q => hx _, blk_apply, if_pos]
    have := (i 1).isLt
    exact lt_of_lt_of_le this hl
  · have t0 := hw.tile (k / 4) (by omega)
    have t1 := hw.tile (k / 4 + 1) (by omega)
    have m0 := hw.mono (k / 4) (by omega)
    have r0 := hw.room (k / 4) (by omega)
    have hl : left w k = 128 * nt w k := by unfold nt at h4 ⊢; unfold left at h4 ⊢; omega
    funext i
    rw [ix3_eta i]
    unfold payPart
    rw [shapeCast_ab_1ab_apply, blk_apply]
    have bit := lt_bit (w (k / 4)) (w (k / 4 + 1)) (i 1).val (k % 4) (i 1).isLt (by omega) m0 r0
    have sel : ∀ (A B : FVec Ideal S512x1024 .f32) (r : Fin 512) (h : Fin 1024), select (broadcastTo S512x1024 (shapeCast S512x1 (cmpi .slt (addi (iota .tc S512x1 32 [0] iota_S512x1_d0_w32) (broadcast S512x1 (BitVec.ofNat 32 (512 * (k % 4)))))
        (broadcast S512x1 (Scalar.subi (w (k / 4 + 1)) (w (k / 4))))) shapeCasts_S512x1_S512x1) broadcasts_S512x1_S512x1024) A B (ix2 r h)
        = if IntOp.cmpi .slt (IntOp.addi (BitVec.ofNat 32 r.val) (BitVec.ofNat 32 (512 * (k % 4)))) (Scalar.subi (w (k / 4 + 1)) (w (k / 4))) = 1#1 then A (ix2 r h) else B (ix2 r h) := by
      intro A B r h
      exact select_bit _ _ _ _ _ _
    rw [sel, proj_apply]
    by_cases hb : (i 1).val < left w k
    · rw [if_pos (bit.2 hb), if_pos hb]
      exact sum_flat w X Wv bv k x _ _ fun q => hx _ (lt_of_lt_of_eq hb hl)
    · rw [if_neg (fun e => hb (bit.1 e)), if_neg hb]
      rfl
  · have t0 := hw.tile (k / 4) (by omega)
    have t1 := hw.tile (k / 4 + 1) (by omega)
    have hl : left w k = 0 := by unfold nt at hn; unfold left at hn ⊢; omega
    funext i
    rw [ix3_eta i]
    unfold payZero
    rw [shapeCast_ab_1ab_apply, blk_apply, if_neg (by omega)]
    rfl

/-! ## The two results -/

/-- The token array. -/
def tokV (w : ℕ → BitVec 32) (X : Vec Ideal S8192x1024 .f32) (Wv : Vec Ideal S1024x1024 .f32) (bb : Fin 1024 → EReal) : Vec Ideal S8x2048x1024 .f32 := fun j =>
  if (w (j 0).val).toNat + (j 1).val < (w ((j 0).val + 1)).toNat then
    rowV X Wv bb (⟨min ((w (j 0).val).toNat + (j 1).val) 8191, by omega⟩ : Fin 8192) (⟨(j 2).val, (j 2).isLt⟩ : Fin 1024)
  else (Scalar.ofBits (F := Ideal) .f32 0x00000000#32)

/-- The mask. -/
def mskV (w : ℕ → BitVec 32) : IVec S8x2048 1 := fun j =>
  if (w (j 0).val).toNat + (j 1).val < (w ((j 0).val + 1)).toNat then 1#1 else 0#1

theorem tokV_of (w : ℕ → BitVec 32) (X : Vec Ideal S8192x1024 .f32) (Wv : Vec Ideal S1024x1024 .f32) (bb : Fin 1024 → EReal) (f : Vec Ideal S8x2048x1024 .f32)
    (hf : TokOK (fun k g => g = blk w X Wv bb k) f) : f = tokV w X Wv bb := by
  funext j
  have j0 : (j 0).val < 8 := (j 0).isLt
  have j1 : (j 1).val < 2048 := (j 1).isLt
  have e4 : (4 * (j 0).val + (j 1).val / 512) / 4 = (j 0).val := by omega
  have em : (4 * (j 0).val + (j 1).val / 512) % 4 = (j 1).val / 512 := by omega
  obtain ⟨g, hg, h⟩ := hf (4 * (j 0).val + (j 1).val / 512) (by omega)
  subst hg
  rw [h j (mem_tset.2 ⟨e4.symm, by rw [em]; omega, by rw [em]; omega⟩)]
  unfold inTok
  rw [blk_apply]
  have el : left w (4 * (j 0).val + (j 1).val / 512) = (w ((j 0).val + 1)).toNat - (w (j 0).val).toNat - 512 * ((j 1).val / 512) := by
    unfold left; rw [e4, em]
  have es : start w (4 * (j 0).val + (j 1).val / 512) = (w (j 0).val).toNat + 512 * ((j 1).val / 512) := by
    unfold start; rw [e4, em]
  unfold tokV
  by_cases hc : (w (j 0).val).toNat + (j 1).val < (w ((j 0).val + 1)).toNat
  · rw [if_pos (by show (j 1).val % 512 < _; omega), if_pos hc]
    refine congrArg (fun r => rowV X Wv bb r _) (Fin.ext ?_)
    show min (start w (4 * (j 0).val + (j 1).val / 512) + (j 1).val % 512) 8191 = min ((w (j 0).val).toNat + (j 1).val) 8191
    omega
  · rw [if_neg (by show ¬ (j 1).val % 512 < _; omega), if_neg hc]

theorem iota_col (l : Fin 512) : iota .tc S1x512 32 [1] iota_S1x512_d1_w32 (ix2 0 l) = BitVec.ofNat 32 l.val := by
  simp [iota]

theorem ne_zero_bit (b : BitVec 1) : IntOp.cmpi .ne (b.setWidth 32) 0#32 = b := by
  revert b; decide

theorem payMask_apply (j : ℕ) (v0 v1 : BitVec 32) (l : Fin 512) :
    payMask (F := Ideal) j v0 v1 (ix3 (0 : Fin 1) (0 : Fin 1) l)
      = (IntOp.cmpi .slt (IntOp.addi (BitVec.ofNat 32 l.val) (BitVec.ofNat 32 (512 * j))) (Scalar.subi v1 v0)).setWidth 32 := by
  unfold payMask
  rw [shapeCast_ab_1ab_apply]
  show (IntOp.cmpi .slt (IntOp.addi (iota .tc S1x512 32 [1] iota_S1x512_d1_w32 (ix2 0 l)) _) _).setWidth 32 = _
  rw [iota_col]
  rfl

theorem mskV_of (cu : Vec Ideal S9 .i32) (hw : Tab (wof cu)) :
    shapeCast S8x2048 (id (cmpi .ne (maskV (F := Ideal) cu) (broadcastInDim S32x1x512 ![] bcast_S_S32x1x512 (constantI S_ 32 0#32)))) shapeCasts_S32x1x512_S8x2048 = mskV (wof cu) := by
  funext j
  have j0 : (j 0).val < 8 := (j 0).isLt
  have j1 : (j 1).val < 2048 := (j 1).isLt
  have e4 : (4 * (j 0).val + (j 1).val / 512) / 4 = (j 0).val := by omega
  have em : (4 * (j 0).val + (j 1).val / 512) % 4 = (j 1).val / 512 := by omega
  have sc := shapeCast_apply (id (cmpi .ne (maskV (F := Ideal) cu) (broadcastInDim S32x1x512 ![] bcast_S_S32x1x512 (constantI S_ 32 0#32)))) shapeCasts_S32x1x512_S8x2048 j
    (ix3 (⟨4 * (j 0).val + (j 1).val / 512, by omega⟩ : Fin 32) (0 : Fin 1) (⟨(j 1).val % 512, by omega⟩ : Fin 512)) (by
      rw [Shape.rowMajor_val_three, Shape.rowMajor_val_two]
      show ((4 * (j 0).val + (j 1).val / 512) * 1 + 0) * 512 + (j 1).val % 512 = (j 0).val * 2048 + (j 1).val
      omega)
  rw [sc]
  show IntOp.cmpi .ne (payMask (F := Ideal) ((4 * (j 0).val + (j 1).val / 512) % 4) (wof cu ((4 * (j 0).val + (j 1).val / 512) / 4)) (wof cu ((4 * (j 0).val + (j 1).val / 512) / 4 + 1)) (ix3 (0 : Fin 1) (0 : Fin 1) (⟨(j 1).val % 512, by omega⟩ : Fin 512))) 0#32 = _
  rw [payMask_apply, ne_zero_bit, e4, em]
  have bit := lt_bit (wof cu (j 0).val) (wof cu ((j 0).val + 1)) ((j 1).val % 512) ((j 1).val / 512) (by omega) (by omega) (hw.mono _ j0) (hw.room _ j0)
  unfold mskV
  by_cases hc : (wof cu (j 0).val).toNat + (j 1).val < (wof cu ((j 0).val + 1)).toNat
  · rw [if_pos hc]
    exact bit.2 (by omega)
  · rw [if_neg hc]
    have nb : ∀ b : BitVec 1, b ≠ 1#1 → b = 0#1 := by decide
    exact nb _ fun e => hc (by have := bit.1 e; omega)

end Cert.KernelIdeal.Hand
-- ==== Proof.Values.lean ====
module

public import proofs.«01_k».proof.Proof.Run
public import Idealize.ShloMosaic.Lib.Pipeline.ValueKit.Geometry
public import Idealize.ShloMosaic.Lib.StableHlo.Run

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Rounds
open Idealize.ShloMosaic.Pipeline (Dat Cfg Window BodyObligation cellOf)

variable (m : (ℓ : Loc nD τ sig) → Buf (Elt F) ℓ) (ρ : Dev nD → PrngReg) (Tv : Dev nD → Vec F S8x2048x1024 .f32)

/-- The buffers as the kernel finds them, the token array at the values it leaves there. -/
def Gv (c : Dev nD) : (b : Ref sig .tc) → Buf (Elt F) ((c.tc : Thread nD τ).loc b) := Function.update (V m c) main_v1_0 (Tv c)

theorem Gv_self (c : Dev nD) : Gv m Tv c main_v1_0 = Tv c := by unfold Gv; exact Function.update_self _ _ _

/-- The cells before the only grid point and after it. -/
def PhV (c : Dev nD) (t : Fin (cfg0.N + 1)) : sProp 𝕄 :=
  if t = 0 then cells m (fun _ => True) c else cells m (fun f => f = Tv c) c

theorem PhV_zero (c : Dev nD) : PhV m Tv c 0 = cells m (fun _ => True) c := if_pos rfl
theorem PhV_last (c : Dev nD) : PhV m Tv c (Fin.last cfg0.N) = cells m (fun f => f = Tv c) c := if_neg (by decide)

theorem PhiDRV_eq (G : (c : Dev nD) → (b : Ref sig .tc) → Buf (Elt F) ((c.tc : Thread nD τ).loc b)) (c : Dev nD) :
    (Pipeline.ΦDRV own0 spec0 H0 R0 (V m) G c : sProp 𝕄)
      = iprop(iprop((∃ f : Vec F S10x512x1024 .f32, (c : Thread nD τ).loc cc0_scratch0 ↦{fullShare} f)
          ∗ (∃ f : Vec F S10x512x1024 .f32, (c : Thread nD τ).loc cc0_scratch1 ↦{fullShare} f)
          ∗ (∃ f : Vec F S1024x1024 .f32, (c : Thread nD τ).loc cc0_scratch2 ↦{fullShare} f))
        ∗ iprop(sem0 (F := F) c wsem ∗ bigSep (Finset.range 10) (fun s => sem0 (F := F) c (xsem s)) ∗ bigSep (Finset.range 10) (fun s => sem0 (F := F) c (osem s)))
        ∗ iprop(((c : Thread nD τ).loc main_arg0 ↦{fullShare} XV m c) ∗ ((c : Thread nD τ).loc main_arg2 ↦{fullShare} WvV m c))
        ∗ ((c : Thread nD τ).loc main_v1_0 ↦{fullShare} G c main_v1_0)) := by
  unfold Pipeline.ΦDRV
  rw [scopedRest0_eq, ownSems_eq, hbm_eq]
  unfold R0
  rw [BI.bigSep_eq_bigSepL_of_eq [main_v1_0] (by decide) (by decide)]
  rfl

theorem PhV_in (c : Dev nD) : (Pipeline.ΦDRV own0 spec0 H0 R0 (V m) (V m) c : sProp 𝕄) ⊢ PhV m Tv c 0 := by
  rw [PhiDRV_eq, PhV_zero]
  unfold cells
  iintro ⟨Hs, Hq, Hh, Ht⟩
  isplitl [Hs]; · iexact Hs
  isplitl [Hq]; · iexact Hq
  isplitl [Hh]; · iexact Hh
  iexists (V m c main_v1_0 : Vec F S8x2048x1024 .f32)
  isplitr
  · ipureintro; trivial
  iexact Ht

theorem PhV_out (c : Dev nD) : PhV m Tv c (Fin.last cfg0.N) ⊢ (Pipeline.ΦDRV own0 spec0 H0 R0 (V m) (Gv m Tv) c : sProp 𝕄) := by
  rw [PhiDRV_eq, PhV_last, Gv_self]
  unfold cells
  iintro ⟨Hs, Hq, Hh, ⟨%f, %hf, Ht⟩⟩
  subst hf
  isplitl [Hs]; · iexact Hs
  isplitl [Hq]; · iexact Hq
  isplitl [Hh]; · iexact Hh
  iexact Ht

theorem cells_mono {P Q : Vec F S8x2048x1024 .f32 → Prop} (h : ∀ f, P f → Q f) (c : Dev nD) : cells m P c ⊢ (cells m Q c : sProp 𝕄) := by
  unfold cells
  iintro ⟨Hs, Hq, Hh, ⟨%f, %hf, Ht⟩⟩
  isplitl [Hs]; · iexact Hs
  isplitl [Hq]; · iexact Hq
  isplitl [Hh]; · iexact Hh
  iexists f
  isplitr
  · ipureintro; exact h f hf
  iexact Ht

theorem obligationV {OK : ℕ → Vec F S1x512x1024 .f32 → Prop} (c : Dev nD) (hw : Tab (wof (cuV m c)))
    (hG : Good (wof (cuV m c)) (XV m c) (WvV m c) (bvV m c) OK) (hT : ∀ f, TokOK OK f → f = Tv c) :
    BodyObligation (datsOf (F := F) m (PhV m Tv) 0 c) (defs₀ (F := F)) Variants.none () Set.univ :=
  body_obligation m c hw hG (R := BI.emp)
    (by rw [PhV_zero]; iintro H; isplitl [H]; · iexact H
        iempintro)
    (by rw [PhV_last]; iintro ⟨H, -⟩; iapply (cells_mono m hT c); iexact H)

abbrev WV (c : Dev nD) : Valuation τ sig (Elt F) :=
  Pipeline.withArrays spec0 c (Pipeline.withR (V0 m c) R0 c (Gv m Tv c)) fun w => (datsOf m (PhV m Tv) 0 c).arrAt w cfg0.N

set_option backward.isDefEq.respectTransparency.types false in
theorem run_values {OK : Dev nD → ℕ → Vec F S1x512x1024 .f32 → Prop} (hw : ∀ c, Tab (wof (cuV m c)))
    (hG : ∀ c, Good (wof (cuV m c)) (XV m c) (WvV m c) (bvV m c) (OK c)) (hT : ∀ c f, TokOK (OK c) f → f = Tv c) :
    θ_run defs (onTc (τ := τ) (main (F := F))) (s₀ m ρ) (fun r => ∀ c : Dev nD,
      (∀ w, r.2.mem ((spec0 w).arr.view.loc (c.tc : Thread nD τ)) = (datsOf m (PhV m Tv) 0 c).arrAt w cfg0.N)
      ∧ ∀ b ∈ Pipeline.restRefs sig spec0, r.2.mem ((c.tc : Thread nD τ).loc b) = StableHlo.after [hostOps1].flatten (WV m Tv c) (Proc.devRef .tc b)) :=
  Pipeline.θ_run_frame_dmaR_aroundV cfgs (datsOf m (PhV m Tv)) (0 : Fin 1) launch0 own0 defs₀ Variants.none ownFacts H0 R0 H0_sub R0_sub m ρ main
    (hbody := fun c => (obligationV m Tv c (hw c) (hG c) (hT c)).loose) (hshare := fun c => (datsOf m (PhV m Tv) 0 c).share_full fun _ => rfl)
    (howed := fun _ _ => rfl) (V₀ := V0 m) (opss := [hostOps1]) (hsub := sfx_sub) (hfresh := sfx_fresh) (hkeep := sfx_keeps) (G := Gv m Tv)
    (hmain := hmain' m Variants.none) (hA := A_eq m) (hin := PhV_in m Tv) (hout := PhV_out m Tv) (Q' := _) (hQ' := fun _ h => h.1)

theorem arr_mask (c : Dev nD) : (datsOf m (PhV m Tv) 0 c).arrAt 2 cfg0.N = maskV (cuV m c) :=
  (datsOf m (PhV m Tv) 0 c).arrAt_eq_of_after_last 2 (⟨0, by decide⟩ : Fin cfg0.N) (by decide +kernel) (maskV (cuV m c)) fun j => rfl

theorem read_arr (c : Dev nD) (w : Fin cfg0.W) : WV m Tv c (Proc.devRef .tc (Pipeline.arrRef spec0 w)) = (datsOf m (PhV m Tv) 0 c).arrAt w cfg0.N :=
  Pipeline.withArrays_arr spec0 launch0.win.arr_inj c _ _ w

theorem read_rest (c : Dev nD) (b : Ref sig .tc) (hb : ∀ w, Pipeline.arrRef spec0 w ≠ b) (hr : b ∉ R0) : WV m Tv c (Proc.devRef .tc b) = V m c b :=
  (Pipeline.withArrays_of_ne spec0 c _ _ b hb).trans (Pipeline.withR_of_not_mem _ R0 c _ b hr)

theorem read_tok (c : Dev nD) : WV m Tv c (Proc.devRef .tc main_v1_0) = Tv c :=
  (Pipeline.withArrays_of_ne spec0 c _ _ main_v1_0 (by decide)).trans ((Pipeline.withR_of_mem _ R0 c _ main_v1_0 (by decide)).trans (Gv_self m Tv c))

/-- The lines after the kernel leave what they do not write. -/
theorem tail_keeps (W : Valuation τ sig (Elt F)) (b : Ref sig .tc) (hb : b ∉ T0) :
    StableHlo.after [hostOps1].flatten W (Proc.devRef .tc b) = W (Proc.devRef .tc b) :=
  StableHlo.after_of_forall_not_mem (b := Proc.devRef .tc b) _ _ fun op hop h =>
    hb (sfx_writes hostOps1 (List.mem_singleton.2 rfl) op (by simpa using hop) b h)

theorem tail_mask (W : Valuation τ sig (Elt F)) (x : Vec F S32x1x512 .i32) (hx : W (Proc.devRef .tc main_v1_1) = x) :
    StableHlo.after [hostOps1].flatten W (Proc.devRef .tc main_v5)
      = shapeCast S8x2048 (id (cmpi .ne x (broadcastInDim S32x1x512 ![] bcast_S_S32x1x512 (constantI S_ 32 0#32)))) shapeCasts_S32x1x512_S8x2048 := by
  subst hx
  simp only [hostOps1, List.flatten_cons, List.flatten_nil, List.append_nil]
  after_results_simp
  rfl

theorem bvV_eq (c : Dev nD) : bvV m c = shapeCast S1x1024 (m ((c : Thread nD τ).loc main_arg3)) shapeCasts_S1024_S1x1024 := by
  unfold bvV V V0
  simp only [hostOps0, List.flatten_cons, List.flatten_nil, List.append_nil]
  after_results_simp
  rfl

end Cert.KernelIdeal.Hand
-- ==== Proof.Ref.lean ====
module

public import proofs.«01_k».proof.Proof.Pre
public import proofs.«01_k».proof.Proof.Gen.ReferenceIdeal.Run
public import Idealize.ShloMosaic.Lib.Routing.OpsSet
public import Idealize.ShloMosaic.Lib.Routing.OpsPair
public import Idealize.ShloMosaic.Lib.Routing.Ops
public import Idealize.ShloMosaic.PureOps.Ideal

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Routing (reduce_count gather_take1 scatter_set_hit scatter_set_miss resultIdx?_eq_some)
open Idealize.ShloMosaic.ValueIdx
open Cert.KernelIdeal.Hand (wof Tab ix1_ext)

/-! # The reference's two results, entry by entry -/

variable (cu : IVec S9 32)

/-- The table of offsets as a sequence. -/
abbrev tb (cu : IVec S9 32) : ℕ → BitVec 32 := wof (F := Ideal) cu

theorem tb_eq (q : ℕ) (hq : q < 9) : tb cu q = cu (ix1 ⟨q, hq⟩) := dif_pos hq

/-- How many offsets are at most the row's number. -/
def cntA : IVec S8192 32 :=
  Host.reduce IntOp.addi (extui 32 (cmpi .sle (broadcastInDim S8192x9 ![0, 1] bcast_S1x9_S8192x9_0_1 (broadcastInDim S1x9 ![1] bcast_S9_S1x9_1 cu))
    (broadcastInDim S8192x9 ![0, 1] bcast_S8192x1_S8192x9_0_1 (broadcastInDim S8192x1 ![0] bcast_S8192_S8192x1_0 (iotaInDim S8192 32 0)))) natLt_1_32)
    (constantI S_ 32 0#32) reducesTo_S8192x9_S8192_d1 h_S_
/-- The row's document. -/
def docA : IVec S8192 32 :=
  minsi (broadcastInDim S8192 ![] bcast_S_S8192 (id (constantI S_ 32 7#32))) (maxsi (broadcastInDim S8192 ![] bcast_S_S8192 (id (constantI S_ 32 0#32)))
    (subi (cntA cu) (broadcastInDim S8192 ![] bcast_S_S8192 (constantI S_ 32 1#32))))
/-- An index with a negative one counted from the end. -/
def wrapA (n : BitVec 32) (x : IVec S8192 32) : IVec S8192x1 32 :=
  broadcastInDim S8192x1 ![0] bcast_S8192_S8192x1_0 (select (cmpi .slt x (broadcastInDim S8192 ![] bcast_S_S8192 (constantI S_ 32 0#32)))
    (addi x (broadcastInDim S8192 ![] bcast_S_S8192 (constantI S_ 32 n))) x)
/-- The row's place in its document. -/
def offA : IVec S8192 32 :=
  subi (iotaInDim S8192 32 0) (Host.gather gather_S9_S8192x1_S8192_n_0_n_n_0_1_1 cu (wrapA 9#32 (docA cu)))
/-- Document and place. -/
def placeA : IVec S8192x2 32 :=
  concatenate S8192x2 1 [⟨S8192x1, wrapA 8#32 (docA cu)⟩, ⟨S8192x1, wrapA 2048#32 (offA cu)⟩] concatenates_S8192x1_S8192x1_S8192x2_d1

theorem table_bcast (x : IVec S9 32) (r : Fin 8192) (q : Fin 9) :
    broadcastInDim S8192x9 ![0, 1] bcast_S1x9_S8192x9_0_1 (broadcastInDim S1x9 ![1] bcast_S9_S1x9_1 x) (ix2 r q) = x (ix1 q) := by
  unfold broadcastInDim
  exact congrArg x (ix1_ext _ _ rfl)
theorem row_bcast (y : IVec S8192 32) (r : Fin 8192) (q : Fin 9) :
    broadcastInDim S8192x9 ![0, 1] bcast_S8192x1_S8192x9_0_1 (broadcastInDim S8192x1 ![0] bcast_S8192_S8192x1_0 y) (ix2 r q) = y (ix1 r) := by
  unfold broadcastInDim
  exact congrArg y (ix1_ext _ _ rfl)
theorem col_bcast (y : IVec S8192 32) (r : Fin 8192) : broadcastInDim S8192x1 ![0] bcast_S8192_S8192x1_0 y (ix2 r 0) = y (ix1 r) := by
  unfold broadcastInDim
  exact congrArg y (ix1_ext _ _ rfl)
theorem sle_apply {s : Shape} (A B : IVec s 32) (j : s.Idx) : cmpi .sle A B j = 1#1 ↔ (A j).sle (B j) = true := Cert.KernelIdeal.Hand.one_bool _
theorem iota_apply (r : Fin 8192) : iotaInDim S8192 32 0 (ix1 r) = BitVec.ofNat 32 r.val := rfl

theorem cnt_apply (hw : Tab (tb cu)) (r i : ℕ) (hr : r < 8192) (hi : i < 8) (h0 : (tb cu i).toNat ≤ r) (h1 : r < (tb cu (i + 1)).toNat) :
    cntA cu (ix1 ⟨r, hr⟩) = BitVec.ofNat 32 (i + 1) := by
  have up : ∀ n j, j + n ≤ 8 → (tb cu j).toNat ≤ (tb cu (j + n)).toNat := by
    intro n
    induction n with
    | zero => intro j _; exact le_refl _
    | succ n ih => intro j hj; exact (ih j (by omega)).trans (hw.mono (j + n) (by omega))
  have hQ : ∀ q < 9, (tb cu q).toNat ≤ r ↔ q < i + 1 := by
    intro q hq
    constructor
    · intro h
      by_contra hlt
      have := up (q - (i + 1)) (i + 1) (by omega)
      rw [show i + 1 + (q - (i + 1)) = q by omega] at this
      omega
    · intro h
      have := up (i - q) q (by omega)
      rw [show q + (i - q) = i by omega] at this
      omega
  have hc : ∀ n ≤ 9, Nat.count (fun q => (tb cu q).toNat ≤ r) n = min n (i + 1) := by
    intro n
    induction n with
    | zero => intro _; simp
    | succ n ih =>
      intro hn
      have := ih (by omega)
      have := hQ n (by omega)
      rw [Nat.count_succ]
      split <;> omega
  have hb : ∀ q ≤ 8, (tb cu q).toNat ≤ 8192 := fun q hq => by
    have := up (8 - q) q (by omega)
    rw [show q + (8 - q) = 8 by omega, hw.last] at this
    exact this
  have key := reduce_count (n := 8192) (m := 9) (by decide) (cmpi .sle (broadcastInDim S8192x9 ![0, 1] bcast_S1x9_S8192x9_0_1 (broadcastInDim S1x9 ![1] bcast_S9_S1x9_1 cu))
    (broadcastInDim S8192x9 ![0, 1] bcast_S8192x1_S8192x9_0_1 (broadcastInDim S8192x1 ![0] bcast_S8192_S8192x1_0 (iotaInDim S8192 32 0)))) natLt_1_32 reducesTo_S8192x9_S8192_d1 h_S_ ⟨r, hr⟩
    (fun q => (tb cu q).toNat ≤ r) fun q => by
      rw [sle_apply, table_bcast, row_bcast, iota_apply, show cu (ix1 q) = tb cu q.val from (tb_eq cu q.val q.isLt).symm]
      rw [BitVec.sle_iff_toInt_le, BitVec.toInt_eq_toNat_cond, BitVec.toInt_eq_toNat_cond, BitVec.toNat_ofNat]
      have := hb q.val (by omega)
      have e : ((⟨r, hr⟩ : Fin 8192)).val = r := rfl
      rw [e, if_pos (by omega), if_pos (by omega)]
      omega
  rw [hc 9 (le_refl _), show min 9 (i + 1) = i + 1 by omega] at key
  exact key

theorem doc_apply (hw : Tab (tb cu)) (r i : ℕ) (hr : r < 8192) (hi : i < 8) (h0 : (tb cu i).toNat ≤ r) (h1 : r < (tb cu (i + 1)).toNat) :
    docA cu (ix1 ⟨r, hr⟩) = BitVec.ofNat 32 i := by
  show IntOp.minsi 7#32 (IntOp.maxsi 0#32 (IntOp.subi (cntA cu (ix1 ⟨r, hr⟩)) 1#32)) = _
  rw [cnt_apply cu hw r i hr hi h0 h1]
  clear h0 h1
  revert i
  decide

theorem wrap_apply (n : BitVec 32) (x : IVec S8192 32) (r v : ℕ) (hr : r < 8192) (hv : v < 8192) (h : x (ix1 ⟨r, hr⟩) = BitVec.ofNat 32 v) :
    wrapA n x (ix2 ⟨r, hr⟩ 0) = BitVec.ofNat 32 v := by
  have e : wrapA n x (ix2 ⟨r, hr⟩ 0) = if IntOp.cmpi .slt (x (ix1 ⟨r, hr⟩)) 0#32 = 1#1 then IntOp.addi (x (ix1 ⟨r, hr⟩)) n else x (ix1 ⟨r, hr⟩) := by
    unfold wrapA
    rw [col_bcast]
    rfl
  rw [e, h, if_neg]
  intro hh
  have := (Cert.KernelIdeal.Hand.one_bool _).1 hh
  rw [BitVec.slt_iff_toInt_lt, BitVec.toInt_eq_toNat_cond, BitVec.toNat_ofNat, if_pos (by omega)] at this
  have z : (0#32 : BitVec 32).toInt = 0 := rfl
  omega

theorem off_apply (hw : Tab (tb cu)) (r i : ℕ) (hr : r < 8192) (hi : i < 8) (h0 : (tb cu i).toNat ≤ r) (h1 : r < (tb cu (i + 1)).toNat) :
    offA cu (ix1 ⟨r, hr⟩) = BitVec.ofNat 32 (r - (tb cu i).toNat) := by
  have g : Host.gather gather_S9_S8192x1_S8192_n_0_n_n_0_1_1 cu (wrapA 9#32 (docA cu)) (ix1 ⟨r, hr⟩) = cu (ix1 ⟨i, by omega⟩) :=
    gather_take1 _ rfl rfl rfl rfl cu _ ⟨r, hr⟩ ⟨i, by omega⟩ (wrap_apply _ _ r i hr (by omega) (doc_apply cu hw r i hr hi h0 h1)) (by decide)
  show IntOp.subi (BitVec.ofNat 32 r) (Host.gather gather_S9_S8192x1_S8192_n_0_n_n_0_1_1 cu (wrapA 9#32 (docA cu)) (ix1 ⟨r, hr⟩)) = _
  rw [g, show cu (ix1 ⟨i, by omega⟩) = tb cu i from (tb_eq cu i (by omega)).symm]
  show BitVec.ofNat 32 r - tb cu i = _
  apply BitVec.eq_of_toNat_eq
  rw [BitVec.toNat_sub, BitVec.toNat_ofNat, BitVec.toNat_ofNat]
  omega

theorem columns (x y : IVec S8192x1 32) (r : Fin 8192) :
    concatenate S8192x2 1 [⟨S8192x1, x⟩, ⟨S8192x1, y⟩] concatenates_S8192x1_S8192x1_S8192x2_d1 (ix2 r 0) = x (ix2 r 0)
      ∧ concatenate S8192x2 1 [⟨S8192x1, x⟩, ⟨S8192x1, y⟩] concatenates_S8192x1_S8192x1_S8192x2_d1 (ix2 r 1) = y (ix2 r 0) := by
  refine ⟨congrArg x (funext fun b => ?_), congrArg y (funext fun b => ?_)⟩ <;>
    match b with
    | ⟨0, _⟩ => rfl
    | ⟨1, _⟩ => rfl

theorem place_apply (hw : Tab (tb cu)) (r i : ℕ) (hr : r < 8192) (hi : i < 8) (h0 : (tb cu i).toNat ≤ r) (h1 : r < (tb cu (i + 1)).toNat) :
    placeA cu (ix2 ⟨r, hr⟩ 0) = BitVec.ofNat 32 i ∧ placeA cu (ix2 ⟨r, hr⟩ 1) = BitVec.ofNat 32 (r - (tb cu i).toNat) := by
  have a := wrap_apply 8#32 _ r i hr (by omega) (doc_apply cu hw r i hr hi h0 h1)
  have b := wrap_apply 2048#32 _ r (r - (tb cu i).toNat) hr (by omega) (off_apply cu hw r i hr hi h0 h1)
  exact ⟨(columns _ _ _).1.trans a, (columns _ _ _).2.trans b⟩

/-! ## Where an update lands -/

theorem tok_start0 (k : S8192x1024.Idx) (idx : IVec S8192x2 32) :
    scatter_S8x2048x1024_S8192x2_S8192x1024_1_01_01_1.start k idx 0 = (idx (ix2 (⟨(k 0).val, (k 0).isLt⟩ : Fin 8192) 0)).toInt := by
  unfold ScatterDims.start
  rw [dif_pos (by decide)]
  refine congrArg (fun j => (idx j).toInt) (funext fun b => ?_)
  match b with
  | ⟨0, _⟩ => rfl
  | ⟨1, _⟩ => rfl
theorem tok_start1 (k : S8192x1024.Idx) (idx : IVec S8192x2 32) :
    scatter_S8x2048x1024_S8192x2_S8192x1024_1_01_01_1.start k idx 1 = (idx (ix2 (⟨(k 0).val, (k 0).isLt⟩ : Fin 8192) 1)).toInt := by
  unfold ScatterDims.start
  rw [dif_pos (by decide)]
  refine congrArg (fun j => (idx j).toInt) (funext fun b => ?_)
  match b with
  | ⟨0, _⟩ => rfl
  | ⟨1, _⟩ => rfl
theorem tok_lands (k : S8192x1024.Idx) (idx : IVec S8192x2 32) (j : S8x2048x1024.Idx) :
    scatter_S8x2048x1024_S8192x2_S8192x1024_1_01_01_1.resultIdx? k idx = some j
      ↔ (idx (ix2 (⟨(k 0).val, (k 0).isLt⟩ : Fin 8192) 0)).toInt = ((j 0).val : ℤ) ∧ (idx (ix2 (⟨(k 0).val, (k 0).isLt⟩ : Fin 8192) 1)).toInt = ((j 1).val : ℤ) ∧ (k 1).val = (j 2).val := by
  have s2 : scatter_S8x2048x1024_S8192x2_S8192x1024_1_01_01_1.start k idx 2 = 0 := by
    unfold ScatterDims.start
    rw [dif_neg (by decide)]
  have w0 : scatter_S8x2048x1024_S8192x2_S8192x1024_1_01_01_1.window k 0 = 0 := by
    unfold ScatterDims.window
    rw [dif_neg (by decide)]
  have w1 : scatter_S8x2048x1024_S8192x2_S8192x1024_1_01_01_1.window k 1 = 0 := by
    unfold ScatterDims.window
    rw [dif_neg (by decide)]
  have w2 : scatter_S8x2048x1024_S8192x2_S8192x1024_1_01_01_1.window k 2 = (k 1).val := by
    unfold ScatterDims.window
    rw [dif_pos (by decide)]
    rfl
  rw [resultIdx?_eq_some]
  constructor
  · intro h
    have h0 := h 0
    have h1 := h 1
    have h2 := h 2
    rw [tok_start0, w0] at h0
    rw [tok_start1, w1] at h1
    rw [s2, w2] at h2
    omega
  · intro h a
    match a with
    | ⟨0, _⟩ => exact (congrArg₂ (fun x (y : ℕ) => x + (y : ℤ)) (tok_start0 k idx) w0).trans (by show _ = ((j 0).val : ℤ); dsimp only; omega)
    | ⟨1, _⟩ => exact (congrArg₂ (fun x (y : ℕ) => x + (y : ℤ)) (tok_start1 k idx) w1).trans (by show _ = ((j 1).val : ℤ); dsimp only; omega)
    | ⟨2, _⟩ => exact (congrArg₂ (fun x (y : ℕ) => x + (y : ℤ)) s2 w2).trans (by show _ = ((j 2).val : ℤ); dsimp only; omega)

theorem msk_lands (k : S8192.Idx) (idx : IVec S8192x2 32) (j : S8x2048.Idx) :
    scatter_S8x2048_S8192x2_S8192_n_01_01_1.resultIdx? k idx = some j
      ↔ (idx (ix2 (⟨(k 0).val, (k 0).isLt⟩ : Fin 8192) 0)).toInt = ((j 0).val : ℤ) ∧ (idx (ix2 (⟨(k 0).val, (k 0).isLt⟩ : Fin 8192) 1)).toInt = ((j 1).val : ℤ) := by
  have s0 : scatter_S8x2048_S8192x2_S8192_n_01_01_1.start k idx 0 = (idx (ix2 (⟨(k 0).val, (k 0).isLt⟩ : Fin 8192) 0)).toInt := by
    unfold ScatterDims.start
    rw [dif_pos (by decide)]
    refine congrArg (fun j => (idx j).toInt) (funext fun b => ?_)
    match b with
    | ⟨0, _⟩ => rfl
    | ⟨1, _⟩ => rfl
  have s1 : scatter_S8x2048_S8192x2_S8192_n_01_01_1.start k idx 1 = (idx (ix2 (⟨(k 0).val, (k 0).isLt⟩ : Fin 8192) 1)).toInt := by
    unfold ScatterDims.start
    rw [dif_pos (by decide)]
    refine congrArg (fun j => (idx j).toInt) (funext fun b => ?_)
    match b with
    | ⟨0, _⟩ => rfl
    | ⟨1, _⟩ => rfl
  have w : ∀ a, scatter_S8x2048_S8192x2_S8192_n_01_01_1.window k a = 0 := fun a => by
    unfold ScatterDims.window
    rw [dif_neg (by revert a; decide)]
  rw [resultIdx?_eq_some]
  constructor
  · intro h
    have h0 := h 0
    have h1 := h 1
    rw [s0, w] at h0
    rw [s1, w] at h1
    omega
  · intro h a
    match a with
    | ⟨0, _⟩ => exact (congrArg₂ (fun x (y : ℕ) => x + (y : ℤ)) s0 (w 0)).trans (by show _ = ((j 0).val : ℤ); dsimp only; omega)
    | ⟨1, _⟩ => exact (congrArg₂ (fun x (y : ℕ) => x + (y : ℤ)) s1 (w 1)).trans (by show _ = ((j 1).val : ℤ); dsimp only; omega)

/-- The row `r` goes to place `s` of document `d` exactly when it is the `s`-th row from the document's start, before its end. -/
theorem place_iff (hw : Tab (tb cu)) (r : Fin 8192) (d s : ℕ) (hd : d < 8) (hs : s < 2048) :
    ((placeA cu (ix2 r 0)).toInt = (d : ℤ) ∧ (placeA cu (ix2 r 1)).toInt = (s : ℤ)) ↔ (r.val = (tb cu d).toNat + s ∧ r.val < (tb cu (d + 1)).toNat) := by
  have toI : ∀ n : ℕ, n < 8192 → (BitVec.ofNat 32 n).toInt = (n : ℤ) := fun n hn => by
    rw [BitVec.toInt_eq_toNat_cond, BitVec.toNat_ofNat, if_pos (by omega)]; omega
  have hr := r.isLt
  constructor
  · intro h
    obtain ⟨i, hi, h0, h1⟩ := Cert.KernelIdeal.Hand.doc_of hw r.val r.isLt
    have p := place_apply cu hw r.val i r.isLt hi h0 h1
    rw [show ((⟨r.val, r.isLt⟩ : Fin 8192)) = r from rfl] at p
    rw [p.1, p.2, toI i (by omega), toI _ (by omega)] at h
    have e : i = d := by omega
    subst e
    omega
  · intro h
    have p := place_apply cu hw r.val d r.isLt hd (by omega) h.2
    rw [show ((⟨r.val, r.isLt⟩ : Fin 8192)) = r from rfl] at p
    rw [p.1, p.2, toI d (by omega), toI _ (by omega)]
    omega

/-! ## The two results -/

theorem tok_hit {α : Type} (x0 : S8x2048x1024.Idx → α) (P : S8192x1024.Idx → α) (hw : Tab (tb cu)) (d : Fin 8) (s : Fin 2048) (h : Fin 1024)
    (hs : (tb cu d.val).toNat + s.val < (tb cu (d.val + 1)).toNat) (hr : (tb cu d.val).toNat + s.val < 8192) :
    Host.scatter scatter_S8x2048x1024_S8192x2_S8192x1024_1_01_01_1 (fun _ b => b) x0 (placeA cu) P (ix3 d s h)
      = P (ix2 ⟨(tb cu d.val).toNat + s.val, hr⟩ h) := by
  refine scatter_set_hit _ x0 _ P _ _ (fun k hk => ?_) (ix2 ⟨(tb cu d.val).toNat + s.val, hr⟩ h) ?_
  · rw [tok_lands] at hk
    have p := (place_iff cu hw ⟨(k 0).val, (k 0).isLt⟩ d.val s.val d.isLt s.isLt).1 ⟨hk.1, hk.2.1⟩
    refine congrArg P (funext fun a => ?_)
    match a with
    | ⟨0, _⟩ => exact Fin.ext p.1
    | ⟨1, _⟩ => exact Fin.ext hk.2.2
  · rw [tok_lands]
    have p := (place_iff cu hw ⟨(tb cu d.val).toNat + s.val, hr⟩ d.val s.val d.isLt s.isLt).2 ⟨rfl, hs⟩
    exact ⟨p.1, p.2, rfl⟩

theorem tok_miss {α : Type} (x0 : S8x2048x1024.Idx → α) (P : S8192x1024.Idx → α) (hw : Tab (tb cu)) (d : Fin 8) (s : Fin 2048) (h : Fin 1024)
    (hs : ¬ (tb cu d.val).toNat + s.val < (tb cu (d.val + 1)).toNat) :
    Host.scatter scatter_S8x2048x1024_S8192x2_S8192x1024_1_01_01_1 (fun _ b => b) x0 (placeA cu) P (ix3 d s h) = x0 (ix3 d s h) := by
  refine scatter_set_miss _ x0 _ P _ fun k hk => ?_
  rw [tok_lands] at hk
  have p := (place_iff cu hw ⟨(k 0).val, (k 0).isLt⟩ d.val s.val d.isLt s.isLt).1 ⟨hk.1, hk.2.1⟩
  omega

theorem msk_hit {α : Type} (x0 : S8x2048.Idx → α) (v : α) (hw : Tab (tb cu)) (d : Fin 8) (s : Fin 2048)
    (hs : (tb cu d.val).toNat + s.val < (tb cu (d.val + 1)).toNat) (hr : (tb cu d.val).toNat + s.val < 8192) :
    Host.scatter scatter_S8x2048_S8192x2_S8192_n_01_01_1 (fun _ b => b) x0 (placeA cu) (fun _ => v) (ix2 d s) = v := by
  refine scatter_set_hit _ x0 _ _ _ _ (fun k _ => rfl) (ix1 ⟨(tb cu d.val).toNat + s.val, hr⟩) ?_
  rw [msk_lands]
  exact (place_iff cu hw ⟨(tb cu d.val).toNat + s.val, hr⟩ d.val s.val d.isLt s.isLt).2 ⟨rfl, hs⟩

theorem msk_miss {α : Type} (x0 : S8x2048.Idx → α) (v : α) (hw : Tab (tb cu)) (d : Fin 8) (s : Fin 2048)
    (hs : ¬ (tb cu d.val).toNat + s.val < (tb cu (d.val + 1)).toNat) :
    Host.scatter scatter_S8x2048_S8192x2_S8192_n_01_01_1 (fun _ b => b) x0 (placeA cu) (fun _ => v) (ix2 d s) = x0 (ix2 d s) := by
  refine scatter_set_miss _ x0 _ _ _ fun k hk => ?_
  rw [msk_lands] at hk
  have p := (place_iff cu hw ⟨(k 0).val, (k 0).isLt⟩ d.val s.val d.isLt s.isLt).1 hk
  omega

end Cert.ReferenceIdeal.Hand

end
-- ==== Proof.Same.lean ====
module

public import proofs.«01_k».proof.Proof.Blocks
public import proofs.«01_k».proof.Proof.Values
public import proofs.«01_k».proof.Proof.Ref
public import Idealize.ShloMosaic.Lib.StackMember

@[expose] public section

noncomputable section

open Idealize.ShloMosaic Idealize.ShloMosaic.TcCoe Idealize.SL.Sem
open Idealize.ShloMosaic.ValueIdx

/-! # Both programs leave the same two results -/

namespace Cert.KernelIdeal.Hand

open Cert.KernelIdeal Cert.KernelIdeal.Gen

variable (m : (ℓ : Loc nD τ sig) → Buf (Elt Ideal) ℓ) (ρ : Dev nD → PrngReg)

/-- The token array the kernel leaves. -/
def TV (c : Dev nD) : Vec Ideal S8x2048x1024 .f32 := tokV (wof (cuV m c)) (XV m c) (WvV m c) (fun h => bvV m c (ix2 (0 : Fin 1) h))

theorem kernel_values (hw : ∀ c, Tab (wof (cuV m c))) :
    θ_run defs (onTc (τ := τ) (main (F := Ideal))) ⟨m, fun _ => 0, ρ⟩ (fun r => ∀ c : Dev nD,
      r.2.mem ((c.tc : Thread nD τ).loc main_v1_0) = TV m c
      ∧ r.2.mem ((c.tc : Thread nD τ).loc main_v5) = mskV (wof (cuV m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v1_0 (Pipeline.mem_restRefs_of main_v1_0 (by decide) (by decide))).trans ((tail_keeps _ main_v1_0 (by decide)).trans (read_tok m (TV m) c)),
      ((h c).2 main_v5 (Pipeline.mem_restRefs_of main_v5 (by decide) (by decide))).trans
        ((tail_mask _ (maskV (cuV m c)) ((read_arr m (TV m) c 2).trans (arr_mask m (TV m) c))).trans (mskV_of (cuV m c) (hw c))),
      ((h c).2 main_arg0 (Pipeline.mem_restRefs_of main_arg0 (by decide) (by decide))).trans
        ((tail_keeps _ main_arg0 (by decide)).trans ((read_rest m (TV m) c main_arg0 (by decide) (by decide)).trans (V_main_arg0 m c))),
      ((h c).1 0).trans (((datsOf m (PhV m (TV m)) 0 c).arrAt_in 0 rfl _).trans ((A_eq m c 0).trans (V_main_arg1 m c))),
      ((h c).2 main_arg2 (Pipeline.mem_restRefs_of main_arg2 (by decide) (by decide))).trans
        ((tail_keeps _ main_arg2 (by decide)).trans ((read_rest m (TV m) c main_arg2 (by decide) (by decide)).trans (V_main_arg2 m c))),
      ((h c).2 main_arg3 (Pipeline.mem_restRefs_of main_arg3 (by decide) (by decide))).trans
        ((tail_keeps _ main_arg3 (by decide)).trans ((read_rest m (TV m) c main_arg3 (by decide) (by decide)).trans (V_main_arg3 m c)))⟩)
    (run_values m ρ (TV m) (OK := fun c k g => g = blk (wof (cuV m c)) (XV m c) (WvV m c) (fun h => bvV m c (ix2 (0 : Fin 1) h)) k) hw
      (fun c => good_blk _ (hw c) _ _ _) (fun c f hf => tokV_of _ _ _ _ f hf))

theorem TV_eq (c : Dev nD) (X : Vec Ideal S8192x1024 .f32) (cu : Vec Ideal S9 .i32) (Wv : Vec Ideal S1024x1024 .f32) (b : Vec Ideal S1024 .f32)
    (h0 : m ((c.tc : Thread nD τ).loc main_arg0) = X) (h1 : m ((c.tc : Thread nD τ).loc main_arg1) = cu)
    (h2 : m ((c.tc : Thread nD τ).loc main_arg2) = Wv) (h3 : m ((c.tc : Thread nD τ).loc main_arg3) = b) :
    TV m c = tokV (wof cu) X Wv (fun h => b (ix1 h)) := by
  subst h0 h1 h2 h3
  unfold TV
  rw [bvV_eq, show cuV m c = _ from V_main_arg1 m c, show XV m c = _ from V_main_arg0 m c, show WvV m c = _ from V_main_arg2 m c]
  refine congrArg (tokV _ _ _) (funext fun h => ?_)
  exact shapeCast_a_1a_apply _ _ _ _

end Cert.KernelIdeal.Hand

namespace Cert.ReferenceIdeal.Hand

open Cert.ReferenceIdeal Cert.ReferenceIdeal.Gen
open Cert.KernelIdeal.Hand (wof Tab tokV mskV rowV ix1_ext)

variable (m : (ℓ : Loc nD τ sig) → Buf (Elt Ideal) ℓ)

/-- The rows of the projection. -/
def projA (X : FVec Ideal S8192x1024 .f32) (Wv : FVec Ideal S1024x1024 .f32) (b : FVec Ideal S1024 .f32) : FVec Ideal S8192x1024 .f32 :=
  addf (F := Ideal) (φ := .f32) (Host.dotGeneral (F := Ideal) dot_S8192x1024_S1024x1024_S8192x1024_1_0_0_1_n_n none X Wv)
    (broadcastInDim S8192x1024 ![0, 1] bcast_S1x1024_S8192x1024_0_1 (broadcastInDim S1x1024 ![1] bcast_S1024_S1x1024_1 b))

theorem projA_apply (X : FVec Ideal S8192x1024 .f32) (Wv : FVec Ideal S1024x1024 .f32) (b : FVec Ideal S1024 .f32) (r : Fin 8192) (h : Fin 1024) :
    projA X Wv b (ix2 r h) = rowV X Wv (fun h => b (ix1 h)) r h := by
  unfold projA rowV
  have e := StackMember.dotGeneral_plain_apply (m := 8192) (k := 1024) (n := 1024) none X Wv r h
  refine congrArg₂ (· + ·) e ?_
  unfold broadcastInDim
  exact congrArg b (ix1_ext _ _ rfl)

theorem v37_eq (c : Dev nD) : Cert.ReferenceIdeal.Value.res_main_v37 (F := Ideal) m c
    = Host.scatter scatter_S8x2048x1024_S8192x2_S8192x1024_1_01_01_1 (fun _ b => b)
        (broadcastInDim S8x2048x1024 ![] bcast_S_S8x2048x1024 (constant (F := Ideal) S_ .f32 0x00000000#32))
        (placeA (m ((c.tc : Thread nD τ).loc main_arg1)))
        (projA (m ((c.tc : Thread nD τ).loc main_arg0)) (m ((c.tc : Thread nD τ).loc main_arg2)) (m ((c.tc : Thread nD τ).loc main_arg3))) := rfl

theorem v53_eq (c : Dev nD) : Cert.ReferenceIdeal.Value.res_main_v53 (F := Ideal) m c
    = Host.scatter scatter_S8x2048_S8192x2_S8192_n_01_01_1 (fun _ b => b)
        (broadcastInDim S8x2048 ![] bcast_S_S8x2048 (constantI S_ 1 0#1))
        (placeA (m ((c.tc : Thread nD τ).loc main_arg1))) (fun _ => 1#1) := rfl

theorem ref_tok (c : Dev nD) (X : FVec Ideal S8192x1024 .f32) (cu : IVec S9 32) (Wv : FVec Ideal S1024x1024 .f32) (b : FVec Ideal S1024 .f32)
    (h0 : m ((c.tc : Thread nD τ).loc main_arg0) = X) (h1 : m ((c.tc : Thread nD τ).loc main_arg1) = cu)
    (h2 : m ((c.tc : Thread nD τ).loc main_arg2) = Wv) (h3 : m ((c.tc : Thread nD τ).loc main_arg3) = b) (hw : Tab (tb cu)) :
    Cert.ReferenceIdeal.Value.res_main_v37 (F := Ideal) m c = tokV (tb cu) X Wv (fun h => b (ix1 h)) := by
  rw [v37_eq, h0, h1, h2, h3]
  funext j
  have j0 : (j 0).val < 8 := (j 0).isLt
  have j1 : (j 1).val < 2048 := (j 1).isLt
  obtain ⟨d, s, h, rfl⟩ : ∃ (d : Fin 8) (s : Fin 2048) (h : Fin 1024), j = ix3 d s h :=
    ⟨⟨(j 0).val, j0⟩, ⟨(j 1).val, j1⟩, ⟨(j 2).val, (j 2).isLt⟩, by funext a; fin_cases a <;> rfl⟩
  have ew : tokV (tb cu) X Wv (fun h => b (ix1 h)) (ix3 d s h)
      = if (tb cu d.val).toNat + s.val < (tb cu (d.val + 1)).toNat then
          rowV X Wv (fun h => b (ix1 h)) (⟨min ((tb cu d.val).toNat + s.val) 8191, by omega⟩ : Fin 8192) h
        else (Scalar.ofBits (F := Ideal) .f32 0x00000000#32) := rfl
  rw [ew]
  by_cases hc : (tb cu d.val).toNat + s.val < (tb cu (d.val + 1)).toNat
  · have hr : (tb cu d.val).toNat + s.val < 8192 := by
      have := hw.le (d.val + 1) (by omega)
      omega
    rw [if_pos hc, tok_hit cu _ _ hw d s h hc hr, projA_apply]
    refine congrArg (fun r => rowV X Wv _ r h) (Fin.ext ?_)
    show (tb cu d.val).toNat + s.val = min ((tb cu d.val).toNat + s.val) 8191
    omega
  · rw [if_neg hc, tok_miss cu _ _ hw d s h hc]
    rfl

theorem ref_msk (c : Dev nD) (cu : IVec S9 32) (h1 : m ((c.tc : Thread nD τ).loc main_arg1) = cu) (hw : Tab (tb cu)) :
    Cert.ReferenceIdeal.Value.res_main_v53 (F := Ideal) m c = mskV (tb cu) := by
  rw [v53_eq, h1]
  funext j
  have j0 : (j 0).val < 8 := (j 0).isLt
  have j1 : (j 1).val < 2048 := (j 1).isLt
  obtain ⟨d, s, rfl⟩ : ∃ (d : Fin 8) (s : Fin 2048), j = ix2 d s :=
    ⟨⟨(j 0).val, j0⟩, ⟨(j 1).val, j1⟩, by funext a; fin_cases a <;> rfl⟩
  have ew : mskV (tb cu) (ix2 d s) = if (tb cu d.val).toNat + s.val < (tb cu (d.val + 1)).toNat then 1#1 else 0#1 := rfl
  rw [ew]
  by_cases hc : (tb cu d.val).toNat + s.val < (tb cu (d.val + 1)).toNat
  · have hr : (tb cu d.val).toNat + s.val < 8192 := by
      have := hw.le (d.val + 1) (by omega)
      omega
    rw [if_pos hc, msk_hit cu _ _ hw d s hc hr]
  · rw [if_neg hc, msk_miss cu _ _ hw d s hc]
    rfl

end Cert.ReferenceIdeal.Hand

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_documents_in_tiles
public import proofs.«01_k».proof.Proof.Pre
public import proofs.«01_k».proof.Proof.Same
public import Idealize.ShloMosaic.Adequacy
public import Idealize.ShloMosaic.Init
public import Idealize.ShloMosaic.Lib.Tactic

@[expose] public section

noncomputable section

namespace Cert.Proof

open Idealize.ShloMosaic Idealize.SL.Sem
open Idealize.ShloMosaic.Tactic

variable {F : FTy → Type} [FloatOps F]

set_option maxRecDepth 100000 in
set_option maxHeartbeats 400000000 in
theorem main_same : @Cert.Kernel.main F _ = @Cert.KernelIdeal.main F _ := by sl_kernel_rfl

set_option maxRecDepth 100000 in
set_option maxHeartbeats 400000000 in
theorem defs_same : @Cert.Kernel.defs F _ Cert.Kernel.Gen.facts = @Cert.KernelIdeal.defs F _ Cert.KernelIdeal.Gen.facts := by sl_kernel_rfl

theorem frame_ideal : Cert.quiescent_KernelIdeal := fun m ρ hp =>
  Cert.KernelIdeal.Hand.frame_run m ρ fun c => by
    have := Cert.KernelIdeal.Hand.tab_of_pre _ _ _ _ (hp c)
    rw [show Cert.KernelIdeal.Hand.cuV m c = _ from Cert.KernelIdeal.Gen.V_main_arg1 m c]
    exact this

theorem frame_ref : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

theorem frame_kernel : Cert.quiescent_Kernel := fun m ρ hp => by
  have key := Cert.KernelIdeal.Hand.frame_run (F := Bits) m ρ fun c => by
    have := Cert.KernelIdeal.Hand.tab_of_pre _ _ _ _ (hp c)
    rw [show Cert.KernelIdeal.Hand.cuV (F := Bits) m c = _ from Cert.KernelIdeal.Gen.V_main_arg1 m c]
    exact this
  rw [← main_same, ← defs_same] at key
  exact key

theorem same_values : Cert.algebraic_KernelIdeal_ReferenceIdeal := fun m ρ m' ρ' hp ha => by
  have hw : ∀ c, Cert.KernelIdeal.Hand.Tab (Cert.KernelIdeal.Hand.wof (Cert.KernelIdeal.Hand.cuV m c)) := fun c => by
    have := Cert.KernelIdeal.Hand.tab_of_pre _ _ _ _ (hp c)
    rw [show Cert.KernelIdeal.Hand.cuV m c = _ from Cert.KernelIdeal.Gen.V_main_arg1 m c]
    exact this
  refine ⟨fun c => Cert.KernelIdeal.Hand.TV m c, fun c => Cert.KernelIdeal.Hand.mskV (Cert.KernelIdeal.Hand.wof (Cert.KernelIdeal.Hand.cuV m c)),
    Cert.KernelIdeal.Hand.kernel_values m ρ hw, ?_⟩
  refine (θ_run Cert.ReferenceIdeal.defs _ _).mono (fun r h c => ⟨(h c).1.trans ?_, (h c).2.1.trans ?_, (h c).2.2⟩)
    (Cert.ReferenceIdeal.Value.run (F := Ideal) m' ρ')
  · have ht := Cert.KernelIdeal.Hand.tab_of_pre _ _ _ _ (hp c)
    exact (Cert.ReferenceIdeal.Hand.ref_tok m' c _ _ _ _ (ha c).1 (ha c).2.1 (ha c).2.2.1 (ha c).2.2.2 ht).trans
      (Cert.KernelIdeal.Hand.TV_eq m c _ _ _ _ rfl rfl rfl rfl).symm
  · have ht := Cert.KernelIdeal.Hand.tab_of_pre _ _ _ _ (hp c)
    refine (Cert.ReferenceIdeal.Hand.ref_msk m' c _ (ha c).2.1 ht).trans ?_
    exact congrArg (fun cu => Cert.KernelIdeal.Hand.mskV (Cert.KernelIdeal.Hand.wof (F := Ideal) cu)) (Cert.KernelIdeal.Gen.V_main_arg1 m c).symm

theorem claim : Cert.Claim := ⟨Cert.Kernel.Gen.facts, Cert.KernelIdeal.Gen.facts, Cert.ReferenceIdeal.Gen.facts, Cert.Pre_documents_in_tiles.Gen.facts,
  frame_kernel, frame_ideal, frame_ref, trivial, same_values⟩

end Cert.Proof

end
